-- ==== Defs.lean ====
def Pre_Kernel [hPre_some_expert : Cert.Pre_some_expert.Facts] (m : (ℓ : Loc Cert.Kernel.nD Cert.Kernel.τ Cert.Kernel.sig) → Buf (Elt Bits) ℓ) : Prop :=
  ∀ c : Dev Cert.Kernel.nD,
    (Cert.Pre_some_expert.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_some_expert : Cert.Pre_some_expert.Facts] (m : (ℓ : Loc Cert.KernelIdeal.nD Cert.KernelIdeal.τ Cert.KernelIdeal.sig) → Buf (Elt Ideal) ℓ) : Prop :=
  ∀ c : Dev Cert.KernelIdeal.nD,
    (Cert.Pre_some_expert.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_top_k_of_experts [hPre_top_k_of_experts : Cert.Pre_top_k_of_experts.Facts] (m : (ℓ : Loc Cert.KernelIdeal.nD Cert.KernelIdeal.τ Cert.KernelIdeal.sig) → Buf (Elt Ideal) ℓ) : Prop :=
  ∀ c : Dev Cert.KernelIdeal.nD,
    (Cert.Pre_top_k_of_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_k_of_experts [hPre_top_k_of_experts : Cert.Pre_top_k_of_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_k_of_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_some_expert : Cert.Pre_some_expert.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_some_expert : Cert.Pre_some_expert.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_top_k_of_experts [hKernelIdeal : Cert.KernelIdeal.Facts] [hPre_top_k_of_experts : Cert.Pre_top_k_of_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_k_of_experts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_top_k_of_experts [hReferenceIdeal : Cert.ReferenceIdeal.Facts] [hPre_top_k_of_experts : Cert.Pre_top_k_of_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_k_of_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_top_k_of_experts [hKernelIdeal : Cert.KernelIdeal.Facts] [hReferenceIdeal : Cert.ReferenceIdeal.Facts] [hPre_top_k_of_experts : Cert.Pre_top_k_of_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_k_of_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_some_expert : Cert.Pre_some_expert.Facts) (hPre_top_k_of_experts : Cert.Pre_top_k_of_experts.Facts),
    quiescent_Kernel (hKernel := hKernel) (hPre_some_expert := hPre_some_expert)
    ∧ quiescent_KernelIdeal (hKernelIdeal := hKernelIdeal) (hPre_some_expert := hPre_some_expert)
    ∧ quiescent_KernelIdeal_pre_top_k_of_experts (hKernelIdeal := hKernelIdeal) (hPre_top_k_of_experts := hPre_top_k_of_experts)
    ∧ quiescent_ReferenceIdeal (hReferenceIdeal := hReferenceIdeal)
    ∧ quiescent_ReferenceIdeal_pre_top_k_of_experts (hReferenceIdeal := hReferenceIdeal) (hPre_top_k_of_experts := hPre_top_k_of_experts)
    ∧ preserves_Kernel_KernelIdeal
    ∧ algebraic_KernelIdeal_ReferenceIdeal_pre_top_k_of_experts (hKernelIdeal := hKernelIdeal) (hReferenceIdeal := hReferenceIdeal) (hPre_top_k_of_experts := hPre_top_k_of_experts)
-- ==== Pre_some_expert.lean ====
abbrev S128x1x2816 : Shape := ⟨3, ![128, 1, 2816]⟩
abbrev S128x1x2 : Shape := ⟨3, ![128, 1, 2]⟩
abbrev S8x7168x2816 : Shape := ⟨3, ![8, 7168, 2816]⟩
abbrev S8x7168 : Shape := ⟨2, ![8, 7168]⟩
abbrev S8x2816x3584 : Shape := ⟨3, ![8, 2816, 3584]⟩
abbrev S8x2816 : Shape := ⟨2, ![8, 2816]⟩
abbrev S_ : Shape := ⟨0, ![]⟩

class Facts : Prop where
  bcast_S_S128x1x2 : S_.BroadcastsInDim S128x1x2 (![] : Fin 0 → Fin S128x1x2.rank)
  reducesTo_S128x1x2_S_d0_1_2 : S128x1x2.ReducesTo [0, 1, 2] S_
  h_S_ : 0 < S_.numel

variable [Facts]

def fn {F : FTy → Type} [FloatOps F] (main_arg0 : FVec F S128x1x2816 .bf16) (main_arg1 : IVec S128x1x2 32) (main_arg2 : FVec F S128x1x2 .f32) (main_arg3 : FVec F S8x7168x2816 .fp8e4m3) (main_arg4 : FVec F S8x7168 .f32) (main_arg5 : FVec F S8x2816x3584 .fp8e4m3) (main_arg6 : FVec F S8x2816 .f32) : IVec S_ 1 :=
  let main_c : IVec S_ 32 := constantI S_ 32 0#32
  let main_v0 : IVec S128x1x2 32 := broadcastInDim S128x1x2 ![] bcast_S_S128x1x2 main_c
  let main_v1 : IVec S128x1x2 1 := cmpi .sge main_arg1 main_v0
  let main_c_0 : IVec S_ 32 := constantI S_ 32 8#32
  let main_v2 : IVec S128x1x2 32 := broadcastInDim S128x1x2 ![] bcast_S_S128x1x2 main_c_0
  let main_v3 : IVec S128x1x2 1 := cmpi .slt main_arg1 main_v2
  let main_v4 : IVec S128x1x2 1 := andi main_v1 main_v3
  let main_c_1 : IVec S_ 1 := constantI S_ 1 0#1
  let main_v5 : IVec S_ 1 := (fun x v => Host.reduce IntOp.ori x v reducesTo_S128x1x2_S_d0_1_2 h_S_) main_v4 main_c_1
  main_v5
-- ==== Pre_top_k_of_experts.lean ====
abbrev S128x1x2816 : Shape := ⟨3, ![128, 1, 2816]⟩
abbrev S128x1x2 : Shape := ⟨3, ![128, 1, 2]⟩
abbrev S8x7168x2816 : Shape := ⟨3, ![8, 7168, 2816]⟩
abbrev S8x7168 : Shape := ⟨2, ![8, 7168]⟩
abbrev S8x2816x3584 : Shape := ⟨3, ![8, 2816, 3584]⟩
abbrev S8x2816 : Shape := ⟨2, ![8, 2816]⟩
abbrev S_ : Shape := ⟨0, ![]⟩
abbrev S128x1x1 : Shape := ⟨3, ![128, 1, 1]⟩
abbrev S128x1 : Shape := ⟨2, ![128, 1]⟩

class Facts : Prop where
  bcast_S_S128x1x2 : S_.BroadcastsInDim S128x1x2 (![] : Fin 0 → Fin S128x1x2.rank)
  reducesTo_S128x1x2_S_d0_1_2 : S128x1x2.ReducesTo [0, 1, 2] S_
  h_S_ : 0 < S_.numel
  slices_S128x1x2_S128x1x1_0_0_0 : S128x1x2.Slices ![0, 0, 0] S128x1x1
  shapeCasts_S128x1x1_S128x1 : S128x1x1.ShapeCasts S128x1
  slices_S128x1x2_S128x1x1_0_0_1 : S128x1x2.Slices ![0, 0, 1] S128x1x1
  bcast_S_S128x1 : S_.BroadcastsInDim S128x1 (![] : Fin 0 → Fin S128x1.rank)

variable [Facts]

def fn {F : FTy → Type} [FloatOps F] (main_arg0 : FVec F S128x1x2816 .bf16) (main_arg1 : IVec S128x1x2 32) (main_arg2 : FVec F S128x1x2 .f32) (main_arg3 : FVec F S8x7168x2816 .fp8e4m3) (main_arg4 : FVec F S8x7168 .f32) (main_arg5 : FVec F S8x2816x3584 .fp8e4m3) (main_arg6 : FVec F S8x2816 .f32) : IVec S128x1 1 :=
  let main_c : IVec S_ 32 := constantI S_ 32 0#32
  let main_v0 : IVec S128x1x2 32 := broadcastInDim S128x1x2 ![] bcast_S_S128x1x2 main_c
  let main_v1 : IVec S128x1x2 1 := cmpi .sge main_arg1 main_v0
  let main_c_0 : IVec S_ 32 := constantI S_ 32 8#32
  let main_v2 : IVec S128x1x2 32 := broadcastInDim S128x1x2 ![] bcast_S_S128x1x2 main_c_0
  let main_v3 : IVec S128x1x2 1 := cmpi .slt main_arg1 main_v2
  let main_v4 : IVec S128x1x2 1 := andi main_v1 main_v3
  let main_c_1 : IVec S_ 1 := constantI S_ 1 0#1
  let main_v5 : IVec S_ 1 := (fun x v => Host.reduce IntOp.ori x v reducesTo_S128x1x2_S_d0_1_2 h_S_) main_v4 main_c_1
  let main_v6 : IVec S128x1x1 32 := (extractStridedSlice S128x1x1 ![0, 0, 0] · slices_S128x1x2_S128x1x1_0_0_0) main_arg1
  let main_v7 : IVec S128x1 32 := shapeCast S128x1 main_v6 shapeCasts_S128x1x1_S128x1
  let main_v8 : IVec S128x1x1 32 := (extractStridedSlice S128x1x1 ![0, 0, 1] · slices_S128x1x2_S128x1x1_0_0_1) main_arg1
  let main_v9 : IVec S128x1 32 := shapeCast S128x1 main_v8 shapeCasts_S128x1x1_S128x1
  let main_v10 : IVec S128x1 1 := cmpi .ne main_v7 main_v9
  let main_v11 : IVec S128x1 1 := broadcastInDim S128x1 ![] bcast_S_S128x1 main_v5
  let main_v12 : IVec S128x1 1 := andi main_v11 main_v10
  main_v12
-- ==== Kernel.lean ====
abbrev S128x1x2816 : Shape := ⟨3, ![128, 1, 2816]⟩
abbrev S128x1x2 : Shape := ⟨3, ![128, 1, 2]⟩
abbrev S8x7168x2816 : Shape := ⟨3, ![8, 7168, 2816]⟩
abbrev S8x7168 : Shape := ⟨2, ![8, 7168]⟩
abbrev S8x2816x3584 : Shape := ⟨3, ![8, 2816, 3584]⟩
abbrev S8x2816 : Shape := ⟨2, ![8, 2816]⟩
abbrev S128x2 : Shape := ⟨2, ![128, 2]⟩
abbrev S128x2816 : Shape := ⟨2, ![128, 2816]⟩
abbrev S7x2x512x2816 : Shape := ⟨4, ![7, 2, 512, 2816]⟩
abbrev S11x256x3584 : Shape := ⟨3, ![11, 256, 3584]⟩
abbrev S128x3584 : Shape := ⟨2, ![128, 3584]⟩
abbrev S2x128x128 : Shape := ⟨3, ![2, 128, 128]⟩
abbrev S8 : Shape := ⟨1, ![8]⟩
abbrev S7x2 : Shape := ⟨2, ![7, 2]⟩
abbrev S11 : Shape := ⟨1, ![11]⟩
abbrev S128x128 : Shape := ⟨2, ![128, 128]⟩
abbrev S128x1 : Shape := ⟨2, ![128, 1]⟩
abbrev S1x128x128 : Shape := ⟨3, ![1, 128, 128]⟩
abbrev S128 : Shape := ⟨1, ![128]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S1x1 : Shape := ⟨2, ![1, 1]⟩
abbrev S_ : Shape := ⟨0, ![]⟩
abbrev S1x1x512x2816 : Shape := ⟨4, ![1, 1, 512, 2816]⟩
abbrev S512x2816 : Shape := ⟨2, ![512, 2816]⟩
abbrev S1x512x2816 : Shape := ⟨3, ![1, 512, 2816]⟩
abbrev S1x256x3584 : Shape := ⟨3, ![1, 256, 3584]⟩
abbrev S256x3584 : Shape := ⟨2, ![256, 3584]⟩
abbrev S1x512 : Shape := ⟨2, ![1, 512]⟩
abbrev S128x512 : Shape := ⟨2, ![128, 512]⟩
abbrev S128x256 : Shape := ⟨2, ![128, 256]⟩
abbrev S1x256 : Shape := ⟨2, ![1, 256]⟩

abbrev nBuf : Space → Nat
  | .hbm => 12
  | .vmem => 11
  | .smem => 1
  | _ => 0

abbrev bufTy : (tb : Table) → Fin (tcTables nBuf tb) → BufTy
  | .hbm, ⟨0, _⟩ => ⟨S128x1x2816, .bf16⟩
  | .hbm, ⟨1, _⟩ => ⟨S128x1x2, .i32⟩
  | .hbm, ⟨2, _⟩ => ⟨S128x1x2, .f32⟩
  | .hbm, ⟨3, _⟩ => ⟨S8x7168x2816, .fp8e4m3⟩
  | .hbm, ⟨4, _⟩ => ⟨S8x7168, .f32⟩
  | .hbm, ⟨5, _⟩ => ⟨S8x2816x3584, .fp8e4m3⟩
  | .hbm, ⟨6, _⟩ => ⟨S8x2816, .f32⟩
  | .hbm, ⟨7, _⟩ => ⟨S128x2, .i32⟩
  | .hbm, ⟨8, _⟩ => ⟨S128x2, .f32⟩
  | .hbm, ⟨9, _⟩ => ⟨S128x2816, .bf16⟩
  | .hbm, ⟨10, _⟩ => ⟨S128x2816, .bf16⟩
  | .hbm, ⟨11, _⟩ => ⟨S128x1x2816, .bf16⟩
  | .local _ .vmem, ⟨0, _⟩ => ⟨S128x2, .i32⟩
  | .local _ .vmem, ⟨1, _⟩ => ⟨S128x2, .f32⟩
  | .local _ .vmem, ⟨2, _⟩ => ⟨S128x2816, .bf16⟩
  | .local _ .vmem, ⟨3, _⟩ => ⟨S8x7168, .f32⟩
  | .local _ .vmem, ⟨4, _⟩ => ⟨S8x2816, .f32⟩
  | .local _ .vmem, ⟨5, _⟩ => ⟨S128x2816, .bf16⟩
  | .local _ .vmem, ⟨6, _⟩ => ⟨S7x2x512x2816, .fp8e4m3⟩
  | .local _ .vmem, ⟨7, _⟩ => ⟨S11x256x3584, .fp8e4m3⟩
  | .local _ .vmem, ⟨8, _⟩ => ⟨S128x3584, .bf16⟩
  | .local _ .vmem, ⟨9, _⟩ => ⟨S128x2816, .f32⟩
  | .local _ .vmem, ⟨10, _⟩ => ⟨S2x128x128, .f32⟩
  | .local _ .smem, ⟨0, _⟩ => ⟨S8, .i32⟩
  | _, _ => ⟨S128x1x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 (v50 : BitVec 32) : Fin 1 → Nat :=
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let v57 : Index := Scalar.indexCast v54
  ![v57.toNat]

def k0_off2 (v50 : BitVec 32) : Fin 1 → Nat :=
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let v62 : Index := Scalar.indexCast v59
  ![v62.toNat]
def k0_off3 (v50 : BitVec 32) : Fin 1 → Nat :=
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let v67 : Index := Scalar.indexCast v64
  ![v67.toNat]
def k0_off4 (v50 : BitVec 32) : Fin 1 → Nat :=
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let v72 : Index := Scalar.indexCast v69
  ![v72.toNat]
def k0_off5 (v50 : BitVec 32) : Fin 1 → Nat :=
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let v77 : Index := Scalar.indexCast v74
  ![v77.toNat]
def k0_off6 (v50 : BitVec 32) : Fin 1 → Nat :=
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let v82 : Index := Scalar.indexCast v79
  ![v82.toNat]
def k0_off7 (v50 : BitVec 32) : Fin 1 → Nat :=
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let v87 : Index := Scalar.indexCast v84
  ![v87.toNat]
def k0_off8 (v90 : BitVec 32) : Fin 3 → Nat :=
  let c0_i32_45 : BitVec 32 := 0#32
  let c0_i32_46 : BitVec 32 := 0#32
  ![v90.toNat, 0, 0]

def k0_off9 (v90 : BitVec 32) : Fin 3 → Nat :=
  let c3584_i32 : BitVec 32 := 3584#32
  let c0_i32_53 : BitVec 32 := 0#32
  ![v90.toNat, 3584, 0]
def k0_off10 (v90 : BitVec 32) : Fin 3 → Nat :=
  let c512_i32 : BitVec 32 := 512#32
  let c0_i32_60 : BitVec 32 := 0#32
  ![v90.toNat, 512, 0]
def k0_off11 (v90 : BitVec 32) : Fin 3 → Nat :=
  let c4096_i32 : BitVec 32 := 4096#32
  let c0_i32_67 : BitVec 32 := 0#32
  ![v90.toNat, 4096, 0]
def k0_off12 (v90 : BitVec 32) : Fin 3 → Nat :=
  let c1024_i32 : BitVec 32 := 1024#32
  let c0_i32_74 : BitVec 32 := 0#32
  ![v90.toNat, 1024, 0]
def k0_off13 (v90 : BitVec 32) : Fin 3 → Nat :=
  let c4608_i32 : BitVec 32 := 4608#32
  let c0_i32_81 : BitVec 32 := 0#32
  ![v90.toNat, 4608, 0]
def k0_off14 (v90 : BitVec 32) : Fin 3 → Nat :=
  let c1536_i32 : BitVec 32 := 1536#32
  let c0_i32_88 : BitVec 32 := 0#32
  ![v90.toNat, 1536, 0]
def k0_off15 (v90 : BitVec 32) : Fin 3 → Nat :=
  let c5120_i32 : BitVec 32 := 5120#32
  let c0_i32_95 : BitVec 32 := 0#32
  ![v90.toNat, 5120, 0]
def k0_off16 (v90 : BitVec 32) : Fin 3 → Nat :=
  let c2048_i32 : BitVec 32 := 2048#32
  let c0_i32_102 : BitVec 32 := 0#32
  ![v90.toNat, 2048, 0]
def k0_off17 (v90 : BitVec 32) : Fin 3 → Nat :=
  let c5632_i32 : BitVec 32 := 5632#32
  let c0_i32_109 : BitVec 32 := 0#32
  ![v90.toNat, 5632, 0]
def k0_off18 (v90 : BitVec 32) : Fin 3 → Nat :=
  let c2560_i32 : BitVec 32 := 2560#32
  let c0_i32_116 : BitVec 32 := 0#32
  ![v90.toNat, 2560, 0]
def k0_off19 (v90 : BitVec 32) : Fin 3 → Nat :=
  let c6144_i32 : BitVec 32 := 6144#32
  let c0_i32_123 : BitVec 32 := 0#32
  ![v90.toNat, 6144, 0]
def k0_off20 (v90 : BitVec 32) : Fin 3 → Nat :=
  let c3072_i32 : BitVec 32 := 3072#32
  let c0_i32_130 : BitVec 32 := 0#32
  ![v90.toNat, 3072, 0]
def k0_off21 (v90 : BitVec 32) : Fin 3 → Nat :=
  let c6656_i32 : BitVec 32 := 6656#32
  let c0_i32_137 : BitVec 32 := 0#32
  ![v90.toNat, 6656, 0]
def k0_off22 (v90 : BitVec 32) : Fin 3 → Nat :=
  let c0_i32_142 : BitVec 32 := 0#32
  let c0_i32_143 : BitVec 32 := 0#32
  ![v90.toNat, 0, 0]
def k0_off23 (v90 : BitVec 32) : Fin 3 → Nat :=
  let c256_i32 : BitVec 32 := 256#32
  let c0_i32_148 : BitVec 32 := 0#32
  ![v90.toNat, 256, 0]
def k0_off24 (v90 : BitVec 32) : Fin 3 → Nat :=
  let c512_i32_153 : BitVec 32 := 512#32
  let c0_i32_154 : BitVec 32 := 0#32
  ![v90.toNat, 512, 0]
def k0_off25 (v90 : BitVec 32) : Fin 3 → Nat :=
  let c768_i32 : BitVec 32 := 768#32
  let c0_i32_159 : BitVec 32 := 0#32
  ![v90.toNat, 768, 0]
def k0_off26 (v90 : BitVec 32) : Fin 3 → Nat :=
  let c1024_i32_164 : BitVec 32 := 1024#32
  let c0_i32_165 : BitVec 32 := 0#32
  ![v90.toNat, 1024, 0]
def k0_off27 (v90 : BitVec 32) : Fin 3 → Nat :=
  let c1280_i32 : BitVec 32 := 1280#32
  let c0_i32_170 : BitVec 32 := 0#32
  ![v90.toNat, 1280, 0]
def k0_off28 (v90 : BitVec 32) : Fin 3 → Nat :=
  let c1536_i32_175 : BitVec 32 := 1536#32
  let c0_i32_176 : BitVec 32 := 0#32
  ![v90.toNat, 1536, 0]
def k0_off29 (v90 : BitVec 32) : Fin 3 → Nat :=
  let c1792_i32 : BitVec 32 := 1792#32
  let c0_i32_181 : BitVec 32 := 0#32
  ![v90.toNat, 1792, 0]
def k0_off30 (v90 : BitVec 32) : Fin 3 → Nat :=
  let c2048_i32_186 : BitVec 32 := 2048#32
  let c0_i32_187 : BitVec 32 := 0#32
  ![v90.toNat, 2048, 0]
def k0_off31 (v90 : BitVec 32) : Fin 3 → Nat :=
  let c2304_i32 : BitVec 32 := 2304#32
  let c0_i32_191 : BitVec 32 := 0#32
  ![v90.toNat, 2304, 0]
def k0_off32 (v90 : BitVec 32) : Fin 3 → Nat :=
  let c2560_i32_195 : BitVec 32 := 2560#32
  let c0_i32_196 : BitVec 32 := 0#32
  ![v90.toNat, 2560, 0]

def k0_chk2_0 (v90 : BitVec 32) : Prop :=
  (∀ a, (k0_off8 v90) a + S1x512x2816.size a ≤ S8x7168x2816.size a) ∧
  (∀ (hinb : ∀ a, (k0_off8 v90) a + S1x512x2816.size a ≤ S8x7168x2816.size a), (Rect.unit (s := S8x7168x2816) (k0_off8 v90) S1x512x2816.size hinb).WholeWords (EltTy.packing .fp8e4m3)) ∧
  (∀ a, (k0_off9 v90) a + S1x512x2816.size a ≤ S8x7168x2816.size a) ∧
  (∀ (hinb : ∀ a, (k0_off9 v90) a + S1x512x2816.size a ≤ S8x7168x2816.size a), (Rect.unit (s := S8x7168x2816) (k0_off9 v90) S1x512x2816.size hinb).WholeWords (EltTy.packing .fp8e4m3)) ∧
  (∀ a, (k0_off10 v90) a + S1x512x2816.size a ≤ S8x7168x2816.size a) ∧
  (∀ (hinb : ∀ a, (k0_off10 v90) a + S1x512x2816.size a ≤ S8x7168x2816.size a), (Rect.unit (s := S8x7168x2816) (k0_off10 v90) S1x512x2816.size hinb).WholeWords (EltTy.packing .fp8e4m3)) ∧
  (∀ a, (k0_off11 v90) a + S1x512x2816.size a ≤ S8x7168x2816.size a) ∧
  (∀ (hinb : ∀ a, (k0_off11 v90) a + S1x512x2816.size a ≤ S8x7168x2816.size a), (Rect.unit (s := S8x7168x2816) (k0_off11 v90) S1x512x2816.size hinb).WholeWords (EltTy.packing .fp8e4m3)) ∧
  (∀ a, (k0_off12 v90) a + S1x512x2816.size a ≤ S8x7168x2816.size a) ∧
  (∀ (hinb : ∀ a, (k0_off12 v90) a + S1x512x2816.size a ≤ S8x7168x2816.size a), (Rect.unit (s := S8x7168x2816) (k0_off12 v90) S1x512x2816.size hinb).WholeWords (EltTy.packing .fp8e4m3)) ∧
  (∀ a, (k0_off13 v90) a + S1x512x2816.size a ≤ S8x7168x2816.size a) ∧
  (∀ (hinb : ∀ a, (k0_off13 v90) a + S1x512x2816.size a ≤ S8x7168x2816.size a), (Rect.unit (s := S8x7168x2816) (k0_off13 v90) S1x512x2816.size hinb).WholeWords (EltTy.packing .fp8e4m3)) ∧
  (∀ a, (k0_off14 v90) a + S1x512x2816.size a ≤ S8x7168x2816.size a) ∧
  (∀ (hinb : ∀ a, (k0_off14 v90) a + S1x512x2816.size a ≤ S8x7168x2816.size a), (Rect.unit (s := S8x7168x2816) (k0_off14 v90) S1x512x2816.size hinb).WholeWords (EltTy.packing .fp8e4m3)) ∧
  (∀ a, (k0_off15 v90) a + S1x512x2816.size a ≤ S8x7168x2816.size a) ∧
  (∀ (hinb : ∀ a, (k0_off15 v90) a + S1x512x2816.size a ≤ S8x7168x2816.size a), (Rect.unit (s := S8x7168x2816) (k0_off15 v90) S1x512x2816.size hinb).WholeWords (EltTy.packing .fp8e4m3)) ∧
  (∀ a, (k0_off16 v90) a + S1x512x2816.size a ≤ S8x7168x2816.size a) ∧
  (∀ (hinb : ∀ a, (k0_off16 v90) a + S1x512x2816.size a ≤ S8x7168x2816.size a), (Rect.unit (s := S8x7168x2816) (k0_off16 v90) S1x512x2816.size hinb).WholeWords (EltTy.packing .fp8e4m3)) ∧
  (∀ a, (k0_off17 v90) a + S1x512x2816.size a ≤ S8x7168x2816.size a) ∧
  (∀ (hinb : ∀ a, (k0_off17 v90) a + S1x512x2816.size a ≤ S8x7168x2816.size a), (Rect.unit (s := S8x7168x2816) (k0_off17 v90) S1x512x2816.size hinb).WholeWords (EltTy.packing .fp8e4m3)) ∧
  (∀ a, (k0_off18 v90) a + S1x512x2816.size a ≤ S8x7168x2816.size a) ∧
  (∀ (hinb : ∀ a, (k0_off18 v90) a + S1x512x2816.size a ≤ S8x7168x2816.size a), (Rect.unit (s := S8x7168x2816) (k0_off18 v90) S1x512x2816.size hinb).WholeWords (EltTy.packing .fp8e4m3)) ∧
  (∀ a, (k0_off19 v90) a + S1x512x2816.size a ≤ S8x7168x2816.size a) ∧
  (∀ (hinb : ∀ a, (k0_off19 v90) a + S1x512x2816.size a ≤ S8x7168x2816.size a), (Rect.unit (s := S8x7168x2816) (k0_off19 v90) S1x512x2816.size hinb).WholeWords (EltTy.packing .fp8e4m3)) ∧
  (∀ a, (k0_off20 v90) a + S1x512x2816.size a ≤ S8x7168x2816.size a) ∧
  (∀ (hinb : ∀ a, (k0_off20 v90) a + S1x512x2816.size a ≤ S8x7168x2816.size a), (Rect.unit (s := S8x7168x2816) (k0_off20 v90) S1x512x2816.size hinb).WholeWords (EltTy.packing .fp8e4m3)) ∧
  (∀ a, (k0_off21 v90) a + S1x512x2816.size a ≤ S8x7168x2816.size a) ∧
  (∀ (hinb : ∀ a, (k0_off21 v90) a + S1x512x2816.size a ≤ S8x7168x2816.size a), (Rect.unit (s := S8x7168x2816) (k0_off21 v90) S1x512x2816.size hinb).WholeWords (EltTy.packing .fp8e4m3)) ∧
  (∀ a, (k0_off22 v90) a + S1x256x3584.size a ≤ S8x2816x3584.size a) ∧
  (∀ (hinb : ∀ a, (k0_off22 v90) a + S1x256x3584.size a ≤ S8x2816x3584.size a), (Rect.unit (s := S8x2816x3584) (k0_off22 v90) S1x256x3584.size hinb).WholeWords (EltTy.packing .fp8e4m3)) ∧
  (∀ a, (k0_off23 v90) a + S1x256x3584.size a ≤ S8x2816x3584.size a) ∧
  (∀ (hinb : ∀ a, (k0_off23 v90) a + S1x256x3584.size a ≤ S8x2816x3584.size a), (Rect.unit (s := S8x2816x3584) (k0_off23 v90) S1x256x3584.size hinb).WholeWords (EltTy.packing .fp8e4m3))
def k0_chk2_1 (v90 : BitVec 32) : Prop :=
  (∀ a, (k0_off24 v90) a + S1x256x3584.size a ≤ S8x2816x3584.size a) ∧
  (∀ (hinb : ∀ a, (k0_off24 v90) a + S1x256x3584.size a ≤ S8x2816x3584.size a), (Rect.unit (s := S8x2816x3584) (k0_off24 v90) S1x256x3584.size hinb).WholeWords (EltTy.packing .fp8e4m3)) ∧
  (∀ a, (k0_off25 v90) a + S1x256x3584.size a ≤ S8x2816x3584.size a) ∧
  (∀ (hinb : ∀ a, (k0_off25 v90) a + S1x256x3584.size a ≤ S8x2816x3584.size a), (Rect.unit (s := S8x2816x3584) (k0_off25 v90) S1x256x3584.size hinb).WholeWords (EltTy.packing .fp8e4m3)) ∧
  (∀ a, (k0_off26 v90) a + S1x256x3584.size a ≤ S8x2816x3584.size a) ∧
  (∀ (hinb : ∀ a, (k0_off26 v90) a + S1x256x3584.size a ≤ S8x2816x3584.size a), (Rect.unit (s := S8x2816x3584) (k0_off26 v90) S1x256x3584.size hinb).WholeWords (EltTy.packing .fp8e4m3)) ∧
  (∀ a, (k0_off27 v90) a + S1x256x3584.size a ≤ S8x2816x3584.size a) ∧
  (∀ (hinb : ∀ a, (k0_off27 v90) a + S1x256x3584.size a ≤ S8x2816x3584.size a), (Rect.unit (s := S8x2816x3584) (k0_off27 v90) S1x256x3584.size hinb).WholeWords (EltTy.packing .fp8e4m3)) ∧
  (∀ a, (k0_off28 v90) a + S1x256x3584.size a ≤ S8x2816x3584.size a) ∧
  (∀ (hinb : ∀ a, (k0_off28 v90) a + S1x256x3584.size a ≤ S8x2816x3584.size a), (Rect.unit (s := S8x2816x3584) (k0_off28 v90) S1x256x3584.size hinb).WholeWords (EltTy.packing .fp8e4m3)) ∧
  (∀ a, (k0_off29 v90) a + S1x256x3584.size a ≤ S8x2816x3584.size a) ∧
  (∀ (hinb : ∀ a, (k0_off29 v90) a + S1x256x3584.size a ≤ S8x2816x3584.size a), (Rect.unit (s := S8x2816x3584) (k0_off29 v90) S1x256x3584.size hinb).WholeWords (EltTy.packing .fp8e4m3)) ∧
  (∀ a, (k0_off30 v90) a + S1x256x3584.size a ≤ S8x2816x3584.size a) ∧
  (∀ (hinb : ∀ a, (k0_off30 v90) a + S1x256x3584.size a ≤ S8x2816x3584.size a), (Rect.unit (s := S8x2816x3584) (k0_off30 v90) S1x256x3584.size hinb).WholeWords (EltTy.packing .fp8e4m3)) ∧
  (∀ a, (k0_off31 v90) a + S1x256x3584.size a ≤ S8x2816x3584.size a) ∧
  (∀ (hinb : ∀ a, (k0_off31 v90) a + S1x256x3584.size a ≤ S8x2816x3584.size a), (Rect.unit (s := S8x2816x3584) (k0_off31 v90) S1x256x3584.size hinb).WholeWords (EltTy.packing .fp8e4m3)) ∧
  (∀ a, (k0_off32 v90) a + S1x256x3584.size a ≤ S8x2816x3584.size a) ∧
  (∀ (hinb : ∀ a, (k0_off32 v90) a + S1x256x3584.size a ≤ S8x2816x3584.size a), (Rect.unit (s := S8x2816x3584) (k0_off32 v90) S1x256x3584.size hinb).WholeWords (EltTy.packing .fp8e4m3))
def k0_chk2 (v90 : BitVec 32) : Prop :=
  k0_chk2_0 v90 ∧
  k0_chk2_1 v90
theorem k0_off8_inb : ∀ (v90 : BitVec 32) (k0_hw2 : k0_chk2 v90), ∀ a, (k0_off8 v90) a + S1x512x2816.size a ≤ S8x7168x2816.size a := fun v90 k0_hw2 => k0_hw2.1.1
theorem k0_off8_wordsfp8e4m3 : ∀ (v90 : BitVec 32) (k0_hw2 : k0_chk2 v90), (Rect.unit (s := S8x7168x2816) (k0_off8 v90) S1x512x2816.size (k0_off8_inb v90 k0_hw2)).WholeWords (EltTy.packing .fp8e4m3) := fun v90 k0_hw2 => k0_hw2.1.2.1 (k0_off8_inb v90 k0_hw2)
theorem k0_off9_inb : ∀ (v90 : BitVec 32) (k0_hw2 : k0_chk2 v90), ∀ a, (k0_off9 v90) a + S1x512x2816.size a ≤ S8x7168x2816.size a := fun v90 k0_hw2 => k0_hw2.1.2.2.1
theorem k0_off9_wordsfp8e4m3 : ∀ (v90 : BitVec 32) (k0_hw2 : k0_chk2 v90), (Rect.unit (s := S8x7168x2816) (k0_off9 v90) S1x512x2816.size (k0_off9_inb v90 k0_hw2)).WholeWords (EltTy.packing .fp8e4m3) := fun v90 k0_hw2 => k0_hw2.1.2.2.2.1 (k0_off9_inb v90 k0_hw2)
theorem k0_off10_inb : ∀ (v90 : BitVec 32) (k0_hw2 : k0_chk2 v90), ∀ a, (k0_off10 v90) a + S1x512x2816.size a ≤ S8x7168x2816.size a := fun v90 k0_hw2 => k0_hw2.1.2.2.2.2.1
theorem k0_off10_wordsfp8e4m3 : ∀ (v90 : BitVec 32) (k0_hw2 : k0_chk2 v90), (Rect.unit (s := S8x7168x2816) (k0_off10 v90) S1x512x2816.size (k0_off10_inb v90 k0_hw2)).WholeWords (EltTy.packing .fp8e4m3) := fun v90 k0_hw2 => k0_hw2.1.2.2.2.2.2.1 (k0_off10_inb v90 k0_hw2)
theorem k0_off11_inb : ∀ (v90 : BitVec 32) (k0_hw2 : k0_chk2 v90), ∀ a, (k0_off11 v90) a + S1x512x2816.size a ≤ S8x7168x2816.size a := fun v90 k0_hw2 => k0_hw2.1.2.2.2.2.2.2.1
theorem k0_off11_wordsfp8e4m3 : ∀ (v90 : BitVec 32) (k0_hw2 : k0_chk2 v90), (Rect.unit (s := S8x7168x2816) (k0_off11 v90) S1x512x2816.size (k0_off11_inb v90 k0_hw2)).WholeWords (EltTy.packing .fp8e4m3) := fun v90 k0_hw2 => k0_hw2.1.2.2.2.2.2.2.2.1 (k0_off11_inb v90 k0_hw2)
theorem k0_off12_inb : ∀ (v90 : BitVec 32) (k0_hw2 : k0_chk2 v90), ∀ a, (k0_off12 v90) a + S1x512x2816.size a ≤ S8x7168x2816.size a := fun v90 k0_hw2 => k0_hw2.1.2.2.2.2.2.2.2.2.1
theorem k0_off12_wordsfp8e4m3 : ∀ (v90 : BitVec 32) (k0_hw2 : k0_chk2 v90), (Rect.unit (s := S8x7168x2816) (k0_off12 v90) S1x512x2816.size (k0_off12_inb v90 k0_hw2)).WholeWords (EltTy.packing .fp8e4m3) := fun v90 k0_hw2 => k0_hw2.1.2.2.2.2.2.2.2.2.2.1 (k0_off12_inb v90 k0_hw2)
theorem k0_off13_inb : ∀ (v90 : BitVec 32) (k0_hw2 : k0_chk2 v90), ∀ a, (k0_off13 v90) a + S1x512x2816.size a ≤ S8x7168x2816.size a := fun v90 k0_hw2 => k0_hw2.1.2.2.2.2.2.2.2.2.2.2.1
theorem k0_off13_wordsfp8e4m3 : ∀ (v90 : BitVec 32) (k0_hw2 : k0_chk2 v90), (Rect.unit (s := S8x7168x2816) (k0_off13 v90) S1x512x2816.size (k0_off13_inb v90 k0_hw2)).WholeWords (EltTy.packing .fp8e4m3) := fun v90 k0_hw2 => k0_hw2.1.2.2.2.2.2.2.2.2.2.2.2.1 (k0_off13_inb v90 k0_hw2)
theorem k0_off14_inb : ∀ (v90 : BitVec 32) (k0_hw2 : k0_chk2 v90), ∀ a, (k0_off14 v90) a + S1x512x2816.size a ≤ S8x7168x2816.size a := fun v90 k0_hw2 => k0_hw2.1.2.2.2.2.2.2.2.2.2.2.2.2.1
theorem k0_off14_wordsfp8e4m3 : ∀ (v90 : BitVec 32) (k0_hw2 : k0_chk2 v90), (Rect.unit (s := S8x7168x2816) (k0_off14 v90) S1x512x2816.size (k0_off14_inb v90 k0_hw2)).WholeWords (EltTy.packing .fp8e4m3) := fun v90 k0_hw2 => k0_hw2.1.2.2.2.2.2.2.2.2.2.2.2.2.2.1 (k0_off14_inb v90 k0_hw2)
theorem k0_off15_inb : ∀ (v90 : BitVec 32) (k0_hw2 : k0_chk2 v90), ∀ a, (k0_off15 v90) a + S1x512x2816.size a ≤ S8x7168x2816.size a := fun v90 k0_hw2 => k0_hw2.1.2.2.2.2.2.2.2.2.2.2.2.2.2.2.1
theorem k0_off15_wordsfp8e4m3 : ∀ (v90 : BitVec 32) (k0_hw2 : k0_chk2 v90), (Rect.unit (s := S8x7168x2816) (k0_off15 v90) S1x512x2816.size (k0_off15_inb v90 k0_hw2)).WholeWords (EltTy.packing .fp8e4m3) := fun v90 k0_hw2 => k0_hw2.1.2.2.2.2.2.2.2.2.2.2.2.2.2.2.2.1 (k0_off15_inb v90 k0_hw2)
theorem k0_off16_inb : ∀ (v90 : BitVec 32) (k0_hw2 : k0_chk2 v90), ∀ a, (k0_off16 v90) a + S1x512x2816.size a ≤ S8x7168x2816.size a := fun v90 k0_hw2 => k0_hw2.1.2.2.2.2.2.2.2.2.2.2.2.2.2.2.2.2.1
theorem k0_off16_wordsfp8e4m3 : ∀ (v90 : BitVec 32) (k0_hw2 : k0_chk2 v90), (Rect.unit (s := S8x7168x2816) (k0_off16 v90) S1x512x2816.size (k0_off16_inb v90 k0_hw2)).WholeWords (EltTy.packing .fp8e4m3) := fun v90 k0_hw2 => k0_hw2.1.2.2.2.2.2.2.2.2.2.2.2.2.2.2.2.2.2.1 (k0_off16_inb v90 k0_hw2)
theorem k0_off17_inb : ∀ (v90 : BitVec 32) (k0_hw2 : k0_chk2 v90), ∀ a, (k0_off17 v90) a + S1x512x2816.size a ≤ S8x7168x2816.size a := fun v90 k0_hw2 => k0_hw2.1.2.2.2.2.2.2.2.2.2.2.2.2.2.2.2.2.2.2.1
theorem k0_off17_wordsfp8e4m3 : ∀ (v90 : BitVec 32) (k0_hw2 : k0_chk2 v90), (Rect.unit (s := S8x7168x2816) (k0_off17 v90) S1x512x2816.size (k0_off17_inb v90 k0_hw2)).WholeWords (EltTy.packing .fp8e4m3) := fun v90 k0_hw2 => k0_hw2.1.2.2.2.2.2.2.2.2.2.2.2.2.2.2.2.2.2.2.2.1 (k0_off17_inb v90 k0_hw2)
theorem k0_off18_inb : ∀ (v90 : BitVec 32) (k0_hw2 : k0_chk2 v90), ∀ a, (k0_off18 v90) a + S1x512x2816.size a ≤ S8x7168x2816.size a := fun v90 k0_hw2 => k0_hw2.1.2.2.2.2.2.2.2.2.2.2.2.2.2.2.2.2.2.2.2.2.1
theorem k0_off18_wordsfp8e4m3 : ∀ (v90 : BitVec 32) (k0_hw2 : k0_chk2 v90), (Rect.unit (s := S8x7168x2816) (k0_off18 v90) S1x512x2816.size (k0_off18_inb v90 k0_hw2)).WholeWords (EltTy.packing .fp8e4m3) := fun v90 k0_hw2 => k0_hw2.1.2.2.2.2.2.2.2.2.2.2.2.2.2.2.2.2.2.2.2.2.2.1 (k0_off18_inb v90 k0_hw2)
theorem k0_off19_inb : ∀ (v90 : BitVec 32) (k0_hw2 : k0_chk2 v90), ∀ a, (k0_off19 v90) a + S1x512x2816.size a ≤ S8x7168x2816.size a := fun v90 k0_hw2 => k0_hw2.1.2.2.2.2.2.2.2.2.2.2.2.2.2.2.2.2.2.2.2.2.2.2.1
theorem k0_off19_wordsfp8e4m3 : ∀ (v90 : BitVec 32) (k0_hw2 : k0_chk2 v90), (Rect.unit (s := S8x7168x2816) (k0_off19 v90) S1x512x2816.size (k0_off19_inb v90 k0_hw2)).WholeWords (EltTy.packing .fp8e4m3) := fun v90 k0_hw2 => k0_hw2.1.2.2.2.2.2.2.2.2.2.2.2.2.2.2.2.2.2.2.2.2.2.2.2.1 (k0_off19_inb v90 k0_hw2)
theorem k0_off20_inb : ∀ (v90 : BitVec 32) (k0_hw2 : k0_chk2 v90), ∀ a, (k0_off20 v90) a + S1x512x2816.size a ≤ S8x7168x2816.size a := fun v90 k0_hw2 => k0_hw2.1.2.2.2.2.2.2.2.2.2.2.2.2.2.2.2.2.2.2.2.2.2.2.2.2.1
theorem k0_off20_wordsfp8e4m3 : ∀ (v90 : BitVec 32) (k0_hw2 : k0_chk2 v90), (Rect.unit (s := S8x7168x2816) (k0_off20 v90) S1x512x2816.size (k0_off20_inb v90 k0_hw2)).WholeWords (EltTy.packing .fp8e4m3) := fun v90 k0_hw2 => k0_hw2.1.2.2.2.2.2.2.2.2.2.2.2.2.2.2.2.2.2.2.2.2.2.2.2.2.2.1 (k0_off20_inb v90 k0_hw2)
theorem k0_off21_inb : ∀ (v90 : BitVec 32) (k0_hw2 : k0_chk2 v90), ∀ a, (k0_off21 v90) a + S1x512x2816.size a ≤ S8x7168x2816.size a := fun v90 k0_hw2 => k0_hw2.1.2.2.2.2.2.2.2.2.2.2.2.2.2.2.2.2.2.2.2.2.2.2.2.2.2.2.1
theorem k0_off21_wordsfp8e4m3 : ∀ (v90 : BitVec 32) (k0_hw2 : k0_chk2 v90), (Rect.unit (s := S8x7168x2816) (k0_off21 v90) S1x512x2816.size (k0_off21_inb v90 k0_hw2)).WholeWords (EltTy.packing .fp8e4m3) := fun v90 k0_hw2 => k0_hw2.1.2.2.2.2.2.2.2.2.2.2.2.2.2.2.2.2.2.2.2.2.2.2.2.2.2.2.2.1 (k0_off21_inb v90 k0_hw2)
theorem k0_off22_inb : ∀ (v90 : BitVec 32) (k0_hw2 : k0_chk2 v90), ∀ a, (k0_off22 v90) a + S1x256x3584.size a ≤ S8x2816x3584.size a := fun v90 k0_hw2 => k0_hw2.1.2.2.2.2.2.2.2.2.2.2.2.2.2.2.2.2.2.2.2.2.2.2.2.2.2.2.2.2.1
theorem k0_off22_wordsfp8e4m3 : ∀ (v90 : BitVec 32) (k0_hw2 : k0_chk2 v90), (Rect.unit (s := S8x2816x3584) (k0_off22 v90) S1x256x3584.size (k0_off22_inb v90 k0_hw2)).WholeWords (EltTy.packing .fp8e4m3) := fun v90 k0_hw2 => k0_hw2.1.2.2.2.2.2.2.2.2.2.2.2.2.2.2.2.2.2.2.2.2.2.2.2.2.2.2.2.2.2.1 (k0_off22_inb v90 k0_hw2)
theorem k0_off23_inb : ∀ (v90 : BitVec 32) (k0_hw2 : k0_chk2 v90), ∀ a, (k0_off23 v90) a + S1x256x3584.size a ≤ S8x2816x3584.size a := fun v90 k0_hw2 => k0_hw2.1.2.2.2.2.2.2.2.2.2.2.2.2.2.2.2.2.2.2.2.2.2.2.2.2.2.2.2.2.2.2.1
theorem k0_off23_wordsfp8e4m3 : ∀ (v90 : BitVec 32) (k0_hw2 : k0_chk2 v90), (Rect.unit (s := S8x2816x3584) (k0_off23 v90) S1x256x3584.size (k0_off23_inb v90 k0_hw2)).WholeWords (EltTy.packing .fp8e4m3) := fun v90 k0_hw2 => k0_hw2.1.2.2.2.2.2.2.2.2.2.2.2.2.2.2.2.2.2.2.2.2.2.2.2.2.2.2.2.2.2.2.2 (k0_off23_inb v90 k0_hw2)
theorem k0_off24_inb : ∀ (v90 : BitVec 32) (k0_hw2 : k0_chk2 v90), ∀ a, (k0_off24 v90) a + S1x256x3584.size a ≤ S8x2816x3584.size a := fun v90 k0_hw2 => k0_hw2.2.1
theorem k0_off24_wordsfp8e4m3 : ∀ (v90 : BitVec 32) (k0_hw2 : k0_chk2 v90), (Rect.unit (s := S8x2816x3584) (k0_off24 v90) S1x256x3584.size (k0_off24_inb v90 k0_hw2)).WholeWords (EltTy.packing .fp8e4m3) := fun v90 k0_hw2 => k0_hw2.2.2.1 (k0_off24_inb v90 k0_hw2)
theorem k0_off25_inb : ∀ (v90 : BitVec 32) (k0_hw2 : k0_chk2 v90), ∀ a, (k0_off25 v90) a + S1x256x3584.size a ≤ S8x2816x3584.size a := fun v90 k0_hw2 => k0_hw2.2.2.2.1
theorem k0_off25_wordsfp8e4m3 : ∀ (v90 : BitVec 32) (k0_hw2 : k0_chk2 v90), (Rect.unit (s := S8x2816x3584) (k0_off25 v90) S1x256x3584.size (k0_off25_inb v90 k0_hw2)).WholeWords (EltTy.packing .fp8e4m3) := fun v90 k0_hw2 => k0_hw2.2.2.2.2.1 (k0_off25_inb v90 k0_hw2)
theorem k0_off26_inb : ∀ (v90 : BitVec 32) (k0_hw2 : k0_chk2 v90), ∀ a, (k0_off26 v90) a + S1x256x3584.size a ≤ S8x2816x3584.size a := fun v90 k0_hw2 => k0_hw2.2.2.2.2.2.1
theorem k0_off26_wordsfp8e4m3 : ∀ (v90 : BitVec 32) (k0_hw2 : k0_chk2 v90), (Rect.unit (s := S8x2816x3584) (k0_off26 v90) S1x256x3584.size (k0_off26_inb v90 k0_hw2)).WholeWords (EltTy.packing .fp8e4m3) := fun v90 k0_hw2 => k0_hw2.2.2.2.2.2.2.1 (k0_off26_inb v90 k0_hw2)
theorem k0_off27_inb : ∀ (v90 : BitVec 32) (k0_hw2 : k0_chk2 v90), ∀ a, (k0_off27 v90) a + S1x256x3584.size a ≤ S8x2816x3584.size a := fun v90 k0_hw2 => k0_hw2.2.2.2.2.2.2.2.1
theorem k0_off27_wordsfp8e4m3 : ∀ (v90 : BitVec 32) (k0_hw2 : k0_chk2 v90), (Rect.unit (s := S8x2816x3584) (k0_off27 v90) S1x256x3584.size (k0_off27_inb v90 k0_hw2)).WholeWords (EltTy.packing .fp8e4m3) := fun v90 k0_hw2 => k0_hw2.2.2.2.2.2.2.2.2.1 (k0_off27_inb v90 k0_hw2)
theorem k0_off28_inb : ∀ (v90 : BitVec 32) (k0_hw2 : k0_chk2 v90), ∀ a, (k0_off28 v90) a + S1x256x3584.size a ≤ S8x2816x3584.size a := fun v90 k0_hw2 => k0_hw2.2.2.2.2.2.2.2.2.2.1
theorem k0_off28_wordsfp8e4m3 : ∀ (v90 : BitVec 32) (k0_hw2 : k0_chk2 v90), (Rect.unit (s := S8x2816x3584) (k0_off28 v90) S1x256x3584.size (k0_off28_inb v90 k0_hw2)).WholeWords (EltTy.packing .fp8e4m3) := fun v90 k0_hw2 => k0_hw2.2.2.2.2.2.2.2.2.2.2.1 (k0_off28_inb v90 k0_hw2)
theorem k0_off29_inb : ∀ (v90 : BitVec 32) (k0_hw2 : k0_chk2 v90), ∀ a, (k0_off29 v90) a + S1x256x3584.size a ≤ S8x2816x3584.size a := fun v90 k0_hw2 => k0_hw2.2.2.2.2.2.2.2.2.2.2.2.1
theorem k0_off29_wordsfp8e4m3 : ∀ (v90 : BitVec 32) (k0_hw2 : k0_chk2 v90), (Rect.unit (s := S8x2816x3584) (k0_off29 v90) S1x256x3584.size (k0_off29_inb v90 k0_hw2)).WholeWords (EltTy.packing .fp8e4m3) := fun v90 k0_hw2 => k0_hw2.2.2.2.2.2.2.2.2.2.2.2.2.1 (k0_off29_inb v90 k0_hw2)
theorem k0_off30_inb : ∀ (v90 : BitVec 32) (k0_hw2 : k0_chk2 v90), ∀ a, (k0_off30 v90) a + S1x256x3584.size a ≤ S8x2816x3584.size a := fun v90 k0_hw2 => k0_hw2.2.2.2.2.2.2.2.2.2.2.2.2.2.1
theorem k0_off30_wordsfp8e4m3 : ∀ (v90 : BitVec 32) (k0_hw2 : k0_chk2 v90), (Rect.unit (s := S8x2816x3584) (k0_off30 v90) S1x256x3584.size (k0_off30_inb v90 k0_hw2)).WholeWords (EltTy.packing .fp8e4m3) := fun v90 k0_hw2 => k0_hw2.2.2.2.2.2.2.2.2.2.2.2.2.2.2.1 (k0_off30_inb v90 k0_hw2)
theorem k0_off31_inb : ∀ (v90 : BitVec 32) (k0_hw2 : k0_chk2 v90), ∀ a, (k0_off31 v90) a + S1x256x3584.size a ≤ S8x2816x3584.size a := fun v90 k0_hw2 => k0_hw2.2.2.2.2.2.2.2.2.2.2.2.2.2.2.2.1
theorem k0_off31_wordsfp8e4m3 : ∀ (v90 : BitVec 32) (k0_hw2 : k0_chk2 v90), (Rect.unit (s := S8x2816x3584) (k0_off31 v90) S1x256x3584.size (k0_off31_inb v90 k0_hw2)).WholeWords (EltTy.packing .fp8e4m3) := fun v90 k0_hw2 => k0_hw2.2.2.2.2.2.2.2.2.2.2.2.2.2.2.2.2.1 (k0_off31_inb v90 k0_hw2)
theorem k0_off32_inb : ∀ (v90 : BitVec 32) (k0_hw2 : k0_chk2 v90), ∀ a, (k0_off32 v90) a + S1x256x3584.size a ≤ S8x2816x3584.size a := fun v90 k0_hw2 => k0_hw2.2.2.2.2.2.2.2.2.2.2.2.2.2.2.2.2.2.1
theorem k0_off32_wordsfp8e4m3 : ∀ (v90 : BitVec 32) (k0_hw2 : k0_chk2 v90), (Rect.unit (s := S8x2816x3584) (k0_off32 v90) S1x256x3584.size (k0_off32_inb v90 k0_hw2)).WholeWords (EltTy.packing .fp8e4m3) := fun v90 k0_hw2 => k0_hw2.2.2.2.2.2.2.2.2.2.2.2.2.2.2.2.2.2.2 (k0_off32_inb v90 k0_hw2)

@[reducible] def k0_t1_loop (v50 : BitVec 32) : Scf.Loop 32 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_203 : BitVec 32 := 1#32
  ⟨c0_i32_200, v249, c1_i32_203⟩
def k0_off33 (v50 : BitVec 32) (k0_t1 : Fin (k0_t1_loop v50).trips) : Fin 1 → Nat :=
  let c0_i32_200 : BitVec 32 := 0#32
  let c1_i32_203 : BitVec 32 := 1#32
  let arg16 : BitVec 32 := Scf.iv c0_i32_200 c1_i32_203 k0_t1
  let v255 : Index := Scalar.indexCast arg16
  ![v255.toNat]
def k0_off34 (v50 : BitVec 32) (k0_t1 : Fin (k0_t1_loop v50).trips) : Fin 1 → Nat :=
  let c0_i32_200 : BitVec 32 := 0#32
  let c1_i32_203 : BitVec 32 := 1#32
  let arg16 : BitVec 32 := Scf.iv c0_i32_200 c1_i32_203 k0_t1
  let c1_i32_210 : BitVec 32 := 1#32
  let v259 : BitVec 32 := Scalar.addi arg16 c1_i32_210
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let c1_i32_211 : BitVec 32 := 1#32
  let v260 : BitVec 32 := Scalar.subi v89 c1_i32_211
  let v261 : BitVec 32 := Scalar.minsi v259 v260
  let v262 : Index := Scalar.indexCast v261
  ![v262.toNat]
def k0_off35 (v256 : BitVec 32) : Fin 3 → Nat :=
  let c0_i32_229 : BitVec 32 := 0#32
  let c0_i32_230 : BitVec 32 := 0#32
  ![v256.toNat, 0, 0]

def k0_off36 (v256 : BitVec 32) : Fin 3 → Nat :=
  let c3584_i32_237 : BitVec 32 := 3584#32
  let c0_i32_238 : BitVec 32 := 0#32
  ![v256.toNat, 3584, 0]
def k0_off37 (v256 : BitVec 32) : Fin 2 → Nat :=
  let v292 : Index := Scalar.indexCast v256
  let c0_239 : Index := 0#32
  ![v292.toNat, 0]
def k0_off38 (v256 : BitVec 32) : Fin 2 → Nat :=
  let v301 : Index := Scalar.indexCast v256
  let c3584 : Index := 3584#32
  ![v301.toNat, 3584]
def k0_off39 (v263 : BitVec 32) : Fin 3 → Nat :=
  let c0_i32_671 : BitVec 32 := 0#32
  let c0_i32_672 : BitVec 32 := 0#32
  ![v263.toNat, 0, 0]
def k0_cond1 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v321 : BitVec 32 := Scalar.extui v258
  let c0_i32_258 : BitVec 32 := 0#32
  let v322 : BitVec 1 := Scalar.cmpi .ne v321 c0_i32_258
  v322

def k0_off40 (v263 : BitVec 32) : Fin 3 → Nat :=
  let c3584_i32_679 : BitVec 32 := 3584#32
  let c0_i32_680 : BitVec 32 := 0#32
  ![v263.toNat, 3584, 0]
def k0_off41 (v256 : BitVec 32) : Fin 3 → Nat :=
  let c512_i32_265 : BitVec 32 := 512#32
  let c0_i32_266 : BitVec 32 := 0#32
  ![v256.toNat, 512, 0]
def k0_off42 (v256 : BitVec 32) : Fin 3 → Nat :=
  let c4096_i32_273 : BitVec 32 := 4096#32
  let c0_i32_274 : BitVec 32 := 0#32
  ![v256.toNat, 4096, 0]
def k0_off43 (v256 : BitVec 32) : Fin 2 → Nat :=
  let v335 : Index := Scalar.indexCast v256
  let c512 : Index := 512#32
  ![v335.toNat, 512]
def k0_off44 (v256 : BitVec 32) : Fin 2 → Nat :=
  let v344 : Index := Scalar.indexCast v256
  let c4096 : Index := 4096#32
  ![v344.toNat, 4096]
def k0_off45 (v263 : BitVec 32) : Fin 3 → Nat :=
  let c512_i32_671 : BitVec 32 := 512#32
  let c0_i32_672 : BitVec 32 := 0#32
  ![v263.toNat, 512, 0]
def k0_cond2 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v364 : BitVec 32 := Scalar.extui v258
  let c0_i32_293 : BitVec 32 := 0#32
  let v365 : BitVec 1 := Scalar.cmpi .ne v364 c0_i32_293
  v365

def k0_off46 (v263 : BitVec 32) : Fin 3 → Nat :=
  let c4096_i32_679 : BitVec 32 := 4096#32
  let c0_i32_680 : BitVec 32 := 0#32
  ![v263.toNat, 4096, 0]
def k0_off47 (v256 : BitVec 32) : Fin 3 → Nat :=
  let c1024_i32_300 : BitVec 32 := 1024#32
  let c0_i32_301 : BitVec 32 := 0#32
  ![v256.toNat, 1024, 0]
def k0_off48 (v256 : BitVec 32) : Fin 3 → Nat :=
  let c4608_i32_308 : BitVec 32 := 4608#32
  let c0_i32_309 : BitVec 32 := 0#32
  ![v256.toNat, 4608, 0]
def k0_off49 (v256 : BitVec 32) : Fin 2 → Nat :=
  let v378 : Index := Scalar.indexCast v256
  let c1024 : Index := 1024#32
  ![v378.toNat, 1024]
def k0_off50 (v256 : BitVec 32) : Fin 2 → Nat :=
  let v387 : Index := Scalar.indexCast v256
  let c4608 : Index := 4608#32
  ![v387.toNat, 4608]
def k0_off51 (v263 : BitVec 32) : Fin 3 → Nat :=
  let c1024_i32_671 : BitVec 32 := 1024#32
  let c0_i32_672 : BitVec 32 := 0#32
  ![v263.toNat, 1024, 0]
def k0_cond3 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v407 : BitVec 32 := Scalar.extui v258
  let c0_i32_327 : BitVec 32 := 0#32
  let v408 : BitVec 1 := Scalar.cmpi .ne v407 c0_i32_327
  v408

def k0_off52 (v263 : BitVec 32) : Fin 3 → Nat :=
  let c4608_i32_679 : BitVec 32 := 4608#32
  let c0_i32_680 : BitVec 32 := 0#32
  ![v263.toNat, 4608, 0]
def k0_off53 (v256 : BitVec 32) : Fin 3 → Nat :=
  let c1536_i32_334 : BitVec 32 := 1536#32
  let c0_i32_335 : BitVec 32 := 0#32
  ![v256.toNat, 1536, 0]
def k0_off54 (v256 : BitVec 32) : Fin 3 → Nat :=
  let c5120_i32_342 : BitVec 32 := 5120#32
  let c0_i32_343 : BitVec 32 := 0#32
  ![v256.toNat, 5120, 0]
def k0_off55 (v256 : BitVec 32) : Fin 2 → Nat :=
  let v421 : Index := Scalar.indexCast v256
  let c1536 : Index := 1536#32
  ![v421.toNat, 1536]
def k0_off56 (v256 : BitVec 32) : Fin 2 → Nat :=
  let v430 : Index := Scalar.indexCast v256
  let c5120 : Index := 5120#32
  ![v430.toNat, 5120]
def k0_off57 (v263 : BitVec 32) : Fin 3 → Nat :=
  let c1536_i32_671 : BitVec 32 := 1536#32
  let c0_i32_672 : BitVec 32 := 0#32
  ![v263.toNat, 1536, 0]
def k0_cond4 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v450 : BitVec 32 := Scalar.extui v258
  let c0_i32_361 : BitVec 32 := 0#32
  let v451 : BitVec 1 := Scalar.cmpi .ne v450 c0_i32_361
  v451

def k0_off58 (v263 : BitVec 32) : Fin 3 → Nat :=
  let c5120_i32_679 : BitVec 32 := 5120#32
  let c0_i32_680 : BitVec 32 := 0#32
  ![v263.toNat, 5120, 0]
def k0_off59 (v256 : BitVec 32) : Fin 3 → Nat :=
  let c2048_i32_368 : BitVec 32 := 2048#32
  let c0_i32_369 : BitVec 32 := 0#32
  ![v256.toNat, 2048, 0]
def k0_off60 (v256 : BitVec 32) : Fin 3 → Nat :=
  let c5632_i32_376 : BitVec 32 := 5632#32
  let c0_i32_377 : BitVec 32 := 0#32
  ![v256.toNat, 5632, 0]
def k0_off61 (v256 : BitVec 32) : Fin 2 → Nat :=
  let v464 : Index := Scalar.indexCast v256
  let c2048 : Index := 2048#32
  ![v464.toNat, 2048]
def k0_off62 (v256 : BitVec 32) : Fin 2 → Nat :=
  let v473 : Index := Scalar.indexCast v256
  let c5632 : Index := 5632#32
  ![v473.toNat, 5632]
def k0_off63 (v263 : BitVec 32) : Fin 3 → Nat :=
  let c2048_i32_671 : BitVec 32 := 2048#32
  let c0_i32_672 : BitVec 32 := 0#32
  ![v263.toNat, 2048, 0]
def k0_cond5 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v493 : BitVec 32 := Scalar.extui v258
  let c0_i32_395 : BitVec 32 := 0#32
  let v494 : BitVec 1 := Scalar.cmpi .ne v493 c0_i32_395
  v494

def k0_off64 (v263 : BitVec 32) : Fin 3 → Nat :=
  let c5632_i32_679 : BitVec 32 := 5632#32
  let c0_i32_680 : BitVec 32 := 0#32
  ![v263.toNat, 5632, 0]
def k0_off65 (v256 : BitVec 32) : Fin 3 → Nat :=
  let c2560_i32_402 : BitVec 32 := 2560#32
  let c0_i32_403 : BitVec 32 := 0#32
  ![v256.toNat, 2560, 0]
def k0_off66 (v256 : BitVec 32) : Fin 3 → Nat :=
  let c6144_i32_410 : BitVec 32 := 6144#32
  let c0_i32_411 : BitVec 32 := 0#32
  ![v256.toNat, 6144, 0]
def k0_off67 (v256 : BitVec 32) : Fin 2 → Nat :=
  let v507 : Index := Scalar.indexCast v256
  let c2560 : Index := 2560#32
  ![v507.toNat, 2560]
def k0_off68 (v256 : BitVec 32) : Fin 2 → Nat :=
  let v516 : Index := Scalar.indexCast v256
  let c6144 : Index := 6144#32
  ![v516.toNat, 6144]
def k0_off69 (v263 : BitVec 32) : Fin 3 → Nat :=
  let c2560_i32_671 : BitVec 32 := 2560#32
  let c0_i32_672 : BitVec 32 := 0#32
  ![v263.toNat, 2560, 0]
def k0_cond6 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v536 : BitVec 32 := Scalar.extui v258
  let c0_i32_429 : BitVec 32 := 0#32
  let v537 : BitVec 1 := Scalar.cmpi .ne v536 c0_i32_429
  v537

def k0_off70 (v263 : BitVec 32) : Fin 3 → Nat :=
  let c6144_i32_679 : BitVec 32 := 6144#32
  let c0_i32_680 : BitVec 32 := 0#32
  ![v263.toNat, 6144, 0]
def k0_off71 (v256 : BitVec 32) : Fin 3 → Nat :=
  let c3072_i32_436 : BitVec 32 := 3072#32
  let c0_i32_437 : BitVec 32 := 0#32
  ![v256.toNat, 3072, 0]
def k0_off72 (v256 : BitVec 32) : Fin 3 → Nat :=
  let c6656_i32_444 : BitVec 32 := 6656#32
  let c0_i32_445 : BitVec 32 := 0#32
  ![v256.toNat, 6656, 0]
def k0_off73 (v256 : BitVec 32) : Fin 2 → Nat :=
  let v550 : Index := Scalar.indexCast v256
  let c3072 : Index := 3072#32
  ![v550.toNat, 3072]
def k0_off74 (v256 : BitVec 32) : Fin 2 → Nat :=
  let v559 : Index := Scalar.indexCast v256
  let c6656 : Index := 6656#32
  ![v559.toNat, 6656]
def k0_off75 (v263 : BitVec 32) : Fin 3 → Nat :=
  let c3072_i32_671 : BitVec 32 := 3072#32
  let c0_i32_672 : BitVec 32 := 0#32
  ![v263.toNat, 3072, 0]
def k0_cond7 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v579 : BitVec 32 := Scalar.extui v258
  let c0_i32_463 : BitVec 32 := 0#32
  let v580 : BitVec 1 := Scalar.cmpi .ne v579 c0_i32_463
  v580

def k0_off76 (v263 : BitVec 32) : Fin 3 → Nat :=
  let c6656_i32_679 : BitVec 32 := 6656#32
  let c0_i32_680 : BitVec 32 := 0#32
  ![v263.toNat, 6656, 0]
def k0_off77 (v256 : BitVec 32) : Fin 3 → Nat :=
  let c0_i32_468 : BitVec 32 := 0#32
  let c0_i32_469 : BitVec 32 := 0#32
  ![v256.toNat, 0, 0]
def k0_off78 (v256 : BitVec 32) : Fin 2 → Nat :=
  let v591 : Index := Scalar.indexCast v256
  let c0_476 : Index := 0#32
  ![v591.toNat, 0]
def k0_off79 (v263 : BitVec 32) : Fin 3 → Nat :=
  let c0_i32_669 : BitVec 32 := 0#32
  let c0_i32_670 : BitVec 32 := 0#32
  ![v263.toNat, 0, 0]
def k0_cond8 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v606 : BitVec 32 := Scalar.extui v258
  let c0_i32_482 : BitVec 32 := 0#32
  let v607 : BitVec 1 := Scalar.cmpi .ne v606 c0_i32_482
  v607

def k0_off80 (v256 : BitVec 32) : Fin 3 → Nat :=
  let c256_i32_487 : BitVec 32 := 256#32
  let c0_i32_488 : BitVec 32 := 0#32
  ![v256.toNat, 256, 0]
def k0_off81 (v256 : BitVec 32) : Fin 2 → Nat :=
  let v618 : Index := Scalar.indexCast v256
  let c256 : Index := 256#32
  ![v618.toNat, 256]
def k0_off82 (v263 : BitVec 32) : Fin 3 → Nat :=
  let c256_i32_669 : BitVec 32 := 256#32
  let c0_i32_670 : BitVec 32 := 0#32
  ![v263.toNat, 256, 0]
def k0_cond9 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v633 : BitVec 32 := Scalar.extui v258
  let c0_i32_500 : BitVec 32 := 0#32
  let v634 : BitVec 1 := Scalar.cmpi .ne v633 c0_i32_500
  v634

def k0_off83 (v256 : BitVec 32) : Fin 3 → Nat :=
  let c512_i32_505 : BitVec 32 := 512#32
  let c0_i32_506 : BitVec 32 := 0#32
  ![v256.toNat, 512, 0]
def k0_off84 (v256 : BitVec 32) : Fin 2 → Nat :=
  let v645 : Index := Scalar.indexCast v256
  let c512_513 : Index := 512#32
  ![v645.toNat, 512]
def k0_off85 (v263 : BitVec 32) : Fin 3 → Nat :=
  let c512_i32_669 : BitVec 32 := 512#32
  let c0_i32_670 : BitVec 32 := 0#32
  ![v263.toNat, 512, 0]
def k0_cond10 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v660 : BitVec 32 := Scalar.extui v258
  let c0_i32_519 : BitVec 32 := 0#32
  let v661 : BitVec 1 := Scalar.cmpi .ne v660 c0_i32_519
  v661

def k0_off86 (v256 : BitVec 32) : Fin 3 → Nat :=
  let c768_i32_524 : BitVec 32 := 768#32
  let c0_i32_525 : BitVec 32 := 0#32
  ![v256.toNat, 768, 0]
def k0_off87 (v256 : BitVec 32) : Fin 2 → Nat :=
  let v672 : Index := Scalar.indexCast v256
  let c768 : Index := 768#32
  ![v672.toNat, 768]
def k0_off88 (v263 : BitVec 32) : Fin 3 → Nat :=
  let c768_i32_669 : BitVec 32 := 768#32
  let c0_i32_670 : BitVec 32 := 0#32
  ![v263.toNat, 768, 0]
def k0_cond11 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v687 : BitVec 32 := Scalar.extui v258
  let c0_i32_537 : BitVec 32 := 0#32
  let v688 : BitVec 1 := Scalar.cmpi .ne v687 c0_i32_537
  v688

def k0_off89 (v256 : BitVec 32) : Fin 3 → Nat :=
  let c1024_i32_542 : BitVec 32 := 1024#32
  let c0_i32_543 : BitVec 32 := 0#32
  ![v256.toNat, 1024, 0]
def k0_off90 (v256 : BitVec 32) : Fin 2 → Nat :=
  let v699 : Index := Scalar.indexCast v256
  let c1024_550 : Index := 1024#32
  ![v699.toNat, 1024]
def k0_off91 (v263 : BitVec 32) : Fin 3 → Nat :=
  let c1024_i32_669 : BitVec 32 := 1024#32
  let c0_i32_670 : BitVec 32 := 0#32
  ![v263.toNat, 1024, 0]
def k0_cond12 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v714 : BitVec 32 := Scalar.extui v258
  let c0_i32_556 : BitVec 32 := 0#32
  let v715 : BitVec 1 := Scalar.cmpi .ne v714 c0_i32_556
  v715

def k0_off92 (v256 : BitVec 32) : Fin 3 → Nat :=
  let c1280_i32_561 : BitVec 32 := 1280#32
  let c0_i32_562 : BitVec 32 := 0#32
  ![v256.toNat, 1280, 0]
def k0_off93 (v256 : BitVec 32) : Fin 2 → Nat :=
  let v726 : Index := Scalar.indexCast v256
  let c1280 : Index := 1280#32
  ![v726.toNat, 1280]
def k0_off94 (v263 : BitVec 32) : Fin 3 → Nat :=
  let c1280_i32_669 : BitVec 32 := 1280#32
  let c0_i32_670 : BitVec 32 := 0#32
  ![v263.toNat, 1280, 0]
def k0_cond13 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v741 : BitVec 32 := Scalar.extui v258
  let c0_i32_574 : BitVec 32 := 0#32
  let v742 : BitVec 1 := Scalar.cmpi .ne v741 c0_i32_574
  v742

def k0_off95 (v256 : BitVec 32) : Fin 3 → Nat :=
  let c1536_i32_579 : BitVec 32 := 1536#32
  let c0_i32_580 : BitVec 32 := 0#32
  ![v256.toNat, 1536, 0]
def k0_off96 (v256 : BitVec 32) : Fin 2 → Nat :=
  let v753 : Index := Scalar.indexCast v256
  let c1536_587 : Index := 1536#32
  ![v753.toNat, 1536]
def k0_off97 (v263 : BitVec 32) : Fin 3 → Nat :=
  let c1536_i32_669 : BitVec 32 := 1536#32
  let c0_i32_670 : BitVec 32 := 0#32
  ![v263.toNat, 1536, 0]
def k0_cond14 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v768 : BitVec 32 := Scalar.extui v258
  let c0_i32_593 : BitVec 32 := 0#32
  let v769 : BitVec 1 := Scalar.cmpi .ne v768 c0_i32_593
  v769

def k0_off98 (v256 : BitVec 32) : Fin 3 → Nat :=
  let c1792_i32_598 : BitVec 32 := 1792#32
  let c0_i32_599 : BitVec 32 := 0#32
  ![v256.toNat, 1792, 0]
def k0_off99 (v256 : BitVec 32) : Fin 2 → Nat :=
  let v780 : Index := Scalar.indexCast v256
  let c1792 : Index := 1792#32
  ![v780.toNat, 1792]
def k0_off100 (v263 : BitVec 32) : Fin 3 → Nat :=
  let c1792_i32_669 : BitVec 32 := 1792#32
  let c0_i32_670 : BitVec 32 := 0#32
  ![v263.toNat, 1792, 0]
def k0_cond15 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v795 : BitVec 32 := Scalar.extui v258
  let c0_i32_610 : BitVec 32 := 0#32
  let v796 : BitVec 1 := Scalar.cmpi .ne v795 c0_i32_610
  v796

def k0_off101 (v256 : BitVec 32) : Fin 3 → Nat :=
  let c2048_i32_615 : BitVec 32 := 2048#32
  let c0_i32_616 : BitVec 32 := 0#32
  ![v256.toNat, 2048, 0]
def k0_off102 (v256 : BitVec 32) : Fin 2 → Nat :=
  let v807 : Index := Scalar.indexCast v256
  let c2048_622 : Index := 2048#32
  ![v807.toNat, 2048]
def k0_off103 (v263 : BitVec 32) : Fin 3 → Nat :=
  let c2048_i32_669 : BitVec 32 := 2048#32
  let c0_i32_670 : BitVec 32 := 0#32
  ![v263.toNat, 2048, 0]
def k0_cond16 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v822 : BitVec 32 := Scalar.extui v258
  let c0_i32_628 : BitVec 32 := 0#32
  let v823 : BitVec 1 := Scalar.cmpi .ne v822 c0_i32_628
  v823

def k0_off104 (v256 : BitVec 32) : Fin 3 → Nat :=
  let c2304_i32_633 : BitVec 32 := 2304#32
  let c0_i32_634 : BitVec 32 := 0#32
  ![v256.toNat, 2304, 0]
def k0_off105 (v256 : BitVec 32) : Fin 2 → Nat :=
  let v834 : Index := Scalar.indexCast v256
  let c2304 : Index := 2304#32
  ![v834.toNat, 2304]
def k0_off106 (v263 : BitVec 32) : Fin 3 → Nat :=
  let c2304_i32_669 : BitVec 32 := 2304#32
  let c0_i32_670 : BitVec 32 := 0#32
  ![v263.toNat, 2304, 0]
def k0_cond17 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v849 : BitVec 32 := Scalar.extui v258
  let c0_i32_645 : BitVec 32 := 0#32
  let v850 : BitVec 1 := Scalar.cmpi .ne v849 c0_i32_645
  v850

def k0_off107 (v256 : BitVec 32) : Fin 3 → Nat :=
  let c2560_i32_650 : BitVec 32 := 2560#32
  let c0_i32_651 : BitVec 32 := 0#32
  ![v256.toNat, 2560, 0]
def k0_off108 (v256 : BitVec 32) : Fin 2 → Nat :=
  let v861 : Index := Scalar.indexCast v256
  let c2560_657 : Index := 2560#32
  ![v861.toNat, 2560]

def k0_chk3_0 (v256 : BitVec 32) : Prop :=
  (∀ a, (k0_off35 v256) a + S1x512x2816.size a ≤ S8x7168x2816.size a) ∧
  (∀ (hinb : ∀ a, (k0_off35 v256) a + S1x512x2816.size a ≤ S8x7168x2816.size a), (Rect.unit (s := S8x7168x2816) (k0_off35 v256) S1x512x2816.size hinb).WholeWords (EltTy.packing .fp8e4m3)) ∧
  (∀ a, (k0_off36 v256) a + S1x512x2816.size a ≤ S8x7168x2816.size a) ∧
  (∀ (hinb : ∀ a, (k0_off36 v256) a + S1x512x2816.size a ≤ S8x7168x2816.size a), (Rect.unit (s := S8x7168x2816) (k0_off36 v256) S1x512x2816.size hinb).WholeWords (EltTy.packing .fp8e4m3)) ∧
  (∀ a, (k0_off37 v256) a + S1x512.size a ≤ S8x7168.size a) ∧
  (∀ a, (k0_off38 v256) a + S1x512.size a ≤ S8x7168.size a) ∧
  (∀ a, (k0_off41 v256) a + S1x512x2816.size a ≤ S8x7168x2816.size a) ∧
  (∀ (hinb : ∀ a, (k0_off41 v256) a + S1x512x2816.size a ≤ S8x7168x2816.size a), (Rect.unit (s := S8x7168x2816) (k0_off41 v256) S1x512x2816.size hinb).WholeWords (EltTy.packing .fp8e4m3)) ∧
  (∀ a, (k0_off42 v256) a + S1x512x2816.size a ≤ S8x7168x2816.size a) ∧
  (∀ (hinb : ∀ a, (k0_off42 v256) a + S1x512x2816.size a ≤ S8x7168x2816.size a), (Rect.unit (s := S8x7168x2816) (k0_off42 v256) S1x512x2816.size hinb).WholeWords (EltTy.packing .fp8e4m3)) ∧
  (∀ a, (k0_off43 v256) a + S1x512.size a ≤ S8x7168.size a) ∧
  (∀ a, (k0_off44 v256) a + S1x512.size a ≤ S8x7168.size a) ∧
  (∀ a, (k0_off47 v256) a + S1x512x2816.size a ≤ S8x7168x2816.size a) ∧
  (∀ (hinb : ∀ a, (k0_off47 v256) a + S1x512x2816.size a ≤ S8x7168x2816.size a), (Rect.unit (s := S8x7168x2816) (k0_off47 v256) S1x512x2816.size hinb).WholeWords (EltTy.packing .fp8e4m3)) ∧
  (∀ a, (k0_off48 v256) a + S1x512x2816.size a ≤ S8x7168x2816.size a) ∧
  (∀ (hinb : ∀ a, (k0_off48 v256) a + S1x512x2816.size a ≤ S8x7168x2816.size a), (Rect.unit (s := S8x7168x2816) (k0_off48 v256) S1x512x2816.size hinb).WholeWords (EltTy.packing .fp8e4m3)) ∧
  (∀ a, (k0_off49 v256) a + S1x512.size a ≤ S8x7168.size a) ∧
  (∀ a, (k0_off50 v256) a + S1x512.size a ≤ S8x7168.size a) ∧
  (∀ a, (k0_off53 v256) a + S1x512x2816.size a ≤ S8x7168x2816.size a) ∧
  (∀ (hinb : ∀ a, (k0_off53 v256) a + S1x512x2816.size a ≤ S8x7168x2816.size a), (Rect.unit (s := S8x7168x2816) (k0_off53 v256) S1x512x2816.size hinb).WholeWords (EltTy.packing .fp8e4m3)) ∧
  (∀ a, (k0_off54 v256) a + S1x512x2816.size a ≤ S8x7168x2816.size a) ∧
  (∀ (hinb : ∀ a, (k0_off54 v256) a + S1x512x2816.size a ≤ S8x7168x2816.size a), (Rect.unit (s := S8x7168x2816) (k0_off54 v256) S1x512x2816.size hinb).WholeWords (EltTy.packing .fp8e4m3)) ∧
  (∀ a, (k0_off55 v256) a + S1x512.size a ≤ S8x7168.size a) ∧
  (∀ a, (k0_off56 v256) a + S1x512.size a ≤ S8x7168.size a) ∧
  (∀ a, (k0_off59 v256) a + S1x512x2816.size a ≤ S8x7168x2816.size a) ∧
  (∀ (hinb : ∀ a, (k0_off59 v256) a + S1x512x2816.size a ≤ S8x7168x2816.size a), (Rect.unit (s := S8x7168x2816) (k0_off59 v256) S1x512x2816.size hinb).WholeWords (EltTy.packing .fp8e4m3)) ∧
  (∀ a, (k0_off60 v256) a + S1x512x2816.size a ≤ S8x7168x2816.size a) ∧
  (∀ (hinb : ∀ a, (k0_off60 v256) a + S1x512x2816.size a ≤ S8x7168x2816.size a), (Rect.unit (s := S8x7168x2816) (k0_off60 v256) S1x512x2816.size hinb).WholeWords (EltTy.packing .fp8e4m3)) ∧
  (∀ a, (k0_off61 v256) a + S1x512.size a ≤ S8x7168.size a) ∧
  (∀ a, (k0_off62 v256) a + S1x512.size a ≤ S8x7168.size a) ∧
  (∀ a, (k0_off65 v256) a + S1x512x2816.size a ≤ S8x7168x2816.size a) ∧
  (∀ (hinb : ∀ a, (k0_off65 v256) a + S1x512x2816.size a ≤ S8x7168x2816.size a), (Rect.unit (s := S8x7168x2816) (k0_off65 v256) S1x512x2816.size hinb).WholeWords (EltTy.packing .fp8e4m3))
def k0_chk3_1 (v256 : BitVec 32) : Prop :=
  (∀ a, (k0_off66 v256) a + S1x512x2816.size a ≤ S8x7168x2816.size a) ∧
  (∀ (hinb : ∀ a, (k0_off66 v256) a + S1x512x2816.size a ≤ S8x7168x2816.size a), (Rect.unit (s := S8x7168x2816) (k0_off66 v256) S1x512x2816.size hinb).WholeWords (EltTy.packing .fp8e4m3)) ∧
  (∀ a, (k0_off67 v256) a + S1x512.size a ≤ S8x7168.size a) ∧
  (∀ a, (k0_off68 v256) a + S1x512.size a ≤ S8x7168.size a) ∧
  (∀ a, (k0_off71 v256) a + S1x512x2816.size a ≤ S8x7168x2816.size a) ∧
  (∀ (hinb : ∀ a, (k0_off71 v256) a + S1x512x2816.size a ≤ S8x7168x2816.size a), (Rect.unit (s := S8x7168x2816) (k0_off71 v256) S1x512x2816.size hinb).WholeWords (EltTy.packing .fp8e4m3)) ∧
  (∀ a, (k0_off72 v256) a + S1x512x2816.size a ≤ S8x7168x2816.size a) ∧
  (∀ (hinb : ∀ a, (k0_off72 v256) a + S1x512x2816.size a ≤ S8x7168x2816.size a), (Rect.unit (s := S8x7168x2816) (k0_off72 v256) S1x512x2816.size hinb).WholeWords (EltTy.packing .fp8e4m3)) ∧
  (∀ a, (k0_off73 v256) a + S1x512.size a ≤ S8x7168.size a) ∧
  (∀ a, (k0_off74 v256) a + S1x512.size a ≤ S8x7168.size a) ∧
  (∀ a, (k0_off77 v256) a + S1x256x3584.size a ≤ S8x2816x3584.size a) ∧
  (∀ (hinb : ∀ a, (k0_off77 v256) a + S1x256x3584.size a ≤ S8x2816x3584.size a), (Rect.unit (s := S8x2816x3584) (k0_off77 v256) S1x256x3584.size hinb).WholeWords (EltTy.packing .fp8e4m3)) ∧
  (∀ a, (k0_off78 v256) a + S1x256.size a ≤ S8x2816.size a) ∧
  (∀ a, (k0_off80 v256) a + S1x256x3584.size a ≤ S8x2816x3584.size a) ∧
  (∀ (hinb : ∀ a, (k0_off80 v256) a + S1x256x3584.size a ≤ S8x2816x3584.size a), (Rect.unit (s := S8x2816x3584) (k0_off80 v256) S1x256x3584.size hinb).WholeWords (EltTy.packing .fp8e4m3)) ∧
  (∀ a, (k0_off81 v256) a + S1x256.size a ≤ S8x2816.size a) ∧
  (∀ a, (k0_off83 v256) a + S1x256x3584.size a ≤ S8x2816x3584.size a) ∧
  (∀ (hinb : ∀ a, (k0_off83 v256) a + S1x256x3584.size a ≤ S8x2816x3584.size a), (Rect.unit (s := S8x2816x3584) (k0_off83 v256) S1x256x3584.size hinb).WholeWords (EltTy.packing .fp8e4m3)) ∧
  (∀ a, (k0_off84 v256) a + S1x256.size a ≤ S8x2816.size a) ∧
  (∀ a, (k0_off86 v256) a + S1x256x3584.size a ≤ S8x2816x3584.size a) ∧
  (∀ (hinb : ∀ a, (k0_off86 v256) a + S1x256x3584.size a ≤ S8x2816x3584.size a), (Rect.unit (s := S8x2816x3584) (k0_off86 v256) S1x256x3584.size hinb).WholeWords (EltTy.packing .fp8e4m3)) ∧
  (∀ a, (k0_off87 v256) a + S1x256.size a ≤ S8x2816.size a) ∧
  (∀ a, (k0_off89 v256) a + S1x256x3584.size a ≤ S8x2816x3584.size a) ∧
  (∀ (hinb : ∀ a, (k0_off89 v256) a + S1x256x3584.size a ≤ S8x2816x3584.size a), (Rect.unit (s := S8x2816x3584) (k0_off89 v256) S1x256x3584.size hinb).WholeWords (EltTy.packing .fp8e4m3)) ∧
  (∀ a, (k0_off90 v256) a + S1x256.size a ≤ S8x2816.size a) ∧
  (∀ a, (k0_off92 v256) a + S1x256x3584.size a ≤ S8x2816x3584.size a) ∧
  (∀ (hinb : ∀ a, (k0_off92 v256) a + S1x256x3584.size a ≤ S8x2816x3584.size a), (Rect.unit (s := S8x2816x3584) (k0_off92 v256) S1x256x3584.size hinb).WholeWords (EltTy.packing .fp8e4m3)) ∧
  (∀ a, (k0_off93 v256) a + S1x256.size a ≤ S8x2816.size a) ∧
  (∀ a, (k0_off95 v256) a + S1x256x3584.size a ≤ S8x2816x3584.size a) ∧
  (∀ (hinb : ∀ a, (k0_off95 v256) a + S1x256x3584.size a ≤ S8x2816x3584.size a), (Rect.unit (s := S8x2816x3584) (k0_off95 v256) S1x256x3584.size hinb).WholeWords (EltTy.packing .fp8e4m3)) ∧
  (∀ a, (k0_off96 v256) a + S1x256.size a ≤ S8x2816.size a) ∧
  (∀ a, (k0_off98 v256) a + S1x256x3584.size a ≤ S8x2816x3584.size a)
def k0_chk3_2 (v256 : BitVec 32) : Prop :=
  (∀ (hinb : ∀ a, (k0_off98 v256) a + S1x256x3584.size a ≤ S8x2816x3584.size a), (Rect.unit (s := S8x2816x3584) (k0_off98 v256) S1x256x3584.size hinb).WholeWords (EltTy.packing .fp8e4m3)) ∧
  (∀ a, (k0_off99 v256) a + S1x256.size a ≤ S8x2816.size a) ∧
  (∀ a, (k0_off101 v256) a + S1x256x3584.size a ≤ S8x2816x3584.size a) ∧
  (∀ (hinb : ∀ a, (k0_off101 v256) a + S1x256x3584.size a ≤ S8x2816x3584.size a), (Rect.unit (s := S8x2816x3584) (k0_off101 v256) S1x256x3584.size hinb).WholeWords (EltTy.packing .fp8e4m3)) ∧
  (∀ a, (k0_off102 v256) a + S1x256.size a ≤ S8x2816.size a) ∧
  (∀ a, (k0_off104 v256) a + S1x256x3584.size a ≤ S8x2816x3584.size a) ∧
  (∀ (hinb : ∀ a, (k0_off104 v256) a + S1x256x3584.size a ≤ S8x2816x3584.size a), (Rect.unit (s := S8x2816x3584) (k0_off104 v256) S1x256x3584.size hinb).WholeWords (EltTy.packing .fp8e4m3)) ∧
  (∀ a, (k0_off105 v256) a + S1x256.size a ≤ S8x2816.size a) ∧
  (∀ a, (k0_off107 v256) a + S1x256x3584.size a ≤ S8x2816x3584.size a) ∧
  (∀ (hinb : ∀ a, (k0_off107 v256) a + S1x256x3584.size a ≤ S8x2816x3584.size a), (Rect.unit (s := S8x2816x3584) (k0_off107 v256) S1x256x3584.size hinb).WholeWords (EltTy.packing .fp8e4m3)) ∧
  (∀ a, (k0_off108 v256) a + S1x256.size a ≤ S8x2816.size a)
def k0_chk3 (v256 : BitVec 32) : Prop :=
  k0_chk3_0 v256 ∧
  k0_chk3_1 v256 ∧
  k0_chk3_2 v256
theorem k0_off35_inb : ∀ (v256 : BitVec 32) (k0_hw3 : k0_chk3 v256), ∀ a, (k0_off35 v256) a + S1x512x2816.size a ≤ S8x7168x2816.size a := fun v256 k0_hw3 => k0_hw3.1.1
theorem k0_off35_wordsfp8e4m3 : ∀ (v256 : BitVec 32) (k0_hw3 : k0_chk3 v256), (Rect.unit (s := S8x7168x2816) (k0_off35 v256) S1x512x2816.size (k0_off35_inb v256 k0_hw3)).WholeWords (EltTy.packing .fp8e4m3) := fun v256 k0_hw3 => k0_hw3.1.2.1 (k0_off35_inb v256 k0_hw3)
theorem k0_off36_inb : ∀ (v256 : BitVec 32) (k0_hw3 : k0_chk3 v256), ∀ a, (k0_off36 v256) a + S1x512x2816.size a ≤ S8x7168x2816.size a := fun v256 k0_hw3 => k0_hw3.1.2.2.1
theorem k0_off36_wordsfp8e4m3 : ∀ (v256 : BitVec 32) (k0_hw3 : k0_chk3 v256), (Rect.unit (s := S8x7168x2816) (k0_off36 v256) S1x512x2816.size (k0_off36_inb v256 k0_hw3)).WholeWords (EltTy.packing .fp8e4m3) := fun v256 k0_hw3 => k0_hw3.1.2.2.2.1 (k0_off36_inb v256 k0_hw3)
theorem k0_off37_inb : ∀ (v256 : BitVec 32) (k0_hw3 : k0_chk3 v256), ∀ a, (k0_off37 v256) a + S1x512.size a ≤ S8x7168.size a := fun v256 k0_hw3 => k0_hw3.1.2.2.2.2.1
theorem k0_off38_inb : ∀ (v256 : BitVec 32) (k0_hw3 : k0_chk3 v256), ∀ a, (k0_off38 v256) a + S1x512.size a ≤ S8x7168.size a := fun v256 k0_hw3 => k0_hw3.1.2.2.2.2.2.1
theorem k0_off41_inb : ∀ (v256 : BitVec 32) (k0_hw3 : k0_chk3 v256), ∀ a, (k0_off41 v256) a + S1x512x2816.size a ≤ S8x7168x2816.size a := fun v256 k0_hw3 => k0_hw3.1.2.2.2.2.2.2.1
theorem k0_off41_wordsfp8e4m3 : ∀ (v256 : BitVec 32) (k0_hw3 : k0_chk3 v256), (Rect.unit (s := S8x7168x2816) (k0_off41 v256) S1x512x2816.size (k0_off41_inb v256 k0_hw3)).WholeWords (EltTy.packing .fp8e4m3) := fun v256 k0_hw3 => k0_hw3.1.2.2.2.2.2.2.2.1 (k0_off41_inb v256 k0_hw3)
theorem k0_off42_inb : ∀ (v256 : BitVec 32) (k0_hw3 : k0_chk3 v256), ∀ a, (k0_off42 v256) a + S1x512x2816.size a ≤ S8x7168x2816.size a := fun v256 k0_hw3 => k0_hw3.1.2.2.2.2.2.2.2.2.1
theorem k0_off42_wordsfp8e4m3 : ∀ (v256 : BitVec 32) (k0_hw3 : k0_chk3 v256), (Rect.unit (s := S8x7168x2816) (k0_off42 v256) S1x512x2816.size (k0_off42_inb v256 k0_hw3)).WholeWords (EltTy.packing .fp8e4m3) := fun v256 k0_hw3 => k0_hw3.1.2.2.2.2.2.2.2.2.2.1 (k0_off42_inb v256 k0_hw3)
theorem k0_off43_inb : ∀ (v256 : BitVec 32) (k0_hw3 : k0_chk3 v256), ∀ a, (k0_off43 v256) a + S1x512.size a ≤ S8x7168.size a := fun v256 k0_hw3 => k0_hw3.1.2.2.2.2.2.2.2.2.2.2.1
theorem k0_off44_inb : ∀ (v256 : BitVec 32) (k0_hw3 : k0_chk3 v256), ∀ a, (k0_off44 v256) a + S1x512.size a ≤ S8x7168.size a := fun v256 k0_hw3 => k0_hw3.1.2.2.2.2.2.2.2.2.2.2.2.1
theorem k0_off47_inb : ∀ (v256 : BitVec 32) (k0_hw3 : k0_chk3 v256), ∀ a, (k0_off47 v256) a + S1x512x2816.size a ≤ S8x7168x2816.size a := fun v256 k0_hw3 => k0_hw3.1.2.2.2.2.2.2.2.2.2.2.2.2.1
theorem k0_off47_wordsfp8e4m3 : ∀ (v256 : BitVec 32) (k0_hw3 : k0_chk3 v256), (Rect.unit (s := S8x7168x2816) (k0_off47 v256) S1x512x2816.size (k0_off47_inb v256 k0_hw3)).WholeWords (EltTy.packing .fp8e4m3) := fun v256 k0_hw3 => k0_hw3.1.2.2.2.2.2.2.2.2.2.2.2.2.2.1 (k0_off47_inb v256 k0_hw3)
theorem k0_off48_inb : ∀ (v256 : BitVec 32) (k0_hw3 : k0_chk3 v256), ∀ a, (k0_off48 v256) a + S1x512x2816.size a ≤ S8x7168x2816.size a := fun v256 k0_hw3 => k0_hw3.1.2.2.2.2.2.2.2.2.2.2.2.2.2.2.1
theorem k0_off48_wordsfp8e4m3 : ∀ (v256 : BitVec 32) (k0_hw3 : k0_chk3 v256), (Rect.unit (s := S8x7168x2816) (k0_off48 v256) S1x512x2816.size (k0_off48_inb v256 k0_hw3)).WholeWords (EltTy.packing .fp8e4m3) := fun v256 k0_hw3 => k0_hw3.1.2.2.2.2.2.2.2.2.2.2.2.2.2.2.2.1 (k0_off48_inb v256 k0_hw3)
theorem k0_off49_inb : ∀ (v256 : BitVec 32) (k0_hw3 : k0_chk3 v256), ∀ a, (k0_off49 v256) a + S1x512.size a ≤ S8x7168.size a := fun v256 k0_hw3 => k0_hw3.1.2.2.2.2.2.2.2.2.2.2.2.2.2.2.2.2.1
theorem k0_off50_inb : ∀ (v256 : BitVec 32) (k0_hw3 : k0_chk3 v256), ∀ a, (k0_off50 v256) a + S1x512.size a ≤ S8x7168.size a := fun v256 k0_hw3 => k0_hw3.1.2.2.2.2.2.2.2.2.2.2.2.2.2.2.2.2.2.1
theorem k0_off53_inb : ∀ (v256 : BitVec 32) (k0_hw3 : k0_chk3 v256), ∀ a, (k0_off53 v256) a + S1x512x2816.size a ≤ S8x7168x2816.size a := fun v256 k0_hw3 => k0_hw3.1.2.2.2.2.2.2.2.2.2.2.2.2.2.2.2.2.2.2.1
theorem k0_off53_wordsfp8e4m3 : ∀ (v256 : BitVec 32) (k0_hw3 : k0_chk3 v256), (Rect.unit (s := S8x7168x2816) (k0_off53 v256) S1x512x2816.size (k0_off53_inb v256 k0_hw3)).WholeWords (EltTy.packing .fp8e4m3) := fun v256 k0_hw3 => k0_hw3.1.2.2.2.2.2.2.2.2.2.2.2.2.2.2.2.2.2.2.2.1 (k0_off53_inb v256 k0_hw3)
theorem k0_off54_inb : ∀ (v256 : BitVec 32) (k0_hw3 : k0_chk3 v256), ∀ a, (k0_off54 v256) a + S1x512x2816.size a ≤ S8x7168x2816.size a := fun v256 k0_hw3 => k0_hw3.1.2.2.2.2.2.2.2.2.2.2.2.2.2.2.2.2.2.2.2.2.1
theorem k0_off54_wordsfp8e4m3 : ∀ (v256 : BitVec 32) (k0_hw3 : k0_chk3 v256), (Rect.unit (s := S8x7168x2816) (k0_off54 v256) S1x512x2816.size (k0_off54_inb v256 k0_hw3)).WholeWords (EltTy.packing .fp8e4m3) := fun v256 k0_hw3 => k0_hw3.1.2.2.2.2.2.2.2.2.2.2.2.2.2.2.2.2.2.2.2.2.2.1 (k0_off54_inb v256 k0_hw3)
theorem k0_off55_inb : ∀ (v256 : BitVec 32) (k0_hw3 : k0_chk3 v256), ∀ a, (k0_off55 v256) a + S1x512.size a ≤ S8x7168.size a := fun v256 k0_hw3 => k0_hw3.1.2.2.2.2.2.2.2.2.2.2.2.2.2.2.2.2.2.2.2.2.2.2.1
theorem k0_off56_inb : ∀ (v256 : BitVec 32) (k0_hw3 : k0_chk3 v256), ∀ a, (k0_off56 v256) a + S1x512.size a ≤ S8x7168.size a := fun v256 k0_hw3 => k0_hw3.1.2.2.2.2.2.2.2.2.2.2.2.2.2.2.2.2.2.2.2.2.2.2.2.1
theorem k0_off59_inb : ∀ (v256 : BitVec 32) (k0_hw3 : k0_chk3 v256), ∀ a, (k0_off59 v256) a + S1x512x2816.size a ≤ S8x7168x2816.size a := fun v256 k0_hw3 => k0_hw3.1.2.2.2.2.2.2.2.2.2.2.2.2.2.2.2.2.2.2.2.2.2.2.2.2.1
theorem k0_off59_wordsfp8e4m3 : ∀ (v256 : BitVec 32) (k0_hw3 : k0_chk3 v256), (Rect.unit (s := S8x7168x2816) (k0_off59 v256) S1x512x2816.size (k0_off59_inb v256 k0_hw3)).WholeWords (EltTy.packing .fp8e4m3) := fun v256 k0_hw3 => k0_hw3.1.2.2.2.2.2.2.2.2.2.2.2.2.2.2.2.2.2.2.2.2.2.2.2.2.2.1 (k0_off59_inb v256 k0_hw3)
theorem k0_off60_inb : ∀ (v256 : BitVec 32) (k0_hw3 : k0_chk3 v256), ∀ a, (k0_off60 v256) a + S1x512x2816.size a ≤ S8x7168x2816.size a := fun v256 k0_hw3 => k0_hw3.1.2.2.2.2.2.2.2.2.2.2.2.2.2.2.2.2.2.2.2.2.2.2.2.2.2.2.1
theorem k0_off60_wordsfp8e4m3 : ∀ (v256 : BitVec 32) (k0_hw3 : k0_chk3 v256), (Rect.unit (s := S8x7168x2816) (k0_off60 v256) S1x512x2816.size (k0_off60_inb v256 k0_hw3)).WholeWords (EltTy.packing .fp8e4m3) := fun v256 k0_hw3 => k0_hw3.1.2.2.2.2.2.2.2.2.2.2.2.2.2.2.2.2.2.2.2.2.2.2.2.2.2.2.2.1 (k0_off60_inb v256 k0_hw3)
theorem k0_off61_inb : ∀ (v256 : BitVec 32) (k0_hw3 : k0_chk3 v256), ∀ a, (k0_off61 v256) a + S1x512.size a ≤ S8x7168.size a := fun v256 k0_hw3 => k0_hw3.1.2.2.2.2.2.2.2.2.2.2.2.2.2.2.2.2.2.2.2.2.2.2.2.2.2.2.2.2.1
theorem k0_off62_inb : ∀ (v256 : BitVec 32) (k0_hw3 : k0_chk3 v256), ∀ a, (k0_off62 v256) a + S1x512.size a ≤ S8x7168.size a := fun v256 k0_hw3 => k0_hw3.1.2.2.2.2.2.2.2.2.2.2.2.2.2.2.2.2.2.2.2.2.2.2.2.2.2.2.2.2.2.1
theorem k0_off65_inb : ∀ (v256 : BitVec 32) (k0_hw3 : k0_chk3 v256), ∀ a, (k0_off65 v256) a + S1x512x2816.size a ≤ S8x7168x2816.size a := fun v256 k0_hw3 => k0_hw3.1.2.2.2.2.2.2.2.2.2.2.2.2.2.2.2.2.2.2.2.2.2.2.2.2.2.2.2.2.2.2.1
theorem k0_off65_wordsfp8e4m3 : ∀ (v256 : BitVec 32) (k0_hw3 : k0_chk3 v256), (Rect.unit (s := S8x7168x2816) (k0_off65 v256) S1x512x2816.size (k0_off65_inb v256 k0_hw3)).WholeWords (EltTy.packing .fp8e4m3) := fun v256 k0_hw3 => k0_hw3.1.2.2.2.2.2.2.2.2.2.2.2.2.2.2.2.2.2.2.2.2.2.2.2.2.2.2.2.2.2.2.2 (k0_off65_inb v256 k0_hw3)
theorem k0_off66_inb : ∀ (v256 : BitVec 32) (k0_hw3 : k0_chk3 v256), ∀ a, (k0_off66 v256) a + S1x512x2816.size a ≤ S8x7168x2816.size a := fun v256 k0_hw3 => k0_hw3.2.1.1
theorem k0_off66_wordsfp8e4m3 : ∀ (v256 : BitVec 32) (k0_hw3 : k0_chk3 v256), (Rect.unit (s := S8x7168x2816) (k0_off66 v256) S1x512x2816.size (k0_off66_inb v256 k0_hw3)).WholeWords (EltTy.packing .fp8e4m3) := fun v256 k0_hw3 => k0_hw3.2.1.2.1 (k0_off66_inb v256 k0_hw3)
theorem k0_off67_inb : ∀ (v256 : BitVec 32) (k0_hw3 : k0_chk3 v256), ∀ a, (k0_off67 v256) a + S1x512.size a ≤ S8x7168.size a := fun v256 k0_hw3 => k0_hw3.2.1.2.2.1
theorem k0_off68_inb : ∀ (v256 : BitVec 32) (k0_hw3 : k0_chk3 v256), ∀ a, (k0_off68 v256) a + S1x512.size a ≤ S8x7168.size a := fun v256 k0_hw3 => k0_hw3.2.1.2.2.2.1
theorem k0_off71_inb : ∀ (v256 : BitVec 32) (k0_hw3 : k0_chk3 v256), ∀ a, (k0_off71 v256) a + S1x512x2816.size a ≤ S8x7168x2816.size a := fun v256 k0_hw3 => k0_hw3.2.1.2.2.2.2.1
theorem k0_off71_wordsfp8e4m3 : ∀ (v256 : BitVec 32) (k0_hw3 : k0_chk3 v256), (Rect.unit (s := S8x7168x2816) (k0_off71 v256) S1x512x2816.size (k0_off71_inb v256 k0_hw3)).WholeWords (EltTy.packing .fp8e4m3) := fun v256 k0_hw3 => k0_hw3.2.1.2.2.2.2.2.1 (k0_off71_inb v256 k0_hw3)
theorem k0_off72_inb : ∀ (v256 : BitVec 32) (k0_hw3 : k0_chk3 v256), ∀ a, (k0_off72 v256) a + S1x512x2816.size a ≤ S8x7168x2816.size a := fun v256 k0_hw3 => k0_hw3.2.1.2.2.2.2.2.2.1
theorem k0_off72_wordsfp8e4m3 : ∀ (v256 : BitVec 32) (k0_hw3 : k0_chk3 v256), (Rect.unit (s := S8x7168x2816) (k0_off72 v256) S1x512x2816.size (k0_off72_inb v256 k0_hw3)).WholeWords (EltTy.packing .fp8e4m3) := fun v256 k0_hw3 => k0_hw3.2.1.2.2.2.2.2.2.2.1 (k0_off72_inb v256 k0_hw3)
theorem k0_off73_inb : ∀ (v256 : BitVec 32) (k0_hw3 : k0_chk3 v256), ∀ a, (k0_off73 v256) a + S1x512.size a ≤ S8x7168.size a := fun v256 k0_hw3 => k0_hw3.2.1.2.2.2.2.2.2.2.2.1
theorem k0_off74_inb : ∀ (v256 : BitVec 32) (k0_hw3 : k0_chk3 v256), ∀ a, (k0_off74 v256) a + S1x512.size a ≤ S8x7168.size a := fun v256 k0_hw3 => k0_hw3.2.1.2.2.2.2.2.2.2.2.2.1
theorem k0_off77_inb : ∀ (v256 : BitVec 32) (k0_hw3 : k0_chk3 v256), ∀ a, (k0_off77 v256) a + S1x256x3584.size a ≤ S8x2816x3584.size a := fun v256 k0_hw3 => k0_hw3.2.1.2.2.2.2.2.2.2.2.2.2.1
theorem k0_off77_wordsfp8e4m3 : ∀ (v256 : BitVec 32) (k0_hw3 : k0_chk3 v256), (Rect.unit (s := S8x2816x3584) (k0_off77 v256) S1x256x3584.size (k0_off77_inb v256 k0_hw3)).WholeWords (EltTy.packing .fp8e4m3) := fun v256 k0_hw3 => k0_hw3.2.1.2.2.2.2.2.2.2.2.2.2.2.1 (k0_off77_inb v256 k0_hw3)
theorem k0_off78_inb : ∀ (v256 : BitVec 32) (k0_hw3 : k0_chk3 v256), ∀ a, (k0_off78 v256) a + S1x256.size a ≤ S8x2816.size a := fun v256 k0_hw3 => k0_hw3.2.1.2.2.2.2.2.2.2.2.2.2.2.2.1
theorem k0_off80_inb : ∀ (v256 : BitVec 32) (k0_hw3 : k0_chk3 v256), ∀ a, (k0_off80 v256) a + S1x256x3584.size a ≤ S8x2816x3584.size a := fun v256 k0_hw3 => k0_hw3.2.1.2.2.2.2.2.2.2.2.2.2.2.2.2.1
theorem k0_off80_wordsfp8e4m3 : ∀ (v256 : BitVec 32) (k0_hw3 : k0_chk3 v256), (Rect.unit (s := S8x2816x3584) (k0_off80 v256) S1x256x3584.size (k0_off80_inb v256 k0_hw3)).WholeWords (EltTy.packing .fp8e4m3) := fun v256 k0_hw3 => k0_hw3.2.1.2.2.2.2.2.2.2.2.2.2.2.2.2.2.1 (k0_off80_inb v256 k0_hw3)
theorem k0_off81_inb : ∀ (v256 : BitVec 32) (k0_hw3 : k0_chk3 v256), ∀ a, (k0_off81 v256) a + S1x256.size a ≤ S8x2816.size a := fun v256 k0_hw3 => k0_hw3.2.1.2.2.2.2.2.2.2.2.2.2.2.2.2.2.2.1
theorem k0_off83_inb : ∀ (v256 : BitVec 32) (k0_hw3 : k0_chk3 v256), ∀ a, (k0_off83 v256) a + S1x256x3584.size a ≤ S8x2816x3584.size a := fun v256 k0_hw3 => k0_hw3.2.1.2.2.2.2.2.2.2.2.2.2.2.2.2.2.2.2.1
theorem k0_off83_wordsfp8e4m3 : ∀ (v256 : BitVec 32) (k0_hw3 : k0_chk3 v256), (Rect.unit (s := S8x2816x3584) (k0_off83 v256) S1x256x3584.size (k0_off83_inb v256 k0_hw3)).WholeWords (EltTy.packing .fp8e4m3) := fun v256 k0_hw3 => k0_hw3.2.1.2.2.2.2.2.2.2.2.2.2.2.2.2.2.2.2.2.1 (k0_off83_inb v256 k0_hw3)
theorem k0_off84_inb : ∀ (v256 : BitVec 32) (k0_hw3 : k0_chk3 v256), ∀ a, (k0_off84 v256) a + S1x256.size a ≤ S8x2816.size a := fun v256 k0_hw3 => k0_hw3.2.1.2.2.2.2.2.2.2.2.2.2.2.2.2.2.2.2.2.2.1
theorem k0_off86_inb : ∀ (v256 : BitVec 32) (k0_hw3 : k0_chk3 v256), ∀ a, (k0_off86 v256) a + S1x256x3584.size a ≤ S8x2816x3584.size a := fun v256 k0_hw3 => k0_hw3.2.1.2.2.2.2.2.2.2.2.2.2.2.2.2.2.2.2.2.2.2.1
theorem k0_off86_wordsfp8e4m3 : ∀ (v256 : BitVec 32) (k0_hw3 : k0_chk3 v256), (Rect.unit (s := S8x2816x3584) (k0_off86 v256) S1x256x3584.size (k0_off86_inb v256 k0_hw3)).WholeWords (EltTy.packing .fp8e4m3) := fun v256 k0_hw3 => k0_hw3.2.1.2.2.2.2.2.2.2.2.2.2.2.2.2.2.2.2.2.2.2.2.1 (k0_off86_inb v256 k0_hw3)
theorem k0_off87_inb : ∀ (v256 : BitVec 32) (k0_hw3 : k0_chk3 v256), ∀ a, (k0_off87 v256) a + S1x256.size a ≤ S8x2816.size a := fun v256 k0_hw3 => k0_hw3.2.1.2.2.2.2.2.2.2.2.2.2.2.2.2.2.2.2.2.2.2.2.2.1
theorem k0_off89_inb : ∀ (v256 : BitVec 32) (k0_hw3 : k0_chk3 v256), ∀ a, (k0_off89 v256) a + S1x256x3584.size a ≤ S8x2816x3584.size a := fun v256 k0_hw3 => k0_hw3.2.1.2.2.2.2.2.2.2.2.2.2.2.2.2.2.2.2.2.2.2.2.2.2.1
theorem k0_off89_wordsfp8e4m3 : ∀ (v256 : BitVec 32) (k0_hw3 : k0_chk3 v256), (Rect.unit (s := S8x2816x3584) (k0_off89 v256) S1x256x3584.size (k0_off89_inb v256 k0_hw3)).WholeWords (EltTy.packing .fp8e4m3) := fun v256 k0_hw3 => k0_hw3.2.1.2.2.2.2.2.2.2.2.2.2.2.2.2.2.2.2.2.2.2.2.2.2.2.1 (k0_off89_inb v256 k0_hw3)
theorem k0_off90_inb : ∀ (v256 : BitVec 32) (k0_hw3 : k0_chk3 v256), ∀ a, (k0_off90 v256) a + S1x256.size a ≤ S8x2816.size a := fun v256 k0_hw3 => k0_hw3.2.1.2.2.2.2.2.2.2.2.2.2.2.2.2.2.2.2.2.2.2.2.2.2.2.2.1
theorem k0_off92_inb : ∀ (v256 : BitVec 32) (k0_hw3 : k0_chk3 v256), ∀ a, (k0_off92 v256) a + S1x256x3584.size a ≤ S8x2816x3584.size a := fun v256 k0_hw3 => k0_hw3.2.1.2.2.2.2.2.2.2.2.2.2.2.2.2.2.2.2.2.2.2.2.2.2.2.2.2.1
theorem k0_off92_wordsfp8e4m3 : ∀ (v256 : BitVec 32) (k0_hw3 : k0_chk3 v256), (Rect.unit (s := S8x2816x3584) (k0_off92 v256) S1x256x3584.size (k0_off92_inb v256 k0_hw3)).WholeWords (EltTy.packing .fp8e4m3) := fun v256 k0_hw3 => k0_hw3.2.1.2.2.2.2.2.2.2.2.2.2.2.2.2.2.2.2.2.2.2.2.2.2.2.2.2.2.1 (k0_off92_inb v256 k0_hw3)
theorem k0_off93_inb : ∀ (v256 : BitVec 32) (k0_hw3 : k0_chk3 v256), ∀ a, (k0_off93 v256) a + S1x256.size a ≤ S8x2816.size a := fun v256 k0_hw3 => k0_hw3.2.1.2.2.2.2.2.2.2.2.2.2.2.2.2.2.2.2.2.2.2.2.2.2.2.2.2.2.2.1
theorem k0_off95_inb : ∀ (v256 : BitVec 32) (k0_hw3 : k0_chk3 v256), ∀ a, (k0_off95 v256) a + S1x256x3584.size a ≤ S8x2816x3584.size a := fun v256 k0_hw3 => k0_hw3.2.1.2.2.2.2.2.2.2.2.2.2.2.2.2.2.2.2.2.2.2.2.2.2.2.2.2.2.2.2.1
theorem k0_off95_wordsfp8e4m3 : ∀ (v256 : BitVec 32) (k0_hw3 : k0_chk3 v256), (Rect.unit (s := S8x2816x3584) (k0_off95 v256) S1x256x3584.size (k0_off95_inb v256 k0_hw3)).WholeWords (EltTy.packing .fp8e4m3) := fun v256 k0_hw3 => k0_hw3.2.1.2.2.2.2.2.2.2.2.2.2.2.2.2.2.2.2.2.2.2.2.2.2.2.2.2.2.2.2.2.1 (k0_off95_inb v256 k0_hw3)
theorem k0_off96_inb : ∀ (v256 : BitVec 32) (k0_hw3 : k0_chk3 v256), ∀ a, (k0_off96 v256) a + S1x256.size a ≤ S8x2816.size a := fun v256 k0_hw3 => k0_hw3.2.1.2.2.2.2.2.2.2.2.2.2.2.2.2.2.2.2.2.2.2.2.2.2.2.2.2.2.2.2.2.2.1
theorem k0_off98_inb : ∀ (v256 : BitVec 32) (k0_hw3 : k0_chk3 v256), ∀ a, (k0_off98 v256) a + S1x256x3584.size a ≤ S8x2816x3584.size a := fun v256 k0_hw3 => k0_hw3.2.1.2.2.2.2.2.2.2.2.2.2.2.2.2.2.2.2.2.2.2.2.2.2.2.2.2.2.2.2.2.2.2
theorem k0_off98_wordsfp8e4m3 : ∀ (v256 : BitVec 32) (k0_hw3 : k0_chk3 v256), (Rect.unit (s := S8x2816x3584) (k0_off98 v256) S1x256x3584.size (k0_off98_inb v256 k0_hw3)).WholeWords (EltTy.packing .fp8e4m3) := fun v256 k0_hw3 => k0_hw3.2.2.1 (k0_off98_inb v256 k0_hw3)
theorem k0_off99_inb : ∀ (v256 : BitVec 32) (k0_hw3 : k0_chk3 v256), ∀ a, (k0_off99 v256) a + S1x256.size a ≤ S8x2816.size a := fun v256 k0_hw3 => k0_hw3.2.2.2.1
theorem k0_off101_inb : ∀ (v256 : BitVec 32) (k0_hw3 : k0_chk3 v256), ∀ a, (k0_off101 v256) a + S1x256x3584.size a ≤ S8x2816x3584.size a := fun v256 k0_hw3 => k0_hw3.2.2.2.2.1
theorem k0_off101_wordsfp8e4m3 : ∀ (v256 : BitVec 32) (k0_hw3 : k0_chk3 v256), (Rect.unit (s := S8x2816x3584) (k0_off101 v256) S1x256x3584.size (k0_off101_inb v256 k0_hw3)).WholeWords (EltTy.packing .fp8e4m3) := fun v256 k0_hw3 => k0_hw3.2.2.2.2.2.1 (k0_off101_inb v256 k0_hw3)
theorem k0_off102_inb : ∀ (v256 : BitVec 32) (k0_hw3 : k0_chk3 v256), ∀ a, (k0_off102 v256) a + S1x256.size a ≤ S8x2816.size a := fun v256 k0_hw3 => k0_hw3.2.2.2.2.2.2.1
theorem k0_off104_inb : ∀ (v256 : BitVec 32) (k0_hw3 : k0_chk3 v256), ∀ a, (k0_off104 v256) a + S1x256x3584.size a ≤ S8x2816x3584.size a := fun v256 k0_hw3 => k0_hw3.2.2.2.2.2.2.2.1
theorem k0_off104_wordsfp8e4m3 : ∀ (v256 : BitVec 32) (k0_hw3 : k0_chk3 v256), (Rect.unit (s := S8x2816x3584) (k0_off104 v256) S1x256x3584.size (k0_off104_inb v256 k0_hw3)).WholeWords (EltTy.packing .fp8e4m3) := fun v256 k0_hw3 => k0_hw3.2.2.2.2.2.2.2.2.1 (k0_off104_inb v256 k0_hw3)
theorem k0_off105_inb : ∀ (v256 : BitVec 32) (k0_hw3 : k0_chk3 v256), ∀ a, (k0_off105 v256) a + S1x256.size a ≤ S8x2816.size a := fun v256 k0_hw3 => k0_hw3.2.2.2.2.2.2.2.2.2.1
theorem k0_off107_inb : ∀ (v256 : BitVec 32) (k0_hw3 : k0_chk3 v256), ∀ a, (k0_off107 v256) a + S1x256x3584.size a ≤ S8x2816x3584.size a := fun v256 k0_hw3 => k0_hw3.2.2.2.2.2.2.2.2.2.2.1
theorem k0_off107_wordsfp8e4m3 : ∀ (v256 : BitVec 32) (k0_hw3 : k0_chk3 v256), (Rect.unit (s := S8x2816x3584) (k0_off107 v256) S1x256x3584.size (k0_off107_inb v256 k0_hw3)).WholeWords (EltTy.packing .fp8e4m3) := fun v256 k0_hw3 => k0_hw3.2.2.2.2.2.2.2.2.2.2.2.1 (k0_off107_inb v256 k0_hw3)
theorem k0_off108_inb : ∀ (v256 : BitVec 32) (k0_hw3 : k0_chk3 v256), ∀ a, (k0_off108 v256) a + S1x256.size a ≤ S8x2816.size a := fun v256 k0_hw3 => k0_hw3.2.2.2.2.2.2.2.2.2.2.2.2

def k0_off109 (v263 : BitVec 32) : Fin 3 → Nat :=
  let c2560_i32_669 : BitVec 32 := 2560#32
  let c0_i32_670 : BitVec 32 := 0#32
  ![v263.toNat, 2560, 0]
def k0_cond18 (v50 : BitVec 32) (k0_t1 : Fin (k0_t1_loop v50).trips) : BitVec 1 :=
  let c0_i32_200 : BitVec 32 := 0#32
  let c1_i32_203 : BitVec 32 := 1#32
  let arg16 : BitVec 32 := Scf.iv c0_i32_200 c1_i32_203 k0_t1
  let c1_i32_209 : BitVec 32 := 1#32
  let v257 : BitVec 32 := Scalar.addi arg16 c1_i32_209
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v258 : BitVec 1 := Scalar.cmpi .slt v257 v89
  let v876 : BitVec 32 := Scalar.extui v258
  let c0_i32_663 : BitVec 32 := 0#32
  let v877 : BitVec 1 := Scalar.cmpi .ne v876 c0_i32_663
  v877

def k0_chk4_0 (v50 : BitVec 32) (k0_t1 : Fin (k0_t1_loop v50).trips) (v263 : BitVec 32) : Prop :=
  (∀ (k0_h1 : k0_cond1 v50 k0_t1 = 1#1), ∀ a, (k0_off39 v263) a + S1x512x2816.size a ≤ S8x7168x2816.size a) ∧
  (∀ (k0_h1 : k0_cond1 v50 k0_t1 = 1#1), ∀ (hinb : ∀ a, (k0_off39 v263) a + S1x512x2816.size a ≤ S8x7168x2816.size a), (Rect.unit (s := S8x7168x2816) (k0_off39 v263) S1x512x2816.size hinb).WholeWords (EltTy.packing .fp8e4m3)) ∧
  (∀ (k0_h1 : k0_cond1 v50 k0_t1 = 1#1), ∀ a, (k0_off40 v263) a + S1x512x2816.size a ≤ S8x7168x2816.size a) ∧
  (∀ (k0_h1 : k0_cond1 v50 k0_t1 = 1#1), ∀ (hinb : ∀ a, (k0_off40 v263) a + S1x512x2816.size a ≤ S8x7168x2816.size a), (Rect.unit (s := S8x7168x2816) (k0_off40 v263) S1x512x2816.size hinb).WholeWords (EltTy.packing .fp8e4m3)) ∧
  (∀ (k0_h2 : k0_cond2 v50 k0_t1 = 1#1), ∀ a, (k0_off45 v263) a + S1x512x2816.size a ≤ S8x7168x2816.size a) ∧
  (∀ (k0_h2 : k0_cond2 v50 k0_t1 = 1#1), ∀ (hinb : ∀ a, (k0_off45 v263) a + S1x512x2816.size a ≤ S8x7168x2816.size a), (Rect.unit (s := S8x7168x2816) (k0_off45 v263) S1x512x2816.size hinb).WholeWords (EltTy.packing .fp8e4m3)) ∧
  (∀ (k0_h2 : k0_cond2 v50 k0_t1 = 1#1), ∀ a, (k0_off46 v263) a + S1x512x2816.size a ≤ S8x7168x2816.size a) ∧
  (∀ (k0_h2 : k0_cond2 v50 k0_t1 = 1#1), ∀ (hinb : ∀ a, (k0_off46 v263) a + S1x512x2816.size a ≤ S8x7168x2816.size a), (Rect.unit (s := S8x7168x2816) (k0_off46 v263) S1x512x2816.size hinb).WholeWords (EltTy.packing .fp8e4m3)) ∧
  (∀ (k0_h3 : k0_cond3 v50 k0_t1 = 1#1), ∀ a, (k0_off51 v263) a + S1x512x2816.size a ≤ S8x7168x2816.size a) ∧
  (∀ (k0_h3 : k0_cond3 v50 k0_t1 = 1#1), ∀ (hinb : ∀ a, (k0_off51 v263) a + S1x512x2816.size a ≤ S8x7168x2816.size a), (Rect.unit (s := S8x7168x2816) (k0_off51 v263) S1x512x2816.size hinb).WholeWords (EltTy.packing .fp8e4m3)) ∧
  (∀ (k0_h3 : k0_cond3 v50 k0_t1 = 1#1), ∀ a, (k0_off52 v263) a + S1x512x2816.size a ≤ S8x7168x2816.size a) ∧
  (∀ (k0_h3 : k0_cond3 v50 k0_t1 = 1#1), ∀ (hinb : ∀ a, (k0_off52 v263) a + S1x512x2816.size a ≤ S8x7168x2816.size a), (Rect.unit (s := S8x7168x2816) (k0_off52 v263) S1x512x2816.size hinb).WholeWords (EltTy.packing .fp8e4m3)) ∧
  (∀ (k0_h4 : k0_cond4 v50 k0_t1 = 1#1), ∀ a, (k0_off57 v263) a + S1x512x2816.size a ≤ S8x7168x2816.size a) ∧
  (∀ (k0_h4 : k0_cond4 v50 k0_t1 = 1#1), ∀ (hinb : ∀ a, (k0_off57 v263) a + S1x512x2816.size a ≤ S8x7168x2816.size a), (Rect.unit (s := S8x7168x2816) (k0_off57 v263) S1x512x2816.size hinb).WholeWords (EltTy.packing .fp8e4m3)) ∧
  (∀ (k0_h4 : k0_cond4 v50 k0_t1 = 1#1), ∀ a, (k0_off58 v263) a + S1x512x2816.size a ≤ S8x7168x2816.size a) ∧
  (∀ (k0_h4 : k0_cond4 v50 k0_t1 = 1#1), ∀ (hinb : ∀ a, (k0_off58 v263) a + S1x512x2816.size a ≤ S8x7168x2816.size a), (Rect.unit (s := S8x7168x2816) (k0_off58 v263) S1x512x2816.size hinb).WholeWords (EltTy.packing .fp8e4m3)) ∧
  (∀ (k0_h5 : k0_cond5 v50 k0_t1 = 1#1), ∀ a, (k0_off63 v263) a + S1x512x2816.size a ≤ S8x7168x2816.size a) ∧
  (∀ (k0_h5 : k0_cond5 v50 k0_t1 = 1#1), ∀ (hinb : ∀ a, (k0_off63 v263) a + S1x512x2816.size a ≤ S8x7168x2816.size a), (Rect.unit (s := S8x7168x2816) (k0_off63 v263) S1x512x2816.size hinb).WholeWords (EltTy.packing .fp8e4m3)) ∧
  (∀ (k0_h5 : k0_cond5 v50 k0_t1 = 1#1), ∀ a, (k0_off64 v263) a + S1x512x2816.size a ≤ S8x7168x2816.size a) ∧
  (∀ (k0_h5 : k0_cond5 v50 k0_t1 = 1#1), ∀ (hinb : ∀ a, (k0_off64 v263) a + S1x512x2816.size a ≤ S8x7168x2816.size a), (Rect.unit (s := S8x7168x2816) (k0_off64 v263) S1x512x2816.size hinb).WholeWords (EltTy.packing .fp8e4m3)) ∧
  (∀ (k0_h6 : k0_cond6 v50 k0_t1 = 1#1), ∀ a, (k0_off69 v263) a + S1x512x2816.size a ≤ S8x7168x2816.size a) ∧
  (∀ (k0_h6 : k0_cond6 v50 k0_t1 = 1#1), ∀ (hinb : ∀ a, (k0_off69 v263) a + S1x512x2816.size a ≤ S8x7168x2816.size a), (Rect.unit (s := S8x7168x2816) (k0_off69 v263) S1x512x2816.size hinb).WholeWords (EltTy.packing .fp8e4m3)) ∧
  (∀ (k0_h6 : k0_cond6 v50 k0_t1 = 1#1), ∀ a, (k0_off70 v263) a + S1x512x2816.size a ≤ S8x7168x2816.size a) ∧
  (∀ (k0_h6 : k0_cond6 v50 k0_t1 = 1#1), ∀ (hinb : ∀ a, (k0_off70 v263) a + S1x512x2816.size a ≤ S8x7168x2816.size a), (Rect.unit (s := S8x7168x2816) (k0_off70 v263) S1x512x2816.size hinb).WholeWords (EltTy.packing .fp8e4m3)) ∧
  (∀ (k0_h7 : k0_cond7 v50 k0_t1 = 1#1), ∀ a, (k0_off75 v263) a + S1x512x2816.size a ≤ S8x7168x2816.size a) ∧
  (∀ (k0_h7 : k0_cond7 v50 k0_t1 = 1#1), ∀ (hinb : ∀ a, (k0_off75 v263) a + S1x512x2816.size a ≤ S8x7168x2816.size a), (Rect.unit (s := S8x7168x2816) (k0_off75 v263) S1x512x2816.size hinb).WholeWords (EltTy.packing .fp8e4m3)) ∧
  (∀ (k0_h7 : k0_cond7 v50 k0_t1 = 1#1), ∀ a, (k0_off76 v263) a + S1x512x2816.size a ≤ S8x7168x2816.size a) ∧
  (∀ (k0_h7 : k0_cond7 v50 k0_t1 = 1#1), ∀ (hinb : ∀ a, (k0_off76 v263) a + S1x512x2816.size a ≤ S8x7168x2816.size a), (Rect.unit (s := S8x7168x2816) (k0_off76 v263) S1x512x2816.size hinb).WholeWords (EltTy.packing .fp8e4m3)) ∧
  (∀ (k0_h8 : k0_cond8 v50 k0_t1 = 1#1), ∀ a, (k0_off79 v263) a + S1x256x3584.size a ≤ S8x2816x3584.size a) ∧
  (∀ (k0_h8 : k0_cond8 v50 k0_t1 = 1#1), ∀ (hinb : ∀ a, (k0_off79 v263) a + S1x256x3584.size a ≤ S8x2816x3584.size a), (Rect.unit (s := S8x2816x3584) (k0_off79 v263) S1x256x3584.size hinb).WholeWords (EltTy.packing .fp8e4m3)) ∧
  (∀ (k0_h9 : k0_cond9 v50 k0_t1 = 1#1), ∀ a, (k0_off82 v263) a + S1x256x3584.size a ≤ S8x2816x3584.size a) ∧
  (∀ (k0_h9 : k0_cond9 v50 k0_t1 = 1#1), ∀ (hinb : ∀ a, (k0_off82 v263) a + S1x256x3584.size a ≤ S8x2816x3584.size a), (Rect.unit (s := S8x2816x3584) (k0_off82 v263) S1x256x3584.size hinb).WholeWords (EltTy.packing .fp8e4m3))
def k0_chk4_1 (v50 : BitVec 32) (k0_t1 : Fin (k0_t1_loop v50).trips) (v263 : BitVec 32) : Prop :=
  (∀ (k0_h10 : k0_cond10 v50 k0_t1 = 1#1), ∀ a, (k0_off85 v263) a + S1x256x3584.size a ≤ S8x2816x3584.size a) ∧
  (∀ (k0_h10 : k0_cond10 v50 k0_t1 = 1#1), ∀ (hinb : ∀ a, (k0_off85 v263) a + S1x256x3584.size a ≤ S8x2816x3584.size a), (Rect.unit (s := S8x2816x3584) (k0_off85 v263) S1x256x3584.size hinb).WholeWords (EltTy.packing .fp8e4m3)) ∧
  (∀ (k0_h11 : k0_cond11 v50 k0_t1 = 1#1), ∀ a, (k0_off88 v263) a + S1x256x3584.size a ≤ S8x2816x3584.size a) ∧
  (∀ (k0_h11 : k0_cond11 v50 k0_t1 = 1#1), ∀ (hinb : ∀ a, (k0_off88 v263) a + S1x256x3584.size a ≤ S8x2816x3584.size a), (Rect.unit (s := S8x2816x3584) (k0_off88 v263) S1x256x3584.size hinb).WholeWords (EltTy.packing .fp8e4m3)) ∧
  (∀ (k0_h12 : k0_cond12 v50 k0_t1 = 1#1), ∀ a, (k0_off91 v263) a + S1x256x3584.size a ≤ S8x2816x3584.size a) ∧
  (∀ (k0_h12 : k0_cond12 v50 k0_t1 = 1#1), ∀ (hinb : ∀ a, (k0_off91 v263) a + S1x256x3584.size a ≤ S8x2816x3584.size a), (Rect.unit (s := S8x2816x3584) (k0_off91 v263) S1x256x3584.size hinb).WholeWords (EltTy.packing .fp8e4m3)) ∧
  (∀ (k0_h13 : k0_cond13 v50 k0_t1 = 1#1), ∀ a, (k0_off94 v263) a + S1x256x3584.size a ≤ S8x2816x3584.size a) ∧
  (∀ (k0_h13 : k0_cond13 v50 k0_t1 = 1#1), ∀ (hinb : ∀ a, (k0_off94 v263) a + S1x256x3584.size a ≤ S8x2816x3584.size a), (Rect.unit (s := S8x2816x3584) (k0_off94 v263) S1x256x3584.size hinb).WholeWords (EltTy.packing .fp8e4m3)) ∧
  (∀ (k0_h14 : k0_cond14 v50 k0_t1 = 1#1), ∀ a, (k0_off97 v263) a + S1x256x3584.size a ≤ S8x2816x3584.size a) ∧
  (∀ (k0_h14 : k0_cond14 v50 k0_t1 = 1#1), ∀ (hinb : ∀ a, (k0_off97 v263) a + S1x256x3584.size a ≤ S8x2816x3584.size a), (Rect.unit (s := S8x2816x3584) (k0_off97 v263) S1x256x3584.size hinb).WholeWords (EltTy.packing .fp8e4m3)) ∧
  (∀ (k0_h15 : k0_cond15 v50 k0_t1 = 1#1), ∀ a, (k0_off100 v263) a + S1x256x3584.size a ≤ S8x2816x3584.size a) ∧
  (∀ (k0_h15 : k0_cond15 v50 k0_t1 = 1#1), ∀ (hinb : ∀ a, (k0_off100 v263) a + S1x256x3584.size a ≤ S8x2816x3584.size a), (Rect.unit (s := S8x2816x3584) (k0_off100 v263) S1x256x3584.size hinb).WholeWords (EltTy.packing .fp8e4m3)) ∧
  (∀ (k0_h16 : k0_cond16 v50 k0_t1 = 1#1), ∀ a, (k0_off103 v263) a + S1x256x3584.size a ≤ S8x2816x3584.size a) ∧
  (∀ (k0_h16 : k0_cond16 v50 k0_t1 = 1#1), ∀ (hinb : ∀ a, (k0_off103 v263) a + S1x256x3584.size a ≤ S8x2816x3584.size a), (Rect.unit (s := S8x2816x3584) (k0_off103 v263) S1x256x3584.size hinb).WholeWords (EltTy.packing .fp8e4m3)) ∧
  (∀ (k0_h17 : k0_cond17 v50 k0_t1 = 1#1), ∀ a, (k0_off106 v263) a + S1x256x3584.size a ≤ S8x2816x3584.size a) ∧
  (∀ (k0_h17 : k0_cond17 v50 k0_t1 = 1#1), ∀ (hinb : ∀ a, (k0_off106 v263) a + S1x256x3584.size a ≤ S8x2816x3584.size a), (Rect.unit (s := S8x2816x3584) (k0_off106 v263) S1x256x3584.size hinb).WholeWords (EltTy.packing .fp8e4m3)) ∧
  (∀ (k0_h18 : k0_cond18 v50 k0_t1 = 1#1), ∀ a, (k0_off109 v263) a + S1x256x3584.size a ≤ S8x2816x3584.size a) ∧
  (∀ (k0_h18 : k0_cond18 v50 k0_t1 = 1#1), ∀ (hinb : ∀ a, (k0_off109 v263) a + S1x256x3584.size a ≤ S8x2816x3584.size a), (Rect.unit (s := S8x2816x3584) (k0_off109 v263) S1x256x3584.size hinb).WholeWords (EltTy.packing .fp8e4m3))
def k0_chk4 (v50 : BitVec 32) (k0_t1 : Fin (k0_t1_loop v50).trips) (v263 : BitVec 32) : Prop :=
  k0_chk4_0 v50 k0_t1 v263 ∧
  k0_chk4_1 v50 k0_t1 v263
theorem k0_off39_inb : ∀ (v50 : BitVec 32) (k0_t1 : Fin (k0_t1_loop v50).trips) (v263 : BitVec 32) (k0_hw4 : k0_chk4 v50 k0_t1 v263), ∀ (k0_h1 : k0_cond1 v50 k0_t1 = 1#1), ∀ a, (k0_off39 v263) a + S1x512x2816.size a ≤ S8x7168x2816.size a := fun v50 k0_t1 v263 k0_hw4 k0_h1 => k0_hw4.1.1 k0_h1
theorem k0_off39_wordsfp8e4m3 : ∀ (v50 : BitVec 32) (k0_t1 : Fin (k0_t1_loop v50).trips) (v263 : BitVec 32) (k0_hw4 : k0_chk4 v50 k0_t1 v263), ∀ (k0_h1 : k0_cond1 v50 k0_t1 = 1#1), (Rect.unit (s := S8x7168x2816) (k0_off39 v263) S1x512x2816.size (k0_off39_inb v50 k0_t1 v263 k0_hw4 k0_h1)).WholeWords (EltTy.packing .fp8e4m3) := fun v50 k0_t1 v263 k0_hw4 k0_h1 => k0_hw4.1.2.1 k0_h1 (k0_off39_inb v50 k0_t1 v263 k0_hw4 k0_h1)
theorem k0_off40_inb : ∀ (v50 : BitVec 32) (k0_t1 : Fin (k0_t1_loop v50).trips) (v263 : BitVec 32) (k0_hw4 : k0_chk4 v50 k0_t1 v263), ∀ (k0_h1 : k0_cond1 v50 k0_t1 = 1#1), ∀ a, (k0_off40 v263) a + S1x512x2816.size a ≤ S8x7168x2816.size a := fun v50 k0_t1 v263 k0_hw4 k0_h1 => k0_hw4.1.2.2.1 k0_h1
theorem k0_off40_wordsfp8e4m3 : ∀ (v50 : BitVec 32) (k0_t1 : Fin (k0_t1_loop v50).trips) (v263 : BitVec 32) (k0_hw4 : k0_chk4 v50 k0_t1 v263), ∀ (k0_h1 : k0_cond1 v50 k0_t1 = 1#1), (Rect.unit (s := S8x7168x2816) (k0_off40 v263) S1x512x2816.size (k0_off40_inb v50 k0_t1 v263 k0_hw4 k0_h1)).WholeWords (EltTy.packing .fp8e4m3) := fun v50 k0_t1 v263 k0_hw4 k0_h1 => k0_hw4.1.2.2.2.1 k0_h1 (k0_off40_inb v50 k0_t1 v263 k0_hw4 k0_h1)
theorem k0_off45_inb : ∀ (v50 : BitVec 32) (k0_t1 : Fin (k0_t1_loop v50).trips) (v263 : BitVec 32) (k0_hw4 : k0_chk4 v50 k0_t1 v263), ∀ (k0_h2 : k0_cond2 v50 k0_t1 = 1#1), ∀ a, (k0_off45 v263) a + S1x512x2816.size a ≤ S8x7168x2816.size a := fun v50 k0_t1 v263 k0_hw4 k0_h2 => k0_hw4.1.2.2.2.2.1 k0_h2
theorem k0_off45_wordsfp8e4m3 : ∀ (v50 : BitVec 32) (k0_t1 : Fin (k0_t1_loop v50).trips) (v263 : BitVec 32) (k0_hw4 : k0_chk4 v50 k0_t1 v263), ∀ (k0_h2 : k0_cond2 v50 k0_t1 = 1#1), (Rect.unit (s := S8x7168x2816) (k0_off45 v263) S1x512x2816.size (k0_off45_inb v50 k0_t1 v263 k0_hw4 k0_h2)).WholeWords (EltTy.packing .fp8e4m3) := fun v50 k0_t1 v263 k0_hw4 k0_h2 => k0_hw4.1.2.2.2.2.2.1 k0_h2 (k0_off45_inb v50 k0_t1 v263 k0_hw4 k0_h2)
theorem k0_off46_inb : ∀ (v50 : BitVec 32) (k0_t1 : Fin (k0_t1_loop v50).trips) (v263 : BitVec 32) (k0_hw4 : k0_chk4 v50 k0_t1 v263), ∀ (k0_h2 : k0_cond2 v50 k0_t1 = 1#1), ∀ a, (k0_off46 v263) a + S1x512x2816.size a ≤ S8x7168x2816.size a := fun v50 k0_t1 v263 k0_hw4 k0_h2 => k0_hw4.1.2.2.2.2.2.2.1 k0_h2
theorem k0_off46_wordsfp8e4m3 : ∀ (v50 : BitVec 32) (k0_t1 : Fin (k0_t1_loop v50).trips) (v263 : BitVec 32) (k0_hw4 : k0_chk4 v50 k0_t1 v263), ∀ (k0_h2 : k0_cond2 v50 k0_t1 = 1#1), (Rect.unit (s := S8x7168x2816) (k0_off46 v263) S1x512x2816.size (k0_off46_inb v50 k0_t1 v263 k0_hw4 k0_h2)).WholeWords (EltTy.packing .fp8e4m3) := fun v50 k0_t1 v263 k0_hw4 k0_h2 => k0_hw4.1.2.2.2.2.2.2.2.1 k0_h2 (k0_off46_inb v50 k0_t1 v263 k0_hw4 k0_h2)
theorem k0_off51_inb : ∀ (v50 : BitVec 32) (k0_t1 : Fin (k0_t1_loop v50).trips) (v263 : BitVec 32) (k0_hw4 : k0_chk4 v50 k0_t1 v263), ∀ (k0_h3 : k0_cond3 v50 k0_t1 = 1#1), ∀ a, (k0_off51 v263) a + S1x512x2816.size a ≤ S8x7168x2816.size a := fun v50 k0_t1 v263 k0_hw4 k0_h3 => k0_hw4.1.2.2.2.2.2.2.2.2.1 k0_h3
theorem k0_off51_wordsfp8e4m3 : ∀ (v50 : BitVec 32) (k0_t1 : Fin (k0_t1_loop v50).trips) (v263 : BitVec 32) (k0_hw4 : k0_chk4 v50 k0_t1 v263), ∀ (k0_h3 : k0_cond3 v50 k0_t1 = 1#1), (Rect.unit (s := S8x7168x2816) (k0_off51 v263) S1x512x2816.size (k0_off51_inb v50 k0_t1 v263 k0_hw4 k0_h3)).WholeWords (EltTy.packing .fp8e4m3) := fun v50 k0_t1 v263 k0_hw4 k0_h3 => k0_hw4.1.2.2.2.2.2.2.2.2.2.1 k0_h3 (k0_off51_inb v50 k0_t1 v263 k0_hw4 k0_h3)
theorem k0_off52_inb : ∀ (v50 : BitVec 32) (k0_t1 : Fin (k0_t1_loop v50).trips) (v263 : BitVec 32) (k0_hw4 : k0_chk4 v50 k0_t1 v263), ∀ (k0_h3 : k0_cond3 v50 k0_t1 = 1#1), ∀ a, (k0_off52 v263) a + S1x512x2816.size a ≤ S8x7168x2816.size a := fun v50 k0_t1 v263 k0_hw4 k0_h3 => k0_hw4.1.2.2.2.2.2.2.2.2.2.2.1 k0_h3
theorem k0_off52_wordsfp8e4m3 : ∀ (v50 : BitVec 32) (k0_t1 : Fin (k0_t1_loop v50).trips) (v263 : BitVec 32) (k0_hw4 : k0_chk4 v50 k0_t1 v263), ∀ (k0_h3 : k0_cond3 v50 k0_t1 = 1#1), (Rect.unit (s := S8x7168x2816) (k0_off52 v263) S1x512x2816.size (k0_off52_inb v50 k0_t1 v263 k0_hw4 k0_h3)).WholeWords (EltTy.packing .fp8e4m3) := fun v50 k0_t1 v263 k0_hw4 k0_h3 => k0_hw4.1.2.2.2.2.2.2.2.2.2.2.2.1 k0_h3 (k0_off52_inb v50 k0_t1 v263 k0_hw4 k0_h3)
theorem k0_off57_inb : ∀ (v50 : BitVec 32) (k0_t1 : Fin (k0_t1_loop v50).trips) (v263 : BitVec 32) (k0_hw4 : k0_chk4 v50 k0_t1 v263), ∀ (k0_h4 : k0_cond4 v50 k0_t1 = 1#1), ∀ a, (k0_off57 v263) a + S1x512x2816.size a ≤ S8x7168x2816.size a := fun v50 k0_t1 v263 k0_hw4 k0_h4 => k0_hw4.1.2.2.2.2.2.2.2.2.2.2.2.2.1 k0_h4
theorem k0_off57_wordsfp8e4m3 : ∀ (v50 : BitVec 32) (k0_t1 : Fin (k0_t1_loop v50).trips) (v263 : BitVec 32) (k0_hw4 : k0_chk4 v50 k0_t1 v263), ∀ (k0_h4 : k0_cond4 v50 k0_t1 = 1#1), (Rect.unit (s := S8x7168x2816) (k0_off57 v263) S1x512x2816.size (k0_off57_inb v50 k0_t1 v263 k0_hw4 k0_h4)).WholeWords (EltTy.packing .fp8e4m3) := fun v50 k0_t1 v263 k0_hw4 k0_h4 => k0_hw4.1.2.2.2.2.2.2.2.2.2.2.2.2.2.1 k0_h4 (k0_off57_inb v50 k0_t1 v263 k0_hw4 k0_h4)
theorem k0_off58_inb : ∀ (v50 : BitVec 32) (k0_t1 : Fin (k0_t1_loop v50).trips) (v263 : BitVec 32) (k0_hw4 : k0_chk4 v50 k0_t1 v263), ∀ (k0_h4 : k0_cond4 v50 k0_t1 = 1#1), ∀ a, (k0_off58 v263) a + S1x512x2816.size a ≤ S8x7168x2816.size a := fun v50 k0_t1 v263 k0_hw4 k0_h4 => k0_hw4.1.2.2.2.2.2.2.2.2.2.2.2.2.2.2.1 k0_h4
theorem k0_off58_wordsfp8e4m3 : ∀ (v50 : BitVec 32) (k0_t1 : Fin (k0_t1_loop v50).trips) (v263 : BitVec 32) (k0_hw4 : k0_chk4 v50 k0_t1 v263), ∀ (k0_h4 : k0_cond4 v50 k0_t1 = 1#1), (Rect.unit (s := S8x7168x2816) (k0_off58 v263) S1x512x2816.size (k0_off58_inb v50 k0_t1 v263 k0_hw4 k0_h4)).WholeWords (EltTy.packing .fp8e4m3) := fun v50 k0_t1 v263 k0_hw4 k0_h4 => k0_hw4.1.2.2.2.2.2.2.2.2.2.2.2.2.2.2.2.1 k0_h4 (k0_off58_inb v50 k0_t1 v263 k0_hw4 k0_h4)
theorem k0_off63_inb : ∀ (v50 : BitVec 32) (k0_t1 : Fin (k0_t1_loop v50).trips) (v263 : BitVec 32) (k0_hw4 : k0_chk4 v50 k0_t1 v263), ∀ (k0_h5 : k0_cond5 v50 k0_t1 = 1#1), ∀ a, (k0_off63 v263) a + S1x512x2816.size a ≤ S8x7168x2816.size a := fun v50 k0_t1 v263 k0_hw4 k0_h5 => k0_hw4.1.2.2.2.2.2.2.2.2.2.2.2.2.2.2.2.2.1 k0_h5
theorem k0_off63_wordsfp8e4m3 : ∀ (v50 : BitVec 32) (k0_t1 : Fin (k0_t1_loop v50).trips) (v263 : BitVec 32) (k0_hw4 : k0_chk4 v50 k0_t1 v263), ∀ (k0_h5 : k0_cond5 v50 k0_t1 = 1#1), (Rect.unit (s := S8x7168x2816) (k0_off63 v263) S1x512x2816.size (k0_off63_inb v50 k0_t1 v263 k0_hw4 k0_h5)).WholeWords (EltTy.packing .fp8e4m3) := fun v50 k0_t1 v263 k0_hw4 k0_h5 => k0_hw4.1.2.2.2.2.2.2.2.2.2.2.2.2.2.2.2.2.2.1 k0_h5 (k0_off63_inb v50 k0_t1 v263 k0_hw4 k0_h5)
theorem k0_off64_inb : ∀ (v50 : BitVec 32) (k0_t1 : Fin (k0_t1_loop v50).trips) (v263 : BitVec 32) (k0_hw4 : k0_chk4 v50 k0_t1 v263), ∀ (k0_h5 : k0_cond5 v50 k0_t1 = 1#1), ∀ a, (k0_off64 v263) a + S1x512x2816.size a ≤ S8x7168x2816.size a := fun v50 k0_t1 v263 k0_hw4 k0_h5 => k0_hw4.1.2.2.2.2.2.2.2.2.2.2.2.2.2.2.2.2.2.2.1 k0_h5
theorem k0_off64_wordsfp8e4m3 : ∀ (v50 : BitVec 32) (k0_t1 : Fin (k0_t1_loop v50).trips) (v263 : BitVec 32) (k0_hw4 : k0_chk4 v50 k0_t1 v263), ∀ (k0_h5 : k0_cond5 v50 k0_t1 = 1#1), (Rect.unit (s := S8x7168x2816) (k0_off64 v263) S1x512x2816.size (k0_off64_inb v50 k0_t1 v263 k0_hw4 k0_h5)).WholeWords (EltTy.packing .fp8e4m3) := fun v50 k0_t1 v263 k0_hw4 k0_h5 => k0_hw4.1.2.2.2.2.2.2.2.2.2.2.2.2.2.2.2.2.2.2.2.1 k0_h5 (k0_off64_inb v50 k0_t1 v263 k0_hw4 k0_h5)
theorem k0_off69_inb : ∀ (v50 : BitVec 32) (k0_t1 : Fin (k0_t1_loop v50).trips) (v263 : BitVec 32) (k0_hw4 : k0_chk4 v50 k0_t1 v263), ∀ (k0_h6 : k0_cond6 v50 k0_t1 = 1#1), ∀ a, (k0_off69 v263) a + S1x512x2816.size a ≤ S8x7168x2816.size a := fun v50 k0_t1 v263 k0_hw4 k0_h6 => k0_hw4.1.2.2.2.2.2.2.2.2.2.2.2.2.2.2.2.2.2.2.2.2.1 k0_h6
theorem k0_off69_wordsfp8e4m3 : ∀ (v50 : BitVec 32) (k0_t1 : Fin (k0_t1_loop v50).trips) (v263 : BitVec 32) (k0_hw4 : k0_chk4 v50 k0_t1 v263), ∀ (k0_h6 : k0_cond6 v50 k0_t1 = 1#1), (Rect.unit (s := S8x7168x2816) (k0_off69 v263) S1x512x2816.size (k0_off69_inb v50 k0_t1 v263 k0_hw4 k0_h6)).WholeWords (EltTy.packing .fp8e4m3) := fun v50 k0_t1 v263 k0_hw4 k0_h6 => k0_hw4.1.2.2.2.2.2.2.2.2.2.2.2.2.2.2.2.2.2.2.2.2.2.1 k0_h6 (k0_off69_inb v50 k0_t1 v263 k0_hw4 k0_h6)
theorem k0_off70_inb : ∀ (v50 : BitVec 32) (k0_t1 : Fin (k0_t1_loop v50).trips) (v263 : BitVec 32) (k0_hw4 : k0_chk4 v50 k0_t1 v263), ∀ (k0_h6 : k0_cond6 v50 k0_t1 = 1#1), ∀ a, (k0_off70 v263) a + S1x512x2816.size a ≤ S8x7168x2816.size a := fun v50 k0_t1 v263 k0_hw4 k0_h6 => k0_hw4.1.2.2.2.2.2.2.2.2.2.2.2.2.2.2.2.2.2.2.2.2.2.2.1 k0_h6
theorem k0_off70_wordsfp8e4m3 : ∀ (v50 : BitVec 32) (k0_t1 : Fin (k0_t1_loop v50).trips) (v263 : BitVec 32) (k0_hw4 : k0_chk4 v50 k0_t1 v263), ∀ (k0_h6 : k0_cond6 v50 k0_t1 = 1#1), (Rect.unit (s := S8x7168x2816) (k0_off70 v263) S1x512x2816.size (k0_off70_inb v50 k0_t1 v263 k0_hw4 k0_h6)).WholeWords (EltTy.packing .fp8e4m3) := fun v50 k0_t1 v263 k0_hw4 k0_h6 => k0_hw4.1.2.2.2.2.2.2.2.2.2.2.2.2.2.2.2.2.2.2.2.2.2.2.2.1 k0_h6 (k0_off70_inb v50 k0_t1 v263 k0_hw4 k0_h6)
theorem k0_off75_inb : ∀ (v50 : BitVec 32) (k0_t1 : Fin (k0_t1_loop v50).trips) (v263 : BitVec 32) (k0_hw4 : k0_chk4 v50 k0_t1 v263), ∀ (k0_h7 : k0_cond7 v50 k0_t1 = 1#1), ∀ a, (k0_off75 v263) a + S1x512x2816.size a ≤ S8x7168x2816.size a := fun v50 k0_t1 v263 k0_hw4 k0_h7 => k0_hw4.1.2.2.2.2.2.2.2.2.2.2.2.2.2.2.2.2.2.2.2.2.2.2.2.2.1 k0_h7
theorem k0_off75_wordsfp8e4m3 : ∀ (v50 : BitVec 32) (k0_t1 : Fin (k0_t1_loop v50).trips) (v263 : BitVec 32) (k0_hw4 : k0_chk4 v50 k0_t1 v263), ∀ (k0_h7 : k0_cond7 v50 k0_t1 = 1#1), (Rect.unit (s := S8x7168x2816) (k0_off75 v263) S1x512x2816.size (k0_off75_inb v50 k0_t1 v263 k0_hw4 k0_h7)).WholeWords (EltTy.packing .fp8e4m3) := fun v50 k0_t1 v263 k0_hw4 k0_h7 => k0_hw4.1.2.2.2.2.2.2.2.2.2.2.2.2.2.2.2.2.2.2.2.2.2.2.2.2.2.1 k0_h7 (k0_off75_inb v50 k0_t1 v263 k0_hw4 k0_h7)
theorem k0_off76_inb : ∀ (v50 : BitVec 32) (k0_t1 : Fin (k0_t1_loop v50).trips) (v263 : BitVec 32) (k0_hw4 : k0_chk4 v50 k0_t1 v263), ∀ (k0_h7 : k0_cond7 v50 k0_t1 = 1#1), ∀ a, (k0_off76 v263) a + S1x512x2816.size a ≤ S8x7168x2816.size a := fun v50 k0_t1 v263 k0_hw4 k0_h7 => k0_hw4.1.2.2.2.2.2.2.2.2.2.2.2.2.2.2.2.2.2.2.2.2.2.2.2.2.2.2.1 k0_h7
theorem k0_off76_wordsfp8e4m3 : ∀ (v50 : BitVec 32) (k0_t1 : Fin (k0_t1_loop v50).trips) (v263 : BitVec 32) (k0_hw4 : k0_chk4 v50 k0_t1 v263), ∀ (k0_h7 : k0_cond7 v50 k0_t1 = 1#1), (Rect.unit (s := S8x7168x2816) (k0_off76 v263) S1x512x2816.size (k0_off76_inb v50 k0_t1 v263 k0_hw4 k0_h7)).WholeWords (EltTy.packing .fp8e4m3) := fun v50 k0_t1 v263 k0_hw4 k0_h7 => k0_hw4.1.2.2.2.2.2.2.2.2.2.2.2.2.2.2.2.2.2.2.2.2.2.2.2.2.2.2.2.1 k0_h7 (k0_off76_inb v50 k0_t1 v263 k0_hw4 k0_h7)
theorem k0_off79_inb : ∀ (v50 : BitVec 32) (k0_t1 : Fin (k0_t1_loop v50).trips) (v263 : BitVec 32) (k0_hw4 : k0_chk4 v50 k0_t1 v263), ∀ (k0_h8 : k0_cond8 v50 k0_t1 = 1#1), ∀ a, (k0_off79 v263) a + S1x256x3584.size a ≤ S8x2816x3584.size a := fun v50 k0_t1 v263 k0_hw4 k0_h8 => k0_hw4.1.2.2.2.2.2.2.2.2.2.2.2.2.2.2.2.2.2.2.2.2.2.2.2.2.2.2.2.2.1 k0_h8
theorem k0_off79_wordsfp8e4m3 : ∀ (v50 : BitVec 32) (k0_t1 : Fin (k0_t1_loop v50).trips) (v263 : BitVec 32) (k0_hw4 : k0_chk4 v50 k0_t1 v263), ∀ (k0_h8 : k0_cond8 v50 k0_t1 = 1#1), (Rect.unit (s := S8x2816x3584) (k0_off79 v263) S1x256x3584.size (k0_off79_inb v50 k0_t1 v263 k0_hw4 k0_h8)).WholeWords (EltTy.packing .fp8e4m3) := fun v50 k0_t1 v263 k0_hw4 k0_h8 => k0_hw4.1.2.2.2.2.2.2.2.2.2.2.2.2.2.2.2.2.2.2.2.2.2.2.2.2.2.2.2.2.2.1 k0_h8 (k0_off79_inb v50 k0_t1 v263 k0_hw4 k0_h8)
theorem k0_off82_inb : ∀ (v50 : BitVec 32) (k0_t1 : Fin (k0_t1_loop v50).trips) (v263 : BitVec 32) (k0_hw4 : k0_chk4 v50 k0_t1 v263), ∀ (k0_h9 : k0_cond9 v50 k0_t1 = 1#1), ∀ a, (k0_off82 v263) a + S1x256x3584.size a ≤ S8x2816x3584.size a := fun v50 k0_t1 v263 k0_hw4 k0_h9 => k0_hw4.1.2.2.2.2.2.2.2.2.2.2.2.2.2.2.2.2.2.2.2.2.2.2.2.2.2.2.2.2.2.2.1 k0_h9
theorem k0_off82_wordsfp8e4m3 : ∀ (v50 : BitVec 32) (k0_t1 : Fin (k0_t1_loop v50).trips) (v263 : BitVec 32) (k0_hw4 : k0_chk4 v50 k0_t1 v263), ∀ (k0_h9 : k0_cond9 v50 k0_t1 = 1#1), (Rect.unit (s := S8x2816x3584) (k0_off82 v263) S1x256x3584.size (k0_off82_inb v50 k0_t1 v263 k0_hw4 k0_h9)).WholeWords (EltTy.packing .fp8e4m3) := fun v50 k0_t1 v263 k0_hw4 k0_h9 => k0_hw4.1.2.2.2.2.2.2.2.2.2.2.2.2.2.2.2.2.2.2.2.2.2.2.2.2.2.2.2.2.2.2.2 k0_h9 (k0_off82_inb v50 k0_t1 v263 k0_hw4 k0_h9)
theorem k0_off85_inb : ∀ (v50 : BitVec 32) (k0_t1 : Fin (k0_t1_loop v50).trips) (v263 : BitVec 32) (k0_hw4 : k0_chk4 v50 k0_t1 v263), ∀ (k0_h10 : k0_cond10 v50 k0_t1 = 1#1), ∀ a, (k0_off85 v263) a + S1x256x3584.size a ≤ S8x2816x3584.size a := fun v50 k0_t1 v263 k0_hw4 k0_h10 => k0_hw4.2.1 k0_h10
theorem k0_off85_wordsfp8e4m3 : ∀ (v50 : BitVec 32) (k0_t1 : Fin (k0_t1_loop v50).trips) (v263 : BitVec 32) (k0_hw4 : k0_chk4 v50 k0_t1 v263), ∀ (k0_h10 : k0_cond10 v50 k0_t1 = 1#1), (Rect.unit (s := S8x2816x3584) (k0_off85 v263) S1x256x3584.size (k0_off85_inb v50 k0_t1 v263 k0_hw4 k0_h10)).WholeWords (EltTy.packing .fp8e4m3) := fun v50 k0_t1 v263 k0_hw4 k0_h10 => k0_hw4.2.2.1 k0_h10 (k0_off85_inb v50 k0_t1 v263 k0_hw4 k0_h10)
theorem k0_off88_inb : ∀ (v50 : BitVec 32) (k0_t1 : Fin (k0_t1_loop v50).trips) (v263 : BitVec 32) (k0_hw4 : k0_chk4 v50 k0_t1 v263), ∀ (k0_h11 : k0_cond11 v50 k0_t1 = 1#1), ∀ a, (k0_off88 v263) a + S1x256x3584.size a ≤ S8x2816x3584.size a := fun v50 k0_t1 v263 k0_hw4 k0_h11 => k0_hw4.2.2.2.1 k0_h11
theorem k0_off88_wordsfp8e4m3 : ∀ (v50 : BitVec 32) (k0_t1 : Fin (k0_t1_loop v50).trips) (v263 : BitVec 32) (k0_hw4 : k0_chk4 v50 k0_t1 v263), ∀ (k0_h11 : k0_cond11 v50 k0_t1 = 1#1), (Rect.unit (s := S8x2816x3584) (k0_off88 v263) S1x256x3584.size (k0_off88_inb v50 k0_t1 v263 k0_hw4 k0_h11)).WholeWords (EltTy.packing .fp8e4m3) := fun v50 k0_t1 v263 k0_hw4 k0_h11 => k0_hw4.2.2.2.2.1 k0_h11 (k0_off88_inb v50 k0_t1 v263 k0_hw4 k0_h11)
theorem k0_off91_inb : ∀ (v50 : BitVec 32) (k0_t1 : Fin (k0_t1_loop v50).trips) (v263 : BitVec 32) (k0_hw4 : k0_chk4 v50 k0_t1 v263), ∀ (k0_h12 : k0_cond12 v50 k0_t1 = 1#1), ∀ a, (k0_off91 v263) a + S1x256x3584.size a ≤ S8x2816x3584.size a := fun v50 k0_t1 v263 k0_hw4 k0_h12 => k0_hw4.2.2.2.2.2.1 k0_h12
theorem k0_off91_wordsfp8e4m3 : ∀ (v50 : BitVec 32) (k0_t1 : Fin (k0_t1_loop v50).trips) (v263 : BitVec 32) (k0_hw4 : k0_chk4 v50 k0_t1 v263), ∀ (k0_h12 : k0_cond12 v50 k0_t1 = 1#1), (Rect.unit (s := S8x2816x3584) (k0_off91 v263) S1x256x3584.size (k0_off91_inb v50 k0_t1 v263 k0_hw4 k0_h12)).WholeWords (EltTy.packing .fp8e4m3) := fun v50 k0_t1 v263 k0_hw4 k0_h12 => k0_hw4.2.2.2.2.2.2.1 k0_h12 (k0_off91_inb v50 k0_t1 v263 k0_hw4 k0_h12)
theorem k0_off94_inb : ∀ (v50 : BitVec 32) (k0_t1 : Fin (k0_t1_loop v50).trips) (v263 : BitVec 32) (k0_hw4 : k0_chk4 v50 k0_t1 v263), ∀ (k0_h13 : k0_cond13 v50 k0_t1 = 1#1), ∀ a, (k0_off94 v263) a + S1x256x3584.size a ≤ S8x2816x3584.size a := fun v50 k0_t1 v263 k0_hw4 k0_h13 => k0_hw4.2.2.2.2.2.2.2.1 k0_h13
theorem k0_off94_wordsfp8e4m3 : ∀ (v50 : BitVec 32) (k0_t1 : Fin (k0_t1_loop v50).trips) (v263 : BitVec 32) (k0_hw4 : k0_chk4 v50 k0_t1 v263), ∀ (k0_h13 : k0_cond13 v50 k0_t1 = 1#1), (Rect.unit (s := S8x2816x3584) (k0_off94 v263) S1x256x3584.size (k0_off94_inb v50 k0_t1 v263 k0_hw4 k0_h13)).WholeWords (EltTy.packing .fp8e4m3) := fun v50 k0_t1 v263 k0_hw4 k0_h13 => k0_hw4.2.2.2.2.2.2.2.2.1 k0_h13 (k0_off94_inb v50 k0_t1 v263 k0_hw4 k0_h13)
theorem k0_off97_inb : ∀ (v50 : BitVec 32) (k0_t1 : Fin (k0_t1_loop v50).trips) (v263 : BitVec 32) (k0_hw4 : k0_chk4 v50 k0_t1 v263), ∀ (k0_h14 : k0_cond14 v50 k0_t1 = 1#1), ∀ a, (k0_off97 v263) a + S1x256x3584.size a ≤ S8x2816x3584.size a := fun v50 k0_t1 v263 k0_hw4 k0_h14 => k0_hw4.2.2.2.2.2.2.2.2.2.1 k0_h14
theorem k0_off97_wordsfp8e4m3 : ∀ (v50 : BitVec 32) (k0_t1 : Fin (k0_t1_loop v50).trips) (v263 : BitVec 32) (k0_hw4 : k0_chk4 v50 k0_t1 v263), ∀ (k0_h14 : k0_cond14 v50 k0_t1 = 1#1), (Rect.unit (s := S8x2816x3584) (k0_off97 v263) S1x256x3584.size (k0_off97_inb v50 k0_t1 v263 k0_hw4 k0_h14)).WholeWords (EltTy.packing .fp8e4m3) := fun v50 k0_t1 v263 k0_hw4 k0_h14 => k0_hw4.2.2.2.2.2.2.2.2.2.2.1 k0_h14 (k0_off97_inb v50 k0_t1 v263 k0_hw4 k0_h14)
theorem k0_off100_inb : ∀ (v50 : BitVec 32) (k0_t1 : Fin (k0_t1_loop v50).trips) (v263 : BitVec 32) (k0_hw4 : k0_chk4 v50 k0_t1 v263), ∀ (k0_h15 : k0_cond15 v50 k0_t1 = 1#1), ∀ a, (k0_off100 v263) a + S1x256x3584.size a ≤ S8x2816x3584.size a := fun v50 k0_t1 v263 k0_hw4 k0_h15 => k0_hw4.2.2.2.2.2.2.2.2.2.2.2.1 k0_h15
theorem k0_off100_wordsfp8e4m3 : ∀ (v50 : BitVec 32) (k0_t1 : Fin (k0_t1_loop v50).trips) (v263 : BitVec 32) (k0_hw4 : k0_chk4 v50 k0_t1 v263), ∀ (k0_h15 : k0_cond15 v50 k0_t1 = 1#1), (Rect.unit (s := S8x2816x3584) (k0_off100 v263) S1x256x3584.size (k0_off100_inb v50 k0_t1 v263 k0_hw4 k0_h15)).WholeWords (EltTy.packing .fp8e4m3) := fun v50 k0_t1 v263 k0_hw4 k0_h15 => k0_hw4.2.2.2.2.2.2.2.2.2.2.2.2.1 k0_h15 (k0_off100_inb v50 k0_t1 v263 k0_hw4 k0_h15)
theorem k0_off103_inb : ∀ (v50 : BitVec 32) (k0_t1 : Fin (k0_t1_loop v50).trips) (v263 : BitVec 32) (k0_hw4 : k0_chk4 v50 k0_t1 v263), ∀ (k0_h16 : k0_cond16 v50 k0_t1 = 1#1), ∀ a, (k0_off103 v263) a + S1x256x3584.size a ≤ S8x2816x3584.size a := fun v50 k0_t1 v263 k0_hw4 k0_h16 => k0_hw4.2.2.2.2.2.2.2.2.2.2.2.2.2.1 k0_h16
theorem k0_off103_wordsfp8e4m3 : ∀ (v50 : BitVec 32) (k0_t1 : Fin (k0_t1_loop v50).trips) (v263 : BitVec 32) (k0_hw4 : k0_chk4 v50 k0_t1 v263), ∀ (k0_h16 : k0_cond16 v50 k0_t1 = 1#1), (Rect.unit (s := S8x2816x3584) (k0_off103 v263) S1x256x3584.size (k0_off103_inb v50 k0_t1 v263 k0_hw4 k0_h16)).WholeWords (EltTy.packing .fp8e4m3) := fun v50 k0_t1 v263 k0_hw4 k0_h16 => k0_hw4.2.2.2.2.2.2.2.2.2.2.2.2.2.2.1 k0_h16 (k0_off103_inb v50 k0_t1 v263 k0_hw4 k0_h16)
theorem k0_off106_inb : ∀ (v50 : BitVec 32) (k0_t1 : Fin (k0_t1_loop v50).trips) (v263 : BitVec 32) (k0_hw4 : k0_chk4 v50 k0_t1 v263), ∀ (k0_h17 : k0_cond17 v50 k0_t1 = 1#1), ∀ a, (k0_off106 v263) a + S1x256x3584.size a ≤ S8x2816x3584.size a := fun v50 k0_t1 v263 k0_hw4 k0_h17 => k0_hw4.2.2.2.2.2.2.2.2.2.2.2.2.2.2.2.1 k0_h17
theorem k0_off106_wordsfp8e4m3 : ∀ (v50 : BitVec 32) (k0_t1 : Fin (k0_t1_loop v50).trips) (v263 : BitVec 32) (k0_hw4 : k0_chk4 v50 k0_t1 v263), ∀ (k0_h17 : k0_cond17 v50 k0_t1 = 1#1), (Rect.unit (s := S8x2816x3584) (k0_off106 v263) S1x256x3584.size (k0_off106_inb v50 k0_t1 v263 k0_hw4 k0_h17)).WholeWords (EltTy.packing .fp8e4m3) := fun v50 k0_t1 v263 k0_hw4 k0_h17 => k0_hw4.2.2.2.2.2.2.2.2.2.2.2.2.2.2.2.2.1 k0_h17 (k0_off106_inb v50 k0_t1 v263 k0_hw4 k0_h17)
theorem k0_off109_inb : ∀ (v50 : BitVec 32) (k0_t1 : Fin (k0_t1_loop v50).trips) (v263 : BitVec 32) (k0_hw4 : k0_chk4 v50 k0_t1 v263), ∀ (k0_h18 : k0_cond18 v50 k0_t1 = 1#1), ∀ a, (k0_off109 v263) a + S1x256x3584.size a ≤ S8x2816x3584.size a := fun v50 k0_t1 v263 k0_hw4 k0_h18 => k0_hw4.2.2.2.2.2.2.2.2.2.2.2.2.2.2.2.2.2.1 k0_h18
theorem k0_off109_wordsfp8e4m3 : ∀ (v50 : BitVec 32) (k0_t1 : Fin (k0_t1_loop v50).trips) (v263 : BitVec 32) (k0_hw4 : k0_chk4 v50 k0_t1 v263), ∀ (k0_h18 : k0_cond18 v50 k0_t1 = 1#1), (Rect.unit (s := S8x2816x3584) (k0_off109 v263) S1x256x3584.size (k0_off109_inb v50 k0_t1 v263 k0_hw4 k0_h18)).WholeWords (EltTy.packing .fp8e4m3) := fun v50 k0_t1 v263 k0_hw4 k0_h18 => k0_hw4.2.2.2.2.2.2.2.2.2.2.2.2.2.2.2.2.2.2 k0_h18 (k0_off109_inb v50 k0_t1 v263 k0_hw4 k0_h18)

@[reducible] def k0_t2_loop (v50 : BitVec 32) : Scf.Loop 32 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let v246 : BitVec 32 := Scalar.addi c0_i32_200 v245
  let c1_i32_204 : BitVec 32 := 1#32
  ⟨v249, v246, c1_i32_204⟩
def k0_off110 (v50 : BitVec 32) (k0_t2 : Fin (k0_t2_loop v50).trips) : Fin 1 → Nat :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let v255 : Index := Scalar.indexCast arg16
  ![v255.toNat]
def k0_off111 (v50 : BitVec 32) (k0_t2 : Fin (k0_t2_loop v50).trips) : Fin 1 → Nat :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_210 : BitVec 32 := 1#32
  let v259 : BitVec 32 := Scalar.addi arg16 c1_i32_210
  let c1_i32_211 : BitVec 32 := 1#32
  let v260 : BitVec 32 := Scalar.subi v89 c1_i32_211
  let v261 : BitVec 32 := Scalar.minsi v259 v260
  let v262 : Index := Scalar.indexCast v261
  ![v262.toNat]

def k0_chk1 (v50 : BitVec 32) : Prop :=
  (∀ a, (k0_off1 v50) a + S1.size a ≤ S8.size a) ∧
  (∀ a, (k0_off2 v50) a + S1.size a ≤ S8.size a) ∧
  (∀ a, (k0_off3 v50) a + S1.size a ≤ S8.size a) ∧
  (∀ a, (k0_off4 v50) a + S1.size a ≤ S8.size a) ∧
  (∀ a, (k0_off5 v50) a + S1.size a ≤ S8.size a) ∧
  (∀ a, (k0_off6 v50) a + S1.size a ≤ S8.size a) ∧
  (∀ a, (k0_off7 v50) a + S1.size a ≤ S8.size a) ∧
  ((k0_t1_loop v50).OK) ∧
  (∀ k0_t1 : Fin (k0_t1_loop v50).trips, ∀ a, (k0_off33 v50 k0_t1) a + S1.size a ≤ S8.size a) ∧
  (∀ k0_t1 : Fin (k0_t1_loop v50).trips, ∀ a, (k0_off34 v50 k0_t1) a + S1.size a ≤ S8.size a) ∧
  ((k0_t2_loop v50).OK) ∧
  (∀ k0_t2 : Fin (k0_t2_loop v50).trips, ∀ a, (k0_off110 v50 k0_t2) a + S1.size a ≤ S8.size a) ∧
  (∀ k0_t2 : Fin (k0_t2_loop v50).trips, ∀ a, (k0_off111 v50 k0_t2) a + S1.size a ≤ S8.size a)
theorem k0_off1_inb : ∀ (v50 : BitVec 32) (k0_hw1 : k0_chk1 v50), ∀ a, (k0_off1 v50) a + S1.size a ≤ S8.size a := fun v50 k0_hw1 => k0_hw1.1
theorem k0_off2_inb : ∀ (v50 : BitVec 32) (k0_hw1 : k0_chk1 v50), ∀ a, (k0_off2 v50) a + S1.size a ≤ S8.size a := fun v50 k0_hw1 => k0_hw1.2.1
theorem k0_off3_inb : ∀ (v50 : BitVec 32) (k0_hw1 : k0_chk1 v50), ∀ a, (k0_off3 v50) a + S1.size a ≤ S8.size a := fun v50 k0_hw1 => k0_hw1.2.2.1
theorem k0_off4_inb : ∀ (v50 : BitVec 32) (k0_hw1 : k0_chk1 v50), ∀ a, (k0_off4 v50) a + S1.size a ≤ S8.size a := fun v50 k0_hw1 => k0_hw1.2.2.2.1
theorem k0_off5_inb : ∀ (v50 : BitVec 32) (k0_hw1 : k0_chk1 v50), ∀ a, (k0_off5 v50) a + S1.size a ≤ S8.size a := fun v50 k0_hw1 => k0_hw1.2.2.2.2.1
theorem k0_off6_inb : ∀ (v50 : BitVec 32) (k0_hw1 : k0_chk1 v50), ∀ a, (k0_off6 v50) a + S1.size a ≤ S8.size a := fun v50 k0_hw1 => k0_hw1.2.2.2.2.2.1
theorem k0_off7_inb : ∀ (v50 : BitVec 32) (k0_hw1 : k0_chk1 v50), ∀ a, (k0_off7 v50) a + S1.size a ≤ S8.size a := fun v50 k0_hw1 => k0_hw1.2.2.2.2.2.2.1
theorem k0_t1_ok : ∀ (v50 : BitVec 32) (k0_hw1 : k0_chk1 v50), (k0_t1_loop v50).OK := fun v50 k0_hw1 => k0_hw1.2.2.2.2.2.2.2.1
theorem k0_off33_inb : ∀ (v50 : BitVec 32) (k0_hw1 : k0_chk1 v50) (k0_t1 : Fin (k0_t1_loop v50).trips), ∀ a, (k0_off33 v50 k0_t1) a + S1.size a ≤ S8.size a := fun v50 k0_hw1 k0_t1 => k0_hw1.2.2.2.2.2.2.2.2.1 k0_t1
theorem k0_off34_inb : ∀ (v50 : BitVec 32) (k0_hw1 : k0_chk1 v50) (k0_t1 : Fin (k0_t1_loop v50).trips), ∀ a, (k0_off34 v50 k0_t1) a + S1.size a ≤ S8.size a := fun v50 k0_hw1 k0_t1 => k0_hw1.2.2.2.2.2.2.2.2.2.1 k0_t1
theorem k0_t2_ok : ∀ (v50 : BitVec 32) (k0_hw1 : k0_chk1 v50), (k0_t2_loop v50).OK := fun v50 k0_hw1 => k0_hw1.2.2.2.2.2.2.2.2.2.2.1
theorem k0_off110_inb : ∀ (v50 : BitVec 32) (k0_hw1 : k0_chk1 v50) (k0_t2 : Fin (k0_t2_loop v50).trips), ∀ a, (k0_off110 v50 k0_t2) a + S1.size a ≤ S8.size a := fun v50 k0_hw1 k0_t2 => k0_hw1.2.2.2.2.2.2.2.2.2.2.2.1 k0_t2
theorem k0_off111_inb : ∀ (v50 : BitVec 32) (k0_hw1 : k0_chk1 v50) (k0_t2 : Fin (k0_t2_loop v50).trips), ∀ a, (k0_off111 v50 k0_t2) a + S1.size a ≤ S8.size a := fun v50 k0_hw1 k0_t2 => k0_hw1.2.2.2.2.2.2.2.2.2.2.2.2 k0_t2

def k0_off112 (v256 : BitVec 32) : Fin 3 → Nat :=
  let c0_i32_229 : BitVec 32 := 0#32
  let c0_i32_230 : BitVec 32 := 0#32
  ![v256.toNat, 0, 0]

def k0_off113 (v256 : BitVec 32) : Fin 3 → Nat :=
  let c3584_i32_237 : BitVec 32 := 3584#32
  let c0_i32_238 : BitVec 32 := 0#32
  ![v256.toNat, 3584, 0]
def k0_off114 (v256 : BitVec 32) : Fin 2 → Nat :=
  let v292 : Index := Scalar.indexCast v256
  let c0_239 : Index := 0#32
  ![v292.toNat, 0]
def k0_off115 (v256 : BitVec 32) : Fin 2 → Nat :=
  let v301 : Index := Scalar.indexCast v256
  let c3584 : Index := 3584#32
  ![v301.toNat, 3584]
def k0_off116 (v263 : BitVec 32) : Fin 3 → Nat :=
  let c0_i32_671 : BitVec 32 := 0#32
  let c0_i32_672 : BitVec 32 := 0#32
  ![v263.toNat, 0, 0]
def k0_cond19 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v321 : BitVec 32 := Scalar.extui v258
  let c0_i32_258 : BitVec 32 := 0#32
  let v322 : BitVec 1 := Scalar.cmpi .ne v321 c0_i32_258
  v322

def k0_off117 (v263 : BitVec 32) : Fin 3 → Nat :=
  let c3584_i32_679 : BitVec 32 := 3584#32
  let c0_i32_680 : BitVec 32 := 0#32
  ![v263.toNat, 3584, 0]
def k0_off118 (v256 : BitVec 32) : Fin 3 → Nat :=
  let c512_i32_265 : BitVec 32 := 512#32
  let c0_i32_266 : BitVec 32 := 0#32
  ![v256.toNat, 512, 0]
def k0_off119 (v256 : BitVec 32) : Fin 3 → Nat :=
  let c4096_i32_273 : BitVec 32 := 4096#32
  let c0_i32_274 : BitVec 32 := 0#32
  ![v256.toNat, 4096, 0]
def k0_off120 (v256 : BitVec 32) : Fin 2 → Nat :=
  let v335 : Index := Scalar.indexCast v256
  let c512 : Index := 512#32
  ![v335.toNat, 512]
def k0_off121 (v256 : BitVec 32) : Fin 2 → Nat :=
  let v344 : Index := Scalar.indexCast v256
  let c4096 : Index := 4096#32
  ![v344.toNat, 4096]
def k0_off122 (v263 : BitVec 32) : Fin 3 → Nat :=
  let c512_i32_671 : BitVec 32 := 512#32
  let c0_i32_672 : BitVec 32 := 0#32
  ![v263.toNat, 512, 0]
def k0_cond20 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v364 : BitVec 32 := Scalar.extui v258
  let c0_i32_293 : BitVec 32 := 0#32
  let v365 : BitVec 1 := Scalar.cmpi .ne v364 c0_i32_293
  v365

def k0_off123 (v263 : BitVec 32) : Fin 3 → Nat :=
  let c4096_i32_679 : BitVec 32 := 4096#32
  let c0_i32_680 : BitVec 32 := 0#32
  ![v263.toNat, 4096, 0]
def k0_off124 (v256 : BitVec 32) : Fin 3 → Nat :=
  let c1024_i32_300 : BitVec 32 := 1024#32
  let c0_i32_301 : BitVec 32 := 0#32
  ![v256.toNat, 1024, 0]
def k0_off125 (v256 : BitVec 32) : Fin 3 → Nat :=
  let c4608_i32_308 : BitVec 32 := 4608#32
  let c0_i32_309 : BitVec 32 := 0#32
  ![v256.toNat, 4608, 0]
def k0_off126 (v256 : BitVec 32) : Fin 2 → Nat :=
  let v378 : Index := Scalar.indexCast v256
  let c1024 : Index := 1024#32
  ![v378.toNat, 1024]
def k0_off127 (v256 : BitVec 32) : Fin 2 → Nat :=
  let v387 : Index := Scalar.indexCast v256
  let c4608 : Index := 4608#32
  ![v387.toNat, 4608]
def k0_off128 (v263 : BitVec 32) : Fin 3 → Nat :=
  let c1024_i32_671 : BitVec 32 := 1024#32
  let c0_i32_672 : BitVec 32 := 0#32
  ![v263.toNat, 1024, 0]
def k0_cond21 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v407 : BitVec 32 := Scalar.extui v258
  let c0_i32_327 : BitVec 32 := 0#32
  let v408 : BitVec 1 := Scalar.cmpi .ne v407 c0_i32_327
  v408

def k0_off129 (v263 : BitVec 32) : Fin 3 → Nat :=
  let c4608_i32_679 : BitVec 32 := 4608#32
  let c0_i32_680 : BitVec 32 := 0#32
  ![v263.toNat, 4608, 0]
def k0_off130 (v256 : BitVec 32) : Fin 3 → Nat :=
  let c1536_i32_334 : BitVec 32 := 1536#32
  let c0_i32_335 : BitVec 32 := 0#32
  ![v256.toNat, 1536, 0]
def k0_off131 (v256 : BitVec 32) : Fin 3 → Nat :=
  let c5120_i32_342 : BitVec 32 := 5120#32
  let c0_i32_343 : BitVec 32 := 0#32
  ![v256.toNat, 5120, 0]
def k0_off132 (v256 : BitVec 32) : Fin 2 → Nat :=
  let v421 : Index := Scalar.indexCast v256
  let c1536 : Index := 1536#32
  ![v421.toNat, 1536]
def k0_off133 (v256 : BitVec 32) : Fin 2 → Nat :=
  let v430 : Index := Scalar.indexCast v256
  let c5120 : Index := 5120#32
  ![v430.toNat, 5120]
def k0_off134 (v263 : BitVec 32) : Fin 3 → Nat :=
  let c1536_i32_671 : BitVec 32 := 1536#32
  let c0_i32_672 : BitVec 32 := 0#32
  ![v263.toNat, 1536, 0]
def k0_cond22 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v450 : BitVec 32 := Scalar.extui v258
  let c0_i32_361 : BitVec 32 := 0#32
  let v451 : BitVec 1 := Scalar.cmpi .ne v450 c0_i32_361
  v451

def k0_off135 (v263 : BitVec 32) : Fin 3 → Nat :=
  let c5120_i32_679 : BitVec 32 := 5120#32
  let c0_i32_680 : BitVec 32 := 0#32
  ![v263.toNat, 5120, 0]
def k0_off136 (v256 : BitVec 32) : Fin 3 → Nat :=
  let c2048_i32_368 : BitVec 32 := 2048#32
  let c0_i32_369 : BitVec 32 := 0#32
  ![v256.toNat, 2048, 0]
def k0_off137 (v256 : BitVec 32) : Fin 3 → Nat :=
  let c5632_i32_376 : BitVec 32 := 5632#32
  let c0_i32_377 : BitVec 32 := 0#32
  ![v256.toNat, 5632, 0]
def k0_off138 (v256 : BitVec 32) : Fin 2 → Nat :=
  let v464 : Index := Scalar.indexCast v256
  let c2048 : Index := 2048#32
  ![v464.toNat, 2048]
def k0_off139 (v256 : BitVec 32) : Fin 2 → Nat :=
  let v473 : Index := Scalar.indexCast v256
  let c5632 : Index := 5632#32
  ![v473.toNat, 5632]
def k0_off140 (v263 : BitVec 32) : Fin 3 → Nat :=
  let c2048_i32_671 : BitVec 32 := 2048#32
  let c0_i32_672 : BitVec 32 := 0#32
  ![v263.toNat, 2048, 0]
def k0_cond23 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v493 : BitVec 32 := Scalar.extui v258
  let c0_i32_395 : BitVec 32 := 0#32
  let v494 : BitVec 1 := Scalar.cmpi .ne v493 c0_i32_395
  v494

def k0_off141 (v263 : BitVec 32) : Fin 3 → Nat :=
  let c5632_i32_679 : BitVec 32 := 5632#32
  let c0_i32_680 : BitVec 32 := 0#32
  ![v263.toNat, 5632, 0]
def k0_off142 (v256 : BitVec 32) : Fin 3 → Nat :=
  let c2560_i32_402 : BitVec 32 := 2560#32
  let c0_i32_403 : BitVec 32 := 0#32
  ![v256.toNat, 2560, 0]
def k0_off143 (v256 : BitVec 32) : Fin 3 → Nat :=
  let c6144_i32_410 : BitVec 32 := 6144#32
  let c0_i32_411 : BitVec 32 := 0#32
  ![v256.toNat, 6144, 0]
def k0_off144 (v256 : BitVec 32) : Fin 2 → Nat :=
  let v507 : Index := Scalar.indexCast v256
  let c2560 : Index := 2560#32
  ![v507.toNat, 2560]
def k0_off145 (v256 : BitVec 32) : Fin 2 → Nat :=
  let v516 : Index := Scalar.indexCast v256
  let c6144 : Index := 6144#32
  ![v516.toNat, 6144]
def k0_off146 (v263 : BitVec 32) : Fin 3 → Nat :=
  let c2560_i32_671 : BitVec 32 := 2560#32
  let c0_i32_672 : BitVec 32 := 0#32
  ![v263.toNat, 2560, 0]
def k0_cond24 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v536 : BitVec 32 := Scalar.extui v258
  let c0_i32_429 : BitVec 32 := 0#32
  let v537 : BitVec 1 := Scalar.cmpi .ne v536 c0_i32_429
  v537

def k0_off147 (v263 : BitVec 32) : Fin 3 → Nat :=
  let c6144_i32_679 : BitVec 32 := 6144#32
  let c0_i32_680 : BitVec 32 := 0#32
  ![v263.toNat, 6144, 0]
def k0_off148 (v256 : BitVec 32) : Fin 3 → Nat :=
  let c3072_i32_436 : BitVec 32 := 3072#32
  let c0_i32_437 : BitVec 32 := 0#32
  ![v256.toNat, 3072, 0]
def k0_off149 (v256 : BitVec 32) : Fin 3 → Nat :=
  let c6656_i32_444 : BitVec 32 := 6656#32
  let c0_i32_445 : BitVec 32 := 0#32
  ![v256.toNat, 6656, 0]
def k0_off150 (v256 : BitVec 32) : Fin 2 → Nat :=
  let v550 : Index := Scalar.indexCast v256
  let c3072 : Index := 3072#32
  ![v550.toNat, 3072]
def k0_off151 (v256 : BitVec 32) : Fin 2 → Nat :=
  let v559 : Index := Scalar.indexCast v256
  let c6656 : Index := 6656#32
  ![v559.toNat, 6656]
def k0_off152 (v263 : BitVec 32) : Fin 3 → Nat :=
  let c3072_i32_671 : BitVec 32 := 3072#32
  let c0_i32_672 : BitVec 32 := 0#32
  ![v263.toNat, 3072, 0]
def k0_cond25 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v579 : BitVec 32 := Scalar.extui v258
  let c0_i32_463 : BitVec 32 := 0#32
  let v580 : BitVec 1 := Scalar.cmpi .ne v579 c0_i32_463
  v580

def k0_off153 (v263 : BitVec 32) : Fin 3 → Nat :=
  let c6656_i32_679 : BitVec 32 := 6656#32
  let c0_i32_680 : BitVec 32 := 0#32
  ![v263.toNat, 6656, 0]
def k0_off154 (v256 : BitVec 32) : Fin 3 → Nat :=
  let c0_i32_468 : BitVec 32 := 0#32
  let c0_i32_469 : BitVec 32 := 0#32
  ![v256.toNat, 0, 0]
def k0_off155 (v256 : BitVec 32) : Fin 2 → Nat :=
  let v591 : Index := Scalar.indexCast v256
  let c0_476 : Index := 0#32
  ![v591.toNat, 0]
def k0_off156 (v263 : BitVec 32) : Fin 3 → Nat :=
  let c0_i32_669 : BitVec 32 := 0#32
  let c0_i32_670 : BitVec 32 := 0#32
  ![v263.toNat, 0, 0]
def k0_cond26 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v606 : BitVec 32 := Scalar.extui v258
  let c0_i32_482 : BitVec 32 := 0#32
  let v607 : BitVec 1 := Scalar.cmpi .ne v606 c0_i32_482
  v607

def k0_off157 (v256 : BitVec 32) : Fin 3 → Nat :=
  let c256_i32_487 : BitVec 32 := 256#32
  let c0_i32_488 : BitVec 32 := 0#32
  ![v256.toNat, 256, 0]
def k0_off158 (v256 : BitVec 32) : Fin 2 → Nat :=
  let v618 : Index := Scalar.indexCast v256
  let c256 : Index := 256#32
  ![v618.toNat, 256]
def k0_off159 (v263 : BitVec 32) : Fin 3 → Nat :=
  let c256_i32_669 : BitVec 32 := 256#32
  let c0_i32_670 : BitVec 32 := 0#32
  ![v263.toNat, 256, 0]
def k0_cond27 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v633 : BitVec 32 := Scalar.extui v258
  let c0_i32_500 : BitVec 32 := 0#32
  let v634 : BitVec 1 := Scalar.cmpi .ne v633 c0_i32_500
  v634

def k0_off160 (v256 : BitVec 32) : Fin 3 → Nat :=
  let c512_i32_505 : BitVec 32 := 512#32
  let c0_i32_506 : BitVec 32 := 0#32
  ![v256.toNat, 512, 0]
def k0_off161 (v256 : BitVec 32) : Fin 2 → Nat :=
  let v645 : Index := Scalar.indexCast v256
  let c512_513 : Index := 512#32
  ![v645.toNat, 512]
def k0_off162 (v263 : BitVec 32) : Fin 3 → Nat :=
  let c512_i32_669 : BitVec 32 := 512#32
  let c0_i32_670 : BitVec 32 := 0#32
  ![v263.toNat, 512, 0]
def k0_cond28 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v660 : BitVec 32 := Scalar.extui v258
  let c0_i32_519 : BitVec 32 := 0#32
  let v661 : BitVec 1 := Scalar.cmpi .ne v660 c0_i32_519
  v661

def k0_off163 (v256 : BitVec 32) : Fin 3 → Nat :=
  let c768_i32_524 : BitVec 32 := 768#32
  let c0_i32_525 : BitVec 32 := 0#32
  ![v256.toNat, 768, 0]
def k0_off164 (v256 : BitVec 32) : Fin 2 → Nat :=
  let v672 : Index := Scalar.indexCast v256
  let c768 : Index := 768#32
  ![v672.toNat, 768]
def k0_off165 (v263 : BitVec 32) : Fin 3 → Nat :=
  let c768_i32_669 : BitVec 32 := 768#32
  let c0_i32_670 : BitVec 32 := 0#32
  ![v263.toNat, 768, 0]
def k0_cond29 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v687 : BitVec 32 := Scalar.extui v258
  let c0_i32_537 : BitVec 32 := 0#32
  let v688 : BitVec 1 := Scalar.cmpi .ne v687 c0_i32_537
  v688

def k0_off166 (v256 : BitVec 32) : Fin 3 → Nat :=
  let c1024_i32_542 : BitVec 32 := 1024#32
  let c0_i32_543 : BitVec 32 := 0#32
  ![v256.toNat, 1024, 0]
def k0_off167 (v256 : BitVec 32) : Fin 2 → Nat :=
  let v699 : Index := Scalar.indexCast v256
  let c1024_550 : Index := 1024#32
  ![v699.toNat, 1024]
def k0_off168 (v263 : BitVec 32) : Fin 3 → Nat :=
  let c1024_i32_669 : BitVec 32 := 1024#32
  let c0_i32_670 : BitVec 32 := 0#32
  ![v263.toNat, 1024, 0]
def k0_cond30 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v714 : BitVec 32 := Scalar.extui v258
  let c0_i32_556 : BitVec 32 := 0#32
  let v715 : BitVec 1 := Scalar.cmpi .ne v714 c0_i32_556
  v715

def k0_off169 (v256 : BitVec 32) : Fin 3 → Nat :=
  let c1280_i32_561 : BitVec 32 := 1280#32
  let c0_i32_562 : BitVec 32 := 0#32
  ![v256.toNat, 1280, 0]
def k0_off170 (v256 : BitVec 32) : Fin 2 → Nat :=
  let v726 : Index := Scalar.indexCast v256
  let c1280 : Index := 1280#32
  ![v726.toNat, 1280]
def k0_off171 (v263 : BitVec 32) : Fin 3 → Nat :=
  let c1280_i32_669 : BitVec 32 := 1280#32
  let c0_i32_670 : BitVec 32 := 0#32
  ![v263.toNat, 1280, 0]
def k0_cond31 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v741 : BitVec 32 := Scalar.extui v258
  let c0_i32_574 : BitVec 32 := 0#32
  let v742 : BitVec 1 := Scalar.cmpi .ne v741 c0_i32_574
  v742

def k0_off172 (v256 : BitVec 32) : Fin 3 → Nat :=
  let c1536_i32_579 : BitVec 32 := 1536#32
  let c0_i32_580 : BitVec 32 := 0#32
  ![v256.toNat, 1536, 0]
def k0_off173 (v256 : BitVec 32) : Fin 2 → Nat :=
  let v753 : Index := Scalar.indexCast v256
  let c1536_587 : Index := 1536#32
  ![v753.toNat, 1536]
def k0_off174 (v263 : BitVec 32) : Fin 3 → Nat :=
  let c1536_i32_669 : BitVec 32 := 1536#32
  let c0_i32_670 : BitVec 32 := 0#32
  ![v263.toNat, 1536, 0]
def k0_cond32 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v768 : BitVec 32 := Scalar.extui v258
  let c0_i32_593 : BitVec 32 := 0#32
  let v769 : BitVec 1 := Scalar.cmpi .ne v768 c0_i32_593
  v769

def k0_off175 (v256 : BitVec 32) : Fin 3 → Nat :=
  let c1792_i32_598 : BitVec 32 := 1792#32
  let c0_i32_599 : BitVec 32 := 0#32
  ![v256.toNat, 1792, 0]
def k0_off176 (v256 : BitVec 32) : Fin 2 → Nat :=
  let v780 : Index := Scalar.indexCast v256
  let c1792 : Index := 1792#32
  ![v780.toNat, 1792]
def k0_off177 (v263 : BitVec 32) : Fin 3 → Nat :=
  let c1792_i32_669 : BitVec 32 := 1792#32
  let c0_i32_670 : BitVec 32 := 0#32
  ![v263.toNat, 1792, 0]
def k0_cond33 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v795 : BitVec 32 := Scalar.extui v258
  let c0_i32_610 : BitVec 32 := 0#32
  let v796 : BitVec 1 := Scalar.cmpi .ne v795 c0_i32_610
  v796

def k0_off178 (v256 : BitVec 32) : Fin 3 → Nat :=
  let c2048_i32_615 : BitVec 32 := 2048#32
  let c0_i32_616 : BitVec 32 := 0#32
  ![v256.toNat, 2048, 0]
def k0_off179 (v256 : BitVec 32) : Fin 2 → Nat :=
  let v807 : Index := Scalar.indexCast v256
  let c2048_622 : Index := 2048#32
  ![v807.toNat, 2048]
def k0_off180 (v263 : BitVec 32) : Fin 3 → Nat :=
  let c2048_i32_669 : BitVec 32 := 2048#32
  let c0_i32_670 : BitVec 32 := 0#32
  ![v263.toNat, 2048, 0]
def k0_cond34 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v822 : BitVec 32 := Scalar.extui v258
  let c0_i32_628 : BitVec 32 := 0#32
  let v823 : BitVec 1 := Scalar.cmpi .ne v822 c0_i32_628
  v823

def k0_off181 (v256 : BitVec 32) : Fin 3 → Nat :=
  let c2304_i32_633 : BitVec 32 := 2304#32
  let c0_i32_634 : BitVec 32 := 0#32
  ![v256.toNat, 2304, 0]
def k0_off182 (v256 : BitVec 32) : Fin 2 → Nat :=
  let v834 : Index := Scalar.indexCast v256
  let c2304 : Index := 2304#32
  ![v834.toNat, 2304]
def k0_off183 (v263 : BitVec 32) : Fin 3 → Nat :=
  let c2304_i32_669 : BitVec 32 := 2304#32
  let c0_i32_670 : BitVec 32 := 0#32
  ![v263.toNat, 2304, 0]
def k0_cond35 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v849 : BitVec 32 := Scalar.extui v258
  let c0_i32_645 : BitVec 32 := 0#32
  let v850 : BitVec 1 := Scalar.cmpi .ne v849 c0_i32_645
  v850

def k0_off184 (v256 : BitVec 32) : Fin 3 → Nat :=
  let c2560_i32_650 : BitVec 32 := 2560#32
  let c0_i32_651 : BitVec 32 := 0#32
  ![v256.toNat, 2560, 0]
def k0_off185 (v256 : BitVec 32) : Fin 2 → Nat :=
  let v861 : Index := Scalar.indexCast v256
  let c2560_657 : Index := 2560#32
  ![v861.toNat, 2560]

def k0_chk5_0 (v256 : BitVec 32) : Prop :=
  (∀ a, (k0_off112 v256) a + S1x512x2816.size a ≤ S8x7168x2816.size a) ∧
  (∀ (hinb : ∀ a, (k0_off112 v256) a + S1x512x2816.size a ≤ S8x7168x2816.size a), (Rect.unit (s := S8x7168x2816) (k0_off112 v256) S1x512x2816.size hinb).WholeWords (EltTy.packing .fp8e4m3)) ∧
  (∀ a, (k0_off113 v256) a + S1x512x2816.size a ≤ S8x7168x2816.size a) ∧
  (∀ (hinb : ∀ a, (k0_off113 v256) a + S1x512x2816.size a ≤ S8x7168x2816.size a), (Rect.unit (s := S8x7168x2816) (k0_off113 v256) S1x512x2816.size hinb).WholeWords (EltTy.packing .fp8e4m3)) ∧
  (∀ a, (k0_off114 v256) a + S1x512.size a ≤ S8x7168.size a) ∧
  (∀ a, (k0_off115 v256) a + S1x512.size a ≤ S8x7168.size a) ∧
  (∀ a, (k0_off118 v256) a + S1x512x2816.size a ≤ S8x7168x2816.size a) ∧
  (∀ (hinb : ∀ a, (k0_off118 v256) a + S1x512x2816.size a ≤ S8x7168x2816.size a), (Rect.unit (s := S8x7168x2816) (k0_off118 v256) S1x512x2816.size hinb).WholeWords (EltTy.packing .fp8e4m3)) ∧
  (∀ a, (k0_off119 v256) a + S1x512x2816.size a ≤ S8x7168x2816.size a) ∧
  (∀ (hinb : ∀ a, (k0_off119 v256) a + S1x512x2816.size a ≤ S8x7168x2816.size a), (Rect.unit (s := S8x7168x2816) (k0_off119 v256) S1x512x2816.size hinb).WholeWords (EltTy.packing .fp8e4m3)) ∧
  (∀ a, (k0_off120 v256) a + S1x512.size a ≤ S8x7168.size a) ∧
  (∀ a, (k0_off121 v256) a + S1x512.size a ≤ S8x7168.size a) ∧
  (∀ a, (k0_off124 v256) a + S1x512x2816.size a ≤ S8x7168x2816.size a) ∧
  (∀ (hinb : ∀ a, (k0_off124 v256) a + S1x512x2816.size a ≤ S8x7168x2816.size a), (Rect.unit (s := S8x7168x2816) (k0_off124 v256) S1x512x2816.size hinb).WholeWords (EltTy.packing .fp8e4m3)) ∧
  (∀ a, (k0_off125 v256) a + S1x512x2816.size a ≤ S8x7168x2816.size a) ∧
  (∀ (hinb : ∀ a, (k0_off125 v256) a + S1x512x2816.size a ≤ S8x7168x2816.size a), (Rect.unit (s := S8x7168x2816) (k0_off125 v256) S1x512x2816.size hinb).WholeWords (EltTy.packing .fp8e4m3)) ∧
  (∀ a, (k0_off126 v256) a + S1x512.size a ≤ S8x7168.size a) ∧
  (∀ a, (k0_off127 v256) a + S1x512.size a ≤ S8x7168.size a) ∧
  (∀ a, (k0_off130 v256) a + S1x512x2816.size a ≤ S8x7168x2816.size a) ∧
  (∀ (hinb : ∀ a, (k0_off130 v256) a + S1x512x2816.size a ≤ S8x7168x2816.size a), (Rect.unit (s := S8x7168x2816) (k0_off130 v256) S1x512x2816.size hinb).WholeWords (EltTy.packing .fp8e4m3)) ∧
  (∀ a, (k0_off131 v256) a + S1x512x2816.size a ≤ S8x7168x2816.size a) ∧
  (∀ (hinb : ∀ a, (k0_off131 v256) a + S1x512x2816.size a ≤ S8x7168x2816.size a), (Rect.unit (s := S8x7168x2816) (k0_off131 v256) S1x512x2816.size hinb).WholeWords (EltTy.packing .fp8e4m3)) ∧
  (∀ a, (k0_off132 v256) a + S1x512.size a ≤ S8x7168.size a) ∧
  (∀ a, (k0_off133 v256) a + S1x512.size a ≤ S8x7168.size a) ∧
  (∀ a, (k0_off136 v256) a + S1x512x2816.size a ≤ S8x7168x2816.size a) ∧
  (∀ (hinb : ∀ a, (k0_off136 v256) a + S1x512x2816.size a ≤ S8x7168x2816.size a), (Rect.unit (s := S8x7168x2816) (k0_off136 v256) S1x512x2816.size hinb).WholeWords (EltTy.packing .fp8e4m3)) ∧
  (∀ a, (k0_off137 v256) a + S1x512x2816.size a ≤ S8x7168x2816.size a) ∧
  (∀ (hinb : ∀ a, (k0_off137 v256) a + S1x512x2816.size a ≤ S8x7168x2816.size a), (Rect.unit (s := S8x7168x2816) (k0_off137 v256) S1x512x2816.size hinb).WholeWords (EltTy.packing .fp8e4m3)) ∧
  (∀ a, (k0_off138 v256) a + S1x512.size a ≤ S8x7168.size a) ∧
  (∀ a, (k0_off139 v256) a + S1x512.size a ≤ S8x7168.size a) ∧
  (∀ a, (k0_off142 v256) a + S1x512x2816.size a ≤ S8x7168x2816.size a) ∧
  (∀ (hinb : ∀ a, (k0_off142 v256) a + S1x512x2816.size a ≤ S8x7168x2816.size a), (Rect.unit (s := S8x7168x2816) (k0_off142 v256) S1x512x2816.size hinb).WholeWords (EltTy.packing .fp8e4m3))
def k0_chk5_1 (v256 : BitVec 32) : Prop :=
  (∀ a, (k0_off143 v256) a + S1x512x2816.size a ≤ S8x7168x2816.size a) ∧
  (∀ (hinb : ∀ a, (k0_off143 v256) a + S1x512x2816.size a ≤ S8x7168x2816.size a), (Rect.unit (s := S8x7168x2816) (k0_off143 v256) S1x512x2816.size hinb).WholeWords (EltTy.packing .fp8e4m3)) ∧
  (∀ a, (k0_off144 v256) a + S1x512.size a ≤ S8x7168.size a) ∧
  (∀ a, (k0_off145 v256) a + S1x512.size a ≤ S8x7168.size a) ∧
  (∀ a, (k0_off148 v256) a + S1x512x2816.size a ≤ S8x7168x2816.size a) ∧
  (∀ (hinb : ∀ a, (k0_off148 v256) a + S1x512x2816.size a ≤ S8x7168x2816.size a), (Rect.unit (s := S8x7168x2816) (k0_off148 v256) S1x512x2816.size hinb).WholeWords (EltTy.packing .fp8e4m3)) ∧
  (∀ a, (k0_off149 v256) a + S1x512x2816.size a ≤ S8x7168x2816.size a) ∧
  (∀ (hinb : ∀ a, (k0_off149 v256) a + S1x512x2816.size a ≤ S8x7168x2816.size a), (Rect.unit (s := S8x7168x2816) (k0_off149 v256) S1x512x2816.size hinb).WholeWords (EltTy.packing .fp8e4m3)) ∧
  (∀ a, (k0_off150 v256) a + S1x512.size a ≤ S8x7168.size a) ∧
  (∀ a, (k0_off151 v256) a + S1x512.size a ≤ S8x7168.size a) ∧
  (∀ a, (k0_off154 v256) a + S1x256x3584.size a ≤ S8x2816x3584.size a) ∧
  (∀ (hinb : ∀ a, (k0_off154 v256) a + S1x256x3584.size a ≤ S8x2816x3584.size a), (Rect.unit (s := S8x2816x3584) (k0_off154 v256) S1x256x3584.size hinb).WholeWords (EltTy.packing .fp8e4m3)) ∧
  (∀ a, (k0_off155 v256) a + S1x256.size a ≤ S8x2816.size a) ∧
  (∀ a, (k0_off157 v256) a + S1x256x3584.size a ≤ S8x2816x3584.size a) ∧
  (∀ (hinb : ∀ a, (k0_off157 v256) a + S1x256x3584.size a ≤ S8x2816x3584.size a), (Rect.unit (s := S8x2816x3584) (k0_off157 v256) S1x256x3584.size hinb).WholeWords (EltTy.packing .fp8e4m3)) ∧
  (∀ a, (k0_off158 v256) a + S1x256.size a ≤ S8x2816.size a) ∧
  (∀ a, (k0_off160 v256) a + S1x256x3584.size a ≤ S8x2816x3584.size a) ∧
  (∀ (hinb : ∀ a, (k0_off160 v256) a + S1x256x3584.size a ≤ S8x2816x3584.size a), (Rect.unit (s := S8x2816x3584) (k0_off160 v256) S1x256x3584.size hinb).WholeWords (EltTy.packing .fp8e4m3)) ∧
  (∀ a, (k0_off161 v256) a + S1x256.size a ≤ S8x2816.size a) ∧
  (∀ a, (k0_off163 v256) a + S1x256x3584.size a ≤ S8x2816x3584.size a) ∧
  (∀ (hinb : ∀ a, (k0_off163 v256) a + S1x256x3584.size a ≤ S8x2816x3584.size a), (Rect.unit (s := S8x2816x3584) (k0_off163 v256) S1x256x3584.size hinb).WholeWords (EltTy.packing .fp8e4m3)) ∧
  (∀ a, (k0_off164 v256) a + S1x256.size a ≤ S8x2816.size a) ∧
  (∀ a, (k0_off166 v256) a + S1x256x3584.size a ≤ S8x2816x3584.size a) ∧
  (∀ (hinb : ∀ a, (k0_off166 v256) a + S1x256x3584.size a ≤ S8x2816x3584.size a), (Rect.unit (s := S8x2816x3584) (k0_off166 v256) S1x256x3584.size hinb).WholeWords (EltTy.packing .fp8e4m3)) ∧
  (∀ a, (k0_off167 v256) a + S1x256.size a ≤ S8x2816.size a) ∧
  (∀ a, (k0_off169 v256) a + S1x256x3584.size a ≤ S8x2816x3584.size a) ∧
  (∀ (hinb : ∀ a, (k0_off169 v256) a + S1x256x3584.size a ≤ S8x2816x3584.size a), (Rect.unit (s := S8x2816x3584) (k0_off169 v256) S1x256x3584.size hinb).WholeWords (EltTy.packing .fp8e4m3)) ∧
  (∀ a, (k0_off170 v256) a + S1x256.size a ≤ S8x2816.size a) ∧
  (∀ a, (k0_off172 v256) a + S1x256x3584.size a ≤ S8x2816x3584.size a) ∧
  (∀ (hinb : ∀ a, (k0_off172 v256) a + S1x256x3584.size a ≤ S8x2816x3584.size a), (Rect.unit (s := S8x2816x3584) (k0_off172 v256) S1x256x3584.size hinb).WholeWords (EltTy.packing .fp8e4m3)) ∧
  (∀ a, (k0_off173 v256) a + S1x256.size a ≤ S8x2816.size a) ∧
  (∀ a, (k0_off175 v256) a + S1x256x3584.size a ≤ S8x2816x3584.size a)
def k0_chk5_2 (v256 : BitVec 32) : Prop :=
  (∀ (hinb : ∀ a, (k0_off175 v256) a + S1x256x3584.size a ≤ S8x2816x3584.size a), (Rect.unit (s := S8x2816x3584) (k0_off175 v256) S1x256x3584.size hinb).WholeWords (EltTy.packing .fp8e4m3)) ∧
  (∀ a, (k0_off176 v256) a + S1x256.size a ≤ S8x2816.size a) ∧
  (∀ a, (k0_off178 v256) a + S1x256x3584.size a ≤ S8x2816x3584.size a) ∧
  (∀ (hinb : ∀ a, (k0_off178 v256) a + S1x256x3584.size a ≤ S8x2816x3584.size a), (Rect.unit (s := S8x2816x3584) (k0_off178 v256) S1x256x3584.size hinb).WholeWords (EltTy.packing .fp8e4m3)) ∧
  (∀ a, (k0_off179 v256) a + S1x256.size a ≤ S8x2816.size a) ∧
  (∀ a, (k0_off181 v256) a + S1x256x3584.size a ≤ S8x2816x3584.size a) ∧
  (∀ (hinb : ∀ a, (k0_off181 v256) a + S1x256x3584.size a ≤ S8x2816x3584.size a), (Rect.unit (s := S8x2816x3584) (k0_off181 v256) S1x256x3584.size hinb).WholeWords (EltTy.packing .fp8e4m3)) ∧
  (∀ a, (k0_off182 v256) a + S1x256.size a ≤ S8x2816.size a) ∧
  (∀ a, (k0_off184 v256) a + S1x256x3584.size a ≤ S8x2816x3584.size a) ∧
  (∀ (hinb : ∀ a, (k0_off184 v256) a + S1x256x3584.size a ≤ S8x2816x3584.size a), (Rect.unit (s := S8x2816x3584) (k0_off184 v256) S1x256x3584.size hinb).WholeWords (EltTy.packing .fp8e4m3)) ∧
  (∀ a, (k0_off185 v256) a + S1x256.size a ≤ S8x2816.size a)
def k0_chk5 (v256 : BitVec 32) : Prop :=
  k0_chk5_0 v256 ∧
  k0_chk5_1 v256 ∧
  k0_chk5_2 v256
theorem k0_off112_inb : ∀ (v256 : BitVec 32) (k0_hw5 : k0_chk5 v256), ∀ a, (k0_off112 v256) a + S1x512x2816.size a ≤ S8x7168x2816.size a := fun v256 k0_hw5 => k0_hw5.1.1
theorem k0_off112_wordsfp8e4m3 : ∀ (v256 : BitVec 32) (k0_hw5 : k0_chk5 v256), (Rect.unit (s := S8x7168x2816) (k0_off112 v256) S1x512x2816.size (k0_off112_inb v256 k0_hw5)).WholeWords (EltTy.packing .fp8e4m3) := fun v256 k0_hw5 => k0_hw5.1.2.1 (k0_off112_inb v256 k0_hw5)
theorem k0_off113_inb : ∀ (v256 : BitVec 32) (k0_hw5 : k0_chk5 v256), ∀ a, (k0_off113 v256) a + S1x512x2816.size a ≤ S8x7168x2816.size a := fun v256 k0_hw5 => k0_hw5.1.2.2.1
theorem k0_off113_wordsfp8e4m3 : ∀ (v256 : BitVec 32) (k0_hw5 : k0_chk5 v256), (Rect.unit (s := S8x7168x2816) (k0_off113 v256) S1x512x2816.size (k0_off113_inb v256 k0_hw5)).WholeWords (EltTy.packing .fp8e4m3) := fun v256 k0_hw5 => k0_hw5.1.2.2.2.1 (k0_off113_inb v256 k0_hw5)
theorem k0_off114_inb : ∀ (v256 : BitVec 32) (k0_hw5 : k0_chk5 v256), ∀ a, (k0_off114 v256) a + S1x512.size a ≤ S8x7168.size a := fun v256 k0_hw5 => k0_hw5.1.2.2.2.2.1
theorem k0_off115_inb : ∀ (v256 : BitVec 32) (k0_hw5 : k0_chk5 v256), ∀ a, (k0_off115 v256) a + S1x512.size a ≤ S8x7168.size a := fun v256 k0_hw5 => k0_hw5.1.2.2.2.2.2.1
theorem k0_off118_inb : ∀ (v256 : BitVec 32) (k0_hw5 : k0_chk5 v256), ∀ a, (k0_off118 v256) a + S1x512x2816.size a ≤ S8x7168x2816.size a := fun v256 k0_hw5 => k0_hw5.1.2.2.2.2.2.2.1
theorem k0_off118_wordsfp8e4m3 : ∀ (v256 : BitVec 32) (k0_hw5 : k0_chk5 v256), (Rect.unit (s := S8x7168x2816) (k0_off118 v256) S1x512x2816.size (k0_off118_inb v256 k0_hw5)).WholeWords (EltTy.packing .fp8e4m3) := fun v256 k0_hw5 => k0_hw5.1.2.2.2.2.2.2.2.1 (k0_off118_inb v256 k0_hw5)
theorem k0_off119_inb : ∀ (v256 : BitVec 32) (k0_hw5 : k0_chk5 v256), ∀ a, (k0_off119 v256) a + S1x512x2816.size a ≤ S8x7168x2816.size a := fun v256 k0_hw5 => k0_hw5.1.2.2.2.2.2.2.2.2.1
theorem k0_off119_wordsfp8e4m3 : ∀ (v256 : BitVec 32) (k0_hw5 : k0_chk5 v256), (Rect.unit (s := S8x7168x2816) (k0_off119 v256) S1x512x2816.size (k0_off119_inb v256 k0_hw5)).WholeWords (EltTy.packing .fp8e4m3) := fun v256 k0_hw5 => k0_hw5.1.2.2.2.2.2.2.2.2.2.1 (k0_off119_inb v256 k0_hw5)
theorem k0_off120_inb : ∀ (v256 : BitVec 32) (k0_hw5 : k0_chk5 v256), ∀ a, (k0_off120 v256) a + S1x512.size a ≤ S8x7168.size a := fun v256 k0_hw5 => k0_hw5.1.2.2.2.2.2.2.2.2.2.2.1
theorem k0_off121_inb : ∀ (v256 : BitVec 32) (k0_hw5 : k0_chk5 v256), ∀ a, (k0_off121 v256) a + S1x512.size a ≤ S8x7168.size a := fun v256 k0_hw5 => k0_hw5.1.2.2.2.2.2.2.2.2.2.2.2.1
theorem k0_off124_inb : ∀ (v256 : BitVec 32) (k0_hw5 : k0_chk5 v256), ∀ a, (k0_off124 v256) a + S1x512x2816.size a ≤ S8x7168x2816.size a := fun v256 k0_hw5 => k0_hw5.1.2.2.2.2.2.2.2.2.2.2.2.2.1
theorem k0_off124_wordsfp8e4m3 : ∀ (v256 : BitVec 32) (k0_hw5 : k0_chk5 v256), (Rect.unit (s := S8x7168x2816) (k0_off124 v256) S1x512x2816.size (k0_off124_inb v256 k0_hw5)).WholeWords (EltTy.packing .fp8e4m3) := fun v256 k0_hw5 => k0_hw5.1.2.2.2.2.2.2.2.2.2.2.2.2.2.1 (k0_off124_inb v256 k0_hw5)
theorem k0_off125_inb : ∀ (v256 : BitVec 32) (k0_hw5 : k0_chk5 v256), ∀ a, (k0_off125 v256) a + S1x512x2816.size a ≤ S8x7168x2816.size a := fun v256 k0_hw5 => k0_hw5.1.2.2.2.2.2.2.2.2.2.2.2.2.2.2.1
theorem k0_off125_wordsfp8e4m3 : ∀ (v256 : BitVec 32) (k0_hw5 : k0_chk5 v256), (Rect.unit (s := S8x7168x2816) (k0_off125 v256) S1x512x2816.size (k0_off125_inb v256 k0_hw5)).WholeWords (EltTy.packing .fp8e4m3) := fun v256 k0_hw5 => k0_hw5.1.2.2.2.2.2.2.2.2.2.2.2.2.2.2.2.1 (k0_off125_inb v256 k0_hw5)
theorem k0_off126_inb : ∀ (v256 : BitVec 32) (k0_hw5 : k0_chk5 v256), ∀ a, (k0_off126 v256) a + S1x512.size a ≤ S8x7168.size a := fun v256 k0_hw5 => k0_hw5.1.2.2.2.2.2.2.2.2.2.2.2.2.2.2.2.2.1
theorem k0_off127_inb : ∀ (v256 : BitVec 32) (k0_hw5 : k0_chk5 v256), ∀ a, (k0_off127 v256) a + S1x512.size a ≤ S8x7168.size a := fun v256 k0_hw5 => k0_hw5.1.2.2.2.2.2.2.2.2.2.2.2.2.2.2.2.2.2.1
theorem k0_off130_inb : ∀ (v256 : BitVec 32) (k0_hw5 : k0_chk5 v256), ∀ a, (k0_off130 v256) a + S1x512x2816.size a ≤ S8x7168x2816.size a := fun v256 k0_hw5 => k0_hw5.1.2.2.2.2.2.2.2.2.2.2.2.2.2.2.2.2.2.2.1
theorem k0_off130_wordsfp8e4m3 : ∀ (v256 : BitVec 32) (k0_hw5 : k0_chk5 v256), (Rect.unit (s := S8x7168x2816) (k0_off130 v256) S1x512x2816.size (k0_off130_inb v256 k0_hw5)).WholeWords (EltTy.packing .fp8e4m3) := fun v256 k0_hw5 => k0_hw5.1.2.2.2.2.2.2.2.2.2.2.2.2.2.2.2.2.2.2.2.1 (k0_off130_inb v256 k0_hw5)
theorem k0_off131_inb : ∀ (v256 : BitVec 32) (k0_hw5 : k0_chk5 v256), ∀ a, (k0_off131 v256) a + S1x512x2816.size a ≤ S8x7168x2816.size a := fun v256 k0_hw5 => k0_hw5.1.2.2.2.2.2.2.2.2.2.2.2.2.2.2.2.2.2.2.2.2.1
theorem k0_off131_wordsfp8e4m3 : ∀ (v256 : BitVec 32) (k0_hw5 : k0_chk5 v256), (Rect.unit (s := S8x7168x2816) (k0_off131 v256) S1x512x2816.size (k0_off131_inb v256 k0_hw5)).WholeWords (EltTy.packing .fp8e4m3) := fun v256 k0_hw5 => k0_hw5.1.2.2.2.2.2.2.2.2.2.2.2.2.2.2.2.2.2.2.2.2.2.1 (k0_off131_inb v256 k0_hw5)
theorem k0_off132_inb : ∀ (v256 : BitVec 32) (k0_hw5 : k0_chk5 v256), ∀ a, (k0_off132 v256) a + S1x512.size a ≤ S8x7168.size a := fun v256 k0_hw5 => k0_hw5.1.2.2.2.2.2.2.2.2.2.2.2.2.2.2.2.2.2.2.2.2.2.2.1
theorem k0_off133_inb : ∀ (v256 : BitVec 32) (k0_hw5 : k0_chk5 v256), ∀ a, (k0_off133 v256) a + S1x512.size a ≤ S8x7168.size a := fun v256 k0_hw5 => k0_hw5.1.2.2.2.2.2.2.2.2.2.2.2.2.2.2.2.2.2.2.2.2.2.2.2.1
theorem k0_off136_inb : ∀ (v256 : BitVec 32) (k0_hw5 : k0_chk5 v256), ∀ a, (k0_off136 v256) a + S1x512x2816.size a ≤ S8x7168x2816.size a := fun v256 k0_hw5 => k0_hw5.1.2.2.2.2.2.2.2.2.2.2.2.2.2.2.2.2.2.2.2.2.2.2.2.2.1
theorem k0_off136_wordsfp8e4m3 : ∀ (v256 : BitVec 32) (k0_hw5 : k0_chk5 v256), (Rect.unit (s := S8x7168x2816) (k0_off136 v256) S1x512x2816.size (k0_off136_inb v256 k0_hw5)).WholeWords (EltTy.packing .fp8e4m3) := fun v256 k0_hw5 => k0_hw5.1.2.2.2.2.2.2.2.2.2.2.2.2.2.2.2.2.2.2.2.2.2.2.2.2.2.1 (k0_off136_inb v256 k0_hw5)
theorem k0_off137_inb : ∀ (v256 : BitVec 32) (k0_hw5 : k0_chk5 v256), ∀ a, (k0_off137 v256) a + S1x512x2816.size a ≤ S8x7168x2816.size a := fun v256 k0_hw5 => k0_hw5.1.2.2.2.2.2.2.2.2.2.2.2.2.2.2.2.2.2.2.2.2.2.2.2.2.2.2.1
theorem k0_off137_wordsfp8e4m3 : ∀ (v256 : BitVec 32) (k0_hw5 : k0_chk5 v256), (Rect.unit (s := S8x7168x2816) (k0_off137 v256) S1x512x2816.size (k0_off137_inb v256 k0_hw5)).WholeWords (EltTy.packing .fp8e4m3) := fun v256 k0_hw5 => k0_hw5.1.2.2.2.2.2.2.2.2.2.2.2.2.2.2.2.2.2.2.2.2.2.2.2.2.2.2.2.1 (k0_off137_inb v256 k0_hw5)
theorem k0_off138_inb : ∀ (v256 : BitVec 32) (k0_hw5 : k0_chk5 v256), ∀ a, (k0_off138 v256) a + S1x512.size a ≤ S8x7168.size a := fun v256 k0_hw5 => k0_hw5.1.2.2.2.2.2.2.2.2.2.2.2.2.2.2.2.2.2.2.2.2.2.2.2.2.2.2.2.2.1
theorem k0_off139_inb : ∀ (v256 : BitVec 32) (k0_hw5 : k0_chk5 v256), ∀ a, (k0_off139 v256) a + S1x512.size a ≤ S8x7168.size a := fun v256 k0_hw5 => k0_hw5.1.2.2.2.2.2.2.2.2.2.2.2.2.2.2.2.2.2.2.2.2.2.2.2.2.2.2.2.2.2.1
theorem k0_off142_inb : ∀ (v256 : BitVec 32) (k0_hw5 : k0_chk5 v256), ∀ a, (k0_off142 v256) a + S1x512x2816.size a ≤ S8x7168x2816.size a := fun v256 k0_hw5 => k0_hw5.1.2.2.2.2.2.2.2.2.2.2.2.2.2.2.2.2.2.2.2.2.2.2.2.2.2.2.2.2.2.2.1
theorem k0_off142_wordsfp8e4m3 : ∀ (v256 : BitVec 32) (k0_hw5 : k0_chk5 v256), (Rect.unit (s := S8x7168x2816) (k0_off142 v256) S1x512x2816.size (k0_off142_inb v256 k0_hw5)).WholeWords (EltTy.packing .fp8e4m3) := fun v256 k0_hw5 => k0_hw5.1.2.2.2.2.2.2.2.2.2.2.2.2.2.2.2.2.2.2.2.2.2.2.2.2.2.2.2.2.2.2.2 (k0_off142_inb v256 k0_hw5)
theorem k0_off143_inb : ∀ (v256 : BitVec 32) (k0_hw5 : k0_chk5 v256), ∀ a, (k0_off143 v256) a + S1x512x2816.size a ≤ S8x7168x2816.size a := fun v256 k0_hw5 => k0_hw5.2.1.1
theorem k0_off143_wordsfp8e4m3 : ∀ (v256 : BitVec 32) (k0_hw5 : k0_chk5 v256), (Rect.unit (s := S8x7168x2816) (k0_off143 v256) S1x512x2816.size (k0_off143_inb v256 k0_hw5)).WholeWords (EltTy.packing .fp8e4m3) := fun v256 k0_hw5 => k0_hw5.2.1.2.1 (k0_off143_inb v256 k0_hw5)
theorem k0_off144_inb : ∀ (v256 : BitVec 32) (k0_hw5 : k0_chk5 v256), ∀ a, (k0_off144 v256) a + S1x512.size a ≤ S8x7168.size a := fun v256 k0_hw5 => k0_hw5.2.1.2.2.1
theorem k0_off145_inb : ∀ (v256 : BitVec 32) (k0_hw5 : k0_chk5 v256), ∀ a, (k0_off145 v256) a + S1x512.size a ≤ S8x7168.size a := fun v256 k0_hw5 => k0_hw5.2.1.2.2.2.1
theorem k0_off148_inb : ∀ (v256 : BitVec 32) (k0_hw5 : k0_chk5 v256), ∀ a, (k0_off148 v256) a + S1x512x2816.size a ≤ S8x7168x2816.size a := fun v256 k0_hw5 => k0_hw5.2.1.2.2.2.2.1
theorem k0_off148_wordsfp8e4m3 : ∀ (v256 : BitVec 32) (k0_hw5 : k0_chk5 v256), (Rect.unit (s := S8x7168x2816) (k0_off148 v256) S1x512x2816.size (k0_off148_inb v256 k0_hw5)).WholeWords (EltTy.packing .fp8e4m3) := fun v256 k0_hw5 => k0_hw5.2.1.2.2.2.2.2.1 (k0_off148_inb v256 k0_hw5)
theorem k0_off149_inb : ∀ (v256 : BitVec 32) (k0_hw5 : k0_chk5 v256), ∀ a, (k0_off149 v256) a + S1x512x2816.size a ≤ S8x7168x2816.size a := fun v256 k0_hw5 => k0_hw5.2.1.2.2.2.2.2.2.1
theorem k0_off149_wordsfp8e4m3 : ∀ (v256 : BitVec 32) (k0_hw5 : k0_chk5 v256), (Rect.unit (s := S8x7168x2816) (k0_off149 v256) S1x512x2816.size (k0_off149_inb v256 k0_hw5)).WholeWords (EltTy.packing .fp8e4m3) := fun v256 k0_hw5 => k0_hw5.2.1.2.2.2.2.2.2.2.1 (k0_off149_inb v256 k0_hw5)
theorem k0_off150_inb : ∀ (v256 : BitVec 32) (k0_hw5 : k0_chk5 v256), ∀ a, (k0_off150 v256) a + S1x512.size a ≤ S8x7168.size a := fun v256 k0_hw5 => k0_hw5.2.1.2.2.2.2.2.2.2.2.1
theorem k0_off151_inb : ∀ (v256 : BitVec 32) (k0_hw5 : k0_chk5 v256), ∀ a, (k0_off151 v256) a + S1x512.size a ≤ S8x7168.size a := fun v256 k0_hw5 => k0_hw5.2.1.2.2.2.2.2.2.2.2.2.1
theorem k0_off154_inb : ∀ (v256 : BitVec 32) (k0_hw5 : k0_chk5 v256), ∀ a, (k0_off154 v256) a + S1x256x3584.size a ≤ S8x2816x3584.size a := fun v256 k0_hw5 => k0_hw5.2.1.2.2.2.2.2.2.2.2.2.2.1
theorem k0_off154_wordsfp8e4m3 : ∀ (v256 : BitVec 32) (k0_hw5 : k0_chk5 v256), (Rect.unit (s := S8x2816x3584) (k0_off154 v256) S1x256x3584.size (k0_off154_inb v256 k0_hw5)).WholeWords (EltTy.packing .fp8e4m3) := fun v256 k0_hw5 => k0_hw5.2.1.2.2.2.2.2.2.2.2.2.2.2.1 (k0_off154_inb v256 k0_hw5)
theorem k0_off155_inb : ∀ (v256 : BitVec 32) (k0_hw5 : k0_chk5 v256), ∀ a, (k0_off155 v256) a + S1x256.size a ≤ S8x2816.size a := fun v256 k0_hw5 => k0_hw5.2.1.2.2.2.2.2.2.2.2.2.2.2.2.1
theorem k0_off157_inb : ∀ (v256 : BitVec 32) (k0_hw5 : k0_chk5 v256), ∀ a, (k0_off157 v256) a + S1x256x3584.size a ≤ S8x2816x3584.size a := fun v256 k0_hw5 => k0_hw5.2.1.2.2.2.2.2.2.2.2.2.2.2.2.2.1
theorem k0_off157_wordsfp8e4m3 : ∀ (v256 : BitVec 32) (k0_hw5 : k0_chk5 v256), (Rect.unit (s := S8x2816x3584) (k0_off157 v256) S1x256x3584.size (k0_off157_inb v256 k0_hw5)).WholeWords (EltTy.packing .fp8e4m3) := fun v256 k0_hw5 => k0_hw5.2.1.2.2.2.2.2.2.2.2.2.2.2.2.2.2.1 (k0_off157_inb v256 k0_hw5)
theorem k0_off158_inb : ∀ (v256 : BitVec 32) (k0_hw5 : k0_chk5 v256), ∀ a, (k0_off158 v256) a + S1x256.size a ≤ S8x2816.size a := fun v256 k0_hw5 => k0_hw5.2.1.2.2.2.2.2.2.2.2.2.2.2.2.2.2.2.1
theorem k0_off160_inb : ∀ (v256 : BitVec 32) (k0_hw5 : k0_chk5 v256), ∀ a, (k0_off160 v256) a + S1x256x3584.size a ≤ S8x2816x3584.size a := fun v256 k0_hw5 => k0_hw5.2.1.2.2.2.2.2.2.2.2.2.2.2.2.2.2.2.2.1
theorem k0_off160_wordsfp8e4m3 : ∀ (v256 : BitVec 32) (k0_hw5 : k0_chk5 v256), (Rect.unit (s := S8x2816x3584) (k0_off160 v256) S1x256x3584.size (k0_off160_inb v256 k0_hw5)).WholeWords (EltTy.packing .fp8e4m3) := fun v256 k0_hw5 => k0_hw5.2.1.2.2.2.2.2.2.2.2.2.2.2.2.2.2.2.2.2.1 (k0_off160_inb v256 k0_hw5)
theorem k0_off161_inb : ∀ (v256 : BitVec 32) (k0_hw5 : k0_chk5 v256), ∀ a, (k0_off161 v256) a + S1x256.size a ≤ S8x2816.size a := fun v256 k0_hw5 => k0_hw5.2.1.2.2.2.2.2.2.2.2.2.2.2.2.2.2.2.2.2.2.1
theorem k0_off163_inb : ∀ (v256 : BitVec 32) (k0_hw5 : k0_chk5 v256), ∀ a, (k0_off163 v256) a + S1x256x3584.size a ≤ S8x2816x3584.size a := fun v256 k0_hw5 => k0_hw5.2.1.2.2.2.2.2.2.2.2.2.2.2.2.2.2.2.2.2.2.2.1
theorem k0_off163_wordsfp8e4m3 : ∀ (v256 : BitVec 32) (k0_hw5 : k0_chk5 v256), (Rect.unit (s := S8x2816x3584) (k0_off163 v256) S1x256x3584.size (k0_off163_inb v256 k0_hw5)).WholeWords (EltTy.packing .fp8e4m3) := fun v256 k0_hw5 => k0_hw5.2.1.2.2.2.2.2.2.2.2.2.2.2.2.2.2.2.2.2.2.2.2.1 (k0_off163_inb v256 k0_hw5)
theorem k0_off164_inb : ∀ (v256 : BitVec 32) (k0_hw5 : k0_chk5 v256), ∀ a, (k0_off164 v256) a + S1x256.size a ≤ S8x2816.size a := fun v256 k0_hw5 => k0_hw5.2.1.2.2.2.2.2.2.2.2.2.2.2.2.2.2.2.2.2.2.2.2.2.1
theorem k0_off166_inb : ∀ (v256 : BitVec 32) (k0_hw5 : k0_chk5 v256), ∀ a, (k0_off166 v256) a + S1x256x3584.size a ≤ S8x2816x3584.size a := fun v256 k0_hw5 => k0_hw5.2.1.2.2.2.2.2.2.2.2.2.2.2.2.2.2.2.2.2.2.2.2.2.2.1
theorem k0_off166_wordsfp8e4m3 : ∀ (v256 : BitVec 32) (k0_hw5 : k0_chk5 v256), (Rect.unit (s := S8x2816x3584) (k0_off166 v256) S1x256x3584.size (k0_off166_inb v256 k0_hw5)).WholeWords (EltTy.packing .fp8e4m3) := fun v256 k0_hw5 => k0_hw5.2.1.2.2.2.2.2.2.2.2.2.2.2.2.2.2.2.2.2.2.2.2.2.2.2.1 (k0_off166_inb v256 k0_hw5)
theorem k0_off167_inb : ∀ (v256 : BitVec 32) (k0_hw5 : k0_chk5 v256), ∀ a, (k0_off167 v256) a + S1x256.size a ≤ S8x2816.size a := fun v256 k0_hw5 => k0_hw5.2.1.2.2.2.2.2.2.2.2.2.2.2.2.2.2.2.2.2.2.2.2.2.2.2.2.1
theorem k0_off169_inb : ∀ (v256 : BitVec 32) (k0_hw5 : k0_chk5 v256), ∀ a, (k0_off169 v256) a + S1x256x3584.size a ≤ S8x2816x3584.size a := fun v256 k0_hw5 => k0_hw5.2.1.2.2.2.2.2.2.2.2.2.2.2.2.2.2.2.2.2.2.2.2.2.2.2.2.2.1
theorem k0_off169_wordsfp8e4m3 : ∀ (v256 : BitVec 32) (k0_hw5 : k0_chk5 v256), (Rect.unit (s := S8x2816x3584) (k0_off169 v256) S1x256x3584.size (k0_off169_inb v256 k0_hw5)).WholeWords (EltTy.packing .fp8e4m3) := fun v256 k0_hw5 => k0_hw5.2.1.2.2.2.2.2.2.2.2.2.2.2.2.2.2.2.2.2.2.2.2.2.2.2.2.2.2.1 (k0_off169_inb v256 k0_hw5)
theorem k0_off170_inb : ∀ (v256 : BitVec 32) (k0_hw5 : k0_chk5 v256), ∀ a, (k0_off170 v256) a + S1x256.size a ≤ S8x2816.size a := fun v256 k0_hw5 => k0_hw5.2.1.2.2.2.2.2.2.2.2.2.2.2.2.2.2.2.2.2.2.2.2.2.2.2.2.2.2.2.1
theorem k0_off172_inb : ∀ (v256 : BitVec 32) (k0_hw5 : k0_chk5 v256), ∀ a, (k0_off172 v256) a + S1x256x3584.size a ≤ S8x2816x3584.size a := fun v256 k0_hw5 => k0_hw5.2.1.2.2.2.2.2.2.2.2.2.2.2.2.2.2.2.2.2.2.2.2.2.2.2.2.2.2.2.2.1
theorem k0_off172_wordsfp8e4m3 : ∀ (v256 : BitVec 32) (k0_hw5 : k0_chk5 v256), (Rect.unit (s := S8x2816x3584) (k0_off172 v256) S1x256x3584.size (k0_off172_inb v256 k0_hw5)).WholeWords (EltTy.packing .fp8e4m3) := fun v256 k0_hw5 => k0_hw5.2.1.2.2.2.2.2.2.2.2.2.2.2.2.2.2.2.2.2.2.2.2.2.2.2.2.2.2.2.2.2.1 (k0_off172_inb v256 k0_hw5)
theorem k0_off173_inb : ∀ (v256 : BitVec 32) (k0_hw5 : k0_chk5 v256), ∀ a, (k0_off173 v256) a + S1x256.size a ≤ S8x2816.size a := fun v256 k0_hw5 => k0_hw5.2.1.2.2.2.2.2.2.2.2.2.2.2.2.2.2.2.2.2.2.2.2.2.2.2.2.2.2.2.2.2.2.1
theorem k0_off175_inb : ∀ (v256 : BitVec 32) (k0_hw5 : k0_chk5 v256), ∀ a, (k0_off175 v256) a + S1x256x3584.size a ≤ S8x2816x3584.size a := fun v256 k0_hw5 => k0_hw5.2.1.2.2.2.2.2.2.2.2.2.2.2.2.2.2.2.2.2.2.2.2.2.2.2.2.2.2.2.2.2.2.2
theorem k0_off175_wordsfp8e4m3 : ∀ (v256 : BitVec 32) (k0_hw5 : k0_chk5 v256), (Rect.unit (s := S8x2816x3584) (k0_off175 v256) S1x256x3584.size (k0_off175_inb v256 k0_hw5)).WholeWords (EltTy.packing .fp8e4m3) := fun v256 k0_hw5 => k0_hw5.2.2.1 (k0_off175_inb v256 k0_hw5)
theorem k0_off176_inb : ∀ (v256 : BitVec 32) (k0_hw5 : k0_chk5 v256), ∀ a, (k0_off176 v256) a + S1x256.size a ≤ S8x2816.size a := fun v256 k0_hw5 => k0_hw5.2.2.2.1
theorem k0_off178_inb : ∀ (v256 : BitVec 32) (k0_hw5 : k0_chk5 v256), ∀ a, (k0_off178 v256) a + S1x256x3584.size a ≤ S8x2816x3584.size a := fun v256 k0_hw5 => k0_hw5.2.2.2.2.1
theorem k0_off178_wordsfp8e4m3 : ∀ (v256 : BitVec 32) (k0_hw5 : k0_chk5 v256), (Rect.unit (s := S8x2816x3584) (k0_off178 v256) S1x256x3584.size (k0_off178_inb v256 k0_hw5)).WholeWords (EltTy.packing .fp8e4m3) := fun v256 k0_hw5 => k0_hw5.2.2.2.2.2.1 (k0_off178_inb v256 k0_hw5)
theorem k0_off179_inb : ∀ (v256 : BitVec 32) (k0_hw5 : k0_chk5 v256), ∀ a, (k0_off179 v256) a + S1x256.size a ≤ S8x2816.size a := fun v256 k0_hw5 => k0_hw5.2.2.2.2.2.2.1
theorem k0_off181_inb : ∀ (v256 : BitVec 32) (k0_hw5 : k0_chk5 v256), ∀ a, (k0_off181 v256) a + S1x256x3584.size a ≤ S8x2816x3584.size a := fun v256 k0_hw5 => k0_hw5.2.2.2.2.2.2.2.1
theorem k0_off181_wordsfp8e4m3 : ∀ (v256 : BitVec 32) (k0_hw5 : k0_chk5 v256), (Rect.unit (s := S8x2816x3584) (k0_off181 v256) S1x256x3584.size (k0_off181_inb v256 k0_hw5)).WholeWords (EltTy.packing .fp8e4m3) := fun v256 k0_hw5 => k0_hw5.2.2.2.2.2.2.2.2.1 (k0_off181_inb v256 k0_hw5)
theorem k0_off182_inb : ∀ (v256 : BitVec 32) (k0_hw5 : k0_chk5 v256), ∀ a, (k0_off182 v256) a + S1x256.size a ≤ S8x2816.size a := fun v256 k0_hw5 => k0_hw5.2.2.2.2.2.2.2.2.2.1
theorem k0_off184_inb : ∀ (v256 : BitVec 32) (k0_hw5 : k0_chk5 v256), ∀ a, (k0_off184 v256) a + S1x256x3584.size a ≤ S8x2816x3584.size a := fun v256 k0_hw5 => k0_hw5.2.2.2.2.2.2.2.2.2.2.1
theorem k0_off184_wordsfp8e4m3 : ∀ (v256 : BitVec 32) (k0_hw5 : k0_chk5 v256), (Rect.unit (s := S8x2816x3584) (k0_off184 v256) S1x256x3584.size (k0_off184_inb v256 k0_hw5)).WholeWords (EltTy.packing .fp8e4m3) := fun v256 k0_hw5 => k0_hw5.2.2.2.2.2.2.2.2.2.2.2.1 (k0_off184_inb v256 k0_hw5)
theorem k0_off185_inb : ∀ (v256 : BitVec 32) (k0_hw5 : k0_chk5 v256), ∀ a, (k0_off185 v256) a + S1x256.size a ≤ S8x2816.size a := fun v256 k0_hw5 => k0_hw5.2.2.2.2.2.2.2.2.2.2.2.2

def k0_off186 (v263 : BitVec 32) : Fin 3 → Nat :=
  let c2560_i32_669 : BitVec 32 := 2560#32
  let c0_i32_670 : BitVec 32 := 0#32
  ![v263.toNat, 2560, 0]
def k0_cond36 (v50 : BitVec 32) (k0_t2 : Fin (k0_t2_loop v50).trips) : BitVec 1 :=
  let c0_i32_200 : BitVec 32 := 0#32
  let c0_i32_22 : BitVec 32 := 0#32
  let c0_i32_18 : BitVec 32 := 0#32
  let v51 : BitVec 32 := Scalar.shrsi v50 c0_i32_18
  let c1_i32_19 : BitVec 32 := 1#32
  let v52 : BitVec 32 := Scalar.andi v51 c1_i32_19
  let v54 : BitVec 32 := Scalar.addi c0_i32_22 v52
  let c1_i32_23 : BitVec 32 := 1#32
  let v55 : BitVec 32 := Scalar.shrsi v50 c1_i32_23
  let c1_i32_24 : BitVec 32 := 1#32
  let v56 : BitVec 32 := Scalar.andi v55 c1_i32_24
  let v59 : BitVec 32 := Scalar.addi v54 v56
  let c2_i32 : BitVec 32 := 2#32
  let v60 : BitVec 32 := Scalar.shrsi v50 c2_i32
  let c1_i32_26 : BitVec 32 := 1#32
  let v61 : BitVec 32 := Scalar.andi v60 c1_i32_26
  let v64 : BitVec 32 := Scalar.addi v59 v61
  let c3_i32 : BitVec 32 := 3#32
  let v65 : BitVec 32 := Scalar.shrsi v50 c3_i32
  let c1_i32_28 : BitVec 32 := 1#32
  let v66 : BitVec 32 := Scalar.andi v65 c1_i32_28
  let v69 : BitVec 32 := Scalar.addi v64 v66
  let c4_i32 : BitVec 32 := 4#32
  let v70 : BitVec 32 := Scalar.shrsi v50 c4_i32
  let c1_i32_30 : BitVec 32 := 1#32
  let v71 : BitVec 32 := Scalar.andi v70 c1_i32_30
  let v74 : BitVec 32 := Scalar.addi v69 v71
  let c5_i32 : BitVec 32 := 5#32
  let v75 : BitVec 32 := Scalar.shrsi v50 c5_i32
  let c1_i32_32 : BitVec 32 := 1#32
  let v76 : BitVec 32 := Scalar.andi v75 c1_i32_32
  let v79 : BitVec 32 := Scalar.addi v74 v76
  let c6_i32 : BitVec 32 := 6#32
  let v80 : BitVec 32 := Scalar.shrsi v50 c6_i32
  let c1_i32_34 : BitVec 32 := 1#32
  let v81 : BitVec 32 := Scalar.andi v80 c1_i32_34
  let v84 : BitVec 32 := Scalar.addi v79 v81
  let c7_i32 : BitVec 32 := 7#32
  let v85 : BitVec 32 := Scalar.shrsi v50 c7_i32
  let c1_i32_36 : BitVec 32 := 1#32
  let v86 : BitVec 32 := Scalar.andi v85 c1_i32_36
  let v89 : BitVec 32 := Scalar.addi v84 v86
  let v245 : BitVec 32 := Scalar.subi v89 c0_i32_200
  let c1_i32_202 : BitVec 32 := 1#32
  let v247 : BitVec 32 := Scalar.divsi v245 c1_i32_202
  let v248 : BitVec 32 := Scalar.muli v247 c1_i32_202
  let v249 : BitVec 32 := Scalar.addi c0_i32_200 v248
  let c1_i32_204 : BitVec 32 := 1#32
  let arg16 : BitVec 32 := Scf.iv v249 c1_i32_204 k0_t2
  let c1_i32_209 : BitVec 32 := 1#32
  let v257 : BitVec 32 := Scalar.addi arg16 c1_i32_209
  let v258 : BitVec 1 := Scalar.cmpi .slt v257 v89
  let v876 : BitVec 32 := Scalar.extui v258
  let c0_i32_663 : BitVec 32 := 0#32
  let v877 : BitVec 1 := Scalar.cmpi .ne v876 c0_i32_663
  v877

def k0_chk6_0 (v50 : BitVec 32) (k0_t2 : Fin (k0_t2_loop v50).trips) (v263 : BitVec 32) : Prop :=
  (∀ (k0_h19 : k0_cond19 v50 k0_t2 = 1#1), ∀ a, (k0_off116 v263) a + S1x512x2816.size a ≤ S8x7168x2816.size a) ∧
  (∀ (k0_h19 : k0_cond19 v50 k0_t2 = 1#1), ∀ (hinb : ∀ a, (k0_off116 v263) a + S1x512x2816.size a ≤ S8x7168x2816.size a), (Rect.unit (s := S8x7168x2816) (k0_off116 v263) S1x512x2816.size hinb).WholeWords (EltTy.packing .fp8e4m3)) ∧
  (∀ (k0_h19 : k0_cond19 v50 k0_t2 = 1#1), ∀ a, (k0_off117 v263) a + S1x512x2816.size a ≤ S8x7168x2816.size a) ∧
  (∀ (k0_h19 : k0_cond19 v50 k0_t2 = 1#1), ∀ (hinb : ∀ a, (k0_off117 v263) a + S1x512x2816.size a ≤ S8x7168x2816.size a), (Rect.unit (s := S8x7168x2816) (k0_off117 v263) S1x512x2816.size hinb).WholeWords (EltTy.packing .fp8e4m3)) ∧
  (∀ (k0_h20 : k0_cond20 v50 k0_t2 = 1#1), ∀ a, (k0_off122 v263) a + S1x512x2816.size a ≤ S8x7168x2816.size a) ∧
  (∀ (k0_h20 : k0_cond20 v50 k0_t2 = 1#1), ∀ (hinb : ∀ a, (k0_off122 v263) a + S1x512x2816.size a ≤ S8x7168x2816.size a), (Rect.unit (s := S8x7168x2816) (k0_off122 v263) S1x512x2816.size hinb).WholeWords (EltTy.packing .fp8e4m3)) ∧
  (∀ (k0_h20 : k0_cond20 v50 k0_t2 = 1#1), ∀ a, (k0_off123 v263) a + S1x512x2816.size a ≤ S8x7168x2816.size a) ∧
  (∀ (k0_h20 : k0_cond20 v50 k0_t2 = 1#1), ∀ (hinb : ∀ a, (k0_off123 v263) a + S1x512x2816.size a ≤ S8x7168x2816.size a), (Rect.unit (s := S8x7168x2816) (k0_off123 v263) S1x512x2816.size hinb).WholeWords (EltTy.packing .fp8e4m3)) ∧
  (∀ (k0_h21 : k0_cond21 v50 k0_t2 = 1#1), ∀ a, (k0_off128 v263) a + S1x512x2816.size a ≤ S8x7168x2816.size a) ∧
  (∀ (k0_h21 : k0_cond21 v50 k0_t2 = 1#1), ∀ (hinb : ∀ a, (k0_off128 v263) a + S1x512x2816.size a ≤ S8x7168x2816.size a), (Rect.unit (s := S8x7168x2816) (k0_off128 v263) S1x512x2816.size hinb).WholeWords (EltTy.packing .fp8e4m3)) ∧
  (∀ (k0_h21 : k0_cond21 v50 k0_t2 = 1#1), ∀ a, (k0_off129 v263) a + S1x512x2816.size a ≤ S8x7168x2816.size a) ∧
  (∀ (k0_h21 : k0_cond21 v50 k0_t2 = 1#1), ∀ (hinb : ∀ a, (k0_off129 v263) a + S1x512x2816.size a ≤ S8x7168x2816.size a), (Rect.unit (s := S8x7168x2816) (k0_off129 v263) S1x512x2816.size hinb).WholeWords (EltTy.packing .fp8e4m3)) ∧
  (∀ (k0_h22 : k0_cond22 v50 k0_t2 = 1#1), ∀ a, (k0_off134 v263) a + S1x512x2816.size a ≤ S8x7168x2816.size a) ∧
  (∀ (k0_h22 : k0_cond22 v50 k0_t2 = 1#1), ∀ (hinb : ∀ a, (k0_off134 v263) a + S1x512x2816.size a ≤ S8x7168x2816.size a), (Rect.unit (s := S8x7168x2816) (k0_off134 v263) S1x512x2816.size hinb).WholeWords (EltTy.packing .fp8e4m3)) ∧
  (∀ (k0_h22 : k0_cond22 v50 k0_t2 = 1#1), ∀ a, (k0_off135 v263) a + S1x512x2816.size a ≤ S8x7168x2816.size a) ∧
  (∀ (k0_h22 : k0_cond22 v50 k0_t2 = 1#1), ∀ (hinb : ∀ a, (k0_off135 v263) a + S1x512x2816.size a ≤ S8x7168x2816.size a), (Rect.unit (s := S8x7168x2816) (k0_off135 v263) S1x512x2816.size hinb).WholeWords (EltTy.packing .fp8e4m3)) ∧
  (∀ (k0_h23 : k0_cond23 v50 k0_t2 = 1#1), ∀ a, (k0_off140 v263) a + S1x512x2816.size a ≤ S8x7168x2816.size a) ∧
  (∀ (k0_h23 : k0_cond23 v50 k0_t2 = 1#1), ∀ (hinb : ∀ a, (k0_off140 v263) a + S1x512x2816.size a ≤ S8x7168x2816.size a), (Rect.unit (s := S8x7168x2816) (k0_off140 v263) S1x512x2816.size hinb).WholeWords (EltTy.packing .fp8e4m3)) ∧
  (∀ (k0_h23 : k0_cond23 v50 k0_t2 = 1#1), ∀ a, (k0_off141 v263) a + S1x512x2816.size a ≤ S8x7168x2816.size a) ∧
  (∀ (k0_h23 : k0_cond23 v50 k0_t2 = 1#1), ∀ (hinb : ∀ a, (k0_off141 v263) a + S1x512x2816.size a ≤ S8x7168x2816.size a), (Rect.unit (s := S8x7168x2816) (k0_off141 v263) S1x512x2816.size hinb).WholeWords (EltTy.packing .fp8e4m3)) ∧
  (∀ (k0_h24 : k0_cond24 v50 k0_t2 = 1#1), ∀ a, (k0_off146 v263) a + S1x512x2816.size a ≤ S8x7168x2816.size a) ∧
  (∀ (k0_h24 : k0_cond24 v50 k0_t2 = 1#1), ∀ (hinb : ∀ a, (k0_off146 v263) a + S1x512x2816.size a ≤ S8x7168x2816.size a), (Rect.unit (s := S8x7168x2816) (k0_off146 v263) S1x512x2816.size hinb).WholeWords (EltTy.packing .fp8e4m3)) ∧
  (∀ (k0_h24 : k0_cond24 v50 k0_t2 = 1#1), ∀ a, (k0_off147 v263) a + S1x512x2816.size a ≤ S8x7168x2816.size a) ∧
  (∀ (k0_h24 : k0_cond24 v50 k0_t2 = 1#1), ∀ (hinb : ∀ a, (k0_off147 v263) a + S1x512x2816.size a ≤ S8x7168x2816.size a), (Rect.unit (s := S8x7168x2816) (k0_off147 v263) S1x512x2816.size hinb).WholeWords (EltTy.packing .fp8e4m3)) ∧
  (∀ (k0_h25 : k0_cond25 v50 k0_t2 = 1#1), ∀ a, (k0_off152 v263) a + S1x512x2816.size a ≤ S8x7168x2816.size a) ∧
  (∀ (k0_h25 : k0_cond25 v50 k0_t2 = 1#1), ∀ (hinb : ∀ a, (k0_off152 v263) a + S1x512x2816.size a ≤ S8x7168x2816.size a), (Rect.unit (s := S8x7168x2816) (k0_off152 v263) S1x512x2816.size hinb).WholeWords (EltTy.packing .fp8e4m3)) ∧
  (∀ (k0_h25 : k0_cond25 v50 k0_t2 = 1#1), ∀ a, (k0_off153 v263) a + S1x512x2816.size a ≤ S8x7168x2816.size a) ∧
  (∀ (k0_h25 : k0_cond25 v50 k0_t2 = 1#1), ∀ (hinb : ∀ a, (k0_off153 v263) a + S1x512x2816.size a ≤ S8x7168x2816.size a), (Rect.unit (s := S8x7168x2816) (k0_off153 v263) S1x512x2816.size hinb).WholeWords (EltTy.packing .fp8e4m3)) ∧
  (∀ (k0_h26 : k0_cond26 v50 k0_t2 = 1#1), ∀ a, (k0_off156 v263) a + S1x256x3584.size a ≤ S8x2816x3584.size a) ∧
  (∀ (k0_h26 : k0_cond26 v50 k0_t2 = 1#1), ∀ (hinb : ∀ a, (k0_off156 v263) a + S1x256x3584.size a ≤ S8x2816x3584.size a), (Rect.unit (s := S8x2816x3584) (k0_off156 v263) S1x256x3584.size hinb).WholeWords (EltTy.packing .fp8e4m3)) ∧
  (∀ (k0_h27 : k0_cond27 v50 k0_t2 = 1#1), ∀ a, (k0_off159 v263) a + S1x256x3584.size a ≤ S8x2816x3584.size a) ∧
  (∀ (k0_h27 : k0_cond27 v50 k0_t2 = 1#1), ∀ (hinb : ∀ a, (k0_off159 v263) a + S1x256x3584.size a ≤ S8x2816x3584.size a), (Rect.unit (s := S8x2816x3584) (k0_off159 v263) S1x256x3584.size hinb).WholeWords (EltTy.packing .fp8e4m3))
def k0_chk6_1 (v50 : BitVec 32) (k0_t2 : Fin (k0_t2_loop v50).trips) (v263 : BitVec 32) : Prop :=
  (∀ (k0_h28 : k0_cond28 v50 k0_t2 = 1#1), ∀ a, (k0_off162 v263) a + S1x256x3584.size a ≤ S8x2816x3584.size a) ∧
  (∀ (k0_h28 : k0_cond28 v50 k0_t2 = 1#1), ∀ (hinb : ∀ a, (k0_off162 v263) a + S1x256x3584.size a ≤ S8x2816x3584.size a), (Rect.unit (s := S8x2816x3584) (k0_off162 v263) S1x256x3584.size hinb).WholeWords (EltTy.packing .fp8e4m3)) ∧
  (∀ (k0_h29 : k0_cond29 v50 k0_t2 = 1#1), ∀ a, (k0_off165 v263) a + S1x256x3584.size a ≤ S8x2816x3584.size a) ∧
  (∀ (k0_h29 : k0_cond29 v50 k0_t2 = 1#1), ∀ (hinb : ∀ a, (k0_off165 v263) a + S1x256x3584.size a ≤ S8x2816x3584.size a), (Rect.unit (s := S8x2816x3584) (k0_off165 v263) S1x256x3584.size hinb).WholeWords (EltTy.packing .fp8e4m3)) ∧
  (∀ (k0_h30 : k0_cond30 v50 k0_t2 = 1#1), ∀ a, (k0_off168 v263) a + S1x256x3584.size a ≤ S8x2816x3584.size a) ∧
  (∀ (k0_h30 : k0_cond30 v50 k0_t2 = 1#1), ∀ (hinb : ∀ a, (k0_off168 v263) a + S1x256x3584.size a ≤ S8x2816x3584.size a), (Rect.unit (s := S8x2816x3584) (k0_off168 v263) S1x256x3584.size hinb).WholeWords (EltTy.packing .fp8e4m3)) ∧
  (∀ (k0_h31 : k0_cond31 v50 k0_t2 = 1#1), ∀ a, (k0_off171 v263) a + S1x256x3584.size a ≤ S8x2816x3584.size a) ∧
  (∀ (k0_h31 : k0_cond31 v50 k0_t2 = 1#1), ∀ (hinb : ∀ a, (k0_off171 v263) a + S1x256x3584.size a ≤ S8x2816x3584.size a), (Rect.unit (s := S8x2816x3584) (k0_off171 v263) S1x256x3584.size hinb).WholeWords (EltTy.packing .fp8e4m3)) ∧
  (∀ (k0_h32 : k0_cond32 v50 k0_t2 = 1#1), ∀ a, (k0_off174 v263) a + S1x256x3584.size a ≤ S8x2816x3584.size a) ∧
  (∀ (k0_h32 : k0_cond32 v50 k0_t2 = 1#1), ∀ (hinb : ∀ a, (k0_off174 v263) a + S1x256x3584.size a ≤ S8x2816x3584.size a), (Rect.unit (s := S8x2816x3584) (k0_off174 v263) S1x256x3584.size hinb).WholeWords (EltTy.packing .fp8e4m3)) ∧
  (∀ (k0_h33 : k0_cond33 v50 k0_t2 = 1#1), ∀ a, (k0_off177 v263) a + S1x256x3584.size a ≤ S8x2816x3584.size a) ∧
  (∀ (k0_h33 : k0_cond33 v50 k0_t2 = 1#1), ∀ (hinb : ∀ a, (k0_off177 v263) a + S1x256x3584.size a ≤ S8x2816x3584.size a), (Rect.unit (s := S8x2816x3584) (k0_off177 v263) S1x256x3584.size hinb).WholeWords (EltTy.packing .fp8e4m3)) ∧
  (∀ (k0_h34 : k0_cond34 v50 k0_t2 = 1#1), ∀ a, (k0_off180 v263) a + S1x256x3584.size a ≤ S8x2816x3584.size a) ∧
  (∀ (k0_h34 : k0_cond34 v50 k0_t2 = 1#1), ∀ (hinb : ∀ a, (k0_off180 v263) a + S1x256x3584.size a ≤ S8x2816x3584.size a), (Rect.unit (s := S8x2816x3584) (k0_off180 v263) S1x256x3584.size hinb).WholeWords (EltTy.packing .fp8e4m3)) ∧
  (∀ (k0_h35 : k0_cond35 v50 k0_t2 = 1#1), ∀ a, (k0_off183 v263) a + S1x256x3584.size a ≤ S8x2816x3584.size a) ∧
  (∀ (k0_h35 : k0_cond35 v50 k0_t2 = 1#1), ∀ (hinb : ∀ a, (k0_off183 v263) a + S1x256x3584.size a ≤ S8x2816x3584.size a), (Rect.unit (s := S8x2816x3584) (k0_off183 v263) S1x256x3584.size hinb).WholeWords (EltTy.packing .fp8e4m3)) ∧
  (∀ (k0_h36 : k0_cond36 v50 k0_t2 = 1#1), ∀ a, (k0_off186 v263) a + S1x256x3584.size a ≤ S8x2816x3584.size a) ∧
  (∀ (k0_h36 : k0_cond36 v50 k0_t2 = 1#1), ∀ (hinb : ∀ a, (k0_off186 v263) a + S1x256x3584.size a ≤ S8x2816x3584.size a), (Rect.unit (s := S8x2816x3584) (k0_off186 v263) S1x256x3584.size hinb).WholeWords (EltTy.packing .fp8e4m3))
def k0_chk6 (v50 : BitVec 32) (k0_t2 : Fin (k0_t2_loop v50).trips) (v263 : BitVec 32) : Prop :=
  k0_chk6_0 v50 k0_t2 v263 ∧
  k0_chk6_1 v50 k0_t2 v263
theorem k0_off116_inb : ∀ (v50 : BitVec 32) (k0_t2 : Fin (k0_t2_loop v50).trips) (v263 : BitVec 32) (k0_hw6 : k0_chk6 v50 k0_t2 v263), ∀ (k0_h19 : k0_cond19 v50 k0_t2 = 1#1), ∀ a, (k0_off116 v263) a + S1x512x2816.size a ≤ S8x7168x2816.size a := fun v50 k0_t2 v263 k0_hw6 k0_h19 => k0_hw6.1.1 k0_h19
theorem k0_off116_wordsfp8e4m3 : ∀ (v50 : BitVec 32) (k0_t2 : Fin (k0_t2_loop v50).trips) (v263 : BitVec 32) (k0_hw6 : k0_chk6 v50 k0_t2 v263), ∀ (k0_h19 : k0_cond19 v50 k0_t2 = 1#1), (Rect.unit (s := S8x7168x2816) (k0_off116 v263) S1x512x2816.size (k0_off116_inb v50 k0_t2 v263 k0_hw6 k0_h19)).WholeWords (EltTy.packing .fp8e4m3) := fun v50 k0_t2 v263 k0_hw6 k0_h19 => k0_hw6.1.2.1 k0_h19 (k0_off116_inb v50 k0_t2 v263 k0_hw6 k0_h19)
theorem k0_off117_inb : ∀ (v50 : BitVec 32) (k0_t2 : Fin (k0_t2_loop v50).trips) (v263 : BitVec 32) (k0_hw6 : k0_chk6 v50 k0_t2 v263), ∀ (k0_h19 : k0_cond19 v50 k0_t2 = 1#1), ∀ a, (k0_off117 v263) a + S1x512x2816.size a ≤ S8x7168x2816.size a := fun v50 k0_t2 v263 k0_hw6 k0_h19 => k0_hw6.1.2.2.1 k0_h19
theorem k0_off117_wordsfp8e4m3 : ∀ (v50 : BitVec 32) (k0_t2 : Fin (k0_t2_loop v50).trips) (v263 : BitVec 32) (k0_hw6 : k0_chk6 v50 k0_t2 v263), ∀ (k0_h19 : k0_cond19 v50 k0_t2 = 1#1), (Rect.unit (s := S8x7168x2816) (k0_off117 v263) S1x512x2816.size (k0_off117_inb v50 k0_t2 v263 k0_hw6 k0_h19)).WholeWords (EltTy.packing .fp8e4m3) := fun v50 k0_t2 v263 k0_hw6 k0_h19 => k0_hw6.1.2.2.2.1 k0_h19 (k0_off117_inb v50 k0_t2 v263 k0_hw6 k0_h19)
theorem k0_off122_inb : ∀ (v50 : BitVec 32) (k0_t2 : Fin (k0_t2_loop v50).trips) (v263 : BitVec 32) (k0_hw6 : k0_chk6 v50 k0_t2 v263), ∀ (k0_h20 : k0_cond20 v50 k0_t2 = 1#1), ∀ a, (k0_off122 v263) a + S1x512x2816.size a ≤ S8x7168x2816.size a := fun v50 k0_t2 v263 k0_hw6 k0_h20 => k0_hw6.1.2.2.2.2.1 k0_h20
theorem k0_off122_wordsfp8e4m3 : ∀ (v50 : BitVec 32) (k0_t2 : Fin (k0_t2_loop v50).trips) (v263 : BitVec 32) (k0_hw6 : k0_chk6 v50 k0_t2 v263), ∀ (k0_h20 : k0_cond20 v50 k0_t2 = 1#1), (Rect.unit (s := S8x7168x2816) (k0_off122 v263) S1x512x2816.size (k0_off122_inb v50 k0_t2 v263 k0_hw6 k0_h20)).WholeWords (EltTy.packing .fp8e4m3) := fun v50 k0_t2 v263 k0_hw6 k0_h20 => k0_hw6.1.2.2.2.2.2.1 k0_h20 (k0_off122_inb v50 k0_t2 v263 k0_hw6 k0_h20)
theorem k0_off123_inb : ∀ (v50 : BitVec 32) (k0_t2 : Fin (k0_t2_loop v50).trips) (v263 : BitVec 32) (k0_hw6 : k0_chk6 v50 k0_t2 v263), ∀ (k0_h20 : k0_cond20 v50 k0_t2 = 1#1), ∀ a, (k0_off123 v263) a + S1x512x2816.size a ≤ S8x7168x2816.size a := fun v50 k0_t2 v263 k0_hw6 k0_h20 => k0_hw6.1.2.2.2.2.2.2.1 k0_h20
theorem k0_off123_wordsfp8e4m3 : ∀ (v50 : BitVec 32) (k0_t2 : Fin (k0_t2_loop v50).trips) (v263 : BitVec 32) (k0_hw6 : k0_chk6 v50 k0_t2 v263), ∀ (k0_h20 : k0_cond20 v50 k0_t2 = 1#1), (Rect.unit (s := S8x7168x2816) (k0_off123 v263) S1x512x2816.size (k0_off123_inb v50 k0_t2 v263 k0_hw6 k0_h20)).WholeWords (EltTy.packing .fp8e4m3) := fun v50 k0_t2 v263 k0_hw6 k0_h20 => k0_hw6.1.2.2.2.2.2.2.2.1 k0_h20 (k0_off123_inb v50 k0_t2 v263 k0_hw6 k0_h20)
theorem k0_off128_inb : ∀ (v50 : BitVec 32) (k0_t2 : Fin (k0_t2_loop v50).trips) (v263 : BitVec 32) (k0_hw6 : k0_chk6 v50 k0_t2 v263), ∀ (k0_h21 : k0_cond21 v50 k0_t2 = 1#1), ∀ a, (k0_off128 v263) a + S1x512x2816.size a ≤ S8x7168x2816.size a := fun v50 k0_t2 v263 k0_hw6 k0_h21 => k0_hw6.1.2.2.2.2.2.2.2.2.1 k0_h21
theorem k0_off128_wordsfp8e4m3 : ∀ (v50 : BitVec 32) (k0_t2 : Fin (k0_t2_loop v50).trips) (v263 : BitVec 32) (k0_hw6 : k0_chk6 v50 k0_t2 v263), ∀ (k0_h21 : k0_cond21 v50 k0_t2 = 1#1), (Rect.unit (s := S8x7168x2816) (k0_off128 v263) S1x512x2816.size (k0_off128_inb v50 k0_t2 v263 k0_hw6 k0_h21)).WholeWords (EltTy.packing .fp8e4m3) := fun v50 k0_t2 v263 k0_hw6 k0_h21 => k0_hw6.1.2.2.2.2.2.2.2.2.2.1 k0_h21 (k0_off128_inb v50 k0_t2 v263 k0_hw6 k0_h21)
theorem k0_off129_inb : ∀ (v50 : BitVec 32) (k0_t2 : Fin (k0_t2_loop v50).trips) (v263 : BitVec 32) (k0_hw6 : k0_chk6 v50 k0_t2 v263), ∀ (k0_h21 : k0_cond21 v50 k0_t2 = 1#1), ∀ a, (k0_off129 v263) a + S1x512x2816.size a ≤ S8x7168x2816.size a := fun v50 k0_t2 v263 k0_hw6 k0_h21 => k0_hw6.1.2.2.2.2.2.2.2.2.2.2.1 k0_h21
theorem k0_off129_wordsfp8e4m3 : ∀ (v50 : BitVec 32) (k0_t2 : Fin (k0_t2_loop v50).trips) (v263 : BitVec 32) (k0_hw6 : k0_chk6 v50 k0_t2 v263), ∀ (k0_h21 : k0_cond21 v50 k0_t2 = 1#1), (Rect.unit (s := S8x7168x2816) (k0_off129 v263) S1x512x2816.size (k0_off129_inb v50 k0_t2 v263 k0_hw6 k0_h21)).WholeWords (EltTy.packing .fp8e4m3) := fun v50 k0_t2 v263 k0_hw6 k0_h21 => k0_hw6.1.2.2.2.2.2.2.2.2.2.2.2.1 k0_h21 (k0_off129_inb v50 k0_t2 v263 k0_hw6 k0_h21)
theorem k0_off134_inb : ∀ (v50 : BitVec 32) (k0_t2 : Fin (k0_t2_loop v50).trips) (v263 : BitVec 32) (k0_hw6 : k0_chk6 v50 k0_t2 v263), ∀ (k0_h22 : k0_cond22 v50 k0_t2 = 1#1), ∀ a, (k0_off134 v263) a + S1x512x2816.size a ≤ S8x7168x2816.size a := fun v50 k0_t2 v263 k0_hw6 k0_h22 => k0_hw6.1.2.2.2.2.2.2.2.2.2.2.2.2.1 k0_h22
theorem k0_off134_wordsfp8e4m3 : ∀ (v50 : BitVec 32) (k0_t2 : Fin (k0_t2_loop v50).trips) (v263 : BitVec 32) (k0_hw6 : k0_chk6 v50 k0_t2 v263), ∀ (k0_h22 : k0_cond22 v50 k0_t2 = 1#1), (Rect.unit (s := S8x7168x2816) (k0_off134 v263) S1x512x2816.size (k0_off134_inb v50 k0_t2 v263 k0_hw6 k0_h22)).WholeWords (EltTy.packing .fp8e4m3) := fun v50 k0_t2 v263 k0_hw6 k0_h22 => k0_hw6.1.2.2.2.2.2.2.2.2.2.2.2.2.2.1 k0_h22 (k0_off134_inb v50 k0_t2 v263 k0_hw6 k0_h22)
theorem k0_off135_inb : ∀ (v50 : BitVec 32) (k0_t2 : Fin (k0_t2_loop v50).trips) (v263 : BitVec 32) (k0_hw6 : k0_chk6 v50 k0_t2 v263), ∀ (k0_h22 : k0_cond22 v50 k0_t2 = 1#1), ∀ a, (k0_off135 v263) a + S1x512x2816.size a ≤ S8x7168x2816.size a := fun v50 k0_t2 v263 k0_hw6 k0_h22 => k0_hw6.1.2.2.2.2.2.2.2.2.2.2.2.2.2.2.1 k0_h22
theorem k0_off135_wordsfp8e4m3 : ∀ (v50 : BitVec 32) (k0_t2 : Fin (k0_t2_loop v50).trips) (v263 : BitVec 32) (k0_hw6 : k0_chk6 v50 k0_t2 v263), ∀ (k0_h22 : k0_cond22 v50 k0_t2 = 1#1), (Rect.unit (s := S8x7168x2816) (k0_off135 v263) S1x512x2816.size (k0_off135_inb v50 k0_t2 v263 k0_hw6 k0_h22)).WholeWords (EltTy.packing .fp8e4m3) := fun v50 k0_t2 v263 k0_hw6 k0_h22 => k0_hw6.1.2.2.2.2.2.2.2.2.2.2.2.2.2.2.2.1 k0_h22 (k0_off135_inb v50 k0_t2 v263 k0_hw6 k0_h22)
theorem k0_off140_inb : ∀ (v50 : BitVec 32) (k0_t2 : Fin (k0_t2_loop v50).trips) (v263 : BitVec 32) (k0_hw6 : k0_chk6 v50 k0_t2 v263), ∀ (k0_h23 : k0_cond23 v50 k0_t2 = 1#1), ∀ a, (k0_off140 v263) a + S1x512x2816.size a ≤ S8x7168x2816.size a := fun v50 k0_t2 v263 k0_hw6 k0_h23 => k0_hw6.1.2.2.2.2.2.2.2.2.2.2.2.2.2.2.2.2.1 k0_h23
theorem k0_off140_wordsfp8e4m3 : ∀ (v50 : BitVec 32) (k0_t2 : Fin (k0_t2_loop v50).trips) (v263 : BitVec 32) (k0_hw6 : k0_chk6 v50 k0_t2 v263), ∀ (k0_h23 : k0_cond23 v50 k0_t2 = 1#1), (Rect.unit (s := S8x7168x2816) (k0_off140 v263) S1x512x2816.size (k0_off140_inb v50 k0_t2 v263 k0_hw6 k0_h23)).WholeWords (EltTy.packing .fp8e4m3) := fun v50 k0_t2 v263 k0_hw6 k0_h23 => k0_hw6.1.2.2.2.2.2.2.2.2.2.2.2.2.2.2.2.2.2.1 k0_h23 (k0_off140_inb v50 k0_t2 v263 k0_hw6 k0_h23)
theorem k0_off141_inb : ∀ (v50 : BitVec 32) (k0_t2 : Fin (k0_t2_loop v50).trips) (v263 : BitVec 32) (k0_hw6 : k0_chk6 v50 k0_t2 v263), ∀ (k0_h23 : k0_cond23 v50 k0_t2 = 1#1), ∀ a, (k0_off141 v263) a + S1x512x2816.size a ≤ S8x7168x2816.size a := fun v50 k0_t2 v263 k0_hw6 k0_h23 => k0_hw6.1.2.2.2.2.2.2.2.2.2.2.2.2.2.2.2.2.2.2.1 k0_h23
theorem k0_off141_wordsfp8e4m3 : ∀ (v50 : BitVec 32) (k0_t2 : Fin (k0_t2_loop v50).trips) (v263 : BitVec 32) (k0_hw6 : k0_chk6 v50 k0_t2 v263), ∀ (k0_h23 : k0_cond23 v50 k0_t2 = 1#1), (Rect.unit (s := S8x7168x2816) (k0_off141 v263) S1x512x2816.size (k0_off141_inb v50 k0_t2 v263 k0_hw6 k0_h23)).WholeWords (EltTy.packing .fp8e4m3) := fun v50 k0_t2 v263 k0_hw6 k0_h23 => k0_hw6.1.2.2.2.2.2.2.2.2.2.2.2.2.2.2.2.2.2.2.2.1 k0_h23 (k0_off141_inb v50 k0_t2 v263 k0_hw6 k0_h23)
theorem k0_off146_inb : ∀ (v50 : BitVec 32) (k0_t2 : Fin (k0_t2_loop v50).trips) (v263 : BitVec 32) (k0_hw6 : k0_chk6 v50 k0_t2 v263), ∀ (k0_h24 : k0_cond24 v50 k0_t2 = 1#1), ∀ a, (k0_off146 v263) a + S1x512x2816.size a ≤ S8x7168x2816.size a := fun v50 k0_t2 v263 k0_hw6 k0_h24 => k0_hw6.1.2.2.2.2.2.2.2.2.2.2.2.2.2.2.2.2.2.2.2.2.1 k0_h24
theorem k0_off146_wordsfp8e4m3 : ∀ (v50 : BitVec 32) (k0_t2 : Fin (k0_t2_loop v50).trips) (v263 : BitVec 32) (k0_hw6 : k0_chk6 v50 k0_t2 v263), ∀ (k0_h24 : k0_cond24 v50 k0_t2 = 1#1), (Rect.unit (s := S8x7168x2816) (k0_off146 v263) S1x512x2816.size (k0_off146_inb v50 k0_t2 v263 k0_hw6 k0_h24)).WholeWords (EltTy.packing .fp8e4m3) := fun v50 k0_t2 v263 k0_hw6 k0_h24 => k0_hw6.1.2.2.2.2.2.2.2.2.2.2.2.2.2.2.2.2.2.2.2.2.2.1 k0_h24 (k0_off146_inb v50 k0_t2 v263 k0_hw6 k0_h24)
theorem k0_off147_inb : ∀ (v50 : BitVec 32) (k0_t2 : Fin (k0_t2_loop v50).trips) (v263 : BitVec 32) (k0_hw6 : k0_chk6 v50 k0_t2 v263), ∀ (k0_h24 : k0_cond24 v50 k0_t2 = 1#1), ∀ a, (k0_off147 v263) a + S1x512x2816.size a ≤ S8x7168x2816.size a := fun v50 k0_t2 v263 k0_hw6 k0_h24 => k0_hw6.1.2.2.2.2.2.2.2.2.2.2.2.2.2.2.2.2.2.2.2.2.2.2.1 k0_h24
theorem k0_off147_wordsfp8e4m3 : ∀ (v50 : BitVec 32) (k0_t2 : Fin (k0_t2_loop v50).trips) (v263 : BitVec 32) (k0_hw6 : k0_chk6 v50 k0_t2 v263), ∀ (k0_h24 : k0_cond24 v50 k0_t2 = 1#1), (Rect.unit (s := S8x7168x2816) (k0_off147 v263) S1x512x2816.size (k0_off147_inb v50 k0_t2 v263 k0_hw6 k0_h24)).WholeWords (EltTy.packing .fp8e4m3) := fun v50 k0_t2 v263 k0_hw6 k0_h24 => k0_hw6.1.2.2.2.2.2.2.2.2.2.2.2.2.2.2.2.2.2.2.2.2.2.2.2.1 k0_h24 (k0_off147_inb v50 k0_t2 v263 k0_hw6 k0_h24)
theorem k0_off152_inb : ∀ (v50 : BitVec 32) (k0_t2 : Fin (k0_t2_loop v50).trips) (v263 : BitVec 32) (k0_hw6 : k0_chk6 v50 k0_t2 v263), ∀ (k0_h25 : k0_cond25 v50 k0_t2 = 1#1), ∀ a, (k0_off152 v263) a + S1x512x2816.size a ≤ S8x7168x2816.size a := fun v50 k0_t2 v263 k0_hw6 k0_h25 => k0_hw6.1.2.2.2.2.2.2.2.2.2.2.2.2.2.2.2.2.2.2.2.2.2.2.2.2.1 k0_h25
theorem k0_off152_wordsfp8e4m3 : ∀ (v50 : BitVec 32) (k0_t2 : Fin (k0_t2_loop v50).trips) (v263 : BitVec 32) (k0_hw6 : k0_chk6 v50 k0_t2 v263), ∀ (k0_h25 : k0_cond25 v50 k0_t2 = 1#1), (Rect.unit (s := S8x7168x2816) (k0_off152 v263) S1x512x2816.size (k0_off152_inb v50 k0_t2 v263 k0_hw6 k0_h25)).WholeWords (EltTy.packing .fp8e4m3) := fun v50 k0_t2 v263 k0_hw6 k0_h25 => k0_hw6.1.2.2.2.2.2.2.2.2.2.2.2.2.2.2.2.2.2.2.2.2.2.2.2.2.2.1 k0_h25 (k0_off152_inb v50 k0_t2 v263 k0_hw6 k0_h25)
theorem k0_off153_inb : ∀ (v50 : BitVec 32) (k0_t2 : Fin (k0_t2_loop v50).trips) (v263 : BitVec 32) (k0_hw6 : k0_chk6 v50 k0_t2 v263), ∀ (k0_h25 : k0_cond25 v50 k0_t2 = 1#1), ∀ a, (k0_off153 v263) a + S1x512x2816.size a ≤ S8x7168x2816.size a := fun v50 k0_t2 v263 k0_hw6 k0_h25 => k0_hw6.1.2.2.2.2.2.2.2.2.2.2.2.2.2.2.2.2.2.2.2.2.2.2.2.2.2.2.1 k0_h25
theorem k0_off153_wordsfp8e4m3 : ∀ (v50 : BitVec 32) (k0_t2 : Fin (k0_t2_loop v50).trips) (v263 : BitVec 32) (k0_hw6 : k0_chk6 v50 k0_t2 v263), ∀ (k0_h25 : k0_cond25 v50 k0_t2 = 1#1), (Rect.unit (s := S8x7168x2816) (k0_off153 v263) S1x512x2816.size (k0_off153_inb v50 k0_t2 v263 k0_hw6 k0_h25)).WholeWords (EltTy.packing .fp8e4m3) := fun v50 k0_t2 v263 k0_hw6 k0_h25 => k0_hw6.1.2.2.2.2.2.2.2.2.2.2.2.2.2.2.2.2.2.2.2.2.2.2.2.2.2.2.2.1 k0_h25 (k0_off153_inb v50 k0_t2 v263 k0_hw6 k0_h25)
theorem k0_off156_inb : ∀ (v50 : BitVec 32) (k0_t2 : Fin (k0_t2_loop v50).trips) (v263 : BitVec 32) (k0_hw6 : k0_chk6 v50 k0_t2 v263), ∀ (k0_h26 : k0_cond26 v50 k0_t2 = 1#1), ∀ a, (k0_off156 v263) a + S1x256x3584.size a ≤ S8x2816x3584.size a := fun v50 k0_t2 v263 k0_hw6 k0_h26 => k0_hw6.1.2.2.2.2.2.2.2.2.2.2.2.2.2.2.2.2.2.2.2.2.2.2.2.2.2.2.2.2.1 k0_h26
theorem k0_off156_wordsfp8e4m3 : ∀ (v50 : BitVec 32) (k0_t2 : Fin (k0_t2_loop v50).trips) (v263 : BitVec 32) (k0_hw6 : k0_chk6 v50 k0_t2 v263), ∀ (k0_h26 : k0_cond26 v50 k0_t2 = 1#1), (Rect.unit (s := S8x2816x3584) (k0_off156 v263) S1x256x3584.size (k0_off156_inb v50 k0_t2 v263 k0_hw6 k0_h26)).WholeWords (EltTy.packing .fp8e4m3) := fun v50 k0_t2 v263 k0_hw6 k0_h26 => k0_hw6.1.2.2.2.2.2.2.2.2.2.2.2.2.2.2.2.2.2.2.2.2.2.2.2.2.2.2.2.2.2.1 k0_h26 (k0_off156_inb v50 k0_t2 v263 k0_hw6 k0_h26)
theorem k0_off159_inb : ∀ (v50 : BitVec 32) (k0_t2 : Fin (k0_t2_loop v50).trips) (v263 : BitVec 32) (k0_hw6 : k0_chk6 v50 k0_t2 v263), ∀ (k0_h27 : k0_cond27 v50 k0_t2 = 1#1), ∀ a, (k0_off159 v263) a + S1x256x3584.size a ≤ S8x2816x3584.size a := fun v50 k0_t2 v263 k0_hw6 k0_h27 => k0_hw6.1.2.2.2.2.2.2.2.2.2.2.2.2.2.2.2.2.2.2.2.2.2.2.2.2.2.2.2.2.2.2.1 k0_h27
theorem k0_off159_wordsfp8e4m3 : ∀ (v50 : BitVec 32) (k0_t2 : Fin (k0_t2_loop v50).trips) (v263 : BitVec 32) (k0_hw6 : k0_chk6 v50 k0_t2 v263), ∀ (k0_h27 : k0_cond27 v50 k0_t2 = 1#1), (Rect.unit (s := S8x2816x3584) (k0_off159 v263) S1x256x3584.size (k0_off159_inb v50 k0_t2 v263 k0_hw6 k0_h27)).WholeWords (EltTy.packing .fp8e4m3) := fun v50 k0_t2 v263 k0_hw6 k0_h27 => k0_hw6.1.2.2.2.2.2.2.2.2.2.2.2.2.2.2.2.2.2.2.2.2.2.2.2.2.2.2.2.2.2.2.2 k0_h27 (k0_off159_inb v50 k0_t2 v263 k0_hw6 k0_h27)
theorem k0_off162_inb : ∀ (v50 : BitVec 32) (k0_t2 : Fin (k0_t2_loop v50).trips) (v263 : BitVec 32) (k0_hw6 : k0_chk6 v50 k0_t2 v263), ∀ (k0_h28 : k0_cond28 v50 k0_t2 = 1#1), ∀ a, (k0_off162 v263) a + S1x256x3584.size a ≤ S8x2816x3584.size a := fun v50 k0_t2 v263 k0_hw6 k0_h28 => k0_hw6.2.1 k0_h28
theorem k0_off162_wordsfp8e4m3 : ∀ (v50 : BitVec 32) (k0_t2 : Fin (k0_t2_loop v50).trips) (v263 : BitVec 32) (k0_hw6 : k0_chk6 v50 k0_t2 v263), ∀ (k0_h28 : k0_cond28 v50 k0_t2 = 1#1), (Rect.unit (s := S8x2816x3584) (k0_off162 v263) S1x256x3584.size (k0_off162_inb v50 k0_t2 v263 k0_hw6 k0_h28)).WholeWords (EltTy.packing .fp8e4m3) := fun v50 k0_t2 v263 k0_hw6 k0_h28 => k0_hw6.2.2.1 k0_h28 (k0_off162_inb v50 k0_t2 v263 k0_hw6 k0_h28)
theorem k0_off165_inb : ∀ (v50 : BitVec 32) (k0_t2 : Fin (k0_t2_loop v50).trips) (v263 : BitVec 32) (k0_hw6 : k0_chk6 v50 k0_t2 v263), ∀ (k0_h29 : k0_cond29 v50 k0_t2 = 1#1), ∀ a, (k0_off165 v263) a + S1x256x3584.size a ≤ S8x2816x3584.size a := fun v50 k0_t2 v263 k0_hw6 k0_h29 => k0_hw6.2.2.2.1 k0_h29
theorem k0_off165_wordsfp8e4m3 : ∀ (v50 : BitVec 32) (k0_t2 : Fin (k0_t2_loop v50).trips) (v263 : BitVec 32) (k0_hw6 : k0_chk6 v50 k0_t2 v263), ∀ (k0_h29 : k0_cond29 v50 k0_t2 = 1#1), (Rect.unit (s := S8x2816x3584) (k0_off165 v263) S1x256x3584.size (k0_off165_inb v50 k0_t2 v263 k0_hw6 k0_h29)).WholeWords (EltTy.packing .fp8e4m3) := fun v50 k0_t2 v263 k0_hw6 k0_h29 => k0_hw6.2.2.2.2.1 k0_h29 (k0_off165_inb v50 k0_t2 v263 k0_hw6 k0_h29)
theorem k0_off168_inb : ∀ (v50 : BitVec 32) (k0_t2 : Fin (k0_t2_loop v50).trips) (v263 : BitVec 32) (k0_hw6 : k0_chk6 v50 k0_t2 v263), ∀ (k0_h30 : k0_cond30 v50 k0_t2 = 1#1), ∀ a, (k0_off168 v263) a + S1x256x3584.size a ≤ S8x2816x3584.size a := fun v50 k0_t2 v263 k0_hw6 k0_h30 => k0_hw6.2.2.2.2.2.1 k0_h30
theorem k0_off168_wordsfp8e4m3 : ∀ (v50 : BitVec 32) (k0_t2 : Fin (k0_t2_loop v50).trips) (v263 : BitVec 32) (k0_hw6 : k0_chk6 v50 k0_t2 v263), ∀ (k0_h30 : k0_cond30 v50 k0_t2 = 1#1), (Rect.unit (s := S8x2816x3584) (k0_off168 v263) S1x256x3584.size (k0_off168_inb v50 k0_t2 v263 k0_hw6 k0_h30)).WholeWords (EltTy.packing .fp8e4m3) := fun v50 k0_t2 v263 k0_hw6 k0_h30 => k0_hw6.2.2.2.2.2.2.1 k0_h30 (k0_off168_inb v50 k0_t2 v263 k0_hw6 k0_h30)
theorem k0_off171_inb : ∀ (v50 : BitVec 32) (k0_t2 : Fin (k0_t2_loop v50).trips) (v263 : BitVec 32) (k0_hw6 : k0_chk6 v50 k0_t2 v263), ∀ (k0_h31 : k0_cond31 v50 k0_t2 = 1#1), ∀ a, (k0_off171 v263) a + S1x256x3584.size a ≤ S8x2816x3584.size a := fun v50 k0_t2 v263 k0_hw6 k0_h31 => k0_hw6.2.2.2.2.2.2.2.1 k0_h31
theorem k0_off171_wordsfp8e4m3 : ∀ (v50 : BitVec 32) (k0_t2 : Fin (k0_t2_loop v50).trips) (v263 : BitVec 32) (k0_hw6 : k0_chk6 v50 k0_t2 v263), ∀ (k0_h31 : k0_cond31 v50 k0_t2 = 1#1), (Rect.unit (s := S8x2816x3584) (k0_off171 v263) S1x256x3584.size (k0_off171_inb v50 k0_t2 v263 k0_hw6 k0_h31)).WholeWords (EltTy.packing .fp8e4m3) := fun v50 k0_t2 v263 k0_hw6 k0_h31 => k0_hw6.2.2.2.2.2.2.2.2.1 k0_h31 (k0_off171_inb v50 k0_t2 v263 k0_hw6 k0_h31)
theorem k0_off174_inb : ∀ (v50 : BitVec 32) (k0_t2 : Fin (k0_t2_loop v50).trips) (v263 : BitVec 32) (k0_hw6 : k0_chk6 v50 k0_t2 v263), ∀ (k0_h32 : k0_cond32 v50 k0_t2 = 1#1), ∀ a, (k0_off174 v263) a + S1x256x3584.size a ≤ S8x2816x3584.size a := fun v50 k0_t2 v263 k0_hw6 k0_h32 => k0_hw6.2.2.2.2.2.2.2.2.2.1 k0_h32
theorem k0_off174_wordsfp8e4m3 : ∀ (v50 : BitVec 32) (k0_t2 : Fin (k0_t2_loop v50).trips) (v263 : BitVec 32) (k0_hw6 : k0_chk6 v50 k0_t2 v263), ∀ (k0_h32 : k0_cond32 v50 k0_t2 = 1#1), (Rect.unit (s := S8x2816x3584) (k0_off174 v263) S1x256x3584.size (k0_off174_inb v50 k0_t2 v263 k0_hw6 k0_h32)).WholeWords (EltTy.packing .fp8e4m3) := fun v50 k0_t2 v263 k0_hw6 k0_h32 => k0_hw6.2.2.2.2.2.2.2.2.2.2.1 k0_h32 (k0_off174_inb v50 k0_t2 v263 k0_hw6 k0_h32)
theorem k0_off177_inb : ∀ (v50 : BitVec 32) (k0_t2 : Fin (k0_t2_loop v50).trips) (v263 : BitVec 32) (k0_hw6 : k0_chk6 v50 k0_t2 v263), ∀ (k0_h33 : k0_cond33 v50 k0_t2 = 1#1), ∀ a, (k0_off177 v263) a + S1x256x3584.size a ≤ S8x2816x3584.size a := fun v50 k0_t2 v263 k0_hw6 k0_h33 => k0_hw6.2.2.2.2.2.2.2.2.2.2.2.1 k0_h33
theorem k0_off177_wordsfp8e4m3 : ∀ (v50 : BitVec 32) (k0_t2 : Fin (k0_t2_loop v50).trips) (v263 : BitVec 32) (k0_hw6 : k0_chk6 v50 k0_t2 v263), ∀ (k0_h33 : k0_cond33 v50 k0_t2 = 1#1), (Rect.unit (s := S8x2816x3584) (k0_off177 v263) S1x256x3584.size (k0_off177_inb v50 k0_t2 v263 k0_hw6 k0_h33)).WholeWords (EltTy.packing .fp8e4m3) := fun v50 k0_t2 v263 k0_hw6 k0_h33 => k0_hw6.2.2.2.2.2.2.2.2.2.2.2.2.1 k0_h33 (k0_off177_inb v50 k0_t2 v263 k0_hw6 k0_h33)
theorem k0_off180_inb : ∀ (v50 : BitVec 32) (k0_t2 : Fin (k0_t2_loop v50).trips) (v263 : BitVec 32) (k0_hw6 : k0_chk6 v50 k0_t2 v263), ∀ (k0_h34 : k0_cond34 v50 k0_t2 = 1#1), ∀ a, (k0_off180 v263) a + S1x256x3584.size a ≤ S8x2816x3584.size a := fun v50 k0_t2 v263 k0_hw6 k0_h34 => k0_hw6.2.2.2.2.2.2.2.2.2.2.2.2.2.1 k0_h34
theorem k0_off180_wordsfp8e4m3 : ∀ (v50 : BitVec 32) (k0_t2 : Fin (k0_t2_loop v50).trips) (v263 : BitVec 32) (k0_hw6 : k0_chk6 v50 k0_t2 v263), ∀ (k0_h34 : k0_cond34 v50 k0_t2 = 1#1), (Rect.unit (s := S8x2816x3584) (k0_off180 v263) S1x256x3584.size (k0_off180_inb v50 k0_t2 v263 k0_hw6 k0_h34)).WholeWords (EltTy.packing .fp8e4m3) := fun v50 k0_t2 v263 k0_hw6 k0_h34 => k0_hw6.2.2.2.2.2.2.2.2.2.2.2.2.2.2.1 k0_h34 (k0_off180_inb v50 k0_t2 v263 k0_hw6 k0_h34)
theorem k0_off183_inb : ∀ (v50 : BitVec 32) (k0_t2 : Fin (k0_t2_loop v50).trips) (v263 : BitVec 32) (k0_hw6 : k0_chk6 v50 k0_t2 v263), ∀ (k0_h35 : k0_cond35 v50 k0_t2 = 1#1), ∀ a, (k0_off183 v263) a + S1x256x3584.size a ≤ S8x2816x3584.size a := fun v50 k0_t2 v263 k0_hw6 k0_h35 => k0_hw6.2.2.2.2.2.2.2.2.2.2.2.2.2.2.2.1 k0_h35
theorem k0_off183_wordsfp8e4m3 : ∀ (v50 : BitVec 32) (k0_t2 : Fin (k0_t2_loop v50).trips) (v263 : BitVec 32) (k0_hw6 : k0_chk6 v50 k0_t2 v263), ∀ (k0_h35 : k0_cond35 v50 k0_t2 = 1#1), (Rect.unit (s := S8x2816x3584) (k0_off183 v263) S1x256x3584.size (k0_off183_inb v50 k0_t2 v263 k0_hw6 k0_h35)).WholeWords (EltTy.packing .fp8e4m3) := fun v50 k0_t2 v263 k0_hw6 k0_h35 => k0_hw6.2.2.2.2.2.2.2.2.2.2.2.2.2.2.2.2.1 k0_h35 (k0_off183_inb v50 k0_t2 v263 k0_hw6 k0_h35)
theorem k0_off186_inb : ∀ (v50 : BitVec 32) (k0_t2 : Fin (k0_t2_loop v50).trips) (v263 : BitVec 32) (k0_hw6 : k0_chk6 v50 k0_t2 v263), ∀ (k0_h36 : k0_cond36 v50 k0_t2 = 1#1), ∀ a, (k0_off186 v263) a + S1x256x3584.size a ≤ S8x2816x3584.size a := fun v50 k0_t2 v263 k0_hw6 k0_h36 => k0_hw6.2.2.2.2.2.2.2.2.2.2.2.2.2.2.2.2.2.1 k0_h36
theorem k0_off186_wordsfp8e4m3 : ∀ (v50 : BitVec 32) (k0_t2 : Fin (k0_t2_loop v50).trips) (v263 : BitVec 32) (k0_hw6 : k0_chk6 v50 k0_t2 v263), ∀ (k0_h36 : k0_cond36 v50 k0_t2 = 1#1), (Rect.unit (s := S8x2816x3584) (k0_off186 v263) S1x256x3584.size (k0_off186_inb v50 k0_t2 v263 k0_hw6 k0_h36)).WholeWords (EltTy.packing .fp8e4m3) := fun v50 k0_t2 v263 k0_hw6 k0_h36 => k0_hw6.2.2.2.2.2.2.2.2.2.2.2.2.2.2.2.2.2.2 k0_h36 (k0_off186_inb v50 k0_t2 v263 k0_hw6 k0_h36)

abbrev stage0_0 : Fin 1 → Memref sig .tc .vmem S128x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S128x1x2816 : Shape := ⟨3, ![128, 1, 2816]⟩
abbrev S128x1x2 : Shape := ⟨3, ![128, 1, 2]⟩
abbrev S8x7168x2816 : Shape := ⟨3, ![8, 7168, 2816]⟩
abbrev S8x7168 : Shape := ⟨2, ![8, 7168]⟩
abbrev S8x2816x3584 : Shape := ⟨3, ![8, 2816, 3584]⟩
abbrev S8x2816 : Shape := ⟨2, ![8, 2816]⟩
abbrev S128x2816 : Shape := ⟨2, ![128, 2816]⟩
abbrev S128x2 : Shape := ⟨2, ![128, 2]⟩
abbrev S1x7168x2816 : Shape := ⟨3, ![1, 7168, 2816]⟩
abbrev S7168x2816 : Shape := ⟨2, ![7168, 2816]⟩
abbrev S128x7168 : Shape := ⟨2, ![128, 7168]⟩
abbrev S1x7168 : Shape := ⟨2, ![1, 7168]⟩
abbrev S128x3584 : Shape := ⟨2, ![128, 3584]⟩
abbrev S1x2816x3584 : Shape := ⟨3, ![1, 2816, 3584]⟩
abbrev S2816x3584 : Shape := ⟨2, ![2816, 3584]⟩
abbrev S1x2816 : Shape := ⟨2, ![1, 2816]⟩
abbrev S128x1 : Shape := ⟨2, ![128, 1]⟩

abbrev nBuf : Space → Nat
  | .hbm => 12
  | .vmem => 8
  | .smem => 0
  | _ => 0

abbrev bufTy : (tb : Table) → Fin (tcTables nBuf tb) → BufTy
  | .hbm, ⟨0, _⟩ => ⟨S128x1x2816, .bf16⟩
  | .hbm, ⟨1, _⟩ => ⟨S128x1x2, .i32⟩
  | .hbm, ⟨2, _⟩ => ⟨S128x1x2, .f32⟩
  | .hbm, ⟨3, _⟩ => ⟨S8x7168x2816, .fp8e4m3⟩
  | .hbm, ⟨4, _⟩ => ⟨S8x7168, .f32⟩
  | .hbm, ⟨5, _⟩ => ⟨S8x2816x3584, .fp8e4m3⟩
  | .hbm, ⟨6, _⟩ => ⟨S8x2816, .f32⟩
  | .hbm, ⟨7, _⟩ => ⟨S128x2816, .bf16⟩
  | .hbm, ⟨8, _⟩ => ⟨S128x2, .i32⟩
  | .hbm, ⟨9, _⟩ => ⟨S128x2, .f32⟩
  | .hbm, ⟨10, _⟩ => ⟨S128x2816, .bf16⟩
  | .hbm, ⟨11, _⟩ => ⟨S128x1x2816, .bf16⟩
  | .local _ .vmem, ⟨0, _⟩ => ⟨S128x2816, .bf16⟩
  | .local _ .vmem, ⟨1, _⟩ => ⟨S128x2, .i32⟩
  | .local _ .vmem, ⟨2, _⟩ => ⟨S128x2, .f32⟩
  | .local _ .vmem, ⟨3, _⟩ => ⟨S8x7168x2816, .fp8e4m3⟩
  | .local _ .vmem, ⟨4, _⟩ => ⟨S8x7168, .f32⟩
  | .local _ .vmem, ⟨5, _⟩ => ⟨S8x2816x3584, .fp8e4m3⟩
  | .local _ .vmem, ⟨6, _⟩ => ⟨S8x2816, .f32⟩
  | .local _ .vmem, ⟨7, _⟩ => ⟨S128x2816, .bf16⟩
  | _, _ => ⟨S128x1x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x7168x2816 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2816x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Slots.lean ====
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Transfers
public import Idealize.ShloMosaic.Lib.Pipeline.KitQuiescent
public import Idealize.ShloMosaic.Lib.Tactic

@[expose] public section

set_option maxRecDepth 16384

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

/-! ## The resource algebra -/

/-- The pipeline library's resources beside the counters the kernel's own transfers ride on. -/
abbrev UU (nD : Nat) (τ : Topo) : Type := UR sig nD τ × Counters
local notation "𝕄" => MT nD τ sig Unit (Elt F) ℕ (UU nD τ) ℕ
/-- The pipeline's resources within the proof's. -/
abbrev EP : Emb (UR sig nD τ) (MT nD τ sig Unit (Elt F) ℕ (UU nD τ) ℕ) := embL
/-- No loop variants are needed. -/
abbrev 𝒱₀ : Variants := Variants.none

omit [FloatOps F] in
/-- Equal propositions entail each other. -/
theorem entails_of_eq {P Q : sProp 𝕄} (e : P = Q) : P ⊢ Q := e ▸ .rfl

/-! ## The kernel's buffers -/

/-- The gate and up matrices in main memory. -/
abbrev wguM : Memref sig .tc .hbm S8x7168x2816 .fp8e4m3 := Memref.whole main_arg3
/-- The down matrices in main memory. -/
abbrev wdnM : Memref sig .tc .hbm S8x2816x3584 .fp8e4m3 := Memref.whole main_arg5
/-- The buffer of the gate and up slots. -/
abbrev guM : Memref sig .tc .vmem S7x2x512x2816 .fp8e4m3 := Memref.whole cc0_scratch0
/-- The buffer of the down slots. -/
abbrev dnM : Memref sig .tc .vmem S11x256x3584 .fp8e4m3 := Memref.whole cc0_scratch1
/-- The buffer of the hidden values. -/
abbrev hM : Memref sig .tc .vmem S128x3584 .bf16 := Memref.whole cc0_scratch2
/-- The accumulator. -/
abbrev accM : Memref sig .tc .vmem S128x2816 .f32 := Memref.whole cc0_scratch3
/-- The buffer of the lanes' weights and hits. -/
abbrev combM : Memref sig .tc .vmem S2x128x128 .f32 := Memref.whole cc0_scratch4
/-- The list of experts. -/
abbrev listM : Memref sig .tc .smem S8 .i32 := Memref.whole cc0_scratch5

/-- Slot `(j, h)` of the gate/up buffer, as the body slices and squeezes it. -/
abbrev gslot (j h : ℕ) (hi : ∀ a, (![j, h, 0, 0] : Fin 4 → ℕ) a + S1x1x512x2816.size a ≤ S7x2x512x2816.size a) :
    Memref sig .tc .vmem S512x2816 .fp8e4m3 :=
  (guM.slice (Rect.unit (s := S7x2x512x2816) ![j, h, 0, 0] S1x1x512x2816.size hi) (fun _ => rfl)).squeeze S512x2816 squeezes_S1x1x512x2816_S512x2816
/-- Slot `j` of the down buffer. -/
abbrev dslot (j : ℕ) (hi : ∀ a, (![j, 0, 0] : Fin 3 → ℕ) a + S1x256x3584.size a ≤ S11x256x3584.size a) :
    Memref sig .tc .vmem S256x3584 .fp8e4m3 :=
  (dnM.slice (Rect.unit (s := S11x256x3584) ![j, 0, 0] S1x256x3584.size hi) (fun _ => rfl)).squeeze S256x3584 squeezes_S1x256x3584_S256x3584
/-- The DMA semaphore of gate/up slot `(j, h)`. -/
abbrev gsem (j h : ℕ) (hi : ∀ a, (![j, h] : Fin 2 → ℕ) a + S1x1.size a ≤ S7x2.size a) : DmaSems sig S_ :=
  (cc0_scratch6.slice (Rect.unit (s := S7x2) ![j, h] S1x1.size hi)).squeeze S_ squeezes_S1x1_S_
/-- The DMA semaphore of down slot `j`. -/
abbrev dsem (j : ℕ) (hi : ∀ a, (![j] : Fin 1 → ℕ) a + S1.size a ≤ S11.size a) : DmaSems sig S_ :=
  (cc0_scratch7.slice (Rect.unit (s := S11) ![j] S1.size hi)).squeeze S_ squeezes_S1_S_

section Res
variable (c : Dev nD)
  (XG : Buf (Elt F) (wguM.view.loc (c : Thread nD τ))) (XD : Buf (Elt F) (wdnM.view.loc (c : Thread nD τ)))

/-- What a landed gate/up slot holds: rows `h·3584 + j·512 …` of expert `e`'s gate/up weights. -/
def GLanded (e j h : ℕ) (hi : ∀ a, (![j, h, 0, 0] : Fin 4 → ℕ) a + S1x1x512x2816.size a ≤ S7x2x512x2816.size a) (f : Buf (Elt F) (guM.view.loc (c : Thread nD τ))) : Prop :=
  ∀ (x : S512x2816.Idx) (i : S8x7168x2816.Idx), (i 0).val = e → (i 1).val = h * 3584 + j * 512 + (x 0).val → (i 2).val = (x 1).val →
    (gslot j h hi).view.read (Elt F) f x = XG i

/-- What a landed down slot holds: rows `j·256 …` of expert `e`'s down weights. -/
def DLanded (e j : ℕ) (hi : ∀ a, (![j, 0, 0] : Fin 3 → ℕ) a + S1x256x3584.size a ≤ S11x256x3584.size a) (f : Buf (Elt F) (dnM.view.loc (c : Thread nD τ))) : Prop :=
  ∀ (x : S256x3584.Idx) (i : S8x2816x3584.Idx), (i 0).val = e → (i 1).val = j * 256 + (x 0).val → (i 2).val = (x 1).val →
    (dslot j hi).view.read (Elt F) f x = XD i

/-- A gate/up fetch in flight on slot `(j, h)`: when it lands the slot holds its block of expert `e`. The rest of the
    share of the weights it travels under stays here. -/
def gFly (e j h t : ℕ) (hi : ∀ a, (![j, h, 0, 0] : Fin 4 → ℕ) a + S1x1x512x2816.size a ≤ S7x2x512x2816.size a)
    (hs : ∀ a, (![j, h] : Fin 2 → ℕ) a + S1x1.size a ≤ S7x2.size a) : sProp 𝕄 :=
  iprop(∃ (S : Finset (Idx (wguM.view.loc (c : Thread nD τ)))) (f : Buf (Elt F) (guM.view.loc (c : Thread nD τ))), ⌜GLanded c XG e j h hi f⌝
    ∗ Transfers.Flight countersEmb (c : Thread nD τ) (SemLoc.dma (gsem j h hs).sem) () 45056
        iprop(((gslot j h hi).view.loc (c : Thread nD τ) ↦[(gslot j h hi).view.set]{fullShare} f)
          ∗ (wguM.view.loc (c : Thread nD τ) ↦[S]{Transfers.shareTokN fullShare t} XG))
    ∗ (wguM.view.loc (c : Thread nD τ) ↦[Finset.univ \ S]{Transfers.shareTokN fullShare t} XG))

/-- A down fetch in flight on slot `j`. -/
def dFly (e j t : ℕ) (hi : ∀ a, (![j, 0, 0] : Fin 3 → ℕ) a + S1x256x3584.size a ≤ S11x256x3584.size a)
    (hs : ∀ a, (![j] : Fin 1 → ℕ) a + S1.size a ≤ S11.size a) : sProp 𝕄 :=
  iprop(∃ (S : Finset (Idx (wdnM.view.loc (c : Thread nD τ)))) (f : Buf (Elt F) (dnM.view.loc (c : Thread nD τ))), ⌜DLanded c XD e j hi f⌝
    ∗ Transfers.Flight countersEmb (c : Thread nD τ) (SemLoc.dma (dsem j hs).sem) () 28672
        iprop(((dslot j hi).view.loc (c : Thread nD τ) ↦[(dslot j hi).view.set]{fullShare} f)
          ∗ (wdnM.view.loc (c : Thread nD τ) ↦[S]{Transfers.shareTokN fullShare t} XD))
    ∗ (wdnM.view.loc (c : Thread nD τ) ↦[Finset.univ \ S]{Transfers.shareTokN fullShare t} XD))

/-- Gate/up slot `(j, h)` at rest: the slot at anything, its semaphore at zero, its share of the weights whole. -/
def gIdle (j h t : ℕ) (hi : ∀ a, (![j, h, 0, 0] : Fin 4 → ℕ) a + S1x1x512x2816.size a ≤ S7x2x512x2816.size a)
    (hs : ∀ a, (![j, h] : Fin 2 → ℕ) a + S1x1.size a ≤ S7x2.size a) : sProp 𝕄 :=
  iprop(∃ (f : Buf (Elt F) (guM.view.loc (c : Thread nD τ))), ((gslot j h hi).view.loc (c : Thread nD τ) ↦[(gslot j h hi).view.set]{fullShare} f)
    ∗ semVal ((c : Thread nD τ), SemLoc.dma (gsem j h hs).sem) 0
    ∗ (wguM.view.loc (c : Thread nD τ) ↦[Finset.univ]{Transfers.shareTokN fullShare t} XG))

/-- Down slot `j` at rest. -/
def dIdle (j t : ℕ) (hi : ∀ a, (![j, 0, 0] : Fin 3 → ℕ) a + S1x256x3584.size a ≤ S11x256x3584.size a)
    (hs : ∀ a, (![j] : Fin 1 → ℕ) a + S1.size a ≤ S11.size a) : sProp 𝕄 :=
  iprop(∃ (f : Buf (Elt F) (dnM.view.loc (c : Thread nD τ))), ((dslot j hi).view.loc (c : Thread nD τ) ↦[(dslot j hi).view.set]{fullShare} f)
    ∗ semVal ((c : Thread nD τ), SemLoc.dma (dsem j hs).sem) 0
    ∗ (wdnM.view.loc (c : Thread nD τ) ↦[Finset.univ]{Transfers.shareTokN fullShare t} XD))

/-- All 25 fetches of expert `e` in flight. -/
def Fly (e : ℕ) : sProp 𝕄 :=
  iprop(gFly c XG e 0 0 6 inb_S7x2x512x2816_S1x1x512x2816_0_0_0_0 inb_S7x2_S1x1_0_0
    ∗ gFly c XG e 0 1 7 inb_S7x2x512x2816_S1x1x512x2816_0_1_0_0 inb_S7x2_S1x1_0_1
    ∗ gFly c XG e 1 0 8 inb_S7x2x512x2816_S1x1x512x2816_1_0_0_0 inb_S7x2_S1x1_1_0
    ∗ gFly c XG e 1 1 9 inb_S7x2x512x2816_S1x1x512x2816_1_1_0_0 inb_S7x2_S1x1_1_1
    ∗ gFly c XG e 2 0 10 inb_S7x2x512x2816_S1x1x512x2816_2_0_0_0 inb_S7x2_S1x1_2_0
    ∗ gFly c XG e 2 1 11 inb_S7x2x512x2816_S1x1x512x2816_2_1_0_0 inb_S7x2_S1x1_2_1
    ∗ gFly c XG e 3 0 12 inb_S7x2x512x2816_S1x1x512x2816_3_0_0_0 inb_S7x2_S1x1_3_0
    ∗ gFly c XG e 3 1 13 inb_S7x2x512x2816_S1x1x512x2816_3_1_0_0 inb_S7x2_S1x1_3_1
    ∗ gFly c XG e 4 0 14 inb_S7x2x512x2816_S1x1x512x2816_4_0_0_0 inb_S7x2_S1x1_4_0
    ∗ gFly c XG e 4 1 15 inb_S7x2x512x2816_S1x1x512x2816_4_1_0_0 inb_S7x2_S1x1_4_1
    ∗ gFly c XG e 5 0 16 inb_S7x2x512x2816_S1x1x512x2816_5_0_0_0 inb_S7x2_S1x1_5_0
    ∗ gFly c XG e 5 1 17 inb_S7x2x512x2816_S1x1x512x2816_5_1_0_0 inb_S7x2_S1x1_5_1
    ∗ gFly c XG e 6 0 18 inb_S7x2x512x2816_S1x1x512x2816_6_0_0_0 inb_S7x2_S1x1_6_0
    ∗ gFly c XG e 6 1 19 inb_S7x2x512x2816_S1x1x512x2816_6_1_0_0 inb_S7x2_S1x1_6_1
    ∗ dFly c XD e 0 20 inb_S11x256x3584_S1x256x3584_0_0_0 inb_S11_S1_0
    ∗ dFly c XD e 1 21 inb_S11x256x3584_S1x256x3584_1_0_0 inb_S11_S1_1
    ∗ dFly c XD e 2 22 inb_S11x256x3584_S1x256x3584_2_0_0 inb_S11_S1_2
    ∗ dFly c XD e 3 23 inb_S11x256x3584_S1x256x3584_3_0_0 inb_S11_S1_3
    ∗ dFly c XD e 4 24 inb_S11x256x3584_S1x256x3584_4_0_0 inb_S11_S1_4
    ∗ dFly c XD e 5 25 inb_S11x256x3584_S1x256x3584_5_0_0 inb_S11_S1_5
    ∗ dFly c XD e 6 26 inb_S11x256x3584_S1x256x3584_6_0_0 inb_S11_S1_6
    ∗ dFly c XD e 7 27 inb_S11x256x3584_S1x256x3584_7_0_0 inb_S11_S1_7
    ∗ dFly c XD e 8 28 inb_S11x256x3584_S1x256x3584_8_0_0 inb_S11_S1_8
    ∗ dFly c XD e 9 29 inb_S11x256x3584_S1x256x3584_9_0_0 inb_S11_S1_9
    ∗ dFly c XD e 10 30 inb_S11x256x3584_S1x256x3584_10_0_0 inb_S11_S1_10)

/-- All 25 slots at rest. -/
def Idle : sProp 𝕄 :=
  iprop(gIdle c XG 0 0 6 inb_S7x2x512x2816_S1x1x512x2816_0_0_0_0 inb_S7x2_S1x1_0_0
    ∗ gIdle c XG 0 1 7 inb_S7x2x512x2816_S1x1x512x2816_0_1_0_0 inb_S7x2_S1x1_0_1
    ∗ gIdle c XG 1 0 8 inb_S7x2x512x2816_S1x1x512x2816_1_0_0_0 inb_S7x2_S1x1_1_0
    ∗ gIdle c XG 1 1 9 inb_S7x2x512x2816_S1x1x512x2816_1_1_0_0 inb_S7x2_S1x1_1_1
    ∗ gIdle c XG 2 0 10 inb_S7x2x512x2816_S1x1x512x2816_2_0_0_0 inb_S7x2_S1x1_2_0
    ∗ gIdle c XG 2 1 11 inb_S7x2x512x2816_S1x1x512x2816_2_1_0_0 inb_S7x2_S1x1_2_1
    ∗ gIdle c XG 3 0 12 inb_S7x2x512x2816_S1x1x512x2816_3_0_0_0 inb_S7x2_S1x1_3_0
    ∗ gIdle c XG 3 1 13 inb_S7x2x512x2816_S1x1x512x2816_3_1_0_0 inb_S7x2_S1x1_3_1
    ∗ gIdle c XG 4 0 14 inb_S7x2x512x2816_S1x1x512x2816_4_0_0_0 inb_S7x2_S1x1_4_0
    ∗ gIdle c XG 4 1 15 inb_S7x2x512x2816_S1x1x512x2816_4_1_0_0 inb_S7x2_S1x1_4_1
    ∗ gIdle c XG 5 0 16 inb_S7x2x512x2816_S1x1x512x2816_5_0_0_0 inb_S7x2_S1x1_5_0
    ∗ gIdle c XG 5 1 17 inb_S7x2x512x2816_S1x1x512x2816_5_1_0_0 inb_S7x2_S1x1_5_1
    ∗ gIdle c XG 6 0 18 inb_S7x2x512x2816_S1x1x512x2816_6_0_0_0 inb_S7x2_S1x1_6_0
    ∗ gIdle c XG 6 1 19 inb_S7x2x512x2816_S1x1x512x2816_6_1_0_0 inb_S7x2_S1x1_6_1
    ∗ dIdle c XD 0 20 inb_S11x256x3584_S1x256x3584_0_0_0 inb_S11_S1_0
    ∗ dIdle c XD 1 21 inb_S11x256x3584_S1x256x3584_1_0_0 inb_S11_S1_1
    ∗ dIdle c XD 2 22 inb_S11x256x3584_S1x256x3584_2_0_0 inb_S11_S1_2
    ∗ dIdle c XD 3 23 inb_S11x256x3584_S1x256x3584_3_0_0 inb_S11_S1_3
    ∗ dIdle c XD 4 24 inb_S11x256x3584_S1x256x3584_4_0_0 inb_S11_S1_4
    ∗ dIdle c XD 5 25 inb_S11x256x3584_S1x256x3584_5_0_0 inb_S11_S1_5
    ∗ dIdle c XD 6 26 inb_S11x256x3584_S1x256x3584_6_0_0 inb_S11_S1_6
    ∗ dIdle c XD 7 27 inb_S11x256x3584_S1x256x3584_7_0_0 inb_S11_S1_7
    ∗ dIdle c XD 8 28 inb_S11x256x3584_S1x256x3584_8_0_0 inb_S11_S1_8
    ∗ dIdle c XD 9 29 inb_S11x256x3584_S1x256x3584_9_0_0 inb_S11_S1_9
    ∗ dIdle c XD 10 30 inb_S11x256x3584_S1x256x3584_10_0_0 inb_S11_S1_10)

/-- What a trip reads and keeps (activations, both scales, combine weights, member list), the intermediate at anything,
    the accumulator at some contents of which `P` holds, and the core's own waits. -/
def Base (arg2 : Memref sig .tc .vmem S128x2816 .bf16) (arg3 : Memref sig .tc .vmem S8x7168 .f32) (arg4 : Memref sig .tc .vmem S8x2816 .f32)
  (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ))) (fl : Buf (Elt F) (listM.view.loc (c : Thread nD τ))) (P : Buf (Elt F) (accM.view.loc (c : Thread nD τ)) → Prop) : sProp 𝕄 :=
  iprop((arg2.view.loc (c : Thread nD τ) ↦[arg2.view.set]{fullShare} fx) ∗ (arg3.view.loc (c : Thread nD τ) ↦[arg3.view.set]{fullShare} fsg) ∗ (arg4.view.loc (c : Thread nD τ) ↦[arg4.view.set]{fullShare} fsd)
    ∗ (combM.view.loc (c : Thread nD τ) ↦[combM.view.set]{fullShare} fc) ∗ (listM.view.loc (c : Thread nD τ) ↦[listM.view.set]{fullShare} fl)
    ∗ (∃ fh : Buf (Elt F) (hM.view.loc (c : Thread nD τ)), (hM.view.loc (c : Thread nD τ) ↦[hM.view.set]{fullShare} fh))
    ∗ (∃ fa : Buf (Elt F) (accM.view.loc (c : Thread nD τ)), ⌜P fa⌝ ∗ (accM.view.loc (c : Thread nD τ) ↦[accM.view.set]{fullShare} fa))
    ∗ ∃ W, owes (c : Thread nD τ) 0 W)

end Res
end Cert.Proof.Run
end
-- ==== Proof.Words.lean ====
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Transfers
public import Idealize.ShloMosaic.Lib.Pipeline.KitQuiescent
public import Idealize.ShloMosaic.Lib.Tactic

@[expose] public section

set_option maxRecDepth 16384

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic

set_option maxRecDepth 20000 in
/-- The expert's transfers stay within the matrices, for every expert. -/
theorem chk2_all : ∀ n : Fin 8, k0_chk2 (BitVec.ofNat 32 n) := by decide
set_option maxRecDepth 20000 in
/-- The expert's transfers stay within the matrices, for every expert. -/
theorem chk3_all : ∀ n : Fin 8, k0_chk3 (BitVec.ofNat 32 n) := by decide

/-- The next expert's transfers stay within the matrices, for every expert. -/
theorem chk4_all (v : BitVec 32) (k : Fin (k0_t1_loop v).trips) (n : Fin 8) : k0_chk4 v k (BitVec.ofNat 32 n) := by
  unfold k0_chk4 k0_chk4_0 k0_chk4_1
  repeat' apply And.intro
  all_goals (intro _; clear * -; revert n; decide)

/-- Bit `j` of a word, as a word. -/
def bit (v : BitVec 32) (j : ℕ) : BitVec 32 := Scalar.andi (Scalar.shrsi v (BitVec.ofNat 32 j)) 1#32

/-- How many of the low `j` bits of a word are set, added up as words. -/
def wsum (v : BitVec 32) : ℕ → BitVec 32
  | 0 => 0#32
  | j + 1 => Scalar.addi (wsum v j) (bit v j)

/-- How many of the low `j` bits of a word are set. -/
def cnt (v : BitVec 32) (j : ℕ) : ℕ := (wsum v j).toNat

/-- A bit is at most one. -/
theorem bit_le (v : BitVec 32) (j : ℕ) : (bit v j).toNat ≤ 1 := by
  unfold bit Scalar.andi
  have : ∀ x : BitVec 32, (x &&& 1#32).toNat ≤ 1 := by
    intro x
    rw [BitVec.toNat_and]
    exact Nat.and_le_right
  exact this _

/-- No bit lies below place zero. -/
theorem cnt_zero (v : BitVec 32) : cnt v 0 = 0 := rfl

/-- There are at most `j` set bits below place `j`. -/
theorem cnt_le : ∀ (v : BitVec 32) (j : ℕ), j ≤ 8 → cnt v j ≤ j
  | v, 0, _ => Nat.le_refl _
  | v, j + 1, h => by
    have := cnt_le v j (by omega)
    have := bit_le v j
    have e : cnt v (j + 1) = ((wsum v j).toNat + (bit v j).toNat) % 2 ^ 32 := BitVec.toNat_add _ _
    unfold cnt at *
    omega

/-- The count goes up by the bit. -/
theorem cnt_succ (v : BitVec 32) (j : ℕ) (h : j < 8) : cnt v (j + 1) = cnt v j + (bit v j).toNat := by
  have := cnt_le v j (by omega)
  have := bit_le v j
  have e : cnt v (j + 1) = ((wsum v j).toNat + (bit v j).toNat) % 2 ^ 32 := BitVec.toNat_add _ _
  unfold cnt at *
  omega

/-- The running count, as a word. -/
theorem wsum_eq (v : BitVec 32) (j : ℕ) : wsum v j = BitVec.ofNat 32 (cnt v j) := by simp [cnt]

/-- The number of members found. -/
def nOf (v : BitVec 32) : ℕ := cnt v 8

/-- At most eight experts are listed. -/
theorem nOf_le (v : BitVec 32) : nOf v ≤ 8 := cnt_le v 8 (by omega)

/-- The loop whose bounds are computed from the count `w`. -/
def loopOf (w : BitVec 32) : Scf.Loop 32 :=
  ⟨0#32, Scalar.addi 0#32 (Scalar.muli (Scalar.divsi (Scalar.subi w 0#32) 1#32) 1#32), 1#32⟩

/-- The loop over the experts runs to the count. -/
theorem loop1_eq (v : BitVec 32) : k0_t1_loop v = loopOf (wsum v 8) := rfl

/-- The loop over the experts takes as many trips as the count says. -/
theorem loopOf_trips : ∀ n : Fin 9, (loopOf (BitVec.ofNat 32 n)).trips = n := by decide
/-- The loop over the experts is well formed. -/
theorem loopOf_ok : ∀ n : Fin 9, (loopOf (BitVec.ofNat 32 n)).OK := by decide

/-- The loop takes one trip for each listed expert. -/
theorem trips_eq (v : BitVec 32) : (k0_t1_loop v).trips = nOf v := by
  rw [loop1_eq, wsum_eq]
  exact loopOf_trips ⟨cnt v 8, by have := nOf_le v; unfold nOf at this; omega⟩

/-- Whether a next expert is listed, for every count and trip. -/
theorem cond_all : ∀ n : Fin 9, ∀ k : Fin 8, k.val < n.val →
    Scalar.cmpi .ne (Scalar.extui (Scalar.cmpi .slt (Scalar.addi (Scf.iv 0#32 1#32 k.val) 1#32) (BitVec.ofNat 32 n))) 0#32
      = BitVec.ofBool (decide (k.val + 1 < n.val)) := by decide

/-- The place in the list that a trip reads. -/
theorem off33_all : ∀ k : Fin 8, (Scalar.indexCast (Scf.iv 0#32 1#32 k.val)).toNat = k.val := by decide

/-- The place in the list of the next trip's expert. -/
theorem off34_all : ∀ n : Fin 9, ∀ k : Fin 8, k.val < n.val →
    (Scalar.indexCast (Scalar.minsi (Scalar.addi (Scf.iv 0#32 1#32 k.val) 1#32) (Scalar.subi (BitVec.ofNat 32 n) 1#32))).toNat
      = min (k.val + 1) (n.val - 1) := by decide

/-- A small word as an index. -/
theorem idx_all : ∀ n : Fin 9, (Scalar.indexCast (BitVec.ofNat 32 n)).toNat = n.val := by decide

/-- The running count as an index. -/
theorem idx_wsum (v : BitVec 32) (j : ℕ) (h : j ≤ 8) : (Scalar.indexCast (wsum v j)).toNat = cnt v j := by
  rw [wsum_eq]
  exact idx_all ⟨cnt v j, by have := cnt_le v j h; omega⟩

/-- A trip's number is below the count, which is at most eight. -/
theorem lt8 (v : BitVec 32) (k : Fin (k0_t1_loop v).trips) : k.val < nOf v ∧ nOf v ≤ 8 := by
  exact ⟨(trips_eq v) ▸ k.isLt, nOf_le v⟩

/-- The offset of the member read on trip `k`: the trip's own number. -/
theorem off33_eq (v : BitVec 32) (k : Fin (k0_t1_loop v).trips) : k0_off33 v k = ![k.val] := by
  have := lt8 v k
  have h := off33_all ⟨k.val, by omega⟩
  unfold k0_off33
  exact congrArg (fun x => ![x]) h

/-- The offset of the member fetched ahead on trip `k`: the next one, held at the last. -/
theorem off34_eq (v : BitVec 32) (k : Fin (k0_t1_loop v).trips) : k0_off34 v k = ![min (k.val + 1) (nOf v - 1)] := by
  have := lt8 v k
  have h := off34_all ⟨nOf v, by omega⟩ ⟨k.val, by omega⟩ this.1
  show ![(Scalar.indexCast (Scalar.minsi (Scalar.addi (Scf.iv 0#32 1#32 k.val) 1#32) (Scalar.subi (wsum v 8) 1#32))).toNat] = _
  rw [wsum_eq]
  exact congrArg (fun x => ![x]) h

/-- The trip's test says whether another expert is listed. -/
theorem cond_eq (v : BitVec 32) (k : Fin (k0_t1_loop v).trips) : k0_cond1 v k = BitVec.ofBool (decide (k.val + 1 < nOf v)) := by
  have := lt8 v k
  have h := cond_all ⟨nOf v, by omega⟩ ⟨k.val, by omega⟩ this.1
  show Scalar.cmpi .ne (Scalar.extui (Scalar.cmpi .slt (Scalar.addi (Scf.iv 0#32 1#32 k.val) 1#32) (wsum v 8))) 0#32 = _
  rw [wsum_eq]
  exact h

/-- The test holds when another expert is listed. -/
theorem cond_true (v : BitVec 32) (k : Fin (k0_t1_loop v).trips) (h : k.val + 1 < nOf v) : k0_cond1 v k = 1#1 := by
  rw [cond_eq, decide_eq_true h]; rfl

/-- The test fails at the last expert. -/
theorem cond_false (v : BitVec 32) (k : Fin (k0_t1_loop v).trips) (h : ¬ k.val + 1 < nOf v) : k0_cond1 v k ≠ 1#1 := by
  rw [cond_eq, decide_eq_false h]; decide

/-- The loop over the remainder of the unrolled trips. -/
def loop2Of (w : BitVec 32) : Scf.Loop 32 :=
  ⟨Scalar.addi 0#32 (Scalar.muli (Scalar.divsi (Scalar.subi w 0#32) 1#32) 1#32), Scalar.addi 0#32 (Scalar.subi w 0#32), 1#32⟩

/-- The loop's remainder runs to the count. -/
theorem loop2_eq (v : BitVec 32) : k0_t2_loop v = loop2Of (wsum v 8) := rfl
/-- The loop's remainder is empty. -/
theorem loop2Of_trips : ∀ n : Fin 9, (loop2Of (BitVec.ofNat 32 n)).trips = 0 := by decide
/-- The loop's remainder is well formed. -/
theorem loop2Of_ok : ∀ n : Fin 9, (loop2Of (BitVec.ofNat 32 n)).OK := by decide

/-- The remainder loop makes no trip. -/
theorem trips2_eq (v : BitVec 32) : (k0_t2_loop v).trips = 0 := by
  rw [loop2_eq, wsum_eq]
  exact loop2Of_trips ⟨cnt v 8, by have := nOf_le v; unfold nOf at this; omega⟩

/-- A place below eight lies within the list. -/
theorem inb8 (f : Fin 1 → ℕ) (n : ℕ) (h : f = ![n]) (hn : n < 8) : ∀ a, f a + S1.size a ≤ S8.size a := by
  subst h
  intro a
  fin_cases a
  show n + 1 ≤ 8
  omega

/-- A store of the list lies within it. -/
theorem offs_lt (v : BitVec 32) (f : Fin 1 → ℕ) (j : ℕ) (hj : j ≤ 7) (h : f = ![(Scalar.indexCast (wsum v j)).toNat]) :
    ∀ a, f a + S1.size a ≤ S8.size a := by
  refine inb8 f (cnt v j) ?_ (by have := cnt_le v j (by omega); omega)
  rw [h, idx_wsum v j (by omega)]

/-- What the kernel assumes of the word of members holds of every word. -/
theorem chk1_all (v : BitVec 32) : k0_chk1 v := by
  unfold k0_chk1
  refine ⟨offs_lt v _ 1 (by omega) rfl, offs_lt v _ 2 (by omega) rfl, offs_lt v _ 3 (by omega) rfl, offs_lt v _ 4 (by omega) rfl,
    offs_lt v _ 5 (by omega) rfl, offs_lt v _ 6 (by omega) rfl, offs_lt v _ 7 (by omega) rfl, ?_, ?_, ?_, ?_, ?_, ?_⟩
  · rw [loop1_eq, wsum_eq]
    exact loopOf_ok ⟨cnt v 8, by have := nOf_le v; unfold nOf at this; omega⟩
  · intro k
    have := lt8 v k
    exact inb8 _ _ (off33_eq v k) (by omega)
  · intro k
    have := lt8 v k
    exact inb8 _ _ (off34_eq v k) (by omega)
  · rw [loop2_eq, wsum_eq]
    exact loop2Of_ok ⟨cnt v 8, by have := nOf_le v; unfold nOf at this; omega⟩
  · intro k
    exact absurd k.isLt (by have := trips2_eq v; omega)
  · intro k
    exact absurd k.isLt (by have := trips2_eq v; omega)

/-- The list of members after the first `m` candidates have been written at the running count. -/
def sel (v : BitVec 32) : ℕ → ℕ → ℕ
  | 0, _ => 0
  | m + 1, p => if p = cnt v m then m else sel v m p

/-- An entry of the list is at most the last number stored. -/
theorem sel_lt (v : BitVec 32) : ∀ (m p : ℕ), sel v m p ≤ m - 1
  | 0, _ => Nat.le_refl _
  | m + 1, p => by
    unfold sel
    split
    · omega
    · have := sel_lt v m p; omega

/-- The `p`-th entry of the list is a member, and `p` members lie below it. -/
theorem sel_spec (v : BitVec 32) : ∀ (m p : ℕ), m ≤ 8 → p < cnt v m →
    sel v m p < m ∧ (bit v (sel v m p)).toNat = 1 ∧ cnt v (sel v m p) = p
  | 0, p, _, h => by rw [cnt_zero] at h; omega
  | m + 1, p, hm, h => by
    rw [cnt_succ v m (by omega)] at h
    have := bit_le v m
    unfold sel
    split
    · rename_i e
      subst e
      refine ⟨by omega, by omega, rfl⟩
    · have := sel_spec v m p (by omega) (by omega)
      refine ⟨by omega, this.2⟩

/-- An entry of the list is below eight. -/
theorem sel8_lt (v : BitVec 32) (p : ℕ) : sel v 8 p < 8 := by have := sel_lt v 8 p; omega

end Cert.Proof.Run
end
-- ==== Proof.MemberList.lean ====
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Transfers
public import Idealize.ShloMosaic.Lib.Pipeline.KitQuiescent
public import Idealize.ShloMosaic.Lib.Tactic
public import proofs.«01_k».proof.Proof.Slots
public import proofs.«01_k».proof.Proof.Words
public import Idealize.ShloMosaic.Lib.WritesUnit

@[expose] public section

set_option maxRecDepth 16384

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section MemberList

/-- The word of members: bit `e` is set when some token has `e` among its two ids. -/
def memberWord (I0 I1 : Vec F S128x1 .i32) : BitVec 32 :=
  extractAt ![0, 0, 0] (k0_pay77 (iota .tc S128x128 32 [1] iota_S128x128_d1_w32) (k0_pay76 (F := F) I0 I1) 0#32) inpos_S1x1x1_p0_0_0

/-- The first and the second id of each token, as the body loads them. -/
abbrev ids0 (c : Dev nD) (arg0 : Memref sig .tc .vmem S128x2 .i32) (fi : Buf (Elt F) (arg0.view.loc (c : Thread nD τ))) : Vec F S128x1 .i32 :=
  arg0.view.readAt (Elt F) (Rect.unit (s := S128x2) ![0, 0] S128x1.size inb_S128x2_S128x1_0_0).toLoadRect fi
/-- The second column of the ids. -/
abbrev ids1 (c : Dev nD) (arg0 : Memref sig .tc .vmem S128x2 .i32) (fi : Buf (Elt F) (arg0.view.loc (c : Thread nD τ))) : Vec F S128x1 .i32 :=
  arg0.view.readAt (Elt F) (Rect.unit (s := S128x2) ![0, 1] S128x1.size inb_S128x2_S128x1_0_1).toLoadRect fi

/-- The word of members of an id buffer. -/
def mword (c : Dev nD) (arg0 : Memref sig .tc .vmem S128x2 .i32) (fi : Buf (Elt F) (arg0.view.loc (c : Thread nD τ))) : BitVec 32 :=
  memberWord (ids0 c arg0 fi) (ids1 c arg0 fi)

/-- The list buffer holds the members in ascending order. -/
def ListIs (c : Dev nD) (v : BitVec 32) (fl : Buf (Elt F) (listM.view.loc (c : Thread nD τ))) : Prop :=
  ∀ y : S8.Idx, (y 0).val < nOf v → listM.view.read (Elt F) fl y = BitVec.ofNat 32 (sel v 8 (y 0).val)

/-- The stores of the candidates at the running counts, last first. -/
def listPieces (v : BitVec 32) (h : k0_chk1 v) : List (View.Piece (Elt F) S8 .i32) := [⟨Rect.unit (s := S8) (k0_off7 v) S1.size (k0_off7_inb v h), fun _ => 7#32⟩, ⟨Rect.unit (s := S8) (k0_off6 v) S1.size (k0_off6_inb v h), fun _ => 6#32⟩, ⟨Rect.unit (s := S8) (k0_off5 v) S1.size (k0_off5_inb v h), fun _ => 5#32⟩, ⟨Rect.unit (s := S8) (k0_off4 v) S1.size (k0_off4_inb v h), fun _ => 4#32⟩, ⟨Rect.unit (s := S8) (k0_off3 v) S1.size (k0_off3_inb v h), fun _ => 3#32⟩, ⟨Rect.unit (s := S8) (k0_off2 v) S1.size (k0_off2_inb v h), fun _ => 2#32⟩, ⟨Rect.unit (s := S8) (k0_off1 v) S1.size (k0_off1_inb v h), fun _ => 1#32⟩, ⟨Rect.unit (s := S8) ![0] S1.size inb_S8_S1_0, fun _ => 0#32⟩]

/-- If the list's entries below the count are right after `m` stores, they are right after one more. -/
theorem H_cons (v : BitVec 32) (m : ℕ) (hm : m < 8) (off : Fin 1 → ℕ) (inb : ∀ a, off a + S1.size a ≤ S8.size a)
    (ho : off = ![cnt v m]) (f : listM.view.ty.Contents (Elt F)) (L : List (View.Piece (Elt F) S8 .i32))
    (ih : ∀ y : S8.Idx, (y 0).val < cnt v m → listM.view.read (Elt F) (listM.view.writes (Elt F) f L) y = BitVec.ofNat 32 (sel v m (y 0).val)) :
    ∀ y : S8.Idx, (y 0).val < cnt v (m + 1) →
      listM.view.read (Elt F) (listM.view.writes (Elt F) f (⟨Rect.unit (s := S8) off S1.size inb, fun _ => BitVec.ofNat 32 m⟩ :: L)) y
        = BitVec.ofNat 32 (sel v (m + 1) (y 0).val) := by
  intro y hy
  rw [cnt_succ v m hm] at hy
  have hb := bit_le v m
  unfold sel
  by_cases e : (y 0).val = cnt v m
  · rw [if_pos e]
    refine View.read_writes_cons_unit_of_mem listM.view f inb (fun _ => BitVec.ofNat 32 m) L y (fun a => ⟨0, by fin_cases a; exact Nat.one_pos⟩) ho ?_
    intro a
    fin_cases a
    exact e
  · rw [if_neg e]
    rw [View.read_writes_cons_unit_of_not_mem listM.view f inb (fun _ => BitVec.ofNat 32 m) L y ho 0 (by
      show (y 0).val < cnt v m ∨ cnt v m + 1 ≤ (y 0).val
      omega)]
    exact ih y (by omega)

/-- After the eight stores the list buffer holds the members. -/
theorem listIs_writes (c : Dev nD) (v : BitVec 32) (h : k0_chk1 v) (f : Buf (Elt F) (listM.view.loc (c : Thread nD τ))) :
    ListIs c v (listM.view.writes (Elt F) f (listPieces v h)) := by
  unfold ListIs listPieces nOf
  refine H_cons v 7 (by omega) (k0_off7 v) _ (by show ![(Scalar.indexCast (wsum v 7)).toNat] = _; rw [idx_wsum v 7 (by omega)]) f _ ?_
  refine H_cons v 6 (by omega) (k0_off6 v) _ (by show ![(Scalar.indexCast (wsum v 6)).toNat] = _; rw [idx_wsum v 6 (by omega)]) f _ ?_
  refine H_cons v 5 (by omega) (k0_off5 v) _ (by show ![(Scalar.indexCast (wsum v 5)).toNat] = _; rw [idx_wsum v 5 (by omega)]) f _ ?_
  refine H_cons v 4 (by omega) (k0_off4 v) _ (by show ![(Scalar.indexCast (wsum v 4)).toNat] = _; rw [idx_wsum v 4 (by omega)]) f _ ?_
  refine H_cons v 3 (by omega) (k0_off3 v) _ (by show ![(Scalar.indexCast (wsum v 3)).toNat] = _; rw [idx_wsum v 3 (by omega)]) f _ ?_
  refine H_cons v 2 (by omega) (k0_off2 v) _ (by show ![(Scalar.indexCast (wsum v 2)).toNat] = _; rw [idx_wsum v 2 (by omega)]) f _ ?_
  refine H_cons v 1 (by omega) (k0_off1 v) _ (by show ![(Scalar.indexCast (wsum v 1)).toNat] = _; rw [idx_wsum v 1 (by omega)]) f _ ?_
  refine H_cons v 0 (by omega) ![0] _ (by rw [cnt_zero]) f _ ?_
  intro y hy
  rw [cnt_zero] at hy
  omega

/-- An entry of the list as a trip loads it. -/
theorem list_load (c : Dev nD) (v : BitVec 32) (fl : Buf (Elt F) (listM.view.loc (c : Thread nD τ))) (h : ListIs c v fl)
    (off : Fin 1 → ℕ) (inb : ∀ a, off a + S1.size a ≤ S8.size a) (p : ℕ) (hp : p < nOf v) (ho : off = ![p])
    (w : BitVec 32) (hw : w = listM.view.readAt (Elt F) (Rect.unit (s := S8) off S1.size inb).toLoadRect fl (Shape.Idx.first (s := S1) (by decide))) :
    w = BitVec.ofNat 32 (sel v 8 p) := by
  subst ho
  rw [hw]
  exact h _ hp

/-- An entry of the list is the number of an expert. -/
theorem sel_fin (v : BitVec 32) (p : ℕ) : ∃ n : Fin 8, sel v 8 p = n.val := ⟨⟨sel v 8 p, sel8_lt v p⟩, rfl⟩

end MemberList
end Cert.Proof.Run
end
-- ==== Proof.Members.lean ====
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Transfers
public import Idealize.ShloMosaic.Lib.Pipeline.KitQuiescent
public import Idealize.ShloMosaic.Lib.Tactic
public import proofs.«01_k».proof.Proof.MemberList
public import Idealize.ShloMosaic.Lib.WordSum
public import Idealize.ShloMosaic.Lib.Pointwise.Index
public import Idealize.ShloMosaic.Lib.Pipeline.Value

@[expose] public section

set_option maxRecDepth 16384

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Some token has the lane's number as its first or its second id. -/
def Has (I0 I1 : Vec F S128x1 .i32) (l : ℕ) : Prop :=
  ∃ t : Fin 128, I0 (ix2 t 0) = BitVec.ofNat 32 l ∨ I1 (ix2 t 0) = BitVec.ofNat 32 l

/-- The first column's hits at a lane: one where the id is the lane's number. -/
theorem pay71_at (I : Vec F S128x1 .i32) (t l : Fin 128) :
    k0_pay71 I (ix2 t l) = BitVec.ofBool (I (ix2 t 0) == BitVec.ofNat 32 l.val) := by
  have h1 : broadcastTo S128x128 (shapeCast S128x1 I shapeCasts_S128x1_S128x1) broadcasts_S128x1_S128x128 (ix2 t l) = I (ix2 t 0) := by
    rw [broadcastTo_apply _ _ _ (ix2 t 0) (by intro a; fin_cases a <;> rfl), shapeCast_apply _ _ _ (ix2 t 0) rfl]
  have h2 : iota .tc S128x128 32 [1] iota_S128x128_d1_w32 (ix2 t l) = BitVec.ofNat 32 l.val := by
    show BitVec.ofNat 32 (0 * 128 + l.val) = _
    rw [Nat.zero_mul, Nat.zero_add]
  show IntOp.cmpi .eq (broadcastTo S128x128 (shapeCast S128x1 I shapeCasts_S128x1_S128x1) broadcasts_S128x1_S128x128 (ix2 t l)) (iota .tc S128x128 32 [1] iota_S128x128_d1_w32 (ix2 t l)) = _
  rw [h1, h2]
  rfl

/-- A lane is hit by a token when one of its two ids is the lane's number. -/
theorem pay73_pos (I0 I1 : Vec F S128x1 .i32) (t l : Fin 128) :
    0 < (k0_pay73 I0 I1 (ix2 t l)).toInt ↔ (I0 (ix2 t 0) = BitVec.ofNat 32 l.val ∨ I1 (ix2 t 0) = BitVec.ofNat 32 l.val) := by
  have h : k0_pay73 I0 I1 (ix2 t l) = 0#32 ||| (k0_pay71 I0 (ix2 t l)).setWidth 32 ||| (k0_pay71 I1 (ix2 t l)).setWidth 32 := rfl
  rw [h, pay71_at, pay71_at]
  have hd : ∀ p q : Bool, 0 < (0#32 ||| (BitVec.ofBool p).setWidth 32 ||| (BitVec.ofBool q).setWidth 32).toInt ↔ (p = true ∨ q = true) := by decide
  rw [hd, beq_iff_eq, beq_iff_eq]

/-- The least word is neutral for the maximum. -/
theorem neutral_max : (2147483648#32 : BitVec 32) = IKind.maxsi.neutral := rfl
/-- Zero is neutral for the sum. -/
theorem neutral_add : (0#32 : BitVec 32) = IKind.add.neutral := rfl

/-- The largest of some words is positive exactly when one of them is, from the least word. -/
theorem fold_max_pos {ι : Type} [DecidableEq ι] (S : Finset ι) (f : ι → BitVec 32) :
    0 < (S.fold (IKind.op .maxsi) 2147483648#32 f).toInt ↔ ∃ i ∈ S, 0 < (f i).toInt := by
  induction S using Finset.induction_on with
  | empty => simp
  | insert a S ha ih =>
    rw [Finset.fold_insert ha]
    have h : ∀ x y : BitVec 32, 0 < (IKind.op .maxsi x y).toInt ↔ (0 < x.toInt ∨ 0 < y.toInt) := by
      intro x y
      show 0 < (IntOp.maxsi x y).toInt ↔ _
      unfold IntOp.maxsi
      split <;> rename_i h <;> simp only [BitVec.slt_eq_decide, BitVec.sle_eq_decide, decide_eq_true_eq] at h <;> omega
    rw [h, ih]
    simp

/-- A lane is present when some token hits it. -/
theorem pay76_pos (I0 I1 : Vec F S128x1 .i32) (l : Fin 128) :
    0 < (k0_pay76 I0 I1 (ix2 0 l)).toInt ↔ Has I0 I1 l.val := by
  have e : k0_pay76 I0 I1 (ix2 0 l) = multiReductionI .maxsi [0] S128 (k0_pay73 I0 I1) 2147483648#32 reduces_S128x128_S128 neutral_max (ix1 l) := by
    show shapeCast S1x128 (multiReductionI .maxsi [0] S128 (k0_pay73 I0 I1) 2147483648#32 reduces_S128x128_S128 neutral_max) shapeCasts_S128_S1x128 (ix2 0 l) = _
    refine shapeCast_apply _ _ _ (ix1 l) ?_
    rw [Shape.rowMajor_val_one, Shape.rowMajor_val_two]
    simp
  classical
  rw [e, multiReductionI_eq_fold, fold_max_pos]
  constructor
  · rintro ⟨i, hi, hp⟩
    have hd := (Finset.mem_filter.mp hi).2
    have h1 : (i 1 : ℕ) = l.val := by
      have := Shape.Reduces.drop_apply_val_of_eq reduces_S128x128_S128 i 0 1
      rw [hd] at this
      exact this.symm
    rw [show i = ix2 (i 0) l from by
      funext a
      fin_cases a
      · rfl
      · exact Fin.ext h1] at hp
    exact ⟨i 0, (pay73_pos I0 I1 _ _).mp hp⟩
  · rintro ⟨t, ht⟩
    refine ⟨ix2 t l, Finset.mem_filter.mpr ⟨Finset.mem_univ _, ?_⟩, (pay73_pos I0 I1 _ _).mpr ht⟩
    funext b
    fin_cases b
    exact Fin.ext (Shape.Reduces.drop_apply_val_of_eq reduces_S128x128_S128 (ix2 t l) 0 1)

open Classical in
/-- What lane `l` adds to the word of members. -/
theorem lane_at (I0 I1 : Vec F S128x1 .i32) (l : Fin 128) :
    (Scalar.select (IntOp.cmpi .sgt (k0_pay76 I0 I1 (ix2 0 l)) 0#32) (IntOp.shli .vector 1#32 (IntOp.minsi (BitVec.ofNat 32 l.val) 8#32)) 0#32).toNat
      = if Has I0 I1 l.val then 2 ^ min l.val 8 else 0 := by
  have h := pay76_pos I0 I1 l
  have h2 : ∀ l : Fin 128, (IntOp.shli .vector 1#32 (IntOp.minsi (BitVec.ofNat 32 l.val) 8#32)).toNat = 2 ^ min l.val 8 := by decide
  by_cases hh : Has I0 I1 l.val
  · rw [if_pos hh, ← h2]
    have := h.mpr hh
    have e : IntOp.cmpi .sgt (k0_pay76 I0 I1 (ix2 0 l)) 0#32 = 1#1 := by
      simp [IntOp.cmpi, BitVec.slt_eq_decide, this]
    rw [e]; rfl
  · rw [if_neg hh]
    have := mt h.mp hh
    have e : IntOp.cmpi .sgt (k0_pay76 I0 I1 (ix2 0 l)) 0#32 = 0#1 := by
      show BitVec.ofBool (BitVec.slt 0#32 _) = 0#1
      rw [BitVec.slt_eq_decide, decide_eq_false (by rw [show (0#32 : BitVec 32).toInt = 0 from rfl]; exact this)]
      rfl
    rw [e]; rfl

/-- The lanes, as the last coordinate of the indices of a 1 by 1 by 128 array. -/
def lanes : S1x1x128.Idx ≃ Fin 128 where
  toFun i := i 2
  invFun l := ix3 0 0 l
  left_inv i := by
    funext a
    fin_cases a
    · exact Subsingleton.elim (α := Fin 1) _ _
    · exact Subsingleton.elim (α := Fin 1) _ _
    · rfl
  right_inv l := rfl

/-- A number below 8 as bits. -/
theorem low_sum (b : ℕ → Prop) [DecidablePred b] :
    ∃ K, ∑ l : Fin 128, (if b l.val then 2 ^ min l.val 8 else 0) = (∑ l : Fin 8, (if b l.val then 2 ^ l.val else 0)) + 256 * K ∧ K ≤ 120 := by
  refine ⟨∑ l : Fin 120, (if b (8 + l.val) then 1 else 0), ?_, ?_⟩
  · rw [show (∑ l : Fin 128, (if b l.val then 2 ^ min l.val 8 else 0)) = ∑ l : Fin (8 + 120), (if b l.val then 2 ^ min l.val 8 else 0) from rfl, Fin.sum_univ_add, Finset.mul_sum]
    refine congrArg₂ (· + ·) (Finset.sum_congr rfl fun l _ => ?_) (Finset.sum_congr rfl fun l _ => ?_)
    · rw [Fin.val_castAdd, show min l.val 8 = l.val by have := l.isLt; omega]
    · rw [Fin.val_natAdd, show min (8 + l.val) 8 = 8 by omega]
      split <;> rfl
  · calc _ ≤ ∑ l : Fin 120, 1 := Finset.sum_le_sum fun l _ => by split <;> omega
      _ = 120 := by simp

open Classical in
/-- The word of the present experts as a sum of powers of two. -/
theorem memberWord_toNat (I0 I1 : Vec F S128x1 .i32) :
    (memberWord I0 I1).toNat = ∑ l : Fin 128, if Has I0 I1 l.val then 2 ^ min l.val 8 else 0 := by
  set src : IVec S1x1x128 32 := fun i => Scalar.select (IntOp.cmpi .sgt (k0_pay76 I0 I1 (ix2 0 (i 2))) 0#32) (IntOp.shli .vector 1#32 (IntOp.minsi (BitVec.ofNat 32 (i 2).val) 8#32)) 0#32 with hsrc
  have e : memberWord I0 I1 = multiReductionI .add [1, 2] S1 src 0#32 reduces_S1x1x128_S1 neutral_add (ix1 0) := by
    unfold memberWord
    show shapeCast S1x1x1 (multiReductionI .add [1, 2] S1 (shapeCast S1x1x128 (select (cmpi .sgt (k0_pay76 I0 I1) (broadcast S1x128 0#32)) (shli (broadcast S1x128 1#32) (minsi (extractStridedSlice S1x128 ![0, 0] (iota .tc S128x128 32 [1] iota_S128x128_d1_w32) slices_S128x128_o0_0_S1x128) (broadcast S1x128 8#32))) (broadcast S1x128 0#32)) shapeCasts_S1x128_S1x1x128) 0#32 reduces_S1x1x128_S1 neutral_add) shapeCasts_S1_S1x1x1 _ = _
    rw [shapeCast_apply _ _ _ (ix1 0) (by rw [Shape.rowMajor_val_one, Shape.rowMajor_val_three]; rfl)]
    refine congrArg (fun x => multiReductionI .add [1, 2] S1 x 0#32 reduces_S1x1x128_S1 neutral_add (ix1 0)) (funext fun i => ?_)
    refine (shapeCast_apply (s := S1x128) (t := S1x1x128) _ _ i (ix2 (0 : Fin 1) (i 2 : Fin 128) : S1x128.Idx) ?_).trans ?_
    · have h0 : (i 0).val = 0 := Nat.lt_one_iff.mp (i 0).isLt
      have h1 : (i 1).val = 0 := Nat.lt_one_iff.mp (i 1).isLt
      rw [Shape.rowMajor_val_two, Shape.rowMajor_val_three, h0, h1]
      simp
    rw [hsrc]
    show Scalar.select (IntOp.cmpi .sgt _ 0#32) (IntOp.shli .vector 1#32 (IntOp.minsi (BitVec.ofNat 32 (0 * 128 + (0 + (i 2).val))) 8#32)) 0#32 = _
    rw [Nat.zero_mul, Nat.zero_add, Nat.zero_add]
  have hs : ∑ i ∈ Finset.univ.filter (fun i => reduces_S1x1x128_S1.drop i = ix1 0), (src i).toNat
      = ∑ l : Fin 128, if Has I0 I1 l.val then 2 ^ min l.val 8 else 0 := by
    rw [Finset.filter_true_of_mem (fun i _ => by funext b; fin_cases b; exact Subsingleton.elim (α := Fin 1) _ _)]
    refine Fintype.sum_equiv lanes _ _ fun i => ?_
    exact lane_at I0 I1 (i 2)
  rw [e, WordSum.toNat_multiReductionI_add src reduces_S1x1x128_S1 neutral_add (ix1 0), hs]
  rw [hs]
  obtain ⟨K, hK, hK2⟩ := low_sum (Has I0 I1)
  rw [hK]
  have : (∑ l : Fin 8, (if Has I0 I1 l.val then 2 ^ l.val else 0)) ≤ ∑ l : Fin 8, 2 ^ l.val :=
    Finset.sum_le_sum fun l _ => by split; exacts [le_refl _, Nat.zero_le _]
  have h2 : ∑ l : Fin 8, 2 ^ l.val = 255 := by decide
  omega

/-- A bit of a word, as a number. -/
theorem bit_toNat (v : BitVec 32) (hv : v.toNat < 2 ^ 31) (j : ℕ) (hj : j < 8) : (bit v j).toNat = v.toNat / 2 ^ j % 2 := by
  have e : bit v j = (v.sshiftRight j) &&& 1#32 := by
    unfold bit Scalar.andi Scalar.shrsi IntOp.andi IntOp.shrsi
    have h : (BitVec.ofNat 32 j).toNat = j := by rw [BitVec.toNat_ofNat]; omega
    rw [if_pos (by omega)]
    show (v.sshiftRight (BitVec.ofNat 32 j).toNat) &&& 1#32 = _
    rw [h]
  rw [e, BitVec.toNat_and, BitVec.sshiftRight_eq_of_msb_false (by rw [BitVec.msb_eq_decide]; simp; omega), BitVec.toNat_ushiftRight, Nat.shiftRight_eq_div_pow]
  exact Nat.and_one_is_mod _

/-- Bit `e` of the word of members is set exactly when some token has `e` among its two ids. -/
theorem bit_memberWord (I0 I1 : Vec F S128x1 .i32) (e : ℕ) (he : e < 8) : (bit (memberWord I0 I1) e).toNat = 1 ↔ Has I0 I1 e := by
  classical
  have h := memberWord_toNat I0 I1
  obtain ⟨K, hK, hK2⟩ := low_sum (Has I0 I1)
  have h8 : (∑ l : Fin 8, (if Has I0 I1 l.val then 2 ^ l.val else 0)) ≤ ∑ l : Fin 8, 2 ^ l.val :=
    Finset.sum_le_sum fun l _ => by split; exacts [le_refl _, Nat.zero_le _]
  have h2 : ∑ l : Fin 8, 2 ^ l.val = 255 := by decide
  have h3 : (memberWord I0 I1).toNat = (∑ l : Fin 8, (if Has I0 I1 l.val then 2 ^ l.val else 0)) + 256 * K := by
    rw [h]; exact hK
  rw [bit_toNat _ (by omega) e he, h3]
  generalize Has I0 I1 = b at *
  have hb : ∀ l, ∃ x : ℕ, x ≤ 1 ∧ (x = 1 ↔ b l) ∧ ∀ n, (if b l then n else 0) = x * n := by
    intro l
    by_cases hl : b l
    · exact ⟨1, le_refl _, by simp [hl], by simp [hl]⟩
    · exact ⟨0, by omega, by simp [hl], by simp [hl]⟩
  choose x hx1 hx2 hx3 using hb
  rw [← hx2]
  simp only [Fin.sum_univ_eight, hx3]
  have := hx1 0; have := hx1 1; have := hx1 2; have := hx1 3; have := hx1 4; have := hx1 5; have := hx1 6; have := hx1 7
  interval_cases e <;> simp <;> omega

/-- A word with one of its low bits set counts at least one. -/
theorem nOf_pos (v : BitVec 32) (e : ℕ) (he : e < 8) (h : (bit v e).toNat = 1) : 0 < nOf v := by
  unfold nOf
  have h0 := cnt_succ v 0 (by omega); have h1 := cnt_succ v 1 (by omega); have h2 := cnt_succ v 2 (by omega); have h3 := cnt_succ v 3 (by omega)
  have h4 := cnt_succ v 4 (by omega); have h5 := cnt_succ v 5 (by omega); have h6 := cnt_succ v 6 (by omega); have h7 := cnt_succ v 7 (by omega)
  simp only [Nat.zero_add, Nat.reduceAdd] at h0 h1 h2 h3 h4 h5 h6 h7
  interval_cases e <;> omega

/-- The word of members has a member when some token has an id below 8. -/
theorem nOf_memberWord_pos (I0 I1 : Vec F S128x1 .i32) (e : ℕ) (he : e < 8) (h : Has I0 I1 e) : 0 < nOf (memberWord I0 I1) :=
  nOf_pos _ e he ((bit_memberWord I0 I1 e he).mpr h)

end Cert.Proof.Run
-- ==== Proof.Tiles.lean ====
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Transfers
public import Idealize.ShloMosaic.Lib.Pipeline.KitQuiescent
public import Idealize.ShloMosaic.Lib.Tactic
public import proofs.«01_k».proof.Proof.Slots
public import Idealize.ShloMosaic.Lib.WritesUnit
public import Idealize.ShloMosaic.Lib.VecWindow
public import Idealize.ShloMosaic.Lib.Pointwise.Index
public import Idealize.ShloMosaic.Lib.Pipeline.Value

@[expose] public section

set_option maxRecDepth 16384

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Tiles
variable (c : Dev nD)
  (XG : Buf (Elt F) (wguM.view.loc (c : Thread nD τ))) (XD : Buf (Elt F) (wdnM.view.loc (c : Thread nD τ)))
  (arg2 : Memref sig .tc .vmem S128x2816 .bf16) (arg3 : Memref sig .tc .vmem S8x7168 .f32) (arg4 : Memref sig .tc .vmem S8x2816 .f32)
  (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ)))

/-! ## The blocks a trip works on -/

/-- The gate/up scales of rows `h·3584 + j·512 …` of expert `e`. -/
def sgBlk (e : Fin 8) (h : Fin 2) (j : Fin 7) : Vec F S1x512 .f32 := fun y =>
  arg3.view.read (Elt F) fsg (ix2 e (⟨h.val * 3584 + j.val * 512 + (y 1).val, by have : (y 1).val < 512 := (y 1).isLt; omega⟩ : Fin 7168))

/-- The gate/up weights of rows `h·3584 + j·512 …` of expert `e`. -/
def gBlk (e : Fin 8) (h : Fin 2) (j : Fin 7) : Vec F S1x1x512x2816 .fp8e4m3 := fun y =>
  XG (ix3 e (⟨h.val * 3584 + j.val * 512 + (y 2).val, by have : (y 2).val < 512 := (y 2).isLt; omega⟩ : Fin 7168) (y 3 : Fin 2816))

/-- The down scales of rows `j·256 …` of expert `e`. -/
def sdBlk (e : Fin 8) (j : Fin 11) : Vec F S1x256 .f32 := fun y =>
  arg4.view.read (Elt F) fsd (ix2 e (⟨j.val * 256 + (y 1).val, by have : (y 1).val < 256 := (y 1).isLt; omega⟩ : Fin 2816))

/-- The down weights of rows `j·256 …` of expert `e`. -/
def dBlk (e : Fin 8) (j : Fin 11) : Vec F S1x256x3584 .fp8e4m3 := fun y =>
  XD (ix3 e (⟨j.val * 256 + (y 1).val, by have : (y 1).val < 256 := (y 1).isLt; omega⟩ : Fin 2816) (y 2 : Fin 3584))

/-- Columns `j·256 …` of an accumulator. -/
def oldBlk (old : Vec F S128x2816 .f32) (j : Fin 11) : Vec F S128x256 .f32 := fun y =>
  old (ix2 (y 0 : Fin 128) (⟨j.val * 256 + (y 1).val, by have : (y 1).val < 256 := (y 1).isLt; omega⟩ : Fin 2816))

/-- The activations as a trip loads them. -/
def xV : Vec F S128x2816 .bf16 := View.readAt (Elt F) arg2.view (Rect.unit (s := S128x2816) ![0, 0] S128x2816.size inb_S128x2816_S128x2816_0_0).toLoadRect fx

/-- The intermediate of expert `e`: `silu(gate)·up`, 512 columns at a time. -/
def hAll (e : Fin 8) : Vec F S128x3584 .bf16 := fun y =>
  k0_pay9 (sgBlk c arg3 fsg e 0 ⟨(y 1).val / 512, by have : (y 1).val < 3584 := (y 1).isLt; omega⟩) (xV c arg2 fx) (gBlk c XG e 0 ⟨(y 1).val / 512, by have : (y 1).val < 3584 := (y 1).isLt; omega⟩)
    (sgBlk c arg3 fsg e 1 ⟨(y 1).val / 512, by have : (y 1).val < 3584 := (y 1).isLt; omega⟩) (xV c arg2 fx) (gBlk c XG e 1 ⟨(y 1).val / 512, by have : (y 1).val < 3584 := (y 1).isLt; omega⟩)
    (ix2 (y 0 : Fin 128) (⟨(y 1).val % 512, by omega⟩ : Fin 512))

/-- The combine weights and the hit counts, as a trip loads them. -/
def cmb0 : Vec F S1x128x128 .f32 := View.readAt (Elt F) combM.view (Rect.unit (s := S2x128x128) ![0, 0, 0] S1x128x128.size inb_S2x128x128_S1x128x128_0_0_0).toLoadRect fc
@[inherit_doc cmb0] def cmb1 : Vec F S1x128x128 .f32 := View.readAt (Elt F) combM.view (Rect.unit (s := S2x128x128) ![1, 0, 0] S1x128x128.size inb_S2x128x128_S1x128x128_1_0_0).toLoadRect fc

/-- The combine weight of each token for the expert named by the word `w`. -/
def wgt (v0 : IVec S128x128 32) (C0 : Vec F S1x128x128 .f32) (w : BitVec 32) : FVec F S128x1 .f32 := k0_pay2 v0 w C0

/-- Whether a token routes to the expert named by the word `w`. -/
def hits (v0 : IVec S128x128 32) (C1 : Vec F S1x128x128 .f32) (w : BitVec 32) : IVec S128x1 1 := k0_pay3 v0 w C1

/-- The accumulator after expert `e`'s trip, from the one before it: 256 columns at a time. -/
def accNext (C0 C1 : Vec F S1x128x128 .f32) (v0 : IVec S128x128 32) (e : Fin 8) (old : Vec F S128x2816 .f32) : Vec F S128x2816 .f32 := fun y =>
  k0_pay25 (wgt v0 C0 (BitVec.ofNat 32 e.val)) (hits v0 C1 (BitVec.ofNat 32 e.val)) (hAll c XG arg2 arg3 fx fsg e)
    (dBlk c XD e ⟨(y 1).val / 256, by have : (y 1).val < 2816 := (y 1).isLt; omega⟩) (sdBlk c arg4 fsd e ⟨(y 1).val / 256, by have : (y 1).val < 2816 := (y 1).isLt; omega⟩)
    (oldBlk old ⟨(y 1).val / 256, by have : (y 1).val < 2816 := (y 1).isLt; omega⟩) (ix2 (y 0 : Fin 128) (⟨(y 1).val % 256, by omega⟩ : Fin 256))

/-! ## What the loads of a trip read -/

omit [FloatOps F] in
/-- A load of 512 gate/up scales. -/
theorem sg_read (e : Fin 8) (h : Fin 2) (j : Fin 7) (off : Fin 2 → ℕ) (hb) (h0 : off = ![e.val, h.val * 3584 + j.val * 512]) :
    View.readAt (Elt F) arg3.view (Rect.unit (s := S8x7168) off S1x512.size hb).toLoadRect fsg = sgBlk c arg3 fsg e h j := by
  subst h0
  funext y
  refine congrArg (arg3.view.read (Elt F) fsg) (funext fun a => Fin.ext ?_)
  have hy : (y 0).val < 1 := (y 0).isLt
  match a with
  | ⟨0, _⟩ => show e.val + 1 * (y 0).val = e.val; omega
  | ⟨1, _⟩ => show h.val * 3584 + j.val * 512 + 1 * (y 1).val = h.val * 3584 + j.val * 512 + (y 1).val; omega

omit [FloatOps F] in
/-- A load of 256 down scales. -/
theorem sd_read (e : Fin 8) (j : Fin 11) (off : Fin 2 → ℕ) (hb) (h0 : off = ![e.val, j.val * 256]) :
    View.readAt (Elt F) arg4.view (Rect.unit (s := S8x2816) off S1x256.size hb).toLoadRect fsd = sdBlk c arg4 fsd e j := by
  subst h0
  funext y
  refine congrArg (arg4.view.read (Elt F) fsd) (funext fun a => Fin.ext ?_)
  have hy : (y 0).val < 1 := (y 0).isLt
  match a with
  | ⟨0, _⟩ => show e.val + 1 * (y 0).val = e.val; omega
  | ⟨1, _⟩ => show j.val * 256 + 1 * (y 1).val = j.val * 256 + (y 1).val; omega

omit [FloatOps F] in
/-- A load of a landed gate/up slot. -/
theorem g_read (e : Fin 8) (h : Fin 2) (j : Fin 7) (hi) (f) (hl : GLanded c XG e.val j.val h.val hi f) :
    View.readAt (Elt F) guM.view (Rect.unit (s := S7x2x512x2816) ![j.val, h.val, 0, 0] S1x1x512x2816.size hi).toLoadRect f = gBlk c XG e h j := by
  funext y
  have h0 : (y 0).val < 1 := (y 0).isLt
  have h1 : (y 1).val < 1 := (y 1).isLt
  refine Eq.trans ?_ (hl (ix2 (y 2 : Fin 512) (y 3 : Fin 2816)) (ix3 e (⟨h.val * 3584 + j.val * 512 + (y 2).val, by have : (y 2).val < 512 := (y 2).isLt; omega⟩ : Fin 7168) (y 3 : Fin 2816)) rfl rfl rfl)
  symm
  refine (congrFun (Memref.read_squeeze_slice guM (Rect.unit (s := S7x2x512x2816) ![j.val, h.val, 0, 0] S1x1x512x2816.size hi) (fun _ => rfl) squeezes_S1x1x512x2816_S512x2816 shapeCasts_S1x1x512x2816_S512x2816 f) _).trans (shapeCast_apply (s := S1x1x512x2816) (t := S512x2816) _ shapeCasts_S1x1x512x2816_S512x2816 _ y ?_)
  rw [Shape.rowMajor_val_two, Shape.rowMajor_val_four]
  have h0' : (y 0).val = 0 := by omega
  have h1' : (y 1).val = 0 := by omega
  rw [h0', h1']
  show ((0 * 1 + 0) * 512 + (y 2).val) * 2816 + (y 3).val = (y 2).val * 2816 + (y 3).val
  omega

omit [FloatOps F] in
/-- A load of a landed down slot. -/
theorem d_read (e : Fin 8) (j : Fin 11) (hi) (f) (hl : DLanded c XD e.val j.val hi f) :
    View.readAt (Elt F) dnM.view (Rect.unit (s := S11x256x3584) ![j.val, 0, 0] S1x256x3584.size hi).toLoadRect f = dBlk c XD e j := by
  funext y
  have h0 : (y 0).val < 1 := (y 0).isLt
  refine Eq.trans ?_ (hl (ix2 (y 1 : Fin 256) (y 2 : Fin 3584)) (ix3 e (⟨j.val * 256 + (y 1).val, by have : (y 1).val < 256 := (y 1).isLt; omega⟩ : Fin 2816) (y 2 : Fin 3584)) rfl rfl rfl)
  symm
  refine (congrFun (Memref.read_squeeze_slice dnM (Rect.unit (s := S11x256x3584) ![j.val, 0, 0] S1x256x3584.size hi) (fun _ => rfl) squeezes_S1x256x3584_S256x3584 shapeCasts_S1x256x3584_S256x3584 f) _).trans (shapeCast_apply (s := S1x256x3584) (t := S256x3584) _ shapeCasts_S1x256x3584_S256x3584 _ y ?_)
  rw [Shape.rowMajor_val_two, Shape.rowMajor_val_three]
  have h0' : (y 0).val = 0 := by omega
  rw [h0']
  show (0 * 256 + (y 1).val) * 3584 + (y 2).val = (y 1).val * 3584 + (y 2).val
  omega

omit [FloatOps F] in
/-- A load of 256 columns of the accumulator. -/
theorem old_read (j : Fin 11) (hb) (fa : Buf (Elt F) (accM.view.loc (c : Thread nD τ))) :
    View.readAt (Elt F) accM.view (Rect.unit (s := S128x2816) ![0, j.val * 256] S128x256.size hb).toLoadRect fa = oldBlk (accM.view.read (Elt F) fa) j := by
  funext y
  refine congrArg (accM.view.read (Elt F) fa) (funext fun a => Fin.ext ?_)
  match a with
  | ⟨0, _⟩ => show 0 + 1 * (y 0).val = (y 0).val; omega
  | ⟨1, _⟩ => show j.val * 256 + 1 * (y 1).val = j.val * 256 + (y 1).val; omega

/-! ## The combine buffer and the result -/

omit [FloatOps F] in
/-- The combine buffer after its two stores, read row by row. -/
theorem cmb0_writes (p0 p1 : Vec F S1x128x128 .f32) :
    cmb0 c (combM.view.writes (Elt F) fc [⟨Rect.unit (s := S2x128x128) ![1, 0, 0] S1x128x128.size inb_S2x128x128_S1x128x128_1_0_0, p1⟩, ⟨Rect.unit (s := S2x128x128) ![0, 0, 0] S1x128x128.size inb_S2x128x128_S1x128x128_0_0_0, p0⟩]) = p0 := by
  funext y
  unfold cmb0
  rw [View.readAt_apply]
  have h0 : (y 0).val < 1 := (y 0).isLt
  rw [View.read_writes_cons_unit_of_not_mem combM.view fc inb_S2x128x128_S1x128x128_1_0_0 p1 _ _ rfl (0 : Fin 3) (Or.inl (by show 0 + 1 * (y 0).val < 1; omega))]
  refine View.read_writes_cons_unit_of_mem combM.view fc inb_S2x128x128_S1x128x128_0_0_0 p0 _ _ y rfl ?_
  intro a
  match a with
  | ⟨0, _⟩ => show 0 + 1 * (y 0).val = 0 + (y 0).val; omega
  | ⟨1, _⟩ => show 0 + 1 * (y 1).val = 0 + (y 1).val; omega
  | ⟨2, _⟩ => show 0 + 1 * (y 2).val = 0 + (y 2).val; omega

omit [FloatOps F] in
/-- Reading the second plane after both stores gives what the second stored. -/
theorem cmb1_writes (p0 p1 : Vec F S1x128x128 .f32) :
    cmb1 c (combM.view.writes (Elt F) fc [⟨Rect.unit (s := S2x128x128) ![1, 0, 0] S1x128x128.size inb_S2x128x128_S1x128x128_1_0_0, p1⟩, ⟨Rect.unit (s := S2x128x128) ![0, 0, 0] S1x128x128.size inb_S2x128x128_S1x128x128_0_0_0, p0⟩]) = p1 := by
  funext y
  unfold cmb1
  rw [View.readAt_apply]
  refine View.read_writes_cons_unit_of_mem combM.view fc inb_S2x128x128_S1x128x128_1_0_0 p1 _ _ y rfl ?_
  intro a
  match a with
  | ⟨0, _⟩ => show 1 + 1 * (y 0).val = 1 + (y 0).val; omega
  | ⟨1, _⟩ => show 0 + 1 * (y 1).val = 0 + (y 1).val; omega
  | ⟨2, _⟩ => show 0 + 1 * (y 2).val = 0 + (y 2).val; omega

omit [FloatOps F] in
/-- A store of a whole 128×2816 buffer, read back. -/
theorem whole_writes {sp : Space} {el : EltTy} (v : View sig .tc sp S128x2816 el) (f : v.ty.Contents (Elt F)) (p : Vec F S128x2816 el) :
    v.read (Elt F) (v.writes (Elt F) f [⟨Rect.unit (s := S128x2816) ![0, 0] S128x2816.size inb_S128x2816_S128x2816_0_0, p⟩]) = p := by
  funext y
  refine View.read_writes_cons_unit_of_mem v f inb_S128x2816_S128x2816_0_0 p _ _ y rfl ?_
  intro a
  match a with
  | ⟨0, _⟩ => show (y 0).val = 0 + (y 0).val; omega
  | ⟨1, _⟩ => show (y 1).val = 0 + (y 1).val; omega

/-! ## Landings -/

omit [FloatOps F] in
/-- A gate/up fetch from offsets `[e, h·3584 + j·512, 0]` leaves its slot landed. -/
theorem g_landed (e j h : ℕ) (hi) (f0 : Buf (Elt F) (guM.view.loc (c : Thread nD τ))) (off : Fin 3 → ℕ) (h0 : off = ![e, h * 3584 + j * 512, 0])
    (hb : ∀ a, off a + S1x512x2816.size a ≤ S8x7168x2816.size a) (hq) (hr) :
    GLanded c XG e j h hi ((gslot j h hi).view.writes (Elt F) f0 [⟨Rect.whole S512x2816, ReadAs.same.apply (View.read (Elt F) ((wguM.slice (Rect.unit (s := S8x7168x2816) off S1x512x2816.size hb) hr).squeeze S512x2816 hq).view XG)⟩]) := by
  subst h0
  intro x i i0 i1 i2
  rw [View.read_writes_whole]
  show ((wguM.slice (Rect.unit (s := S8x7168x2816) ![e, h * 3584 + j * 512, 0] S1x512x2816.size hb) hr).squeeze S512x2816 hq).view.read (Elt F) XG x = _
  have hc : S1x512x2816.ShapeCasts S512x2816 := by decide
  refine (congrFun (Memref.read_squeeze_slice wguM (Rect.unit (s := S8x7168x2816) ![e, h * 3584 + j * 512, 0] S1x512x2816.size hb) hr hq hc XG) _).trans ?_
  refine (shapeCast_apply (s := S1x512x2816) (t := S512x2816) _ hc x (ix3 (0 : Fin 1) (x 0 : Fin 512) (x 1 : Fin 2816)) ?_).trans ?_
  · rw [Shape.rowMajor_val_two, Shape.rowMajor_val_three]
    show (0 * 512 + (x 0).val) * 2816 + (x 1).val = (x 0).val * 2816 + (x 1).val
    omega
  · refine congrArg XG (funext fun a => Fin.ext ?_)
    match a with
    | ⟨0, _⟩ => show e + 1 * 0 = (i 0).val; omega
    | ⟨1, _⟩ => show h * 3584 + j * 512 + 1 * (x 0).val = (i 1).val; omega
    | ⟨2, _⟩ => show 0 + 1 * (x 1).val = (i 2).val; omega

omit [FloatOps F] in
/-- A down fetch from offsets `[e, j·256, 0]` leaves its slot landed. -/
theorem d_landed (e j : ℕ) (hi) (f0 : Buf (Elt F) (dnM.view.loc (c : Thread nD τ))) (off : Fin 3 → ℕ) (h0 : off = ![e, j * 256, 0])
    (hb : ∀ a, off a + S1x256x3584.size a ≤ S8x2816x3584.size a) (hq) (hr) :
    DLanded c XD e j hi ((dslot j hi).view.writes (Elt F) f0 [⟨Rect.whole S256x3584, ReadAs.same.apply (View.read (Elt F) ((wdnM.slice (Rect.unit (s := S8x2816x3584) off S1x256x3584.size hb) hr).squeeze S256x3584 hq).view XD)⟩]) := by
  subst h0
  intro x i i0 i1 i2
  rw [View.read_writes_whole]
  show ((wdnM.slice (Rect.unit (s := S8x2816x3584) ![e, j * 256, 0] S1x256x3584.size hb) hr).squeeze S256x3584 hq).view.read (Elt F) XD x = _
  refine (congrFun (Memref.read_squeeze_slice wdnM (Rect.unit (s := S8x2816x3584) ![e, j * 256, 0] S1x256x3584.size hb) hr hq shapeCasts_S1x256x3584_S256x3584 XD) _).trans ?_
  refine (shapeCast_apply (s := S1x256x3584) (t := S256x3584) _ shapeCasts_S1x256x3584_S256x3584 x (ix3 (0 : Fin 1) (x 0 : Fin 256) (x 1 : Fin 3584)) ?_).trans ?_
  · rw [Shape.rowMajor_val_two, Shape.rowMajor_val_three]
    show (0 * 256 + (x 0).val) * 3584 + (x 1).val = (x 0).val * 3584 + (x 1).val
    omega
  · refine congrArg XD (funext fun a => Fin.ext ?_)
    match a with
    | ⟨0, _⟩ => show e + 1 * 0 = (i 0).val; omega
    | ⟨1, _⟩ => show j * 256 + 1 * (x 0).val = (i 1).val; omega
    | ⟨2, _⟩ => show 0 + 1 * (x 1).val = (i 2).val; omega

/-! ## What the stores of a trip leave -/

omit [FloatOps F] in
/-- Seven stores of 512 columns leave the intermediate at them, side by side. -/
theorem h_tiles (f : hM.view.ty.Contents (Elt F)) (p : Fin 7 → Vec F S128x512 .bf16) (y : S128x3584.Idx) :
    hM.view.read (Elt F) (hM.view.writes (Elt F) f [⟨Rect.unit (s := S128x3584) ![0, 3072] S128x512.size inb_S128x3584_S128x512_0_3072, p 6⟩, ⟨Rect.unit (s := S128x3584) ![0, 2560] S128x512.size inb_S128x3584_S128x512_0_2560, p 5⟩, ⟨Rect.unit (s := S128x3584) ![0, 2048] S128x512.size inb_S128x3584_S128x512_0_2048, p 4⟩, ⟨Rect.unit (s := S128x3584) ![0, 1536] S128x512.size inb_S128x3584_S128x512_0_1536, p 3⟩, ⟨Rect.unit (s := S128x3584) ![0, 1024] S128x512.size inb_S128x3584_S128x512_0_1024, p 2⟩, ⟨Rect.unit (s := S128x3584) ![0, 512] S128x512.size inb_S128x3584_S128x512_0_512, p 1⟩, ⟨Rect.unit (s := S128x3584) ![0, 0] S128x512.size inb_S128x3584_S128x512_0_0, p 0⟩]) y
      = p ⟨(y 1).val / 512, by have : (y 1).val < 3584 := (y 1).isLt; omega⟩ (ix2 (y 0 : Fin 128) (⟨(y 1).val % 512, by omega⟩ : Fin 512)) := by
  have hy : (y 1).val < 3584 := (y 1).isLt
  refine View.read_tilePieces (NT := 7) hM.view f S128x512.size (fun j => ![0, 512 * j.val]) ?_ p 7 le_rfl y ⟨(y 1).val / 512, by omega⟩ (by show (y 1).val / 512 < 7; omega) _ ?_ (1 : Fin 2) ?_
  · intro j a
    match a with
    | ⟨0, _⟩ => show 0 + 128 ≤ 128; omega
    | ⟨1, _⟩ => show 512 * j.val + 512 ≤ 3584; omega
  · intro a
    match a with
    | ⟨0, _⟩ => show (y 0).val = 0 + (y 0).val; omega
    | ⟨1, _⟩ => show (y 1).val = 512 * ((y 1).val / 512) + (y 1).val % 512; omega
  · intro j hj
    have hj' : j.val ≠ (y 1).val / 512 := fun h => hj (Fin.ext h)
    show (y 1).val < 512 * j.val ∨ 512 * j.val + 512 ≤ (y 1).val
    omega

omit [FloatOps F] in
/-- Eleven stores of 256 columns leave the accumulator at them, side by side. -/
theorem acc_tiles (f : accM.view.ty.Contents (Elt F)) (p : Fin 11 → Vec F S128x256 .f32) (y : S128x2816.Idx) :
    accM.view.read (Elt F) (accM.view.writes (Elt F) f [⟨Rect.unit (s := S128x2816) ![0, 2560] S128x256.size inb_S128x2816_S128x256_0_2560, p 10⟩, ⟨Rect.unit (s := S128x2816) ![0, 2304] S128x256.size inb_S128x2816_S128x256_0_2304, p 9⟩, ⟨Rect.unit (s := S128x2816) ![0, 2048] S128x256.size inb_S128x2816_S128x256_0_2048, p 8⟩, ⟨Rect.unit (s := S128x2816) ![0, 1792] S128x256.size inb_S128x2816_S128x256_0_1792, p 7⟩, ⟨Rect.unit (s := S128x2816) ![0, 1536] S128x256.size inb_S128x2816_S128x256_0_1536, p 6⟩, ⟨Rect.unit (s := S128x2816) ![0, 1280] S128x256.size inb_S128x2816_S128x256_0_1280, p 5⟩, ⟨Rect.unit (s := S128x2816) ![0, 1024] S128x256.size inb_S128x2816_S128x256_0_1024, p 4⟩, ⟨Rect.unit (s := S128x2816) ![0, 768] S128x256.size inb_S128x2816_S128x256_0_768, p 3⟩, ⟨Rect.unit (s := S128x2816) ![0, 512] S128x256.size inb_S128x2816_S128x256_0_512, p 2⟩, ⟨Rect.unit (s := S128x2816) ![0, 256] S128x256.size inb_S128x2816_S128x256_0_256, p 1⟩, ⟨Rect.unit (s := S128x2816) ![0, 0] S128x256.size inb_S128x2816_S128x256_0_0, p 0⟩]) y
      = p ⟨(y 1).val / 256, by have : (y 1).val < 2816 := (y 1).isLt; omega⟩ (ix2 (y 0 : Fin 128) (⟨(y 1).val % 256, by omega⟩ : Fin 256)) := by
  have hy : (y 1).val < 2816 := (y 1).isLt
  refine View.read_tilePieces (NT := 11) accM.view f S128x256.size (fun j => ![0, 256 * j.val]) ?_ p 11 le_rfl y ⟨(y 1).val / 256, by omega⟩ (by show (y 1).val / 256 < 11; omega) _ ?_ (1 : Fin 2) ?_
  · intro j a
    match a with
    | ⟨0, _⟩ => show 0 + 128 ≤ 128; omega
    | ⟨1, _⟩ => show 256 * j.val + 256 ≤ 2816; omega
  · intro a
    match a with
    | ⟨0, _⟩ => show (y 0).val = 0 + (y 0).val; omega
    | ⟨1, _⟩ => show (y 1).val = 256 * ((y 1).val / 256) + (y 1).val % 256; omega
  · intro j hj
    have hj' : j.val ≠ (y 1).val / 256 := fun h => hj (Fin.ext h)
    show (y 1).val < 256 * j.val ∨ 256 * j.val + 256 ≤ (y 1).val
    omega

end Tiles
end Cert.Proof.Run
end
-- ==== Proof.TripValue.lean ====
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Transfers
public import Idealize.ShloMosaic.Lib.Pipeline.KitQuiescent
public import Idealize.ShloMosaic.Lib.Tactic
public import proofs.«01_k».proof.Proof.Tiles

@[expose] public section

set_option maxRecDepth 16384

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The kernel's offsets at an expert number -/

/-- The offset of this transfer or load, in coordinates. -/
theorem off37_at : ∀ e : Fin 8, k0_off37 (BitVec.ofNat 32 e.val) = ![e.val, (0 : Fin 2).val * 3584 + (0 : Fin 7).val * 512] := by decide
/-- The offset of this transfer or load, in coordinates. -/
theorem off38_at : ∀ e : Fin 8, k0_off38 (BitVec.ofNat 32 e.val) = ![e.val, (1 : Fin 2).val * 3584 + (0 : Fin 7).val * 512] := by decide
/-- The offset of this transfer or load, in coordinates. -/
theorem off43_at : ∀ e : Fin 8, k0_off43 (BitVec.ofNat 32 e.val) = ![e.val, (0 : Fin 2).val * 3584 + (1 : Fin 7).val * 512] := by decide
/-- The offset of this transfer or load, in coordinates. -/
theorem off44_at : ∀ e : Fin 8, k0_off44 (BitVec.ofNat 32 e.val) = ![e.val, (1 : Fin 2).val * 3584 + (1 : Fin 7).val * 512] := by decide
/-- The offset of this transfer or load, in coordinates. -/
theorem off49_at : ∀ e : Fin 8, k0_off49 (BitVec.ofNat 32 e.val) = ![e.val, (0 : Fin 2).val * 3584 + (2 : Fin 7).val * 512] := by decide
/-- The offset of this transfer or load, in coordinates. -/
theorem off50_at : ∀ e : Fin 8, k0_off50 (BitVec.ofNat 32 e.val) = ![e.val, (1 : Fin 2).val * 3584 + (2 : Fin 7).val * 512] := by decide
/-- The offset of this transfer or load, in coordinates. -/
theorem off55_at : ∀ e : Fin 8, k0_off55 (BitVec.ofNat 32 e.val) = ![e.val, (0 : Fin 2).val * 3584 + (3 : Fin 7).val * 512] := by decide
/-- The offset of this transfer or load, in coordinates. -/
theorem off56_at : ∀ e : Fin 8, k0_off56 (BitVec.ofNat 32 e.val) = ![e.val, (1 : Fin 2).val * 3584 + (3 : Fin 7).val * 512] := by decide
/-- The offset of this transfer or load, in coordinates. -/
theorem off61_at : ∀ e : Fin 8, k0_off61 (BitVec.ofNat 32 e.val) = ![e.val, (0 : Fin 2).val * 3584 + (4 : Fin 7).val * 512] := by decide
/-- The offset of this transfer or load, in coordinates. -/
theorem off62_at : ∀ e : Fin 8, k0_off62 (BitVec.ofNat 32 e.val) = ![e.val, (1 : Fin 2).val * 3584 + (4 : Fin 7).val * 512] := by decide
/-- The offset of this transfer or load, in coordinates. -/
theorem off67_at : ∀ e : Fin 8, k0_off67 (BitVec.ofNat 32 e.val) = ![e.val, (0 : Fin 2).val * 3584 + (5 : Fin 7).val * 512] := by decide
/-- The offset of this transfer or load, in coordinates. -/
theorem off68_at : ∀ e : Fin 8, k0_off68 (BitVec.ofNat 32 e.val) = ![e.val, (1 : Fin 2).val * 3584 + (5 : Fin 7).val * 512] := by decide
/-- The offset of this transfer or load, in coordinates. -/
theorem off73_at : ∀ e : Fin 8, k0_off73 (BitVec.ofNat 32 e.val) = ![e.val, (0 : Fin 2).val * 3584 + (6 : Fin 7).val * 512] := by decide
/-- The offset of this transfer or load, in coordinates. -/
theorem off74_at : ∀ e : Fin 8, k0_off74 (BitVec.ofNat 32 e.val) = ![e.val, (1 : Fin 2).val * 3584 + (6 : Fin 7).val * 512] := by decide
/-- The offset of this transfer or load, in coordinates. -/
theorem off78_at : ∀ e : Fin 8, k0_off78 (BitVec.ofNat 32 e.val) = ![e.val, (0 : Fin 11).val * 256] := by decide
/-- The offset of this transfer or load, in coordinates. -/
theorem off81_at : ∀ e : Fin 8, k0_off81 (BitVec.ofNat 32 e.val) = ![e.val, (1 : Fin 11).val * 256] := by decide
/-- The offset of this transfer or load, in coordinates. -/
theorem off84_at : ∀ e : Fin 8, k0_off84 (BitVec.ofNat 32 e.val) = ![e.val, (2 : Fin 11).val * 256] := by decide
/-- The offset of this transfer or load, in coordinates. -/
theorem off87_at : ∀ e : Fin 8, k0_off87 (BitVec.ofNat 32 e.val) = ![e.val, (3 : Fin 11).val * 256] := by decide
/-- The offset of this transfer or load, in coordinates. -/
theorem off90_at : ∀ e : Fin 8, k0_off90 (BitVec.ofNat 32 e.val) = ![e.val, (4 : Fin 11).val * 256] := by decide
/-- The offset of this transfer or load, in coordinates. -/
theorem off93_at : ∀ e : Fin 8, k0_off93 (BitVec.ofNat 32 e.val) = ![e.val, (5 : Fin 11).val * 256] := by decide
/-- The offset of this transfer or load, in coordinates. -/
theorem off96_at : ∀ e : Fin 8, k0_off96 (BitVec.ofNat 32 e.val) = ![e.val, (6 : Fin 11).val * 256] := by decide
/-- The offset of this transfer or load, in coordinates. -/
theorem off99_at : ∀ e : Fin 8, k0_off99 (BitVec.ofNat 32 e.val) = ![e.val, (7 : Fin 11).val * 256] := by decide
/-- The offset of this transfer or load, in coordinates. -/
theorem off102_at : ∀ e : Fin 8, k0_off102 (BitVec.ofNat 32 e.val) = ![e.val, (8 : Fin 11).val * 256] := by decide
/-- The offset of this transfer or load, in coordinates. -/
theorem off105_at : ∀ e : Fin 8, k0_off105 (BitVec.ofNat 32 e.val) = ![e.val, (9 : Fin 11).val * 256] := by decide
/-- The offset of this transfer or load, in coordinates. -/
theorem off108_at : ∀ e : Fin 8, k0_off108 (BitVec.ofNat 32 e.val) = ![e.val, (10 : Fin 11).val * 256] := by decide

/-- The offset of this transfer or load, in coordinates. -/
theorem off39_at : ∀ e : Fin 8, k0_off39 (BitVec.ofNat 32 e.val) = ![e.val, 0 * 3584 + 0 * 512, 0] := by decide
/-- The offset of this transfer or load, in coordinates. -/
theorem off40_at : ∀ e : Fin 8, k0_off40 (BitVec.ofNat 32 e.val) = ![e.val, 1 * 3584 + 0 * 512, 0] := by decide
/-- The offset of this transfer or load, in coordinates. -/
theorem off45_at : ∀ e : Fin 8, k0_off45 (BitVec.ofNat 32 e.val) = ![e.val, 0 * 3584 + 1 * 512, 0] := by decide
/-- The offset of this transfer or load, in coordinates. -/
theorem off46_at : ∀ e : Fin 8, k0_off46 (BitVec.ofNat 32 e.val) = ![e.val, 1 * 3584 + 1 * 512, 0] := by decide
/-- The offset of this transfer or load, in coordinates. -/
theorem off51_at : ∀ e : Fin 8, k0_off51 (BitVec.ofNat 32 e.val) = ![e.val, 0 * 3584 + 2 * 512, 0] := by decide
/-- The offset of this transfer or load, in coordinates. -/
theorem off52_at : ∀ e : Fin 8, k0_off52 (BitVec.ofNat 32 e.val) = ![e.val, 1 * 3584 + 2 * 512, 0] := by decide
/-- The offset of this transfer or load, in coordinates. -/
theorem off57_at : ∀ e : Fin 8, k0_off57 (BitVec.ofNat 32 e.val) = ![e.val, 0 * 3584 + 3 * 512, 0] := by decide
/-- The offset of this transfer or load, in coordinates. -/
theorem off58_at : ∀ e : Fin 8, k0_off58 (BitVec.ofNat 32 e.val) = ![e.val, 1 * 3584 + 3 * 512, 0] := by decide
/-- The offset of this transfer or load, in coordinates. -/
theorem off63_at : ∀ e : Fin 8, k0_off63 (BitVec.ofNat 32 e.val) = ![e.val, 0 * 3584 + 4 * 512, 0] := by decide
/-- The offset of this transfer or load, in coordinates. -/
theorem off64_at : ∀ e : Fin 8, k0_off64 (BitVec.ofNat 32 e.val) = ![e.val, 1 * 3584 + 4 * 512, 0] := by decide
/-- The offset of this transfer or load, in coordinates. -/
theorem off69_at : ∀ e : Fin 8, k0_off69 (BitVec.ofNat 32 e.val) = ![e.val, 0 * 3584 + 5 * 512, 0] := by decide
/-- The offset of this transfer or load, in coordinates. -/
theorem off70_at : ∀ e : Fin 8, k0_off70 (BitVec.ofNat 32 e.val) = ![e.val, 1 * 3584 + 5 * 512, 0] := by decide
/-- The offset of this transfer or load, in coordinates. -/
theorem off75_at : ∀ e : Fin 8, k0_off75 (BitVec.ofNat 32 e.val) = ![e.val, 0 * 3584 + 6 * 512, 0] := by decide
/-- The offset of this transfer or load, in coordinates. -/
theorem off76_at : ∀ e : Fin 8, k0_off76 (BitVec.ofNat 32 e.val) = ![e.val, 1 * 3584 + 6 * 512, 0] := by decide
/-- The offset of this transfer or load, in coordinates. -/
theorem off79_at : ∀ e : Fin 8, k0_off79 (BitVec.ofNat 32 e.val) = ![e.val, 0 * 256, 0] := by decide
/-- The offset of this transfer or load, in coordinates. -/
theorem off82_at : ∀ e : Fin 8, k0_off82 (BitVec.ofNat 32 e.val) = ![e.val, 1 * 256, 0] := by decide
/-- The offset of this transfer or load, in coordinates. -/
theorem off85_at : ∀ e : Fin 8, k0_off85 (BitVec.ofNat 32 e.val) = ![e.val, 2 * 256, 0] := by decide
/-- The offset of this transfer or load, in coordinates. -/
theorem off88_at : ∀ e : Fin 8, k0_off88 (BitVec.ofNat 32 e.val) = ![e.val, 3 * 256, 0] := by decide
/-- The offset of this transfer or load, in coordinates. -/
theorem off91_at : ∀ e : Fin 8, k0_off91 (BitVec.ofNat 32 e.val) = ![e.val, 4 * 256, 0] := by decide
/-- The offset of this transfer or load, in coordinates. -/
theorem off94_at : ∀ e : Fin 8, k0_off94 (BitVec.ofNat 32 e.val) = ![e.val, 5 * 256, 0] := by decide
/-- The offset of this transfer or load, in coordinates. -/
theorem off97_at : ∀ e : Fin 8, k0_off97 (BitVec.ofNat 32 e.val) = ![e.val, 6 * 256, 0] := by decide
/-- The offset of this transfer or load, in coordinates. -/
theorem off100_at : ∀ e : Fin 8, k0_off100 (BitVec.ofNat 32 e.val) = ![e.val, 7 * 256, 0] := by decide
/-- The offset of this transfer or load, in coordinates. -/
theorem off103_at : ∀ e : Fin 8, k0_off103 (BitVec.ofNat 32 e.val) = ![e.val, 8 * 256, 0] := by decide
/-- The offset of this transfer or load, in coordinates. -/
theorem off106_at : ∀ e : Fin 8, k0_off106 (BitVec.ofNat 32 e.val) = ![e.val, 9 * 256, 0] := by decide
/-- The offset of this transfer or load, in coordinates. -/
theorem off109_at : ∀ e : Fin 8, k0_off109 (BitVec.ofNat 32 e.val) = ![e.val, 10 * 256, 0] := by decide

/-- The offset of this transfer or load, in coordinates. -/
theorem off8_at : ∀ e : Fin 8, k0_off8 (BitVec.ofNat 32 e.val) = ![e.val, 0 * 3584 + 0 * 512, 0] := by decide
/-- The offset of this transfer or load, in coordinates. -/
theorem off9_at : ∀ e : Fin 8, k0_off9 (BitVec.ofNat 32 e.val) = ![e.val, 1 * 3584 + 0 * 512, 0] := by decide
/-- The offset of this transfer or load, in coordinates. -/
theorem off10_at : ∀ e : Fin 8, k0_off10 (BitVec.ofNat 32 e.val) = ![e.val, 0 * 3584 + 1 * 512, 0] := by decide
/-- The offset of this transfer or load, in coordinates. -/
theorem off11_at : ∀ e : Fin 8, k0_off11 (BitVec.ofNat 32 e.val) = ![e.val, 1 * 3584 + 1 * 512, 0] := by decide
/-- The offset of this transfer or load, in coordinates. -/
theorem off12_at : ∀ e : Fin 8, k0_off12 (BitVec.ofNat 32 e.val) = ![e.val, 0 * 3584 + 2 * 512, 0] := by decide
/-- The offset of this transfer or load, in coordinates. -/
theorem off13_at : ∀ e : Fin 8, k0_off13 (BitVec.ofNat 32 e.val) = ![e.val, 1 * 3584 + 2 * 512, 0] := by decide
/-- The offset of this transfer or load, in coordinates. -/
theorem off14_at : ∀ e : Fin 8, k0_off14 (BitVec.ofNat 32 e.val) = ![e.val, 0 * 3584 + 3 * 512, 0] := by decide
/-- The offset of this transfer or load, in coordinates. -/
theorem off15_at : ∀ e : Fin 8, k0_off15 (BitVec.ofNat 32 e.val) = ![e.val, 1 * 3584 + 3 * 512, 0] := by decide
/-- The offset of this transfer or load, in coordinates. -/
theorem off16_at : ∀ e : Fin 8, k0_off16 (BitVec.ofNat 32 e.val) = ![e.val, 0 * 3584 + 4 * 512, 0] := by decide
/-- The offset of this transfer or load, in coordinates. -/
theorem off17_at : ∀ e : Fin 8, k0_off17 (BitVec.ofNat 32 e.val) = ![e.val, 1 * 3584 + 4 * 512, 0] := by decide
/-- The offset of this transfer or load, in coordinates. -/
theorem off18_at : ∀ e : Fin 8, k0_off18 (BitVec.ofNat 32 e.val) = ![e.val, 0 * 3584 + 5 * 512, 0] := by decide
/-- The offset of this transfer or load, in coordinates. -/
theorem off19_at : ∀ e : Fin 8, k0_off19 (BitVec.ofNat 32 e.val) = ![e.val, 1 * 3584 + 5 * 512, 0] := by decide
/-- The offset of this transfer or load, in coordinates. -/
theorem off20_at : ∀ e : Fin 8, k0_off20 (BitVec.ofNat 32 e.val) = ![e.val, 0 * 3584 + 6 * 512, 0] := by decide
/-- The offset of this transfer or load, in coordinates. -/
theorem off21_at : ∀ e : Fin 8, k0_off21 (BitVec.ofNat 32 e.val) = ![e.val, 1 * 3584 + 6 * 512, 0] := by decide
/-- The offset of this transfer or load, in coordinates. -/
theorem off22_at : ∀ e : Fin 8, k0_off22 (BitVec.ofNat 32 e.val) = ![e.val, 0 * 256, 0] := by decide
/-- The offset of this transfer or load, in coordinates. -/
theorem off23_at : ∀ e : Fin 8, k0_off23 (BitVec.ofNat 32 e.val) = ![e.val, 1 * 256, 0] := by decide
/-- The offset of this transfer or load, in coordinates. -/
theorem off24_at : ∀ e : Fin 8, k0_off24 (BitVec.ofNat 32 e.val) = ![e.val, 2 * 256, 0] := by decide
/-- The offset of this transfer or load, in coordinates. -/
theorem off25_at : ∀ e : Fin 8, k0_off25 (BitVec.ofNat 32 e.val) = ![e.val, 3 * 256, 0] := by decide
/-- The offset of this transfer or load, in coordinates. -/
theorem off26_at : ∀ e : Fin 8, k0_off26 (BitVec.ofNat 32 e.val) = ![e.val, 4 * 256, 0] := by decide
/-- The offset of this transfer or load, in coordinates. -/
theorem off27_at : ∀ e : Fin 8, k0_off27 (BitVec.ofNat 32 e.val) = ![e.val, 5 * 256, 0] := by decide
/-- The offset of this transfer or load, in coordinates. -/
theorem off28_at : ∀ e : Fin 8, k0_off28 (BitVec.ofNat 32 e.val) = ![e.val, 6 * 256, 0] := by decide
/-- The offset of this transfer or load, in coordinates. -/
theorem off29_at : ∀ e : Fin 8, k0_off29 (BitVec.ofNat 32 e.val) = ![e.val, 7 * 256, 0] := by decide
/-- The offset of this transfer or load, in coordinates. -/
theorem off30_at : ∀ e : Fin 8, k0_off30 (BitVec.ofNat 32 e.val) = ![e.val, 8 * 256, 0] := by decide
/-- The offset of this transfer or load, in coordinates. -/
theorem off31_at : ∀ e : Fin 8, k0_off31 (BitVec.ofNat 32 e.val) = ![e.val, 9 * 256, 0] := by decide
/-- The offset of this transfer or load, in coordinates. -/
theorem off32_at : ∀ e : Fin 8, k0_off32 (BitVec.ofNat 32 e.val) = ![e.val, 10 * 256, 0] := by decide

section Trip
variable (c : Dev nD)
  (XG : Buf (Elt F) (wguM.view.loc (c : Thread nD τ))) (XD : Buf (Elt F) (wdnM.view.loc (c : Thread nD τ)))
  (arg2 : Memref sig .tc .vmem S128x2816 .bf16) (arg3 : Memref sig .tc .vmem S8x7168 .f32) (arg4 : Memref sig .tc .vmem S8x2816 .f32)
  (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ)))

/-- A load of the whole intermediate after seven stores of 512 columns. -/
theorem h_cov (p : Fin 7 → Vec F S128x512 .bf16) :
    View.readCov (Val := Elt F) hM.view [⟨Rect.unit (s := S128x3584) ![0, 3072] S128x512.size inb_S128x3584_S128x512_0_3072, p 6⟩, ⟨Rect.unit (s := S128x3584) ![0, 2560] S128x512.size inb_S128x3584_S128x512_0_2560, p 5⟩, ⟨Rect.unit (s := S128x3584) ![0, 2048] S128x512.size inb_S128x3584_S128x512_0_2048, p 4⟩, ⟨Rect.unit (s := S128x3584) ![0, 1536] S128x512.size inb_S128x3584_S128x512_0_1536, p 3⟩, ⟨Rect.unit (s := S128x3584) ![0, 1024] S128x512.size inb_S128x3584_S128x512_0_1024, p 2⟩, ⟨Rect.unit (s := S128x3584) ![0, 512] S128x512.size inb_S128x3584_S128x512_0_512, p 1⟩, ⟨Rect.unit (s := S128x3584) ![0, 0] S128x512.size inb_S128x3584_S128x512_0_0, p 0⟩]
        (Rect.unit (s := S128x3584) ![0, 0] S128x3584.size inb_S128x3584_S128x3584_0_0).toLoadRect
      = fun y : S128x3584.Idx => p ⟨(y 1).val / 512, by have : (y 1).val < 3584 := (y 1).isLt; omega⟩ (ix2 (y 0 : Fin 128) (⟨(y 1).val % 512, by omega⟩ : Fin 512)) := by
  funext y
  unfold View.readCov
  refine Eq.trans ?_ (h_tiles hM.view.junk p y)
  refine congrArg (hM.view.read (Elt F) (hM.view.writes (Elt F) hM.view.junk [⟨Rect.unit (s := S128x3584) ![0, 3072] S128x512.size inb_S128x3584_S128x512_0_3072, p 6⟩, ⟨Rect.unit (s := S128x3584) ![0, 2560] S128x512.size inb_S128x3584_S128x512_0_2560, p 5⟩, ⟨Rect.unit (s := S128x3584) ![0, 2048] S128x512.size inb_S128x3584_S128x512_0_2048, p 4⟩, ⟨Rect.unit (s := S128x3584) ![0, 1536] S128x512.size inb_S128x3584_S128x512_0_1536, p 3⟩, ⟨Rect.unit (s := S128x3584) ![0, 1024] S128x512.size inb_S128x3584_S128x512_0_1024, p 2⟩, ⟨Rect.unit (s := S128x3584) ![0, 512] S128x512.size inb_S128x3584_S128x512_0_512, p 1⟩, ⟨Rect.unit (s := S128x3584) ![0, 0] S128x512.size inb_S128x3584_S128x512_0_0, p 0⟩])) (funext fun a => Fin.ext ?_)
  match a with
  | ⟨0, _⟩ => show 0 + 1 * (y 0).val = (y 0).val; omega
  | ⟨1, _⟩ => show 0 + 1 * (y 1).val = (y 1).val; omega

set_option maxHeartbeats 4000000 in
/-- The intermediate a trip computes, from the slots it finds landed. -/
theorem trip_h (e : Fin 8) (w : BitVec 32) (hw : w = BitVec.ofNat 32 e.val) (h3 : k0_chk3 w)
    (f00 f01 f10 f11 f20 f21 f30 f31 f40 f41 f50 f51 f60 f61 : Buf (Elt F) (guM.view.loc (c : Thread nD τ)))
    (p00 : GLanded c XG e.val 0 0 inb_S7x2x512x2816_S1x1x512x2816_0_0_0_0 f00)
    (p01 : GLanded c XG e.val 0 1 inb_S7x2x512x2816_S1x1x512x2816_0_1_0_0 f01)
    (p10 : GLanded c XG e.val 1 0 inb_S7x2x512x2816_S1x1x512x2816_1_0_0_0 f10)
    (p11 : GLanded c XG e.val 1 1 inb_S7x2x512x2816_S1x1x512x2816_1_1_0_0 f11)
    (p20 : GLanded c XG e.val 2 0 inb_S7x2x512x2816_S1x1x512x2816_2_0_0_0 f20)
    (p21 : GLanded c XG e.val 2 1 inb_S7x2x512x2816_S1x1x512x2816_2_1_0_0 f21)
    (p30 : GLanded c XG e.val 3 0 inb_S7x2x512x2816_S1x1x512x2816_3_0_0_0 f30)
    (p31 : GLanded c XG e.val 3 1 inb_S7x2x512x2816_S1x1x512x2816_3_1_0_0 f31)
    (p40 : GLanded c XG e.val 4 0 inb_S7x2x512x2816_S1x1x512x2816_4_0_0_0 f40)
    (p41 : GLanded c XG e.val 4 1 inb_S7x2x512x2816_S1x1x512x2816_4_1_0_0 f41)
    (p50 : GLanded c XG e.val 5 0 inb_S7x2x512x2816_S1x1x512x2816_5_0_0_0 f50)
    (p51 : GLanded c XG e.val 5 1 inb_S7x2x512x2816_S1x1x512x2816_5_1_0_0 f51)
    (p60 : GLanded c XG e.val 6 0 inb_S7x2x512x2816_S1x1x512x2816_6_0_0_0 f60)
    (p61 : GLanded c XG e.val 6 1 inb_S7x2x512x2816_S1x1x512x2816_6_1_0_0 f61) :
    View.readCov (Val := Elt F) hM.view [⟨Rect.unit (s := S128x3584) ![0, 3072] S128x512.size inb_S128x3584_S128x512_0_3072, k0_pay9 (View.readAt (Elt F) arg3.view (Rect.unit (s := S8x7168) (k0_off73 w) S1x512.size (k0_off73_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![6, 0, 0, 0] S1x1x512x2816.size inb_S7x2x512x2816_S1x1x512x2816_6_0_0_0).toLoadRect f60) (View.readAt (Elt F) arg3.view (Rect.unit (s := S8x7168) (k0_off74 w) S1x512.size (k0_off74_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![6, 1, 0, 0] S1x1x512x2816.size inb_S7x2x512x2816_S1x1x512x2816_6_1_0_0).toLoadRect f61)⟩,
      ⟨Rect.unit (s := S128x3584) ![0, 2560] S128x512.size inb_S128x3584_S128x512_0_2560, k0_pay9 (View.readAt (Elt F) arg3.view (Rect.unit (s := S8x7168) (k0_off67 w) S1x512.size (k0_off67_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![5, 0, 0, 0] S1x1x512x2816.size inb_S7x2x512x2816_S1x1x512x2816_5_0_0_0).toLoadRect f50) (View.readAt (Elt F) arg3.view (Rect.unit (s := S8x7168) (k0_off68 w) S1x512.size (k0_off68_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![5, 1, 0, 0] S1x1x512x2816.size inb_S7x2x512x2816_S1x1x512x2816_5_1_0_0).toLoadRect f51)⟩,
      ⟨Rect.unit (s := S128x3584) ![0, 2048] S128x512.size inb_S128x3584_S128x512_0_2048, k0_pay9 (View.readAt (Elt F) arg3.view (Rect.unit (s := S8x7168) (k0_off61 w) S1x512.size (k0_off61_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![4, 0, 0, 0] S1x1x512x2816.size inb_S7x2x512x2816_S1x1x512x2816_4_0_0_0).toLoadRect f40) (View.readAt (Elt F) arg3.view (Rect.unit (s := S8x7168) (k0_off62 w) S1x512.size (k0_off62_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![4, 1, 0, 0] S1x1x512x2816.size inb_S7x2x512x2816_S1x1x512x2816_4_1_0_0).toLoadRect f41)⟩,
      ⟨Rect.unit (s := S128x3584) ![0, 1536] S128x512.size inb_S128x3584_S128x512_0_1536, k0_pay9 (View.readAt (Elt F) arg3.view (Rect.unit (s := S8x7168) (k0_off55 w) S1x512.size (k0_off55_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![3, 0, 0, 0] S1x1x512x2816.size inb_S7x2x512x2816_S1x1x512x2816_3_0_0_0).toLoadRect f30) (View.readAt (Elt F) arg3.view (Rect.unit (s := S8x7168) (k0_off56 w) S1x512.size (k0_off56_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![3, 1, 0, 0] S1x1x512x2816.size inb_S7x2x512x2816_S1x1x512x2816_3_1_0_0).toLoadRect f31)⟩,
      ⟨Rect.unit (s := S128x3584) ![0, 1024] S128x512.size inb_S128x3584_S128x512_0_1024, k0_pay9 (View.readAt (Elt F) arg3.view (Rect.unit (s := S8x7168) (k0_off49 w) S1x512.size (k0_off49_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![2, 0, 0, 0] S1x1x512x2816.size inb_S7x2x512x2816_S1x1x512x2816_2_0_0_0).toLoadRect f20) (View.readAt (Elt F) arg3.view (Rect.unit (s := S8x7168) (k0_off50 w) S1x512.size (k0_off50_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![2, 1, 0, 0] S1x1x512x2816.size inb_S7x2x512x2816_S1x1x512x2816_2_1_0_0).toLoadRect f21)⟩,
      ⟨Rect.unit (s := S128x3584) ![0, 512] S128x512.size inb_S128x3584_S128x512_0_512, k0_pay9 (View.readAt (Elt F) arg3.view (Rect.unit (s := S8x7168) (k0_off43 w) S1x512.size (k0_off43_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![1, 0, 0, 0] S1x1x512x2816.size inb_S7x2x512x2816_S1x1x512x2816_1_0_0_0).toLoadRect f10) (View.readAt (Elt F) arg3.view (Rect.unit (s := S8x7168) (k0_off44 w) S1x512.size (k0_off44_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![1, 1, 0, 0] S1x1x512x2816.size inb_S7x2x512x2816_S1x1x512x2816_1_1_0_0).toLoadRect f11)⟩,
      ⟨Rect.unit (s := S128x3584) ![0, 0] S128x512.size inb_S128x3584_S128x512_0_0, k0_pay9 (View.readAt (Elt F) arg3.view (Rect.unit (s := S8x7168) (k0_off37 w) S1x512.size (k0_off37_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![0, 0, 0, 0] S1x1x512x2816.size inb_S7x2x512x2816_S1x1x512x2816_0_0_0_0).toLoadRect f00) (View.readAt (Elt F) arg3.view (Rect.unit (s := S8x7168) (k0_off38 w) S1x512.size (k0_off38_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![0, 1, 0, 0] S1x1x512x2816.size inb_S7x2x512x2816_S1x1x512x2816_0_1_0_0).toLoadRect f01)⟩] (Rect.unit (s := S128x3584) ![0, 0] S128x3584.size inb_S128x3584_S128x3584_0_0).toLoadRect
      = hAll c XG arg2 arg3 fx fsg e := by
  subst hw
  have s00 : View.readAt (Elt F) arg3.view (Rect.unit (s := S8x7168) (k0_off37 (BitVec.ofNat 32 e.val)) S1x512.size (k0_off37_inb (BitVec.ofNat 32 e.val) h3)).toLoadRect fsg = sgBlk c arg3 fsg e 0 0 := sg_read c arg3 fsg e 0 0 _ _ (off37_at e)
  have g00 : View.readAt (Elt F) guM.view (Rect.unit (s := S7x2x512x2816) ![0, 0, 0, 0] S1x1x512x2816.size inb_S7x2x512x2816_S1x1x512x2816_0_0_0_0).toLoadRect f00 = gBlk c XG e 0 0 := g_read c XG e 0 0 _ f00 p00
  have s01 : View.readAt (Elt F) arg3.view (Rect.unit (s := S8x7168) (k0_off38 (BitVec.ofNat 32 e.val)) S1x512.size (k0_off38_inb (BitVec.ofNat 32 e.val) h3)).toLoadRect fsg = sgBlk c arg3 fsg e 1 0 := sg_read c arg3 fsg e 1 0 _ _ (off38_at e)
  have g01 : View.readAt (Elt F) guM.view (Rect.unit (s := S7x2x512x2816) ![0, 1, 0, 0] S1x1x512x2816.size inb_S7x2x512x2816_S1x1x512x2816_0_1_0_0).toLoadRect f01 = gBlk c XG e 1 0 := g_read c XG e 1 0 _ f01 p01
  have s10 : View.readAt (Elt F) arg3.view (Rect.unit (s := S8x7168) (k0_off43 (BitVec.ofNat 32 e.val)) S1x512.size (k0_off43_inb (BitVec.ofNat 32 e.val) h3)).toLoadRect fsg = sgBlk c arg3 fsg e 0 1 := sg_read c arg3 fsg e 0 1 _ _ (off43_at e)
  have g10 : View.readAt (Elt F) guM.view (Rect.unit (s := S7x2x512x2816) ![1, 0, 0, 0] S1x1x512x2816.size inb_S7x2x512x2816_S1x1x512x2816_1_0_0_0).toLoadRect f10 = gBlk c XG e 0 1 := g_read c XG e 0 1 _ f10 p10
  have s11 : View.readAt (Elt F) arg3.view (Rect.unit (s := S8x7168) (k0_off44 (BitVec.ofNat 32 e.val)) S1x512.size (k0_off44_inb (BitVec.ofNat 32 e.val) h3)).toLoadRect fsg = sgBlk c arg3 fsg e 1 1 := sg_read c arg3 fsg e 1 1 _ _ (off44_at e)
  have g11 : View.readAt (Elt F) guM.view (Rect.unit (s := S7x2x512x2816) ![1, 1, 0, 0] S1x1x512x2816.size inb_S7x2x512x2816_S1x1x512x2816_1_1_0_0).toLoadRect f11 = gBlk c XG e 1 1 := g_read c XG e 1 1 _ f11 p11
  have s20 : View.readAt (Elt F) arg3.view (Rect.unit (s := S8x7168) (k0_off49 (BitVec.ofNat 32 e.val)) S1x512.size (k0_off49_inb (BitVec.ofNat 32 e.val) h3)).toLoadRect fsg = sgBlk c arg3 fsg e 0 2 := sg_read c arg3 fsg e 0 2 _ _ (off49_at e)
  have g20 : View.readAt (Elt F) guM.view (Rect.unit (s := S7x2x512x2816) ![2, 0, 0, 0] S1x1x512x2816.size inb_S7x2x512x2816_S1x1x512x2816_2_0_0_0).toLoadRect f20 = gBlk c XG e 0 2 := g_read c XG e 0 2 _ f20 p20
  have s21 : View.readAt (Elt F) arg3.view (Rect.unit (s := S8x7168) (k0_off50 (BitVec.ofNat 32 e.val)) S1x512.size (k0_off50_inb (BitVec.ofNat 32 e.val) h3)).toLoadRect fsg = sgBlk c arg3 fsg e 1 2 := sg_read c arg3 fsg e 1 2 _ _ (off50_at e)
  have g21 : View.readAt (Elt F) guM.view (Rect.unit (s := S7x2x512x2816) ![2, 1, 0, 0] S1x1x512x2816.size inb_S7x2x512x2816_S1x1x512x2816_2_1_0_0).toLoadRect f21 = gBlk c XG e 1 2 := g_read c XG e 1 2 _ f21 p21
  have s30 : View.readAt (Elt F) arg3.view (Rect.unit (s := S8x7168) (k0_off55 (BitVec.ofNat 32 e.val)) S1x512.size (k0_off55_inb (BitVec.ofNat 32 e.val) h3)).toLoadRect fsg = sgBlk c arg3 fsg e 0 3 := sg_read c arg3 fsg e 0 3 _ _ (off55_at e)
  have g30 : View.readAt (Elt F) guM.view (Rect.unit (s := S7x2x512x2816) ![3, 0, 0, 0] S1x1x512x2816.size inb_S7x2x512x2816_S1x1x512x2816_3_0_0_0).toLoadRect f30 = gBlk c XG e 0 3 := g_read c XG e 0 3 _ f30 p30
  have s31 : View.readAt (Elt F) arg3.view (Rect.unit (s := S8x7168) (k0_off56 (BitVec.ofNat 32 e.val)) S1x512.size (k0_off56_inb (BitVec.ofNat 32 e.val) h3)).toLoadRect fsg = sgBlk c arg3 fsg e 1 3 := sg_read c arg3 fsg e 1 3 _ _ (off56_at e)
  have g31 : View.readAt (Elt F) guM.view (Rect.unit (s := S7x2x512x2816) ![3, 1, 0, 0] S1x1x512x2816.size inb_S7x2x512x2816_S1x1x512x2816_3_1_0_0).toLoadRect f31 = gBlk c XG e 1 3 := g_read c XG e 1 3 _ f31 p31
  have s40 : View.readAt (Elt F) arg3.view (Rect.unit (s := S8x7168) (k0_off61 (BitVec.ofNat 32 e.val)) S1x512.size (k0_off61_inb (BitVec.ofNat 32 e.val) h3)).toLoadRect fsg = sgBlk c arg3 fsg e 0 4 := sg_read c arg3 fsg e 0 4 _ _ (off61_at e)
  have g40 : View.readAt (Elt F) guM.view (Rect.unit (s := S7x2x512x2816) ![4, 0, 0, 0] S1x1x512x2816.size inb_S7x2x512x2816_S1x1x512x2816_4_0_0_0).toLoadRect f40 = gBlk c XG e 0 4 := g_read c XG e 0 4 _ f40 p40
  have s41 : View.readAt (Elt F) arg3.view (Rect.unit (s := S8x7168) (k0_off62 (BitVec.ofNat 32 e.val)) S1x512.size (k0_off62_inb (BitVec.ofNat 32 e.val) h3)).toLoadRect fsg = sgBlk c arg3 fsg e 1 4 := sg_read c arg3 fsg e 1 4 _ _ (off62_at e)
  have g41 : View.readAt (Elt F) guM.view (Rect.unit (s := S7x2x512x2816) ![4, 1, 0, 0] S1x1x512x2816.size inb_S7x2x512x2816_S1x1x512x2816_4_1_0_0).toLoadRect f41 = gBlk c XG e 1 4 := g_read c XG e 1 4 _ f41 p41
  have s50 : View.readAt (Elt F) arg3.view (Rect.unit (s := S8x7168) (k0_off67 (BitVec.ofNat 32 e.val)) S1x512.size (k0_off67_inb (BitVec.ofNat 32 e.val) h3)).toLoadRect fsg = sgBlk c arg3 fsg e 0 5 := sg_read c arg3 fsg e 0 5 _ _ (off67_at e)
  have g50 : View.readAt (Elt F) guM.view (Rect.unit (s := S7x2x512x2816) ![5, 0, 0, 0] S1x1x512x2816.size inb_S7x2x512x2816_S1x1x512x2816_5_0_0_0).toLoadRect f50 = gBlk c XG e 0 5 := g_read c XG e 0 5 _ f50 p50
  have s51 : View.readAt (Elt F) arg3.view (Rect.unit (s := S8x7168) (k0_off68 (BitVec.ofNat 32 e.val)) S1x512.size (k0_off68_inb (BitVec.ofNat 32 e.val) h3)).toLoadRect fsg = sgBlk c arg3 fsg e 1 5 := sg_read c arg3 fsg e 1 5 _ _ (off68_at e)
  have g51 : View.readAt (Elt F) guM.view (Rect.unit (s := S7x2x512x2816) ![5, 1, 0, 0] S1x1x512x2816.size inb_S7x2x512x2816_S1x1x512x2816_5_1_0_0).toLoadRect f51 = gBlk c XG e 1 5 := g_read c XG e 1 5 _ f51 p51
  have s60 : View.readAt (Elt F) arg3.view (Rect.unit (s := S8x7168) (k0_off73 (BitVec.ofNat 32 e.val)) S1x512.size (k0_off73_inb (BitVec.ofNat 32 e.val) h3)).toLoadRect fsg = sgBlk c arg3 fsg e 0 6 := sg_read c arg3 fsg e 0 6 _ _ (off73_at e)
  have g60 : View.readAt (Elt F) guM.view (Rect.unit (s := S7x2x512x2816) ![6, 0, 0, 0] S1x1x512x2816.size inb_S7x2x512x2816_S1x1x512x2816_6_0_0_0).toLoadRect f60 = gBlk c XG e 0 6 := g_read c XG e 0 6 _ f60 p60
  have s61 : View.readAt (Elt F) arg3.view (Rect.unit (s := S8x7168) (k0_off74 (BitVec.ofNat 32 e.val)) S1x512.size (k0_off74_inb (BitVec.ofNat 32 e.val) h3)).toLoadRect fsg = sgBlk c arg3 fsg e 1 6 := sg_read c arg3 fsg e 1 6 _ _ (off74_at e)
  have g61 : View.readAt (Elt F) guM.view (Rect.unit (s := S7x2x512x2816) ![6, 1, 0, 0] S1x1x512x2816.size inb_S7x2x512x2816_S1x1x512x2816_6_1_0_0).toLoadRect f61 = gBlk c XG e 1 6 := g_read c XG e 1 6 _ f61 p61
  rw [s00, g00, s01, g01, s10, g10, s11, g11, s20, g20, s21, g21, s30, g30, s31, g31, s40, g40, s41, g41, s50, g50, s51, g51, s60, g60, s61, g61]
  exact h_cov (fun j => k0_pay9 (sgBlk c arg3 fsg e 0 j) (xV c arg2 fx) (gBlk c XG e 0 j) (sgBlk c arg3 fsg e 1 j) (xV c arg2 fx) (gBlk c XG e 1 j))

set_option maxHeartbeats 4000000 in
/-- The accumulator a trip leaves, from the slots it finds landed and the intermediate. -/
theorem trip_acc (v0 : IVec S128x128 32) (e : Fin 8) (w : BitVec 32) (hw : w = BitVec.ofNat 32 e.val) (h3 : k0_chk3 w)
    (hh : Vec F S128x3584 .bf16) (hhe : hh = hAll c XG arg2 arg3 fx fsg e)
    (d0 d1 d2 d3 d4 d5 d6 d7 d8 d9 d10 : Buf (Elt F) (dnM.view.loc (c : Thread nD τ)))
    (q0 : DLanded c XD e.val 0 inb_S11x256x3584_S1x256x3584_0_0_0 d0)
    (q1 : DLanded c XD e.val 1 inb_S11x256x3584_S1x256x3584_1_0_0 d1)
    (q2 : DLanded c XD e.val 2 inb_S11x256x3584_S1x256x3584_2_0_0 d2)
    (q3 : DLanded c XD e.val 3 inb_S11x256x3584_S1x256x3584_3_0_0 d3)
    (q4 : DLanded c XD e.val 4 inb_S11x256x3584_S1x256x3584_4_0_0 d4)
    (q5 : DLanded c XD e.val 5 inb_S11x256x3584_S1x256x3584_5_0_0 d5)
    (q6 : DLanded c XD e.val 6 inb_S11x256x3584_S1x256x3584_6_0_0 d6)
    (q7 : DLanded c XD e.val 7 inb_S11x256x3584_S1x256x3584_7_0_0 d7)
    (q8 : DLanded c XD e.val 8 inb_S11x256x3584_S1x256x3584_8_0_0 d8)
    (q9 : DLanded c XD e.val 9 inb_S11x256x3584_S1x256x3584_9_0_0 d9)
    (q10 : DLanded c XD e.val 10 inb_S11x256x3584_S1x256x3584_10_0_0 d10)
    (fa : Buf (Elt F) (accM.view.loc (c : Thread nD τ))) :
    accM.view.read (Elt F) (accM.view.writes (Elt F) fa [⟨Rect.unit (s := S128x2816) ![0, 2560] S128x256.size inb_S128x2816_S128x256_0_2560, k0_pay25 (wgt v0 (cmb0 c fc) w) (hits v0 (cmb1 c fc) w) hh (View.readAt (Elt F) dnM.view (Rect.unit (s := S11x256x3584) ![10, 0, 0] S1x256x3584.size inb_S11x256x3584_S1x256x3584_10_0_0).toLoadRect d10) (View.readAt (Elt F) arg4.view (Rect.unit (s := S8x2816) (k0_off108 w) S1x256.size (k0_off108_inb w h3)).toLoadRect fsd) (View.readAt (Elt F) accM.view (Rect.unit (s := S128x2816) ![0, 2560] S128x256.size inb_S128x2816_S128x256_0_2560).toLoadRect fa)⟩,
      ⟨Rect.unit (s := S128x2816) ![0, 2304] S128x256.size inb_S128x2816_S128x256_0_2304, k0_pay25 (wgt v0 (cmb0 c fc) w) (hits v0 (cmb1 c fc) w) hh (View.readAt (Elt F) dnM.view (Rect.unit (s := S11x256x3584) ![9, 0, 0] S1x256x3584.size inb_S11x256x3584_S1x256x3584_9_0_0).toLoadRect d9) (View.readAt (Elt F) arg4.view (Rect.unit (s := S8x2816) (k0_off105 w) S1x256.size (k0_off105_inb w h3)).toLoadRect fsd) (View.readAt (Elt F) accM.view (Rect.unit (s := S128x2816) ![0, 2304] S128x256.size inb_S128x2816_S128x256_0_2304).toLoadRect fa)⟩,
      ⟨Rect.unit (s := S128x2816) ![0, 2048] S128x256.size inb_S128x2816_S128x256_0_2048, k0_pay25 (wgt v0 (cmb0 c fc) w) (hits v0 (cmb1 c fc) w) hh (View.readAt (Elt F) dnM.view (Rect.unit (s := S11x256x3584) ![8, 0, 0] S1x256x3584.size inb_S11x256x3584_S1x256x3584_8_0_0).toLoadRect d8) (View.readAt (Elt F) arg4.view (Rect.unit (s := S8x2816) (k0_off102 w) S1x256.size (k0_off102_inb w h3)).toLoadRect fsd) (View.readAt (Elt F) accM.view (Rect.unit (s := S128x2816) ![0, 2048] S128x256.size inb_S128x2816_S128x256_0_2048).toLoadRect fa)⟩,
      ⟨Rect.unit (s := S128x2816) ![0, 1792] S128x256.size inb_S128x2816_S128x256_0_1792, k0_pay25 (wgt v0 (cmb0 c fc) w) (hits v0 (cmb1 c fc) w) hh (View.readAt (Elt F) dnM.view (Rect.unit (s := S11x256x3584) ![7, 0, 0] S1x256x3584.size inb_S11x256x3584_S1x256x3584_7_0_0).toLoadRect d7) (View.readAt (Elt F) arg4.view (Rect.unit (s := S8x2816) (k0_off99 w) S1x256.size (k0_off99_inb w h3)).toLoadRect fsd) (View.readAt (Elt F) accM.view (Rect.unit (s := S128x2816) ![0, 1792] S128x256.size inb_S128x2816_S128x256_0_1792).toLoadRect fa)⟩,
      ⟨Rect.unit (s := S128x2816) ![0, 1536] S128x256.size inb_S128x2816_S128x256_0_1536, k0_pay25 (wgt v0 (cmb0 c fc) w) (hits v0 (cmb1 c fc) w) hh (View.readAt (Elt F) dnM.view (Rect.unit (s := S11x256x3584) ![6, 0, 0] S1x256x3584.size inb_S11x256x3584_S1x256x3584_6_0_0).toLoadRect d6) (View.readAt (Elt F) arg4.view (Rect.unit (s := S8x2816) (k0_off96 w) S1x256.size (k0_off96_inb w h3)).toLoadRect fsd) (View.readAt (Elt F) accM.view (Rect.unit (s := S128x2816) ![0, 1536] S128x256.size inb_S128x2816_S128x256_0_1536).toLoadRect fa)⟩,
      ⟨Rect.unit (s := S128x2816) ![0, 1280] S128x256.size inb_S128x2816_S128x256_0_1280, k0_pay25 (wgt v0 (cmb0 c fc) w) (hits v0 (cmb1 c fc) w) hh (View.readAt (Elt F) dnM.view (Rect.unit (s := S11x256x3584) ![5, 0, 0] S1x256x3584.size inb_S11x256x3584_S1x256x3584_5_0_0).toLoadRect d5) (View.readAt (Elt F) arg4.view (Rect.unit (s := S8x2816) (k0_off93 w) S1x256.size (k0_off93_inb w h3)).toLoadRect fsd) (View.readAt (Elt F) accM.view (Rect.unit (s := S128x2816) ![0, 1280] S128x256.size inb_S128x2816_S128x256_0_1280).toLoadRect fa)⟩,
      ⟨Rect.unit (s := S128x2816) ![0, 1024] S128x256.size inb_S128x2816_S128x256_0_1024, k0_pay25 (wgt v0 (cmb0 c fc) w) (hits v0 (cmb1 c fc) w) hh (View.readAt (Elt F) dnM.view (Rect.unit (s := S11x256x3584) ![4, 0, 0] S1x256x3584.size inb_S11x256x3584_S1x256x3584_4_0_0).toLoadRect d4) (View.readAt (Elt F) arg4.view (Rect.unit (s := S8x2816) (k0_off90 w) S1x256.size (k0_off90_inb w h3)).toLoadRect fsd) (View.readAt (Elt F) accM.view (Rect.unit (s := S128x2816) ![0, 1024] S128x256.size inb_S128x2816_S128x256_0_1024).toLoadRect fa)⟩,
      ⟨Rect.unit (s := S128x2816) ![0, 768] S128x256.size inb_S128x2816_S128x256_0_768, k0_pay25 (wgt v0 (cmb0 c fc) w) (hits v0 (cmb1 c fc) w) hh (View.readAt (Elt F) dnM.view (Rect.unit (s := S11x256x3584) ![3, 0, 0] S1x256x3584.size inb_S11x256x3584_S1x256x3584_3_0_0).toLoadRect d3) (View.readAt (Elt F) arg4.view (Rect.unit (s := S8x2816) (k0_off87 w) S1x256.size (k0_off87_inb w h3)).toLoadRect fsd) (View.readAt (Elt F) accM.view (Rect.unit (s := S128x2816) ![0, 768] S128x256.size inb_S128x2816_S128x256_0_768).toLoadRect fa)⟩,
      ⟨Rect.unit (s := S128x2816) ![0, 512] S128x256.size inb_S128x2816_S128x256_0_512, k0_pay25 (wgt v0 (cmb0 c fc) w) (hits v0 (cmb1 c fc) w) hh (View.readAt (Elt F) dnM.view (Rect.unit (s := S11x256x3584) ![2, 0, 0] S1x256x3584.size inb_S11x256x3584_S1x256x3584_2_0_0).toLoadRect d2) (View.readAt (Elt F) arg4.view (Rect.unit (s := S8x2816) (k0_off84 w) S1x256.size (k0_off84_inb w h3)).toLoadRect fsd) (View.readAt (Elt F) accM.view (Rect.unit (s := S128x2816) ![0, 512] S128x256.size inb_S128x2816_S128x256_0_512).toLoadRect fa)⟩,
      ⟨Rect.unit (s := S128x2816) ![0, 256] S128x256.size inb_S128x2816_S128x256_0_256, k0_pay25 (wgt v0 (cmb0 c fc) w) (hits v0 (cmb1 c fc) w) hh (View.readAt (Elt F) dnM.view (Rect.unit (s := S11x256x3584) ![1, 0, 0] S1x256x3584.size inb_S11x256x3584_S1x256x3584_1_0_0).toLoadRect d1) (View.readAt (Elt F) arg4.view (Rect.unit (s := S8x2816) (k0_off81 w) S1x256.size (k0_off81_inb w h3)).toLoadRect fsd) (View.readAt (Elt F) accM.view (Rect.unit (s := S128x2816) ![0, 256] S128x256.size inb_S128x2816_S128x256_0_256).toLoadRect fa)⟩,
      ⟨Rect.unit (s := S128x2816) ![0, 0] S128x256.size inb_S128x2816_S128x256_0_0, k0_pay25 (wgt v0 (cmb0 c fc) w) (hits v0 (cmb1 c fc) w) hh (View.readAt (Elt F) dnM.view (Rect.unit (s := S11x256x3584) ![0, 0, 0] S1x256x3584.size inb_S11x256x3584_S1x256x3584_0_0_0).toLoadRect d0) (View.readAt (Elt F) arg4.view (Rect.unit (s := S8x2816) (k0_off78 w) S1x256.size (k0_off78_inb w h3)).toLoadRect fsd) (View.readAt (Elt F) accM.view (Rect.unit (s := S128x2816) ![0, 0] S128x256.size inb_S128x2816_S128x256_0_0).toLoadRect fa)⟩])
      = accNext c XG XD arg2 arg3 arg4 fx fsg fsd (cmb0 c fc) (cmb1 c fc) v0 e (accM.view.read (Elt F) fa) := by
  subst hw hhe
  have s0 : View.readAt (Elt F) arg4.view (Rect.unit (s := S8x2816) (k0_off78 (BitVec.ofNat 32 e.val)) S1x256.size (k0_off78_inb (BitVec.ofNat 32 e.val) h3)).toLoadRect fsd = sdBlk c arg4 fsd e 0 := sd_read c arg4 fsd e 0 _ _ (off78_at e)
  have g0 : View.readAt (Elt F) dnM.view (Rect.unit (s := S11x256x3584) ![0, 0, 0] S1x256x3584.size inb_S11x256x3584_S1x256x3584_0_0_0).toLoadRect d0 = dBlk c XD e 0 := d_read c XD e 0 _ d0 q0
  have o0 : View.readAt (Elt F) accM.view (Rect.unit (s := S128x2816) ![0, 0] S128x256.size inb_S128x2816_S128x256_0_0).toLoadRect fa = oldBlk (accM.view.read (Elt F) fa) 0 := old_read c 0 _ fa
  have s1 : View.readAt (Elt F) arg4.view (Rect.unit (s := S8x2816) (k0_off81 (BitVec.ofNat 32 e.val)) S1x256.size (k0_off81_inb (BitVec.ofNat 32 e.val) h3)).toLoadRect fsd = sdBlk c arg4 fsd e 1 := sd_read c arg4 fsd e 1 _ _ (off81_at e)
  have g1 : View.readAt (Elt F) dnM.view (Rect.unit (s := S11x256x3584) ![1, 0, 0] S1x256x3584.size inb_S11x256x3584_S1x256x3584_1_0_0).toLoadRect d1 = dBlk c XD e 1 := d_read c XD e 1 _ d1 q1
  have o1 : View.readAt (Elt F) accM.view (Rect.unit (s := S128x2816) ![0, 256] S128x256.size inb_S128x2816_S128x256_0_256).toLoadRect fa = oldBlk (accM.view.read (Elt F) fa) 1 := old_read c 1 _ fa
  have s2 : View.readAt (Elt F) arg4.view (Rect.unit (s := S8x2816) (k0_off84 (BitVec.ofNat 32 e.val)) S1x256.size (k0_off84_inb (BitVec.ofNat 32 e.val) h3)).toLoadRect fsd = sdBlk c arg4 fsd e 2 := sd_read c arg4 fsd e 2 _ _ (off84_at e)
  have g2 : View.readAt (Elt F) dnM.view (Rect.unit (s := S11x256x3584) ![2, 0, 0] S1x256x3584.size inb_S11x256x3584_S1x256x3584_2_0_0).toLoadRect d2 = dBlk c XD e 2 := d_read c XD e 2 _ d2 q2
  have o2 : View.readAt (Elt F) accM.view (Rect.unit (s := S128x2816) ![0, 512] S128x256.size inb_S128x2816_S128x256_0_512).toLoadRect fa = oldBlk (accM.view.read (Elt F) fa) 2 := old_read c 2 _ fa
  have s3 : View.readAt (Elt F) arg4.view (Rect.unit (s := S8x2816) (k0_off87 (BitVec.ofNat 32 e.val)) S1x256.size (k0_off87_inb (BitVec.ofNat 32 e.val) h3)).toLoadRect fsd = sdBlk c arg4 fsd e 3 := sd_read c arg4 fsd e 3 _ _ (off87_at e)
  have g3 : View.readAt (Elt F) dnM.view (Rect.unit (s := S11x256x3584) ![3, 0, 0] S1x256x3584.size inb_S11x256x3584_S1x256x3584_3_0_0).toLoadRect d3 = dBlk c XD e 3 := d_read c XD e 3 _ d3 q3
  have o3 : View.readAt (Elt F) accM.view (Rect.unit (s := S128x2816) ![0, 768] S128x256.size inb_S128x2816_S128x256_0_768).toLoadRect fa = oldBlk (accM.view.read (Elt F) fa) 3 := old_read c 3 _ fa
  have s4 : View.readAt (Elt F) arg4.view (Rect.unit (s := S8x2816) (k0_off90 (BitVec.ofNat 32 e.val)) S1x256.size (k0_off90_inb (BitVec.ofNat 32 e.val) h3)).toLoadRect fsd = sdBlk c arg4 fsd e 4 := sd_read c arg4 fsd e 4 _ _ (off90_at e)
  have g4 : View.readAt (Elt F) dnM.view (Rect.unit (s := S11x256x3584) ![4, 0, 0] S1x256x3584.size inb_S11x256x3584_S1x256x3584_4_0_0).toLoadRect d4 = dBlk c XD e 4 := d_read c XD e 4 _ d4 q4
  have o4 : View.readAt (Elt F) accM.view (Rect.unit (s := S128x2816) ![0, 1024] S128x256.size inb_S128x2816_S128x256_0_1024).toLoadRect fa = oldBlk (accM.view.read (Elt F) fa) 4 := old_read c 4 _ fa
  have s5 : View.readAt (Elt F) arg4.view (Rect.unit (s := S8x2816) (k0_off93 (BitVec.ofNat 32 e.val)) S1x256.size (k0_off93_inb (BitVec.ofNat 32 e.val) h3)).toLoadRect fsd = sdBlk c arg4 fsd e 5 := sd_read c arg4 fsd e 5 _ _ (off93_at e)
  have g5 : View.readAt (Elt F) dnM.view (Rect.unit (s := S11x256x3584) ![5, 0, 0] S1x256x3584.size inb_S11x256x3584_S1x256x3584_5_0_0).toLoadRect d5 = dBlk c XD e 5 := d_read c XD e 5 _ d5 q5
  have o5 : View.readAt (Elt F) accM.view (Rect.unit (s := S128x2816) ![0, 1280] S128x256.size inb_S128x2816_S128x256_0_1280).toLoadRect fa = oldBlk (accM.view.read (Elt F) fa) 5 := old_read c 5 _ fa
  have s6 : View.readAt (Elt F) arg4.view (Rect.unit (s := S8x2816) (k0_off96 (BitVec.ofNat 32 e.val)) S1x256.size (k0_off96_inb (BitVec.ofNat 32 e.val) h3)).toLoadRect fsd = sdBlk c arg4 fsd e 6 := sd_read c arg4 fsd e 6 _ _ (off96_at e)
  have g6 : View.readAt (Elt F) dnM.view (Rect.unit (s := S11x256x3584) ![6, 0, 0] S1x256x3584.size inb_S11x256x3584_S1x256x3584_6_0_0).toLoadRect d6 = dBlk c XD e 6 := d_read c XD e 6 _ d6 q6
  have o6 : View.readAt (Elt F) accM.view (Rect.unit (s := S128x2816) ![0, 1536] S128x256.size inb_S128x2816_S128x256_0_1536).toLoadRect fa = oldBlk (accM.view.read (Elt F) fa) 6 := old_read c 6 _ fa
  have s7 : View.readAt (Elt F) arg4.view (Rect.unit (s := S8x2816) (k0_off99 (BitVec.ofNat 32 e.val)) S1x256.size (k0_off99_inb (BitVec.ofNat 32 e.val) h3)).toLoadRect fsd = sdBlk c arg4 fsd e 7 := sd_read c arg4 fsd e 7 _ _ (off99_at e)
  have g7 : View.readAt (Elt F) dnM.view (Rect.unit (s := S11x256x3584) ![7, 0, 0] S1x256x3584.size inb_S11x256x3584_S1x256x3584_7_0_0).toLoadRect d7 = dBlk c XD e 7 := d_read c XD e 7 _ d7 q7
  have o7 : View.readAt (Elt F) accM.view (Rect.unit (s := S128x2816) ![0, 1792] S128x256.size inb_S128x2816_S128x256_0_1792).toLoadRect fa = oldBlk (accM.view.read (Elt F) fa) 7 := old_read c 7 _ fa
  have s8 : View.readAt (Elt F) arg4.view (Rect.unit (s := S8x2816) (k0_off102 (BitVec.ofNat 32 e.val)) S1x256.size (k0_off102_inb (BitVec.ofNat 32 e.val) h3)).toLoadRect fsd = sdBlk c arg4 fsd e 8 := sd_read c arg4 fsd e 8 _ _ (off102_at e)
  have g8 : View.readAt (Elt F) dnM.view (Rect.unit (s := S11x256x3584) ![8, 0, 0] S1x256x3584.size inb_S11x256x3584_S1x256x3584_8_0_0).toLoadRect d8 = dBlk c XD e 8 := d_read c XD e 8 _ d8 q8
  have o8 : View.readAt (Elt F) accM.view (Rect.unit (s := S128x2816) ![0, 2048] S128x256.size inb_S128x2816_S128x256_0_2048).toLoadRect fa = oldBlk (accM.view.read (Elt F) fa) 8 := old_read c 8 _ fa
  have s9 : View.readAt (Elt F) arg4.view (Rect.unit (s := S8x2816) (k0_off105 (BitVec.ofNat 32 e.val)) S1x256.size (k0_off105_inb (BitVec.ofNat 32 e.val) h3)).toLoadRect fsd = sdBlk c arg4 fsd e 9 := sd_read c arg4 fsd e 9 _ _ (off105_at e)
  have g9 : View.readAt (Elt F) dnM.view (Rect.unit (s := S11x256x3584) ![9, 0, 0] S1x256x3584.size inb_S11x256x3584_S1x256x3584_9_0_0).toLoadRect d9 = dBlk c XD e 9 := d_read c XD e 9 _ d9 q9
  have o9 : View.readAt (Elt F) accM.view (Rect.unit (s := S128x2816) ![0, 2304] S128x256.size inb_S128x2816_S128x256_0_2304).toLoadRect fa = oldBlk (accM.view.read (Elt F) fa) 9 := old_read c 9 _ fa
  have s10 : View.readAt (Elt F) arg4.view (Rect.unit (s := S8x2816) (k0_off108 (BitVec.ofNat 32 e.val)) S1x256.size (k0_off108_inb (BitVec.ofNat 32 e.val) h3)).toLoadRect fsd = sdBlk c arg4 fsd e 10 := sd_read c arg4 fsd e 10 _ _ (off108_at e)
  have g10 : View.readAt (Elt F) dnM.view (Rect.unit (s := S11x256x3584) ![10, 0, 0] S1x256x3584.size inb_S11x256x3584_S1x256x3584_10_0_0).toLoadRect d10 = dBlk c XD e 10 := d_read c XD e 10 _ d10 q10
  have o10 : View.readAt (Elt F) accM.view (Rect.unit (s := S128x2816) ![0, 2560] S128x256.size inb_S128x2816_S128x256_0_2560).toLoadRect fa = oldBlk (accM.view.read (Elt F) fa) 10 := old_read c 10 _ fa
  rw [s0, g0, o0, s1, g1, o1, s2, g2, o2, s3, g3, o3, s4, g4, o4, s5, g5, o5, s6, g6, o6, s7, g7, o7, s8, g8, o8, s9, g9, o9, s10, g10, o10]
  funext y
  exact acc_tiles fa (fun j => k0_pay25 (wgt v0 (cmb0 c fc) (BitVec.ofNat 32 e.val)) (hits v0 (cmb1 c fc) (BitVec.ofNat 32 e.val)) (hAll c XG arg2 arg3 fx fsg e) (dBlk c XD e j) (sdBlk c arg4 fsd e j) (oldBlk (accM.view.read (Elt F) fa) j)) y

end Trip
end Cert.Proof.Run
end
-- ==== Proof.TripNext.lean ====
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Transfers
public import Idealize.ShloMosaic.Lib.Pipeline.KitQuiescent
public import Idealize.ShloMosaic.Lib.Tactic
public import proofs.«01_k».proof.Proof.Slots
public import proofs.«01_k».proof.Proof.Words
public import proofs.«01_k».proof.Proof.TripValue

@[expose] public section

set_option maxRecDepth 16384

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD)
  (XG : Buf (Elt F) (wguM.view.loc (c : Thread nD τ))) (XD : Buf (Elt F) (wdnM.view.loc (c : Thread nD τ)))
  (arg0 : Memref sig .tc .vmem S128x2 .i32) (harg0 : arg0.IsWhole) (arg1 : Memref sig .tc .vmem S128x2 .f32) (harg1 : arg1.IsWhole) (arg2 : Memref sig .tc .vmem S128x2816 .bf16) (harg2 : arg2.IsWhole) (arg3 : Memref sig .tc .vmem S8x7168 .f32) (harg3 : arg3.IsWhole) (arg4 : Memref sig .tc .vmem S8x2816 .f32) (harg4 : arg4.IsWhole) (arg7 : Memref sig .tc .vmem S128x2816 .bf16) (harg7 : arg7.IsWhole)

set_option maxHeartbeats 0 in
/-- A trip that is not the last: the 25 fetches in flight land, their slots are read and the next expert's fetches started. -/
theorem trip_next (v0 v50) (hw1 : k0_chk1 v50) (v89 : BitVec 32) (k) (a)
    (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ))) (fl : Buf (Elt F) (listM.view.loc (c : Thread nD τ)))
    (hc1 : k0_cond1 v50 k = 1#1) (hc2 : k0_cond2 v50 k = 1#1) (hc3 : k0_cond3 v50 k = 1#1) (hc4 : k0_cond4 v50 k = 1#1) (hc5 : k0_cond5 v50 k = 1#1) (hc6 : k0_cond6 v50 k = 1#1) (hc7 : k0_cond7 v50 k = 1#1) (hc8 : k0_cond8 v50 k = 1#1) (hc9 : k0_cond9 v50 k = 1#1) (hc10 : k0_cond10 v50 k = 1#1) (hc11 : k0_cond11 v50 k = 1#1) (hc12 : k0_cond12 v50 k = 1#1) (hc13 : k0_cond13 v50 k = 1#1) (hc14 : k0_cond14 v50 k = 1#1) (hc15 : k0_cond15 v50 k = 1#1) (hc16 : k0_cond16 v50 k = 1#1) (hc17 : k0_cond17 v50 k = 1#1) (hc18 : k0_cond18 v50 k = 1#1)
    (hk3 : ∀ w, w = View.readAt (Elt F) listM.view (Rect.unit (s := S8) (k0_off33 v50 k) S1.size (k0_off33_inb v50 hw1 k)).toLoadRect fl (Shape.Idx.first (s := S1) (by decide)) → k0_chk3 w)
    (hk4 : ∀ w, w = View.readAt (Elt F) listM.view (Rect.unit (s := S8) (k0_off34 v50 k) S1.size (k0_off34_inb v50 hw1 k)).toLoadRect fl (Shape.Idx.first (s := S1) (by decide)) → k0_chk4 v50 k w)
    (e e' : Fin 8) (hr : View.readAt (Elt F) listM.view (Rect.unit (s := S8) (k0_off33 v50 k) S1.size (k0_off33_inb v50 hw1 k)).toLoadRect fl (Shape.Idx.first (s := S1) (by decide)) = BitVec.ofNat 32 e.val) (hn : View.readAt (Elt F) listM.view (Rect.unit (s := S8) (k0_off34 v50 k) S1.size (k0_off34_inb v50 hw1 k)).toLoadRect fl (Shape.Idx.first (s := S1) (by decide)) = BitVec.ofNat 32 e'.val) (P P' : Buf (Elt F) (accM.view.loc (c : Thread nD τ)) → Prop) (hP : ∀ f f' : Buf (Elt F) (accM.view.loc (c : Thread nD τ)), P f → accM.view.read (Elt F) f' = accNext c XG XD arg2 arg3 arg4 fx fsg fsd (cmb0 c fc) (cmb1 c fc) v0 e (accM.view.read (Elt F) f) → P' f') :
    (iprop(Fly c XG XD e.val ∗ Base c arg2 arg3 arg4 fx fsg fsd fc fl P) : sProp 𝕄) ⊢
      wp frame (wpE (defs₀ (F := F)) 𝒱₀ (c : Thread nD τ) none) Set.univ (k0_t1_body (F := F) arg0 harg0 arg1 harg1 arg2 harg2 arg3 harg3 arg4 harg4 wguM (Memref.isWhole_whole _) wdnM (Memref.isWhole_whole _) arg7 harg7 guM (Memref.isWhole_whole _) dnM (Memref.isWhole_whole _) hM (Memref.isWhole_whole _) accM (Memref.isWhole_whole _) combM (Memref.isWhole_whole _) listM (Memref.isWhole_whole _) cc0_scratch6 cc0_scratch7 v0 v50 hw1 v89 k a)
        (fun _ => iprop(Fly c XG XD e'.val ∗ Base c arg2 arg3 arg4 fx fsg fsd fc fl P')) := by
  unfold Fly Base gFly dFly
  iintro ⟨⟨⟨%S00, %f00, %p00, HF00, HR00⟩, ⟨%S01, %f01, %p01, HF01, HR01⟩, ⟨%S10, %f10, %p10, HF10, HR10⟩, ⟨%S11, %f11, %p11, HF11, HR11⟩, ⟨%S20, %f20, %p20, HF20, HR20⟩, ⟨%S21, %f21, %p21, HF21, HR21⟩, ⟨%S30, %f30, %p30, HF30, HR30⟩, ⟨%S31, %f31, %p31, HF31, HR31⟩, ⟨%S40, %f40, %p40, HF40, HR40⟩, ⟨%S41, %f41, %p41, HF41, HR41⟩, ⟨%S50, %f50, %p50, HF50, HR50⟩, ⟨%S51, %f51, %p51, HF51, HR51⟩, ⟨%S60, %f60, %p60, HF60, HR60⟩, ⟨%S61, %f61, %p61, HF61, HR61⟩, ⟨%T0, %d0, %q0, HE0, HQ0⟩, ⟨%T1, %d1, %q1, HE1, HQ1⟩, ⟨%T2, %d2, %q2, HE2, HQ2⟩, ⟨%T3, %d3, %q3, HE3, HQ3⟩, ⟨%T4, %d4, %q4, HE4, HQ4⟩, ⟨%T5, %d5, %q5, HE5, HQ5⟩, ⟨%T6, %d6, %q6, HE6, HQ6⟩, ⟨%T7, %d7, %q7, HE7, HQ7⟩, ⟨%T8, %d8, %q8, HE8, HQ8⟩, ⟨%T9, %d9, %q9, HE9, HQ9⟩, ⟨%T10, %d10, %q10, HE10, HQ10⟩⟩, Hx, Hsg, Hsd, Hcm, Hl, ⟨%fh, Hh⟩, ⟨%fa, %pa, Ha⟩, ⟨%W, HW⟩⟩
  unfold k0_t1_body
  sl_exec (disch := first | ((with_reducible refine hk3 _ ?_); rfl) | ((with_reducible refine hk4 _ ?_); rfl))
  sl_step
  isplitr [Hx Hsg Hsd Hcm Hl Hh Ha HW]
  · isplitl [HF00 HR00]
    · iexists _, _; isplitr; swap
      · isplitl [HF00]; · iexact HF00
        iexact HR00
      ipureintro; exact g_landed c XG e'.val 0 0 _ _ _ ((congrArg k0_off39 hn).trans (off39_at e')) _ _ _
    isplitl [HF01 HR01]
    · iexists _, _; isplitr; swap
      · isplitl [HF01]; · iexact HF01
        iexact HR01
      ipureintro; exact g_landed c XG e'.val 0 1 _ _ _ ((congrArg k0_off40 hn).trans (off40_at e')) _ _ _
    isplitl [HF10 HR10]
    · iexists _, _; isplitr; swap
      · isplitl [HF10]; · iexact HF10
        iexact HR10
      ipureintro; exact g_landed c XG e'.val 1 0 _ _ _ ((congrArg k0_off45 hn).trans (off45_at e')) _ _ _
    isplitl [HF11 HR11]
    · iexists _, _; isplitr; swap
      · isplitl [HF11]; · iexact HF11
        iexact HR11
      ipureintro; exact g_landed c XG e'.val 1 1 _ _ _ ((congrArg k0_off46 hn).trans (off46_at e')) _ _ _
    isplitl [HF20 HR20]
    · iexists _, _; isplitr; swap
      · isplitl [HF20]; · iexact HF20
        iexact HR20
      ipureintro; exact g_landed c XG e'.val 2 0 _ _ _ ((congrArg k0_off51 hn).trans (off51_at e')) _ _ _
    isplitl [HF21 HR21]
    · iexists _, _; isplitr; swap
      · isplitl [HF21]; · iexact HF21
        iexact HR21
      ipureintro; exact g_landed c XG e'.val 2 1 _ _ _ ((congrArg k0_off52 hn).trans (off52_at e')) _ _ _
    isplitl [HF30 HR30]
    · iexists _, _; isplitr; swap
      · isplitl [HF30]; · iexact HF30
        iexact HR30
      ipureintro; exact g_landed c XG e'.val 3 0 _ _ _ ((congrArg k0_off57 hn).trans (off57_at e')) _ _ _
    isplitl [HF31 HR31]
    · iexists _, _; isplitr; swap
      · isplitl [HF31]; · iexact HF31
        iexact HR31
      ipureintro; exact g_landed c XG e'.val 3 1 _ _ _ ((congrArg k0_off58 hn).trans (off58_at e')) _ _ _
    isplitl [HF40 HR40]
    · iexists _, _; isplitr; swap
      · isplitl [HF40]; · iexact HF40
        iexact HR40
      ipureintro; exact g_landed c XG e'.val 4 0 _ _ _ ((congrArg k0_off63 hn).trans (off63_at e')) _ _ _
    isplitl [HF41 HR41]
    · iexists _, _; isplitr; swap
      · isplitl [HF41]; · iexact HF41
        iexact HR41
      ipureintro; exact g_landed c XG e'.val 4 1 _ _ _ ((congrArg k0_off64 hn).trans (off64_at e')) _ _ _
    isplitl [HF50 HR50]
    · iexists _, _; isplitr; swap
      · isplitl [HF50]; · iexact HF50
        iexact HR50
      ipureintro; exact g_landed c XG e'.val 5 0 _ _ _ ((congrArg k0_off69 hn).trans (off69_at e')) _ _ _
    isplitl [HF51 HR51]
    · iexists _, _; isplitr; swap
      · isplitl [HF51]; · iexact HF51
        iexact HR51
      ipureintro; exact g_landed c XG e'.val 5 1 _ _ _ ((congrArg k0_off70 hn).trans (off70_at e')) _ _ _
    isplitl [HF60 HR60]
    · iexists _, _; isplitr; swap
      · isplitl [HF60]; · iexact HF60
        iexact HR60
      ipureintro; exact g_landed c XG e'.val 6 0 _ _ _ ((congrArg k0_off75 hn).trans (off75_at e')) _ _ _
    isplitl [HF61 HR61]
    · iexists _, _; isplitr; swap
      · isplitl [HF61]; · iexact HF61
        iexact HR61
      ipureintro; exact g_landed c XG e'.val 6 1 _ _ _ ((congrArg k0_off76 hn).trans (off76_at e')) _ _ _
    isplitl [HE0 HQ0]
    · iexists _, _; isplitr; swap
      · isplitl [HE0]; · iexact HE0
        iexact HQ0
      ipureintro; exact d_landed c XD e'.val 0 _ _ _ ((congrArg k0_off79 hn).trans (off79_at e')) _ _ _
    isplitl [HE1 HQ1]
    · iexists _, _; isplitr; swap
      · isplitl [HE1]; · iexact HE1
        iexact HQ1
      ipureintro; exact d_landed c XD e'.val 1 _ _ _ ((congrArg k0_off82 hn).trans (off82_at e')) _ _ _
    isplitl [HE2 HQ2]
    · iexists _, _; isplitr; swap
      · isplitl [HE2]; · iexact HE2
        iexact HQ2
      ipureintro; exact d_landed c XD e'.val 2 _ _ _ ((congrArg k0_off85 hn).trans (off85_at e')) _ _ _
    isplitl [HE3 HQ3]
    · iexists _, _; isplitr; swap
      · isplitl [HE3]; · iexact HE3
        iexact HQ3
      ipureintro; exact d_landed c XD e'.val 3 _ _ _ ((congrArg k0_off88 hn).trans (off88_at e')) _ _ _
    isplitl [HE4 HQ4]
    · iexists _, _; isplitr; swap
      · isplitl [HE4]; · iexact HE4
        iexact HQ4
      ipureintro; exact d_landed c XD e'.val 4 _ _ _ ((congrArg k0_off91 hn).trans (off91_at e')) _ _ _
    isplitl [HE5 HQ5]
    · iexists _, _; isplitr; swap
      · isplitl [HE5]; · iexact HE5
        iexact HQ5
      ipureintro; exact d_landed c XD e'.val 5 _ _ _ ((congrArg k0_off94 hn).trans (off94_at e')) _ _ _
    isplitl [HE6 HQ6]
    · iexists _, _; isplitr; swap
      · isplitl [HE6]; · iexact HE6
        iexact HQ6
      ipureintro; exact d_landed c XD e'.val 6 _ _ _ ((congrArg k0_off97 hn).trans (off97_at e')) _ _ _
    isplitl [HE7 HQ7]
    · iexists _, _; isplitr; swap
      · isplitl [HE7]; · iexact HE7
        iexact HQ7
      ipureintro; exact d_landed c XD e'.val 7 _ _ _ ((congrArg k0_off100 hn).trans (off100_at e')) _ _ _
    isplitl [HE8 HQ8]
    · iexists _, _; isplitr; swap
      · isplitl [HE8]; · iexact HE8
        iexact HQ8
      ipureintro; exact d_landed c XD e'.val 8 _ _ _ ((congrArg k0_off103 hn).trans (off103_at e')) _ _ _
    isplitl [HE9 HQ9]
    · iexists _, _; isplitr; swap
      · isplitl [HE9]; · iexact HE9
        iexact HQ9
      ipureintro; exact d_landed c XD e'.val 9 _ _ _ ((congrArg k0_off106 hn).trans (off106_at e')) _ _ _
    iexists _, _; isplitr; swap
    · isplitl [HE10]; · iexact HE10
      iexact HQ10
    ipureintro; exact d_landed c XD e'.val 10 _ _ _ ((congrArg k0_off109 hn).trans (off109_at e')) _ _ _
  isplitl [Hx]; · iexact Hx
  isplitl [Hsg]; · iexact Hsg
  isplitl [Hsd]; · iexact Hsd
  isplitl [Hcm]; · iexact Hcm
  isplitl [Hl]; · iexact Hl
  isplitl [Hh]; · iexists _; iexact Hh
  isplitl [Ha]
  · iexists _
    isplitr; swap; · iexact Ha
    ipureintro; exact hP fa _ pa (trip_acc c XG XD arg2 arg3 arg4 fx fsg fsd fc v0 e _ hr (hk3 _ rfl) _ (trip_h c XG arg2 arg3 fx fsg e _ hr (hk3 _ rfl) f00 f01 f10 f11 f20 f21 f30 f31 f40 f41 f50 f51 f60 f61 p00 p01 p10 p11 p20 p21 p30 p31 p40 p41 p50 p51 p60 p61) d0 d1 d2 d3 d4 d5 d6 d7 d8 d9 d10 q0 q1 q2 q3 q4 q5 q6 q7 q8 q9 q10 fa)
  iexists _; iexact HW

end Trip
end Cert.Proof.Run
end
-- ==== Proof.TripLast.lean ====
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Transfers
public import Idealize.ShloMosaic.Lib.Pipeline.KitQuiescent
public import Idealize.ShloMosaic.Lib.Tactic
public import proofs.«01_k».proof.Proof.Slots
public import proofs.«01_k».proof.Proof.Words
public import proofs.«01_k».proof.Proof.TripValue

@[expose] public section

set_option maxRecDepth 16384

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD)
  (XG : Buf (Elt F) (wguM.view.loc (c : Thread nD τ))) (XD : Buf (Elt F) (wdnM.view.loc (c : Thread nD τ)))
  (arg0 : Memref sig .tc .vmem S128x2 .i32) (harg0 : arg0.IsWhole) (arg1 : Memref sig .tc .vmem S128x2 .f32) (harg1 : arg1.IsWhole) (arg2 : Memref sig .tc .vmem S128x2816 .bf16) (harg2 : arg2.IsWhole) (arg3 : Memref sig .tc .vmem S8x7168 .f32) (harg3 : arg3.IsWhole) (arg4 : Memref sig .tc .vmem S8x2816 .f32) (harg4 : arg4.IsWhole) (arg7 : Memref sig .tc .vmem S128x2816 .bf16) (harg7 : arg7.IsWhole)

set_option maxHeartbeats 0 in
/-- The last trip: the 25 fetches land and none is started. -/
theorem trip_last (v0 v50) (hw1 : k0_chk1 v50) (v89 : BitVec 32) (k) (a)
    (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ))) (fl : Buf (Elt F) (listM.view.loc (c : Thread nD τ)))
    (hc1 : k0_cond1 v50 k ≠ 1#1) (hc2 : k0_cond2 v50 k ≠ 1#1) (hc3 : k0_cond3 v50 k ≠ 1#1) (hc4 : k0_cond4 v50 k ≠ 1#1) (hc5 : k0_cond5 v50 k ≠ 1#1) (hc6 : k0_cond6 v50 k ≠ 1#1) (hc7 : k0_cond7 v50 k ≠ 1#1) (hc8 : k0_cond8 v50 k ≠ 1#1) (hc9 : k0_cond9 v50 k ≠ 1#1) (hc10 : k0_cond10 v50 k ≠ 1#1) (hc11 : k0_cond11 v50 k ≠ 1#1) (hc12 : k0_cond12 v50 k ≠ 1#1) (hc13 : k0_cond13 v50 k ≠ 1#1) (hc14 : k0_cond14 v50 k ≠ 1#1) (hc15 : k0_cond15 v50 k ≠ 1#1) (hc16 : k0_cond16 v50 k ≠ 1#1) (hc17 : k0_cond17 v50 k ≠ 1#1) (hc18 : k0_cond18 v50 k ≠ 1#1)
    (hk3 : ∀ w, w = View.readAt (Elt F) listM.view (Rect.unit (s := S8) (k0_off33 v50 k) S1.size (k0_off33_inb v50 hw1 k)).toLoadRect fl (Shape.Idx.first (s := S1) (by decide)) → k0_chk3 w)
    (hk4 : ∀ w, w = View.readAt (Elt F) listM.view (Rect.unit (s := S8) (k0_off34 v50 k) S1.size (k0_off34_inb v50 hw1 k)).toLoadRect fl (Shape.Idx.first (s := S1) (by decide)) → k0_chk4 v50 k w)
    (e e' : Fin 8) (hr : View.readAt (Elt F) listM.view (Rect.unit (s := S8) (k0_off33 v50 k) S1.size (k0_off33_inb v50 hw1 k)).toLoadRect fl (Shape.Idx.first (s := S1) (by decide)) = BitVec.ofNat 32 e.val) (hn : View.readAt (Elt F) listM.view (Rect.unit (s := S8) (k0_off34 v50 k) S1.size (k0_off34_inb v50 hw1 k)).toLoadRect fl (Shape.Idx.first (s := S1) (by decide)) = BitVec.ofNat 32 e'.val) (P P' : Buf (Elt F) (accM.view.loc (c : Thread nD τ)) → Prop) (hP : ∀ f f' : Buf (Elt F) (accM.view.loc (c : Thread nD τ)), P f → accM.view.read (Elt F) f' = accNext c XG XD arg2 arg3 arg4 fx fsg fsd (cmb0 c fc) (cmb1 c fc) v0 e (accM.view.read (Elt F) f) → P' f') :
    (iprop(Fly c XG XD e.val ∗ Base c arg2 arg3 arg4 fx fsg fsd fc fl P) : sProp 𝕄) ⊢
      wp frame (wpE (defs₀ (F := F)) 𝒱₀ (c : Thread nD τ) none) Set.univ (k0_t1_body (F := F) arg0 harg0 arg1 harg1 arg2 harg2 arg3 harg3 arg4 harg4 wguM (Memref.isWhole_whole _) wdnM (Memref.isWhole_whole _) arg7 harg7 guM (Memref.isWhole_whole _) dnM (Memref.isWhole_whole _) hM (Memref.isWhole_whole _) accM (Memref.isWhole_whole _) combM (Memref.isWhole_whole _) listM (Memref.isWhole_whole _) cc0_scratch6 cc0_scratch7 v0 v50 hw1 v89 k a)
        (fun _ => iprop(Idle c XG XD ∗ Base c arg2 arg3 arg4 fx fsg fsd fc fl P')) := by
  unfold Fly Base gFly dFly Idle gIdle dIdle
  iintro ⟨⟨⟨%S00, %f00, %p00, HF00, HR00⟩, ⟨%S01, %f01, %p01, HF01, HR01⟩, ⟨%S10, %f10, %p10, HF10, HR10⟩, ⟨%S11, %f11, %p11, HF11, HR11⟩, ⟨%S20, %f20, %p20, HF20, HR20⟩, ⟨%S21, %f21, %p21, HF21, HR21⟩, ⟨%S30, %f30, %p30, HF30, HR30⟩, ⟨%S31, %f31, %p31, HF31, HR31⟩, ⟨%S40, %f40, %p40, HF40, HR40⟩, ⟨%S41, %f41, %p41, HF41, HR41⟩, ⟨%S50, %f50, %p50, HF50, HR50⟩, ⟨%S51, %f51, %p51, HF51, HR51⟩, ⟨%S60, %f60, %p60, HF60, HR60⟩, ⟨%S61, %f61, %p61, HF61, HR61⟩, ⟨%T0, %d0, %q0, HE0, HQ0⟩, ⟨%T1, %d1, %q1, HE1, HQ1⟩, ⟨%T2, %d2, %q2, HE2, HQ2⟩, ⟨%T3, %d3, %q3, HE3, HQ3⟩, ⟨%T4, %d4, %q4, HE4, HQ4⟩, ⟨%T5, %d5, %q5, HE5, HQ5⟩, ⟨%T6, %d6, %q6, HE6, HQ6⟩, ⟨%T7, %d7, %q7, HE7, HQ7⟩, ⟨%T8, %d8, %q8, HE8, HQ8⟩, ⟨%T9, %d9, %q9, HE9, HQ9⟩, ⟨%T10, %d10, %q10, HE10, HQ10⟩⟩, Hx, Hsg, Hsd, Hcm, Hl, ⟨%fh, Hh⟩, ⟨%fa, %pa, Ha⟩, ⟨%W, HW⟩⟩
  unfold k0_t1_body
  sl_exec (disch := first | ((with_reducible refine hk3 _ ?_); rfl) | ((with_reducible refine hk4 _ ?_); rfl))
  sl_step
  isplitr [Hx Hsg Hsd Hcm Hl Hh Ha HW]
  · isplitl [HF00 HF00_dst HR00]
    · iexists _; isplitl [HF00_dst]; · iexact HF00_dst
      isplitl [HF00]; · iexact HF00
      iexact HR00
    isplitl [HF01 HF01_dst HR01]
    · iexists _; isplitl [HF01_dst]; · iexact HF01_dst
      isplitl [HF01]; · iexact HF01
      iexact HR01
    isplitl [HF10 HF10_dst HR10]
    · iexists _; isplitl [HF10_dst]; · iexact HF10_dst
      isplitl [HF10]; · iexact HF10
      iexact HR10
    isplitl [HF11 HF11_dst HR11]
    · iexists _; isplitl [HF11_dst]; · iexact HF11_dst
      isplitl [HF11]; · iexact HF11
      iexact HR11
    isplitl [HF20 HF20_dst HR20]
    · iexists _; isplitl [HF20_dst]; · iexact HF20_dst
      isplitl [HF20]; · iexact HF20
      iexact HR20
    isplitl [HF21 HF21_dst HR21]
    · iexists _; isplitl [HF21_dst]; · iexact HF21_dst
      isplitl [HF21]; · iexact HF21
      iexact HR21
    isplitl [HF30 HF30_dst HR30]
    · iexists _; isplitl [HF30_dst]; · iexact HF30_dst
      isplitl [HF30]; · iexact HF30
      iexact HR30
    isplitl [HF31 HF31_dst HR31]
    · iexists _; isplitl [HF31_dst]; · iexact HF31_dst
      isplitl [HF31]; · iexact HF31
      iexact HR31
    isplitl [HF40 HF40_dst HR40]
    · iexists _; isplitl [HF40_dst]; · iexact HF40_dst
      isplitl [HF40]; · iexact HF40
      iexact HR40
    isplitl [HF41 HF41_dst HR41]
    · iexists _; isplitl [HF41_dst]; · iexact HF41_dst
      isplitl [HF41]; · iexact HF41
      iexact HR41
    isplitl [HF50 HF50_dst HR50]
    · iexists _; isplitl [HF50_dst]; · iexact HF50_dst
      isplitl [HF50]; · iexact HF50
      iexact HR50
    isplitl [HF51 HF51_dst HR51]
    · iexists _; isplitl [HF51_dst]; · iexact HF51_dst
      isplitl [HF51]; · iexact HF51
      iexact HR51
    isplitl [HF60 HF60_dst HR60]
    · iexists _; isplitl [HF60_dst]; · iexact HF60_dst
      isplitl [HF60]; · iexact HF60
      iexact HR60
    isplitl [HF61 HF61_dst HR61]
    · iexists _; isplitl [HF61_dst]; · iexact HF61_dst
      isplitl [HF61]; · iexact HF61
      iexact HR61
    isplitl [HE0 HE0_dst HQ0]
    · iexists _; isplitl [HE0_dst]; · iexact HE0_dst
      isplitl [HE0]; · iexact HE0
      iexact HQ0
    isplitl [HE1 HE1_dst HQ1]
    · iexists _; isplitl [HE1_dst]; · iexact HE1_dst
      isplitl [HE1]; · iexact HE1
      iexact HQ1
    isplitl [HE2 HE2_dst HQ2]
    · iexists _; isplitl [HE2_dst]; · iexact HE2_dst
      isplitl [HE2]; · iexact HE2
      iexact HQ2
    isplitl [HE3 HE3_dst HQ3]
    · iexists _; isplitl [HE3_dst]; · iexact HE3_dst
      isplitl [HE3]; · iexact HE3
      iexact HQ3
    isplitl [HE4 HE4_dst HQ4]
    · iexists _; isplitl [HE4_dst]; · iexact HE4_dst
      isplitl [HE4]; · iexact HE4
      iexact HQ4
    isplitl [HE5 HE5_dst HQ5]
    · iexists _; isplitl [HE5_dst]; · iexact HE5_dst
      isplitl [HE5]; · iexact HE5
      iexact HQ5
    isplitl [HE6 HE6_dst HQ6]
    · iexists _; isplitl [HE6_dst]; · iexact HE6_dst
      isplitl [HE6]; · iexact HE6
      iexact HQ6
    isplitl [HE7 HE7_dst HQ7]
    · iexists _; isplitl [HE7_dst]; · iexact HE7_dst
      isplitl [HE7]; · iexact HE7
      iexact HQ7
    isplitl [HE8 HE8_dst HQ8]
    · iexists _; isplitl [HE8_dst]; · iexact HE8_dst
      isplitl [HE8]; · iexact HE8
      iexact HQ8
    isplitl [HE9 HE9_dst HQ9]
    · iexists _; isplitl [HE9_dst]; · iexact HE9_dst
      isplitl [HE9]; · iexact HE9
      iexact HQ9
    iexists _; isplitl [HE10_dst]; · iexact HE10_dst
    isplitl [HE10]; · iexact HE10
    iexact HQ10
  isplitl [Hx]; · iexact Hx
  isplitl [Hsg]; · iexact Hsg
  isplitl [Hsd]; · iexact Hsd
  isplitl [Hcm]; · iexact Hcm
  isplitl [Hl]; · iexact Hl
  isplitl [Hh]; · iexists _; iexact Hh
  isplitl [Ha]
  · iexists _
    isplitr; swap; · iexact Ha
    ipureintro; exact hP fa _ pa (trip_acc c XG XD arg2 arg3 arg4 fx fsg fsd fc v0 e _ hr (hk3 _ rfl) _ (trip_h c XG arg2 arg3 fx fsg e _ hr (hk3 _ rfl) f00 f01 f10 f11 f20 f21 f30 f31 f40 f41 f50 f51 f60 f61 p00 p01 p10 p11 p20 p21 p30 p31 p40 p41 p50 p51 p60 p61) d0 d1 d2 d3 d4 d5 d6 d7 d8 d9 d10 q0 q1 q2 q3 q4 q5 q6 q7 q8 q9 q10 fa)
  iexists _; iexact HW

end Trip
end Cert.Proof.Run
end
-- ==== Proof.Body.lean ====
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Transfers
public import Idealize.ShloMosaic.Lib.Pipeline.KitQuiescent
public import Idealize.ShloMosaic.Lib.Tactic
public import proofs.«01_k».proof.Proof.TripNext
public import proofs.«01_k».proof.Proof.TripLast
public import proofs.«01_k».proof.Proof.MemberList

@[expose] public section

set_option maxRecDepth 16384

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Body
variable (c : Dev nD)
  (XG : Buf (Elt F) (wguM.view.loc (c : Thread nD τ))) (XD : Buf (Elt F) (wdnM.view.loc (c : Thread nD τ)))
  (arg0 : Memref sig .tc .vmem S128x2 .i32) (harg0 : arg0.IsWhole) (arg1 : Memref sig .tc .vmem S128x2 .f32) (harg1 : arg1.IsWhole) (arg2 : Memref sig .tc .vmem S128x2816 .bf16) (harg2 : arg2.IsWhole) (arg3 : Memref sig .tc .vmem S8x7168 .f32) (harg3 : arg3.IsWhole) (arg4 : Memref sig .tc .vmem S8x2816 .f32) (harg4 : arg4.IsWhole) (arg7 : Memref sig .tc .vmem S128x2816 .bf16) (harg7 : arg7.IsWhole)

/-- The accumulator after the first `k` members' trips, members in ascending order. -/
def accN (fx : Buf (Elt F) (arg2.view.loc (c : Thread nD τ))) (fsg : Buf (Elt F) (arg3.view.loc (c : Thread nD τ))) (fsd : Buf (Elt F) (arg4.view.loc (c : Thread nD τ))) (C0 C1 : Vec F S1x128x128 .f32) (v : BitVec 32) : ℕ → Vec F S128x2816 .f32
  | 0 => k0_pay78
  | k + 1 => accNext c XG XD arg2 arg3 arg4 fx fsg fsd C0 C1 (iota .tc S128x128 32 [1] iota_S128x128_d1_w32) ⟨sel v 8 k, sel8_lt v k⟩ (accN fx fsg fsd C0 C1 v k)

/-- The accumulator before trip `k`. -/
def AccAt (fx : Buf (Elt F) (arg2.view.loc (c : Thread nD τ))) (fsg : Buf (Elt F) (arg3.view.loc (c : Thread nD τ))) (fsd : Buf (Elt F) (arg4.view.loc (c : Thread nD τ))) (fc : Buf (Elt F) (combM.view.loc (c : Thread nD τ)))
    (v : BitVec 32) (k : ℕ) (fa : Buf (Elt F) (accM.view.loc (c : Thread nD τ))) : Prop :=
  accM.view.read (Elt F) fa = accN c XG XD arg2 arg3 arg4 fx fsg fsd (cmb0 c fc) (cmb1 c fc) v k

/-- Before trip `k`: the fetches of member `k` in flight (past the last trip, every slot at rest), and what a trip works on. -/
def inv (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ))) (fl : Buf (Elt F) (listM.view.loc (c : Thread nD τ)))
    (v : BitVec 32) (k : ℕ) : sProp 𝕄 :=
  iprop((if k < nOf v then Fly c XG XD (sel v 8 k) else Idle c XG XD)
    ∗ Base c arg2 arg3 arg4 fx fsg fsd fc fl (AccAt c XG XD arg2 arg3 arg4 fx fsg fsd fc v k))

/-- A counted loop at the head of a program, by an invariant. -/
theorem loop_bind {σ β : Type} (L : Scf.Loop 32) (hok : L.OK) (init : σ)
    (body : Fin L.trips → σ → Prog (TpuEff nD τ sig (Elt F) Λ₀ .tc) σ) (I : ℕ → sProp 𝕄)
    (hbody : ∀ k acc, I k.val ⊢ wp frame (wpE (defs₀ (F := F)) 𝒱₀ (c : Thread nD τ) none) Set.univ (body k acc) (fun _ => I (k.val + 1)))
    (kk : σ → Prog (TpuEff nD τ sig (Elt F) Λ₀ .tc) β) (Q : β → sProp 𝕄) :
    iprop(I 0 ∗ (∀ acc, I L.trips -∗ wp frame (wpE (defs₀ (F := F)) 𝒱₀ (c : Thread nD τ) none) Set.univ (kk acc) Q))
      ⊢ wp frame (wpE (defs₀ (F := F)) 𝒱₀ (c : Thread nD τ) none) Set.univ (L.for hok init body >>= kk) Q := by
  iintro ⟨HI, HK⟩
  iapply (Scf.wp_for_bind frame (wpE (defs₀ (F := F)) 𝒱₀ (c : Thread nD τ) none) Set.univ L.lb L.ub L.st hok init body (fun k _ => I k) hbody) $$ HI
  iexact HK

/-- The invariant past the last trip. -/
theorem inv_end (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ))) (fl : Buf (Elt F) (listM.view.loc (c : Thread nD τ))) (v : BitVec 32) :
    inv c XG XD arg2 arg3 arg4 fx fsg fsd fc fl v (k0_t1_loop v).trips ⊢ iprop(Idle c XG XD ∗ Base c arg2 arg3 arg4 fx fsg fsd fc fl (AccAt c XG XD arg2 arg3 arg4 fx fsg fsd fc v (nOf v))) := by
  unfold inv
  rw [trips_eq, if_neg (Nat.lt_irrefl _)]

/-- One trip preserves the invariant. -/
theorem inv_step (v) (h1 : k0_chk1 v) (v89 : BitVec 32)
    (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ))) (fl : Buf (Elt F) (listM.view.loc (c : Thread nD τ)))
    (hl : ListIs c v fl) (k) (a) :
    inv c XG XD arg2 arg3 arg4 fx fsg fsd fc fl v k.val ⊢
      wp frame (wpE (defs₀ (F := F)) 𝒱₀ (c : Thread nD τ) none) Set.univ (k0_t1_body (F := F) arg0 harg0 arg1 harg1 arg2 harg2 arg3 harg3 arg4 harg4 wguM (Memref.isWhole_whole _) wdnM (Memref.isWhole_whole _) arg7 harg7 guM (Memref.isWhole_whole _) dnM (Memref.isWhole_whole _) hM (Memref.isWhole_whole _) accM (Memref.isWhole_whole _) combM (Memref.isWhole_whole _) listM (Memref.isWhole_whole _) cc0_scratch6 cc0_scratch7 (iota .tc S128x128 32 [1] iota_S128x128_d1_w32) v h1 v89 k a)
        (fun _ => inv c XG XD arg2 arg3 arg4 fx fsg fsd fc fl v (k.val + 1)) := by
  have hk := lt8 v k
  have hk3 : ∀ w, w = View.readAt (Elt F) listM.view (Rect.unit (s := S8) (k0_off33 v k) S1.size (k0_off33_inb v h1 k)).toLoadRect fl (Shape.Idx.first (s := S1) (by decide)) → k0_chk3 w := by
    intro w hw
    have e := list_load c v fl hl _ _ k.val hk.1 (off33_eq v k) w hw
    obtain ⟨n, hn⟩ := sel_fin v k.val
    rw [e, hn]; exact chk3_all n
  have hk4 : ∀ w, w = View.readAt (Elt F) listM.view (Rect.unit (s := S8) (k0_off34 v k) S1.size (k0_off34_inb v h1 k)).toLoadRect fl (Shape.Idx.first (s := S1) (by decide)) → k0_chk4 v k w := by
    intro w hw
    have e := list_load c v fl hl _ _ (min (k.val + 1) (nOf v - 1)) (by omega) (off34_eq v k) w hw
    obtain ⟨n, hn⟩ := sel_fin v (min (k.val + 1) (nOf v - 1))
    rw [e, hn]; exact chk4_all v k n
  have hr := list_load c v fl hl (k0_off33 v k) (k0_off33_inb v h1 k) k.val hk.1 (off33_eq v k) (View.readAt (Elt F) listM.view (Rect.unit (s := S8) (k0_off33 v k) S1.size (k0_off33_inb v h1 k)).toLoadRect fl (Shape.Idx.first (s := S1) (by decide))) rfl
  have hs := list_load c v fl hl (k0_off34 v k) (k0_off34_inb v h1 k) (min (k.val + 1) (nOf v - 1)) (by omega) (off34_eq v k) (View.readAt (Elt F) listM.view (Rect.unit (s := S8) (k0_off34 v k) S1.size (k0_off34_inb v h1 k)).toLoadRect fl (Shape.Idx.first (s := S1) (by decide))) rfl
  have hacc : ∀ fa f' : Buf (Elt F) (accM.view.loc (c : Thread nD τ)), AccAt c XG XD arg2 arg3 arg4 fx fsg fsd fc v k.val fa →
      accM.view.read (Elt F) f' = accNext c XG XD arg2 arg3 arg4 fx fsg fsd (cmb0 c fc) (cmb1 c fc) (iota .tc S128x128 32 [1] iota_S128x128_d1_w32) ⟨sel v 8 k.val, sel8_lt v k.val⟩ (accM.view.read (Elt F) fa) →
      AccAt c XG XD arg2 arg3 arg4 fx fsg fsd fc v (k.val + 1) f' := by
    intro fa f' h h'
    unfold AccAt at h ⊢
    rw [h', h]; rfl
  unfold inv
  rw [if_pos hk.1]
  by_cases hn : k.val + 1 < nOf v
  · rw [if_pos hn]
    rw [show min (k.val + 1) (nOf v - 1) = k.val + 1 by omega] at hs
    have hc := cond_true v k hn
    exact trip_next c XG XD arg0 harg0 arg1 harg1 arg2 harg2 arg3 harg3 arg4 harg4 arg7 harg7 (iota .tc S128x128 32 [1] iota_S128x128_d1_w32) v h1 v89 k a fx fsg fsd fc fl
      hc hc hc hc hc hc hc hc hc hc hc hc hc hc hc hc hc hc  hk3 hk4 ⟨sel v 8 k.val, sel8_lt v k.val⟩ ⟨sel v 8 (k.val + 1), sel8_lt v _⟩ hr hs _ _ hacc
  · rw [if_neg hn]
    have hc := cond_false v k hn
    exact trip_last c XG XD arg0 harg0 arg1 harg1 arg2 harg2 arg3 harg3 arg4 harg4 arg7 harg7 (iota .tc S128x128 32 [1] iota_S128x128_d1_w32) v h1 v89 k a fx fsg fsd fc fl
      hc hc hc hc hc hc hc hc hc hc hc hc hc hc hc hc hc hc  hk3 hk4 ⟨sel v 8 k.val, sel8_lt v k.val⟩ ⟨sel v 8 (min (k.val + 1) (nOf v - 1)), sel8_lt v _⟩ hr hs _ _ hacc

/-- The first and the second combine weight of each token, as the body loads them. -/
abbrev wts0 (fw : Buf (Elt F) (arg1.view.loc (c : Thread nD τ))) : Vec F S128x1 .f32 := arg1.view.readAt (Elt F) (Rect.unit (s := S128x2) ![0, 0] S128x1.size inb_S128x2_S128x1_0_0).toLoadRect fw
@[inherit_doc wts0] abbrev wts1 (fw : Buf (Elt F) (arg1.view.loc (c : Thread nD τ))) : Vec F S128x1 .f32 := arg1.view.readAt (Elt F) (Rect.unit (s := S128x2) ![0, 1] S128x1.size inb_S128x2_S128x1_0_1).toLoadRect fw

/-- What the body stores: the accumulator after every member's trip, rounded. -/
def outV (fi : Buf (Elt F) (arg0.view.loc (c : Thread nD τ))) (fw : Buf (Elt F) (arg1.view.loc (c : Thread nD τ))) (fx : Buf (Elt F) (arg2.view.loc (c : Thread nD τ))) (fsg : Buf (Elt F) (arg3.view.loc (c : Thread nD τ))) (fsd : Buf (Elt F) (arg4.view.loc (c : Thread nD τ))) : Vec F S128x2816 .bf16 :=
  k0_pay81 (accN c XG XD arg2 arg3 arg4 fx fsg fsd (k0_pay74 (ids0 c arg0 fi) (wts0 c arg1 fw) (ids1 c arg0 fi) (wts1 c arg1 fw)) (k0_pay75 (F := F) (ids0 c arg0 fi) (ids1 c arg0 fi))
    (mword c arg0 fi) (nOf (mword c arg0 fi)))

/-- The store of the rounded accumulator, read back. -/
theorem out_read (A : Vec F S128x2816 .f32) (fo : Buf (Elt F) (arg7.view.loc (c : Thread nD τ))) (fa : Buf (Elt F) (accM.view.loc (c : Thread nD τ))) (h : accM.view.read (Elt F) fa = A) :
    arg7.view.read (Elt F) (arg7.view.writes (Elt F) fo [⟨Rect.unit (s := S128x2816) ![0, 0] S128x2816.size inb_S128x2816_S128x2816_0_0,
      k0_pay81 (accM.view.readAt (Elt F) (Rect.unit (s := S128x2816) ![0, 0] S128x2816.size inb_S128x2816_S128x2816_0_0).toLoadRect fa)⟩]) = k0_pay81 A := by
  rw [whole_writes]
  exact congrArg k0_pay81 ((View.readAt_full accM.view fa inb_S128x2816_S128x2816_0_0).trans h)

set_option maxHeartbeats 0 in
/-- The body: from the staged arguments, the slots at rest and the scratch buffers at anything, to the same with the
    result stored. -/
theorem body_run (fi fw fx fsg fsd fo) (hn : 0 < nOf (mword c arg0 fi)) :
    (iprop((arg0.view.loc (c : Thread nD τ) ↦[arg0.view.set]{fullShare} fi) ∗ (arg1.view.loc (c : Thread nD τ) ↦[arg1.view.set]{fullShare} fw) ∗ (arg2.view.loc (c : Thread nD τ) ↦[arg2.view.set]{fullShare} fx) ∗ (arg3.view.loc (c : Thread nD τ) ↦[arg3.view.set]{fullShare} fsg) ∗ (arg4.view.loc (c : Thread nD τ) ↦[arg4.view.set]{fullShare} fsd) ∗ (arg7.view.loc (c : Thread nD τ) ↦[arg7.view.set]{fullShare} fo) ∗ Idle c XG XD
        ∗ (∃ f : Buf (Elt F) (hM.view.loc (c : Thread nD τ)), (hM.view.loc (c : Thread nD τ) ↦[hM.view.set]{fullShare} f)) ∗ (∃ f : Buf (Elt F) (accM.view.loc (c : Thread nD τ)), (accM.view.loc (c : Thread nD τ) ↦[accM.view.set]{fullShare} f)) ∗ (∃ f : Buf (Elt F) (combM.view.loc (c : Thread nD τ)), (combM.view.loc (c : Thread nD τ) ↦[combM.view.set]{fullShare} f)) ∗ (∃ f : Buf (Elt F) (listM.view.loc (c : Thread nD τ)), (listM.view.loc (c : Thread nD τ) ↦[listM.view.set]{fullShare} f)) ∗ ∃ W, owes (c : Thread nD τ) 0 W) : sProp 𝕄) ⊢
      wp frame (wpE (defs₀ (F := F)) 𝒱₀ (c : Thread nD τ) none) Set.univ (cc0_moe_swiglu (F := F) arg0 harg0 arg1 harg1 arg2 harg2 arg3 harg3 arg4 harg4 wguM (Memref.isWhole_whole _) wdnM (Memref.isWhole_whole _) arg7 harg7 guM (Memref.isWhole_whole _) dnM (Memref.isWhole_whole _) hM (Memref.isWhole_whole _) accM (Memref.isWhole_whole _) combM (Memref.isWhole_whole _) listM (Memref.isWhole_whole _) cc0_scratch6 cc0_scratch7)
        (fun _ => iprop((arg0.view.loc (c : Thread nD τ) ↦[arg0.view.set]{fullShare} fi) ∗ (arg1.view.loc (c : Thread nD τ) ↦[arg1.view.set]{fullShare} fw) ∗ (arg2.view.loc (c : Thread nD τ) ↦[arg2.view.set]{fullShare} fx) ∗ (arg3.view.loc (c : Thread nD τ) ↦[arg3.view.set]{fullShare} fsg) ∗ (arg4.view.loc (c : Thread nD τ) ↦[arg4.view.set]{fullShare} fsd) ∗ (∃ fo' : Buf (Elt F) (arg7.view.loc (c : Thread nD τ)), ⌜arg7.view.read (Elt F) fo' = outV c XG XD arg0 arg1 arg2 arg3 arg4 fi fw fx fsg fsd⌝ ∗ (arg7.view.loc (c : Thread nD τ) ↦[arg7.view.set]{fullShare} fo'))
          ∗ Idle c XG XD ∗ (∃ f : Buf (Elt F) (hM.view.loc (c : Thread nD τ)), (hM.view.loc (c : Thread nD τ) ↦[hM.view.set]{fullShare} f)) ∗ (∃ f : Buf (Elt F) (accM.view.loc (c : Thread nD τ)), (accM.view.loc (c : Thread nD τ) ↦[accM.view.set]{fullShare} f)) ∗ (∃ f : Buf (Elt F) (combM.view.loc (c : Thread nD τ)), (combM.view.loc (c : Thread nD τ) ↦[combM.view.set]{fullShare} f)) ∗ (∃ f : Buf (Elt F) (listM.view.loc (c : Thread nD τ)), (listM.view.loc (c : Thread nD τ) ↦[listM.view.set]{fullShare} f)) ∗ ∃ W, owes (c : Thread nD τ) 0 W)) := by
  have hk2 : ∀ w, w = listM.view.readAt (Elt F) (Rect.unit (s := S8) ![0] S1.size inb_S8_S1_0).toLoadRect
      (listM.view.writes (Elt F) listM.view.junk (listPieces (mword c arg0 fi) (chk1_all _))) (Shape.Idx.first (s := S1) (by decide)) → k0_chk2 w := by
    intro w hw
    have e := list_load c (mword c arg0 fi) _ (listIs_writes c _ (chk1_all _) _) _ _ 0 hn rfl w hw
    obtain ⟨n, hn⟩ := sel_fin (mword c arg0 fi) 0
    rw [e, hn]; exact chk2_all n
  have hw0 := list_load (F := F) c (mword c arg0 fi) (listM.view.writes (Elt F) (listM.view.junk (Val := Elt F)) (listPieces (mword c arg0 fi) (chk1_all _))) (listIs_writes c _ (chk1_all _) _) ![0] inb_S8_S1_0 0 hn rfl (View.readAt (Elt F) listM.view (Rect.unit (s := S8) ![0] S1.size inb_S8_S1_0).toLoadRect (listM.view.writes (Elt F) (listM.view.junk (Val := Elt F)) (listPieces (mword c arg0 fi) (chk1_all _))) (Shape.Idx.first (s := S1) (by decide))) rfl
  iintro ⟨Hi, Hw, Hx, Hsg, Hsd, Ho, HI, ⟨%fh, Hh⟩, ⟨%fa, Ha⟩, ⟨%fc, Hcm⟩, ⟨%fl, Hl⟩, ⟨%W, HW⟩⟩
  irevert HI
  unfold Idle gIdle dIdle
  iintro ⟨⟨%f00, HF00, HS00, HR00⟩, ⟨%f01, HF01, HS01, HR01⟩, ⟨%f10, HF10, HS10, HR10⟩, ⟨%f11, HF11, HS11, HR11⟩, ⟨%f20, HF20, HS20, HR20⟩, ⟨%f21, HF21, HS21, HR21⟩, ⟨%f30, HF30, HS30, HR30⟩, ⟨%f31, HF31, HS31, HR31⟩, ⟨%f40, HF40, HS40, HR40⟩, ⟨%f41, HF41, HS41, HR41⟩, ⟨%f50, HF50, HS50, HR50⟩, ⟨%f51, HF51, HS51, HR51⟩, ⟨%f60, HF60, HS60, HR60⟩, ⟨%f61, HF61, HS61, HR61⟩, ⟨%d0, HE0, HZ0, HQ0⟩, ⟨%d1, HE1, HZ1, HQ1⟩, ⟨%d2, HE2, HZ2, HQ2⟩, ⟨%d3, HE3, HZ3, HQ3⟩, ⟨%d4, HE4, HZ4, HQ4⟩, ⟨%d5, HE5, HZ5, HQ5⟩, ⟨%d6, HE6, HZ6, HQ6⟩, ⟨%d7, HE7, HZ7, HQ7⟩, ⟨%d8, HE8, HZ8, HQ8⟩, ⟨%d9, HE9, HZ9, HQ9⟩, ⟨%d10, HE10, HZ10, HQ10⟩⟩
  unfold cc0_moe_swiglu
  sl_exec (disch := first | exact chk1_all _ | ((with_reducible refine hk2 _ ?_); rfl))
  iapply (loop_bind c _ _ _ _ (inv c XG XD arg2 arg3 arg4 fx fsg fsd _ _ (mword c arg0 fi))
    (fun k a => inv_step c XG XD arg0 harg0 arg1 harg1 arg2 harg2 arg3 harg3 arg4 harg4 arg7 harg7 (mword c arg0 fi) (chk1_all _) _ fx fsg fsd _ _
      (listIs_writes c _ (chk1_all _) fl) k a))
  isplitr [Hi Hw Ho]
  · unfold inv
    rw [if_pos hn]
    isplitr [Hx Hsg Hsd Hcm Hl Hh Ha HW]
    · unfold Fly gFly dFly
      isplitl [HS00 HR00]
      · iexists _, _; isplitr; swap
        · isplitl [HS00]; · iexact HS00
          iexact HR00
        ipureintro; exact g_landed c XG (sel (mword c arg0 fi) 8 0) 0 0 _ _ _ ((congrArg k0_off8 hw0).trans (off8_at ⟨sel (mword c arg0 fi) 8 0, sel8_lt _ _⟩)) _ _ _
      isplitl [HS01 HR01]
      · iexists _, _; isplitr; swap
        · isplitl [HS01]; · iexact HS01
          iexact HR01
        ipureintro; exact g_landed c XG (sel (mword c arg0 fi) 8 0) 0 1 _ _ _ ((congrArg k0_off9 hw0).trans (off9_at ⟨sel (mword c arg0 fi) 8 0, sel8_lt _ _⟩)) _ _ _
      isplitl [HS10 HR10]
      · iexists _, _; isplitr; swap
        · isplitl [HS10]; · iexact HS10
          iexact HR10
        ipureintro; exact g_landed c XG (sel (mword c arg0 fi) 8 0) 1 0 _ _ _ ((congrArg k0_off10 hw0).trans (off10_at ⟨sel (mword c arg0 fi) 8 0, sel8_lt _ _⟩)) _ _ _
      isplitl [HS11 HR11]
      · iexists _, _; isplitr; swap
        · isplitl [HS11]; · iexact HS11
          iexact HR11
        ipureintro; exact g_landed c XG (sel (mword c arg0 fi) 8 0) 1 1 _ _ _ ((congrArg k0_off11 hw0).trans (off11_at ⟨sel (mword c arg0 fi) 8 0, sel8_lt _ _⟩)) _ _ _
      isplitl [HS20 HR20]
      · iexists _, _; isplitr; swap
        · isplitl [HS20]; · iexact HS20
          iexact HR20
        ipureintro; exact g_landed c XG (sel (mword c arg0 fi) 8 0) 2 0 _ _ _ ((congrArg k0_off12 hw0).trans (off12_at ⟨sel (mword c arg0 fi) 8 0, sel8_lt _ _⟩)) _ _ _
      isplitl [HS21 HR21]
      · iexists _, _; isplitr; swap
        · isplitl [HS21]; · iexact HS21
          iexact HR21
        ipureintro; exact g_landed c XG (sel (mword c arg0 fi) 8 0) 2 1 _ _ _ ((congrArg k0_off13 hw0).trans (off13_at ⟨sel (mword c arg0 fi) 8 0, sel8_lt _ _⟩)) _ _ _
      isplitl [HS30 HR30]
      · iexists _, _; isplitr; swap
        · isplitl [HS30]; · iexact HS30
          iexact HR30
        ipureintro; exact g_landed c XG (sel (mword c arg0 fi) 8 0) 3 0 _ _ _ ((congrArg k0_off14 hw0).trans (off14_at ⟨sel (mword c arg0 fi) 8 0, sel8_lt _ _⟩)) _ _ _
      isplitl [HS31 HR31]
      · iexists _, _; isplitr; swap
        · isplitl [HS31]; · iexact HS31
          iexact HR31
        ipureintro; exact g_landed c XG (sel (mword c arg0 fi) 8 0) 3 1 _ _ _ ((congrArg k0_off15 hw0).trans (off15_at ⟨sel (mword c arg0 fi) 8 0, sel8_lt _ _⟩)) _ _ _
      isplitl [HS40 HR40]
      · iexists _, _; isplitr; swap
        · isplitl [HS40]; · iexact HS40
          iexact HR40
        ipureintro; exact g_landed c XG (sel (mword c arg0 fi) 8 0) 4 0 _ _ _ ((congrArg k0_off16 hw0).trans (off16_at ⟨sel (mword c arg0 fi) 8 0, sel8_lt _ _⟩)) _ _ _
      isplitl [HS41 HR41]
      · iexists _, _; isplitr; swap
        · isplitl [HS41]; · iexact HS41
          iexact HR41
        ipureintro; exact g_landed c XG (sel (mword c arg0 fi) 8 0) 4 1 _ _ _ ((congrArg k0_off17 hw0).trans (off17_at ⟨sel (mword c arg0 fi) 8 0, sel8_lt _ _⟩)) _ _ _
      isplitl [HS50 HR50]
      · iexists _, _; isplitr; swap
        · isplitl [HS50]; · iexact HS50
          iexact HR50
        ipureintro; exact g_landed c XG (sel (mword c arg0 fi) 8 0) 5 0 _ _ _ ((congrArg k0_off18 hw0).trans (off18_at ⟨sel (mword c arg0 fi) 8 0, sel8_lt _ _⟩)) _ _ _
      isplitl [HS51 HR51]
      · iexists _, _; isplitr; swap
        · isplitl [HS51]; · iexact HS51
          iexact HR51
        ipureintro; exact g_landed c XG (sel (mword c arg0 fi) 8 0) 5 1 _ _ _ ((congrArg k0_off19 hw0).trans (off19_at ⟨sel (mword c arg0 fi) 8 0, sel8_lt _ _⟩)) _ _ _
      isplitl [HS60 HR60]
      · iexists _, _; isplitr; swap
        · isplitl [HS60]; · iexact HS60
          iexact HR60
        ipureintro; exact g_landed c XG (sel (mword c arg0 fi) 8 0) 6 0 _ _ _ ((congrArg k0_off20 hw0).trans (off20_at ⟨sel (mword c arg0 fi) 8 0, sel8_lt _ _⟩)) _ _ _
      isplitl [HS61 HR61]
      · iexists _, _; isplitr; swap
        · isplitl [HS61]; · iexact HS61
          iexact HR61
        ipureintro; exact g_landed c XG (sel (mword c arg0 fi) 8 0) 6 1 _ _ _ ((congrArg k0_off21 hw0).trans (off21_at ⟨sel (mword c arg0 fi) 8 0, sel8_lt _ _⟩)) _ _ _
      isplitl [HZ0 HQ0]
      · iexists _, _; isplitr; swap
        · isplitl [HZ0]; · iexact HZ0
          iexact HQ0
        ipureintro; exact d_landed c XD (sel (mword c arg0 fi) 8 0) 0 _ _ _ ((congrArg k0_off22 hw0).trans (off22_at ⟨sel (mword c arg0 fi) 8 0, sel8_lt _ _⟩)) _ _ _
      isplitl [HZ1 HQ1]
      · iexists _, _; isplitr; swap
        · isplitl [HZ1]; · iexact HZ1
          iexact HQ1
        ipureintro; exact d_landed c XD (sel (mword c arg0 fi) 8 0) 1 _ _ _ ((congrArg k0_off23 hw0).trans (off23_at ⟨sel (mword c arg0 fi) 8 0, sel8_lt _ _⟩)) _ _ _
      isplitl [HZ2 HQ2]
      · iexists _, _; isplitr; swap
        · isplitl [HZ2]; · iexact HZ2
          iexact HQ2
        ipureintro; exact d_landed c XD (sel (mword c arg0 fi) 8 0) 2 _ _ _ ((congrArg k0_off24 hw0).trans (off24_at ⟨sel (mword c arg0 fi) 8 0, sel8_lt _ _⟩)) _ _ _
      isplitl [HZ3 HQ3]
      · iexists _, _; isplitr; swap
        · isplitl [HZ3]; · iexact HZ3
          iexact HQ3
        ipureintro; exact d_landed c XD (sel (mword c arg0 fi) 8 0) 3 _ _ _ ((congrArg k0_off25 hw0).trans (off25_at ⟨sel (mword c arg0 fi) 8 0, sel8_lt _ _⟩)) _ _ _
      isplitl [HZ4 HQ4]
      · iexists _, _; isplitr; swap
        · isplitl [HZ4]; · iexact HZ4
          iexact HQ4
        ipureintro; exact d_landed c XD (sel (mword c arg0 fi) 8 0) 4 _ _ _ ((congrArg k0_off26 hw0).trans (off26_at ⟨sel (mword c arg0 fi) 8 0, sel8_lt _ _⟩)) _ _ _
      isplitl [HZ5 HQ5]
      · iexists _, _; isplitr; swap
        · isplitl [HZ5]; · iexact HZ5
          iexact HQ5
        ipureintro; exact d_landed c XD (sel (mword c arg0 fi) 8 0) 5 _ _ _ ((congrArg k0_off27 hw0).trans (off27_at ⟨sel (mword c arg0 fi) 8 0, sel8_lt _ _⟩)) _ _ _
      isplitl [HZ6 HQ6]
      · iexists _, _; isplitr; swap
        · isplitl [HZ6]; · iexact HZ6
          iexact HQ6
        ipureintro; exact d_landed c XD (sel (mword c arg0 fi) 8 0) 6 _ _ _ ((congrArg k0_off28 hw0).trans (off28_at ⟨sel (mword c arg0 fi) 8 0, sel8_lt _ _⟩)) _ _ _
      isplitl [HZ7 HQ7]
      · iexists _, _; isplitr; swap
        · isplitl [HZ7]; · iexact HZ7
          iexact HQ7
        ipureintro; exact d_landed c XD (sel (mword c arg0 fi) 8 0) 7 _ _ _ ((congrArg k0_off29 hw0).trans (off29_at ⟨sel (mword c arg0 fi) 8 0, sel8_lt _ _⟩)) _ _ _
      isplitl [HZ8 HQ8]
      · iexists _, _; isplitr; swap
        · isplitl [HZ8]; · iexact HZ8
          iexact HQ8
        ipureintro; exact d_landed c XD (sel (mword c arg0 fi) 8 0) 8 _ _ _ ((congrArg k0_off30 hw0).trans (off30_at ⟨sel (mword c arg0 fi) 8 0, sel8_lt _ _⟩)) _ _ _
      isplitl [HZ9 HQ9]
      · iexists _, _; isplitr; swap
        · isplitl [HZ9]; · iexact HZ9
          iexact HQ9
        ipureintro; exact d_landed c XD (sel (mword c arg0 fi) 8 0) 9 _ _ _ ((congrArg k0_off31 hw0).trans (off31_at ⟨sel (mword c arg0 fi) 8 0, sel8_lt _ _⟩)) _ _ _
      iexists _, _; isplitr; swap
      · isplitl [HZ10]; · iexact HZ10
        iexact HQ10
      ipureintro; exact d_landed c XD (sel (mword c arg0 fi) 8 0) 10 _ _ _ ((congrArg k0_off32 hw0).trans (off32_at ⟨sel (mword c arg0 fi) 8 0, sel8_lt _ _⟩)) _ _ _

    unfold Base
    isplitl [Hx]; · iexact Hx
    isplitl [Hsg]; · iexact Hsg
    isplitl [Hsd]; · iexact Hsd
    isplitl [Hcm]; · iexact Hcm
    isplitl [Hl]; · iexact Hl
    isplitl [Hh]; · iexists _; iexact Hh
    isplitl [Ha]
    · iexists _
      isplitr; swap; · iexact Ha
      ipureintro; exact whole_writes accM.view _ k0_pay78
    iexists _; iexact HW
  iintro %acc HI
  ihave HE := (inv_end c XG XD arg2 arg3 arg4 fx fsg fsd _ _ (mword c arg0 fi)) $$ HI
  unfold Base
  icases HE with ⟨HI, Hx, Hsg, Hsd, Hcm, Hl, ⟨%fh', Hh⟩, ⟨%fa', %pa, Ha⟩, ⟨%W', HW⟩⟩
  have htr2 : (k0_t2_loop (body_run.sl.v50 c arg0 fi)).trips = 0 := trips2_eq _
  sl_exec
  sl_step
  isplitl [Hi]; · iexact Hi
  isplitl [Hw]; · iexact Hw
  isplitl [Hx]; · iexact Hx
  isplitl [Hsg]; · iexact Hsg
  isplitl [Hsd]; · iexact Hsd
  isplitl [Ho]
  · iexists _; isplitr; swap; · iexact Ho
    ipureintro
    exact out_read c arg7 _ fo fa' (pa.trans (congrArg₂ (fun C0 C1 => accN c XG XD arg2 arg3 arg4 fx fsg fsd C0 C1 (mword c arg0 fi) (nOf (mword c arg0 fi)))
      (cmb0_writes c (combM.view.junk (Val := Elt F)) (k0_pay74 (ids0 c arg0 fi) (wts0 c arg1 fw) (ids1 c arg0 fi) (wts1 c arg1 fw)) (k0_pay75 (F := F) (ids0 c arg0 fi) (ids1 c arg0 fi)))
      (cmb1_writes c (combM.view.junk (Val := Elt F)) (k0_pay74 (ids0 c arg0 fi) (wts0 c arg1 fw) (ids1 c arg0 fi) (wts1 c arg1 fw)) (k0_pay75 (F := F) (ids0 c arg0 fi) (ids1 c arg0 fi)))))
  isplitl [HI]; · unfold Idle gIdle dIdle; iexact HI
  isplitl [Hh]; · iexists _; iexact Hh
  isplitl [Ha]; · iexists _; iexact Ha
  isplitl [Hcm]; · iexists _; iexact Hcm
  isplitl [Hl]; · iexists _; iexact Hl
  iexists _; iexact HW
end Body
end Cert.Proof.Run
end
-- ==== Proof.Regions.lean ====
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Transfers
public import Idealize.ShloMosaic.Lib.Pipeline.KitQuiescent
public import Idealize.ShloMosaic.Lib.Tactic
public import proofs.«01_k».proof.Proof.Gen.Kernel.Frame
public import proofs.«01_k».proof.Proof.Body
public import Idealize.ShloMosaic.Lib.Pipeline.FrameSuffixR
public import Idealize.ShloMosaic.Lib.Ring
@[expose] public section

set_option maxRecDepth 16384

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ
variable (m : (ℓ : Loc nD τ sig) → Buf (Elt F) ℓ) (ρ : Dev nD → PrngReg)

/-! ## The kernel's own semaphores -/

/-- The 25 DMA semaphores: 14 of the gate/up slots, then 11 of the down slots. -/
abbrev osem : Fin 25 → SemLoc sig := fun k => .dma ⟨6 + k.val, by have := k.isLt; show 6 + k.val < 31; omega⟩
/-- The kernel's own semaphores are none of the pipeline's. -/
theorem ownSemFacts : Pipeline.OwnSemFacts spec0 osem := by decide

/-! ## The slots cover their buffers -/

/-- A gate-and-up slot lies within its buffer. -/
theorem goff_inb (b : Fin 14) : ∀ a, (![b.val / 2, b.val % 2, 0, 0] : Fin 4 → ℕ) a + S1x1x512x2816.size a ≤ S7x2x512x2816.size a := by
  intro a; have := b.isLt; fin_cases a
  · show b.val / 2 + 1 ≤ 7; omega
  · show b.val % 2 + 1 ≤ 2; omega
  · show 0 + 512 ≤ 512; omega
  · show 0 + 2816 ≤ 2816; omega
/-- A down slot lies within its buffer. -/
theorem doff_inb (b : Fin 11) : ∀ a, (![b.val, 0, 0] : Fin 3 → ℕ) a + S1x256x3584.size a ≤ S11x256x3584.size a := by
  intro a; have := b.isLt; fin_cases a
  · show b.val + 1 ≤ 11; omega
  · show 0 + 256 ≤ 256; omega
  · show 0 + 3584 ≤ 3584; omega
/-- The cells of gate-and-up slot `b`. -/
abbrev G14 (b : Fin 14) : Finset S7x2x512x2816.Idx := (Rect.unit (s := S7x2x512x2816) ![b.val / 2, b.val % 2, 0, 0] S1x1x512x2816.size (goff_inb b)).set
/-- The cells of down slot `b`. -/
abbrev D11 (b : Fin 11) : Finset S11x256x3584.Idx := (Rect.unit (s := S11x256x3584) ![b.val, 0, 0] S1x256x3584.size (doff_inb b)).set
/-- A cell of the gate-and-up buffer is in the slot that its first two coordinates name. -/
theorem mem_G14 (b : Fin 14) (y : S7x2x512x2816.Idx) : y ∈ G14 b ↔ 2 * (y 0).val + (y 1).val = b.val := by
  rw [Rect.mem_set_unit]
  have h0 : (y 0).val < 7 := (y 0).isLt
  have h1 : (y 1).val < 2 := (y 1).isLt
  have h2 : (y 2).val < 512 := (y 2).isLt
  have h3 : (y 3).val < 2816 := (y 3).isLt
  constructor
  · intro H
    have a0 : b.val / 2 ≤ (y 0).val ∧ (y 0).val < b.val / 2 + 1 := H 0
    have a1 : b.val % 2 ≤ (y 1).val ∧ (y 1).val < b.val % 2 + 1 := H 1
    omega
  · intro H i; fin_cases i
    · show b.val / 2 ≤ (y 0).val ∧ (y 0).val < b.val / 2 + 1; omega
    · show b.val % 2 ≤ (y 1).val ∧ (y 1).val < b.val % 2 + 1; omega
    · show 0 ≤ (y 2).val ∧ (y 2).val < 0 + 512; omega
    · show 0 ≤ (y 3).val ∧ (y 3).val < 0 + 2816; omega
/-- A cell of the down buffer is in the slot that its first coordinate names. -/
theorem mem_D11 (b : Fin 11) (y : S11x256x3584.Idx) : y ∈ D11 b ↔ (y 0).val = b.val := by
  rw [Rect.mem_set_unit]
  have h1 : (y 1).val < 256 := (y 1).isLt
  have h2 : (y 2).val < 3584 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 256; omega
    · show 0 ≤ (y 2).val ∧ (y 2).val < 0 + 3584; omega
/-- Two gate-and-up slots share no cell. -/
theorem G14_disjoint : ∀ b b' : Fin 14, b ≠ b' → Disjoint (G14 b) (G14 b') := by
  intro b b' hne; rw [Finset.disjoint_left]; intro y hy hy'; rw [mem_G14] at hy hy'; exact hne (Fin.ext (hy.symm.trans hy'))
/-- The gate-and-up slots cover their buffer. -/
theorem G14_cover : (Finset.univ : Finset (Fin 14)).biUnion G14 = Finset.univ := by
  ext y
  have h0 : (y 0).val < 7 := (y 0).isLt
  have h1 : (y 1).val < 2 := (y 1).isLt
  simp only [Finset.mem_biUnion, Finset.mem_univ, true_and, iff_true]
  exact ⟨⟨2 * (y 0).val + (y 1).val, by omega⟩, by rw [mem_G14]⟩
/-- Two down slots share no cell. -/
theorem D11_disjoint : ∀ b b' : Fin 11, b ≠ b' → Disjoint (D11 b) (D11 b') := by
  intro b b' hne; rw [Finset.disjoint_left]; intro y hy hy'; rw [mem_D11] at hy hy'; exact hne (Fin.ext (hy.symm.trans hy'))
/-- The down slots cover their buffer. -/
theorem D11_cover : (Finset.univ : Finset (Fin 11)).biUnion D11 = Finset.univ := by
  ext y; simp only [Finset.mem_biUnion, Finset.mem_univ, true_and, iff_true]; exact ⟨(y 0).cast (by decide), by rw [mem_D11]; rfl⟩

omit [FloatOps F] in
/-- Owning a gate-and-up slot through its own reference is owning its cells of the buffer. -/
theorem gslot_eq (c : Dev nD) (b : Fin 14) (f) : ((gslot (b.val / 2) (b.val % 2) (goff_inb b)).view.loc (c : Thread nD τ) ↦[(gslot (b.val / 2) (b.val % 2) (goff_inb b)).view.set]{fullShare} f : sProp 𝕄)
    = (((c : Thread nD τ).loc cc0_scratch0) ↦[G14 b]{fullShare} f : sProp 𝕄) :=
  congrArg (fun S => (_ ↦[S]{fullShare} f : sProp 𝕄)) ((View.set_reshape _ _).trans (View.set_slice_whole _ _))
omit [FloatOps F] in
/-- Owning a down slot through its own reference is owning its cells of the buffer. -/
theorem dslot_eq (c : Dev nD) (b : Fin 11) (f) : ((dslot b.val (doff_inb b)).view.loc (c : Thread nD τ) ↦[(dslot b.val (doff_inb b)).view.set]{fullShare} f : sProp 𝕄)
    = (((c : Thread nD τ).loc cc0_scratch1) ↦[D11 b]{fullShare} f : sProp 𝕄) :=
  congrArg (fun S => (_ ↦[S]{fullShare} f : sProp 𝕄)) ((View.set_reshape _ _).trans (View.set_slice_whole _ _))

omit [FloatOps F] in
/-- Owning known contents is owning some contents. -/
theorem own_some {ℓ : Loc nD τ sig} {S : Finset (Idx ℓ)} (f : Buf (Elt F) ℓ) : (ℓ ↦[S]{fullShare} f : sProp 𝕄) ⊢ iprop(∃ f, ℓ ↦[S]{fullShare} f) := by
  iintro H; iexists f; iexact H

omit [FloatOps F] in
/-- The gate/up buffer whole is its 14 slots, -/
theorem gbuf_split (c : Dev nD) :
    iprop(∃ f : Buf (Elt F) ((c : Thread nD τ).loc cc0_scratch0), ((c : Thread nD τ).loc cc0_scratch0) ↦{fullShare} f)
      ⊢ (bigSep Finset.univ fun b : Fin 14 => iprop(∃ f, ((c : Thread nD τ).loc cc0_scratch0) ↦[G14 b]{fullShare} f) : sProp 𝕄) := by
  iintro ⟨%f, H⟩
  ihave H2 := (entails_of_eq (Ring.pointsTo_blocks (Ix := Unit) (Name := ℕ) (U := UU nD τ) (Lvl := ℕ) (q := fullShare) (ℓ := (c : Thread nD τ).loc cc0_scratch0) G14 G14_disjoint G14_cover f)) $$ H
  iapply (show (bigSep Finset.univ fun b : Fin 14 => (((c : Thread nD τ).loc cc0_scratch0) ↦[G14 b]{fullShare} f : sProp 𝕄))
      ⊢ bigSep Finset.univ fun b : Fin 14 => iprop(∃ f, ((c : Thread nD τ).loc cc0_scratch0) ↦[G14 b]{fullShare} f) from
    bigSep_mono fun b _ => own_some f)
  iexact H2
omit [FloatOps F] in
/-- The down buffer splits into its slots. -/
theorem dbuf_split (c : Dev nD) :
    iprop(∃ f : Buf (Elt F) ((c : Thread nD τ).loc cc0_scratch1), ((c : Thread nD τ).loc cc0_scratch1) ↦{fullShare} f)
      ⊢ (bigSep Finset.univ fun b : Fin 11 => iprop(∃ f, ((c : Thread nD τ).loc cc0_scratch1) ↦[D11 b]{fullShare} f) : sProp 𝕄) := by
  iintro ⟨%f, H⟩
  ihave H2 := (entails_of_eq (Ring.pointsTo_blocks (Ix := Unit) (Name := ℕ) (U := UU nD τ) (Lvl := ℕ) (q := fullShare) (ℓ := (c : Thread nD τ).loc cc0_scratch1) D11 D11_disjoint D11_cover f)) $$ H
  iapply (show (bigSep Finset.univ fun b : Fin 11 => (((c : Thread nD τ).loc cc0_scratch1) ↦[D11 b]{fullShare} f : sProp 𝕄))
      ⊢ bigSep Finset.univ fun b : Fin 11 => iprop(∃ f, ((c : Thread nD τ).loc cc0_scratch1) ↦[D11 b]{fullShare} f) from
    bigSep_mono fun b _ => own_some f)
  iexact H2

/-- A buffer whole, as a memref and as a location. -/
theorem whole_eq (c : Dev nD) (b : Ref sig .tc) : (iprop(∃ f : Buf (Elt F) ((c : Thread nD τ).loc b), ((Memref.whole b).view.loc (c : Thread nD τ) ↦[(Memref.whole b).view.set]{fullShare} f)) : sProp 𝕄)
    = iprop(∃ f : Buf (Elt F) ((c : Thread nD τ).loc b), ((c : Thread nD τ).loc b) ↦{fullShare} f) := by
  rw [show (Memref.whole b).view.set = Finset.univ from View.set_whole b]
/-- The slots, each at its own contents, are the buffer whole again. -/
theorem gbuf_join (c : Dev nD) :
    (bigSep Finset.univ fun b : Fin 14 => iprop(∃ f, ((c : Thread nD τ).loc cc0_scratch0) ↦[G14 b]{fullShare} f) : sProp 𝕄)
      ⊢ iprop(∃ f : Buf (Elt F) ((c : Thread nD τ).loc cc0_scratch0), ((c : Thread nD τ).loc cc0_scratch0) ↦{fullShare} f) :=
  Ring.pointsTo_blocks_join_exists (ℓ := (c : Thread nD τ).loc cc0_scratch0) G14 G14_disjoint G14_cover (fun _ => default)
/-- The slots of the down buffer join into the buffer. -/
theorem dbuf_join (c : Dev nD) :
    (bigSep Finset.univ fun b : Fin 11 => iprop(∃ f, ((c : Thread nD τ).loc cc0_scratch1) ↦[D11 b]{fullShare} f) : sProp 𝕄)
      ⊢ iprop(∃ f : Buf (Elt F) ((c : Thread nD τ).loc cc0_scratch1), ((c : Thread nD τ).loc cc0_scratch1) ↦{fullShare} f) :=
  Ring.pointsTo_blocks_join_exists (ℓ := (c : Thread nD τ).loc cc0_scratch1) D11 D11_disjoint D11_cover (fun _ => default)

omit [FloatOps F] in
/-- A conjunction over this many indices, written out. -/
theorem bigSep_fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [(0 : Fin 14), (1 : Fin 14), (2 : Fin 14), (3 : Fin 14), (4 : Fin 14), (5 : Fin 14), (6 : Fin 14), (7 : Fin 14), (8 : Fin 14), (9 : Fin 14), (10 : Fin 14), (11 : Fin 14), (12 : Fin 14), (13 : Fin 14)] (by decide) (by decide) Φ

omit [FloatOps F] in
/-- A conjunction over this many indices, written out. -/
theorem bigSep_fin11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ

omit [FloatOps F] in
/-- A conjunction over this many indices, written out. -/
theorem bigSep_fin25 (Φ : Fin 25 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [(0 : Fin 25), (1 : Fin 25), (2 : Fin 25), (3 : Fin 25), (4 : Fin 25), (5 : Fin 25), (6 : Fin 25), (7 : Fin 25), (8 : Fin 25), (9 : Fin 25), (10 : Fin 25), (11 : Fin 25), (12 : Fin 25), (13 : Fin 25), (14 : Fin 25), (15 : Fin 25), (16 : Fin 25), (17 : Fin 25), (18 : Fin 25), (19 : Fin 25), (20 : Fin 25), (21 : Fin 25), (22 : Fin 25), (23 : Fin 25), (24 : Fin 25)] (by decide) (by decide) Φ

omit [FloatOps F] in
/-- The tokens of a range, the last one apart. -/
theorem peel (k : ℕ) (Φ : ℕ → sProp 𝕄) : bigSep (Finset.range (k + 1)) Φ = iprop(Φ k ∗ bigSep (Finset.range k) Φ) := by
  rw [Finset.range_add_one, bigSep_insert Finset.notMem_range_self]; rfl

/-- What is left of a weight array after the shares the slots read it under are taken: the rest of the share, and the
    tokens no slot uses. -/
def GRest (c : Dev nD) (XG : Buf (Elt F) (wguM.view.loc (c : Thread nD τ))) : sProp 𝕄 :=
  iprop((wguM.view.loc (c : Thread nD τ) ↦[Finset.univ]{Transfers.shareDrop fullShare 20} XG)
    ∗ bigSep (Finset.range 6) fun i => (wguM.view.loc (c : Thread nD τ) ↦[Finset.univ]{Transfers.shareTokN fullShare i} XG))
/-- What stays of the down matrices while their slots are read. -/
def DRest (c : Dev nD) (XD : Buf (Elt F) (wdnM.view.loc (c : Thread nD τ))) : sProp 𝕄 :=
  iprop((wdnM.view.loc (c : Thread nD τ) ↦[Finset.univ]{Transfers.shareDrop fullShare 31} XD)
    ∗ bigSep (Finset.range 20) fun i => (wdnM.view.loc (c : Thread nD τ) ↦[Finset.univ]{Transfers.shareTokN fullShare i} XD))

omit [FloatOps F] in
/-- The array whole is the tokens of the slots beside the rest. -/
theorem gtoks (c : Dev nD) (XG : Buf (Elt F) (wguM.view.loc (c : Thread nD τ))) :
    (((c : Thread nD τ).loc main_arg3) ↦{fullShare} XG : sProp 𝕄) ⊣⊢ iprop(((wguM.view.loc (c : Thread nD τ) ↦[Finset.univ]{Transfers.shareTokN fullShare 19} XG) ∗ (wguM.view.loc (c : Thread nD τ) ↦[Finset.univ]{Transfers.shareTokN fullShare 18} XG) ∗ (wguM.view.loc (c : Thread nD τ) ↦[Finset.univ]{Transfers.shareTokN fullShare 17} XG) ∗ (wguM.view.loc (c : Thread nD τ) ↦[Finset.univ]{Transfers.shareTokN fullShare 16} XG) ∗ (wguM.view.loc (c : Thread nD τ) ↦[Finset.univ]{Transfers.shareTokN fullShare 15} XG) ∗ (wguM.view.loc (c : Thread nD τ) ↦[Finset.univ]{Transfers.shareTokN fullShare 14} XG) ∗ (wguM.view.loc (c : Thread nD τ) ↦[Finset.univ]{Transfers.shareTokN fullShare 13} XG) ∗ (wguM.view.loc (c : Thread nD τ) ↦[Finset.univ]{Transfers.shareTokN fullShare 12} XG) ∗ (wguM.view.loc (c : Thread nD τ) ↦[Finset.univ]{Transfers.shareTokN fullShare 11} XG) ∗ (wguM.view.loc (c : Thread nD τ) ↦[Finset.univ]{Transfers.shareTokN fullShare 10} XG) ∗ (wguM.view.loc (c : Thread nD τ) ↦[Finset.univ]{Transfers.shareTokN fullShare 9} XG) ∗ (wguM.view.loc (c : Thread nD τ) ↦[Finset.univ]{Transfers.shareTokN fullShare 8} XG) ∗ (wguM.view.loc (c : Thread nD τ) ↦[Finset.univ]{Transfers.shareTokN fullShare 7} XG) ∗ (wguM.view.loc (c : Thread nD τ) ↦[Finset.univ]{Transfers.shareTokN fullShare 6} XG)) ∗ GRest c XG) := by
  have h := Transfers.pointsTo_toks_range (Ix := Unit) (Name := ℕ) (U := UU nD τ) (Lvl := ℕ) (ℓ := (c : Thread nD τ).loc main_arg3) (S := Finset.univ) (f := XG) fullShare 20
  rw [peel 19, peel 18, peel 17, peel 16, peel 15, peel 14, peel 13, peel 12, peel 11, peel 10, peel 9, peel 8, peel 7, peel 6] at h
  unfold GRest
  refine ⟨h.1.trans ?_, BIBase.Entails.trans ?_ h.2⟩
  · iintro ⟨HR, H19, H18, H17, H16, H15, H14, H13, H12, H11, H10, H9, H8, H7, H6, HL⟩
    isplitr [HR HL]
    · isplitl [H19]; · iexact H19
      isplitl [H18]; · iexact H18
      isplitl [H17]; · iexact H17
      isplitl [H16]; · iexact H16
      isplitl [H15]; · iexact H15
      isplitl [H14]; · iexact H14
      isplitl [H13]; · iexact H13
      isplitl [H12]; · iexact H12
      isplitl [H11]; · iexact H11
      isplitl [H10]; · iexact H10
      isplitl [H9]; · iexact H9
      isplitl [H8]; · iexact H8
      isplitl [H7]; · iexact H7
      iexact H6
    isplitl [HR]; · iexact HR
    iexact HL
  · iintro ⟨⟨H19, H18, H17, H16, H15, H14, H13, H12, H11, H10, H9, H8, H7, H6⟩, HR, HL⟩
    isplitl [HR]; · iexact HR
    isplitl [H19]; · iexact H19
    isplitl [H18]; · iexact H18
    isplitl [H17]; · iexact H17
    isplitl [H16]; · iexact H16
    isplitl [H15]; · iexact H15
    isplitl [H14]; · iexact H14
    isplitl [H13]; · iexact H13
    isplitl [H12]; · iexact H12
    isplitl [H11]; · iexact H11
    isplitl [H10]; · iexact H10
    isplitl [H9]; · iexact H9
    isplitl [H8]; · iexact H8
    isplitl [H7]; · iexact H7
    isplitl [H6]; · iexact H6
    iexact HL

omit [FloatOps F] in
/-- The array whole is the tokens of the slots beside the rest. -/
theorem dtoks (c : Dev nD) (XD : Buf (Elt F) (wdnM.view.loc (c : Thread nD τ))) :
    (((c : Thread nD τ).loc main_arg5) ↦{fullShare} XD : sProp 𝕄) ⊣⊢ iprop(((wdnM.view.loc (c : Thread nD τ) ↦[Finset.univ]{Transfers.shareTokN fullShare 30} XD) ∗ (wdnM.view.loc (c : Thread nD τ) ↦[Finset.univ]{Transfers.shareTokN fullShare 29} XD) ∗ (wdnM.view.loc (c : Thread nD τ) ↦[Finset.univ]{Transfers.shareTokN fullShare 28} XD) ∗ (wdnM.view.loc (c : Thread nD τ) ↦[Finset.univ]{Transfers.shareTokN fullShare 27} XD) ∗ (wdnM.view.loc (c : Thread nD τ) ↦[Finset.univ]{Transfers.shareTokN fullShare 26} XD) ∗ (wdnM.view.loc (c : Thread nD τ) ↦[Finset.univ]{Transfers.shareTokN fullShare 25} XD) ∗ (wdnM.view.loc (c : Thread nD τ) ↦[Finset.univ]{Transfers.shareTokN fullShare 24} XD) ∗ (wdnM.view.loc (c : Thread nD τ) ↦[Finset.univ]{Transfers.shareTokN fullShare 23} XD) ∗ (wdnM.view.loc (c : Thread nD τ) ↦[Finset.univ]{Transfers.shareTokN fullShare 22} XD) ∗ (wdnM.view.loc (c : Thread nD τ) ↦[Finset.univ]{Transfers.shareTokN fullShare 21} XD) ∗ (wdnM.view.loc (c : Thread nD τ) ↦[Finset.univ]{Transfers.shareTokN fullShare 20} XD)) ∗ DRest c XD) := by
  have h := Transfers.pointsTo_toks_range (Ix := Unit) (Name := ℕ) (U := UU nD τ) (Lvl := ℕ) (ℓ := (c : Thread nD τ).loc main_arg5) (S := Finset.univ) (f := XD) fullShare 31
  rw [peel 30, peel 29, peel 28, peel 27, peel 26, peel 25, peel 24, peel 23, peel 22, peel 21, peel 20] at h
  unfold DRest
  refine ⟨h.1.trans ?_, BIBase.Entails.trans ?_ h.2⟩
  · iintro ⟨HR, H30, H29, H28, H27, H26, H25, H24, H23, H22, H21, H20, HL⟩
    isplitr [HR HL]
    · isplitl [H30]; · iexact H30
      isplitl [H29]; · iexact H29
      isplitl [H28]; · iexact H28
      isplitl [H27]; · iexact H27
      isplitl [H26]; · iexact H26
      isplitl [H25]; · iexact H25
      isplitl [H24]; · iexact H24
      isplitl [H23]; · iexact H23
      isplitl [H22]; · iexact H22
      isplitl [H21]; · iexact H21
      iexact H20
    isplitl [HR]; · iexact HR
    iexact HL
  · iintro ⟨⟨H30, H29, H28, H27, H26, H25, H24, H23, H22, H21, H20⟩, HR, HL⟩
    isplitl [HR]; · iexact HR
    isplitl [H30]; · iexact H30
    isplitl [H29]; · iexact H29
    isplitl [H28]; · iexact H28
    isplitl [H27]; · iexact H27
    isplitl [H26]; · iexact H26
    isplitl [H25]; · iexact H25
    isplitl [H24]; · iexact H24
    isplitl [H23]; · iexact H23
    isplitl [H22]; · iexact H22
    isplitl [H21]; · iexact H21
    isplitl [H20]; · iexact H20
    iexact HL

omit [FloatOps F] in
/-- The kernel's own semaphores at zero are the slots' semaphores at zero. -/
theorem ownSems0_eq (c : Dev nD) : (Pipeline.ownSems0 (Ix := Unit) (Name := ℕ) (U := UU nD τ) (Lvl := ℕ) (Val := Elt F) (τ := τ) osem c : sProp 𝕄)
    = iprop(semVal ((c : Thread nD τ), (SemLoc.dma (gsem 0 0 inb_S7x2_S1x1_0_0).sem)) 0 ∗ semVal ((c : Thread nD τ), (SemLoc.dma (gsem 0 1 inb_S7x2_S1x1_0_1).sem)) 0 ∗ semVal ((c : Thread nD τ), (SemLoc.dma (gsem 1 0 inb_S7x2_S1x1_1_0).sem)) 0 ∗ semVal ((c : Thread nD τ), (SemLoc.dma (gsem 1 1 inb_S7x2_S1x1_1_1).sem)) 0 ∗ semVal ((c : Thread nD τ), (SemLoc.dma (gsem 2 0 inb_S7x2_S1x1_2_0).sem)) 0 ∗ semVal ((c : Thread nD τ), (SemLoc.dma (gsem 2 1 inb_S7x2_S1x1_2_1).sem)) 0 ∗ semVal ((c : Thread nD τ), (SemLoc.dma (gsem 3 0 inb_S7x2_S1x1_3_0).sem)) 0 ∗ semVal ((c : Thread nD τ), (SemLoc.dma (gsem 3 1 inb_S7x2_S1x1_3_1).sem)) 0 ∗ semVal ((c : Thread nD τ), (SemLoc.dma (gsem 4 0 inb_S7x2_S1x1_4_0).sem)) 0 ∗ semVal ((c : Thread nD τ), (SemLoc.dma (gsem 4 1 inb_S7x2_S1x1_4_1).sem)) 0 ∗ semVal ((c : Thread nD τ), (SemLoc.dma (gsem 5 0 inb_S7x2_S1x1_5_0).sem)) 0 ∗ semVal ((c : Thread nD τ), (SemLoc.dma (gsem 5 1 inb_S7x2_S1x1_5_1).sem)) 0 ∗ semVal ((c : Thread nD τ), (SemLoc.dma (gsem 6 0 inb_S7x2_S1x1_6_0).sem)) 0 ∗ semVal ((c : Thread nD τ), (SemLoc.dma (gsem 6 1 inb_S7x2_S1x1_6_1).sem)) 0 ∗ semVal ((c : Thread nD τ), (SemLoc.dma (dsem 0 inb_S11_S1_0).sem)) 0 ∗ semVal ((c : Thread nD τ), (SemLoc.dma (dsem 1 inb_S11_S1_1).sem)) 0 ∗ semVal ((c : Thread nD τ), (SemLoc.dma (dsem 2 inb_S11_S1_2).sem)) 0 ∗ semVal ((c : Thread nD τ), (SemLoc.dma (dsem 3 inb_S11_S1_3).sem)) 0 ∗ semVal ((c : Thread nD τ), (SemLoc.dma (dsem 4 inb_S11_S1_4).sem)) 0 ∗ semVal ((c : Thread nD τ), (SemLoc.dma (dsem 5 inb_S11_S1_5).sem)) 0 ∗ semVal ((c : Thread nD τ), (SemLoc.dma (dsem 6 inb_S11_S1_6).sem)) 0 ∗ semVal ((c : Thread nD τ), (SemLoc.dma (dsem 7 inb_S11_S1_7).sem)) 0 ∗ semVal ((c : Thread nD τ), (SemLoc.dma (dsem 8 inb_S11_S1_8).sem)) 0 ∗ semVal ((c : Thread nD τ), (SemLoc.dma (dsem 9 inb_S11_S1_9).sem)) 0 ∗ semVal ((c : Thread nD τ), (SemLoc.dma (dsem 10 inb_S11_S1_10).sem)) 0) := by
  unfold Pipeline.ownSems0; rw [bigSep_fin25]
  rfl

/-- The region invariant, the same before and after the one point: the slots at rest, the two weight arrays' remaining
    shares, the scratch buffers at anything, the generator register. -/
def Φ (c : Dev nD) : sProp 𝕄 :=
  iprop(Idle c (V m c main_arg3) (V m c main_arg5) ∗ GRest c (V m c main_arg3) ∗ DRest c (V m c main_arg5)
    ∗ (∃ f : Buf (Elt F) (hM.view.loc (c : Thread nD τ)), (hM.view.loc (c : Thread nD τ) ↦[hM.view.set]{fullShare} f)) ∗ (∃ f : Buf (Elt F) (accM.view.loc (c : Thread nD τ)), (accM.view.loc (c : Thread nD τ) ↦[accM.view.set]{fullShare} f))
    ∗ (∃ f : Buf (Elt F) (combM.view.loc (c : Thread nD τ)), (combM.view.loc (c : Thread nD τ) ↦[combM.view.set]{fullShare} f)) ∗ (∃ f : Buf (Elt F) (listM.view.loc (c : Thread nD τ)), (listM.view.loc (c : Thread nD τ) ↦[listM.view.set]{fullShare} f)) ∗ ∃ r, prngReg c r)

/-- The two matrices left in main memory. -/
abbrev Hs : Finset (Ref sig .tc) := {main_arg3, main_arg5}
/-- Owning the two matrices, written out. -/
theorem bigSep_Hs (c : Dev nD) : (bigSep Hs fun b => (((c : Thread nD τ).loc b) ↦{fullShare} V m c b : sProp 𝕄))
    = iprop((((c : Thread nD τ).loc main_arg3) ↦{fullShare} V m c main_arg3) ∗ (((c : Thread nD τ).loc main_arg5) ↦{fullShare} V m c main_arg5)) := by
  unfold Hs
  rw [bigSep_insert (by decide), bigSep_singleton]; rfl

/-- The slots, the semaphores and the shares put together are the slots at rest. -/
theorem idle_intro (c : Dev nD) (XG XD) :
    iprop((bigSep Finset.univ fun b : Fin 14 => iprop(∃ f, ((c : Thread nD τ).loc cc0_scratch0) ↦[G14 b]{fullShare} f))
      ∗ (bigSep Finset.univ fun b : Fin 11 => iprop(∃ f, ((c : Thread nD τ).loc cc0_scratch1) ↦[D11 b]{fullShare} f))
      ∗ Pipeline.ownSems0 (Ix := Unit) (Name := ℕ) (U := UU nD τ) (Lvl := ℕ) (Val := Elt F) (τ := τ) osem c
      ∗ ((wguM.view.loc (c : Thread nD τ) ↦[Finset.univ]{Transfers.shareTokN fullShare 19} XG) ∗ (wguM.view.loc (c : Thread nD τ) ↦[Finset.univ]{Transfers.shareTokN fullShare 18} XG) ∗ (wguM.view.loc (c : Thread nD τ) ↦[Finset.univ]{Transfers.shareTokN fullShare 17} XG) ∗ (wguM.view.loc (c : Thread nD τ) ↦[Finset.univ]{Transfers.shareTokN fullShare 16} XG) ∗ (wguM.view.loc (c : Thread nD τ) ↦[Finset.univ]{Transfers.shareTokN fullShare 15} XG) ∗ (wguM.view.loc (c : Thread nD τ) ↦[Finset.univ]{Transfers.shareTokN fullShare 14} XG) ∗ (wguM.view.loc (c : Thread nD τ) ↦[Finset.univ]{Transfers.shareTokN fullShare 13} XG) ∗ (wguM.view.loc (c : Thread nD τ) ↦[Finset.univ]{Transfers.shareTokN fullShare 12} XG) ∗ (wguM.view.loc (c : Thread nD τ) ↦[Finset.univ]{Transfers.shareTokN fullShare 11} XG) ∗ (wguM.view.loc (c : Thread nD τ) ↦[Finset.univ]{Transfers.shareTokN fullShare 10} XG) ∗ (wguM.view.loc (c : Thread nD τ) ↦[Finset.univ]{Transfers.shareTokN fullShare 9} XG) ∗ (wguM.view.loc (c : Thread nD τ) ↦[Finset.univ]{Transfers.shareTokN fullShare 8} XG) ∗ (wguM.view.loc (c : Thread nD τ) ↦[Finset.univ]{Transfers.shareTokN fullShare 7} XG) ∗ (wguM.view.loc (c : Thread nD τ) ↦[Finset.univ]{Transfers.shareTokN fullShare 6} XG)) ∗ ((wdnM.view.loc (c : Thread nD τ) ↦[Finset.univ]{Transfers.shareTokN fullShare 30} XD) ∗ (wdnM.view.loc (c : Thread nD τ) ↦[Finset.univ]{Transfers.shareTokN fullShare 29} XD) ∗ (wdnM.view.loc (c : Thread nD τ) ↦[Finset.univ]{Transfers.shareTokN fullShare 28} XD) ∗ (wdnM.view.loc (c : Thread nD τ) ↦[Finset.univ]{Transfers.shareTokN fullShare 27} XD) ∗ (wdnM.view.loc (c : Thread nD τ) ↦[Finset.univ]{Transfers.shareTokN fullShare 26} XD) ∗ (wdnM.view.loc (c : Thread nD τ) ↦[Finset.univ]{Transfers.shareTokN fullShare 25} XD) ∗ (wdnM.view.loc (c : Thread nD τ) ↦[Finset.univ]{Transfers.shareTokN fullShare 24} XD) ∗ (wdnM.view.loc (c : Thread nD τ) ↦[Finset.univ]{Transfers.shareTokN fullShare 23} XD) ∗ (wdnM.view.loc (c : Thread nD τ) ↦[Finset.univ]{Transfers.shareTokN fullShare 22} XD) ∗ (wdnM.view.loc (c : Thread nD τ) ↦[Finset.univ]{Transfers.shareTokN fullShare 21} XD) ∗ (wdnM.view.loc (c : Thread nD τ) ↦[Finset.univ]{Transfers.shareTokN fullShare 20} XD))) ⊢ (Idle c XG XD : sProp 𝕄) := by
  rw [bigSep_fin14, bigSep_fin11, ownSems0_eq]
  unfold Idle gIdle dIdle
  iintro ⟨⟨⟨%fg0, Hg0⟩, ⟨%fg1, Hg1⟩, ⟨%fg2, Hg2⟩, ⟨%fg3, Hg3⟩, ⟨%fg4, Hg4⟩, ⟨%fg5, Hg5⟩, ⟨%fg6, Hg6⟩, ⟨%fg7, Hg7⟩, ⟨%fg8, Hg8⟩, ⟨%fg9, Hg9⟩, ⟨%fg10, Hg10⟩, ⟨%fg11, Hg11⟩, ⟨%fg12, Hg12⟩, ⟨%fg13, Hg13⟩⟩, ⟨⟨%fd0, Hd0⟩, ⟨%fd1, Hd1⟩, ⟨%fd2, Hd2⟩, ⟨%fd3, Hd3⟩, ⟨%fd4, Hd4⟩, ⟨%fd5, Hd5⟩, ⟨%fd6, Hd6⟩, ⟨%fd7, Hd7⟩, ⟨%fd8, Hd8⟩, ⟨%fd9, Hd9⟩, ⟨%fd10, Hd10⟩⟩, ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24⟩, ⟨Ht19, Ht18, Ht17, Ht16, Ht15, Ht14, Ht13, Ht12, Ht11, Ht10, Ht9, Ht8, Ht7, Ht6⟩, ⟨Hu30, Hu29, Hu28, Hu27, Hu26, Hu25, Hu24, Hu23, Hu22, Hu21, Hu20⟩⟩
  isplitl [Hg0 Hc0 Ht6]
  · iexists fg0; isplitl [Hg0]; · iapply (entails_of_eq (gslot_eq c 0 fg0).symm); iexact Hg0
    isplitl [Hc0]; · iexact Hc0
    iexact Ht6
  isplitl [Hg1 Hc1 Ht7]
  · iexists fg1; isplitl [Hg1]; · iapply (entails_of_eq (gslot_eq c 1 fg1).symm); iexact Hg1
    isplitl [Hc1]; · iexact Hc1
    iexact Ht7
  isplitl [Hg2 Hc2 Ht8]
  · iexists fg2; isplitl [Hg2]; · iapply (entails_of_eq (gslot_eq c 2 fg2).symm); iexact Hg2
    isplitl [Hc2]; · iexact Hc2
    iexact Ht8
  isplitl [Hg3 Hc3 Ht9]
  · iexists fg3; isplitl [Hg3]; · iapply (entails_of_eq (gslot_eq c 3 fg3).symm); iexact Hg3
    isplitl [Hc3]; · iexact Hc3
    iexact Ht9
  isplitl [Hg4 Hc4 Ht10]
  · iexists fg4; isplitl [Hg4]; · iapply (entails_of_eq (gslot_eq c 4 fg4).symm); iexact Hg4
    isplitl [Hc4]; · iexact Hc4
    iexact Ht10
  isplitl [Hg5 Hc5 Ht11]
  · iexists fg5; isplitl [Hg5]; · iapply (entails_of_eq (gslot_eq c 5 fg5).symm); iexact Hg5
    isplitl [Hc5]; · iexact Hc5
    iexact Ht11
  isplitl [Hg6 Hc6 Ht12]
  · iexists fg6; isplitl [Hg6]; · iapply (entails_of_eq (gslot_eq c 6 fg6).symm); iexact Hg6
    isplitl [Hc6]; · iexact Hc6
    iexact Ht12
  isplitl [Hg7 Hc7 Ht13]
  · iexists fg7; isplitl [Hg7]; · iapply (entails_of_eq (gslot_eq c 7 fg7).symm); iexact Hg7
    isplitl [Hc7]; · iexact Hc7
    iexact Ht13
  isplitl [Hg8 Hc8 Ht14]
  · iexists fg8; isplitl [Hg8]; · iapply (entails_of_eq (gslot_eq c 8 fg8).symm); iexact Hg8
    isplitl [Hc8]; · iexact Hc8
    iexact Ht14
  isplitl [Hg9 Hc9 Ht15]
  · iexists fg9; isplitl [Hg9]; · iapply (entails_of_eq (gslot_eq c 9 fg9).symm); iexact Hg9
    isplitl [Hc9]; · iexact Hc9
    iexact Ht15
  isplitl [Hg10 Hc10 Ht16]
  · iexists fg10; isplitl [Hg10]; · iapply (entails_of_eq (gslot_eq c 10 fg10).symm); iexact Hg10
    isplitl [Hc10]; · iexact Hc10
    iexact Ht16
  isplitl [Hg11 Hc11 Ht17]
  · iexists fg11; isplitl [Hg11]; · iapply (entails_of_eq (gslot_eq c 11 fg11).symm); iexact Hg11
    isplitl [Hc11]; · iexact Hc11
    iexact Ht17
  isplitl [Hg12 Hc12 Ht18]
  · iexists fg12; isplitl [Hg12]; · iapply (entails_of_eq (gslot_eq c 12 fg12).symm); iexact Hg12
    isplitl [Hc12]; · iexact Hc12
    iexact Ht18
  isplitl [Hg13 Hc13 Ht19]
  · iexists fg13; isplitl [Hg13]; · iapply (entails_of_eq (gslot_eq c 13 fg13).symm); iexact Hg13
    isplitl [Hc13]; · iexact Hc13
    iexact Ht19
  isplitl [Hd0 Hc14 Hu20]
  · iexists fd0; isplitl [Hd0]; · iapply (entails_of_eq (dslot_eq c 0 fd0).symm); iexact Hd0
    isplitl [Hc14]; · iexact Hc14
    iexact Hu20
  isplitl [Hd1 Hc15 Hu21]
  · iexists fd1; isplitl [Hd1]; · iapply (entails_of_eq (dslot_eq c 1 fd1).symm); iexact Hd1
    isplitl [Hc15]; · iexact Hc15
    iexact Hu21
  isplitl [Hd2 Hc16 Hu22]
  · iexists fd2; isplitl [Hd2]; · iapply (entails_of_eq (dslot_eq c 2 fd2).symm); iexact Hd2
    isplitl [Hc16]; · iexact Hc16
    iexact Hu22
  isplitl [Hd3 Hc17 Hu23]
  · iexists fd3; isplitl [Hd3]; · iapply (entails_of_eq (dslot_eq c 3 fd3).symm); iexact Hd3
    isplitl [Hc17]; · iexact Hc17
    iexact Hu23
  isplitl [Hd4 Hc18 Hu24]
  · iexists fd4; isplitl [Hd4]; · iapply (entails_of_eq (dslot_eq c 4 fd4).symm); iexact Hd4
    isplitl [Hc18]; · iexact Hc18
    iexact Hu24
  isplitl [Hd5 Hc19 Hu25]
  · iexists fd5; isplitl [Hd5]; · iapply (entails_of_eq (dslot_eq c 5 fd5).symm); iexact Hd5
    isplitl [Hc19]; · iexact Hc19
    iexact Hu25
  isplitl [Hd6 Hc20 Hu26]
  · iexists fd6; isplitl [Hd6]; · iapply (entails_of_eq (dslot_eq c 6 fd6).symm); iexact Hd6
    isplitl [Hc20]; · iexact Hc20
    iexact Hu26
  isplitl [Hd7 Hc21 Hu27]
  · iexists fd7; isplitl [Hd7]; · iapply (entails_of_eq (dslot_eq c 7 fd7).symm); iexact Hd7
    isplitl [Hc21]; · iexact Hc21
    iexact Hu27
  isplitl [Hd8 Hc22 Hu28]
  · iexists fd8; isplitl [Hd8]; · iapply (entails_of_eq (dslot_eq c 8 fd8).symm); iexact Hd8
    isplitl [Hc22]; · iexact Hc22
    iexact Hu28
  isplitl [Hd9 Hc23 Hu29]
  · iexists fd9; isplitl [Hd9]; · iapply (entails_of_eq (dslot_eq c 9 fd9).symm); iexact Hd9
    isplitl [Hc23]; · iexact Hc23
    iexact Hu29
  iexists fd10; isplitl [Hd10]; · iapply (entails_of_eq (dslot_eq c 10 fd10).symm); iexact Hd10
  isplitl [Hc24]; · iexact Hc24
  iexact Hu30

/-- and back. -/
theorem idle_elim (c : Dev nD) (XG XD) : (Idle c XG XD : sProp 𝕄) ⊢
    iprop((bigSep Finset.univ fun b : Fin 14 => iprop(∃ f, ((c : Thread nD τ).loc cc0_scratch0) ↦[G14 b]{fullShare} f))
      ∗ (bigSep Finset.univ fun b : Fin 11 => iprop(∃ f, ((c : Thread nD τ).loc cc0_scratch1) ↦[D11 b]{fullShare} f))
      ∗ Pipeline.ownSems0 (Ix := Unit) (Name := ℕ) (U := UU nD τ) (Lvl := ℕ) (Val := Elt F) (τ := τ) osem c
      ∗ ((wguM.view.loc (c : Thread nD τ) ↦[Finset.univ]{Transfers.shareTokN fullShare 19} XG) ∗ (wguM.view.loc (c : Thread nD τ) ↦[Finset.univ]{Transfers.shareTokN fullShare 18} XG) ∗ (wguM.view.loc (c : Thread nD τ) ↦[Finset.univ]{Transfers.shareTokN fullShare 17} XG) ∗ (wguM.view.loc (c : Thread nD τ) ↦[Finset.univ]{Transfers.shareTokN fullShare 16} XG) ∗ (wguM.view.loc (c : Thread nD τ) ↦[Finset.univ]{Transfers.shareTokN fullShare 15} XG) ∗ (wguM.view.loc (c : Thread nD τ) ↦[Finset.univ]{Transfers.shareTokN fullShare 14} XG) ∗ (wguM.view.loc (c : Thread nD τ) ↦[Finset.univ]{Transfers.shareTokN fullShare 13} XG) ∗ (wguM.view.loc (c : Thread nD τ) ↦[Finset.univ]{Transfers.shareTokN fullShare 12} XG) ∗ (wguM.view.loc (c : Thread nD τ) ↦[Finset.univ]{Transfers.shareTokN fullShare 11} XG) ∗ (wguM.view.loc (c : Thread nD τ) ↦[Finset.univ]{Transfers.shareTokN fullShare 10} XG) ∗ (wguM.view.loc (c : Thread nD τ) ↦[Finset.univ]{Transfers.shareTokN fullShare 9} XG) ∗ (wguM.view.loc (c : Thread nD τ) ↦[Finset.univ]{Transfers.shareTokN fullShare 8} XG) ∗ (wguM.view.loc (c : Thread nD τ) ↦[Finset.univ]{Transfers.shareTokN fullShare 7} XG) ∗ (wguM.view.loc (c : Thread nD τ) ↦[Finset.univ]{Transfers.shareTokN fullShare 6} XG)) ∗ ((wdnM.view.loc (c : Thread nD τ) ↦[Finset.univ]{Transfers.shareTokN fullShare 30} XD) ∗ (wdnM.view.loc (c : Thread nD τ) ↦[Finset.univ]{Transfers.shareTokN fullShare 29} XD) ∗ (wdnM.view.loc (c : Thread nD τ) ↦[Finset.univ]{Transfers.shareTokN fullShare 28} XD) ∗ (wdnM.view.loc (c : Thread nD τ) ↦[Finset.univ]{Transfers.shareTokN fullShare 27} XD) ∗ (wdnM.view.loc (c : Thread nD τ) ↦[Finset.univ]{Transfers.shareTokN fullShare 26} XD) ∗ (wdnM.view.loc (c : Thread nD τ) ↦[Finset.univ]{Transfers.shareTokN fullShare 25} XD) ∗ (wdnM.view.loc (c : Thread nD τ) ↦[Finset.univ]{Transfers.shareTokN fullShare 24} XD) ∗ (wdnM.view.loc (c : Thread nD τ) ↦[Finset.univ]{Transfers.shareTokN fullShare 23} XD) ∗ (wdnM.view.loc (c : Thread nD τ) ↦[Finset.univ]{Transfers.shareTokN fullShare 22} XD) ∗ (wdnM.view.loc (c : Thread nD τ) ↦[Finset.univ]{Transfers.shareTokN fullShare 21} XD) ∗ (wdnM.view.loc (c : Thread nD τ) ↦[Finset.univ]{Transfers.shareTokN fullShare 20} XD))) := by
  rw [bigSep_fin14, bigSep_fin11, ownSems0_eq]
  unfold Idle gIdle dIdle
  iintro ⟨⟨%fg0, Hg0, Hc0, Ht6⟩, ⟨%fg1, Hg1, Hc1, Ht7⟩, ⟨%fg2, Hg2, Hc2, Ht8⟩, ⟨%fg3, Hg3, Hc3, Ht9⟩, ⟨%fg4, Hg4, Hc4, Ht10⟩, ⟨%fg5, Hg5, Hc5, Ht11⟩, ⟨%fg6, Hg6, Hc6, Ht12⟩, ⟨%fg7, Hg7, Hc7, Ht13⟩, ⟨%fg8, Hg8, Hc8, Ht14⟩, ⟨%fg9, Hg9, Hc9, Ht15⟩, ⟨%fg10, Hg10, Hc10, Ht16⟩, ⟨%fg11, Hg11, Hc11, Ht17⟩, ⟨%fg12, Hg12, Hc12, Ht18⟩, ⟨%fg13, Hg13, Hc13, Ht19⟩, ⟨%fd0, Hd0, Hc14, Hu20⟩, ⟨%fd1, Hd1, Hc15, Hu21⟩, ⟨%fd2, Hd2, Hc16, Hu22⟩, ⟨%fd3, Hd3, Hc17, Hu23⟩, ⟨%fd4, Hd4, Hc18, Hu24⟩, ⟨%fd5, Hd5, Hc19, Hu25⟩, ⟨%fd6, Hd6, Hc20, Hu26⟩, ⟨%fd7, Hd7, Hc21, Hu27⟩, ⟨%fd8, Hd8, Hc22, Hu28⟩, ⟨%fd9, Hd9, Hc23, Hu29⟩, ⟨%fd10, Hd10, Hc24, Hu30⟩⟩
  isplitl [Hg0 Hg1 Hg2 Hg3 Hg4 Hg5 Hg6 Hg7 Hg8 Hg9 Hg10 Hg11 Hg12 Hg13]
  · isplitl [Hg0]; · iexists fg0; iapply (entails_of_eq (gslot_eq c 0 fg0)); iexact Hg0
    isplitl [Hg1]; · iexists fg1; iapply (entails_of_eq (gslot_eq c 1 fg1)); iexact Hg1
    isplitl [Hg2]; · iexists fg2; iapply (entails_of_eq (gslot_eq c 2 fg2)); iexact Hg2
    isplitl [Hg3]; · iexists fg3; iapply (entails_of_eq (gslot_eq c 3 fg3)); iexact Hg3
    isplitl [Hg4]; · iexists fg4; iapply (entails_of_eq (gslot_eq c 4 fg4)); iexact Hg4
    isplitl [Hg5]; · iexists fg5; iapply (entails_of_eq (gslot_eq c 5 fg5)); iexact Hg5
    isplitl [Hg6]; · iexists fg6; iapply (entails_of_eq (gslot_eq c 6 fg6)); iexact Hg6
    isplitl [Hg7]; · iexists fg7; iapply (entails_of_eq (gslot_eq c 7 fg7)); iexact Hg7
    isplitl [Hg8]; · iexists fg8; iapply (entails_of_eq (gslot_eq c 8 fg8)); iexact Hg8
    isplitl [Hg9]; · iexists fg9; iapply (entails_of_eq (gslot_eq c 9 fg9)); iexact Hg9
    isplitl [Hg10]; · iexists fg10; iapply (entails_of_eq (gslot_eq c 10 fg10)); iexact Hg10
    isplitl [Hg11]; · iexists fg11; iapply (entails_of_eq (gslot_eq c 11 fg11)); iexact Hg11
    isplitl [Hg12]; · iexists fg12; iapply (entails_of_eq (gslot_eq c 12 fg12)); iexact Hg12
    iexists fg13; iapply (entails_of_eq (gslot_eq c 13 fg13)); iexact Hg13
  isplitl [Hd0 Hd1 Hd2 Hd3 Hd4 Hd5 Hd6 Hd7 Hd8 Hd9 Hd10]
  · isplitl [Hd0]; · iexists fd0; iapply (entails_of_eq (dslot_eq c 0 fd0)); iexact Hd0
    isplitl [Hd1]; · iexists fd1; iapply (entails_of_eq (dslot_eq c 1 fd1)); iexact Hd1
    isplitl [Hd2]; · iexists fd2; iapply (entails_of_eq (dslot_eq c 2 fd2)); iexact Hd2
    isplitl [Hd3]; · iexists fd3; iapply (entails_of_eq (dslot_eq c 3 fd3)); iexact Hd3
    isplitl [Hd4]; · iexists fd4; iapply (entails_of_eq (dslot_eq c 4 fd4)); iexact Hd4
    isplitl [Hd5]; · iexists fd5; iapply (entails_of_eq (dslot_eq c 5 fd5)); iexact Hd5
    isplitl [Hd6]; · iexists fd6; iapply (entails_of_eq (dslot_eq c 6 fd6)); iexact Hd6
    isplitl [Hd7]; · iexists fd7; iapply (entails_of_eq (dslot_eq c 7 fd7)); iexact Hd7
    isplitl [Hd8]; · iexists fd8; iapply (entails_of_eq (dslot_eq c 8 fd8)); iexact Hd8
    isplitl [Hd9]; · iexists fd9; iapply (entails_of_eq (dslot_eq c 9 fd9)); iexact Hd9
    iexists fd10; iapply (entails_of_eq (dslot_eq c 10 fd10)); iexact Hd10
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    iexact Hc24
  isplitl [Ht19 Ht18 Ht17 Ht16 Ht15 Ht14 Ht13 Ht12 Ht11 Ht10 Ht9 Ht8 Ht7 Ht6]
  · isplitl [Ht19]; · iexact Ht19
    isplitl [Ht18]; · iexact Ht18
    isplitl [Ht17]; · iexact Ht17
    isplitl [Ht16]; · iexact Ht16
    isplitl [Ht15]; · iexact Ht15
    isplitl [Ht14]; · iexact Ht14
    isplitl [Ht13]; · iexact Ht13
    isplitl [Ht12]; · iexact Ht12
    isplitl [Ht11]; · iexact Ht11
    isplitl [Ht10]; · iexact Ht10
    isplitl [Ht9]; · iexact Ht9
    isplitl [Ht8]; · iexact Ht8
    isplitl [Ht7]; · iexact Ht7
    iexact Ht6
  isplitl [Hu30]; · iexact Hu30
  isplitl [Hu29]; · iexact Hu29
  isplitl [Hu28]; · iexact Hu28
  isplitl [Hu27]; · iexact Hu27
  isplitl [Hu26]; · iexact Hu26
  isplitl [Hu25]; · iexact Hu25
  isplitl [Hu24]; · iexact Hu24
  isplitl [Hu23]; · iexact Hu23
  isplitl [Hu22]; · iexact Hu22
  isplitl [Hu21]; · iexact Hu21
  iexact Hu20

end Cert.Proof.Run
end
-- ==== Proof.Obligation.lean ====
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Transfers
public import Idealize.ShloMosaic.Lib.Pipeline.KitQuiescent
public import Idealize.ShloMosaic.Lib.Tactic
public import proofs.«01_k».proof.Proof.Gen.Kernel.Frame
public import proofs.«01_k».proof.Proof.Regions
@[expose] public section

set_option maxRecDepth 16384

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UU nD τ) ℕ
variable (m : (ℓ : Loc nD τ sig) → Buf (Elt F) ℓ) (ρ : Dev nD → PrngReg)

/-! ## The pipeline's proof data -/

/-- The buffer that stages this window at a grid point. -/
abbrev st0 (t : Fin cfg0.N) : Memref sig .tc .vmem S128x2 .i32 := win0_0.stage (cfg0.slots t 0)
/-- The buffer that stages this window at a grid point. -/
abbrev st1 (t : Fin cfg0.N) : Memref sig .tc .vmem S128x2 .f32 := win0_1.stage (cfg0.slots t 1)
/-- The buffer that stages this window at a grid point. -/
abbrev st2 (t : Fin cfg0.N) : Memref sig .tc .vmem S128x2816 .bf16 := win0_2.stage (cfg0.slots t 2)
/-- The buffer that stages this window at a grid point. -/
abbrev st3 (t : Fin cfg0.N) : Memref sig .tc .vmem S8x7168 .f32 := win0_3.stage (cfg0.slots t 3)
/-- The buffer that stages this window at a grid point. -/
abbrev st4 (t : Fin cfg0.N) : Memref sig .tc .vmem S8x2816 .f32 := win0_4.stage (cfg0.slots t 4)
/-- The buffer that stages this window at a grid point. -/
abbrev st5 (t : Fin cfg0.N) : Memref sig .tc .vmem S128x2816 .bf16 := win0_5.stage (cfg0.slots t 5)

/-- The precondition as the proof uses it: on every core the word of members, as the body computes it from the ids'
    staging buffer, has a bit among its first eight set. -/
def PreOK : Prop := ∀ (c : Dev nD) (t : Fin cfg0.N), 0 < nOf (mword c (st0 t) ((st0 t).view.rep (iblk m c 0 t)))

/-- What the body stores, from the blocks of the input windows. -/
def outAt (c : Dev nD) (t : Fin cfg0.N) : Vec F S128x2816 .bf16 :=
  outV c (V m c main_arg3) (V m c main_arg5) (st0 t) (st1 t) (st2 t) (st3 t) (st4 t) ((st0 t).view.rep (iblk m c 0 t)) ((st1 t).view.rep (iblk m c 1 t)) ((st2 t).view.rep (iblk m c 2 t)) ((st3 t).view.rep (iblk m c 3 t)) ((st4 t).view.rep (iblk m c 4 t))

/-- The launch's proof data: every input window keeps its block, the output window gets what the body stores. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Φ m c
  q _ := fullShare
  owed _ := 0

/-- The output window holds what the body stores. -/
theorem after_w5 (c : Dev nD) (t : Fin cfg0.N) : (dats m 0 c).after 5 t = outAt m c t := by dsimp only [dats]
/-- An input window still holds its block after the body. -/
theorem after_w0 (c : Dev nD) (t : Fin cfg0.N) : (dats m 0 c).after 0 t = iblk m c 0 t := by dsimp only [dats]
/-- An input window holds its block before the body. -/
theorem before_w0 (c : Dev nD) (t : Fin cfg0.N) (d) : (dats m 0 c).before 0 t d = iblk m c 0 t := by
  refine ((dats m 0 c).before_in_eq_fetched 0 rfl (fun _ => rfl) (fun _ _ _ => rfl) (fun t => by rw [after_w0]; unfold Dat.blockOf iblk; rfl) t d).trans ?_
  unfold Dat.fetched Dat.blockOf iblk; rfl
/-- An input window still holds its block after the body. -/
theorem after_w1 (c : Dev nD) (t : Fin cfg0.N) : (dats m 0 c).after 1 t = iblk m c 1 t := by dsimp only [dats]
/-- An input window holds its block before the body. -/
theorem before_w1 (c : Dev nD) (t : Fin cfg0.N) (d) : (dats m 0 c).before 1 t d = iblk m c 1 t := by
  refine ((dats m 0 c).before_in_eq_fetched 1 rfl (fun _ => rfl) (fun _ _ _ => rfl) (fun t => by rw [after_w1]; unfold Dat.blockOf iblk; rfl) t d).trans ?_
  unfold Dat.fetched Dat.blockOf iblk; rfl
/-- An input window still holds its block after the body. -/
theorem after_w2 (c : Dev nD) (t : Fin cfg0.N) : (dats m 0 c).after 2 t = iblk m c 2 t := by dsimp only [dats]
/-- An input window holds its block before the body. -/
theorem before_w2 (c : Dev nD) (t : Fin cfg0.N) (d) : (dats m 0 c).before 2 t d = iblk m c 2 t := by
  refine ((dats m 0 c).before_in_eq_fetched 2 rfl (fun _ => rfl) (fun _ _ _ => rfl) (fun t => by rw [after_w2]; unfold Dat.blockOf iblk; rfl) t d).trans ?_
  unfold Dat.fetched Dat.blockOf iblk; rfl
/-- An input window still holds its block after the body. -/
theorem after_w3 (c : Dev nD) (t : Fin cfg0.N) : (dats m 0 c).after 3 t = iblk m c 3 t := by dsimp only [dats]
/-- An input window holds its block before the body. -/
theorem before_w3 (c : Dev nD) (t : Fin cfg0.N) (d) : (dats m 0 c).before 3 t d = iblk m c 3 t := by
  refine ((dats m 0 c).before_in_eq_fetched 3 rfl (fun _ => rfl) (fun _ _ _ => rfl) (fun t => by rw [after_w3]; unfold Dat.blockOf iblk; rfl) t d).trans ?_
  unfold Dat.fetched Dat.blockOf iblk; rfl
/-- An input window still holds its block after the body. -/
theorem after_w4 (c : Dev nD) (t : Fin cfg0.N) : (dats m 0 c).after 4 t = iblk m c 4 t := by dsimp only [dats]
/-- An input window holds its block before the body. -/
theorem before_w4 (c : Dev nD) (t : Fin cfg0.N) (d) : (dats m 0 c).before 4 t d = iblk m c 4 t := by
  refine ((dats m 0 c).before_in_eq_fetched 4 rfl (fun _ => rfl) (fun _ _ _ => rfl) (fun t => by rw [after_w4]; unfold Dat.blockOf iblk; rfl) t d).trans ?_
  unfold Dat.fetched Dat.blockOf iblk; rfl

/-! ## The body obligation -/

/-- The body is defined on the TensorCore. -/
theorem defs_tc : (defs₀ (F := F)) .tc cfg0.body
    = fun a => cc0_moe_swiglu (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) wguM (Memref.isWhole_whole _) wdnM (Memref.isWhole_whole _) (win0_5.stage (a.2 5)) (hstage0_5 0) guM (Memref.isWhole_whole _) dnM (Memref.isWhole_whole _) hM (Memref.isWhole_whole _) accM (Memref.isWhole_whole _) combM (Memref.isWhole_whole _) listM (Memref.isWhole_whole _) cc0_scratch6 cc0_scratch7 := by
  unfold defs₀; rw [Defs.onTc_tc]
/-- The body's name at a grid point unfolds to the kernel's text. -/
theorem prog_eq (t : Fin cfg0.N) : (defs₀ (F := F)) .tc cfg0.body (cfg0.bodyArgs t (cfg0.slots t)) = cc0_moe_swiglu (F := F) (st0 t) (hstage0_0 0) (st1 t) (hstage0_1 0) (st2 t) (hstage0_2 0) (st3 t) (hstage0_3 0) (st4 t) (hstage0_4 0) wguM (Memref.isWhole_whole _) wdnM (Memref.isWhole_whole _) (st5 t) (hstage0_5 0) guM (Memref.isWhole_whole _) dnM (Memref.isWhole_whole _) hM (Memref.isWhole_whole _) accM (Memref.isWhole_whole _) combM (Memref.isWhole_whole _) listM (Memref.isWhole_whole _) cc0_scratch6 cc0_scratch7 :=
  (congrFun defs_tc _).trans rfl

set_option maxHeartbeats 4000000 in
set_option backward.isDefEq.respectTransparency.types false in
/-- The body at every grid point: from the blocks and the resources of the launch to what the kernel stores. -/
theorem body_obligation (h : PreOK m) (c : Dev nD) : Pipeline.BodyObligationLoose (dats (F := F) m 0 c) (defs₀ (F := F)) 𝒱₀ () Set.univ := fun t => by
  rw [bigSep_W0, bigSep_W0]
  dsimp only
  simp only [Bool.false_eq_true, if_false, after_w5, before_w0, after_w0, before_w1, after_w1, before_w2, after_w2, before_w3, after_w3, before_w4, after_w4]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HI, HGR, HDR, Hh, Ha, Hc, Hl, Hρ⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, -, H5⟩⟩
  ihave H0 := (pointsTo_rep_entails (c : Thread nD τ) (st0 t) g0 fullShare) $$ H0
  rw [hg0]
  ihave H1 := (pointsTo_rep_entails (c : Thread nD τ) (st1 t) g1 fullShare) $$ H1
  rw [hg1]
  ihave H2 := (pointsTo_rep_entails (c : Thread nD τ) (st2 t) g2 fullShare) $$ H2
  rw [hg2]
  ihave H3 := (pointsTo_rep_entails (c : Thread nD τ) (st3 t) g3 fullShare) $$ H3
  rw [hg3]
  ihave H4 := (pointsTo_rep_entails (c : Thread nD τ) (st4 t) g4 fullShare) $$ H4
  rw [hg4]
  sl_rw [prog_eq t]
  iapply ((sep_mono_left (body_run c (V m c main_arg3) (V m c main_arg5) (st0 t) (hstage0_0 0) (st1 t) (hstage0_1 0) (st2 t) (hstage0_2 0) (st3 t) (hstage0_3 0) (st4 t) (hstage0_4 0) (st5 t) (hstage0_5 0) ((st0 t).view.rep (iblk m c 0 t)) ((st1 t).view.rep (iblk m c 1 t)) ((st2 t).view.rep (iblk m c 2 t)) ((st3 t).view.rep (iblk m c 3 t)) ((st4 t).view.rep (iblk m c 4 t)) g5 (h c t))).trans (wp_wand_r _ _ _))
  isplitl [H0 H1 H2 H3 H4 H5 HI Hh Ha Hc Hl HW]
  · isplitl [H0]; · iexact H0
    isplitl [H1]; · iexact H1
    isplitl [H2]; · iexact H2
    isplitl [H3]; · iexact H3
    isplitl [H4]; · iexact H4
    isplitl [H5]; · iexact H5
    isplitl [HI]; · iexact HI
    isplitl [Hh]; · iexact Hh
    isplitl [Ha]; · iexact Ha
    isplitl [Hc]; · iexact Hc
    isplitl [Hl]; · iexact Hl
    iexists W; iexact HW
  · iintro %_a ⟨H0, H1, H2, H3, H4, ⟨%fo', %ho, H5⟩, HI, Hh, Ha, Hc, Hl, ⟨%W', HW⟩⟩
    isplitl [HI HGR HDR Hh Ha Hc Hl Hρ]
    · isplitl [HI]; · iexact HI
      isplitl [HGR]; · iexact HGR
      isplitl [HDR]; · iexact HDR
      isplitl [Hh]; · iexact Hh
      isplitl [Ha]; · iexact Ha
      isplitl [Hc]; · iexact Hc
      isplitl [Hl]; · iexact Hl
      iexact Hρ
    isplitl [HW]
    · iexists W'; isplitr; · ipureintro; exact fun _ _ => Or.inl trivial
      iexact HW
    isplitl [H0]; · (iexists _; isplitr; (· ipureintro; exact View.read_rep _ _); iexact H0)
    isplitl [H1]; · (iexists _; isplitr; (· ipureintro; exact View.read_rep _ _); iexact H1)
    isplitl [H2]; · (iexists _; isplitr; (· ipureintro; exact View.read_rep _ _); iexact H2)
    isplitl [H3]; · (iexists _; isplitr; (· ipureintro; exact View.read_rep _ _); iexact H3)
    isplitl [H4]; · (iexists _; isplitr; (· ipureintro; exact View.read_rep _ _); iexact H4)
    iexists fo'; isplitr; swap; · iexact H5
    ipureintro; exact ho

end Cert.Proof.Run
end
-- ==== Proof.Launch.lean ====
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Transfers
public import Idealize.ShloMosaic.Lib.Pipeline.KitQuiescent
public import Idealize.ShloMosaic.Lib.Tactic
public import proofs.«01_k».proof.Proof.Gen.Kernel.Frame
public import proofs.«01_k».proof.Proof.Obligation
@[expose] public section

set_option maxRecDepth 16384

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UU nD τ) ℕ
variable (m : (ℓ : Loc nD τ sig) → Buf (Elt F) ℓ) (ρ : Dev nD → PrngReg)

/-! ## The run -/

/-- The lines after the call touch only buffers that are left to them. -/
theorem tail_sub : ∀ ops ∈ ([hostOps1] : List (List (HloOp τ sig (Elt F)))), ∀ op ∈ ops,
    op.bufs ⊆ Pipeline.tailRefsBut sig Pipeline.Prefetch.none spec0 Hs := by
  intro ops hops op hop
  simp only [List.mem_cons, List.mem_nil_iff, or_false] at hops
  rcases hops with rfl
  simp only [hostOps1, List.mem_cons, List.mem_nil_iff, or_false] at hop
  rcases hop with rfl
  intro b hb
  simp only [StableHlo.reshape_bufs, Finset.mem_insert, Finset.mem_singleton] at hb
  unfold Pipeline.tailRefsBut
  rcases hb with rfl | rfl
  · exact Finset.mem_map.mpr ⟨main_v3, by decide, rfl⟩
  · exact Finset.mem_map.mpr ⟨main_v4, by decide, rfl⟩
/-- The main function is the lines before the call, the call, and the lines after it. -/
theorem around : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the launch hands the body is what the body asks for. -/
theorem phi_in (c : Dev nD) : Pipeline.ΦD osem spec0 Hs (fun c b => V m c b) c ⊢ (Φ m c : sProp 𝕄) := by
  unfold Pipeline.ΦD Φ
  rw [scopedRest0_eq, bigSep_Hs]
  rw [← whole_eq c cc0_scratch2, ← whole_eq c cc0_scratch3, ← whole_eq c cc0_scratch4, ← whole_eq c cc0_scratch5]
  iintro ⟨⟨HG, HD, Hh, Ha, Hc, Hl⟩, Hρ, HS, H3, H5⟩
  ihave HG := (gbuf_split c) $$ HG
  ihave HD := (dbuf_split c) $$ HD
  ihave H3 := (gtoks c (V m c main_arg3)).1 $$ H3
  ihave H5 := (dtoks c (V m c main_arg5)).1 $$ H5
  icases H3 with ⟨H3, HGR⟩
  icases H5 with ⟨H5, HDR⟩
  isplitl [HG HD HS H3 H5]
  · iapply (idle_intro c (V m c main_arg3) (V m c main_arg5))
    isplitl [HG]; · iexact HG
    isplitl [HD]; · iexact HD
    isplitl [HS]; · iexact HS
    isplitl [H3]; · iexact H3
    iexact H5
  isplitl [HGR]; · iexact HGR
  isplitl [HDR]; · iexact HDR
  isplitl [Hh]; · iexact Hh
  isplitl [Ha]; · iexact Ha
  isplitl [Hc]; · iexact Hc
  isplitl [Hl]; · iexact Hl
  iexact Hρ
/-- What the body gives back is what the launch takes back. -/
theorem phi_out (c : Dev nD) : (Φ m c : sProp 𝕄) ⊢ Pipeline.ΦD osem spec0 Hs (fun c b => V m c b) c := by
  unfold Pipeline.ΦD Φ
  rw [scopedRest0_eq, bigSep_Hs]
  rw [← whole_eq c cc0_scratch2, ← whole_eq c cc0_scratch3, ← whole_eq c cc0_scratch4, ← whole_eq c cc0_scratch5]
  iintro ⟨HI, HGR, HDR, Hh, Ha, Hc, Hl, Hρ⟩
  ihave HI := (idle_elim c (V m c main_arg3) (V m c main_arg5)) $$ HI
  icases HI with ⟨HG, HD, HS, H3, H5⟩
  isplitl [HG HD Hh Ha Hc Hl]
  · isplitl [HG]; · iapply (gbuf_join c); iexact HG
    isplitl [HD]; · iapply (dbuf_join c); iexact HD
    isplitl [Hh]; · iexact Hh
    isplitl [Ha]; · iexact Ha
    isplitl [Hc]; · iexact Hc
    iexact Hl
  isplitl [Hρ]; · iexact Hρ
  isplitl [HS]; · iexact HS
  isplitl [H3 HGR]
  · iapply (gtoks c (V m c main_arg3)).2
    isplitl [H3]; · iexact H3
    iexact HGR
  iapply (dtoks c (V m c main_arg5)).2
  isplitl [H5]; · iexact H5
  iexact HDR

/-- A buffer that is neither the result nor an array of the pipeline ends as the kernel found it. -/
theorem tail_keeps (c : Dev nD) (b : Ref sig .tc) (hb : b ≠ main_v4) (hw : ∀ w, Pipeline.arrRef spec0 w ≠ b) :
    Pipeline.afterTail₀ cfgs (dats (F := F) m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b hw]

/-- The kernel's run at any float values: from any memory with every semaphore at zero whose ids name some expert,
    every fair run ends with the pipeline's arrays at what the proof data say, every other buffer as the host leaves it,
    and every semaphore at zero again. -/
theorem run_all (h : PreOK m) : θ_run defs (onTc (τ := τ) (main (F := F))) ⟨m, fun _ => 0, ρ⟩ (fun r =>
    Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem defs₀ 𝒱₀ ownSemFacts Hs
    (by decide) m ρ main (body_obligation m h) (fun c => (dats m 0 c).share_full fun _ => rfl) (fun _ _ => rfl)
    (V0 m) [hostOps1] tail_sub sfx_fresh sfx_keeps (around m) (fun _ _ => rfl) (phi_in m) (phi_out m) (Q' := _)

/-- The kernel's frame at any float values: from any memory with every semaphore at zero whose ids name some expert,
    every fair run ends, the arguments unchanged and every semaphore at zero again. -/
theorem run_frame (h : PreOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r hr => by
      refine ⟨fun c => ?_, hr.2⟩
      have hw := fun w => (hr.1 c).1 w
      have hb := (hr.1 c).2
      refine ⟨?_, ?_, ?_, ?_, ?_, ?_, ?_⟩
      · exact (hb main_arg0 (Pipeline.mem_restRefs_of main_arg0 (by decide) (by decide))).trans ((tail_keeps m c main_arg0 (by decide) (by decide)).trans (V_main_arg0 m c))
      · exact (hb main_arg1 (Pipeline.mem_restRefs_of main_arg1 (by decide) (by decide))).trans ((tail_keeps m c main_arg1 (by decide) (by decide)).trans (V_main_arg1 m c))
      · exact (hb main_arg2 (Pipeline.mem_restRefs_of main_arg2 (by decide) (by decide))).trans ((tail_keeps m c main_arg2 (by decide) (by decide)).trans (V_main_arg2 m c))
      · exact (hb main_arg3 (Pipeline.mem_restRefs_of main_arg3 (by decide) (by decide))).trans ((tail_keeps m c main_arg3 (by decide) (by decide)).trans (V_main_arg3 m c))
      · exact (hw 3).trans (((dats m 0 c).arrAt_in 3 rfl _).trans (V_main_arg4 m c))
      · exact (hb main_arg5 (Pipeline.mem_restRefs_of main_arg5 (by decide) (by decide))).trans ((tail_keeps m c main_arg5 (by decide) (by decide)).trans (V_main_arg5 m c))
      · exact (hw 4).trans (((dats m 0 c).arrAt_in 4 rfl _).trans (V_main_arg6 m c))) (run_all m ρ h)

end Cert.Proof.Run
end
-- ==== Proof.Start.lean ====
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Transfers
public import Idealize.ShloMosaic.Lib.Pipeline.KitQuiescent
public import Idealize.ShloMosaic.Lib.Tactic
public import proofs.«01_k».proof.Proof.Members
public import proofs.«01_k».proof.Proof.Launch
public import Idealize.ShloMosaic.Lib.ReduceAll
public import Idealize.ShloMosaic.Lib.Claim

@[expose] public section

set_option maxRecDepth 16384

noncomputable section

namespace Cert.Proof.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The array the region finds: the argument, reshaped. -/
theorem V_v0 (c : Dev nD) : V m c main_v0 = shapeCast S128x2 (m ((c : Thread nD τ).loc main_arg1)) shapeCasts_S128x1x2_S128x2 := by
  entry_read
  rfl

/-- The ids the region finds in the reshaped argument. -/
theorem iblk0_at (c : Dev nD) (t : Fin cfg0.N) (x : Fin 128) (k : Fin 2) :
    iblk m c 0 t (ix2 x k) = m ((c : Thread nD τ).loc main_arg1) (ix3 x 0 k) := by
  show V m c main_v0 _ = _
  rw [V_v0]
  refine shapeCast_apply _ _ _ (ix3 x 0 k) ?_
  rw [Shape.rowMajor_val_three, Shape.rowMajor_val_two]
  have e0 : ((((cfg0.win 0).rect t).emb (ix2 x k) : S128x2.Idx) 0).val = x.val := by
    show 0 + 1 * x.val = x.val
    omega
  have e1 : ((((cfg0.win 0).rect t).emb (ix2 x k) : S128x2.Idx) 1).val = k.val := by
    show 0 + 1 * k.val = k.val
    omega
  show (x.val * 1 + 0) * 2 + k.val = ((((cfg0.win 0).rect t).emb (ix2 x k) : S128x2.Idx) 0).val * 2 + ((((cfg0.win 0).rect t).emb (ix2 x k) : S128x2.Idx) 1).val
  rw [e0, e1]
  omega

/-- The ids the body reads are the ids of the argument. -/
theorem ids0_at (c : Dev nD) (t : Fin cfg0.N) (x : Fin 128) :
    ids0 c (st0 t) ((st0 t).view.rep (iblk m c 0 t)) (ix2 x 0) = m ((c : Thread nD τ).loc main_arg1) (ix3 x 0 0) := by
  show (st0 t).view.readAt (Elt F) _ _ _ = _
  rw [View.readAt_apply, View.read_rep, ← iblk0_at m c t x 0]
  refine congrArg (iblk m c 0 t) (funext fun a => ?_)
  fin_cases a
  · exact Fin.ext (by show 0 + 1 * x.val = x.val; omega)
  · rfl

/-- The second id of a token, read from the argument. -/
theorem ids1_at (c : Dev nD) (t : Fin cfg0.N) (x : Fin 128) :
    ids1 c (st0 t) ((st0 t).view.rep (iblk m c 0 t)) (ix2 x 0) = m ((c : Thread nD τ).loc main_arg1) (ix3 x 0 1) := by
  show (st0 t).view.readAt (Elt F) _ _ _ = _
  rw [View.readAt_apply, View.read_rep, ← iblk0_at m c t x 1]
  refine congrArg (iblk m c 0 t) (funext fun a => ?_)
  fin_cases a
  · exact Fin.ext (by show 0 + 1 * x.val = x.val; omega)
  · rfl

/-- Some id of the argument is the number of an expert. -/
def SomeExpert : Prop := ∀ c : Dev nD, ∃ (x : Fin 128) (k : Fin 2) (e : ℕ), e < 8 ∧ m ((c : Thread nD τ).loc main_arg1) (ix3 x 0 k) = BitVec.ofNat 32 e

/-- Then the word of members has a member. -/
theorem preOK_of (h : SomeExpert m) : PreOK m := by
  intro c t
  obtain ⟨x, k, e, he, h⟩ := h c
  refine nOf_memberWord_pos _ _ e he ⟨x, ?_⟩
  rw [ids0_at, ids1_at]
  fin_cases k
  · exact Or.inl h
  · exact Or.inr h

/-- A left fold by `or` over one-bit words that came out 1, started at 0, met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h | ⟨n, hn, h⟩
    · have hd : ∀ p q : BitVec 1, IntOp.ori p q = 1#1 → p = 1#1 ∨ q = 1#1 := by decide
      rcases hd _ _ h with h | h
      · exact Or.inl h
      · exact Or.inr ⟨a, List.mem_cons_self .., h⟩
    · exact Or.inr ⟨n, List.mem_cons_of_mem _ hn, h⟩

/-- A signed word that is at least 0 and below 8 is a number below 8. -/
theorem word_below (w : BitVec 32) (h : IntOp.andi (IntOp.cmpi .sge w 0#32) (IntOp.cmpi .slt w 8#32) = 1#1) : ∃ e, e < 8 ∧ w = BitVec.ofNat 32 e := by
  obtain ⟨h1, h2⟩ := IntOp.andi_eq_one.1 h
  have h1 : (BitVec.ofBool (BitVec.sle 0#32 w)) = 1#1 := h1
  have h2 : (BitVec.ofBool (BitVec.slt w 8#32)) = 1#1 := h2
  have hb : ∀ b : Bool, BitVec.ofBool b = 1#1 → b = true := by decide
  have h1 := hb _ h1
  have h2 := hb _ h2
  rw [BitVec.sle_eq_decide, decide_eq_true_eq] at h1
  rw [BitVec.slt_eq_decide, decide_eq_true_eq] at h2
  have e0 : (0#32 : BitVec 32).toInt = 0 := rfl
  have e8 : (8#32 : BitVec 32).toInt = 8 := rfl
  rw [e0] at h1
  rw [e8] at h2
  refine ⟨w.toNat, ?_, (BitVec.ofNat_toNat .. ▸ by simp)⟩
  have := BitVec.toInt_eq_toNat_cond w
  split at this <;> omega

/-- The precondition, read back. -/
theorem someExpert_of [Cert.Pre_some_expert.Facts]
    (h : ∀ c : Dev nD, Cert.Pre_some_expert.fn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = fun _ => 1#1) :
    SomeExpert m := by
  intro c
  have h := congrFun (h c) (fun a => a.elim0)
  unfold Cert.Pre_some_expert.fn at h
  dsimp only at h
  rw [Host.reduce_eq_foldl] at h
  rcases foldl_ori_eq_one _ _ _ h with h | ⟨i, -, h⟩
  · exact absurd (show (0#1 : BitVec 1) = 1#1 from h) (by decide)
  · obtain ⟨e, he, hw⟩ := word_below _ h
    refine ⟨i 0, i 2, e, he, ?_⟩
    rw [← hw]
    refine congrArg (m ((c : Thread nD τ).loc main_arg1)) (funext fun a => ?_)
    fin_cases a
    · rfl
    · exact Subsingleton.elim (α := Fin 1) _ _
    · rfl

end Cert.Proof.Run
-- ==== Proof.IdealSlots.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Transfers
public import Idealize.ShloMosaic.Lib.Pipeline.KitQuiescent
public import Idealize.ShloMosaic.Lib.Tactic

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

/-! ## The resource algebra -/

/-- The pipeline library's resources beside the counters the kernel's own transfers ride on. -/
abbrev UU (nD : Nat) (τ : Topo) : Type := UR sig nD τ × Counters
local notation "𝕄" => MT nD τ sig Unit (Elt F) ℕ (UU nD τ) ℕ
/-- The pipeline's resources within the proof's. -/
abbrev EP : Emb (UR sig nD τ) (MT nD τ sig Unit (Elt F) ℕ (UU nD τ) ℕ) := embL
/-- No loop variants are needed. -/
abbrev 𝒱₀ : Variants := Variants.none

omit [FloatOps F] in
/-- Equal propositions entail each other. -/
theorem entails_of_eq {P Q : sProp 𝕄} (e : P = Q) : P ⊢ Q := e ▸ .rfl

/-! ## The kernel's buffers -/

/-- The gate and up matrices in main memory. -/
abbrev wguM : Memref sig .tc .hbm S8x7168x2816 .fp8e4m3 := Memref.whole main_arg3
/-- The down matrices in main memory. -/
abbrev wdnM : Memref sig .tc .hbm S8x2816x3584 .fp8e4m3 := Memref.whole main_arg5
/-- The buffer of the gate and up slots. -/
abbrev guM : Memref sig .tc .vmem S7x2x512x2816 .fp8e4m3 := Memref.whole cc0_scratch0
/-- The buffer of the down slots. -/
abbrev dnM : Memref sig .tc .vmem S11x256x3584 .fp8e4m3 := Memref.whole cc0_scratch1
/-- The buffer of the hidden values. -/
abbrev hM : Memref sig .tc .vmem S128x3584 .bf16 := Memref.whole cc0_scratch2
/-- The accumulator. -/
abbrev accM : Memref sig .tc .vmem S128x2816 .f32 := Memref.whole cc0_scratch3
/-- The buffer of the lanes' weights and hits. -/
abbrev combM : Memref sig .tc .vmem S2x128x128 .f32 := Memref.whole cc0_scratch4
/-- The list of experts. -/
abbrev listM : Memref sig .tc .smem S8 .i32 := Memref.whole cc0_scratch5

/-- Slot `(j, h)` of the gate/up buffer, as the body slices and squeezes it. -/
abbrev gslot (j h : ℕ) (hi : ∀ a, (![j, h, 0, 0] : Fin 4 → ℕ) a + S1x1x512x2816.size a ≤ S7x2x512x2816.size a) :
    Memref sig .tc .vmem S512x2816 .fp8e4m3 :=
  (guM.slice (Rect.unit (s := S7x2x512x2816) ![j, h, 0, 0] S1x1x512x2816.size hi) (fun _ => rfl)).squeeze S512x2816 squeezes_S1x1x512x2816_S512x2816
/-- Slot `j` of the down buffer. -/
abbrev dslot (j : ℕ) (hi : ∀ a, (![j, 0, 0] : Fin 3 → ℕ) a + S1x256x3584.size a ≤ S11x256x3584.size a) :
    Memref sig .tc .vmem S256x3584 .fp8e4m3 :=
  (dnM.slice (Rect.unit (s := S11x256x3584) ![j, 0, 0] S1x256x3584.size hi) (fun _ => rfl)).squeeze S256x3584 squeezes_S1x256x3584_S256x3584
/-- The DMA semaphore of gate/up slot `(j, h)`. -/
abbrev gsem (j h : ℕ) (hi : ∀ a, (![j, h] : Fin 2 → ℕ) a + S1x1.size a ≤ S7x2.size a) : DmaSems sig S_ :=
  (cc0_scratch6.slice (Rect.unit (s := S7x2) ![j, h] S1x1.size hi)).squeeze S_ squeezes_S1x1_S_
/-- The DMA semaphore of down slot `j`. -/
abbrev dsem (j : ℕ) (hi : ∀ a, (![j] : Fin 1 → ℕ) a + S1.size a ≤ S11.size a) : DmaSems sig S_ :=
  (cc0_scratch7.slice (Rect.unit (s := S11) ![j] S1.size hi)).squeeze S_ squeezes_S1_S_

section Res
variable (c : Dev nD)
  (XG : Buf (Elt F) (wguM.view.loc (c : Thread nD τ))) (XD : Buf (Elt F) (wdnM.view.loc (c : Thread nD τ)))

/-- What a landed gate/up slot holds: rows `h·3584 + j·512 …` of expert `e`'s gate/up weights. -/
def GLanded (e j h : ℕ) (hi : ∀ a, (![j, h, 0, 0] : Fin 4 → ℕ) a + S1x1x512x2816.size a ≤ S7x2x512x2816.size a) (f : Buf (Elt F) (guM.view.loc (c : Thread nD τ))) : Prop :=
  ∀ (x : S512x2816.Idx) (i : S8x7168x2816.Idx), (i 0).val = e → (i 1).val = h * 3584 + j * 512 + (x 0).val → (i 2).val = (x 1).val →
    (gslot j h hi).view.read (Elt F) f x = XG i

/-- What a landed down slot holds: rows `j·256 …` of expert `e`'s down weights. -/
def DLanded (e j : ℕ) (hi : ∀ a, (![j, 0, 0] : Fin 3 → ℕ) a + S1x256x3584.size a ≤ S11x256x3584.size a) (f : Buf (Elt F) (dnM.view.loc (c : Thread nD τ))) : Prop :=
  ∀ (x : S256x3584.Idx) (i : S8x2816x3584.Idx), (i 0).val = e → (i 1).val = j * 256 + (x 0).val → (i 2).val = (x 1).val →
    (dslot j hi).view.read (Elt F) f x = XD i

/-- A gate/up fetch in flight on slot `(j, h)`: when it lands the slot holds its block of expert `e`. The rest of the
    share of the weights it travels under stays here. -/
def gFly (e j h t : ℕ) (hi : ∀ a, (![j, h, 0, 0] : Fin 4 → ℕ) a + S1x1x512x2816.size a ≤ S7x2x512x2816.size a)
    (hs : ∀ a, (![j, h] : Fin 2 → ℕ) a + S1x1.size a ≤ S7x2.size a) : sProp 𝕄 :=
  iprop(∃ (S : Finset (Idx (wguM.view.loc (c : Thread nD τ)))) (f : Buf (Elt F) (guM.view.loc (c : Thread nD τ))), ⌜GLanded c XG e j h hi f⌝
    ∗ Transfers.Flight countersEmb (c : Thread nD τ) (SemLoc.dma (gsem j h hs).sem) () 45056
        iprop(((gslot j h hi).view.loc (c : Thread nD τ) ↦[(gslot j h hi).view.set]{fullShare} f)
          ∗ (wguM.view.loc (c : Thread nD τ) ↦[S]{Transfers.shareTokN fullShare t} XG))
    ∗ (wguM.view.loc (c : Thread nD τ) ↦[Finset.univ \ S]{Transfers.shareTokN fullShare t} XG))

/-- A down fetch in flight on slot `j`. -/
def dFly (e j t : ℕ) (hi : ∀ a, (![j, 0, 0] : Fin 3 → ℕ) a + S1x256x3584.size a ≤ S11x256x3584.size a)
    (hs : ∀ a, (![j] : Fin 1 → ℕ) a + S1.size a ≤ S11.size a) : sProp 𝕄 :=
  iprop(∃ (S : Finset (Idx (wdnM.view.loc (c : Thread nD τ)))) (f : Buf (Elt F) (dnM.view.loc (c : Thread nD τ))), ⌜DLanded c XD e j hi f⌝
    ∗ Transfers.Flight countersEmb (c : Thread nD τ) (SemLoc.dma (dsem j hs).sem) () 28672
        iprop(((dslot j hi).view.loc (c : Thread nD τ) ↦[(dslot j hi).view.set]{fullShare} f)
          ∗ (wdnM.view.loc (c : Thread nD τ) ↦[S]{Transfers.shareTokN fullShare t} XD))
    ∗ (wdnM.view.loc (c : Thread nD τ) ↦[Finset.univ \ S]{Transfers.shareTokN fullShare t} XD))

/-- Gate/up slot `(j, h)` at rest: the slot at anything, its semaphore at zero, its share of the weights whole. -/
def gIdle (j h t : ℕ) (hi : ∀ a, (![j, h, 0, 0] : Fin 4 → ℕ) a + S1x1x512x2816.size a ≤ S7x2x512x2816.size a)
    (hs : ∀ a, (![j, h] : Fin 2 → ℕ) a + S1x1.size a ≤ S7x2.size a) : sProp 𝕄 :=
  iprop(∃ (f : Buf (Elt F) (guM.view.loc (c : Thread nD τ))), ((gslot j h hi).view.loc (c : Thread nD τ) ↦[(gslot j h hi).view.set]{fullShare} f)
    ∗ semVal ((c : Thread nD τ), SemLoc.dma (gsem j h hs).sem) 0
    ∗ (wguM.view.loc (c : Thread nD τ) ↦[Finset.univ]{Transfers.shareTokN fullShare t} XG))

/-- Down slot `j` at rest. -/
def dIdle (j t : ℕ) (hi : ∀ a, (![j, 0, 0] : Fin 3 → ℕ) a + S1x256x3584.size a ≤ S11x256x3584.size a)
    (hs : ∀ a, (![j] : Fin 1 → ℕ) a + S1.size a ≤ S11.size a) : sProp 𝕄 :=
  iprop(∃ (f : Buf (Elt F) (dnM.view.loc (c : Thread nD τ))), ((dslot j hi).view.loc (c : Thread nD τ) ↦[(dslot j hi).view.set]{fullShare} f)
    ∗ semVal ((c : Thread nD τ), SemLoc.dma (dsem j hs).sem) 0
    ∗ (wdnM.view.loc (c : Thread nD τ) ↦[Finset.univ]{Transfers.shareTokN fullShare t} XD))

/-- All 25 fetches of expert `e` in flight. -/
def Fly (e : ℕ) : sProp 𝕄 :=
  iprop(gFly c XG e 0 0 6 inb_S7x2x512x2816_S1x1x512x2816_0_0_0_0 inb_S7x2_S1x1_0_0
    ∗ gFly c XG e 0 1 7 inb_S7x2x512x2816_S1x1x512x2816_0_1_0_0 inb_S7x2_S1x1_0_1
    ∗ gFly c XG e 1 0 8 inb_S7x2x512x2816_S1x1x512x2816_1_0_0_0 inb_S7x2_S1x1_1_0
    ∗ gFly c XG e 1 1 9 inb_S7x2x512x2816_S1x1x512x2816_1_1_0_0 inb_S7x2_S1x1_1_1
    ∗ gFly c XG e 2 0 10 inb_S7x2x512x2816_S1x1x512x2816_2_0_0_0 inb_S7x2_S1x1_2_0
    ∗ gFly c XG e 2 1 11 inb_S7x2x512x2816_S1x1x512x2816_2_1_0_0 inb_S7x2_S1x1_2_1
    ∗ gFly c XG e 3 0 12 inb_S7x2x512x2816_S1x1x512x2816_3_0_0_0 inb_S7x2_S1x1_3_0
    ∗ gFly c XG e 3 1 13 inb_S7x2x512x2816_S1x1x512x2816_3_1_0_0 inb_S7x2_S1x1_3_1
    ∗ gFly c XG e 4 0 14 inb_S7x2x512x2816_S1x1x512x2816_4_0_0_0 inb_S7x2_S1x1_4_0
    ∗ gFly c XG e 4 1 15 inb_S7x2x512x2816_S1x1x512x2816_4_1_0_0 inb_S7x2_S1x1_4_1
    ∗ gFly c XG e 5 0 16 inb_S7x2x512x2816_S1x1x512x2816_5_0_0_0 inb_S7x2_S1x1_5_0
    ∗ gFly c XG e 5 1 17 inb_S7x2x512x2816_S1x1x512x2816_5_1_0_0 inb_S7x2_S1x1_5_1
    ∗ gFly c XG e 6 0 18 inb_S7x2x512x2816_S1x1x512x2816_6_0_0_0 inb_S7x2_S1x1_6_0
    ∗ gFly c XG e 6 1 19 inb_S7x2x512x2816_S1x1x512x2816_6_1_0_0 inb_S7x2_S1x1_6_1
    ∗ dFly c XD e 0 20 inb_S11x256x3584_S1x256x3584_0_0_0 inb_S11_S1_0
    ∗ dFly c XD e 1 21 inb_S11x256x3584_S1x256x3584_1_0_0 inb_S11_S1_1
    ∗ dFly c XD e 2 22 inb_S11x256x3584_S1x256x3584_2_0_0 inb_S11_S1_2
    ∗ dFly c XD e 3 23 inb_S11x256x3584_S1x256x3584_3_0_0 inb_S11_S1_3
    ∗ dFly c XD e 4 24 inb_S11x256x3584_S1x256x3584_4_0_0 inb_S11_S1_4
    ∗ dFly c XD e 5 25 inb_S11x256x3584_S1x256x3584_5_0_0 inb_S11_S1_5
    ∗ dFly c XD e 6 26 inb_S11x256x3584_S1x256x3584_6_0_0 inb_S11_S1_6
    ∗ dFly c XD e 7 27 inb_S11x256x3584_S1x256x3584_7_0_0 inb_S11_S1_7
    ∗ dFly c XD e 8 28 inb_S11x256x3584_S1x256x3584_8_0_0 inb_S11_S1_8
    ∗ dFly c XD e 9 29 inb_S11x256x3584_S1x256x3584_9_0_0 inb_S11_S1_9
    ∗ dFly c XD e 10 30 inb_S11x256x3584_S1x256x3584_10_0_0 inb_S11_S1_10)

/-- All 25 slots at rest. -/
def Idle : sProp 𝕄 :=
  iprop(gIdle c XG 0 0 6 inb_S7x2x512x2816_S1x1x512x2816_0_0_0_0 inb_S7x2_S1x1_0_0
    ∗ gIdle c XG 0 1 7 inb_S7x2x512x2816_S1x1x512x2816_0_1_0_0 inb_S7x2_S1x1_0_1
    ∗ gIdle c XG 1 0 8 inb_S7x2x512x2816_S1x1x512x2816_1_0_0_0 inb_S7x2_S1x1_1_0
    ∗ gIdle c XG 1 1 9 inb_S7x2x512x2816_S1x1x512x2816_1_1_0_0 inb_S7x2_S1x1_1_1
    ∗ gIdle c XG 2 0 10 inb_S7x2x512x2816_S1x1x512x2816_2_0_0_0 inb_S7x2_S1x1_2_0
    ∗ gIdle c XG 2 1 11 inb_S7x2x512x2816_S1x1x512x2816_2_1_0_0 inb_S7x2_S1x1_2_1
    ∗ gIdle c XG 3 0 12 inb_S7x2x512x2816_S1x1x512x2816_3_0_0_0 inb_S7x2_S1x1_3_0
    ∗ gIdle c XG 3 1 13 inb_S7x2x512x2816_S1x1x512x2816_3_1_0_0 inb_S7x2_S1x1_3_1
    ∗ gIdle c XG 4 0 14 inb_S7x2x512x2816_S1x1x512x2816_4_0_0_0 inb_S7x2_S1x1_4_0
    ∗ gIdle c XG 4 1 15 inb_S7x2x512x2816_S1x1x512x2816_4_1_0_0 inb_S7x2_S1x1_4_1
    ∗ gIdle c XG 5 0 16 inb_S7x2x512x2816_S1x1x512x2816_5_0_0_0 inb_S7x2_S1x1_5_0
    ∗ gIdle c XG 5 1 17 inb_S7x2x512x2816_S1x1x512x2816_5_1_0_0 inb_S7x2_S1x1_5_1
    ∗ gIdle c XG 6 0 18 inb_S7x2x512x2816_S1x1x512x2816_6_0_0_0 inb_S7x2_S1x1_6_0
    ∗ gIdle c XG 6 1 19 inb_S7x2x512x2816_S1x1x512x2816_6_1_0_0 inb_S7x2_S1x1_6_1
    ∗ dIdle c XD 0 20 inb_S11x256x3584_S1x256x3584_0_0_0 inb_S11_S1_0
    ∗ dIdle c XD 1 21 inb_S11x256x3584_S1x256x3584_1_0_0 inb_S11_S1_1
    ∗ dIdle c XD 2 22 inb_S11x256x3584_S1x256x3584_2_0_0 inb_S11_S1_2
    ∗ dIdle c XD 3 23 inb_S11x256x3584_S1x256x3584_3_0_0 inb_S11_S1_3
    ∗ dIdle c XD 4 24 inb_S11x256x3584_S1x256x3584_4_0_0 inb_S11_S1_4
    ∗ dIdle c XD 5 25 inb_S11x256x3584_S1x256x3584_5_0_0 inb_S11_S1_5
    ∗ dIdle c XD 6 26 inb_S11x256x3584_S1x256x3584_6_0_0 inb_S11_S1_6
    ∗ dIdle c XD 7 27 inb_S11x256x3584_S1x256x3584_7_0_0 inb_S11_S1_7
    ∗ dIdle c XD 8 28 inb_S11x256x3584_S1x256x3584_8_0_0 inb_S11_S1_8
    ∗ dIdle c XD 9 29 inb_S11x256x3584_S1x256x3584_9_0_0 inb_S11_S1_9
    ∗ dIdle c XD 10 30 inb_S11x256x3584_S1x256x3584_10_0_0 inb_S11_S1_10)

/-- What a trip reads and keeps (activations, both scales, combine weights, member list), the intermediate at anything,
    the accumulator at some contents of which `P` holds, and the core's own waits. -/
def Base (arg2 : Memref sig .tc .vmem S128x2816 .bf16) (arg3 : Memref sig .tc .vmem S8x7168 .f32) (arg4 : Memref sig .tc .vmem S8x2816 .f32)
  (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ))) (fl : Buf (Elt F) (listM.view.loc (c : Thread nD τ))) (P : Buf (Elt F) (accM.view.loc (c : Thread nD τ)) → Prop) : sProp 𝕄 :=
  iprop((arg2.view.loc (c : Thread nD τ) ↦[arg2.view.set]{fullShare} fx) ∗ (arg3.view.loc (c : Thread nD τ) ↦[arg3.view.set]{fullShare} fsg) ∗ (arg4.view.loc (c : Thread nD τ) ↦[arg4.view.set]{fullShare} fsd)
    ∗ (combM.view.loc (c : Thread nD τ) ↦[combM.view.set]{fullShare} fc) ∗ (listM.view.loc (c : Thread nD τ) ↦[listM.view.set]{fullShare} fl)
    ∗ (∃ fh : Buf (Elt F) (hM.view.loc (c : Thread nD τ)), (hM.view.loc (c : Thread nD τ) ↦[hM.view.set]{fullShare} fh))
    ∗ (∃ fa : Buf (Elt F) (accM.view.loc (c : Thread nD τ)), ⌜P fa⌝ ∗ (accM.view.loc (c : Thread nD τ) ↦[accM.view.set]{fullShare} fa))
    ∗ ∃ W, owes (c : Thread nD τ) 0 W)

end Res
end Cert.Proof.IdealRun
end
-- ==== Proof.IdealWords.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Transfers
public import Idealize.ShloMosaic.Lib.Pipeline.KitQuiescent
public import Idealize.ShloMosaic.Lib.Tactic

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic

set_option maxRecDepth 20000 in
/-- The expert's transfers stay within the matrices, for every expert. -/
theorem chk2_all : ∀ n : Fin 8, k0_chk2 (BitVec.ofNat 32 n) := by decide
set_option maxRecDepth 20000 in
/-- The expert's transfers stay within the matrices, for every expert. -/
theorem chk3_all : ∀ n : Fin 8, k0_chk3 (BitVec.ofNat 32 n) := by decide

/-- The next expert's transfers stay within the matrices, for every expert. -/
theorem chk4_all (v : BitVec 32) (k : Fin (k0_t1_loop v).trips) (n : Fin 8) : k0_chk4 v k (BitVec.ofNat 32 n) := by
  unfold k0_chk4 k0_chk4_0 k0_chk4_1
  repeat' apply And.intro
  all_goals (intro _; clear * -; revert n; decide)

/-- Bit `j` of a word, as a word. -/
def bit (v : BitVec 32) (j : ℕ) : BitVec 32 := Scalar.andi (Scalar.shrsi v (BitVec.ofNat 32 j)) 1#32

/-- How many of the low `j` bits of a word are set, added up as words. -/
def wsum (v : BitVec 32) : ℕ → BitVec 32
  | 0 => 0#32
  | j + 1 => Scalar.addi (wsum v j) (bit v j)

/-- How many of the low `j` bits of a word are set. -/
def cnt (v : BitVec 32) (j : ℕ) : ℕ := (wsum v j).toNat

/-- A bit is at most one. -/
theorem bit_le (v : BitVec 32) (j : ℕ) : (bit v j).toNat ≤ 1 := by
  unfold bit Scalar.andi
  have : ∀ x : BitVec 32, (x &&& 1#32).toNat ≤ 1 := by
    intro x
    rw [BitVec.toNat_and]
    exact Nat.and_le_right
  exact this _

/-- No bit lies below place zero. -/
theorem cnt_zero (v : BitVec 32) : cnt v 0 = 0 := rfl

/-- There are at most `j` set bits below place `j`. -/
theorem cnt_le : ∀ (v : BitVec 32) (j : ℕ), j ≤ 8 → cnt v j ≤ j
  | v, 0, _ => Nat.le_refl _
  | v, j + 1, h => by
    have := cnt_le v j (by omega)
    have := bit_le v j
    have e : cnt v (j + 1) = ((wsum v j).toNat + (bit v j).toNat) % 2 ^ 32 := BitVec.toNat_add _ _
    unfold cnt at *
    omega

/-- The count goes up by the bit. -/
theorem cnt_succ (v : BitVec 32) (j : ℕ) (h : j < 8) : cnt v (j + 1) = cnt v j + (bit v j).toNat := by
  have := cnt_le v j (by omega)
  have := bit_le v j
  have e : cnt v (j + 1) = ((wsum v j).toNat + (bit v j).toNat) % 2 ^ 32 := BitVec.toNat_add _ _
  unfold cnt at *
  omega

/-- The running count, as a word. -/
theorem wsum_eq (v : BitVec 32) (j : ℕ) : wsum v j = BitVec.ofNat 32 (cnt v j) := by simp [cnt]

/-- The number of members found. -/
def nOf (v : BitVec 32) : ℕ := cnt v 8

/-- At most eight experts are listed. -/
theorem nOf_le (v : BitVec 32) : nOf v ≤ 8 := cnt_le v 8 (by omega)

/-- The loop whose bounds are computed from the count `w`. -/
def loopOf (w : BitVec 32) : Scf.Loop 32 :=
  ⟨0#32, Scalar.addi 0#32 (Scalar.muli (Scalar.divsi (Scalar.subi w 0#32) 1#32) 1#32), 1#32⟩

/-- The loop over the experts runs to the count. -/
theorem loop1_eq (v : BitVec 32) : k0_t1_loop v = loopOf (wsum v 8) := rfl

/-- The loop over the experts takes as many trips as the count says. -/
theorem loopOf_trips : ∀ n : Fin 9, (loopOf (BitVec.ofNat 32 n)).trips = n := by decide
/-- The loop over the experts is well formed. -/
theorem loopOf_ok : ∀ n : Fin 9, (loopOf (BitVec.ofNat 32 n)).OK := by decide

/-- The loop takes one trip for each listed expert. -/
theorem trips_eq (v : BitVec 32) : (k0_t1_loop v).trips = nOf v := by
  rw [loop1_eq, wsum_eq]
  exact loopOf_trips ⟨cnt v 8, by have := nOf_le v; unfold nOf at this; omega⟩

/-- Whether a next expert is listed, for every count and trip. -/
theorem cond_all : ∀ n : Fin 9, ∀ k : Fin 8, k.val < n.val →
    Scalar.cmpi .ne (Scalar.extui (Scalar.cmpi .slt (Scalar.addi (Scf.iv 0#32 1#32 k.val) 1#32) (BitVec.ofNat 32 n))) 0#32
      = BitVec.ofBool (decide (k.val + 1 < n.val)) := by decide

/-- The place in the list that a trip reads. -/
theorem off33_all : ∀ k : Fin 8, (Scalar.indexCast (Scf.iv 0#32 1#32 k.val)).toNat = k.val := by decide

/-- The place in the list of the next trip's expert. -/
theorem off34_all : ∀ n : Fin 9, ∀ k : Fin 8, k.val < n.val →
    (Scalar.indexCast (Scalar.minsi (Scalar.addi (Scf.iv 0#32 1#32 k.val) 1#32) (Scalar.subi (BitVec.ofNat 32 n) 1#32))).toNat
      = min (k.val + 1) (n.val - 1) := by decide

/-- A small word as an index. -/
theorem idx_all : ∀ n : Fin 9, (Scalar.indexCast (BitVec.ofNat 32 n)).toNat = n.val := by decide

/-- The running count as an index. -/
theorem idx_wsum (v : BitVec 32) (j : ℕ) (h : j ≤ 8) : (Scalar.indexCast (wsum v j)).toNat = cnt v j := by
  rw [wsum_eq]
  exact idx_all ⟨cnt v j, by have := cnt_le v j h; omega⟩

/-- A trip's number is below the count, which is at most eight. -/
theorem lt8 (v : BitVec 32) (k : Fin (k0_t1_loop v).trips) : k.val < nOf v ∧ nOf v ≤ 8 := by
  exact ⟨(trips_eq v) ▸ k.isLt, nOf_le v⟩

/-- The offset of the member read on trip `k`: the trip's own number. -/
theorem off33_eq (v : BitVec 32) (k : Fin (k0_t1_loop v).trips) : k0_off33 v k = ![k.val] := by
  have := lt8 v k
  have h := off33_all ⟨k.val, by omega⟩
  unfold k0_off33
  exact congrArg (fun x => ![x]) h

/-- The offset of the member fetched ahead on trip `k`: the next one, held at the last. -/
theorem off34_eq (v : BitVec 32) (k : Fin (k0_t1_loop v).trips) : k0_off34 v k = ![min (k.val + 1) (nOf v - 1)] := by
  have := lt8 v k
  have h := off34_all ⟨nOf v, by omega⟩ ⟨k.val, by omega⟩ this.1
  show ![(Scalar.indexCast (Scalar.minsi (Scalar.addi (Scf.iv 0#32 1#32 k.val) 1#32) (Scalar.subi (wsum v 8) 1#32))).toNat] = _
  rw [wsum_eq]
  exact congrArg (fun x => ![x]) h

/-- The trip's test says whether another expert is listed. -/
theorem cond_eq (v : BitVec 32) (k : Fin (k0_t1_loop v).trips) : k0_cond1 v k = BitVec.ofBool (decide (k.val + 1 < nOf v)) := by
  have := lt8 v k
  have h := cond_all ⟨nOf v, by omega⟩ ⟨k.val, by omega⟩ this.1
  show Scalar.cmpi .ne (Scalar.extui (Scalar.cmpi .slt (Scalar.addi (Scf.iv 0#32 1#32 k.val) 1#32) (wsum v 8))) 0#32 = _
  rw [wsum_eq]
  exact h

/-- The test holds when another expert is listed. -/
theorem cond_true (v : BitVec 32) (k : Fin (k0_t1_loop v).trips) (h : k.val + 1 < nOf v) : k0_cond1 v k = 1#1 := by
  rw [cond_eq, decide_eq_true h]; rfl

/-- The test fails at the last expert. -/
theorem cond_false (v : BitVec 32) (k : Fin (k0_t1_loop v).trips) (h : ¬ k.val + 1 < nOf v) : k0_cond1 v k ≠ 1#1 := by
  rw [cond_eq, decide_eq_false h]; decide

/-- The loop over the remainder of the unrolled trips. -/
def loop2Of (w : BitVec 32) : Scf.Loop 32 :=
  ⟨Scalar.addi 0#32 (Scalar.muli (Scalar.divsi (Scalar.subi w 0#32) 1#32) 1#32), Scalar.addi 0#32 (Scalar.subi w 0#32), 1#32⟩

/-- The loop's remainder runs to the count. -/
theorem loop2_eq (v : BitVec 32) : k0_t2_loop v = loop2Of (wsum v 8) := rfl
/-- The loop's remainder is empty. -/
theorem loop2Of_trips : ∀ n : Fin 9, (loop2Of (BitVec.ofNat 32 n)).trips = 0 := by decide
/-- The loop's remainder is well formed. -/
theorem loop2Of_ok : ∀ n : Fin 9, (loop2Of (BitVec.ofNat 32 n)).OK := by decide

/-- The remainder loop makes no trip. -/
theorem trips2_eq (v : BitVec 32) : (k0_t2_loop v).trips = 0 := by
  rw [loop2_eq, wsum_eq]
  exact loop2Of_trips ⟨cnt v 8, by have := nOf_le v; unfold nOf at this; omega⟩

/-- A place below eight lies within the list. -/
theorem inb8 (f : Fin 1 → ℕ) (n : ℕ) (h : f = ![n]) (hn : n < 8) : ∀ a, f a + S1.size a ≤ S8.size a := by
  subst h
  intro a
  fin_cases a
  show n + 1 ≤ 8
  omega

/-- A store of the list lies within it. -/
theorem offs_lt (v : BitVec 32) (f : Fin 1 → ℕ) (j : ℕ) (hj : j ≤ 7) (h : f = ![(Scalar.indexCast (wsum v j)).toNat]) :
    ∀ a, f a + S1.size a ≤ S8.size a := by
  refine inb8 f (cnt v j) ?_ (by have := cnt_le v j (by omega); omega)
  rw [h, idx_wsum v j (by omega)]

/-- What the kernel assumes of the word of members holds of every word. -/
theorem chk1_all (v : BitVec 32) : k0_chk1 v := by
  unfold k0_chk1
  refine ⟨offs_lt v _ 1 (by omega) rfl, offs_lt v _ 2 (by omega) rfl, offs_lt v _ 3 (by omega) rfl, offs_lt v _ 4 (by omega) rfl,
    offs_lt v _ 5 (by omega) rfl, offs_lt v _ 6 (by omega) rfl, offs_lt v _ 7 (by omega) rfl, ?_, ?_, ?_, ?_, ?_, ?_⟩
  · rw [loop1_eq, wsum_eq]
    exact loopOf_ok ⟨cnt v 8, by have := nOf_le v; unfold nOf at this; omega⟩
  · intro k
    have := lt8 v k
    exact inb8 _ _ (off33_eq v k) (by omega)
  · intro k
    have := lt8 v k
    exact inb8 _ _ (off34_eq v k) (by omega)
  · rw [loop2_eq, wsum_eq]
    exact loop2Of_ok ⟨cnt v 8, by have := nOf_le v; unfold nOf at this; omega⟩
  · intro k
    exact absurd k.isLt (by have := trips2_eq v; omega)
  · intro k
    exact absurd k.isLt (by have := trips2_eq v; omega)

/-- The list of members after the first `m` candidates have been written at the running count. -/
def sel (v : BitVec 32) : ℕ → ℕ → ℕ
  | 0, _ => 0
  | m + 1, p => if p = cnt v m then m else sel v m p

/-- An entry of the list is at most the last number stored. -/
theorem sel_lt (v : BitVec 32) : ∀ (m p : ℕ), sel v m p ≤ m - 1
  | 0, _ => Nat.le_refl _
  | m + 1, p => by
    unfold sel
    split
    · omega
    · have := sel_lt v m p; omega

/-- The `p`-th entry of the list is a member, and `p` members lie below it. -/
theorem sel_spec (v : BitVec 32) : ∀ (m p : ℕ), m ≤ 8 → p < cnt v m →
    sel v m p < m ∧ (bit v (sel v m p)).toNat = 1 ∧ cnt v (sel v m p) = p
  | 0, p, _, h => by rw [cnt_zero] at h; omega
  | m + 1, p, hm, h => by
    rw [cnt_succ v m (by omega)] at h
    have := bit_le v m
    unfold sel
    split
    · rename_i e
      subst e
      refine ⟨by omega, by omega, rfl⟩
    · have := sel_spec v m p (by omega) (by omega)
      refine ⟨by omega, this.2⟩

/-- An entry of the list is below eight. -/
theorem sel8_lt (v : BitVec 32) (p : ℕ) : sel v 8 p < 8 := by have := sel_lt v 8 p; omega

end Cert.Proof.IdealRun
end
-- ==== Proof.IdealMemberList.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Transfers
public import Idealize.ShloMosaic.Lib.Pipeline.KitQuiescent
public import Idealize.ShloMosaic.Lib.Tactic
public import proofs.«01_k».proof.Proof.IdealSlots
public import proofs.«01_k».proof.Proof.IdealWords
public import Idealize.ShloMosaic.Lib.WritesUnit

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section MemberList

/-- The word of members: bit `e` is set when some token has `e` among its two ids. -/
def memberWord (I0 I1 : Vec F S128x1 .i32) : BitVec 32 :=
  extractAt ![0, 0, 0] (k0_pay77 (iota .tc S128x128 32 [1] iota_S128x128_d1_w32) (k0_pay76 (F := F) I0 I1) 0#32) inpos_S1x1x1_p0_0_0

/-- The first and the second id of each token, as the body loads them. -/
abbrev ids0 (c : Dev nD) (arg0 : Memref sig .tc .vmem S128x2 .i32) (fi : Buf (Elt F) (arg0.view.loc (c : Thread nD τ))) : Vec F S128x1 .i32 :=
  arg0.view.readAt (Elt F) (Rect.unit (s := S128x2) ![0, 0] S128x1.size inb_S128x2_S128x1_0_0).toLoadRect fi
/-- The second column of the ids. -/
abbrev ids1 (c : Dev nD) (arg0 : Memref sig .tc .vmem S128x2 .i32) (fi : Buf (Elt F) (arg0.view.loc (c : Thread nD τ))) : Vec F S128x1 .i32 :=
  arg0.view.readAt (Elt F) (Rect.unit (s := S128x2) ![0, 1] S128x1.size inb_S128x2_S128x1_0_1).toLoadRect fi

/-- The word of members of an id buffer. -/
def mword (c : Dev nD) (arg0 : Memref sig .tc .vmem S128x2 .i32) (fi : Buf (Elt F) (arg0.view.loc (c : Thread nD τ))) : BitVec 32 :=
  memberWord (ids0 c arg0 fi) (ids1 c arg0 fi)

/-- The list buffer holds the members in ascending order. -/
def ListIs (c : Dev nD) (v : BitVec 32) (fl : Buf (Elt F) (listM.view.loc (c : Thread nD τ))) : Prop :=
  ∀ y : S8.Idx, (y 0).val < nOf v → listM.view.read (Elt F) fl y = BitVec.ofNat 32 (sel v 8 (y 0).val)

/-- The stores of the candidates at the running counts, last first. -/
def listPieces (v : BitVec 32) (h : k0_chk1 v) : List (View.Piece (Elt F) S8 .i32) := [⟨Rect.unit (s := S8) (k0_off7 v) S1.size (k0_off7_inb v h), fun _ => 7#32⟩, ⟨Rect.unit (s := S8) (k0_off6 v) S1.size (k0_off6_inb v h), fun _ => 6#32⟩, ⟨Rect.unit (s := S8) (k0_off5 v) S1.size (k0_off5_inb v h), fun _ => 5#32⟩, ⟨Rect.unit (s := S8) (k0_off4 v) S1.size (k0_off4_inb v h), fun _ => 4#32⟩, ⟨Rect.unit (s := S8) (k0_off3 v) S1.size (k0_off3_inb v h), fun _ => 3#32⟩, ⟨Rect.unit (s := S8) (k0_off2 v) S1.size (k0_off2_inb v h), fun _ => 2#32⟩, ⟨Rect.unit (s := S8) (k0_off1 v) S1.size (k0_off1_inb v h), fun _ => 1#32⟩, ⟨Rect.unit (s := S8) ![0] S1.size inb_S8_S1_0, fun _ => 0#32⟩]

/-- If the list's entries below the count are right after `m` stores, they are right after one more. -/
theorem H_cons (v : BitVec 32) (m : ℕ) (hm : m < 8) (off : Fin 1 → ℕ) (inb : ∀ a, off a + S1.size a ≤ S8.size a)
    (ho : off = ![cnt v m]) (f : listM.view.ty.Contents (Elt F)) (L : List (View.Piece (Elt F) S8 .i32))
    (ih : ∀ y : S8.Idx, (y 0).val < cnt v m → listM.view.read (Elt F) (listM.view.writes (Elt F) f L) y = BitVec.ofNat 32 (sel v m (y 0).val)) :
    ∀ y : S8.Idx, (y 0).val < cnt v (m + 1) →
      listM.view.read (Elt F) (listM.view.writes (Elt F) f (⟨Rect.unit (s := S8) off S1.size inb, fun _ => BitVec.ofNat 32 m⟩ :: L)) y
        = BitVec.ofNat 32 (sel v (m + 1) (y 0).val) := by
  intro y hy
  rw [cnt_succ v m hm] at hy
  have hb := bit_le v m
  unfold sel
  by_cases e : (y 0).val = cnt v m
  · rw [if_pos e]
    refine View.read_writes_cons_unit_of_mem listM.view f inb (fun _ => BitVec.ofNat 32 m) L y (fun a => ⟨0, by fin_cases a; exact Nat.one_pos⟩) ho ?_
    intro a
    fin_cases a
    exact e
  · rw [if_neg e]
    rw [View.read_writes_cons_unit_of_not_mem listM.view f inb (fun _ => BitVec.ofNat 32 m) L y ho 0 (by
      show (y 0).val < cnt v m ∨ cnt v m + 1 ≤ (y 0).val
      omega)]
    exact ih y (by omega)

/-- After the eight stores the list buffer holds the members. -/
theorem listIs_writes (c : Dev nD) (v : BitVec 32) (h : k0_chk1 v) (f : Buf (Elt F) (listM.view.loc (c : Thread nD τ))) :
    ListIs c v (listM.view.writes (Elt F) f (listPieces v h)) := by
  unfold ListIs listPieces nOf
  refine H_cons v 7 (by omega) (k0_off7 v) _ (by show ![(Scalar.indexCast (wsum v 7)).toNat] = _; rw [idx_wsum v 7 (by omega)]) f _ ?_
  refine H_cons v 6 (by omega) (k0_off6 v) _ (by show ![(Scalar.indexCast (wsum v 6)).toNat] = _; rw [idx_wsum v 6 (by omega)]) f _ ?_
  refine H_cons v 5 (by omega) (k0_off5 v) _ (by show ![(Scalar.indexCast (wsum v 5)).toNat] = _; rw [idx_wsum v 5 (by omega)]) f _ ?_
  refine H_cons v 4 (by omega) (k0_off4 v) _ (by show ![(Scalar.indexCast (wsum v 4)).toNat] = _; rw [idx_wsum v 4 (by omega)]) f _ ?_
  refine H_cons v 3 (by omega) (k0_off3 v) _ (by show ![(Scalar.indexCast (wsum v 3)).toNat] = _; rw [idx_wsum v 3 (by omega)]) f _ ?_
  refine H_cons v 2 (by omega) (k0_off2 v) _ (by show ![(Scalar.indexCast (wsum v 2)).toNat] = _; rw [idx_wsum v 2 (by omega)]) f _ ?_
  refine H_cons v 1 (by omega) (k0_off1 v) _ (by show ![(Scalar.indexCast (wsum v 1)).toNat] = _; rw [idx_wsum v 1 (by omega)]) f _ ?_
  refine H_cons v 0 (by omega) ![0] _ (by rw [cnt_zero]) f _ ?_
  intro y hy
  rw [cnt_zero] at hy
  omega

/-- An entry of the list as a trip loads it. -/
theorem list_load (c : Dev nD) (v : BitVec 32) (fl : Buf (Elt F) (listM.view.loc (c : Thread nD τ))) (h : ListIs c v fl)
    (off : Fin 1 → ℕ) (inb : ∀ a, off a + S1.size a ≤ S8.size a) (p : ℕ) (hp : p < nOf v) (ho : off = ![p])
    (w : BitVec 32) (hw : w = listM.view.readAt (Elt F) (Rect.unit (s := S8) off S1.size inb).toLoadRect fl (Shape.Idx.first (s := S1) (by decide))) :
    w = BitVec.ofNat 32 (sel v 8 p) := by
  subst ho
  rw [hw]
  exact h _ hp

/-- An entry of the list is the number of an expert. -/
theorem sel_fin (v : BitVec 32) (p : ℕ) : ∃ n : Fin 8, sel v 8 p = n.val := ⟨⟨sel v 8 p, sel8_lt v p⟩, rfl⟩

end MemberList
end Cert.Proof.IdealRun
end
-- ==== Proof.IdealMembers.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Transfers
public import Idealize.ShloMosaic.Lib.Pipeline.KitQuiescent
public import Idealize.ShloMosaic.Lib.Tactic
public import proofs.«01_k».proof.Proof.IdealMemberList
public import Idealize.ShloMosaic.Lib.WordSum
public import Idealize.ShloMosaic.Lib.Pointwise.Index
public import Idealize.ShloMosaic.Lib.Pipeline.Value

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Some token has the lane's number as its first or its second id. -/
def Has (I0 I1 : Vec F S128x1 .i32) (l : ℕ) : Prop :=
  ∃ t : Fin 128, I0 (ix2 t 0) = BitVec.ofNat 32 l ∨ I1 (ix2 t 0) = BitVec.ofNat 32 l

/-- The first column's hits at a lane: one where the id is the lane's number. -/
theorem pay71_at (I : Vec F S128x1 .i32) (t l : Fin 128) :
    k0_pay71 I (ix2 t l) = BitVec.ofBool (I (ix2 t 0) == BitVec.ofNat 32 l.val) := by
  have h1 : broadcastTo S128x128 (shapeCast S128x1 I shapeCasts_S128x1_S128x1) broadcasts_S128x1_S128x128 (ix2 t l) = I (ix2 t 0) := by
    rw [broadcastTo_apply _ _ _ (ix2 t 0) (by intro a; fin_cases a <;> rfl), shapeCast_apply _ _ _ (ix2 t 0) rfl]
  have h2 : iota .tc S128x128 32 [1] iota_S128x128_d1_w32 (ix2 t l) = BitVec.ofNat 32 l.val := by
    show BitVec.ofNat 32 (0 * 128 + l.val) = _
    rw [Nat.zero_mul, Nat.zero_add]
  show IntOp.cmpi .eq (broadcastTo S128x128 (shapeCast S128x1 I shapeCasts_S128x1_S128x1) broadcasts_S128x1_S128x128 (ix2 t l)) (iota .tc S128x128 32 [1] iota_S128x128_d1_w32 (ix2 t l)) = _
  rw [h1, h2]
  rfl

/-- A lane is hit by a token when one of its two ids is the lane's number. -/
theorem pay73_pos (I0 I1 : Vec F S128x1 .i32) (t l : Fin 128) :
    0 < (k0_pay73 I0 I1 (ix2 t l)).toInt ↔ (I0 (ix2 t 0) = BitVec.ofNat 32 l.val ∨ I1 (ix2 t 0) = BitVec.ofNat 32 l.val) := by
  have h : k0_pay73 I0 I1 (ix2 t l) = 0#32 ||| (k0_pay71 I0 (ix2 t l)).setWidth 32 ||| (k0_pay71 I1 (ix2 t l)).setWidth 32 := rfl
  rw [h, pay71_at, pay71_at]
  have hd : ∀ p q : Bool, 0 < (0#32 ||| (BitVec.ofBool p).setWidth 32 ||| (BitVec.ofBool q).setWidth 32).toInt ↔ (p = true ∨ q = true) := by decide
  rw [hd, beq_iff_eq, beq_iff_eq]

/-- The least word is neutral for the maximum. -/
theorem neutral_max : (2147483648#32 : BitVec 32) = IKind.maxsi.neutral := rfl
/-- Zero is neutral for the sum. -/
theorem neutral_add : (0#32 : BitVec 32) = IKind.add.neutral := rfl

/-- The largest of some words is positive exactly when one of them is, from the least word. -/
theorem fold_max_pos {ι : Type} [DecidableEq ι] (S : Finset ι) (f : ι → BitVec 32) :
    0 < (S.fold (IKind.op .maxsi) 2147483648#32 f).toInt ↔ ∃ i ∈ S, 0 < (f i).toInt := by
  induction S using Finset.induction_on with
  | empty => simp
  | insert a S ha ih =>
    rw [Finset.fold_insert ha]
    have h : ∀ x y : BitVec 32, 0 < (IKind.op .maxsi x y).toInt ↔ (0 < x.toInt ∨ 0 < y.toInt) := by
      intro x y
      show 0 < (IntOp.maxsi x y).toInt ↔ _
      unfold IntOp.maxsi
      split <;> rename_i h <;> simp only [BitVec.slt_eq_decide, BitVec.sle_eq_decide, decide_eq_true_eq] at h <;> omega
    rw [h, ih]
    simp

/-- A lane is present when some token hits it. -/
theorem pay76_pos (I0 I1 : Vec F S128x1 .i32) (l : Fin 128) :
    0 < (k0_pay76 I0 I1 (ix2 0 l)).toInt ↔ Has I0 I1 l.val := by
  have e : k0_pay76 I0 I1 (ix2 0 l) = multiReductionI .maxsi [0] S128 (k0_pay73 I0 I1) 2147483648#32 reduces_S128x128_S128 neutral_max (ix1 l) := by
    show shapeCast S1x128 (multiReductionI .maxsi [0] S128 (k0_pay73 I0 I1) 2147483648#32 reduces_S128x128_S128 neutral_max) shapeCasts_S128_S1x128 (ix2 0 l) = _
    refine shapeCast_apply _ _ _ (ix1 l) ?_
    rw [Shape.rowMajor_val_one, Shape.rowMajor_val_two]
    simp
  classical
  rw [e, multiReductionI_eq_fold, fold_max_pos]
  constructor
  · rintro ⟨i, hi, hp⟩
    have hd := (Finset.mem_filter.mp hi).2
    have h1 : (i 1 : ℕ) = l.val := by
      have := Shape.Reduces.drop_apply_val_of_eq reduces_S128x128_S128 i 0 1
      rw [hd] at this
      exact this.symm
    rw [show i = ix2 (i 0) l from by
      funext a
      fin_cases a
      · rfl
      · exact Fin.ext h1] at hp
    exact ⟨i 0, (pay73_pos I0 I1 _ _).mp hp⟩
  · rintro ⟨t, ht⟩
    refine ⟨ix2 t l, Finset.mem_filter.mpr ⟨Finset.mem_univ _, ?_⟩, (pay73_pos I0 I1 _ _).mpr ht⟩
    funext b
    fin_cases b
    exact Fin.ext (Shape.Reduces.drop_apply_val_of_eq reduces_S128x128_S128 (ix2 t l) 0 1)

open Classical in
/-- What lane `l` adds to the word of members. -/
theorem lane_at (I0 I1 : Vec F S128x1 .i32) (l : Fin 128) :
    (Scalar.select (IntOp.cmpi .sgt (k0_pay76 I0 I1 (ix2 0 l)) 0#32) (IntOp.shli .vector 1#32 (IntOp.minsi (BitVec.ofNat 32 l.val) 8#32)) 0#32).toNat
      = if Has I0 I1 l.val then 2 ^ min l.val 8 else 0 := by
  have h := pay76_pos I0 I1 l
  have h2 : ∀ l : Fin 128, (IntOp.shli .vector 1#32 (IntOp.minsi (BitVec.ofNat 32 l.val) 8#32)).toNat = 2 ^ min l.val 8 := by decide
  by_cases hh : Has I0 I1 l.val
  · rw [if_pos hh, ← h2]
    have := h.mpr hh
    have e : IntOp.cmpi .sgt (k0_pay76 I0 I1 (ix2 0 l)) 0#32 = 1#1 := by
      simp [IntOp.cmpi, BitVec.slt_eq_decide, this]
    rw [e]; rfl
  · rw [if_neg hh]
    have := mt h.mp hh
    have e : IntOp.cmpi .sgt (k0_pay76 I0 I1 (ix2 0 l)) 0#32 = 0#1 := by
      show BitVec.ofBool (BitVec.slt 0#32 _) = 0#1
      rw [BitVec.slt_eq_decide, decide_eq_false (by rw [show (0#32 : BitVec 32).toInt = 0 from rfl]; exact this)]
      rfl
    rw [e]; rfl

/-- The lanes, as the last coordinate of the indices of a 1 by 1 by 128 array. -/
def lanes : S1x1x128.Idx ≃ Fin 128 where
  toFun i := i 2
  invFun l := ix3 0 0 l
  left_inv i := by
    funext a
    fin_cases a
    · exact Subsingleton.elim (α := Fin 1) _ _
    · exact Subsingleton.elim (α := Fin 1) _ _
    · rfl
  right_inv l := rfl

/-- A number below 8 as bits. -/
theorem low_sum (b : ℕ → Prop) [DecidablePred b] :
    ∃ K, ∑ l : Fin 128, (if b l.val then 2 ^ min l.val 8 else 0) = (∑ l : Fin 8, (if b l.val then 2 ^ l.val else 0)) + 256 * K ∧ K ≤ 120 := by
  refine ⟨∑ l : Fin 120, (if b (8 + l.val) then 1 else 0), ?_, ?_⟩
  · rw [show (∑ l : Fin 128, (if b l.val then 2 ^ min l.val 8 else 0)) = ∑ l : Fin (8 + 120), (if b l.val then 2 ^ min l.val 8 else 0) from rfl, Fin.sum_univ_add, Finset.mul_sum]
    refine congrArg₂ (· + ·) (Finset.sum_congr rfl fun l _ => ?_) (Finset.sum_congr rfl fun l _ => ?_)
    · rw [Fin.val_castAdd, show min l.val 8 = l.val by have := l.isLt; omega]
    · rw [Fin.val_natAdd, show min (8 + l.val) 8 = 8 by omega]
      split <;> rfl
  · calc _ ≤ ∑ l : Fin 120, 1 := Finset.sum_le_sum fun l _ => by split <;> omega
      _ = 120 := by simp

open Classical in
/-- The word of the present experts as a sum of powers of two. -/
theorem memberWord_toNat (I0 I1 : Vec F S128x1 .i32) :
    (memberWord I0 I1).toNat = ∑ l : Fin 128, if Has I0 I1 l.val then 2 ^ min l.val 8 else 0 := by
  set src : IVec S1x1x128 32 := fun i => Scalar.select (IntOp.cmpi .sgt (k0_pay76 I0 I1 (ix2 0 (i 2))) 0#32) (IntOp.shli .vector 1#32 (IntOp.minsi (BitVec.ofNat 32 (i 2).val) 8#32)) 0#32 with hsrc
  have e : memberWord I0 I1 = multiReductionI .add [1, 2] S1 src 0#32 reduces_S1x1x128_S1 neutral_add (ix1 0) := by
    unfold memberWord
    show shapeCast S1x1x1 (multiReductionI .add [1, 2] S1 (shapeCast S1x1x128 (select (cmpi .sgt (k0_pay76 I0 I1) (broadcast S1x128 0#32)) (shli (broadcast S1x128 1#32) (minsi (extractStridedSlice S1x128 ![0, 0] (iota .tc S128x128 32 [1] iota_S128x128_d1_w32) slices_S128x128_o0_0_S1x128) (broadcast S1x128 8#32))) (broadcast S1x128 0#32)) shapeCasts_S1x128_S1x1x128) 0#32 reduces_S1x1x128_S1 neutral_add) shapeCasts_S1_S1x1x1 _ = _
    rw [shapeCast_apply _ _ _ (ix1 0) (by rw [Shape.rowMajor_val_one, Shape.rowMajor_val_three]; rfl)]
    refine congrArg (fun x => multiReductionI .add [1, 2] S1 x 0#32 reduces_S1x1x128_S1 neutral_add (ix1 0)) (funext fun i => ?_)
    refine (shapeCast_apply (s := S1x128) (t := S1x1x128) _ _ i (ix2 (0 : Fin 1) (i 2 : Fin 128) : S1x128.Idx) ?_).trans ?_
    · have h0 : (i 0).val = 0 := Nat.lt_one_iff.mp (i 0).isLt
      have h1 : (i 1).val = 0 := Nat.lt_one_iff.mp (i 1).isLt
      rw [Shape.rowMajor_val_two, Shape.rowMajor_val_three, h0, h1]
      simp
    rw [hsrc]
    show Scalar.select (IntOp.cmpi .sgt _ 0#32) (IntOp.shli .vector 1#32 (IntOp.minsi (BitVec.ofNat 32 (0 * 128 + (0 + (i 2).val))) 8#32)) 0#32 = _
    rw [Nat.zero_mul, Nat.zero_add, Nat.zero_add]
  have hs : ∑ i ∈ Finset.univ.filter (fun i => reduces_S1x1x128_S1.drop i = ix1 0), (src i).toNat
      = ∑ l : Fin 128, if Has I0 I1 l.val then 2 ^ min l.val 8 else 0 := by
    rw [Finset.filter_true_of_mem (fun i _ => by funext b; fin_cases b; exact Subsingleton.elim (α := Fin 1) _ _)]
    refine Fintype.sum_equiv lanes _ _ fun i => ?_
    exact lane_at I0 I1 (i 2)
  rw [e, WordSum.toNat_multiReductionI_add src reduces_S1x1x128_S1 neutral_add (ix1 0), hs]
  rw [hs]
  obtain ⟨K, hK, hK2⟩ := low_sum (Has I0 I1)
  rw [hK]
  have : (∑ l : Fin 8, (if Has I0 I1 l.val then 2 ^ l.val else 0)) ≤ ∑ l : Fin 8, 2 ^ l.val :=
    Finset.sum_le_sum fun l _ => by split; exacts [le_refl _, Nat.zero_le _]
  have h2 : ∑ l : Fin 8, 2 ^ l.val = 255 := by decide
  omega

/-- A bit of a word, as a number. -/
theorem bit_toNat (v : BitVec 32) (hv : v.toNat < 2 ^ 31) (j : ℕ) (hj : j < 8) : (bit v j).toNat = v.toNat / 2 ^ j % 2 := by
  have e : bit v j = (v.sshiftRight j) &&& 1#32 := by
    unfold bit Scalar.andi Scalar.shrsi IntOp.andi IntOp.shrsi
    have h : (BitVec.ofNat 32 j).toNat = j := by rw [BitVec.toNat_ofNat]; omega
    rw [if_pos (by omega)]
    show (v.sshiftRight (BitVec.ofNat 32 j).toNat) &&& 1#32 = _
    rw [h]
  rw [e, BitVec.toNat_and, BitVec.sshiftRight_eq_of_msb_false (by rw [BitVec.msb_eq_decide]; simp; omega), BitVec.toNat_ushiftRight, Nat.shiftRight_eq_div_pow]
  exact Nat.and_one_is_mod _

/-- Bit `e` of the word of members is set exactly when some token has `e` among its two ids. -/
theorem bit_memberWord (I0 I1 : Vec F S128x1 .i32) (e : ℕ) (he : e < 8) : (bit (memberWord I0 I1) e).toNat = 1 ↔ Has I0 I1 e := by
  classical
  have h := memberWord_toNat I0 I1
  obtain ⟨K, hK, hK2⟩ := low_sum (Has I0 I1)
  have h8 : (∑ l : Fin 8, (if Has I0 I1 l.val then 2 ^ l.val else 0)) ≤ ∑ l : Fin 8, 2 ^ l.val :=
    Finset.sum_le_sum fun l _ => by split; exacts [le_refl _, Nat.zero_le _]
  have h2 : ∑ l : Fin 8, 2 ^ l.val = 255 := by decide
  have h3 : (memberWord I0 I1).toNat = (∑ l : Fin 8, (if Has I0 I1 l.val then 2 ^ l.val else 0)) + 256 * K := by
    rw [h]; exact hK
  rw [bit_toNat _ (by omega) e he, h3]
  generalize Has I0 I1 = b at *
  have hb : ∀ l, ∃ x : ℕ, x ≤ 1 ∧ (x = 1 ↔ b l) ∧ ∀ n, (if b l then n else 0) = x * n := by
    intro l
    by_cases hl : b l
    · exact ⟨1, le_refl _, by simp [hl], by simp [hl]⟩
    · exact ⟨0, by omega, by simp [hl], by simp [hl]⟩
  choose x hx1 hx2 hx3 using hb
  rw [← hx2]
  simp only [Fin.sum_univ_eight, hx3]
  have := hx1 0; have := hx1 1; have := hx1 2; have := hx1 3; have := hx1 4; have := hx1 5; have := hx1 6; have := hx1 7
  interval_cases e <;> simp <;> omega

/-- A word with one of its low bits set counts at least one. -/
theorem nOf_pos (v : BitVec 32) (e : ℕ) (he : e < 8) (h : (bit v e).toNat = 1) : 0 < nOf v := by
  unfold nOf
  have h0 := cnt_succ v 0 (by omega); have h1 := cnt_succ v 1 (by omega); have h2 := cnt_succ v 2 (by omega); have h3 := cnt_succ v 3 (by omega)
  have h4 := cnt_succ v 4 (by omega); have h5 := cnt_succ v 5 (by omega); have h6 := cnt_succ v 6 (by omega); have h7 := cnt_succ v 7 (by omega)
  simp only [Nat.zero_add, Nat.reduceAdd] at h0 h1 h2 h3 h4 h5 h6 h7
  interval_cases e <;> omega

/-- The word of members has a member when some token has an id below 8. -/
theorem nOf_memberWord_pos (I0 I1 : Vec F S128x1 .i32) (e : ℕ) (he : e < 8) (h : Has I0 I1 e) : 0 < nOf (memberWord I0 I1) :=
  nOf_pos _ e he ((bit_memberWord I0 I1 e he).mpr h)

end Cert.Proof.IdealRun
-- ==== Proof.IdealTiles.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Transfers
public import Idealize.ShloMosaic.Lib.Pipeline.KitQuiescent
public import Idealize.ShloMosaic.Lib.Tactic
public import proofs.«01_k».proof.Proof.IdealSlots
public import Idealize.ShloMosaic.Lib.WritesUnit
public import Idealize.ShloMosaic.Lib.VecWindow
public import Idealize.ShloMosaic.Lib.Pointwise.Index
public import Idealize.ShloMosaic.Lib.Pipeline.Value

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Tiles
variable (c : Dev nD)
  (XG : Buf (Elt F) (wguM.view.loc (c : Thread nD τ))) (XD : Buf (Elt F) (wdnM.view.loc (c : Thread nD τ)))
  (arg2 : Memref sig .tc .vmem S128x2816 .bf16) (arg3 : Memref sig .tc .vmem S8x7168 .f32) (arg4 : Memref sig .tc .vmem S8x2816 .f32)
  (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ)))

/-! ## The blocks a trip works on -/

/-- The gate/up scales of rows `h·3584 + j·512 …` of expert `e`. -/
def sgBlk (e : Fin 8) (h : Fin 2) (j : Fin 7) : Vec F S1x512 .f32 := fun y =>
  arg3.view.read (Elt F) fsg (ix2 e (⟨h.val * 3584 + j.val * 512 + (y 1).val, by have : (y 1).val < 512 := (y 1).isLt; omega⟩ : Fin 7168))

/-- The gate/up weights of rows `h·3584 + j·512 …` of expert `e`. -/
def gBlk (e : Fin 8) (h : Fin 2) (j : Fin 7) : Vec F S1x1x512x2816 .fp8e4m3 := fun y =>
  XG (ix3 e (⟨h.val * 3584 + j.val * 512 + (y 2).val, by have : (y 2).val < 512 := (y 2).isLt; omega⟩ : Fin 7168) (y 3 : Fin 2816))

/-- The down scales of rows `j·256 …` of expert `e`. -/
def sdBlk (e : Fin 8) (j : Fin 11) : Vec F S1x256 .f32 := fun y =>
  arg4.view.read (Elt F) fsd (ix2 e (⟨j.val * 256 + (y 1).val, by have : (y 1).val < 256 := (y 1).isLt; omega⟩ : Fin 2816))

/-- The down weights of rows `j·256 …` of expert `e`. -/
def dBlk (e : Fin 8) (j : Fin 11) : Vec F S1x256x3584 .fp8e4m3 := fun y =>
  XD (ix3 e (⟨j.val * 256 + (y 1).val, by have : (y 1).val < 256 := (y 1).isLt; omega⟩ : Fin 2816) (y 2 : Fin 3584))

/-- Columns `j·256 …` of an accumulator. -/
def oldBlk (old : Vec F S128x2816 .f32) (j : Fin 11) : Vec F S128x256 .f32 := fun y =>
  old (ix2 (y 0 : Fin 128) (⟨j.val * 256 + (y 1).val, by have : (y 1).val < 256 := (y 1).isLt; omega⟩ : Fin 2816))

/-- The activations as a trip loads them. -/
def xV : Vec F S128x2816 .bf16 := View.readAt (Elt F) arg2.view (Rect.unit (s := S128x2816) ![0, 0] S128x2816.size inb_S128x2816_S128x2816_0_0).toLoadRect fx

/-- The intermediate of expert `e`: `silu(gate)·up`, 512 columns at a time. -/
def hAll (e : Fin 8) : Vec F S128x3584 .bf16 := fun y =>
  k0_pay9 (sgBlk c arg3 fsg e 0 ⟨(y 1).val / 512, by have : (y 1).val < 3584 := (y 1).isLt; omega⟩) (xV c arg2 fx) (gBlk c XG e 0 ⟨(y 1).val / 512, by have : (y 1).val < 3584 := (y 1).isLt; omega⟩)
    (sgBlk c arg3 fsg e 1 ⟨(y 1).val / 512, by have : (y 1).val < 3584 := (y 1).isLt; omega⟩) (xV c arg2 fx) (gBlk c XG e 1 ⟨(y 1).val / 512, by have : (y 1).val < 3584 := (y 1).isLt; omega⟩)
    (ix2 (y 0 : Fin 128) (⟨(y 1).val % 512, by omega⟩ : Fin 512))

/-- The combine weights and the hit counts, as a trip loads them. -/
def cmb0 : Vec F S1x128x128 .f32 := View.readAt (Elt F) combM.view (Rect.unit (s := S2x128x128) ![0, 0, 0] S1x128x128.size inb_S2x128x128_S1x128x128_0_0_0).toLoadRect fc
@[inherit_doc cmb0] def cmb1 : Vec F S1x128x128 .f32 := View.readAt (Elt F) combM.view (Rect.unit (s := S2x128x128) ![1, 0, 0] S1x128x128.size inb_S2x128x128_S1x128x128_1_0_0).toLoadRect fc

/-- The combine weight of each token for the expert named by the word `w`. -/
def wgt (v0 : IVec S128x128 32) (C0 : Vec F S1x128x128 .f32) (w : BitVec 32) : FVec F S128x1 .f32 := k0_pay2 v0 w C0

/-- Whether a token routes to the expert named by the word `w`. -/
def hits (v0 : IVec S128x128 32) (C1 : Vec F S1x128x128 .f32) (w : BitVec 32) : IVec S128x1 1 := k0_pay3 v0 w C1

/-- The accumulator after expert `e`'s trip, from the one before it: 256 columns at a time. -/
def accNext (C0 C1 : Vec F S1x128x128 .f32) (v0 : IVec S128x128 32) (e : Fin 8) (old : Vec F S128x2816 .f32) : Vec F S128x2816 .f32 := fun y =>
  k0_pay25 (wgt v0 C0 (BitVec.ofNat 32 e.val)) (hits v0 C1 (BitVec.ofNat 32 e.val)) (hAll c XG arg2 arg3 fx fsg e)
    (dBlk c XD e ⟨(y 1).val / 256, by have : (y 1).val < 2816 := (y 1).isLt; omega⟩) (sdBlk c arg4 fsd e ⟨(y 1).val / 256, by have : (y 1).val < 2816 := (y 1).isLt; omega⟩)
    (oldBlk old ⟨(y 1).val / 256, by have : (y 1).val < 2816 := (y 1).isLt; omega⟩) (ix2 (y 0 : Fin 128) (⟨(y 1).val % 256, by omega⟩ : Fin 256))

/-! ## What the loads of a trip read -/

omit [FloatOps F] in
/-- A load of 512 gate/up scales. -/
theorem sg_read (e : Fin 8) (h : Fin 2) (j : Fin 7) (off : Fin 2 → ℕ) (hb) (h0 : off = ![e.val, h.val * 3584 + j.val * 512]) :
    View.readAt (Elt F) arg3.view (Rect.unit (s := S8x7168) off S1x512.size hb).toLoadRect fsg = sgBlk c arg3 fsg e h j := by
  subst h0
  funext y
  refine congrArg (arg3.view.read (Elt F) fsg) (funext fun a => Fin.ext ?_)
  have hy : (y 0).val < 1 := (y 0).isLt
  match a with
  | ⟨0, _⟩ => show e.val + 1 * (y 0).val = e.val; omega
  | ⟨1, _⟩ => show h.val * 3584 + j.val * 512 + 1 * (y 1).val = h.val * 3584 + j.val * 512 + (y 1).val; omega

omit [FloatOps F] in
/-- A load of 256 down scales. -/
theorem sd_read (e : Fin 8) (j : Fin 11) (off : Fin 2 → ℕ) (hb) (h0 : off = ![e.val, j.val * 256]) :
    View.readAt (Elt F) arg4.view (Rect.unit (s := S8x2816) off S1x256.size hb).toLoadRect fsd = sdBlk c arg4 fsd e j := by
  subst h0
  funext y
  refine congrArg (arg4.view.read (Elt F) fsd) (funext fun a => Fin.ext ?_)
  have hy : (y 0).val < 1 := (y 0).isLt
  match a with
  | ⟨0, _⟩ => show e.val + 1 * (y 0).val = e.val; omega
  | ⟨1, _⟩ => show j.val * 256 + 1 * (y 1).val = j.val * 256 + (y 1).val; omega

omit [FloatOps F] in
/-- A load of a landed gate/up slot. -/
theorem g_read (e : Fin 8) (h : Fin 2) (j : Fin 7) (hi) (f) (hl : GLanded c XG e.val j.val h.val hi f) :
    View.readAt (Elt F) guM.view (Rect.unit (s := S7x2x512x2816) ![j.val, h.val, 0, 0] S1x1x512x2816.size hi).toLoadRect f = gBlk c XG e h j := by
  funext y
  have h0 : (y 0).val < 1 := (y 0).isLt
  have h1 : (y 1).val < 1 := (y 1).isLt
  refine Eq.trans ?_ (hl (ix2 (y 2 : Fin 512) (y 3 : Fin 2816)) (ix3 e (⟨h.val * 3584 + j.val * 512 + (y 2).val, by have : (y 2).val < 512 := (y 2).isLt; omega⟩ : Fin 7168) (y 3 : Fin 2816)) rfl rfl rfl)
  symm
  refine (congrFun (Memref.read_squeeze_slice guM (Rect.unit (s := S7x2x512x2816) ![j.val, h.val, 0, 0] S1x1x512x2816.size hi) (fun _ => rfl) squeezes_S1x1x512x2816_S512x2816 shapeCasts_S1x1x512x2816_S512x2816 f) _).trans (shapeCast_apply (s := S1x1x512x2816) (t := S512x2816) _ shapeCasts_S1x1x512x2816_S512x2816 _ y ?_)
  rw [Shape.rowMajor_val_two, Shape.rowMajor_val_four]
  have h0' : (y 0).val = 0 := by omega
  have h1' : (y 1).val = 0 := by omega
  rw [h0', h1']
  show ((0 * 1 + 0) * 512 + (y 2).val) * 2816 + (y 3).val = (y 2).val * 2816 + (y 3).val
  omega

omit [FloatOps F] in
/-- A load of a landed down slot. -/
theorem d_read (e : Fin 8) (j : Fin 11) (hi) (f) (hl : DLanded c XD e.val j.val hi f) :
    View.readAt (Elt F) dnM.view (Rect.unit (s := S11x256x3584) ![j.val, 0, 0] S1x256x3584.size hi).toLoadRect f = dBlk c XD e j := by
  funext y
  have h0 : (y 0).val < 1 := (y 0).isLt
  refine Eq.trans ?_ (hl (ix2 (y 1 : Fin 256) (y 2 : Fin 3584)) (ix3 e (⟨j.val * 256 + (y 1).val, by have : (y 1).val < 256 := (y 1).isLt; omega⟩ : Fin 2816) (y 2 : Fin 3584)) rfl rfl rfl)
  symm
  refine (congrFun (Memref.read_squeeze_slice dnM (Rect.unit (s := S11x256x3584) ![j.val, 0, 0] S1x256x3584.size hi) (fun _ => rfl) squeezes_S1x256x3584_S256x3584 shapeCasts_S1x256x3584_S256x3584 f) _).trans (shapeCast_apply (s := S1x256x3584) (t := S256x3584) _ shapeCasts_S1x256x3584_S256x3584 _ y ?_)
  rw [Shape.rowMajor_val_two, Shape.rowMajor_val_three]
  have h0' : (y 0).val = 0 := by omega
  rw [h0']
  show (0 * 256 + (y 1).val) * 3584 + (y 2).val = (y 1).val * 3584 + (y 2).val
  omega

omit [FloatOps F] in
/-- A load of 256 columns of the accumulator. -/
theorem old_read (j : Fin 11) (hb) (fa : Buf (Elt F) (accM.view.loc (c : Thread nD τ))) :
    View.readAt (Elt F) accM.view (Rect.unit (s := S128x2816) ![0, j.val * 256] S128x256.size hb).toLoadRect fa = oldBlk (accM.view.read (Elt F) fa) j := by
  funext y
  refine congrArg (accM.view.read (Elt F) fa) (funext fun a => Fin.ext ?_)
  match a with
  | ⟨0, _⟩ => show 0 + 1 * (y 0).val = (y 0).val; omega
  | ⟨1, _⟩ => show j.val * 256 + 1 * (y 1).val = j.val * 256 + (y 1).val; omega

/-! ## The combine buffer and the result -/

omit [FloatOps F] in
/-- The combine buffer after its two stores, read row by row. -/
theorem cmb0_writes (p0 p1 : Vec F S1x128x128 .f32) :
    cmb0 c (combM.view.writes (Elt F) fc [⟨Rect.unit (s := S2x128x128) ![1, 0, 0] S1x128x128.size inb_S2x128x128_S1x128x128_1_0_0, p1⟩, ⟨Rect.unit (s := S2x128x128) ![0, 0, 0] S1x128x128.size inb_S2x128x128_S1x128x128_0_0_0, p0⟩]) = p0 := by
  funext y
  unfold cmb0
  rw [View.readAt_apply]
  have h0 : (y 0).val < 1 := (y 0).isLt
  rw [View.read_writes_cons_unit_of_not_mem combM.view fc inb_S2x128x128_S1x128x128_1_0_0 p1 _ _ rfl (0 : Fin 3) (Or.inl (by show 0 + 1 * (y 0).val < 1; omega))]
  refine View.read_writes_cons_unit_of_mem combM.view fc inb_S2x128x128_S1x128x128_0_0_0 p0 _ _ y rfl ?_
  intro a
  match a with
  | ⟨0, _⟩ => show 0 + 1 * (y 0).val = 0 + (y 0).val; omega
  | ⟨1, _⟩ => show 0 + 1 * (y 1).val = 0 + (y 1).val; omega
  | ⟨2, _⟩ => show 0 + 1 * (y 2).val = 0 + (y 2).val; omega

omit [FloatOps F] in
/-- Reading the second plane after both stores gives what the second stored. -/
theorem cmb1_writes (p0 p1 : Vec F S1x128x128 .f32) :
    cmb1 c (combM.view.writes (Elt F) fc [⟨Rect.unit (s := S2x128x128) ![1, 0, 0] S1x128x128.size inb_S2x128x128_S1x128x128_1_0_0, p1⟩, ⟨Rect.unit (s := S2x128x128) ![0, 0, 0] S1x128x128.size inb_S2x128x128_S1x128x128_0_0_0, p0⟩]) = p1 := by
  funext y
  unfold cmb1
  rw [View.readAt_apply]
  refine View.read_writes_cons_unit_of_mem combM.view fc inb_S2x128x128_S1x128x128_1_0_0 p1 _ _ y rfl ?_
  intro a
  match a with
  | ⟨0, _⟩ => show 1 + 1 * (y 0).val = 1 + (y 0).val; omega
  | ⟨1, _⟩ => show 0 + 1 * (y 1).val = 0 + (y 1).val; omega
  | ⟨2, _⟩ => show 0 + 1 * (y 2).val = 0 + (y 2).val; omega

omit [FloatOps F] in
/-- A store of a whole 128×2816 buffer, read back. -/
theorem whole_writes {sp : Space} {el : EltTy} (v : View sig .tc sp S128x2816 el) (f : v.ty.Contents (Elt F)) (p : Vec F S128x2816 el) :
    v.read (Elt F) (v.writes (Elt F) f [⟨Rect.unit (s := S128x2816) ![0, 0] S128x2816.size inb_S128x2816_S128x2816_0_0, p⟩]) = p := by
  funext y
  refine View.read_writes_cons_unit_of_mem v f inb_S128x2816_S128x2816_0_0 p _ _ y rfl ?_
  intro a
  match a with
  | ⟨0, _⟩ => show (y 0).val = 0 + (y 0).val; omega
  | ⟨1, _⟩ => show (y 1).val = 0 + (y 1).val; omega

/-! ## Landings -/

omit [FloatOps F] in
/-- A gate/up fetch from offsets `[e, h·3584 + j·512, 0]` leaves its slot landed. -/
theorem g_landed (e j h : ℕ) (hi) (f0 : Buf (Elt F) (guM.view.loc (c : Thread nD τ))) (off : Fin 3 → ℕ) (h0 : off = ![e, h * 3584 + j * 512, 0])
    (hb : ∀ a, off a + S1x512x2816.size a ≤ S8x7168x2816.size a) (hq) (hr) :
    GLanded c XG e j h hi ((gslot j h hi).view.writes (Elt F) f0 [⟨Rect.whole S512x2816, ReadAs.same.apply (View.read (Elt F) ((wguM.slice (Rect.unit (s := S8x7168x2816) off S1x512x2816.size hb) hr).squeeze S512x2816 hq).view XG)⟩]) := by
  subst h0
  intro x i i0 i1 i2
  rw [View.read_writes_whole]
  show ((wguM.slice (Rect.unit (s := S8x7168x2816) ![e, h * 3584 + j * 512, 0] S1x512x2816.size hb) hr).squeeze S512x2816 hq).view.read (Elt F) XG x = _
  have hc : S1x512x2816.ShapeCasts S512x2816 := by decide
  refine (congrFun (Memref.read_squeeze_slice wguM (Rect.unit (s := S8x7168x2816) ![e, h * 3584 + j * 512, 0] S1x512x2816.size hb) hr hq hc XG) _).trans ?_
  refine (shapeCast_apply (s := S1x512x2816) (t := S512x2816) _ hc x (ix3 (0 : Fin 1) (x 0 : Fin 512) (x 1 : Fin 2816)) ?_).trans ?_
  · rw [Shape.rowMajor_val_two, Shape.rowMajor_val_three]
    show (0 * 512 + (x 0).val) * 2816 + (x 1).val = (x 0).val * 2816 + (x 1).val
    omega
  · refine congrArg XG (funext fun a => Fin.ext ?_)
    match a with
    | ⟨0, _⟩ => show e + 1 * 0 = (i 0).val; omega
    | ⟨1, _⟩ => show h * 3584 + j * 512 + 1 * (x 0).val = (i 1).val; omega
    | ⟨2, _⟩ => show 0 + 1 * (x 1).val = (i 2).val; omega

omit [FloatOps F] in
/-- A down fetch from offsets `[e, j·256, 0]` leaves its slot landed. -/
theorem d_landed (e j : ℕ) (hi) (f0 : Buf (Elt F) (dnM.view.loc (c : Thread nD τ))) (off : Fin 3 → ℕ) (h0 : off = ![e, j * 256, 0])
    (hb : ∀ a, off a + S1x256x3584.size a ≤ S8x2816x3584.size a) (hq) (hr) :
    DLanded c XD e j hi ((dslot j hi).view.writes (Elt F) f0 [⟨Rect.whole S256x3584, ReadAs.same.apply (View.read (Elt F) ((wdnM.slice (Rect.unit (s := S8x2816x3584) off S1x256x3584.size hb) hr).squeeze S256x3584 hq).view XD)⟩]) := by
  subst h0
  intro x i i0 i1 i2
  rw [View.read_writes_whole]
  show ((wdnM.slice (Rect.unit (s := S8x2816x3584) ![e, j * 256, 0] S1x256x3584.size hb) hr).squeeze S256x3584 hq).view.read (Elt F) XD x = _
  refine (congrFun (Memref.read_squeeze_slice wdnM (Rect.unit (s := S8x2816x3584) ![e, j * 256, 0] S1x256x3584.size hb) hr hq shapeCasts_S1x256x3584_S256x3584 XD) _).trans ?_
  refine (shapeCast_apply (s := S1x256x3584) (t := S256x3584) _ shapeCasts_S1x256x3584_S256x3584 x (ix3 (0 : Fin 1) (x 0 : Fin 256) (x 1 : Fin 3584)) ?_).trans ?_
  · rw [Shape.rowMajor_val_two, Shape.rowMajor_val_three]
    show (0 * 256 + (x 0).val) * 3584 + (x 1).val = (x 0).val * 3584 + (x 1).val
    omega
  · refine congrArg XD (funext fun a => Fin.ext ?_)
    match a with
    | ⟨0, _⟩ => show e + 1 * 0 = (i 0).val; omega
    | ⟨1, _⟩ => show j * 256 + 1 * (x 0).val = (i 1).val; omega
    | ⟨2, _⟩ => show 0 + 1 * (x 1).val = (i 2).val; omega

/-! ## What the stores of a trip leave -/

omit [FloatOps F] in
/-- Seven stores of 512 columns leave the intermediate at them, side by side. -/
theorem h_tiles (f : hM.view.ty.Contents (Elt F)) (p : Fin 7 → Vec F S128x512 .bf16) (y : S128x3584.Idx) :
    hM.view.read (Elt F) (hM.view.writes (Elt F) f [⟨Rect.unit (s := S128x3584) ![0, 3072] S128x512.size inb_S128x3584_S128x512_0_3072, p 6⟩, ⟨Rect.unit (s := S128x3584) ![0, 2560] S128x512.size inb_S128x3584_S128x512_0_2560, p 5⟩, ⟨Rect.unit (s := S128x3584) ![0, 2048] S128x512.size inb_S128x3584_S128x512_0_2048, p 4⟩, ⟨Rect.unit (s := S128x3584) ![0, 1536] S128x512.size inb_S128x3584_S128x512_0_1536, p 3⟩, ⟨Rect.unit (s := S128x3584) ![0, 1024] S128x512.size inb_S128x3584_S128x512_0_1024, p 2⟩, ⟨Rect.unit (s := S128x3584) ![0, 512] S128x512.size inb_S128x3584_S128x512_0_512, p 1⟩, ⟨Rect.unit (s := S128x3584) ![0, 0] S128x512.size inb_S128x3584_S128x512_0_0, p 0⟩]) y
      = p ⟨(y 1).val / 512, by have : (y 1).val < 3584 := (y 1).isLt; omega⟩ (ix2 (y 0 : Fin 128) (⟨(y 1).val % 512, by omega⟩ : Fin 512)) := by
  have hy : (y 1).val < 3584 := (y 1).isLt
  refine View.read_tilePieces (NT := 7) hM.view f S128x512.size (fun j => ![0, 512 * j.val]) ?_ p 7 le_rfl y ⟨(y 1).val / 512, by omega⟩ (by show (y 1).val / 512 < 7; omega) _ ?_ (1 : Fin 2) ?_
  · intro j a
    match a with
    | ⟨0, _⟩ => show 0 + 128 ≤ 128; omega
    | ⟨1, _⟩ => show 512 * j.val + 512 ≤ 3584; omega
  · intro a
    match a with
    | ⟨0, _⟩ => show (y 0).val = 0 + (y 0).val; omega
    | ⟨1, _⟩ => show (y 1).val = 512 * ((y 1).val / 512) + (y 1).val % 512; omega
  · intro j hj
    have hj' : j.val ≠ (y 1).val / 512 := fun h => hj (Fin.ext h)
    show (y 1).val < 512 * j.val ∨ 512 * j.val + 512 ≤ (y 1).val
    omega

omit [FloatOps F] in
/-- Eleven stores of 256 columns leave the accumulator at them, side by side. -/
theorem acc_tiles (f : accM.view.ty.Contents (Elt F)) (p : Fin 11 → Vec F S128x256 .f32) (y : S128x2816.Idx) :
    accM.view.read (Elt F) (accM.view.writes (Elt F) f [⟨Rect.unit (s := S128x2816) ![0, 2560] S128x256.size inb_S128x2816_S128x256_0_2560, p 10⟩, ⟨Rect.unit (s := S128x2816) ![0, 2304] S128x256.size inb_S128x2816_S128x256_0_2304, p 9⟩, ⟨Rect.unit (s := S128x2816) ![0, 2048] S128x256.size inb_S128x2816_S128x256_0_2048, p 8⟩, ⟨Rect.unit (s := S128x2816) ![0, 1792] S128x256.size inb_S128x2816_S128x256_0_1792, p 7⟩, ⟨Rect.unit (s := S128x2816) ![0, 1536] S128x256.size inb_S128x2816_S128x256_0_1536, p 6⟩, ⟨Rect.unit (s := S128x2816) ![0, 1280] S128x256.size inb_S128x2816_S128x256_0_1280, p 5⟩, ⟨Rect.unit (s := S128x2816) ![0, 1024] S128x256.size inb_S128x2816_S128x256_0_1024, p 4⟩, ⟨Rect.unit (s := S128x2816) ![0, 768] S128x256.size inb_S128x2816_S128x256_0_768, p 3⟩, ⟨Rect.unit (s := S128x2816) ![0, 512] S128x256.size inb_S128x2816_S128x256_0_512, p 2⟩, ⟨Rect.unit (s := S128x2816) ![0, 256] S128x256.size inb_S128x2816_S128x256_0_256, p 1⟩, ⟨Rect.unit (s := S128x2816) ![0, 0] S128x256.size inb_S128x2816_S128x256_0_0, p 0⟩]) y
      = p ⟨(y 1).val / 256, by have : (y 1).val < 2816 := (y 1).isLt; omega⟩ (ix2 (y 0 : Fin 128) (⟨(y 1).val % 256, by omega⟩ : Fin 256)) := by
  have hy : (y 1).val < 2816 := (y 1).isLt
  refine View.read_tilePieces (NT := 11) accM.view f S128x256.size (fun j => ![0, 256 * j.val]) ?_ p 11 le_rfl y ⟨(y 1).val / 256, by omega⟩ (by show (y 1).val / 256 < 11; omega) _ ?_ (1 : Fin 2) ?_
  · intro j a
    match a with
    | ⟨0, _⟩ => show 0 + 128 ≤ 128; omega
    | ⟨1, _⟩ => show 256 * j.val + 256 ≤ 2816; omega
  · intro a
    match a with
    | ⟨0, _⟩ => show (y 0).val = 0 + (y 0).val; omega
    | ⟨1, _⟩ => show (y 1).val = 256 * ((y 1).val / 256) + (y 1).val % 256; omega
  · intro j hj
    have hj' : j.val ≠ (y 1).val / 256 := fun h => hj (Fin.ext h)
    show (y 1).val < 256 * j.val ∨ 256 * j.val + 256 ≤ (y 1).val
    omega

end Tiles
end Cert.Proof.IdealRun
end
-- ==== Proof.IdealTripValue.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Transfers
public import Idealize.ShloMosaic.Lib.Pipeline.KitQuiescent
public import Idealize.ShloMosaic.Lib.Tactic
public import proofs.«01_k».proof.Proof.IdealTiles

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The kernel's offsets at an expert number -/

/-- The offset of this transfer or load, in coordinates. -/
theorem off37_at : ∀ e : Fin 8, k0_off37 (BitVec.ofNat 32 e.val) = ![e.val, (0 : Fin 2).val * 3584 + (0 : Fin 7).val * 512] := by decide
/-- The offset of this transfer or load, in coordinates. -/
theorem off38_at : ∀ e : Fin 8, k0_off38 (BitVec.ofNat 32 e.val) = ![e.val, (1 : Fin 2).val * 3584 + (0 : Fin 7).val * 512] := by decide
/-- The offset of this transfer or load, in coordinates. -/
theorem off43_at : ∀ e : Fin 8, k0_off43 (BitVec.ofNat 32 e.val) = ![e.val, (0 : Fin 2).val * 3584 + (1 : Fin 7).val * 512] := by decide
/-- The offset of this transfer or load, in coordinates. -/
theorem off44_at : ∀ e : Fin 8, k0_off44 (BitVec.ofNat 32 e.val) = ![e.val, (1 : Fin 2).val * 3584 + (1 : Fin 7).val * 512] := by decide
/-- The offset of this transfer or load, in coordinates. -/
theorem off49_at : ∀ e : Fin 8, k0_off49 (BitVec.ofNat 32 e.val) = ![e.val, (0 : Fin 2).val * 3584 + (2 : Fin 7).val * 512] := by decide
/-- The offset of this transfer or load, in coordinates. -/
theorem off50_at : ∀ e : Fin 8, k0_off50 (BitVec.ofNat 32 e.val) = ![e.val, (1 : Fin 2).val * 3584 + (2 : Fin 7).val * 512] := by decide
/-- The offset of this transfer or load, in coordinates. -/
theorem off55_at : ∀ e : Fin 8, k0_off55 (BitVec.ofNat 32 e.val) = ![e.val, (0 : Fin 2).val * 3584 + (3 : Fin 7).val * 512] := by decide
/-- The offset of this transfer or load, in coordinates. -/
theorem off56_at : ∀ e : Fin 8, k0_off56 (BitVec.ofNat 32 e.val) = ![e.val, (1 : Fin 2).val * 3584 + (3 : Fin 7).val * 512] := by decide
/-- The offset of this transfer or load, in coordinates. -/
theorem off61_at : ∀ e : Fin 8, k0_off61 (BitVec.ofNat 32 e.val) = ![e.val, (0 : Fin 2).val * 3584 + (4 : Fin 7).val * 512] := by decide
/-- The offset of this transfer or load, in coordinates. -/
theorem off62_at : ∀ e : Fin 8, k0_off62 (BitVec.ofNat 32 e.val) = ![e.val, (1 : Fin 2).val * 3584 + (4 : Fin 7).val * 512] := by decide
/-- The offset of this transfer or load, in coordinates. -/
theorem off67_at : ∀ e : Fin 8, k0_off67 (BitVec.ofNat 32 e.val) = ![e.val, (0 : Fin 2).val * 3584 + (5 : Fin 7).val * 512] := by decide
/-- The offset of this transfer or load, in coordinates. -/
theorem off68_at : ∀ e : Fin 8, k0_off68 (BitVec.ofNat 32 e.val) = ![e.val, (1 : Fin 2).val * 3584 + (5 : Fin 7).val * 512] := by decide
/-- The offset of this transfer or load, in coordinates. -/
theorem off73_at : ∀ e : Fin 8, k0_off73 (BitVec.ofNat 32 e.val) = ![e.val, (0 : Fin 2).val * 3584 + (6 : Fin 7).val * 512] := by decide
/-- The offset of this transfer or load, in coordinates. -/
theorem off74_at : ∀ e : Fin 8, k0_off74 (BitVec.ofNat 32 e.val) = ![e.val, (1 : Fin 2).val * 3584 + (6 : Fin 7).val * 512] := by decide
/-- The offset of this transfer or load, in coordinates. -/
theorem off78_at : ∀ e : Fin 8, k0_off78 (BitVec.ofNat 32 e.val) = ![e.val, (0 : Fin 11).val * 256] := by decide
/-- The offset of this transfer or load, in coordinates. -/
theorem off81_at : ∀ e : Fin 8, k0_off81 (BitVec.ofNat 32 e.val) = ![e.val, (1 : Fin 11).val * 256] := by decide
/-- The offset of this transfer or load, in coordinates. -/
theorem off84_at : ∀ e : Fin 8, k0_off84 (BitVec.ofNat 32 e.val) = ![e.val, (2 : Fin 11).val * 256] := by decide
/-- The offset of this transfer or load, in coordinates. -/
theorem off87_at : ∀ e : Fin 8, k0_off87 (BitVec.ofNat 32 e.val) = ![e.val, (3 : Fin 11).val * 256] := by decide
/-- The offset of this transfer or load, in coordinates. -/
theorem off90_at : ∀ e : Fin 8, k0_off90 (BitVec.ofNat 32 e.val) = ![e.val, (4 : Fin 11).val * 256] := by decide
/-- The offset of this transfer or load, in coordinates. -/
theorem off93_at : ∀ e : Fin 8, k0_off93 (BitVec.ofNat 32 e.val) = ![e.val, (5 : Fin 11).val * 256] := by decide
/-- The offset of this transfer or load, in coordinates. -/
theorem off96_at : ∀ e : Fin 8, k0_off96 (BitVec.ofNat 32 e.val) = ![e.val, (6 : Fin 11).val * 256] := by decide
/-- The offset of this transfer or load, in coordinates. -/
theorem off99_at : ∀ e : Fin 8, k0_off99 (BitVec.ofNat 32 e.val) = ![e.val, (7 : Fin 11).val * 256] := by decide
/-- The offset of this transfer or load, in coordinates. -/
theorem off102_at : ∀ e : Fin 8, k0_off102 (BitVec.ofNat 32 e.val) = ![e.val, (8 : Fin 11).val * 256] := by decide
/-- The offset of this transfer or load, in coordinates. -/
theorem off105_at : ∀ e : Fin 8, k0_off105 (BitVec.ofNat 32 e.val) = ![e.val, (9 : Fin 11).val * 256] := by decide
/-- The offset of this transfer or load, in coordinates. -/
theorem off108_at : ∀ e : Fin 8, k0_off108 (BitVec.ofNat 32 e.val) = ![e.val, (10 : Fin 11).val * 256] := by decide

/-- The offset of this transfer or load, in coordinates. -/
theorem off39_at : ∀ e : Fin 8, k0_off39 (BitVec.ofNat 32 e.val) = ![e.val, 0 * 3584 + 0 * 512, 0] := by decide
/-- The offset of this transfer or load, in coordinates. -/
theorem off40_at : ∀ e : Fin 8, k0_off40 (BitVec.ofNat 32 e.val) = ![e.val, 1 * 3584 + 0 * 512, 0] := by decide
/-- The offset of this transfer or load, in coordinates. -/
theorem off45_at : ∀ e : Fin 8, k0_off45 (BitVec.ofNat 32 e.val) = ![e.val, 0 * 3584 + 1 * 512, 0] := by decide
/-- The offset of this transfer or load, in coordinates. -/
theorem off46_at : ∀ e : Fin 8, k0_off46 (BitVec.ofNat 32 e.val) = ![e.val, 1 * 3584 + 1 * 512, 0] := by decide
/-- The offset of this transfer or load, in coordinates. -/
theorem off51_at : ∀ e : Fin 8, k0_off51 (BitVec.ofNat 32 e.val) = ![e.val, 0 * 3584 + 2 * 512, 0] := by decide
/-- The offset of this transfer or load, in coordinates. -/
theorem off52_at : ∀ e : Fin 8, k0_off52 (BitVec.ofNat 32 e.val) = ![e.val, 1 * 3584 + 2 * 512, 0] := by decide
/-- The offset of this transfer or load, in coordinates. -/
theorem off57_at : ∀ e : Fin 8, k0_off57 (BitVec.ofNat 32 e.val) = ![e.val, 0 * 3584 + 3 * 512, 0] := by decide
/-- The offset of this transfer or load, in coordinates. -/
theorem off58_at : ∀ e : Fin 8, k0_off58 (BitVec.ofNat 32 e.val) = ![e.val, 1 * 3584 + 3 * 512, 0] := by decide
/-- The offset of this transfer or load, in coordinates. -/
theorem off63_at : ∀ e : Fin 8, k0_off63 (BitVec.ofNat 32 e.val) = ![e.val, 0 * 3584 + 4 * 512, 0] := by decide
/-- The offset of this transfer or load, in coordinates. -/
theorem off64_at : ∀ e : Fin 8, k0_off64 (BitVec.ofNat 32 e.val) = ![e.val, 1 * 3584 + 4 * 512, 0] := by decide
/-- The offset of this transfer or load, in coordinates. -/
theorem off69_at : ∀ e : Fin 8, k0_off69 (BitVec.ofNat 32 e.val) = ![e.val, 0 * 3584 + 5 * 512, 0] := by decide
/-- The offset of this transfer or load, in coordinates. -/
theorem off70_at : ∀ e : Fin 8, k0_off70 (BitVec.ofNat 32 e.val) = ![e.val, 1 * 3584 + 5 * 512, 0] := by decide
/-- The offset of this transfer or load, in coordinates. -/
theorem off75_at : ∀ e : Fin 8, k0_off75 (BitVec.ofNat 32 e.val) = ![e.val, 0 * 3584 + 6 * 512, 0] := by decide
/-- The offset of this transfer or load, in coordinates. -/
theorem off76_at : ∀ e : Fin 8, k0_off76 (BitVec.ofNat 32 e.val) = ![e.val, 1 * 3584 + 6 * 512, 0] := by decide
/-- The offset of this transfer or load, in coordinates. -/
theorem off79_at : ∀ e : Fin 8, k0_off79 (BitVec.ofNat 32 e.val) = ![e.val, 0 * 256, 0] := by decide
/-- The offset of this transfer or load, in coordinates. -/
theorem off82_at : ∀ e : Fin 8, k0_off82 (BitVec.ofNat 32 e.val) = ![e.val, 1 * 256, 0] := by decide
/-- The offset of this transfer or load, in coordinates. -/
theorem off85_at : ∀ e : Fin 8, k0_off85 (BitVec.ofNat 32 e.val) = ![e.val, 2 * 256, 0] := by decide
/-- The offset of this transfer or load, in coordinates. -/
theorem off88_at : ∀ e : Fin 8, k0_off88 (BitVec.ofNat 32 e.val) = ![e.val, 3 * 256, 0] := by decide
/-- The offset of this transfer or load, in coordinates. -/
theorem off91_at : ∀ e : Fin 8, k0_off91 (BitVec.ofNat 32 e.val) = ![e.val, 4 * 256, 0] := by decide
/-- The offset of this transfer or load, in coordinates. -/
theorem off94_at : ∀ e : Fin 8, k0_off94 (BitVec.ofNat 32 e.val) = ![e.val, 5 * 256, 0] := by decide
/-- The offset of this transfer or load, in coordinates. -/
theorem off97_at : ∀ e : Fin 8, k0_off97 (BitVec.ofNat 32 e.val) = ![e.val, 6 * 256, 0] := by decide
/-- The offset of this transfer or load, in coordinates. -/
theorem off100_at : ∀ e : Fin 8, k0_off100 (BitVec.ofNat 32 e.val) = ![e.val, 7 * 256, 0] := by decide
/-- The offset of this transfer or load, in coordinates. -/
theorem off103_at : ∀ e : Fin 8, k0_off103 (BitVec.ofNat 32 e.val) = ![e.val, 8 * 256, 0] := by decide
/-- The offset of this transfer or load, in coordinates. -/
theorem off106_at : ∀ e : Fin 8, k0_off106 (BitVec.ofNat 32 e.val) = ![e.val, 9 * 256, 0] := by decide
/-- The offset of this transfer or load, in coordinates. -/
theorem off109_at : ∀ e : Fin 8, k0_off109 (BitVec.ofNat 32 e.val) = ![e.val, 10 * 256, 0] := by decide

/-- The offset of this transfer or load, in coordinates. -/
theorem off8_at : ∀ e : Fin 8, k0_off8 (BitVec.ofNat 32 e.val) = ![e.val, 0 * 3584 + 0 * 512, 0] := by decide
/-- The offset of this transfer or load, in coordinates. -/
theorem off9_at : ∀ e : Fin 8, k0_off9 (BitVec.ofNat 32 e.val) = ![e.val, 1 * 3584 + 0 * 512, 0] := by decide
/-- The offset of this transfer or load, in coordinates. -/
theorem off10_at : ∀ e : Fin 8, k0_off10 (BitVec.ofNat 32 e.val) = ![e.val, 0 * 3584 + 1 * 512, 0] := by decide
/-- The offset of this transfer or load, in coordinates. -/
theorem off11_at : ∀ e : Fin 8, k0_off11 (BitVec.ofNat 32 e.val) = ![e.val, 1 * 3584 + 1 * 512, 0] := by decide
/-- The offset of this transfer or load, in coordinates. -/
theorem off12_at : ∀ e : Fin 8, k0_off12 (BitVec.ofNat 32 e.val) = ![e.val, 0 * 3584 + 2 * 512, 0] := by decide
/-- The offset of this transfer or load, in coordinates. -/
theorem off13_at : ∀ e : Fin 8, k0_off13 (BitVec.ofNat 32 e.val) = ![e.val, 1 * 3584 + 2 * 512, 0] := by decide
/-- The offset of this transfer or load, in coordinates. -/
theorem off14_at : ∀ e : Fin 8, k0_off14 (BitVec.ofNat 32 e.val) = ![e.val, 0 * 3584 + 3 * 512, 0] := by decide
/-- The offset of this transfer or load, in coordinates. -/
theorem off15_at : ∀ e : Fin 8, k0_off15 (BitVec.ofNat 32 e.val) = ![e.val, 1 * 3584 + 3 * 512, 0] := by decide
/-- The offset of this transfer or load, in coordinates. -/
theorem off16_at : ∀ e : Fin 8, k0_off16 (BitVec.ofNat 32 e.val) = ![e.val, 0 * 3584 + 4 * 512, 0] := by decide
/-- The offset of this transfer or load, in coordinates. -/
theorem off17_at : ∀ e : Fin 8, k0_off17 (BitVec.ofNat 32 e.val) = ![e.val, 1 * 3584 + 4 * 512, 0] := by decide
/-- The offset of this transfer or load, in coordinates. -/
theorem off18_at : ∀ e : Fin 8, k0_off18 (BitVec.ofNat 32 e.val) = ![e.val, 0 * 3584 + 5 * 512, 0] := by decide
/-- The offset of this transfer or load, in coordinates. -/
theorem off19_at : ∀ e : Fin 8, k0_off19 (BitVec.ofNat 32 e.val) = ![e.val, 1 * 3584 + 5 * 512, 0] := by decide
/-- The offset of this transfer or load, in coordinates. -/
theorem off20_at : ∀ e : Fin 8, k0_off20 (BitVec.ofNat 32 e.val) = ![e.val, 0 * 3584 + 6 * 512, 0] := by decide
/-- The offset of this transfer or load, in coordinates. -/
theorem off21_at : ∀ e : Fin 8, k0_off21 (BitVec.ofNat 32 e.val) = ![e.val, 1 * 3584 + 6 * 512, 0] := by decide
/-- The offset of this transfer or load, in coordinates. -/
theorem off22_at : ∀ e : Fin 8, k0_off22 (BitVec.ofNat 32 e.val) = ![e.val, 0 * 256, 0] := by decide
/-- The offset of this transfer or load, in coordinates. -/
theorem off23_at : ∀ e : Fin 8, k0_off23 (BitVec.ofNat 32 e.val) = ![e.val, 1 * 256, 0] := by decide
/-- The offset of this transfer or load, in coordinates. -/
theorem off24_at : ∀ e : Fin 8, k0_off24 (BitVec.ofNat 32 e.val) = ![e.val, 2 * 256, 0] := by decide
/-- The offset of this transfer or load, in coordinates. -/
theorem off25_at : ∀ e : Fin 8, k0_off25 (BitVec.ofNat 32 e.val) = ![e.val, 3 * 256, 0] := by decide
/-- The offset of this transfer or load, in coordinates. -/
theorem off26_at : ∀ e : Fin 8, k0_off26 (BitVec.ofNat 32 e.val) = ![e.val, 4 * 256, 0] := by decide
/-- The offset of this transfer or load, in coordinates. -/
theorem off27_at : ∀ e : Fin 8, k0_off27 (BitVec.ofNat 32 e.val) = ![e.val, 5 * 256, 0] := by decide
/-- The offset of this transfer or load, in coordinates. -/
theorem off28_at : ∀ e : Fin 8, k0_off28 (BitVec.ofNat 32 e.val) = ![e.val, 6 * 256, 0] := by decide
/-- The offset of this transfer or load, in coordinates. -/
theorem off29_at : ∀ e : Fin 8, k0_off29 (BitVec.ofNat 32 e.val) = ![e.val, 7 * 256, 0] := by decide
/-- The offset of this transfer or load, in coordinates. -/
theorem off30_at : ∀ e : Fin 8, k0_off30 (BitVec.ofNat 32 e.val) = ![e.val, 8 * 256, 0] := by decide
/-- The offset of this transfer or load, in coordinates. -/
theorem off31_at : ∀ e : Fin 8, k0_off31 (BitVec.ofNat 32 e.val) = ![e.val, 9 * 256, 0] := by decide
/-- The offset of this transfer or load, in coordinates. -/
theorem off32_at : ∀ e : Fin 8, k0_off32 (BitVec.ofNat 32 e.val) = ![e.val, 10 * 256, 0] := by decide

section Trip
variable (c : Dev nD)
  (XG : Buf (Elt F) (wguM.view.loc (c : Thread nD τ))) (XD : Buf (Elt F) (wdnM.view.loc (c : Thread nD τ)))
  (arg2 : Memref sig .tc .vmem S128x2816 .bf16) (arg3 : Memref sig .tc .vmem S8x7168 .f32) (arg4 : Memref sig .tc .vmem S8x2816 .f32)
  (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ)))

/-- A load of the whole intermediate after seven stores of 512 columns. -/
theorem h_cov (p : Fin 7 → Vec F S128x512 .bf16) :
    View.readCov (Val := Elt F) hM.view [⟨Rect.unit (s := S128x3584) ![0, 3072] S128x512.size inb_S128x3584_S128x512_0_3072, p 6⟩, ⟨Rect.unit (s := S128x3584) ![0, 2560] S128x512.size inb_S128x3584_S128x512_0_2560, p 5⟩, ⟨Rect.unit (s := S128x3584) ![0, 2048] S128x512.size inb_S128x3584_S128x512_0_2048, p 4⟩, ⟨Rect.unit (s := S128x3584) ![0, 1536] S128x512.size inb_S128x3584_S128x512_0_1536, p 3⟩, ⟨Rect.unit (s := S128x3584) ![0, 1024] S128x512.size inb_S128x3584_S128x512_0_1024, p 2⟩, ⟨Rect.unit (s := S128x3584) ![0, 512] S128x512.size inb_S128x3584_S128x512_0_512, p 1⟩, ⟨Rect.unit (s := S128x3584) ![0, 0] S128x512.size inb_S128x3584_S128x512_0_0, p 0⟩]
        (Rect.unit (s := S128x3584) ![0, 0] S128x3584.size inb_S128x3584_S128x3584_0_0).toLoadRect
      = fun y : S128x3584.Idx => p ⟨(y 1).val / 512, by have : (y 1).val < 3584 := (y 1).isLt; omega⟩ (ix2 (y 0 : Fin 128) (⟨(y 1).val % 512, by omega⟩ : Fin 512)) := by
  funext y
  unfold View.readCov
  refine Eq.trans ?_ (h_tiles hM.view.junk p y)
  refine congrArg (hM.view.read (Elt F) (hM.view.writes (Elt F) hM.view.junk [⟨Rect.unit (s := S128x3584) ![0, 3072] S128x512.size inb_S128x3584_S128x512_0_3072, p 6⟩, ⟨Rect.unit (s := S128x3584) ![0, 2560] S128x512.size inb_S128x3584_S128x512_0_2560, p 5⟩, ⟨Rect.unit (s := S128x3584) ![0, 2048] S128x512.size inb_S128x3584_S128x512_0_2048, p 4⟩, ⟨Rect.unit (s := S128x3584) ![0, 1536] S128x512.size inb_S128x3584_S128x512_0_1536, p 3⟩, ⟨Rect.unit (s := S128x3584) ![0, 1024] S128x512.size inb_S128x3584_S128x512_0_1024, p 2⟩, ⟨Rect.unit (s := S128x3584) ![0, 512] S128x512.size inb_S128x3584_S128x512_0_512, p 1⟩, ⟨Rect.unit (s := S128x3584) ![0, 0] S128x512.size inb_S128x3584_S128x512_0_0, p 0⟩])) (funext fun a => Fin.ext ?_)
  match a with
  | ⟨0, _⟩ => show 0 + 1 * (y 0).val = (y 0).val; omega
  | ⟨1, _⟩ => show 0 + 1 * (y 1).val = (y 1).val; omega

set_option maxHeartbeats 4000000 in
/-- The intermediate a trip computes, from the slots it finds landed. -/
theorem trip_h (e : Fin 8) (w : BitVec 32) (hw : w = BitVec.ofNat 32 e.val) (h3 : k0_chk3 w)
    (f00 f01 f10 f11 f20 f21 f30 f31 f40 f41 f50 f51 f60 f61 : Buf (Elt F) (guM.view.loc (c : Thread nD τ)))
    (p00 : GLanded c XG e.val 0 0 inb_S7x2x512x2816_S1x1x512x2816_0_0_0_0 f00)
    (p01 : GLanded c XG e.val 0 1 inb_S7x2x512x2816_S1x1x512x2816_0_1_0_0 f01)
    (p10 : GLanded c XG e.val 1 0 inb_S7x2x512x2816_S1x1x512x2816_1_0_0_0 f10)
    (p11 : GLanded c XG e.val 1 1 inb_S7x2x512x2816_S1x1x512x2816_1_1_0_0 f11)
    (p20 : GLanded c XG e.val 2 0 inb_S7x2x512x2816_S1x1x512x2816_2_0_0_0 f20)
    (p21 : GLanded c XG e.val 2 1 inb_S7x2x512x2816_S1x1x512x2816_2_1_0_0 f21)
    (p30 : GLanded c XG e.val 3 0 inb_S7x2x512x2816_S1x1x512x2816_3_0_0_0 f30)
    (p31 : GLanded c XG e.val 3 1 inb_S7x2x512x2816_S1x1x512x2816_3_1_0_0 f31)
    (p40 : GLanded c XG e.val 4 0 inb_S7x2x512x2816_S1x1x512x2816_4_0_0_0 f40)
    (p41 : GLanded c XG e.val 4 1 inb_S7x2x512x2816_S1x1x512x2816_4_1_0_0 f41)
    (p50 : GLanded c XG e.val 5 0 inb_S7x2x512x2816_S1x1x512x2816_5_0_0_0 f50)
    (p51 : GLanded c XG e.val 5 1 inb_S7x2x512x2816_S1x1x512x2816_5_1_0_0 f51)
    (p60 : GLanded c XG e.val 6 0 inb_S7x2x512x2816_S1x1x512x2816_6_0_0_0 f60)
    (p61 : GLanded c XG e.val 6 1 inb_S7x2x512x2816_S1x1x512x2816_6_1_0_0 f61) :
    View.readCov (Val := Elt F) hM.view [⟨Rect.unit (s := S128x3584) ![0, 3072] S128x512.size inb_S128x3584_S128x512_0_3072, k0_pay9 (View.readAt (Elt F) arg3.view (Rect.unit (s := S8x7168) (k0_off73 w) S1x512.size (k0_off73_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![6, 0, 0, 0] S1x1x512x2816.size inb_S7x2x512x2816_S1x1x512x2816_6_0_0_0).toLoadRect f60) (View.readAt (Elt F) arg3.view (Rect.unit (s := S8x7168) (k0_off74 w) S1x512.size (k0_off74_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![6, 1, 0, 0] S1x1x512x2816.size inb_S7x2x512x2816_S1x1x512x2816_6_1_0_0).toLoadRect f61)⟩,
      ⟨Rect.unit (s := S128x3584) ![0, 2560] S128x512.size inb_S128x3584_S128x512_0_2560, k0_pay9 (View.readAt (Elt F) arg3.view (Rect.unit (s := S8x7168) (k0_off67 w) S1x512.size (k0_off67_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![5, 0, 0, 0] S1x1x512x2816.size inb_S7x2x512x2816_S1x1x512x2816_5_0_0_0).toLoadRect f50) (View.readAt (Elt F) arg3.view (Rect.unit (s := S8x7168) (k0_off68 w) S1x512.size (k0_off68_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![5, 1, 0, 0] S1x1x512x2816.size inb_S7x2x512x2816_S1x1x512x2816_5_1_0_0).toLoadRect f51)⟩,
      ⟨Rect.unit (s := S128x3584) ![0, 2048] S128x512.size inb_S128x3584_S128x512_0_2048, k0_pay9 (View.readAt (Elt F) arg3.view (Rect.unit (s := S8x7168) (k0_off61 w) S1x512.size (k0_off61_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![4, 0, 0, 0] S1x1x512x2816.size inb_S7x2x512x2816_S1x1x512x2816_4_0_0_0).toLoadRect f40) (View.readAt (Elt F) arg3.view (Rect.unit (s := S8x7168) (k0_off62 w) S1x512.size (k0_off62_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![4, 1, 0, 0] S1x1x512x2816.size inb_S7x2x512x2816_S1x1x512x2816_4_1_0_0).toLoadRect f41)⟩,
      ⟨Rect.unit (s := S128x3584) ![0, 1536] S128x512.size inb_S128x3584_S128x512_0_1536, k0_pay9 (View.readAt (Elt F) arg3.view (Rect.unit (s := S8x7168) (k0_off55 w) S1x512.size (k0_off55_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![3, 0, 0, 0] S1x1x512x2816.size inb_S7x2x512x2816_S1x1x512x2816_3_0_0_0).toLoadRect f30) (View.readAt (Elt F) arg3.view (Rect.unit (s := S8x7168) (k0_off56 w) S1x512.size (k0_off56_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![3, 1, 0, 0] S1x1x512x2816.size inb_S7x2x512x2816_S1x1x512x2816_3_1_0_0).toLoadRect f31)⟩,
      ⟨Rect.unit (s := S128x3584) ![0, 1024] S128x512.size inb_S128x3584_S128x512_0_1024, k0_pay9 (View.readAt (Elt F) arg3.view (Rect.unit (s := S8x7168) (k0_off49 w) S1x512.size (k0_off49_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![2, 0, 0, 0] S1x1x512x2816.size inb_S7x2x512x2816_S1x1x512x2816_2_0_0_0).toLoadRect f20) (View.readAt (Elt F) arg3.view (Rect.unit (s := S8x7168) (k0_off50 w) S1x512.size (k0_off50_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![2, 1, 0, 0] S1x1x512x2816.size inb_S7x2x512x2816_S1x1x512x2816_2_1_0_0).toLoadRect f21)⟩,
      ⟨Rect.unit (s := S128x3584) ![0, 512] S128x512.size inb_S128x3584_S128x512_0_512, k0_pay9 (View.readAt (Elt F) arg3.view (Rect.unit (s := S8x7168) (k0_off43 w) S1x512.size (k0_off43_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![1, 0, 0, 0] S1x1x512x2816.size inb_S7x2x512x2816_S1x1x512x2816_1_0_0_0).toLoadRect f10) (View.readAt (Elt F) arg3.view (Rect.unit (s := S8x7168) (k0_off44 w) S1x512.size (k0_off44_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![1, 1, 0, 0] S1x1x512x2816.size inb_S7x2x512x2816_S1x1x512x2816_1_1_0_0).toLoadRect f11)⟩,
      ⟨Rect.unit (s := S128x3584) ![0, 0] S128x512.size inb_S128x3584_S128x512_0_0, k0_pay9 (View.readAt (Elt F) arg3.view (Rect.unit (s := S8x7168) (k0_off37 w) S1x512.size (k0_off37_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![0, 0, 0, 0] S1x1x512x2816.size inb_S7x2x512x2816_S1x1x512x2816_0_0_0_0).toLoadRect f00) (View.readAt (Elt F) arg3.view (Rect.unit (s := S8x7168) (k0_off38 w) S1x512.size (k0_off38_inb w h3)).toLoadRect fsg) (View.readAt (Elt F) arg2.view (Rect.unit (s := S128x2816) ![0, 0] S128x2816.size inb_S128x2816_S128x2816_0_0).toLoadRect fx) (View.readAt (Elt F) guM.view (Rect.unit (s := S7x2x512x2816) ![0, 1, 0, 0] S1x1x512x2816.size inb_S7x2x512x2816_S1x1x512x2816_0_1_0_0).toLoadRect f01)⟩] (Rect.unit (s := S128x3584) ![0, 0] S128x3584.size inb_S128x3584_S128x3584_0_0).toLoadRect
      = hAll c XG arg2 arg3 fx fsg e := by
  subst hw
  have s00 : View.readAt (Elt F) arg3.view (Rect.unit (s := S8x7168) (k0_off37 (BitVec.ofNat 32 e.val)) S1x512.size (k0_off37_inb (BitVec.ofNat 32 e.val) h3)).toLoadRect fsg = sgBlk c arg3 fsg e 0 0 := sg_read c arg3 fsg e 0 0 _ _ (off37_at e)
  have g00 : View.readAt (Elt F) guM.view (Rect.unit (s := S7x2x512x2816) ![0, 0, 0, 0] S1x1x512x2816.size inb_S7x2x512x2816_S1x1x512x2816_0_0_0_0).toLoadRect f00 = gBlk c XG e 0 0 := g_read c XG e 0 0 _ f00 p00
  have s01 : View.readAt (Elt F) arg3.view (Rect.unit (s := S8x7168) (k0_off38 (BitVec.ofNat 32 e.val)) S1x512.size (k0_off38_inb (BitVec.ofNat 32 e.val) h3)).toLoadRect fsg = sgBlk c arg3 fsg e 1 0 := sg_read c arg3 fsg e 1 0 _ _ (off38_at e)
  have g01 : View.readAt (Elt F) guM.view (Rect.unit (s := S7x2x512x2816) ![0, 1, 0, 0] S1x1x512x2816.size inb_S7x2x512x2816_S1x1x512x2816_0_1_0_0).toLoadRect f01 = gBlk c XG e 1 0 := g_read c XG e 1 0 _ f01 p01
  have s10 : View.readAt (Elt F) arg3.view (Rect.unit (s := S8x7168) (k0_off43 (BitVec.ofNat 32 e.val)) S1x512.size (k0_off43_inb (BitVec.ofNat 32 e.val) h3)).toLoadRect fsg = sgBlk c arg3 fsg e 0 1 := sg_read c arg3 fsg e 0 1 _ _ (off43_at e)
  have g10 : View.readAt (Elt F) guM.view (Rect.unit (s := S7x2x512x2816) ![1, 0, 0, 0] S1x1x512x2816.size inb_S7x2x512x2816_S1x1x512x2816_1_0_0_0).toLoadRect f10 = gBlk c XG e 0 1 := g_read c XG e 0 1 _ f10 p10
  have s11 : View.readAt (Elt F) arg3.view (Rect.unit (s := S8x7168) (k0_off44 (BitVec.ofNat 32 e.val)) S1x512.size (k0_off44_inb (BitVec.ofNat 32 e.val) h3)).toLoadRect fsg = sgBlk c arg3 fsg e 1 1 := sg_read c arg3 fsg e 1 1 _ _ (off44_at e)
  have g11 : View.readAt (Elt F) guM.view (Rect.unit (s := S7x2x512x2816) ![1, 1, 0, 0] S1x1x512x2816.size inb_S7x2x512x2816_S1x1x512x2816_1_1_0_0).toLoadRect f11 = gBlk c XG e 1 1 := g_read c XG e 1 1 _ f11 p11
  have s20 : View.readAt (Elt F) arg3.view (Rect.unit (s := S8x7168) (k0_off49 (BitVec.ofNat 32 e.val)) S1x512.size (k0_off49_inb (BitVec.ofNat 32 e.val) h3)).toLoadRect fsg = sgBlk c arg3 fsg e 0 2 := sg_read c arg3 fsg e 0 2 _ _ (off49_at e)
  have g20 : View.readAt (Elt F) guM.view (Rect.unit (s := S7x2x512x2816) ![2, 0, 0, 0] S1x1x512x2816.size inb_S7x2x512x2816_S1x1x512x2816_2_0_0_0).toLoadRect f20 = gBlk c XG e 0 2 := g_read c XG e 0 2 _ f20 p20
  have s21 : View.readAt (Elt F) arg3.view (Rect.unit (s := S8x7168) (k0_off50 (BitVec.ofNat 32 e.val)) S1x512.size (k0_off50_inb (BitVec.ofNat 32 e.val) h3)).toLoadRect fsg = sgBlk c arg3 fsg e 1 2 := sg_read c arg3 fsg e 1 2 _ _ (off50_at e)
  have g21 : View.readAt (Elt F) guM.view (Rect.unit (s := S7x2x512x2816) ![2, 1, 0, 0] S1x1x512x2816.size inb_S7x2x512x2816_S1x1x512x2816_2_1_0_0).toLoadRect f21 = gBlk c XG e 1 2 := g_read c XG e 1 2 _ f21 p21
  have s30 : View.readAt (Elt F) arg3.view (Rect.unit (s := S8x7168) (k0_off55 (BitVec.ofNat 32 e.val)) S1x512.size (k0_off55_inb (BitVec.ofNat 32 e.val) h3)).toLoadRect fsg = sgBlk c arg3 fsg e 0 3 := sg_read c arg3 fsg e 0 3 _ _ (off55_at e)
  have g30 : View.readAt (Elt F) guM.view (Rect.unit (s := S7x2x512x2816) ![3, 0, 0, 0] S1x1x512x2816.size inb_S7x2x512x2816_S1x1x512x2816_3_0_0_0).toLoadRect f30 = gBlk c XG e 0 3 := g_read c XG e 0 3 _ f30 p30
  have s31 : View.readAt (Elt F) arg3.view (Rect.unit (s := S8x7168) (k0_off56 (BitVec.ofNat 32 e.val)) S1x512.size (k0_off56_inb (BitVec.ofNat 32 e.val) h3)).toLoadRect fsg = sgBlk c arg3 fsg e 1 3 := sg_read c arg3 fsg e 1 3 _ _ (off56_at e)
  have g31 : View.readAt (Elt F) guM.view (Rect.unit (s := S7x2x512x2816) ![3, 1, 0, 0] S1x1x512x2816.size inb_S7x2x512x2816_S1x1x512x2816_3_1_0_0).toLoadRect f31 = gBlk c XG e 1 3 := g_read c XG e 1 3 _ f31 p31
  have s40 : View.readAt (Elt F) arg3.view (Rect.unit (s := S8x7168) (k0_off61 (BitVec.ofNat 32 e.val)) S1x512.size (k0_off61_inb (BitVec.ofNat 32 e.val) h3)).toLoadRect fsg = sgBlk c arg3 fsg e 0 4 := sg_read c arg3 fsg e 0 4 _ _ (off61_at e)
  have g40 : View.readAt (Elt F) guM.view (Rect.unit (s := S7x2x512x2816) ![4, 0, 0, 0] S1x1x512x2816.size inb_S7x2x512x2816_S1x1x512x2816_4_0_0_0).toLoadRect f40 = gBlk c XG e 0 4 := g_read c XG e 0 4 _ f40 p40
  have s41 : View.readAt (Elt F) arg3.view (Rect.unit (s := S8x7168) (k0_off62 (BitVec.ofNat 32 e.val)) S1x512.size (k0_off62_inb (BitVec.ofNat 32 e.val) h3)).toLoadRect fsg = sgBlk c arg3 fsg e 1 4 := sg_read c arg3 fsg e 1 4 _ _ (off62_at e)
  have g41 : View.readAt (Elt F) guM.view (Rect.unit (s := S7x2x512x2816) ![4, 1, 0, 0] S1x1x512x2816.size inb_S7x2x512x2816_S1x1x512x2816_4_1_0_0).toLoadRect f41 = gBlk c XG e 1 4 := g_read c XG e 1 4 _ f41 p41
  have s50 : View.readAt (Elt F) arg3.view (Rect.unit (s := S8x7168) (k0_off67 (BitVec.ofNat 32 e.val)) S1x512.size (k0_off67_inb (BitVec.ofNat 32 e.val) h3)).toLoadRect fsg = sgBlk c arg3 fsg e 0 5 := sg_read c arg3 fsg e 0 5 _ _ (off67_at e)
  have g50 : View.readAt (Elt F) guM.view (Rect.unit (s := S7x2x512x2816) ![5, 0, 0, 0] S1x1x512x2816.size inb_S7x2x512x2816_S1x1x512x2816_5_0_0_0).toLoadRect f50 = gBlk c XG e 0 5 := g_read c XG e 0 5 _ f50 p50
  have s51 : View.readAt (Elt F) arg3.view (Rect.unit (s := S8x7168) (k0_off68 (BitVec.ofNat 32 e.val)) S1x512.size (k0_off68_inb (BitVec.ofNat 32 e.val) h3)).toLoadRect fsg = sgBlk c arg3 fsg e 1 5 := sg_read c arg3 fsg e 1 5 _ _ (off68_at e)
  have g51 : View.readAt (Elt F) guM.view (Rect.unit (s := S7x2x512x2816) ![5, 1, 0, 0] S1x1x512x2816.size inb_S7x2x512x2816_S1x1x512x2816_5_1_0_0).toLoadRect f51 = gBlk c XG e 1 5 := g_read c XG e 1 5 _ f51 p51
  have s60 : View.readAt (Elt F) arg3.view (Rect.unit (s := S8x7168) (k0_off73 (BitVec.ofNat 32 e.val)) S1x512.size (k0_off73_inb (BitVec.ofNat 32 e.val) h3)).toLoadRect fsg = sgBlk c arg3 fsg e 0 6 := sg_read c arg3 fsg e 0 6 _ _ (off73_at e)
  have g60 : View.readAt (Elt F) guM.view (Rect.unit (s := S7x2x512x2816) ![6, 0, 0, 0] S1x1x512x2816.size inb_S7x2x512x2816_S1x1x512x2816_6_0_0_0).toLoadRect f60 = gBlk c XG e 0 6 := g_read c XG e 0 6 _ f60 p60
  have s61 : View.readAt (Elt F) arg3.view (Rect.unit (s := S8x7168) (k0_off74 (BitVec.ofNat 32 e.val)) S1x512.size (k0_off74_inb (BitVec.ofNat 32 e.val) h3)).toLoadRect fsg = sgBlk c arg3 fsg e 1 6 := sg_read c arg3 fsg e 1 6 _ _ (off74_at e)
  have g61 : View.readAt (Elt F) guM.view (Rect.unit (s := S7x2x512x2816) ![6, 1, 0, 0] S1x1x512x2816.size inb_S7x2x512x2816_S1x1x512x2816_6_1_0_0).toLoadRect f61 = gBlk c XG e 1 6 := g_read c XG e 1 6 _ f61 p61
  rw [s00, g00, s01, g01, s10, g10, s11, g11, s20, g20, s21, g21, s30, g30, s31, g31, s40, g40, s41, g41, s50, g50, s51, g51, s60, g60, s61, g61]
  exact h_cov (fun j => k0_pay9 (sgBlk c arg3 fsg e 0 j) (xV c arg2 fx) (gBlk c XG e 0 j) (sgBlk c arg3 fsg e 1 j) (xV c arg2 fx) (gBlk c XG e 1 j))

set_option maxHeartbeats 4000000 in
/-- The accumulator a trip leaves, from the slots it finds landed and the intermediate. -/
theorem trip_acc (v0 : IVec S128x128 32) (e : Fin 8) (w : BitVec 32) (hw : w = BitVec.ofNat 32 e.val) (h3 : k0_chk3 w)
    (hh : Vec F S128x3584 .bf16) (hhe : hh = hAll c XG arg2 arg3 fx fsg e)
    (d0 d1 d2 d3 d4 d5 d6 d7 d8 d9 d10 : Buf (Elt F) (dnM.view.loc (c : Thread nD τ)))
    (q0 : DLanded c XD e.val 0 inb_S11x256x3584_S1x256x3584_0_0_0 d0)
    (q1 : DLanded c XD e.val 1 inb_S11x256x3584_S1x256x3584_1_0_0 d1)
    (q2 : DLanded c XD e.val 2 inb_S11x256x3584_S1x256x3584_2_0_0 d2)
    (q3 : DLanded c XD e.val 3 inb_S11x256x3584_S1x256x3584_3_0_0 d3)
    (q4 : DLanded c XD e.val 4 inb_S11x256x3584_S1x256x3584_4_0_0 d4)
    (q5 : DLanded c XD e.val 5 inb_S11x256x3584_S1x256x3584_5_0_0 d5)
    (q6 : DLanded c XD e.val 6 inb_S11x256x3584_S1x256x3584_6_0_0 d6)
    (q7 : DLanded c XD e.val 7 inb_S11x256x3584_S1x256x3584_7_0_0 d7)
    (q8 : DLanded c XD e.val 8 inb_S11x256x3584_S1x256x3584_8_0_0 d8)
    (q9 : DLanded c XD e.val 9 inb_S11x256x3584_S1x256x3584_9_0_0 d9)
    (q10 : DLanded c XD e.val 10 inb_S11x256x3584_S1x256x3584_10_0_0 d10)
    (fa : Buf (Elt F) (accM.view.loc (c : Thread nD τ))) :
    accM.view.read (Elt F) (accM.view.writes (Elt F) fa [⟨Rect.unit (s := S128x2816) ![0, 2560] S128x256.size inb_S128x2816_S128x256_0_2560, k0_pay25 (wgt v0 (cmb0 c fc) w) (hits v0 (cmb1 c fc) w) hh (View.readAt (Elt F) dnM.view (Rect.unit (s := S11x256x3584) ![10, 0, 0] S1x256x3584.size inb_S11x256x3584_S1x256x3584_10_0_0).toLoadRect d10) (View.readAt (Elt F) arg4.view (Rect.unit (s := S8x2816) (k0_off108 w) S1x256.size (k0_off108_inb w h3)).toLoadRect fsd) (View.readAt (Elt F) accM.view (Rect.unit (s := S128x2816) ![0, 2560] S128x256.size inb_S128x2816_S128x256_0_2560).toLoadRect fa)⟩,
      ⟨Rect.unit (s := S128x2816) ![0, 2304] S128x256.size inb_S128x2816_S128x256_0_2304, k0_pay25 (wgt v0 (cmb0 c fc) w) (hits v0 (cmb1 c fc) w) hh (View.readAt (Elt F) dnM.view (Rect.unit (s := S11x256x3584) ![9, 0, 0] S1x256x3584.size inb_S11x256x3584_S1x256x3584_9_0_0).toLoadRect d9) (View.readAt (Elt F) arg4.view (Rect.unit (s := S8x2816) (k0_off105 w) S1x256.size (k0_off105_inb w h3)).toLoadRect fsd) (View.readAt (Elt F) accM.view (Rect.unit (s := S128x2816) ![0, 2304] S128x256.size inb_S128x2816_S128x256_0_2304).toLoadRect fa)⟩,
      ⟨Rect.unit (s := S128x2816) ![0, 2048] S128x256.size inb_S128x2816_S128x256_0_2048, k0_pay25 (wgt v0 (cmb0 c fc) w) (hits v0 (cmb1 c fc) w) hh (View.readAt (Elt F) dnM.view (Rect.unit (s := S11x256x3584) ![8, 0, 0] S1x256x3584.size inb_S11x256x3584_S1x256x3584_8_0_0).toLoadRect d8) (View.readAt (Elt F) arg4.view (Rect.unit (s := S8x2816) (k0_off102 w) S1x256.size (k0_off102_inb w h3)).toLoadRect fsd) (View.readAt (Elt F) accM.view (Rect.unit (s := S128x2816) ![0, 2048] S128x256.size inb_S128x2816_S128x256_0_2048).toLoadRect fa)⟩,
      ⟨Rect.unit (s := S128x2816) ![0, 1792] S128x256.size inb_S128x2816_S128x256_0_1792, k0_pay25 (wgt v0 (cmb0 c fc) w) (hits v0 (cmb1 c fc) w) hh (View.readAt (Elt F) dnM.view (Rect.unit (s := S11x256x3584) ![7, 0, 0] S1x256x3584.size inb_S11x256x3584_S1x256x3584_7_0_0).toLoadRect d7) (View.readAt (Elt F) arg4.view (Rect.unit (s := S8x2816) (k0_off99 w) S1x256.size (k0_off99_inb w h3)).toLoadRect fsd) (View.readAt (Elt F) accM.view (Rect.unit (s := S128x2816) ![0, 1792] S128x256.size inb_S128x2816_S128x256_0_1792).toLoadRect fa)⟩,
      ⟨Rect.unit (s := S128x2816) ![0, 1536] S128x256.size inb_S128x2816_S128x256_0_1536, k0_pay25 (wgt v0 (cmb0 c fc) w) (hits v0 (cmb1 c fc) w) hh (View.readAt (Elt F) dnM.view (Rect.unit (s := S11x256x3584) ![6, 0, 0] S1x256x3584.size inb_S11x256x3584_S1x256x3584_6_0_0).toLoadRect d6) (View.readAt (Elt F) arg4.view (Rect.unit (s := S8x2816) (k0_off96 w) S1x256.size (k0_off96_inb w h3)).toLoadRect fsd) (View.readAt (Elt F) accM.view (Rect.unit (s := S128x2816) ![0, 1536] S128x256.size inb_S128x2816_S128x256_0_1536).toLoadRect fa)⟩,
      ⟨Rect.unit (s := S128x2816) ![0, 1280] S128x256.size inb_S128x2816_S128x256_0_1280, k0_pay25 (wgt v0 (cmb0 c fc) w) (hits v0 (cmb1 c fc) w) hh (View.readAt (Elt F) dnM.view (Rect.unit (s := S11x256x3584) ![5, 0, 0] S1x256x3584.size inb_S11x256x3584_S1x256x3584_5_0_0).toLoadRect d5) (View.readAt (Elt F) arg4.view (Rect.unit (s := S8x2816) (k0_off93 w) S1x256.size (k0_off93_inb w h3)).toLoadRect fsd) (View.readAt (Elt F) accM.view (Rect.unit (s := S128x2816) ![0, 1280] S128x256.size inb_S128x2816_S128x256_0_1280).toLoadRect fa)⟩,
      ⟨Rect.unit (s := S128x2816) ![0, 1024] S128x256.size inb_S128x2816_S128x256_0_1024, k0_pay25 (wgt v0 (cmb0 c fc) w) (hits v0 (cmb1 c fc) w) hh (View.readAt (Elt F) dnM.view (Rect.unit (s := S11x256x3584) ![4, 0, 0] S1x256x3584.size inb_S11x256x3584_S1x256x3584_4_0_0).toLoadRect d4) (View.readAt (Elt F) arg4.view (Rect.unit (s := S8x2816) (k0_off90 w) S1x256.size (k0_off90_inb w h3)).toLoadRect fsd) (View.readAt (Elt F) accM.view (Rect.unit (s := S128x2816) ![0, 1024] S128x256.size inb_S128x2816_S128x256_0_1024).toLoadRect fa)⟩,
      ⟨Rect.unit (s := S128x2816) ![0, 768] S128x256.size inb_S128x2816_S128x256_0_768, k0_pay25 (wgt v0 (cmb0 c fc) w) (hits v0 (cmb1 c fc) w) hh (View.readAt (Elt F) dnM.view (Rect.unit (s := S11x256x3584) ![3, 0, 0] S1x256x3584.size inb_S11x256x3584_S1x256x3584_3_0_0).toLoadRect d3) (View.readAt (Elt F) arg4.view (Rect.unit (s := S8x2816) (k0_off87 w) S1x256.size (k0_off87_inb w h3)).toLoadRect fsd) (View.readAt (Elt F) accM.view (Rect.unit (s := S128x2816) ![0, 768] S128x256.size inb_S128x2816_S128x256_0_768).toLoadRect fa)⟩,
      ⟨Rect.unit (s := S128x2816) ![0, 512] S128x256.size inb_S128x2816_S128x256_0_512, k0_pay25 (wgt v0 (cmb0 c fc) w) (hits v0 (cmb1 c fc) w) hh (View.readAt (Elt F) dnM.view (Rect.unit (s := S11x256x3584) ![2, 0, 0] S1x256x3584.size inb_S11x256x3584_S1x256x3584_2_0_0).toLoadRect d2) (View.readAt (Elt F) arg4.view (Rect.unit (s := S8x2816) (k0_off84 w) S1x256.size (k0_off84_inb w h3)).toLoadRect fsd) (View.readAt (Elt F) accM.view (Rect.unit (s := S128x2816) ![0, 512] S128x256.size inb_S128x2816_S128x256_0_512).toLoadRect fa)⟩,
      ⟨Rect.unit (s := S128x2816) ![0, 256] S128x256.size inb_S128x2816_S128x256_0_256, k0_pay25 (wgt v0 (cmb0 c fc) w) (hits v0 (cmb1 c fc) w) hh (View.readAt (Elt F) dnM.view (Rect.unit (s := S11x256x3584) ![1, 0, 0] S1x256x3584.size inb_S11x256x3584_S1x256x3584_1_0_0).toLoadRect d1) (View.readAt (Elt F) arg4.view (Rect.unit (s := S8x2816) (k0_off81 w) S1x256.size (k0_off81_inb w h3)).toLoadRect fsd) (View.readAt (Elt F) accM.view (Rect.unit (s := S128x2816) ![0, 256] S128x256.size inb_S128x2816_S128x256_0_256).toLoadRect fa)⟩,
      ⟨Rect.unit (s := S128x2816) ![0, 0] S128x256.size inb_S128x2816_S128x256_0_0, k0_pay25 (wgt v0 (cmb0 c fc) w) (hits v0 (cmb1 c fc) w) hh (View.readAt (Elt F) dnM.view (Rect.unit (s := S11x256x3584) ![0, 0, 0] S1x256x3584.size inb_S11x256x3584_S1x256x3584_0_0_0).toLoadRect d0) (View.readAt (Elt F) arg4.view (Rect.unit (s := S8x2816) (k0_off78 w) S1x256.size (k0_off78_inb w h3)).toLoadRect fsd) (View.readAt (Elt F) accM.view (Rect.unit (s := S128x2816) ![0, 0] S128x256.size inb_S128x2816_S128x256_0_0).toLoadRect fa)⟩])
      = accNext c XG XD arg2 arg3 arg4 fx fsg fsd (cmb0 c fc) (cmb1 c fc) v0 e (accM.view.read (Elt F) fa) := by
  subst hw hhe
  have s0 : View.readAt (Elt F) arg4.view (Rect.unit (s := S8x2816) (k0_off78 (BitVec.ofNat 32 e.val)) S1x256.size (k0_off78_inb (BitVec.ofNat 32 e.val) h3)).toLoadRect fsd = sdBlk c arg4 fsd e 0 := sd_read c arg4 fsd e 0 _ _ (off78_at e)
  have g0 : View.readAt (Elt F) dnM.view (Rect.unit (s := S11x256x3584) ![0, 0, 0] S1x256x3584.size inb_S11x256x3584_S1x256x3584_0_0_0).toLoadRect d0 = dBlk c XD e 0 := d_read c XD e 0 _ d0 q0
  have o0 : View.readAt (Elt F) accM.view (Rect.unit (s := S128x2816) ![0, 0] S128x256.size inb_S128x2816_S128x256_0_0).toLoadRect fa = oldBlk (accM.view.read (Elt F) fa) 0 := old_read c 0 _ fa
  have s1 : View.readAt (Elt F) arg4.view (Rect.unit (s := S8x2816) (k0_off81 (BitVec.ofNat 32 e.val)) S1x256.size (k0_off81_inb (BitVec.ofNat 32 e.val) h3)).toLoadRect fsd = sdBlk c arg4 fsd e 1 := sd_read c arg4 fsd e 1 _ _ (off81_at e)
  have g1 : View.readAt (Elt F) dnM.view (Rect.unit (s := S11x256x3584) ![1, 0, 0] S1x256x3584.size inb_S11x256x3584_S1x256x3584_1_0_0).toLoadRect d1 = dBlk c XD e 1 := d_read c XD e 1 _ d1 q1
  have o1 : View.readAt (Elt F) accM.view (Rect.unit (s := S128x2816) ![0, 256] S128x256.size inb_S128x2816_S128x256_0_256).toLoadRect fa = oldBlk (accM.view.read (Elt F) fa) 1 := old_read c 1 _ fa
  have s2 : View.readAt (Elt F) arg4.view (Rect.unit (s := S8x2816) (k0_off84 (BitVec.ofNat 32 e.val)) S1x256.size (k0_off84_inb (BitVec.ofNat 32 e.val) h3)).toLoadRect fsd = sdBlk c arg4 fsd e 2 := sd_read c arg4 fsd e 2 _ _ (off84_at e)
  have g2 : View.readAt (Elt F) dnM.view (Rect.unit (s := S11x256x3584) ![2, 0, 0] S1x256x3584.size inb_S11x256x3584_S1x256x3584_2_0_0).toLoadRect d2 = dBlk c XD e 2 := d_read c XD e 2 _ d2 q2
  have o2 : View.readAt (Elt F) accM.view (Rect.unit (s := S128x2816) ![0, 512] S128x256.size inb_S128x2816_S128x256_0_512).toLoadRect fa = oldBlk (accM.view.read (Elt F) fa) 2 := old_read c 2 _ fa
  have s3 : View.readAt (Elt F) arg4.view (Rect.unit (s := S8x2816) (k0_off87 (BitVec.ofNat 32 e.val)) S1x256.size (k0_off87_inb (BitVec.ofNat 32 e.val) h3)).toLoadRect fsd = sdBlk c arg4 fsd e 3 := sd_read c arg4 fsd e 3 _ _ (off87_at e)
  have g3 : View.readAt (Elt F) dnM.view (Rect.unit (s := S11x256x3584) ![3, 0, 0] S1x256x3584.size inb_S11x256x3584_S1x256x3584_3_0_0).toLoadRect d3 = dBlk c XD e 3 := d_read c XD e 3 _ d3 q3
  have o3 : View.readAt (Elt F) accM.view (Rect.unit (s := S128x2816) ![0, 768] S128x256.size inb_S128x2816_S128x256_0_768).toLoadRect fa = oldBlk (accM.view.read (Elt F) fa) 3 := old_read c 3 _ fa
  have s4 : View.readAt (Elt F) arg4.view (Rect.unit (s := S8x2816) (k0_off90 (BitVec.ofNat 32 e.val)) S1x256.size (k0_off90_inb (BitVec.ofNat 32 e.val) h3)).toLoadRect fsd = sdBlk c arg4 fsd e 4 := sd_read c arg4 fsd e 4 _ _ (off90_at e)
  have g4 : View.readAt (Elt F) dnM.view (Rect.unit (s := S11x256x3584) ![4, 0, 0] S1x256x3584.size inb_S11x256x3584_S1x256x3584_4_0_0).toLoadRect d4 = dBlk c XD e 4 := d_read c XD e 4 _ d4 q4
  have o4 : View.readAt (Elt F) accM.view (Rect.unit (s := S128x2816) ![0, 1024] S128x256.size inb_S128x2816_S128x256_0_1024).toLoadRect fa = oldBlk (accM.view.read (Elt F) fa) 4 := old_read c 4 _ fa
  have s5 : View.readAt (Elt F) arg4.view (Rect.unit (s := S8x2816) (k0_off93 (BitVec.ofNat 32 e.val)) S1x256.size (k0_off93_inb (BitVec.ofNat 32 e.val) h3)).toLoadRect fsd = sdBlk c arg4 fsd e 5 := sd_read c arg4 fsd e 5 _ _ (off93_at e)
  have g5 : View.readAt (Elt F) dnM.view (Rect.unit (s := S11x256x3584) ![5, 0, 0] S1x256x3584.size inb_S11x256x3584_S1x256x3584_5_0_0).toLoadRect d5 = dBlk c XD e 5 := d_read c XD e 5 _ d5 q5
  have o5 : View.readAt (Elt F) accM.view (Rect.unit (s := S128x2816) ![0, 1280] S128x256.size inb_S128x2816_S128x256_0_1280).toLoadRect fa = oldBlk (accM.view.read (Elt F) fa) 5 := old_read c 5 _ fa
  have s6 : View.readAt (Elt F) arg4.view (Rect.unit (s := S8x2816) (k0_off96 (BitVec.ofNat 32 e.val)) S1x256.size (k0_off96_inb (BitVec.ofNat 32 e.val) h3)).toLoadRect fsd = sdBlk c arg4 fsd e 6 := sd_read c arg4 fsd e 6 _ _ (off96_at e)
  have g6 : View.readAt (Elt F) dnM.view (Rect.unit (s := S11x256x3584) ![6, 0, 0] S1x256x3584.size inb_S11x256x3584_S1x256x3584_6_0_0).toLoadRect d6 = dBlk c XD e 6 := d_read c XD e 6 _ d6 q6
  have o6 : View.readAt (Elt F) accM.view (Rect.unit (s := S128x2816) ![0, 1536] S128x256.size inb_S128x2816_S128x256_0_1536).toLoadRect fa = oldBlk (accM.view.read (Elt F) fa) 6 := old_read c 6 _ fa
  have s7 : View.readAt (Elt F) arg4.view (Rect.unit (s := S8x2816) (k0_off99 (BitVec.ofNat 32 e.val)) S1x256.size (k0_off99_inb (BitVec.ofNat 32 e.val) h3)).toLoadRect fsd = sdBlk c arg4 fsd e 7 := sd_read c arg4 fsd e 7 _ _ (off99_at e)
  have g7 : View.readAt (Elt F) dnM.view (Rect.unit (s := S11x256x3584) ![7, 0, 0] S1x256x3584.size inb_S11x256x3584_S1x256x3584_7_0_0).toLoadRect d7 = dBlk c XD e 7 := d_read c XD e 7 _ d7 q7
  have o7 : View.readAt (Elt F) accM.view (Rect.unit (s := S128x2816) ![0, 1792] S128x256.size inb_S128x2816_S128x256_0_1792).toLoadRect fa = oldBlk (accM.view.read (Elt F) fa) 7 := old_read c 7 _ fa
  have s8 : View.readAt (Elt F) arg4.view (Rect.unit (s := S8x2816) (k0_off102 (BitVec.ofNat 32 e.val)) S1x256.size (k0_off102_inb (BitVec.ofNat 32 e.val) h3)).toLoadRect fsd = sdBlk c arg4 fsd e 8 := sd_read c arg4 fsd e 8 _ _ (off102_at e)
  have g8 : View.readAt (Elt F) dnM.view (Rect.unit (s := S11x256x3584) ![8, 0, 0] S1x256x3584.size inb_S11x256x3584_S1x256x3584_8_0_0).toLoadRect d8 = dBlk c XD e 8 := d_read c XD e 8 _ d8 q8
  have o8 : View.readAt (Elt F) accM.view (Rect.unit (s := S128x2816) ![0, 2048] S128x256.size inb_S128x2816_S128x256_0_2048).toLoadRect fa = oldBlk (accM.view.read (Elt F) fa) 8 := old_read c 8 _ fa
  have s9 : View.readAt (Elt F) arg4.view (Rect.unit (s := S8x2816) (k0_off105 (BitVec.ofNat 32 e.val)) S1x256.size (k0_off105_inb (BitVec.ofNat 32 e.val) h3)).toLoadRect fsd = sdBlk c arg4 fsd e 9 := sd_read c arg4 fsd e 9 _ _ (off105_at e)
  have g9 : View.readAt (Elt F) dnM.view (Rect.unit (s := S11x256x3584) ![9, 0, 0] S1x256x3584.size inb_S11x256x3584_S1x256x3584_9_0_0).toLoadRect d9 = dBlk c XD e 9 := d_read c XD e 9 _ d9 q9
  have o9 : View.readAt (Elt F) accM.view (Rect.unit (s := S128x2816) ![0, 2304] S128x256.size inb_S128x2816_S128x256_0_2304).toLoadRect fa = oldBlk (accM.view.read (Elt F) fa) 9 := old_read c 9 _ fa
  have s10 : View.readAt (Elt F) arg4.view (Rect.unit (s := S8x2816) (k0_off108 (BitVec.ofNat 32 e.val)) S1x256.size (k0_off108_inb (BitVec.ofNat 32 e.val) h3)).toLoadRect fsd = sdBlk c arg4 fsd e 10 := sd_read c arg4 fsd e 10 _ _ (off108_at e)
  have g10 : View.readAt (Elt F) dnM.view (Rect.unit (s := S11x256x3584) ![10, 0, 0] S1x256x3584.size inb_S11x256x3584_S1x256x3584_10_0_0).toLoadRect d10 = dBlk c XD e 10 := d_read c XD e 10 _ d10 q10
  have o10 : View.readAt (Elt F) accM.view (Rect.unit (s := S128x2816) ![0, 2560] S128x256.size inb_S128x2816_S128x256_0_2560).toLoadRect fa = oldBlk (accM.view.read (Elt F) fa) 10 := old_read c 10 _ fa
  rw [s0, g0, o0, s1, g1, o1, s2, g2, o2, s3, g3, o3, s4, g4, o4, s5, g5, o5, s6, g6, o6, s7, g7, o7, s8, g8, o8, s9, g9, o9, s10, g10, o10]
  funext y
  exact acc_tiles fa (fun j => k0_pay25 (wgt v0 (cmb0 c fc) (BitVec.ofNat 32 e.val)) (hits v0 (cmb1 c fc) (BitVec.ofNat 32 e.val)) (hAll c XG arg2 arg3 fx fsg e) (dBlk c XD e j) (sdBlk c arg4 fsd e j) (oldBlk (accM.view.read (Elt F) fa) j)) y

end Trip
end Cert.Proof.IdealRun
end
-- ==== Proof.IdealTripNext.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Transfers
public import Idealize.ShloMosaic.Lib.Pipeline.KitQuiescent
public import Idealize.ShloMosaic.Lib.Tactic
public import proofs.«01_k».proof.Proof.IdealSlots
public import proofs.«01_k».proof.Proof.IdealWords
public import proofs.«01_k».proof.Proof.IdealTripValue

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD)
  (XG : Buf (Elt F) (wguM.view.loc (c : Thread nD τ))) (XD : Buf (Elt F) (wdnM.view.loc (c : Thread nD τ)))
  (arg0 : Memref sig .tc .vmem S128x2 .i32) (harg0 : arg0.IsWhole) (arg1 : Memref sig .tc .vmem S128x2 .f32) (harg1 : arg1.IsWhole) (arg2 : Memref sig .tc .vmem S128x2816 .bf16) (harg2 : arg2.IsWhole) (arg3 : Memref sig .tc .vmem S8x7168 .f32) (harg3 : arg3.IsWhole) (arg4 : Memref sig .tc .vmem S8x2816 .f32) (harg4 : arg4.IsWhole) (arg7 : Memref sig .tc .vmem S128x2816 .bf16) (harg7 : arg7.IsWhole)

set_option maxHeartbeats 0 in
/-- A trip that is not the last: the 25 fetches in flight land, their slots are read and the next expert's fetches started. -/
theorem trip_next (v0 v50) (hw1 : k0_chk1 v50) (v89 : BitVec 32) (k) (a)
    (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ))) (fl : Buf (Elt F) (listM.view.loc (c : Thread nD τ)))
    (hc1 : k0_cond1 v50 k = 1#1) (hc2 : k0_cond2 v50 k = 1#1) (hc3 : k0_cond3 v50 k = 1#1) (hc4 : k0_cond4 v50 k = 1#1) (hc5 : k0_cond5 v50 k = 1#1) (hc6 : k0_cond6 v50 k = 1#1) (hc7 : k0_cond7 v50 k = 1#1) (hc8 : k0_cond8 v50 k = 1#1) (hc9 : k0_cond9 v50 k = 1#1) (hc10 : k0_cond10 v50 k = 1#1) (hc11 : k0_cond11 v50 k = 1#1) (hc12 : k0_cond12 v50 k = 1#1) (hc13 : k0_cond13 v50 k = 1#1) (hc14 : k0_cond14 v50 k = 1#1) (hc15 : k0_cond15 v50 k = 1#1) (hc16 : k0_cond16 v50 k = 1#1) (hc17 : k0_cond17 v50 k = 1#1) (hc18 : k0_cond18 v50 k = 1#1)
    (hk3 : ∀ w, w = View.readAt (Elt F) listM.view (Rect.unit (s := S8) (k0_off33 v50 k) S1.size (k0_off33_inb v50 hw1 k)).toLoadRect fl (Shape.Idx.first (s := S1) (by decide)) → k0_chk3 w)
    (hk4 : ∀ w, w = View.readAt (Elt F) listM.view (Rect.unit (s := S8) (k0_off34 v50 k) S1.size (k0_off34_inb v50 hw1 k)).toLoadRect fl (Shape.Idx.first (s := S1) (by decide)) → k0_chk4 v50 k w)
    (e e' : Fin 8) (hr : View.readAt (Elt F) listM.view (Rect.unit (s := S8) (k0_off33 v50 k) S1.size (k0_off33_inb v50 hw1 k)).toLoadRect fl (Shape.Idx.first (s := S1) (by decide)) = BitVec.ofNat 32 e.val) (hn : View.readAt (Elt F) listM.view (Rect.unit (s := S8) (k0_off34 v50 k) S1.size (k0_off34_inb v50 hw1 k)).toLoadRect fl (Shape.Idx.first (s := S1) (by decide)) = BitVec.ofNat 32 e'.val) (P P' : Buf (Elt F) (accM.view.loc (c : Thread nD τ)) → Prop) (hP : ∀ f f' : Buf (Elt F) (accM.view.loc (c : Thread nD τ)), P f → accM.view.read (Elt F) f' = accNext c XG XD arg2 arg3 arg4 fx fsg fsd (cmb0 c fc) (cmb1 c fc) v0 e (accM.view.read (Elt F) f) → P' f') :
    (iprop(Fly c XG XD e.val ∗ Base c arg2 arg3 arg4 fx fsg fsd fc fl P) : sProp 𝕄) ⊢
      wp frame (wpE (defs₀ (F := F)) 𝒱₀ (c : Thread nD τ) none) Set.univ (k0_t1_body (F := F) arg0 harg0 arg1 harg1 arg2 harg2 arg3 harg3 arg4 harg4 wguM (Memref.isWhole_whole _) wdnM (Memref.isWhole_whole _) arg7 harg7 guM (Memref.isWhole_whole _) dnM (Memref.isWhole_whole _) hM (Memref.isWhole_whole _) accM (Memref.isWhole_whole _) combM (Memref.isWhole_whole _) listM (Memref.isWhole_whole _) cc0_scratch6 cc0_scratch7 v0 v50 hw1 v89 k a)
        (fun _ => iprop(Fly c XG XD e'.val ∗ Base c arg2 arg3 arg4 fx fsg fsd fc fl P')) := by
  unfold Fly Base gFly dFly
  iintro ⟨⟨⟨%S00, %f00, %p00, HF00, HR00⟩, ⟨%S01, %f01, %p01, HF01, HR01⟩, ⟨%S10, %f10, %p10, HF10, HR10⟩, ⟨%S11, %f11, %p11, HF11, HR11⟩, ⟨%S20, %f20, %p20, HF20, HR20⟩, ⟨%S21, %f21, %p21, HF21, HR21⟩, ⟨%S30, %f30, %p30, HF30, HR30⟩, ⟨%S31, %f31, %p31, HF31, HR31⟩, ⟨%S40, %f40, %p40, HF40, HR40⟩, ⟨%S41, %f41, %p41, HF41, HR41⟩, ⟨%S50, %f50, %p50, HF50, HR50⟩, ⟨%S51, %f51, %p51, HF51, HR51⟩, ⟨%S60, %f60, %p60, HF60, HR60⟩, ⟨%S61, %f61, %p61, HF61, HR61⟩, ⟨%T0, %d0, %q0, HE0, HQ0⟩, ⟨%T1, %d1, %q1, HE1, HQ1⟩, ⟨%T2, %d2, %q2, HE2, HQ2⟩, ⟨%T3, %d3, %q3, HE3, HQ3⟩, ⟨%T4, %d4, %q4, HE4, HQ4⟩, ⟨%T5, %d5, %q5, HE5, HQ5⟩, ⟨%T6, %d6, %q6, HE6, HQ6⟩, ⟨%T7, %d7, %q7, HE7, HQ7⟩, ⟨%T8, %d8, %q8, HE8, HQ8⟩, ⟨%T9, %d9, %q9, HE9, HQ9⟩, ⟨%T10, %d10, %q10, HE10, HQ10⟩⟩, Hx, Hsg, Hsd, Hcm, Hl, ⟨%fh, Hh⟩, ⟨%fa, %pa, Ha⟩, ⟨%W, HW⟩⟩
  unfold k0_t1_body
  sl_exec (disch := first | ((with_reducible refine hk3 _ ?_); rfl) | ((with_reducible refine hk4 _ ?_); rfl))
  sl_step
  isplitr [Hx Hsg Hsd Hcm Hl Hh Ha HW]
  · isplitl [HF00 HR00]
    · iexists _, _; isplitr; swap
      · isplitl [HF00]; · iexact HF00
        iexact HR00
      ipureintro; exact g_landed c XG e'.val 0 0 _ _ _ ((congrArg k0_off39 hn).trans (off39_at e')) _ _ _
    isplitl [HF01 HR01]
    · iexists _, _; isplitr; swap
      · isplitl [HF01]; · iexact HF01
        iexact HR01
      ipureintro; exact g_landed c XG e'.val 0 1 _ _ _ ((congrArg k0_off40 hn).trans (off40_at e')) _ _ _
    isplitl [HF10 HR10]
    · iexists _, _; isplitr; swap
      · isplitl [HF10]; · iexact HF10
        iexact HR10
      ipureintro; exact g_landed c XG e'.val 1 0 _ _ _ ((congrArg k0_off45 hn).trans (off45_at e')) _ _ _
    isplitl [HF11 HR11]
    · iexists _, _; isplitr; swap
      · isplitl [HF11]; · iexact HF11
        iexact HR11
      ipureintro; exact g_landed c XG e'.val 1 1 _ _ _ ((congrArg k0_off46 hn).trans (off46_at e')) _ _ _
    isplitl [HF20 HR20]
    · iexists _, _; isplitr; swap
      · isplitl [HF20]; · iexact HF20
        iexact HR20
      ipureintro; exact g_landed c XG e'.val 2 0 _ _ _ ((congrArg k0_off51 hn).trans (off51_at e')) _ _ _
    isplitl [HF21 HR21]
    · iexists _, _; isplitr; swap
      · isplitl [HF21]; · iexact HF21
        iexact HR21
      ipureintro; exact g_landed c XG e'.val 2 1 _ _ _ ((congrArg k0_off52 hn).trans (off52_at e')) _ _ _
    isplitl [HF30 HR30]
    · iexists _, _; isplitr; swap
      · isplitl [HF30]; · iexact HF30
        iexact HR30
      ipureintro; exact g_landed c XG e'.val 3 0 _ _ _ ((congrArg k0_off57 hn).trans (off57_at e')) _ _ _
    isplitl [HF31 HR31]
    · iexists _, _; isplitr; swap
      · isplitl [HF31]; · iexact HF31
        iexact HR31
      ipureintro; exact g_landed c XG e'.val 3 1 _ _ _ ((congrArg k0_off58 hn).trans (off58_at e')) _ _ _
    isplitl [HF40 HR40]
    · iexists _, _; isplitr; swap
      · isplitl [HF40]; · iexact HF40
        iexact HR40
      ipureintro; exact g_landed c XG e'.val 4 0 _ _ _ ((congrArg k0_off63 hn).trans (off63_at e')) _ _ _
    isplitl [HF41 HR41]
    · iexists _, _; isplitr; swap
      · isplitl [HF41]; · iexact HF41
        iexact HR41
      ipureintro; exact g_landed c XG e'.val 4 1 _ _ _ ((congrArg k0_off64 hn).trans (off64_at e')) _ _ _
    isplitl [HF50 HR50]
    · iexists _, _; isplitr; swap
      · isplitl [HF50]; · iexact HF50
        iexact HR50
      ipureintro; exact g_landed c XG e'.val 5 0 _ _ _ ((congrArg k0_off69 hn).trans (off69_at e')) _ _ _
    isplitl [HF51 HR51]
    · iexists _, _; isplitr; swap
      · isplitl [HF51]; · iexact HF51
        iexact HR51
      ipureintro; exact g_landed c XG e'.val 5 1 _ _ _ ((congrArg k0_off70 hn).trans (off70_at e')) _ _ _
    isplitl [HF60 HR60]
    · iexists _, _; isplitr; swap
      · isplitl [HF60]; · iexact HF60
        iexact HR60
      ipureintro; exact g_landed c XG e'.val 6 0 _ _ _ ((congrArg k0_off75 hn).trans (off75_at e')) _ _ _
    isplitl [HF61 HR61]
    · iexists _, _; isplitr; swap
      · isplitl [HF61]; · iexact HF61
        iexact HR61
      ipureintro; exact g_landed c XG e'.val 6 1 _ _ _ ((congrArg k0_off76 hn).trans (off76_at e')) _ _ _
    isplitl [HE0 HQ0]
    · iexists _, _; isplitr; swap
      · isplitl [HE0]; · iexact HE0
        iexact HQ0
      ipureintro; exact d_landed c XD e'.val 0 _ _ _ ((congrArg k0_off79 hn).trans (off79_at e')) _ _ _
    isplitl [HE1 HQ1]
    · iexists _, _; isplitr; swap
      · isplitl [HE1]; · iexact HE1
        iexact HQ1
      ipureintro; exact d_landed c XD e'.val 1 _ _ _ ((congrArg k0_off82 hn).trans (off82_at e')) _ _ _
    isplitl [HE2 HQ2]
    · iexists _, _; isplitr; swap
      · isplitl [HE2]; · iexact HE2
        iexact HQ2
      ipureintro; exact d_landed c XD e'.val 2 _ _ _ ((congrArg k0_off85 hn).trans (off85_at e')) _ _ _
    isplitl [HE3 HQ3]
    · iexists _, _; isplitr; swap
      · isplitl [HE3]; · iexact HE3
        iexact HQ3
      ipureintro; exact d_landed c XD e'.val 3 _ _ _ ((congrArg k0_off88 hn).trans (off88_at e')) _ _ _
    isplitl [HE4 HQ4]
    · iexists _, _; isplitr; swap
      · isplitl [HE4]; · iexact HE4
        iexact HQ4
      ipureintro; exact d_landed c XD e'.val 4 _ _ _ ((congrArg k0_off91 hn).trans (off91_at e')) _ _ _
    isplitl [HE5 HQ5]
    · iexists _, _; isplitr; swap
      · isplitl [HE5]; · iexact HE5
        iexact HQ5
      ipureintro; exact d_landed c XD e'.val 5 _ _ _ ((congrArg k0_off94 hn).trans (off94_at e')) _ _ _
    isplitl [HE6 HQ6]
    · iexists _, _; isplitr; swap
      · isplitl [HE6]; · iexact HE6
        iexact HQ6
      ipureintro; exact d_landed c XD e'.val 6 _ _ _ ((congrArg k0_off97 hn).trans (off97_at e')) _ _ _
    isplitl [HE7 HQ7]
    · iexists _, _; isplitr; swap
      · isplitl [HE7]; · iexact HE7
        iexact HQ7
      ipureintro; exact d_landed c XD e'.val 7 _ _ _ ((congrArg k0_off100 hn).trans (off100_at e')) _ _ _
    isplitl [HE8 HQ8]
    · iexists _, _; isplitr; swap
      · isplitl [HE8]; · iexact HE8
        iexact HQ8
      ipureintro; exact d_landed c XD e'.val 8 _ _ _ ((congrArg k0_off103 hn).trans (off103_at e')) _ _ _
    isplitl [HE9 HQ9]
    · iexists _, _; isplitr; swap
      · isplitl [HE9]; · iexact HE9
        iexact HQ9
      ipureintro; exact d_landed c XD e'.val 9 _ _ _ ((congrArg k0_off106 hn).trans (off106_at e')) _ _ _
    iexists _, _; isplitr; swap
    · isplitl [HE10]; · iexact HE10
      iexact HQ10
    ipureintro; exact d_landed c XD e'.val 10 _ _ _ ((congrArg k0_off109 hn).trans (off109_at e')) _ _ _
  isplitl [Hx]; · iexact Hx
  isplitl [Hsg]; · iexact Hsg
  isplitl [Hsd]; · iexact Hsd
  isplitl [Hcm]; · iexact Hcm
  isplitl [Hl]; · iexact Hl
  isplitl [Hh]; · iexists _; iexact Hh
  isplitl [Ha]
  · iexists _
    isplitr; swap; · iexact Ha
    ipureintro; exact hP fa _ pa (trip_acc c XG XD arg2 arg3 arg4 fx fsg fsd fc v0 e _ hr (hk3 _ rfl) _ (trip_h c XG arg2 arg3 fx fsg e _ hr (hk3 _ rfl) f00 f01 f10 f11 f20 f21 f30 f31 f40 f41 f50 f51 f60 f61 p00 p01 p10 p11 p20 p21 p30 p31 p40 p41 p50 p51 p60 p61) d0 d1 d2 d3 d4 d5 d6 d7 d8 d9 d10 q0 q1 q2 q3 q4 q5 q6 q7 q8 q9 q10 fa)
  iexists _; iexact HW

end Trip
end Cert.Proof.IdealRun
end
-- ==== Proof.IdealTripLast.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Transfers
public import Idealize.ShloMosaic.Lib.Pipeline.KitQuiescent
public import Idealize.ShloMosaic.Lib.Tactic
public import proofs.«01_k».proof.Proof.IdealSlots
public import proofs.«01_k».proof.Proof.IdealWords
public import proofs.«01_k».proof.Proof.IdealTripValue

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD)
  (XG : Buf (Elt F) (wguM.view.loc (c : Thread nD τ))) (XD : Buf (Elt F) (wdnM.view.loc (c : Thread nD τ)))
  (arg0 : Memref sig .tc .vmem S128x2 .i32) (harg0 : arg0.IsWhole) (arg1 : Memref sig .tc .vmem S128x2 .f32) (harg1 : arg1.IsWhole) (arg2 : Memref sig .tc .vmem S128x2816 .bf16) (harg2 : arg2.IsWhole) (arg3 : Memref sig .tc .vmem S8x7168 .f32) (harg3 : arg3.IsWhole) (arg4 : Memref sig .tc .vmem S8x2816 .f32) (harg4 : arg4.IsWhole) (arg7 : Memref sig .tc .vmem S128x2816 .bf16) (harg7 : arg7.IsWhole)

set_option maxHeartbeats 0 in
/-- The last trip: the 25 fetches land and none is started. -/
theorem trip_last (v0 v50) (hw1 : k0_chk1 v50) (v89 : BitVec 32) (k) (a)
    (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ))) (fl : Buf (Elt F) (listM.view.loc (c : Thread nD τ)))
    (hc1 : k0_cond1 v50 k ≠ 1#1) (hc2 : k0_cond2 v50 k ≠ 1#1) (hc3 : k0_cond3 v50 k ≠ 1#1) (hc4 : k0_cond4 v50 k ≠ 1#1) (hc5 : k0_cond5 v50 k ≠ 1#1) (hc6 : k0_cond6 v50 k ≠ 1#1) (hc7 : k0_cond7 v50 k ≠ 1#1) (hc8 : k0_cond8 v50 k ≠ 1#1) (hc9 : k0_cond9 v50 k ≠ 1#1) (hc10 : k0_cond10 v50 k ≠ 1#1) (hc11 : k0_cond11 v50 k ≠ 1#1) (hc12 : k0_cond12 v50 k ≠ 1#1) (hc13 : k0_cond13 v50 k ≠ 1#1) (hc14 : k0_cond14 v50 k ≠ 1#1) (hc15 : k0_cond15 v50 k ≠ 1#1) (hc16 : k0_cond16 v50 k ≠ 1#1) (hc17 : k0_cond17 v50 k ≠ 1#1) (hc18 : k0_cond18 v50 k ≠ 1#1)
    (hk3 : ∀ w, w = View.readAt (Elt F) listM.view (Rect.unit (s := S8) (k0_off33 v50 k) S1.size (k0_off33_inb v50 hw1 k)).toLoadRect fl (Shape.Idx.first (s := S1) (by decide)) → k0_chk3 w)
    (hk4 : ∀ w, w = View.readAt (Elt F) listM.view (Rect.unit (s := S8) (k0_off34 v50 k) S1.size (k0_off34_inb v50 hw1 k)).toLoadRect fl (Shape.Idx.first (s := S1) (by decide)) → k0_chk4 v50 k w)
    (e e' : Fin 8) (hr : View.readAt (Elt F) listM.view (Rect.unit (s := S8) (k0_off33 v50 k) S1.size (k0_off33_inb v50 hw1 k)).toLoadRect fl (Shape.Idx.first (s := S1) (by decide)) = BitVec.ofNat 32 e.val) (hn : View.readAt (Elt F) listM.view (Rect.unit (s := S8) (k0_off34 v50 k) S1.size (k0_off34_inb v50 hw1 k)).toLoadRect fl (Shape.Idx.first (s := S1) (by decide)) = BitVec.ofNat 32 e'.val) (P P' : Buf (Elt F) (accM.view.loc (c : Thread nD τ)) → Prop) (hP : ∀ f f' : Buf (Elt F) (accM.view.loc (c : Thread nD τ)), P f → accM.view.read (Elt F) f' = accNext c XG XD arg2 arg3 arg4 fx fsg fsd (cmb0 c fc) (cmb1 c fc) v0 e (accM.view.read (Elt F) f) → P' f') :
    (iprop(Fly c XG XD e.val ∗ Base c arg2 arg3 arg4 fx fsg fsd fc fl P) : sProp 𝕄) ⊢
      wp frame (wpE (defs₀ (F := F)) 𝒱₀ (c : Thread nD τ) none) Set.univ (k0_t1_body (F := F) arg0 harg0 arg1 harg1 arg2 harg2 arg3 harg3 arg4 harg4 wguM (Memref.isWhole_whole _) wdnM (Memref.isWhole_whole _) arg7 harg7 guM (Memref.isWhole_whole _) dnM (Memref.isWhole_whole _) hM (Memref.isWhole_whole _) accM (Memref.isWhole_whole _) combM (Memref.isWhole_whole _) listM (Memref.isWhole_whole _) cc0_scratch6 cc0_scratch7 v0 v50 hw1 v89 k a)
        (fun _ => iprop(Idle c XG XD ∗ Base c arg2 arg3 arg4 fx fsg fsd fc fl P')) := by
  unfold Fly Base gFly dFly Idle gIdle dIdle
  iintro ⟨⟨⟨%S00, %f00, %p00, HF00, HR00⟩, ⟨%S01, %f01, %p01, HF01, HR01⟩, ⟨%S10, %f10, %p10, HF10, HR10⟩, ⟨%S11, %f11, %p11, HF11, HR11⟩, ⟨%S20, %f20, %p20, HF20, HR20⟩, ⟨%S21, %f21, %p21, HF21, HR21⟩, ⟨%S30, %f30, %p30, HF30, HR30⟩, ⟨%S31, %f31, %p31, HF31, HR31⟩, ⟨%S40, %f40, %p40, HF40, HR40⟩, ⟨%S41, %f41, %p41, HF41, HR41⟩, ⟨%S50, %f50, %p50, HF50, HR50⟩, ⟨%S51, %f51, %p51, HF51, HR51⟩, ⟨%S60, %f60, %p60, HF60, HR60⟩, ⟨%S61, %f61, %p61, HF61, HR61⟩, ⟨%T0, %d0, %q0, HE0, HQ0⟩, ⟨%T1, %d1, %q1, HE1, HQ1⟩, ⟨%T2, %d2, %q2, HE2, HQ2⟩, ⟨%T3, %d3, %q3, HE3, HQ3⟩, ⟨%T4, %d4, %q4, HE4, HQ4⟩, ⟨%T5, %d5, %q5, HE5, HQ5⟩, ⟨%T6, %d6, %q6, HE6, HQ6⟩, ⟨%T7, %d7, %q7, HE7, HQ7⟩, ⟨%T8, %d8, %q8, HE8, HQ8⟩, ⟨%T9, %d9, %q9, HE9, HQ9⟩, ⟨%T10, %d10, %q10, HE10, HQ10⟩⟩, Hx, Hsg, Hsd, Hcm, Hl, ⟨%fh, Hh⟩, ⟨%fa, %pa, Ha⟩, ⟨%W, HW⟩⟩
  unfold k0_t1_body
  sl_exec (disch := first | ((with_reducible refine hk3 _ ?_); rfl) | ((with_reducible refine hk4 _ ?_); rfl))
  sl_step
  isplitr [Hx Hsg Hsd Hcm Hl Hh Ha HW]
  · isplitl [HF00 HF00_dst HR00]
    · iexists _; isplitl [HF00_dst]; · iexact HF00_dst
      isplitl [HF00]; · iexact HF00
      iexact HR00
    isplitl [HF01 HF01_dst HR01]
    · iexists _; isplitl [HF01_dst]; · iexact HF01_dst
      isplitl [HF01]; · iexact HF01
      iexact HR01
    isplitl [HF10 HF10_dst HR10]
    · iexists _; isplitl [HF10_dst]; · iexact HF10_dst
      isplitl [HF10]; · iexact HF10
      iexact HR10
    isplitl [HF11 HF11_dst HR11]
    · iexists _; isplitl [HF11_dst]; · iexact HF11_dst
      isplitl [HF11]; · iexact HF11
      iexact HR11
    isplitl [HF20 HF20_dst HR20]
    · iexists _; isplitl [HF20_dst]; · iexact HF20_dst
      isplitl [HF20]; · iexact HF20
      iexact HR20
    isplitl [HF21 HF21_dst HR21]
    · iexists _; isplitl [HF21_dst]; · iexact HF21_dst
      isplitl [HF21]; · iexact HF21
      iexact HR21
    isplitl [HF30 HF30_dst HR30]
    · iexists _; isplitl [HF30_dst]; · iexact HF30_dst
      isplitl [HF30]; · iexact HF30
      iexact HR30
    isplitl [HF31 HF31_dst HR31]
    · iexists _; isplitl [HF31_dst]; · iexact HF31_dst
      isplitl [HF31]; · iexact HF31
      iexact HR31
    isplitl [HF40 HF40_dst HR40]
    · iexists _; isplitl [HF40_dst]; · iexact HF40_dst
      isplitl [HF40]; · iexact HF40
      iexact HR40
    isplitl [HF41 HF41_dst HR41]
    · iexists _; isplitl [HF41_dst]; · iexact HF41_dst
      isplitl [HF41]; · iexact HF41
      iexact HR41
    isplitl [HF50 HF50_dst HR50]
    · iexists _; isplitl [HF50_dst]; · iexact HF50_dst
      isplitl [HF50]; · iexact HF50
      iexact HR50
    isplitl [HF51 HF51_dst HR51]
    · iexists _; isplitl [HF51_dst]; · iexact HF51_dst
      isplitl [HF51]; · iexact HF51
      iexact HR51
    isplitl [HF60 HF60_dst HR60]
    · iexists _; isplitl [HF60_dst]; · iexact HF60_dst
      isplitl [HF60]; · iexact HF60
      iexact HR60
    isplitl [HF61 HF61_dst HR61]
    · iexists _; isplitl [HF61_dst]; · iexact HF61_dst
      isplitl [HF61]; · iexact HF61
      iexact HR61
    isplitl [HE0 HE0_dst HQ0]
    · iexists _; isplitl [HE0_dst]; · iexact HE0_dst
      isplitl [HE0]; · iexact HE0
      iexact HQ0
    isplitl [HE1 HE1_dst HQ1]
    · iexists _; isplitl [HE1_dst]; · iexact HE1_dst
      isplitl [HE1]; · iexact HE1
      iexact HQ1
    isplitl [HE2 HE2_dst HQ2]
    · iexists _; isplitl [HE2_dst]; · iexact HE2_dst
      isplitl [HE2]; · iexact HE2
      iexact HQ2
    isplitl [HE3 HE3_dst HQ3]
    · iexists _; isplitl [HE3_dst]; · iexact HE3_dst
      isplitl [HE3]; · iexact HE3
      iexact HQ3
    isplitl [HE4 HE4_dst HQ4]
    · iexists _; isplitl [HE4_dst]; · iexact HE4_dst
      isplitl [HE4]; · iexact HE4
      iexact HQ4
    isplitl [HE5 HE5_dst HQ5]
    · iexists _; isplitl [HE5_dst]; · iexact HE5_dst
      isplitl [HE5]; · iexact HE5
      iexact HQ5
    isplitl [HE6 HE6_dst HQ6]
    · iexists _; isplitl [HE6_dst]; · iexact HE6_dst
      isplitl [HE6]; · iexact HE6
      iexact HQ6
    isplitl [HE7 HE7_dst HQ7]
    · iexists _; isplitl [HE7_dst]; · iexact HE7_dst
      isplitl [HE7]; · iexact HE7
      iexact HQ7
    isplitl [HE8 HE8_dst HQ8]
    · iexists _; isplitl [HE8_dst]; · iexact HE8_dst
      isplitl [HE8]; · iexact HE8
      iexact HQ8
    isplitl [HE9 HE9_dst HQ9]
    · iexists _; isplitl [HE9_dst]; · iexact HE9_dst
      isplitl [HE9]; · iexact HE9
      iexact HQ9
    iexists _; isplitl [HE10_dst]; · iexact HE10_dst
    isplitl [HE10]; · iexact HE10
    iexact HQ10
  isplitl [Hx]; · iexact Hx
  isplitl [Hsg]; · iexact Hsg
  isplitl [Hsd]; · iexact Hsd
  isplitl [Hcm]; · iexact Hcm
  isplitl [Hl]; · iexact Hl
  isplitl [Hh]; · iexists _; iexact Hh
  isplitl [Ha]
  · iexists _
    isplitr; swap; · iexact Ha
    ipureintro; exact hP fa _ pa (trip_acc c XG XD arg2 arg3 arg4 fx fsg fsd fc v0 e _ hr (hk3 _ rfl) _ (trip_h c XG arg2 arg3 fx fsg e _ hr (hk3 _ rfl) f00 f01 f10 f11 f20 f21 f30 f31 f40 f41 f50 f51 f60 f61 p00 p01 p10 p11 p20 p21 p30 p31 p40 p41 p50 p51 p60 p61) d0 d1 d2 d3 d4 d5 d6 d7 d8 d9 d10 q0 q1 q2 q3 q4 q5 q6 q7 q8 q9 q10 fa)
  iexists _; iexact HW

end Trip
end Cert.Proof.IdealRun
end
-- ==== Proof.IdealBody.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Transfers
public import Idealize.ShloMosaic.Lib.Pipeline.KitQuiescent
public import Idealize.ShloMosaic.Lib.Tactic
public import proofs.«01_k».proof.Proof.IdealTripNext
public import proofs.«01_k».proof.Proof.IdealTripLast
public import proofs.«01_k».proof.Proof.IdealMemberList

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Body
variable (c : Dev nD)
  (XG : Buf (Elt F) (wguM.view.loc (c : Thread nD τ))) (XD : Buf (Elt F) (wdnM.view.loc (c : Thread nD τ)))
  (arg0 : Memref sig .tc .vmem S128x2 .i32) (harg0 : arg0.IsWhole) (arg1 : Memref sig .tc .vmem S128x2 .f32) (harg1 : arg1.IsWhole) (arg2 : Memref sig .tc .vmem S128x2816 .bf16) (harg2 : arg2.IsWhole) (arg3 : Memref sig .tc .vmem S8x7168 .f32) (harg3 : arg3.IsWhole) (arg4 : Memref sig .tc .vmem S8x2816 .f32) (harg4 : arg4.IsWhole) (arg7 : Memref sig .tc .vmem S128x2816 .bf16) (harg7 : arg7.IsWhole)

/-- The accumulator after the first `k` members' trips, members in ascending order. -/
def accN (fx : Buf (Elt F) (arg2.view.loc (c : Thread nD τ))) (fsg : Buf (Elt F) (arg3.view.loc (c : Thread nD τ))) (fsd : Buf (Elt F) (arg4.view.loc (c : Thread nD τ))) (C0 C1 : Vec F S1x128x128 .f32) (v : BitVec 32) : ℕ → Vec F S128x2816 .f32
  | 0 => k0_pay78
  | k + 1 => accNext c XG XD arg2 arg3 arg4 fx fsg fsd C0 C1 (iota .tc S128x128 32 [1] iota_S128x128_d1_w32) ⟨sel v 8 k, sel8_lt v k⟩ (accN fx fsg fsd C0 C1 v k)

/-- The accumulator before trip `k`. -/
def AccAt (fx : Buf (Elt F) (arg2.view.loc (c : Thread nD τ))) (fsg : Buf (Elt F) (arg3.view.loc (c : Thread nD τ))) (fsd : Buf (Elt F) (arg4.view.loc (c : Thread nD τ))) (fc : Buf (Elt F) (combM.view.loc (c : Thread nD τ)))
    (v : BitVec 32) (k : ℕ) (fa : Buf (Elt F) (accM.view.loc (c : Thread nD τ))) : Prop :=
  accM.view.read (Elt F) fa = accN c XG XD arg2 arg3 arg4 fx fsg fsd (cmb0 c fc) (cmb1 c fc) v k

/-- Before trip `k`: the fetches of member `k` in flight (past the last trip, every slot at rest), and what a trip works on. -/
def inv (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ))) (fl : Buf (Elt F) (listM.view.loc (c : Thread nD τ)))
    (v : BitVec 32) (k : ℕ) : sProp 𝕄 :=
  iprop((if k < nOf v then Fly c XG XD (sel v 8 k) else Idle c XG XD)
    ∗ Base c arg2 arg3 arg4 fx fsg fsd fc fl (AccAt c XG XD arg2 arg3 arg4 fx fsg fsd fc v k))

/-- A counted loop at the head of a program, by an invariant. -/
theorem loop_bind {σ β : Type} (L : Scf.Loop 32) (hok : L.OK) (init : σ)
    (body : Fin L.trips → σ → Prog (TpuEff nD τ sig (Elt F) Λ₀ .tc) σ) (I : ℕ → sProp 𝕄)
    (hbody : ∀ k acc, I k.val ⊢ wp frame (wpE (defs₀ (F := F)) 𝒱₀ (c : Thread nD τ) none) Set.univ (body k acc) (fun _ => I (k.val + 1)))
    (kk : σ → Prog (TpuEff nD τ sig (Elt F) Λ₀ .tc) β) (Q : β → sProp 𝕄) :
    iprop(I 0 ∗ (∀ acc, I L.trips -∗ wp frame (wpE (defs₀ (F := F)) 𝒱₀ (c : Thread nD τ) none) Set.univ (kk acc) Q))
      ⊢ wp frame (wpE (defs₀ (F := F)) 𝒱₀ (c : Thread nD τ) none) Set.univ (L.for hok init body >>= kk) Q := by
  iintro ⟨HI, HK⟩
  iapply (Scf.wp_for_bind frame (wpE (defs₀ (F := F)) 𝒱₀ (c : Thread nD τ) none) Set.univ L.lb L.ub L.st hok init body (fun k _ => I k) hbody) $$ HI
  iexact HK

/-- The invariant past the last trip. -/
theorem inv_end (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ))) (fl : Buf (Elt F) (listM.view.loc (c : Thread nD τ))) (v : BitVec 32) :
    inv c XG XD arg2 arg3 arg4 fx fsg fsd fc fl v (k0_t1_loop v).trips ⊢ iprop(Idle c XG XD ∗ Base c arg2 arg3 arg4 fx fsg fsd fc fl (AccAt c XG XD arg2 arg3 arg4 fx fsg fsd fc v (nOf v))) := by
  unfold inv
  rw [trips_eq, if_neg (Nat.lt_irrefl _)]

/-- One trip preserves the invariant. -/
theorem inv_step (v) (h1 : k0_chk1 v) (v89 : BitVec 32)
    (fx : Buf (Elt F) (arg2.view.loc (c : Thread nD τ))) (fsg : Buf (Elt F) (arg3.view.loc (c : Thread nD τ))) (fsd : Buf (Elt F) (arg4.view.loc (c : Thread nD τ)))
  (fc : Buf (Elt F) (combM.view.loc (c : Thread nD τ))) (fl : Buf (Elt F) (listM.view.loc (c : Thread nD τ)))
    (hl : ListIs c v fl) (k) (a) :
    inv c XG XD arg2 arg3 arg4 fx fsg fsd fc fl v k.val ⊢
      wp frame (wpE (defs₀ (F := F)) 𝒱₀ (c : Thread nD τ) none) Set.univ (k0_t1_body (F := F) arg0 harg0 arg1 harg1 arg2 harg2 arg3 harg3 arg4 harg4 wguM (Memref.isWhole_whole _) wdnM (Memref.isWhole_whole _) arg7 harg7 guM (Memref.isWhole_whole _) dnM (Memref.isWhole_whole _) hM (Memref.isWhole_whole _) accM (Memref.isWhole_whole _) combM (Memref.isWhole_whole _) listM (Memref.isWhole_whole _) cc0_scratch6 cc0_scratch7 (iota .tc S128x128 32 [1] iota_S128x128_d1_w32) v h1 v89 k a)
        (fun _ => inv c XG XD arg2 arg3 arg4 fx fsg fsd fc fl v (k.val + 1)) := by
  have hk := lt8 v k
  have hk3 : ∀ w, w = View.readAt (Elt F) listM.view (Rect.unit (s := S8) (k0_off33 v k) S1.size (k0_off33_inb v h1 k)).toLoadRect fl (Shape.Idx.first (s := S1) (by decide)) → k0_chk3 w := by
    intro w hw
    have e := list_load c v fl hl _ _ k.val hk.1 (off33_eq v k) w hw
    obtain ⟨n, hn⟩ := sel_fin v k.val
    rw [e, hn]; exact chk3_all n
  have hk4 : ∀ w, w = View.readAt (Elt F) listM.view (Rect.unit (s := S8) (k0_off34 v k) S1.size (k0_off34_inb v h1 k)).toLoadRect fl (Shape.Idx.first (s := S1) (by decide)) → k0_chk4 v k w := by
    intro w hw
    have e := list_load c v fl hl _ _ (min (k.val + 1) (nOf v - 1)) (by omega) (off34_eq v k) w hw
    obtain ⟨n, hn⟩ := sel_fin v (min (k.val + 1) (nOf v - 1))
    rw [e, hn]; exact chk4_all v k n
  have hr := list_load c v fl hl (k0_off33 v k) (k0_off33_inb v h1 k) k.val hk.1 (off33_eq v k) (View.readAt (Elt F) listM.view (Rect.unit (s := S8) (k0_off33 v k) S1.size (k0_off33_inb v h1 k)).toLoadRect fl (Shape.Idx.first (s := S1) (by decide))) rfl
  have hs := list_load c v fl hl (k0_off34 v k) (k0_off34_inb v h1 k) (min (k.val + 1) (nOf v - 1)) (by omega) (off34_eq v k) (View.readAt (Elt F) listM.view (Rect.unit (s := S8) (k0_off34 v k) S1.size (k0_off34_inb v h1 k)).toLoadRect fl (Shape.Idx.first (s := S1) (by decide))) rfl
  have hacc : ∀ fa f' : Buf (Elt F) (accM.view.loc (c : Thread nD τ)), AccAt c XG XD arg2 arg3 arg4 fx fsg fsd fc v k.val fa →
      accM.view.read (Elt F) f' = accNext c XG XD arg2 arg3 arg4 fx fsg fsd (cmb0 c fc) (cmb1 c fc) (iota .tc S128x128 32 [1] iota_S128x128_d1_w32) ⟨sel v 8 k.val, sel8_lt v k.val⟩ (accM.view.read (Elt F) fa) →
      AccAt c XG XD arg2 arg3 arg4 fx fsg fsd fc v (k.val + 1) f' := by
    intro fa f' h h'
    unfold AccAt at h ⊢
    rw [h', h]; rfl
  unfold inv
  rw [if_pos hk.1]
  by_cases hn : k.val + 1 < nOf v
  · rw [if_pos hn]
    rw [show min (k.val + 1) (nOf v - 1) = k.val + 1 by omega] at hs
    have hc := cond_true v k hn
    exact trip_next c XG XD arg0 harg0 arg1 harg1 arg2 harg2 arg3 harg3 arg4 harg4 arg7 harg7 (iota .tc S128x128 32 [1] iota_S128x128_d1_w32) v h1 v89 k a fx fsg fsd fc fl
      hc hc hc hc hc hc hc hc hc hc hc hc hc hc hc hc hc hc  hk3 hk4 ⟨sel v 8 k.val, sel8_lt v k.val⟩ ⟨sel v 8 (k.val + 1), sel8_lt v _⟩ hr hs _ _ hacc
  · rw [if_neg hn]
    have hc := cond_false v k hn
    exact trip_last c XG XD arg0 harg0 arg1 harg1 arg2 harg2 arg3 harg3 arg4 harg4 arg7 harg7 (iota .tc S128x128 32 [1] iota_S128x128_d1_w32) v h1 v89 k a fx fsg fsd fc fl
      hc hc hc hc hc hc hc hc hc hc hc hc hc hc hc hc hc hc  hk3 hk4 ⟨sel v 8 k.val, sel8_lt v k.val⟩ ⟨sel v 8 (min (k.val + 1) (nOf v - 1)), sel8_lt v _⟩ hr hs _ _ hacc

/-- The first and the second combine weight of each token, as the body loads them. -/
abbrev wts0 (fw : Buf (Elt F) (arg1.view.loc (c : Thread nD τ))) : Vec F S128x1 .f32 := arg1.view.readAt (Elt F) (Rect.unit (s := S128x2) ![0, 0] S128x1.size inb_S128x2_S128x1_0_0).toLoadRect fw
@[inherit_doc wts0] abbrev wts1 (fw : Buf (Elt F) (arg1.view.loc (c : Thread nD τ))) : Vec F S128x1 .f32 := arg1.view.readAt (Elt F) (Rect.unit (s := S128x2) ![0, 1] S128x1.size inb_S128x2_S128x1_0_1).toLoadRect fw

/-- What the body stores: the accumulator after every member's trip, rounded. -/
def outV (fi : Buf (Elt F) (arg0.view.loc (c : Thread nD τ))) (fw : Buf (Elt F) (arg1.view.loc (c : Thread nD τ))) (fx : Buf (Elt F) (arg2.view.loc (c : Thread nD τ))) (fsg : Buf (Elt F) (arg3.view.loc (c : Thread nD τ))) (fsd : Buf (Elt F) (arg4.view.loc (c : Thread nD τ))) : Vec F S128x2816 .bf16 :=
  k0_pay81 (accN c XG XD arg2 arg3 arg4 fx fsg fsd (k0_pay74 (ids0 c arg0 fi) (wts0 c arg1 fw) (ids1 c arg0 fi) (wts1 c arg1 fw)) (k0_pay75 (F := F) (ids0 c arg0 fi) (ids1 c arg0 fi))
    (mword c arg0 fi) (nOf (mword c arg0 fi)))

/-- The store of the rounded accumulator, read back. -/
theorem out_read (A : Vec F S128x2816 .f32) (fo : Buf (Elt F) (arg7.view.loc (c : Thread nD τ))) (fa : Buf (Elt F) (accM.view.loc (c : Thread nD τ))) (h : accM.view.read (Elt F) fa = A) :
    arg7.view.read (Elt F) (arg7.view.writes (Elt F) fo [⟨Rect.unit (s := S128x2816) ![0, 0] S128x2816.size inb_S128x2816_S128x2816_0_0,
      k0_pay81 (accM.view.readAt (Elt F) (Rect.unit (s := S128x2816) ![0, 0] S128x2816.size inb_S128x2816_S128x2816_0_0).toLoadRect fa)⟩]) = k0_pay81 A := by
  rw [whole_writes]
  exact congrArg k0_pay81 ((View.readAt_full accM.view fa inb_S128x2816_S128x2816_0_0).trans h)

set_option maxHeartbeats 0 in
/-- The body: from the staged arguments, the slots at rest and the scratch buffers at anything, to the same with the
    result stored. -/
theorem body_run (fi fw fx fsg fsd fo) (hn : 0 < nOf (mword c arg0 fi)) :
    (iprop((arg0.view.loc (c : Thread nD τ) ↦[arg0.view.set]{fullShare} fi) ∗ (arg1.view.loc (c : Thread nD τ) ↦[arg1.view.set]{fullShare} fw) ∗ (arg2.view.loc (c : Thread nD τ) ↦[arg2.view.set]{fullShare} fx) ∗ (arg3.view.loc (c : Thread nD τ) ↦[arg3.view.set]{fullShare} fsg) ∗ (arg4.view.loc (c : Thread nD τ) ↦[arg4.view.set]{fullShare} fsd) ∗ (arg7.view.loc (c : Thread nD τ) ↦[arg7.view.set]{fullShare} fo) ∗ Idle c XG XD
        ∗ (∃ f : Buf (Elt F) (hM.view.loc (c : Thread nD τ)), (hM.view.loc (c : Thread nD τ) ↦[hM.view.set]{fullShare} f)) ∗ (∃ f : Buf (Elt F) (accM.view.loc (c : Thread nD τ)), (accM.view.loc (c : Thread nD τ) ↦[accM.view.set]{fullShare} f)) ∗ (∃ f : Buf (Elt F) (combM.view.loc (c : Thread nD τ)), (combM.view.loc (c : Thread nD τ) ↦[combM.view.set]{fullShare} f)) ∗ (∃ f : Buf (Elt F) (listM.view.loc (c : Thread nD τ)), (listM.view.loc (c : Thread nD τ) ↦[listM.view.set]{fullShare} f)) ∗ ∃ W, owes (c : Thread nD τ) 0 W) : sProp 𝕄) ⊢
      wp frame (wpE (defs₀ (F := F)) 𝒱₀ (c : Thread nD τ) none) Set.univ (cc0_moe_swiglu (F := F) arg0 harg0 arg1 harg1 arg2 harg2 arg3 harg3 arg4 harg4 wguM (Memref.isWhole_whole _) wdnM (Memref.isWhole_whole _) arg7 harg7 guM (Memref.isWhole_whole _) dnM (Memref.isWhole_whole _) hM (Memref.isWhole_whole _) accM (Memref.isWhole_whole _) combM (Memref.isWhole_whole _) listM (Memref.isWhole_whole _) cc0_scratch6 cc0_scratch7)
        (fun _ => iprop((arg0.view.loc (c : Thread nD τ) ↦[arg0.view.set]{fullShare} fi) ∗ (arg1.view.loc (c : Thread nD τ) ↦[arg1.view.set]{fullShare} fw) ∗ (arg2.view.loc (c : Thread nD τ) ↦[arg2.view.set]{fullShare} fx) ∗ (arg3.view.loc (c : Thread nD τ) ↦[arg3.view.set]{fullShare} fsg) ∗ (arg4.view.loc (c : Thread nD τ) ↦[arg4.view.set]{fullShare} fsd) ∗ (∃ fo' : Buf (Elt F) (arg7.view.loc (c : Thread nD τ)), ⌜arg7.view.read (Elt F) fo' = outV c XG XD arg0 arg1 arg2 arg3 arg4 fi fw fx fsg fsd⌝ ∗ (arg7.view.loc (c : Thread nD τ) ↦[arg7.view.set]{fullShare} fo'))
          ∗ Idle c XG XD ∗ (∃ f : Buf (Elt F) (hM.view.loc (c : Thread nD τ)), (hM.view.loc (c : Thread nD τ) ↦[hM.view.set]{fullShare} f)) ∗ (∃ f : Buf (Elt F) (accM.view.loc (c : Thread nD τ)), (accM.view.loc (c : Thread nD τ) ↦[accM.view.set]{fullShare} f)) ∗ (∃ f : Buf (Elt F) (combM.view.loc (c : Thread nD τ)), (combM.view.loc (c : Thread nD τ) ↦[combM.view.set]{fullShare} f)) ∗ (∃ f : Buf (Elt F) (listM.view.loc (c : Thread nD τ)), (listM.view.loc (c : Thread nD τ) ↦[listM.view.set]{fullShare} f)) ∗ ∃ W, owes (c : Thread nD τ) 0 W)) := by
  have hk2 : ∀ w, w = listM.view.readAt (Elt F) (Rect.unit (s := S8) ![0] S1.size inb_S8_S1_0).toLoadRect
      (listM.view.writes (Elt F) listM.view.junk (listPieces (mword c arg0 fi) (chk1_all _))) (Shape.Idx.first (s := S1) (by decide)) → k0_chk2 w := by
    intro w hw
    have e := list_load c (mword c arg0 fi) _ (listIs_writes c _ (chk1_all _) _) _ _ 0 hn rfl w hw
    obtain ⟨n, hn⟩ := sel_fin (mword c arg0 fi) 0
    rw [e, hn]; exact chk2_all n
  have hw0 := list_load (F := F) c (mword c arg0 fi) (listM.view.writes (Elt F) (listM.view.junk (Val := Elt F)) (listPieces (mword c arg0 fi) (chk1_all _))) (listIs_writes c _ (chk1_all _) _) ![0] inb_S8_S1_0 0 hn rfl (View.readAt (Elt F) listM.view (Rect.unit (s := S8) ![0] S1.size inb_S8_S1_0).toLoadRect (listM.view.writes (Elt F) (listM.view.junk (Val := Elt F)) (listPieces (mword c arg0 fi) (chk1_all _))) (Shape.Idx.first (s := S1) (by decide))) rfl
  iintro ⟨Hi, Hw, Hx, Hsg, Hsd, Ho, HI, ⟨%fh, Hh⟩, ⟨%fa, Ha⟩, ⟨%fc, Hcm⟩, ⟨%fl, Hl⟩, ⟨%W, HW⟩⟩
  irevert HI
  unfold Idle gIdle dIdle
  iintro ⟨⟨%f00, HF00, HS00, HR00⟩, ⟨%f01, HF01, HS01, HR01⟩, ⟨%f10, HF10, HS10, HR10⟩, ⟨%f11, HF11, HS11, HR11⟩, ⟨%f20, HF20, HS20, HR20⟩, ⟨%f21, HF21, HS21, HR21⟩, ⟨%f30, HF30, HS30, HR30⟩, ⟨%f31, HF31, HS31, HR31⟩, ⟨%f40, HF40, HS40, HR40⟩, ⟨%f41, HF41, HS41, HR41⟩, ⟨%f50, HF50, HS50, HR50⟩, ⟨%f51, HF51, HS51, HR51⟩, ⟨%f60, HF60, HS60, HR60⟩, ⟨%f61, HF61, HS61, HR61⟩, ⟨%d0, HE0, HZ0, HQ0⟩, ⟨%d1, HE1, HZ1, HQ1⟩, ⟨%d2, HE2, HZ2, HQ2⟩, ⟨%d3, HE3, HZ3, HQ3⟩, ⟨%d4, HE4, HZ4, HQ4⟩, ⟨%d5, HE5, HZ5, HQ5⟩, ⟨%d6, HE6, HZ6, HQ6⟩, ⟨%d7, HE7, HZ7, HQ7⟩, ⟨%d8, HE8, HZ8, HQ8⟩, ⟨%d9, HE9, HZ9, HQ9⟩, ⟨%d10, HE10, HZ10, HQ10⟩⟩
  unfold cc0_moe_swiglu
  sl_exec (disch := first | exact chk1_all _ | ((with_reducible refine hk2 _ ?_); rfl))
  iapply (loop_bind c _ _ _ _ (inv c XG XD arg2 arg3 arg4 fx fsg fsd _ _ (mword c arg0 fi))
    (fun k a => inv_step c XG XD arg0 harg0 arg1 harg1 arg2 harg2 arg3 harg3 arg4 harg4 arg7 harg7 (mword c arg0 fi) (chk1_all _) _ fx fsg fsd _ _
      (listIs_writes c _ (chk1_all _) fl) k a))
  isplitr [Hi Hw Ho]
  · unfold inv
    rw [if_pos hn]
    isplitr [Hx Hsg Hsd Hcm Hl Hh Ha HW]
    · unfold Fly gFly dFly
      isplitl [HS00 HR00]
      · iexists _, _; isplitr; swap
        · isplitl [HS00]; · iexact HS00
          iexact HR00
        ipureintro; exact g_landed c XG (sel (mword c arg0 fi) 8 0) 0 0 _ _ _ ((congrArg k0_off8 hw0).trans (off8_at ⟨sel (mword c arg0 fi) 8 0, sel8_lt _ _⟩)) _ _ _
      isplitl [HS01 HR01]
      · iexists _, _; isplitr; swap
        · isplitl [HS01]; · iexact HS01
          iexact HR01
        ipureintro; exact g_landed c XG (sel (mword c arg0 fi) 8 0) 0 1 _ _ _ ((congrArg k0_off9 hw0).trans (off9_at ⟨sel (mword c arg0 fi) 8 0, sel8_lt _ _⟩)) _ _ _
      isplitl [HS10 HR10]
      · iexists _, _; isplitr; swap
        · isplitl [HS10]; · iexact HS10
          iexact HR10
        ipureintro; exact g_landed c XG (sel (mword c arg0 fi) 8 0) 1 0 _ _ _ ((congrArg k0_off10 hw0).trans (off10_at ⟨sel (mword c arg0 fi) 8 0, sel8_lt _ _⟩)) _ _ _
      isplitl [HS11 HR11]
      · iexists _, _; isplitr; swap
        · isplitl [HS11]; · iexact HS11
          iexact HR11
        ipureintro; exact g_landed c XG (sel (mword c arg0 fi) 8 0) 1 1 _ _ _ ((congrArg k0_off11 hw0).trans (off11_at ⟨sel (mword c arg0 fi) 8 0, sel8_lt _ _⟩)) _ _ _
      isplitl [HS20 HR20]
      · iexists _, _; isplitr; swap
        · isplitl [HS20]; · iexact HS20
          iexact HR20
        ipureintro; exact g_landed c XG (sel (mword c arg0 fi) 8 0) 2 0 _ _ _ ((congrArg k0_off12 hw0).trans (off12_at ⟨sel (mword c arg0 fi) 8 0, sel8_lt _ _⟩)) _ _ _
      isplitl [HS21 HR21]
      · iexists _, _; isplitr; swap
        · isplitl [HS21]; · iexact HS21
          iexact HR21
        ipureintro; exact g_landed c XG (sel (mword c arg0 fi) 8 0) 2 1 _ _ _ ((congrArg k0_off13 hw0).trans (off13_at ⟨sel (mword c arg0 fi) 8 0, sel8_lt _ _⟩)) _ _ _
      isplitl [HS30 HR30]
      · iexists _, _; isplitr; swap
        · isplitl [HS30]; · iexact HS30
          iexact HR30
        ipureintro; exact g_landed c XG (sel (mword c arg0 fi) 8 0) 3 0 _ _ _ ((congrArg k0_off14 hw0).trans (off14_at ⟨sel (mword c arg0 fi) 8 0, sel8_lt _ _⟩)) _ _ _
      isplitl [HS31 HR31]
      · iexists _, _; isplitr; swap
        · isplitl [HS31]; · iexact HS31
          iexact HR31
        ipureintro; exact g_landed c XG (sel (mword c arg0 fi) 8 0) 3 1 _ _ _ ((congrArg k0_off15 hw0).trans (off15_at ⟨sel (mword c arg0 fi) 8 0, sel8_lt _ _⟩)) _ _ _
      isplitl [HS40 HR40]
      · iexists _, _; isplitr; swap
        · isplitl [HS40]; · iexact HS40
          iexact HR40
        ipureintro; exact g_landed c XG (sel (mword c arg0 fi) 8 0) 4 0 _ _ _ ((congrArg k0_off16 hw0).trans (off16_at ⟨sel (mword c arg0 fi) 8 0, sel8_lt _ _⟩)) _ _ _
      isplitl [HS41 HR41]
      · iexists _, _; isplitr; swap
        · isplitl [HS41]; · iexact HS41
          iexact HR41
        ipureintro; exact g_landed c XG (sel (mword c arg0 fi) 8 0) 4 1 _ _ _ ((congrArg k0_off17 hw0).trans (off17_at ⟨sel (mword c arg0 fi) 8 0, sel8_lt _ _⟩)) _ _ _
      isplitl [HS50 HR50]
      · iexists _, _; isplitr; swap
        · isplitl [HS50]; · iexact HS50
          iexact HR50
        ipureintro; exact g_landed c XG (sel (mword c arg0 fi) 8 0) 5 0 _ _ _ ((congrArg k0_off18 hw0).trans (off18_at ⟨sel (mword c arg0 fi) 8 0, sel8_lt _ _⟩)) _ _ _
      isplitl [HS51 HR51]
      · iexists _, _; isplitr; swap
        · isplitl [HS51]; · iexact HS51
          iexact HR51
        ipureintro; exact g_landed c XG (sel (mword c arg0 fi) 8 0) 5 1 _ _ _ ((congrArg k0_off19 hw0).trans (off19_at ⟨sel (mword c arg0 fi) 8 0, sel8_lt _ _⟩)) _ _ _
      isplitl [HS60 HR60]
      · iexists _, _; isplitr; swap
        · isplitl [HS60]; · iexact HS60
          iexact HR60
        ipureintro; exact g_landed c XG (sel (mword c arg0 fi) 8 0) 6 0 _ _ _ ((congrArg k0_off20 hw0).trans (off20_at ⟨sel (mword c arg0 fi) 8 0, sel8_lt _ _⟩)) _ _ _
      isplitl [HS61 HR61]
      · iexists _, _; isplitr; swap
        · isplitl [HS61]; · iexact HS61
          iexact HR61
        ipureintro; exact g_landed c XG (sel (mword c arg0 fi) 8 0) 6 1 _ _ _ ((congrArg k0_off21 hw0).trans (off21_at ⟨sel (mword c arg0 fi) 8 0, sel8_lt _ _⟩)) _ _ _
      isplitl [HZ0 HQ0]
      · iexists _, _; isplitr; swap
        · isplitl [HZ0]; · iexact HZ0
          iexact HQ0
        ipureintro; exact d_landed c XD (sel (mword c arg0 fi) 8 0) 0 _ _ _ ((congrArg k0_off22 hw0).trans (off22_at ⟨sel (mword c arg0 fi) 8 0, sel8_lt _ _⟩)) _ _ _
      isplitl [HZ1 HQ1]
      · iexists _, _; isplitr; swap
        · isplitl [HZ1]; · iexact HZ1
          iexact HQ1
        ipureintro; exact d_landed c XD (sel (mword c arg0 fi) 8 0) 1 _ _ _ ((congrArg k0_off23 hw0).trans (off23_at ⟨sel (mword c arg0 fi) 8 0, sel8_lt _ _⟩)) _ _ _
      isplitl [HZ2 HQ2]
      · iexists _, _; isplitr; swap
        · isplitl [HZ2]; · iexact HZ2
          iexact HQ2
        ipureintro; exact d_landed c XD (sel (mword c arg0 fi) 8 0) 2 _ _ _ ((congrArg k0_off24 hw0).trans (off24_at ⟨sel (mword c arg0 fi) 8 0, sel8_lt _ _⟩)) _ _ _
      isplitl [HZ3 HQ3]
      · iexists _, _; isplitr; swap
        · isplitl [HZ3]; · iexact HZ3
          iexact HQ3
        ipureintro; exact d_landed c XD (sel (mword c arg0 fi) 8 0) 3 _ _ _ ((congrArg k0_off25 hw0).trans (off25_at ⟨sel (mword c arg0 fi) 8 0, sel8_lt _ _⟩)) _ _ _
      isplitl [HZ4 HQ4]
      · iexists _, _; isplitr; swap
        · isplitl [HZ4]; · iexact HZ4
          iexact HQ4
        ipureintro; exact d_landed c XD (sel (mword c arg0 fi) 8 0) 4 _ _ _ ((congrArg k0_off26 hw0).trans (off26_at ⟨sel (mword c arg0 fi) 8 0, sel8_lt _ _⟩)) _ _ _
      isplitl [HZ5 HQ5]
      · iexists _, _; isplitr; swap
        · isplitl [HZ5]; · iexact HZ5
          iexact HQ5
        ipureintro; exact d_landed c XD (sel (mword c arg0 fi) 8 0) 5 _ _ _ ((congrArg k0_off27 hw0).trans (off27_at ⟨sel (mword c arg0 fi) 8 0, sel8_lt _ _⟩)) _ _ _
      isplitl [HZ6 HQ6]
      · iexists _, _; isplitr; swap
        · isplitl [HZ6]; · iexact HZ6
          iexact HQ6
        ipureintro; exact d_landed c XD (sel (mword c arg0 fi) 8 0) 6 _ _ _ ((congrArg k0_off28 hw0).trans (off28_at ⟨sel (mword c arg0 fi) 8 0, sel8_lt _ _⟩)) _ _ _
      isplitl [HZ7 HQ7]
      · iexists _, _; isplitr; swap
        · isplitl [HZ7]; · iexact HZ7
          iexact HQ7
        ipureintro; exact d_landed c XD (sel (mword c arg0 fi) 8 0) 7 _ _ _ ((congrArg k0_off29 hw0).trans (off29_at ⟨sel (mword c arg0 fi) 8 0, sel8_lt _ _⟩)) _ _ _
      isplitl [HZ8 HQ8]
      · iexists _, _; isplitr; swap
        · isplitl [HZ8]; · iexact HZ8
          iexact HQ8
        ipureintro; exact d_landed c XD (sel (mword c arg0 fi) 8 0) 8 _ _ _ ((congrArg k0_off30 hw0).trans (off30_at ⟨sel (mword c arg0 fi) 8 0, sel8_lt _ _⟩)) _ _ _
      isplitl [HZ9 HQ9]
      · iexists _, _; isplitr; swap
        · isplitl [HZ9]; · iexact HZ9
          iexact HQ9
        ipureintro; exact d_landed c XD (sel (mword c arg0 fi) 8 0) 9 _ _ _ ((congrArg k0_off31 hw0).trans (off31_at ⟨sel (mword c arg0 fi) 8 0, sel8_lt _ _⟩)) _ _ _
      iexists _, _; isplitr; swap
      · isplitl [HZ10]; · iexact HZ10
        iexact HQ10
      ipureintro; exact d_landed c XD (sel (mword c arg0 fi) 8 0) 10 _ _ _ ((congrArg k0_off32 hw0).trans (off32_at ⟨sel (mword c arg0 fi) 8 0, sel8_lt _ _⟩)) _ _ _

    unfold Base
    isplitl [Hx]; · iexact Hx
    isplitl [Hsg]; · iexact Hsg
    isplitl [Hsd]; · iexact Hsd
    isplitl [Hcm]; · iexact Hcm
    isplitl [Hl]; · iexact Hl
    isplitl [Hh]; · iexists _; iexact Hh
    isplitl [Ha]
    · iexists _
      isplitr; swap; · iexact Ha
      ipureintro; exact whole_writes accM.view _ k0_pay78
    iexists _; iexact HW
  iintro %acc HI
  ihave HE := (inv_end c XG XD arg2 arg3 arg4 fx fsg fsd _ _ (mword c arg0 fi)) $$ HI
  unfold Base
  icases HE with ⟨HI, Hx, Hsg, Hsd, Hcm, Hl, ⟨%fh', Hh⟩, ⟨%fa', %pa, Ha⟩, ⟨%W', HW⟩⟩
  have htr2 : (k0_t2_loop (body_run.sl.v50 c arg0 fi)).trips = 0 := trips2_eq _
  sl_exec
  sl_step
  isplitl [Hi]; · iexact Hi
  isplitl [Hw]; · iexact Hw
  isplitl [Hx]; · iexact Hx
  isplitl [Hsg]; · iexact Hsg
  isplitl [Hsd]; · iexact Hsd
  isplitl [Ho]
  · iexists _; isplitr; swap; · iexact Ho
    ipureintro
    exact out_read c arg7 _ fo fa' (pa.trans (congrArg₂ (fun C0 C1 => accN c XG XD arg2 arg3 arg4 fx fsg fsd C0 C1 (mword c arg0 fi) (nOf (mword c arg0 fi)))
      (cmb0_writes c (combM.view.junk (Val := Elt F)) (k0_pay74 (ids0 c arg0 fi) (wts0 c arg1 fw) (ids1 c arg0 fi) (wts1 c arg1 fw)) (k0_pay75 (F := F) (ids0 c arg0 fi) (ids1 c arg0 fi)))
      (cmb1_writes c (combM.view.junk (Val := Elt F)) (k0_pay74 (ids0 c arg0 fi) (wts0 c arg1 fw) (ids1 c arg0 fi) (wts1 c arg1 fw)) (k0_pay75 (F := F) (ids0 c arg0 fi) (ids1 c arg0 fi)))))
  isplitl [HI]; · unfold Idle gIdle dIdle; iexact HI
  isplitl [Hh]; · iexists _; iexact Hh
  isplitl [Ha]; · iexists _; iexact Ha
  isplitl [Hcm]; · iexists _; iexact Hcm
  isplitl [Hl]; · iexists _; iexact Hl
  iexists _; iexact HW
end Body
end Cert.Proof.IdealRun
end
-- ==== Proof.IdealRegions.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Transfers
public import Idealize.ShloMosaic.Lib.Pipeline.KitQuiescent
public import Idealize.ShloMosaic.Lib.Tactic
public import proofs.«01_k».proof.Proof.Gen.KernelIdeal.Frame
public import proofs.«01_k».proof.Proof.IdealBody
public import Idealize.ShloMosaic.Lib.Pipeline.FrameSuffixR
public import Idealize.ShloMosaic.Lib.Ring
@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ
variable (m : (ℓ : Loc nD τ sig) → Buf (Elt F) ℓ) (ρ : Dev nD → PrngReg)

/-! ## The kernel's own semaphores -/

/-- The 25 DMA semaphores: 14 of the gate/up slots, then 11 of the down slots. -/
abbrev osem : Fin 25 → SemLoc sig := fun k => .dma ⟨6 + k.val, by have := k.isLt; show 6 + k.val < 31; omega⟩
/-- The kernel's own semaphores are none of the pipeline's. -/
theorem ownSemFacts : Pipeline.OwnSemFacts spec0 osem := by decide

/-! ## The slots cover their buffers -/

/-- A gate-and-up slot lies within its buffer. -/
theorem goff_inb (b : Fin 14) : ∀ a, (![b.val / 2, b.val % 2, 0, 0] : Fin 4 → ℕ) a + S1x1x512x2816.size a ≤ S7x2x512x2816.size a := by
  intro a; have := b.isLt; fin_cases a
  · show b.val / 2 + 1 ≤ 7; omega
  · show b.val % 2 + 1 ≤ 2; omega
  · show 0 + 512 ≤ 512; omega
  · show 0 + 2816 ≤ 2816; omega
/-- A down slot lies within its buffer. -/
theorem doff_inb (b : Fin 11) : ∀ a, (![b.val, 0, 0] : Fin 3 → ℕ) a + S1x256x3584.size a ≤ S11x256x3584.size a := by
  intro a; have := b.isLt; fin_cases a
  · show b.val + 1 ≤ 11; omega
  · show 0 + 256 ≤ 256; omega
  · show 0 + 3584 ≤ 3584; omega
/-- The cells of gate-and-up slot `b`. -/
abbrev G14 (b : Fin 14) : Finset S7x2x512x2816.Idx := (Rect.unit (s := S7x2x512x2816) ![b.val / 2, b.val % 2, 0, 0] S1x1x512x2816.size (goff_inb b)).set
/-- The cells of down slot `b`. -/
abbrev D11 (b : Fin 11) : Finset S11x256x3584.Idx := (Rect.unit (s := S11x256x3584) ![b.val, 0, 0] S1x256x3584.size (doff_inb b)).set
/-- A cell of the gate-and-up buffer is in the slot that its first two coordinates name. -/
theorem mem_G14 (b : Fin 14) (y : S7x2x512x2816.Idx) : y ∈ G14 b ↔ 2 * (y 0).val + (y 1).val = b.val := by
  rw [Rect.mem_set_unit]
  have h0 : (y 0).val < 7 := (y 0).isLt
  have h1 : (y 1).val < 2 := (y 1).isLt
  have h2 : (y 2).val < 512 := (y 2).isLt
  have h3 : (y 3).val < 2816 := (y 3).isLt
  constructor
  · intro H
    have a0 : b.val / 2 ≤ (y 0).val ∧ (y 0).val < b.val / 2 + 1 := H 0
    have a1 : b.val % 2 ≤ (y 1).val ∧ (y 1).val < b.val % 2 + 1 := H 1
    omega
  · intro H i; fin_cases i
    · show b.val / 2 ≤ (y 0).val ∧ (y 0).val < b.val / 2 + 1; omega
    · show b.val % 2 ≤ (y 1).val ∧ (y 1).val < b.val % 2 + 1; omega
    · show 0 ≤ (y 2).val ∧ (y 2).val < 0 + 512; omega
    · show 0 ≤ (y 3).val ∧ (y 3).val < 0 + 2816; omega
/-- A cell of the down buffer is in the slot that its first coordinate names. -/
theorem mem_D11 (b : Fin 11) (y : S11x256x3584.Idx) : y ∈ D11 b ↔ (y 0).val = b.val := by
  rw [Rect.mem_set_unit]
  have h1 : (y 1).val < 256 := (y 1).isLt
  have h2 : (y 2).val < 3584 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 256; omega
    · show 0 ≤ (y 2).val ∧ (y 2).val < 0 + 3584; omega
/-- Two gate-and-up slots share no cell. -/
theorem G14_disjoint : ∀ b b' : Fin 14, b ≠ b' → Disjoint (G14 b) (G14 b') := by
  intro b b' hne; rw [Finset.disjoint_left]; intro y hy hy'; rw [mem_G14] at hy hy'; exact hne (Fin.ext (hy.symm.trans hy'))
/-- The gate-and-up slots cover their buffer. -/
theorem G14_cover : (Finset.univ : Finset (Fin 14)).biUnion G14 = Finset.univ := by
  ext y
  have h0 : (y 0).val < 7 := (y 0).isLt
  have h1 : (y 1).val < 2 := (y 1).isLt
  simp only [Finset.mem_biUnion, Finset.mem_univ, true_and, iff_true]
  exact ⟨⟨2 * (y 0).val + (y 1).val, by omega⟩, by rw [mem_G14]⟩
/-- Two down slots share no cell. -/
theorem D11_disjoint : ∀ b b' : Fin 11, b ≠ b' → Disjoint (D11 b) (D11 b') := by
  intro b b' hne; rw [Finset.disjoint_left]; intro y hy hy'; rw [mem_D11] at hy hy'; exact hne (Fin.ext (hy.symm.trans hy'))
/-- The down slots cover their buffer. -/
theorem D11_cover : (Finset.univ : Finset (Fin 11)).biUnion D11 = Finset.univ := by
  ext y; simp only [Finset.mem_biUnion, Finset.mem_univ, true_and, iff_true]; exact ⟨(y 0).cast (by decide), by rw [mem_D11]; rfl⟩

omit [FloatOps F] in
/-- Owning a gate-and-up slot through its own reference is owning its cells of the buffer. -/
theorem gslot_eq (c : Dev nD) (b : Fin 14) (f) : ((gslot (b.val / 2) (b.val % 2) (goff_inb b)).view.loc (c : Thread nD τ) ↦[(gslot (b.val / 2) (b.val % 2) (goff_inb b)).view.set]{fullShare} f : sProp 𝕄)
    = (((c : Thread nD τ).loc cc0_scratch0) ↦[G14 b]{fullShare} f : sProp 𝕄) :=
  congrArg (fun S => (_ ↦[S]{fullShare} f : sProp 𝕄)) ((View.set_reshape _ _).trans (View.set_slice_whole _ _))
omit [FloatOps F] in
/-- Owning a down slot through its own reference is owning its cells of the buffer. -/
theorem dslot_eq (c : Dev nD) (b : Fin 11) (f) : ((dslot b.val (doff_inb b)).view.loc (c : Thread nD τ) ↦[(dslot b.val (doff_inb b)).view.set]{fullShare} f : sProp 𝕄)
    = (((c : Thread nD τ).loc cc0_scratch1) ↦[D11 b]{fullShare} f : sProp 𝕄) :=
  congrArg (fun S => (_ ↦[S]{fullShare} f : sProp 𝕄)) ((View.set_reshape _ _).trans (View.set_slice_whole _ _))

omit [FloatOps F] in
/-- Owning known contents is owning some contents. -/
theorem own_some {ℓ : Loc nD τ sig} {S : Finset (Idx ℓ)} (f : Buf (Elt F) ℓ) : (ℓ ↦[S]{fullShare} f : sProp 𝕄) ⊢ iprop(∃ f, ℓ ↦[S]{fullShare} f) := by
  iintro H; iexists f; iexact H

omit [FloatOps F] in
/-- The gate/up buffer whole is its 14 slots, -/
theorem gbuf_split (c : Dev nD) :
    iprop(∃ f : Buf (Elt F) ((c : Thread nD τ).loc cc0_scratch0), ((c : Thread nD τ).loc cc0_scratch0) ↦{fullShare} f)
      ⊢ (bigSep Finset.univ fun b : Fin 14 => iprop(∃ f, ((c : Thread nD τ).loc cc0_scratch0) ↦[G14 b]{fullShare} f) : sProp 𝕄) := by
  iintro ⟨%f, H⟩
  ihave H2 := (entails_of_eq (Ring.pointsTo_blocks (Ix := Unit) (Name := ℕ) (U := UU nD τ) (Lvl := ℕ) (q := fullShare) (ℓ := (c : Thread nD τ).loc cc0_scratch0) G14 G14_disjoint G14_cover f)) $$ H
  iapply (show (bigSep Finset.univ fun b : Fin 14 => (((c : Thread nD τ).loc cc0_scratch0) ↦[G14 b]{fullShare} f : sProp 𝕄))
      ⊢ bigSep Finset.univ fun b : Fin 14 => iprop(∃ f, ((c : Thread nD τ).loc cc0_scratch0) ↦[G14 b]{fullShare} f) from
    bigSep_mono fun b _ => own_some f)
  iexact H2
omit [FloatOps F] in
/-- The down buffer splits into its slots. -/
theorem dbuf_split (c : Dev nD) :
    iprop(∃ f : Buf (Elt F) ((c : Thread nD τ).loc cc0_scratch1), ((c : Thread nD τ).loc cc0_scratch1) ↦{fullShare} f)
      ⊢ (bigSep Finset.univ fun b : Fin 11 => iprop(∃ f, ((c : Thread nD τ).loc cc0_scratch1) ↦[D11 b]{fullShare} f) : sProp 𝕄) := by
  iintro ⟨%f, H⟩
  ihave H2 := (entails_of_eq (Ring.pointsTo_blocks (Ix := Unit) (Name := ℕ) (U := UU nD τ) (Lvl := ℕ) (q := fullShare) (ℓ := (c : Thread nD τ).loc cc0_scratch1) D11 D11_disjoint D11_cover f)) $$ H
  iapply (show (bigSep Finset.univ fun b : Fin 11 => (((c : Thread nD τ).loc cc0_scratch1) ↦[D11 b]{fullShare} f : sProp 𝕄))
      ⊢ bigSep Finset.univ fun b : Fin 11 => iprop(∃ f, ((c : Thread nD τ).loc cc0_scratch1) ↦[D11 b]{fullShare} f) from
    bigSep_mono fun b _ => own_some f)
  iexact H2

/-- A buffer whole, as a memref and as a location. -/
theorem whole_eq (c : Dev nD) (b : Ref sig .tc) : (iprop(∃ f : Buf (Elt F) ((c : Thread nD τ).loc b), ((Memref.whole b).view.loc (c : Thread nD τ) ↦[(Memref.whole b).view.set]{fullShare} f)) : sProp 𝕄)
    = iprop(∃ f : Buf (Elt F) ((c : Thread nD τ).loc b), ((c : Thread nD τ).loc b) ↦{fullShare} f) := by
  rw [show (Memref.whole b).view.set = Finset.univ from View.set_whole b]
/-- The slots, each at its own contents, are the buffer whole again. -/
theorem gbuf_join (c : Dev nD) :
    (bigSep Finset.univ fun b : Fin 14 => iprop(∃ f, ((c : Thread nD τ).loc cc0_scratch0) ↦[G14 b]{fullShare} f) : sProp 𝕄)
      ⊢ iprop(∃ f : Buf (Elt F) ((c : Thread nD τ).loc cc0_scratch0), ((c : Thread nD τ).loc cc0_scratch0) ↦{fullShare} f) :=
  Ring.pointsTo_blocks_join_exists (ℓ := (c : Thread nD τ).loc cc0_scratch0) G14 G14_disjoint G14_cover (fun _ => default)
/-- The slots of the down buffer join into the buffer. -/
theorem dbuf_join (c : Dev nD) :
    (bigSep Finset.univ fun b : Fin 11 => iprop(∃ f, ((c : Thread nD τ).loc cc0_scratch1) ↦[D11 b]{fullShare} f) : sProp 𝕄)
      ⊢ iprop(∃ f : Buf (Elt F) ((c : Thread nD τ).loc cc0_scratch1), ((c : Thread nD τ).loc cc0_scratch1) ↦{fullShare} f) :=
  Ring.pointsTo_blocks_join_exists (ℓ := (c : Thread nD τ).loc cc0_scratch1) D11 D11_disjoint D11_cover (fun _ => default)

omit [FloatOps F] in
/-- A conjunction over this many indices, written out. -/
theorem bigSep_fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [(0 : Fin 14), (1 : Fin 14), (2 : Fin 14), (3 : Fin 14), (4 : Fin 14), (5 : Fin 14), (6 : Fin 14), (7 : Fin 14), (8 : Fin 14), (9 : Fin 14), (10 : Fin 14), (11 : Fin 14), (12 : Fin 14), (13 : Fin 14)] (by decide) (by decide) Φ

omit [FloatOps F] in
/-- A conjunction over this many indices, written out. -/
theorem bigSep_fin11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [(0 : Fin 11), (1 : Fin 11), (2 : Fin 11), (3 : Fin 11), (4 : Fin 11), (5 : Fin 11), (6 : Fin 11), (7 : Fin 11), (8 : Fin 11), (9 : Fin 11), (10 : Fin 11)] (by decide) (by decide) Φ

omit [FloatOps F] in
/-- A conjunction over this many indices, written out. -/
theorem bigSep_fin25 (Φ : Fin 25 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) :=
  bigSep_univ_eq_bigSepL [(0 : Fin 25), (1 : Fin 25), (2 : Fin 25), (3 : Fin 25), (4 : Fin 25), (5 : Fin 25), (6 : Fin 25), (7 : Fin 25), (8 : Fin 25), (9 : Fin 25), (10 : Fin 25), (11 : Fin 25), (12 : Fin 25), (13 : Fin 25), (14 : Fin 25), (15 : Fin 25), (16 : Fin 25), (17 : Fin 25), (18 : Fin 25), (19 : Fin 25), (20 : Fin 25), (21 : Fin 25), (22 : Fin 25), (23 : Fin 25), (24 : Fin 25)] (by decide) (by decide) Φ

omit [FloatOps F] in
/-- The tokens of a range, the last one apart. -/
theorem peel (k : ℕ) (Φ : ℕ → sProp 𝕄) : bigSep (Finset.range (k + 1)) Φ = iprop(Φ k ∗ bigSep (Finset.range k) Φ) := by
  rw [Finset.range_add_one, bigSep_insert Finset.notMem_range_self]; rfl

/-- What is left of a weight array after the shares the slots read it under are taken: the rest of the share, and the
    tokens no slot uses. -/
def GRest (c : Dev nD) (XG : Buf (Elt F) (wguM.view.loc (c : Thread nD τ))) : sProp 𝕄 :=
  iprop((wguM.view.loc (c : Thread nD τ) ↦[Finset.univ]{Transfers.shareDrop fullShare 20} XG)
    ∗ bigSep (Finset.range 6) fun i => (wguM.view.loc (c : Thread nD τ) ↦[Finset.univ]{Transfers.shareTokN fullShare i} XG))
/-- What stays of the down matrices while their slots are read. -/
def DRest (c : Dev nD) (XD : Buf (Elt F) (wdnM.view.loc (c : Thread nD τ))) : sProp 𝕄 :=
  iprop((wdnM.view.loc (c : Thread nD τ) ↦[Finset.univ]{Transfers.shareDrop fullShare 31} XD)
    ∗ bigSep (Finset.range 20) fun i => (wdnM.view.loc (c : Thread nD τ) ↦[Finset.univ]{Transfers.shareTokN fullShare i} XD))

omit [FloatOps F] in
/-- The array whole is the tokens of the slots beside the rest. -/
theorem gtoks (c : Dev nD) (XG : Buf (Elt F) (wguM.view.loc (c : Thread nD τ))) :
    (((c : Thread nD τ).loc main_arg3) ↦{fullShare} XG : sProp 𝕄) ⊣⊢ iprop(((wguM.view.loc (c : Thread nD τ) ↦[Finset.univ]{Transfers.shareTokN fullShare 19} XG) ∗ (wguM.view.loc (c : Thread nD τ) ↦[Finset.univ]{Transfers.shareTokN fullShare 18} XG) ∗ (wguM.view.loc (c : Thread nD τ) ↦[Finset.univ]{Transfers.shareTokN fullShare 17} XG) ∗ (wguM.view.loc (c : Thread nD τ) ↦[Finset.univ]{Transfers.shareTokN fullShare 16} XG) ∗ (wguM.view.loc (c : Thread nD τ) ↦[Finset.univ]{Transfers.shareTokN fullShare 15} XG) ∗ (wguM.view.loc (c : Thread nD τ) ↦[Finset.univ]{Transfers.shareTokN fullShare 14} XG) ∗ (wguM.view.loc (c : Thread nD τ) ↦[Finset.univ]{Transfers.shareTokN fullShare 13} XG) ∗ (wguM.view.loc (c : Thread nD τ) ↦[Finset.univ]{Transfers.shareTokN fullShare 12} XG) ∗ (wguM.view.loc (c : Thread nD τ) ↦[Finset.univ]{Transfers.shareTokN fullShare 11} XG) ∗ (wguM.view.loc (c : Thread nD τ) ↦[Finset.univ]{Transfers.shareTokN fullShare 10} XG) ∗ (wguM.view.loc (c : Thread nD τ) ↦[Finset.univ]{Transfers.shareTokN fullShare 9} XG) ∗ (wguM.view.loc (c : Thread nD τ) ↦[Finset.univ]{Transfers.shareTokN fullShare 8} XG) ∗ (wguM.view.loc (c : Thread nD τ) ↦[Finset.univ]{Transfers.shareTokN fullShare 7} XG) ∗ (wguM.view.loc (c : Thread nD τ) ↦[Finset.univ]{Transfers.shareTokN fullShare 6} XG)) ∗ GRest c XG) := by
  have h := Transfers.pointsTo_toks_range (Ix := Unit) (Name := ℕ) (U := UU nD τ) (Lvl := ℕ) (ℓ := (c : Thread nD τ).loc main_arg3) (S := Finset.univ) (f := XG) fullShare 20
  rw [peel 19, peel 18, peel 17, peel 16, peel 15, peel 14, peel 13, peel 12, peel 11, peel 10, peel 9, peel 8, peel 7, peel 6] at h
  unfold GRest
  refine ⟨h.1.trans ?_, BIBase.Entails.trans ?_ h.2⟩
  · iintro ⟨HR, H19, H18, H17, H16, H15, H14, H13, H12, H11, H10, H9, H8, H7, H6, HL⟩
    isplitr [HR HL]
    · isplitl [H19]; · iexact H19
      isplitl [H18]; · iexact H18
      isplitl [H17]; · iexact H17
      isplitl [H16]; · iexact H16
      isplitl [H15]; · iexact H15
      isplitl [H14]; · iexact H14
      isplitl [H13]; · iexact H13
      isplitl [H12]; · iexact H12
      isplitl [H11]; · iexact H11
      isplitl [H10]; · iexact H10
      isplitl [H9]; · iexact H9
      isplitl [H8]; · iexact H8
      isplitl [H7]; · iexact H7
      iexact H6
    isplitl [HR]; · iexact HR
    iexact HL
  · iintro ⟨⟨H19, H18, H17, H16, H15, H14, H13, H12, H11, H10, H9, H8, H7, H6⟩, HR, HL⟩
    isplitl [HR]; · iexact HR
    isplitl [H19]; · iexact H19
    isplitl [H18]; · iexact H18
    isplitl [H17]; · iexact H17
    isplitl [H16]; · iexact H16
    isplitl [H15]; · iexact H15
    isplitl [H14]; · iexact H14
    isplitl [H13]; · iexact H13
    isplitl [H12]; · iexact H12
    isplitl [H11]; · iexact H11
    isplitl [H10]; · iexact H10
    isplitl [H9]; · iexact H9
    isplitl [H8]; · iexact H8
    isplitl [H7]; · iexact H7
    isplitl [H6]; · iexact H6
    iexact HL

omit [FloatOps F] in
/-- The array whole is the tokens of the slots beside the rest. -/
theorem dtoks (c : Dev nD) (XD : Buf (Elt F) (wdnM.view.loc (c : Thread nD τ))) :
    (((c : Thread nD τ).loc main_arg5) ↦{fullShare} XD : sProp 𝕄) ⊣⊢ iprop(((wdnM.view.loc (c : Thread nD τ) ↦[Finset.univ]{Transfers.shareTokN fullShare 30} XD) ∗ (wdnM.view.loc (c : Thread nD τ) ↦[Finset.univ]{Transfers.shareTokN fullShare 29} XD) ∗ (wdnM.view.loc (c : Thread nD τ) ↦[Finset.univ]{Transfers.shareTokN fullShare 28} XD) ∗ (wdnM.view.loc (c : Thread nD τ) ↦[Finset.univ]{Transfers.shareTokN fullShare 27} XD) ∗ (wdnM.view.loc (c : Thread nD τ) ↦[Finset.univ]{Transfers.shareTokN fullShare 26} XD) ∗ (wdnM.view.loc (c : Thread nD τ) ↦[Finset.univ]{Transfers.shareTokN fullShare 25} XD) ∗ (wdnM.view.loc (c : Thread nD τ) ↦[Finset.univ]{Transfers.shareTokN fullShare 24} XD) ∗ (wdnM.view.loc (c : Thread nD τ) ↦[Finset.univ]{Transfers.shareTokN fullShare 23} XD) ∗ (wdnM.view.loc (c : Thread nD τ) ↦[Finset.univ]{Transfers.shareTokN fullShare 22} XD) ∗ (wdnM.view.loc (c : Thread nD τ) ↦[Finset.univ]{Transfers.shareTokN fullShare 21} XD) ∗ (wdnM.view.loc (c : Thread nD τ) ↦[Finset.univ]{Transfers.shareTokN fullShare 20} XD)) ∗ DRest c XD) := by
  have h := Transfers.pointsTo_toks_range (Ix := Unit) (Name := ℕ) (U := UU nD τ) (Lvl := ℕ) (ℓ := (c : Thread nD τ).loc main_arg5) (S := Finset.univ) (f := XD) fullShare 31
  rw [peel 30, peel 29, peel 28, peel 27, peel 26, peel 25, peel 24, peel 23, peel 22, peel 21, peel 20] at h
  unfold DRest
  refine ⟨h.1.trans ?_, BIBase.Entails.trans ?_ h.2⟩
  · iintro ⟨HR, H30, H29, H28, H27, H26, H25, H24, H23, H22, H21, H20, HL⟩
    isplitr [HR HL]
    · isplitl [H30]; · iexact H30
      isplitl [H29]; · iexact H29
      isplitl [H28]; · iexact H28
      isplitl [H27]; · iexact H27
      isplitl [H26]; · iexact H26
      isplitl [H25]; · iexact H25
      isplitl [H24]; · iexact H24
      isplitl [H23]; · iexact H23
      isplitl [H22]; · iexact H22
      isplitl [H21]; · iexact H21
      iexact H20
    isplitl [HR]; · iexact HR
    iexact HL
  · iintro ⟨⟨H30, H29, H28, H27, H26, H25, H24, H23, H22, H21, H20⟩, HR, HL⟩
    isplitl [HR]; · iexact HR
    isplitl [H30]; · iexact H30
    isplitl [H29]; · iexact H29
    isplitl [H28]; · iexact H28
    isplitl [H27]; · iexact H27
    isplitl [H26]; · iexact H26
    isplitl [H25]; · iexact H25
    isplitl [H24]; · iexact H24
    isplitl [H23]; · iexact H23
    isplitl [H22]; · iexact H22
    isplitl [H21]; · iexact H21
    isplitl [H20]; · iexact H20
    iexact HL

omit [FloatOps F] in
/-- The kernel's own semaphores at zero are the slots' semaphores at zero. -/
theorem ownSems0_eq (c : Dev nD) : (Pipeline.ownSems0 (Ix := Unit) (Name := ℕ) (U := UU nD τ) (Lvl := ℕ) (Val := Elt F) (τ := τ) osem c : sProp 𝕄)
    = iprop(semVal ((c : Thread nD τ), (SemLoc.dma (gsem 0 0 inb_S7x2_S1x1_0_0).sem)) 0 ∗ semVal ((c : Thread nD τ), (SemLoc.dma (gsem 0 1 inb_S7x2_S1x1_0_1).sem)) 0 ∗ semVal ((c : Thread nD τ), (SemLoc.dma (gsem 1 0 inb_S7x2_S1x1_1_0).sem)) 0 ∗ semVal ((c : Thread nD τ), (SemLoc.dma (gsem 1 1 inb_S7x2_S1x1_1_1).sem)) 0 ∗ semVal ((c : Thread nD τ), (SemLoc.dma (gsem 2 0 inb_S7x2_S1x1_2_0).sem)) 0 ∗ semVal ((c : Thread nD τ), (SemLoc.dma (gsem 2 1 inb_S7x2_S1x1_2_1).sem)) 0 ∗ semVal ((c : Thread nD τ), (SemLoc.dma (gsem 3 0 inb_S7x2_S1x1_3_0).sem)) 0 ∗ semVal ((c : Thread nD τ), (SemLoc.dma (gsem 3 1 inb_S7x2_S1x1_3_1).sem)) 0 ∗ semVal ((c : Thread nD τ), (SemLoc.dma (gsem 4 0 inb_S7x2_S1x1_4_0).sem)) 0 ∗ semVal ((c : Thread nD τ), (SemLoc.dma (gsem 4 1 inb_S7x2_S1x1_4_1).sem)) 0 ∗ semVal ((c : Thread nD τ), (SemLoc.dma (gsem 5 0 inb_S7x2_S1x1_5_0).sem)) 0 ∗ semVal ((c : Thread nD τ), (SemLoc.dma (gsem 5 1 inb_S7x2_S1x1_5_1).sem)) 0 ∗ semVal ((c : Thread nD τ), (SemLoc.dma (gsem 6 0 inb_S7x2_S1x1_6_0).sem)) 0 ∗ semVal ((c : Thread nD τ), (SemLoc.dma (gsem 6 1 inb_S7x2_S1x1_6_1).sem)) 0 ∗ semVal ((c : Thread nD τ), (SemLoc.dma (dsem 0 inb_S11_S1_0).sem)) 0 ∗ semVal ((c : Thread nD τ), (SemLoc.dma (dsem 1 inb_S11_S1_1).sem)) 0 ∗ semVal ((c : Thread nD τ), (SemLoc.dma (dsem 2 inb_S11_S1_2).sem)) 0 ∗ semVal ((c : Thread nD τ), (SemLoc.dma (dsem 3 inb_S11_S1_3).sem)) 0 ∗ semVal ((c : Thread nD τ), (SemLoc.dma (dsem 4 inb_S11_S1_4).sem)) 0 ∗ semVal ((c : Thread nD τ), (SemLoc.dma (dsem 5 inb_S11_S1_5).sem)) 0 ∗ semVal ((c : Thread nD τ), (SemLoc.dma (dsem 6 inb_S11_S1_6).sem)) 0 ∗ semVal ((c : Thread nD τ), (SemLoc.dma (dsem 7 inb_S11_S1_7).sem)) 0 ∗ semVal ((c : Thread nD τ), (SemLoc.dma (dsem 8 inb_S11_S1_8).sem)) 0 ∗ semVal ((c : Thread nD τ), (SemLoc.dma (dsem 9 inb_S11_S1_9).sem)) 0 ∗ semVal ((c : Thread nD τ), (SemLoc.dma (dsem 10 inb_S11_S1_10).sem)) 0) := by
  unfold Pipeline.ownSems0; rw [bigSep_fin25]
  rfl

/-- The region invariant, the same before and after the one point: the slots at rest, the two weight arrays' remaining
    shares, the scratch buffers at anything, the generator register. -/
def Φ (c : Dev nD) : sProp 𝕄 :=
  iprop(Idle c (V m c main_arg3) (V m c main_arg5) ∗ GRest c (V m c main_arg3) ∗ DRest c (V m c main_arg5)
    ∗ (∃ f : Buf (Elt F) (hM.view.loc (c : Thread nD τ)), (hM.view.loc (c : Thread nD τ) ↦[hM.view.set]{fullShare} f)) ∗ (∃ f : Buf (Elt F) (accM.view.loc (c : Thread nD τ)), (accM.view.loc (c : Thread nD τ) ↦[accM.view.set]{fullShare} f))
    ∗ (∃ f : Buf (Elt F) (combM.view.loc (c : Thread nD τ)), (combM.view.loc (c : Thread nD τ) ↦[combM.view.set]{fullShare} f)) ∗ (∃ f : Buf (Elt F) (listM.view.loc (c : Thread nD τ)), (listM.view.loc (c : Thread nD τ) ↦[listM.view.set]{fullShare} f)) ∗ ∃ r, prngReg c r)

/-- The two matrices left in main memory. -/
abbrev Hs : Finset (Ref sig .tc) := {main_arg3, main_arg5}
/-- Owning the two matrices, written out. -/
theorem bigSep_Hs (c : Dev nD) : (bigSep Hs fun b => (((c : Thread nD τ).loc b) ↦{fullShare} V m c b : sProp 𝕄))
    = iprop((((c : Thread nD τ).loc main_arg3) ↦{fullShare} V m c main_arg3) ∗ (((c : Thread nD τ).loc main_arg5) ↦{fullShare} V m c main_arg5)) := by
  unfold Hs
  rw [bigSep_insert (by decide), bigSep_singleton]; rfl

/-- The slots, the semaphores and the shares put together are the slots at rest. -/
theorem idle_intro (c : Dev nD) (XG XD) :
    iprop((bigSep Finset.univ fun b : Fin 14 => iprop(∃ f, ((c : Thread nD τ).loc cc0_scratch0) ↦[G14 b]{fullShare} f))
      ∗ (bigSep Finset.univ fun b : Fin 11 => iprop(∃ f, ((c : Thread nD τ).loc cc0_scratch1) ↦[D11 b]{fullShare} f))
      ∗ Pipeline.ownSems0 (Ix := Unit) (Name := ℕ) (U := UU nD τ) (Lvl := ℕ) (Val := Elt F) (τ := τ) osem c
      ∗ ((wguM.view.loc (c : Thread nD τ) ↦[Finset.univ]{Transfers.shareTokN fullShare 19} XG) ∗ (wguM.view.loc (c : Thread nD τ) ↦[Finset.univ]{Transfers.shareTokN fullShare 18} XG) ∗ (wguM.view.loc (c : Thread nD τ) ↦[Finset.univ]{Transfers.shareTokN fullShare 17} XG) ∗ (wguM.view.loc (c : Thread nD τ) ↦[Finset.univ]{Transfers.shareTokN fullShare 16} XG) ∗ (wguM.view.loc (c : Thread nD τ) ↦[Finset.univ]{Transfers.shareTokN fullShare 15} XG) ∗ (wguM.view.loc (c : Thread nD τ) ↦[Finset.univ]{Transfers.shareTokN fullShare 14} XG) ∗ (wguM.view.loc (c : Thread nD τ) ↦[Finset.univ]{Transfers.shareTokN fullShare 13} XG) ∗ (wguM.view.loc (c : Thread nD τ) ↦[Finset.univ]{Transfers.shareTokN fullShare 12} XG) ∗ (wguM.view.loc (c : Thread nD τ) ↦[Finset.univ]{Transfers.shareTokN fullShare 11} XG) ∗ (wguM.view.loc (c : Thread nD τ) ↦[Finset.univ]{Transfers.shareTokN fullShare 10} XG) ∗ (wguM.view.loc (c : Thread nD τ) ↦[Finset.univ]{Transfers.shareTokN fullShare 9} XG) ∗ (wguM.view.loc (c : Thread nD τ) ↦[Finset.univ]{Transfers.shareTokN fullShare 8} XG) ∗ (wguM.view.loc (c : Thread nD τ) ↦[Finset.univ]{Transfers.shareTokN fullShare 7} XG) ∗ (wguM.view.loc (c : Thread nD τ) ↦[Finset.univ]{Transfers.shareTokN fullShare 6} XG)) ∗ ((wdnM.view.loc (c : Thread nD τ) ↦[Finset.univ]{Transfers.shareTokN fullShare 30} XD) ∗ (wdnM.view.loc (c : Thread nD τ) ↦[Finset.univ]{Transfers.shareTokN fullShare 29} XD) ∗ (wdnM.view.loc (c : Thread nD τ) ↦[Finset.univ]{Transfers.shareTokN fullShare 28} XD) ∗ (wdnM.view.loc (c : Thread nD τ) ↦[Finset.univ]{Transfers.shareTokN fullShare 27} XD) ∗ (wdnM.view.loc (c : Thread nD τ) ↦[Finset.univ]{Transfers.shareTokN fullShare 26} XD) ∗ (wdnM.view.loc (c : Thread nD τ) ↦[Finset.univ]{Transfers.shareTokN fullShare 25} XD) ∗ (wdnM.view.loc (c : Thread nD τ) ↦[Finset.univ]{Transfers.shareTokN fullShare 24} XD) ∗ (wdnM.view.loc (c : Thread nD τ) ↦[Finset.univ]{Transfers.shareTokN fullShare 23} XD) ∗ (wdnM.view.loc (c : Thread nD τ) ↦[Finset.univ]{Transfers.shareTokN fullShare 22} XD) ∗ (wdnM.view.loc (c : Thread nD τ) ↦[Finset.univ]{Transfers.shareTokN fullShare 21} XD) ∗ (wdnM.view.loc (c : Thread nD τ) ↦[Finset.univ]{Transfers.shareTokN fullShare 20} XD))) ⊢ (Idle c XG XD : sProp 𝕄) := by
  rw [bigSep_fin14, bigSep_fin11, ownSems0_eq]
  unfold Idle gIdle dIdle
  iintro ⟨⟨⟨%fg0, Hg0⟩, ⟨%fg1, Hg1⟩, ⟨%fg2, Hg2⟩, ⟨%fg3, Hg3⟩, ⟨%fg4, Hg4⟩, ⟨%fg5, Hg5⟩, ⟨%fg6, Hg6⟩, ⟨%fg7, Hg7⟩, ⟨%fg8, Hg8⟩, ⟨%fg9, Hg9⟩, ⟨%fg10, Hg10⟩, ⟨%fg11, Hg11⟩, ⟨%fg12, Hg12⟩, ⟨%fg13, Hg13⟩⟩, ⟨⟨%fd0, Hd0⟩, ⟨%fd1, Hd1⟩, ⟨%fd2, Hd2⟩, ⟨%fd3, Hd3⟩, ⟨%fd4, Hd4⟩, ⟨%fd5, Hd5⟩, ⟨%fd6, Hd6⟩, ⟨%fd7, Hd7⟩, ⟨%fd8, Hd8⟩, ⟨%fd9, Hd9⟩, ⟨%fd10, Hd10⟩⟩, ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24⟩, ⟨Ht19, Ht18, Ht17, Ht16, Ht15, Ht14, Ht13, Ht12, Ht11, Ht10, Ht9, Ht8, Ht7, Ht6⟩, ⟨Hu30, Hu29, Hu28, Hu27, Hu26, Hu25, Hu24, Hu23, Hu22, Hu21, Hu20⟩⟩
  isplitl [Hg0 Hc0 Ht6]
  · iexists fg0; isplitl [Hg0]; · iapply (entails_of_eq (gslot_eq c 0 fg0).symm); iexact Hg0
    isplitl [Hc0]; · iexact Hc0
    iexact Ht6
  isplitl [Hg1 Hc1 Ht7]
  · iexists fg1; isplitl [Hg1]; · iapply (entails_of_eq (gslot_eq c 1 fg1).symm); iexact Hg1
    isplitl [Hc1]; · iexact Hc1
    iexact Ht7
  isplitl [Hg2 Hc2 Ht8]
  · iexists fg2; isplitl [Hg2]; · iapply (entails_of_eq (gslot_eq c 2 fg2).symm); iexact Hg2
    isplitl [Hc2]; · iexact Hc2
    iexact Ht8
  isplitl [Hg3 Hc3 Ht9]
  · iexists fg3; isplitl [Hg3]; · iapply (entails_of_eq (gslot_eq c 3 fg3).symm); iexact Hg3
    isplitl [Hc3]; · iexact Hc3
    iexact Ht9
  isplitl [Hg4 Hc4 Ht10]
  · iexists fg4; isplitl [Hg4]; · iapply (entails_of_eq (gslot_eq c 4 fg4).symm); iexact Hg4
    isplitl [Hc4]; · iexact Hc4
    iexact Ht10
  isplitl [Hg5 Hc5 Ht11]
  · iexists fg5; isplitl [Hg5]; · iapply (entails_of_eq (gslot_eq c 5 fg5).symm); iexact Hg5
    isplitl [Hc5]; · iexact Hc5
    iexact Ht11
  isplitl [Hg6 Hc6 Ht12]
  · iexists fg6; isplitl [Hg6]; · iapply (entails_of_eq (gslot_eq c 6 fg6).symm); iexact Hg6
    isplitl [Hc6]; · iexact Hc6
    iexact Ht12
  isplitl [Hg7 Hc7 Ht13]
  · iexists fg7; isplitl [Hg7]; · iapply (entails_of_eq (gslot_eq c 7 fg7).symm); iexact Hg7
    isplitl [Hc7]; · iexact Hc7
    iexact Ht13
  isplitl [Hg8 Hc8 Ht14]
  · iexists fg8; isplitl [Hg8]; · iapply (entails_of_eq (gslot_eq c 8 fg8).symm); iexact Hg8
    isplitl [Hc8]; · iexact Hc8
    iexact Ht14
  isplitl [Hg9 Hc9 Ht15]
  · iexists fg9; isplitl [Hg9]; · iapply (entails_of_eq (gslot_eq c 9 fg9).symm); iexact Hg9
    isplitl [Hc9]; · iexact Hc9
    iexact Ht15
  isplitl [Hg10 Hc10 Ht16]
  · iexists fg10; isplitl [Hg10]; · iapply (entails_of_eq (gslot_eq c 10 fg10).symm); iexact Hg10
    isplitl [Hc10]; · iexact Hc10
    iexact Ht16
  isplitl [Hg11 Hc11 Ht17]
  · iexists fg11; isplitl [Hg11]; · iapply (entails_of_eq (gslot_eq c 11 fg11).symm); iexact Hg11
    isplitl [Hc11]; · iexact Hc11
    iexact Ht17
  isplitl [Hg12 Hc12 Ht18]
  · iexists fg12; isplitl [Hg12]; · iapply (entails_of_eq (gslot_eq c 12 fg12).symm); iexact Hg12
    isplitl [Hc12]; · iexact Hc12
    iexact Ht18
  isplitl [Hg13 Hc13 Ht19]
  · iexists fg13; isplitl [Hg13]; · iapply (entails_of_eq (gslot_eq c 13 fg13).symm); iexact Hg13
    isplitl [Hc13]; · iexact Hc13
    iexact Ht19
  isplitl [Hd0 Hc14 Hu20]
  · iexists fd0; isplitl [Hd0]; · iapply (entails_of_eq (dslot_eq c 0 fd0).symm); iexact Hd0
    isplitl [Hc14]; · iexact Hc14
    iexact Hu20
  isplitl [Hd1 Hc15 Hu21]
  · iexists fd1; isplitl [Hd1]; · iapply (entails_of_eq (dslot_eq c 1 fd1).symm); iexact Hd1
    isplitl [Hc15]; · iexact Hc15
    iexact Hu21
  isplitl [Hd2 Hc16 Hu22]
  · iexists fd2; isplitl [Hd2]; · iapply (entails_of_eq (dslot_eq c 2 fd2).symm); iexact Hd2
    isplitl [Hc16]; · iexact Hc16
    iexact Hu22
  isplitl [Hd3 Hc17 Hu23]
  · iexists fd3; isplitl [Hd3]; · iapply (entails_of_eq (dslot_eq c 3 fd3).symm); iexact Hd3
    isplitl [Hc17]; · iexact Hc17
    iexact Hu23
  isplitl [Hd4 Hc18 Hu24]
  · iexists fd4; isplitl [Hd4]; · iapply (entails_of_eq (dslot_eq c 4 fd4).symm); iexact Hd4
    isplitl [Hc18]; · iexact Hc18
    iexact Hu24
  isplitl [Hd5 Hc19 Hu25]
  · iexists fd5; isplitl [Hd5]; · iapply (entails_of_eq (dslot_eq c 5 fd5).symm); iexact Hd5
    isplitl [Hc19]; · iexact Hc19
    iexact Hu25
  isplitl [Hd6 Hc20 Hu26]
  · iexists fd6; isplitl [Hd6]; · iapply (entails_of_eq (dslot_eq c 6 fd6).symm); iexact Hd6
    isplitl [Hc20]; · iexact Hc20
    iexact Hu26
  isplitl [Hd7 Hc21 Hu27]
  · iexists fd7; isplitl [Hd7]; · iapply (entails_of_eq (dslot_eq c 7 fd7).symm); iexact Hd7
    isplitl [Hc21]; · iexact Hc21
    iexact Hu27
  isplitl [Hd8 Hc22 Hu28]
  · iexists fd8; isplitl [Hd8]; · iapply (entails_of_eq (dslot_eq c 8 fd8).symm); iexact Hd8
    isplitl [Hc22]; · iexact Hc22
    iexact Hu28
  isplitl [Hd9 Hc23 Hu29]
  · iexists fd9; isplitl [Hd9]; · iapply (entails_of_eq (dslot_eq c 9 fd9).symm); iexact Hd9
    isplitl [Hc23]; · iexact Hc23
    iexact Hu29
  iexists fd10; isplitl [Hd10]; · iapply (entails_of_eq (dslot_eq c 10 fd10).symm); iexact Hd10
  isplitl [Hc24]; · iexact Hc24
  iexact Hu30

/-- and back. -/
theorem idle_elim (c : Dev nD) (XG XD) : (Idle c XG XD : sProp 𝕄) ⊢
    iprop((bigSep Finset.univ fun b : Fin 14 => iprop(∃ f, ((c : Thread nD τ).loc cc0_scratch0) ↦[G14 b]{fullShare} f))
      ∗ (bigSep Finset.univ fun b : Fin 11 => iprop(∃ f, ((c : Thread nD τ).loc cc0_scratch1) ↦[D11 b]{fullShare} f))
      ∗ Pipeline.ownSems0 (Ix := Unit) (Name := ℕ) (U := UU nD τ) (Lvl := ℕ) (Val := Elt F) (τ := τ) osem c
      ∗ ((wguM.view.loc (c : Thread nD τ) ↦[Finset.univ]{Transfers.shareTokN fullShare 19} XG) ∗ (wguM.view.loc (c : Thread nD τ) ↦[Finset.univ]{Transfers.shareTokN fullShare 18} XG) ∗ (wguM.view.loc (c : Thread nD τ) ↦[Finset.univ]{Transfers.shareTokN fullShare 17} XG) ∗ (wguM.view.loc (c : Thread nD τ) ↦[Finset.univ]{Transfers.shareTokN fullShare 16} XG) ∗ (wguM.view.loc (c : Thread nD τ) ↦[Finset.univ]{Transfers.shareTokN fullShare 15} XG) ∗ (wguM.view.loc (c : Thread nD τ) ↦[Finset.univ]{Transfers.shareTokN fullShare 14} XG) ∗ (wguM.view.loc (c : Thread nD τ) ↦[Finset.univ]{Transfers.shareTokN fullShare 13} XG) ∗ (wguM.view.loc (c : Thread nD τ) ↦[Finset.univ]{Transfers.shareTokN fullShare 12} XG) ∗ (wguM.view.loc (c : Thread nD τ) ↦[Finset.univ]{Transfers.shareTokN fullShare 11} XG) ∗ (wguM.view.loc (c : Thread nD τ) ↦[Finset.univ]{Transfers.shareTokN fullShare 10} XG) ∗ (wguM.view.loc (c : Thread nD τ) ↦[Finset.univ]{Transfers.shareTokN fullShare 9} XG) ∗ (wguM.view.loc (c : Thread nD τ) ↦[Finset.univ]{Transfers.shareTokN fullShare 8} XG) ∗ (wguM.view.loc (c : Thread nD τ) ↦[Finset.univ]{Transfers.shareTokN fullShare 7} XG) ∗ (wguM.view.loc (c : Thread nD τ) ↦[Finset.univ]{Transfers.shareTokN fullShare 6} XG)) ∗ ((wdnM.view.loc (c : Thread nD τ) ↦[Finset.univ]{Transfers.shareTokN fullShare 30} XD) ∗ (wdnM.view.loc (c : Thread nD τ) ↦[Finset.univ]{Transfers.shareTokN fullShare 29} XD) ∗ (wdnM.view.loc (c : Thread nD τ) ↦[Finset.univ]{Transfers.shareTokN fullShare 28} XD) ∗ (wdnM.view.loc (c : Thread nD τ) ↦[Finset.univ]{Transfers.shareTokN fullShare 27} XD) ∗ (wdnM.view.loc (c : Thread nD τ) ↦[Finset.univ]{Transfers.shareTokN fullShare 26} XD) ∗ (wdnM.view.loc (c : Thread nD τ) ↦[Finset.univ]{Transfers.shareTokN fullShare 25} XD) ∗ (wdnM.view.loc (c : Thread nD τ) ↦[Finset.univ]{Transfers.shareTokN fullShare 24} XD) ∗ (wdnM.view.loc (c : Thread nD τ) ↦[Finset.univ]{Transfers.shareTokN fullShare 23} XD) ∗ (wdnM.view.loc (c : Thread nD τ) ↦[Finset.univ]{Transfers.shareTokN fullShare 22} XD) ∗ (wdnM.view.loc (c : Thread nD τ) ↦[Finset.univ]{Transfers.shareTokN fullShare 21} XD) ∗ (wdnM.view.loc (c : Thread nD τ) ↦[Finset.univ]{Transfers.shareTokN fullShare 20} XD))) := by
  rw [bigSep_fin14, bigSep_fin11, ownSems0_eq]
  unfold Idle gIdle dIdle
  iintro ⟨⟨%fg0, Hg0, Hc0, Ht6⟩, ⟨%fg1, Hg1, Hc1, Ht7⟩, ⟨%fg2, Hg2, Hc2, Ht8⟩, ⟨%fg3, Hg3, Hc3, Ht9⟩, ⟨%fg4, Hg4, Hc4, Ht10⟩, ⟨%fg5, Hg5, Hc5, Ht11⟩, ⟨%fg6, Hg6, Hc6, Ht12⟩, ⟨%fg7, Hg7, Hc7, Ht13⟩, ⟨%fg8, Hg8, Hc8, Ht14⟩, ⟨%fg9, Hg9, Hc9, Ht15⟩, ⟨%fg10, Hg10, Hc10, Ht16⟩, ⟨%fg11, Hg11, Hc11, Ht17⟩, ⟨%fg12, Hg12, Hc12, Ht18⟩, ⟨%fg13, Hg13, Hc13, Ht19⟩, ⟨%fd0, Hd0, Hc14, Hu20⟩, ⟨%fd1, Hd1, Hc15, Hu21⟩, ⟨%fd2, Hd2, Hc16, Hu22⟩, ⟨%fd3, Hd3, Hc17, Hu23⟩, ⟨%fd4, Hd4, Hc18, Hu24⟩, ⟨%fd5, Hd5, Hc19, Hu25⟩, ⟨%fd6, Hd6, Hc20, Hu26⟩, ⟨%fd7, Hd7, Hc21, Hu27⟩, ⟨%fd8, Hd8, Hc22, Hu28⟩, ⟨%fd9, Hd9, Hc23, Hu29⟩, ⟨%fd10, Hd10, Hc24, Hu30⟩⟩
  isplitl [Hg0 Hg1 Hg2 Hg3 Hg4 Hg5 Hg6 Hg7 Hg8 Hg9 Hg10 Hg11 Hg12 Hg13]
  · isplitl [Hg0]; · iexists fg0; iapply (entails_of_eq (gslot_eq c 0 fg0)); iexact Hg0
    isplitl [Hg1]; · iexists fg1; iapply (entails_of_eq (gslot_eq c 1 fg1)); iexact Hg1
    isplitl [Hg2]; · iexists fg2; iapply (entails_of_eq (gslot_eq c 2 fg2)); iexact Hg2
    isplitl [Hg3]; · iexists fg3; iapply (entails_of_eq (gslot_eq c 3 fg3)); iexact Hg3
    isplitl [Hg4]; · iexists fg4; iapply (entails_of_eq (gslot_eq c 4 fg4)); iexact Hg4
    isplitl [Hg5]; · iexists fg5; iapply (entails_of_eq (gslot_eq c 5 fg5)); iexact Hg5
    isplitl [Hg6]; · iexists fg6; iapply (entails_of_eq (gslot_eq c 6 fg6)); iexact Hg6
    isplitl [Hg7]; · iexists fg7; iapply (entails_of_eq (gslot_eq c 7 fg7)); iexact Hg7
    isplitl [Hg8]; · iexists fg8; iapply (entails_of_eq (gslot_eq c 8 fg8)); iexact Hg8
    isplitl [Hg9]; · iexists fg9; iapply (entails_of_eq (gslot_eq c 9 fg9)); iexact Hg9
    isplitl [Hg10]; · iexists fg10; iapply (entails_of_eq (gslot_eq c 10 fg10)); iexact Hg10
    isplitl [Hg11]; · iexists fg11; iapply (entails_of_eq (gslot_eq c 11 fg11)); iexact Hg11
    isplitl [Hg12]; · iexists fg12; iapply (entails_of_eq (gslot_eq c 12 fg12)); iexact Hg12
    iexists fg13; iapply (entails_of_eq (gslot_eq c 13 fg13)); iexact Hg13
  isplitl [Hd0 Hd1 Hd2 Hd3 Hd4 Hd5 Hd6 Hd7 Hd8 Hd9 Hd10]
  · isplitl [Hd0]; · iexists fd0; iapply (entails_of_eq (dslot_eq c 0 fd0)); iexact Hd0
    isplitl [Hd1]; · iexists fd1; iapply (entails_of_eq (dslot_eq c 1 fd1)); iexact Hd1
    isplitl [Hd2]; · iexists fd2; iapply (entails_of_eq (dslot_eq c 2 fd2)); iexact Hd2
    isplitl [Hd3]; · iexists fd3; iapply (entails_of_eq (dslot_eq c 3 fd3)); iexact Hd3
    isplitl [Hd4]; · iexists fd4; iapply (entails_of_eq (dslot_eq c 4 fd4)); iexact Hd4
    isplitl [Hd5]; · iexists fd5; iapply (entails_of_eq (dslot_eq c 5 fd5)); iexact Hd5
    isplitl [Hd6]; · iexists fd6; iapply (entails_of_eq (dslot_eq c 6 fd6)); iexact Hd6
    isplitl [Hd7]; · iexists fd7; iapply (entails_of_eq (dslot_eq c 7 fd7)); iexact Hd7
    isplitl [Hd8]; · iexists fd8; iapply (entails_of_eq (dslot_eq c 8 fd8)); iexact Hd8
    isplitl [Hd9]; · iexists fd9; iapply (entails_of_eq (dslot_eq c 9 fd9)); iexact Hd9
    iexists fd10; iapply (entails_of_eq (dslot_eq c 10 fd10)); iexact Hd10
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    iexact Hc24
  isplitl [Ht19 Ht18 Ht17 Ht16 Ht15 Ht14 Ht13 Ht12 Ht11 Ht10 Ht9 Ht8 Ht7 Ht6]
  · isplitl [Ht19]; · iexact Ht19
    isplitl [Ht18]; · iexact Ht18
    isplitl [Ht17]; · iexact Ht17
    isplitl [Ht16]; · iexact Ht16
    isplitl [Ht15]; · iexact Ht15
    isplitl [Ht14]; · iexact Ht14
    isplitl [Ht13]; · iexact Ht13
    isplitl [Ht12]; · iexact Ht12
    isplitl [Ht11]; · iexact Ht11
    isplitl [Ht10]; · iexact Ht10
    isplitl [Ht9]; · iexact Ht9
    isplitl [Ht8]; · iexact Ht8
    isplitl [Ht7]; · iexact Ht7
    iexact Ht6
  isplitl [Hu30]; · iexact Hu30
  isplitl [Hu29]; · iexact Hu29
  isplitl [Hu28]; · iexact Hu28
  isplitl [Hu27]; · iexact Hu27
  isplitl [Hu26]; · iexact Hu26
  isplitl [Hu25]; · iexact Hu25
  isplitl [Hu24]; · iexact Hu24
  isplitl [Hu23]; · iexact Hu23
  isplitl [Hu22]; · iexact Hu22
  isplitl [Hu21]; · iexact Hu21
  iexact Hu20

end Cert.Proof.IdealRun
end
-- ==== Proof.IdealObligation.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Transfers
public import Idealize.ShloMosaic.Lib.Pipeline.KitQuiescent
public import Idealize.ShloMosaic.Lib.Tactic
public import proofs.«01_k».proof.Proof.Gen.KernelIdeal.Frame
public import proofs.«01_k».proof.Proof.IdealRegions
@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UU nD τ) ℕ
variable (m : (ℓ : Loc nD τ sig) → Buf (Elt F) ℓ) (ρ : Dev nD → PrngReg)

/-! ## The pipeline's proof data -/

/-- The buffer that stages this window at a grid point. -/
abbrev st0 (t : Fin cfg0.N) : Memref sig .tc .vmem S128x2 .i32 := win0_0.stage (cfg0.slots t 0)
/-- The buffer that stages this window at a grid point. -/
abbrev st1 (t : Fin cfg0.N) : Memref sig .tc .vmem S128x2 .f32 := win0_1.stage (cfg0.slots t 1)
/-- The buffer that stages this window at a grid point. -/
abbrev st2 (t : Fin cfg0.N) : Memref sig .tc .vmem S128x2816 .bf16 := win0_2.stage (cfg0.slots t 2)
/-- The buffer that stages this window at a grid point. -/
abbrev st3 (t : Fin cfg0.N) : Memref sig .tc .vmem S8x7168 .f32 := win0_3.stage (cfg0.slots t 3)
/-- The buffer that stages this window at a grid point. -/
abbrev st4 (t : Fin cfg0.N) : Memref sig .tc .vmem S8x2816 .f32 := win0_4.stage (cfg0.slots t 4)
/-- The buffer that stages this window at a grid point. -/
abbrev st5 (t : Fin cfg0.N) : Memref sig .tc .vmem S128x2816 .bf16 := win0_5.stage (cfg0.slots t 5)

/-- The precondition as the proof uses it: on every core the word of members, as the body computes it from the ids'
    staging buffer, has a bit among its first eight set. -/
def PreOK : Prop := ∀ (c : Dev nD) (t : Fin cfg0.N), 0 < nOf (mword c (st0 t) ((st0 t).view.rep (iblk m c 0 t)))

/-- What the body stores, from the blocks of the input windows. -/
def outAt (c : Dev nD) (t : Fin cfg0.N) : Vec F S128x2816 .bf16 :=
  outV c (V m c main_arg3) (V m c main_arg5) (st0 t) (st1 t) (st2 t) (st3 t) (st4 t) ((st0 t).view.rep (iblk m c 0 t)) ((st1 t).view.rep (iblk m c 1 t)) ((st2 t).view.rep (iblk m c 2 t)) ((st3 t).view.rep (iblk m c 3 t)) ((st4 t).view.rep (iblk m c 4 t))

/-- The launch's proof data: every input window keeps its block, the output window gets what the body stores. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Φ m c
  q _ := fullShare
  owed _ := 0

/-- The output window holds what the body stores. -/
theorem after_w5 (c : Dev nD) (t : Fin cfg0.N) : (dats m 0 c).after 5 t = outAt m c t := by dsimp only [dats]
/-- An input window still holds its block after the body. -/
theorem after_w0 (c : Dev nD) (t : Fin cfg0.N) : (dats m 0 c).after 0 t = iblk m c 0 t := by dsimp only [dats]
/-- An input window holds its block before the body. -/
theorem before_w0 (c : Dev nD) (t : Fin cfg0.N) (d) : (dats m 0 c).before 0 t d = iblk m c 0 t := by
  refine ((dats m 0 c).before_in_eq_fetched 0 rfl (fun _ => rfl) (fun _ _ _ => rfl) (fun t => by rw [after_w0]; unfold Dat.blockOf iblk; rfl) t d).trans ?_
  unfold Dat.fetched Dat.blockOf iblk; rfl
/-- An input window still holds its block after the body. -/
theorem after_w1 (c : Dev nD) (t : Fin cfg0.N) : (dats m 0 c).after 1 t = iblk m c 1 t := by dsimp only [dats]
/-- An input window holds its block before the body. -/
theorem before_w1 (c : Dev nD) (t : Fin cfg0.N) (d) : (dats m 0 c).before 1 t d = iblk m c 1 t := by
  refine ((dats m 0 c).before_in_eq_fetched 1 rfl (fun _ => rfl) (fun _ _ _ => rfl) (fun t => by rw [after_w1]; unfold Dat.blockOf iblk; rfl) t d).trans ?_
  unfold Dat.fetched Dat.blockOf iblk; rfl
/-- An input window still holds its block after the body. -/
theorem after_w2 (c : Dev nD) (t : Fin cfg0.N) : (dats m 0 c).after 2 t = iblk m c 2 t := by dsimp only [dats]
/-- An input window holds its block before the body. -/
theorem before_w2 (c : Dev nD) (t : Fin cfg0.N) (d) : (dats m 0 c).before 2 t d = iblk m c 2 t := by
  refine ((dats m 0 c).before_in_eq_fetched 2 rfl (fun _ => rfl) (fun _ _ _ => rfl) (fun t => by rw [after_w2]; unfold Dat.blockOf iblk; rfl) t d).trans ?_
  unfold Dat.fetched Dat.blockOf iblk; rfl
/-- An input window still holds its block after the body. -/
theorem after_w3 (c : Dev nD) (t : Fin cfg0.N) : (dats m 0 c).after 3 t = iblk m c 3 t := by dsimp only [dats]
/-- An input window holds its block before the body. -/
theorem before_w3 (c : Dev nD) (t : Fin cfg0.N) (d) : (dats m 0 c).before 3 t d = iblk m c 3 t := by
  refine ((dats m 0 c).before_in_eq_fetched 3 rfl (fun _ => rfl) (fun _ _ _ => rfl) (fun t => by rw [after_w3]; unfold Dat.blockOf iblk; rfl) t d).trans ?_
  unfold Dat.fetched Dat.blockOf iblk; rfl
/-- An input window still holds its block after the body. -/
theorem after_w4 (c : Dev nD) (t : Fin cfg0.N) : (dats m 0 c).after 4 t = iblk m c 4 t := by dsimp only [dats]
/-- An input window holds its block before the body. -/
theorem before_w4 (c : Dev nD) (t : Fin cfg0.N) (d) : (dats m 0 c).before 4 t d = iblk m c 4 t := by
  refine ((dats m 0 c).before_in_eq_fetched 4 rfl (fun _ => rfl) (fun _ _ _ => rfl) (fun t => by rw [after_w4]; unfold Dat.blockOf iblk; rfl) t d).trans ?_
  unfold Dat.fetched Dat.blockOf iblk; rfl

/-! ## The body obligation -/

/-- The body is defined on the TensorCore. -/
theorem defs_tc : (defs₀ (F := F)) .tc cfg0.body
    = fun a => cc0_moe_swiglu (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) wguM (Memref.isWhole_whole _) wdnM (Memref.isWhole_whole _) (win0_5.stage (a.2 5)) (hstage0_5 0) guM (Memref.isWhole_whole _) dnM (Memref.isWhole_whole _) hM (Memref.isWhole_whole _) accM (Memref.isWhole_whole _) combM (Memref.isWhole_whole _) listM (Memref.isWhole_whole _) cc0_scratch6 cc0_scratch7 := by
  unfold defs₀; rw [Defs.onTc_tc]
/-- The body's name at a grid point unfolds to the kernel's text. -/
theorem prog_eq (t : Fin cfg0.N) : (defs₀ (F := F)) .tc cfg0.body (cfg0.bodyArgs t (cfg0.slots t)) = cc0_moe_swiglu (F := F) (st0 t) (hstage0_0 0) (st1 t) (hstage0_1 0) (st2 t) (hstage0_2 0) (st3 t) (hstage0_3 0) (st4 t) (hstage0_4 0) wguM (Memref.isWhole_whole _) wdnM (Memref.isWhole_whole _) (st5 t) (hstage0_5 0) guM (Memref.isWhole_whole _) dnM (Memref.isWhole_whole _) hM (Memref.isWhole_whole _) accM (Memref.isWhole_whole _) combM (Memref.isWhole_whole _) listM (Memref.isWhole_whole _) cc0_scratch6 cc0_scratch7 :=
  (congrFun defs_tc _).trans rfl

set_option maxHeartbeats 4000000 in
set_option backward.isDefEq.respectTransparency.types false in
/-- The body at every grid point: from the blocks and the resources of the launch to what the kernel stores. -/
theorem body_obligation (h : PreOK m) (c : Dev nD) : Pipeline.BodyObligationLoose (dats (F := F) m 0 c) (defs₀ (F := F)) 𝒱₀ () Set.univ := fun t => by
  rw [bigSep_W0, bigSep_W0]
  dsimp only
  simp only [Bool.false_eq_true, if_false, after_w5, before_w0, after_w0, before_w1, after_w1, before_w2, after_w2, before_w3, after_w3, before_w4, after_w4]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HI, HGR, HDR, Hh, Ha, Hc, Hl, Hρ⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, -, H5⟩⟩
  ihave H0 := (pointsTo_rep_entails (c : Thread nD τ) (st0 t) g0 fullShare) $$ H0
  rw [hg0]
  ihave H1 := (pointsTo_rep_entails (c : Thread nD τ) (st1 t) g1 fullShare) $$ H1
  rw [hg1]
  ihave H2 := (pointsTo_rep_entails (c : Thread nD τ) (st2 t) g2 fullShare) $$ H2
  rw [hg2]
  ihave H3 := (pointsTo_rep_entails (c : Thread nD τ) (st3 t) g3 fullShare) $$ H3
  rw [hg3]
  ihave H4 := (pointsTo_rep_entails (c : Thread nD τ) (st4 t) g4 fullShare) $$ H4
  rw [hg4]
  sl_rw [prog_eq t]
  iapply ((sep_mono_left (body_run c (V m c main_arg3) (V m c main_arg5) (st0 t) (hstage0_0 0) (st1 t) (hstage0_1 0) (st2 t) (hstage0_2 0) (st3 t) (hstage0_3 0) (st4 t) (hstage0_4 0) (st5 t) (hstage0_5 0) ((st0 t).view.rep (iblk m c 0 t)) ((st1 t).view.rep (iblk m c 1 t)) ((st2 t).view.rep (iblk m c 2 t)) ((st3 t).view.rep (iblk m c 3 t)) ((st4 t).view.rep (iblk m c 4 t)) g5 (h c t))).trans (wp_wand_r _ _ _))
  isplitl [H0 H1 H2 H3 H4 H5 HI Hh Ha Hc Hl HW]
  · isplitl [H0]; · iexact H0
    isplitl [H1]; · iexact H1
    isplitl [H2]; · iexact H2
    isplitl [H3]; · iexact H3
    isplitl [H4]; · iexact H4
    isplitl [H5]; · iexact H5
    isplitl [HI]; · iexact HI
    isplitl [Hh]; · iexact Hh
    isplitl [Ha]; · iexact Ha
    isplitl [Hc]; · iexact Hc
    isplitl [Hl]; · iexact Hl
    iexists W; iexact HW
  · iintro %_a ⟨H0, H1, H2, H3, H4, ⟨%fo', %ho, H5⟩, HI, Hh, Ha, Hc, Hl, ⟨%W', HW⟩⟩
    isplitl [HI HGR HDR Hh Ha Hc Hl Hρ]
    · isplitl [HI]; · iexact HI
      isplitl [HGR]; · iexact HGR
      isplitl [HDR]; · iexact HDR
      isplitl [Hh]; · iexact Hh
      isplitl [Ha]; · iexact Ha
      isplitl [Hc]; · iexact Hc
      isplitl [Hl]; · iexact Hl
      iexact Hρ
    isplitl [HW]
    · iexists W'; isplitr; · ipureintro; exact fun _ _ => Or.inl trivial
      iexact HW
    isplitl [H0]; · (iexists _; isplitr; (· ipureintro; exact View.read_rep _ _); iexact H0)
    isplitl [H1]; · (iexists _; isplitr; (· ipureintro; exact View.read_rep _ _); iexact H1)
    isplitl [H2]; · (iexists _; isplitr; (· ipureintro; exact View.read_rep _ _); iexact H2)
    isplitl [H3]; · (iexists _; isplitr; (· ipureintro; exact View.read_rep _ _); iexact H3)
    isplitl [H4]; · (iexists _; isplitr; (· ipureintro; exact View.read_rep _ _); iexact H4)
    iexists fo'; isplitr; swap; · iexact H5
    ipureintro; exact ho

end Cert.Proof.IdealRun
end
-- ==== Proof.IdealLaunch.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Transfers
public import Idealize.ShloMosaic.Lib.Pipeline.KitQuiescent
public import Idealize.ShloMosaic.Lib.Tactic
public import proofs.«01_k».proof.Proof.Gen.KernelIdeal.Frame
public import proofs.«01_k».proof.Proof.IdealObligation
@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UU nD τ) ℕ
variable (m : (ℓ : Loc nD τ sig) → Buf (Elt F) ℓ) (ρ : Dev nD → PrngReg)

/-! ## The run -/

/-- The lines after the call touch only buffers that are left to them. -/
theorem tail_sub : ∀ ops ∈ ([hostOps1] : List (List (HloOp τ sig (Elt F)))), ∀ op ∈ ops,
    op.bufs ⊆ Pipeline.tailRefsBut sig Pipeline.Prefetch.none spec0 Hs := by
  intro ops hops op hop
  simp only [List.mem_cons, List.mem_nil_iff, or_false] at hops
  rcases hops with rfl
  simp only [hostOps1, List.mem_cons, List.mem_nil_iff, or_false] at hop
  rcases hop with rfl
  intro b hb
  simp only [StableHlo.reshape_bufs, Finset.mem_insert, Finset.mem_singleton] at hb
  unfold Pipeline.tailRefsBut
  rcases hb with rfl | rfl
  · exact Finset.mem_map.mpr ⟨main_v3, by decide, rfl⟩
  · exact Finset.mem_map.mpr ⟨main_v4, by decide, rfl⟩
/-- The main function is the lines before the call, the call, and the lines after it. -/
theorem around : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the launch hands the body is what the body asks for. -/
theorem phi_in (c : Dev nD) : Pipeline.ΦD osem spec0 Hs (fun c b => V m c b) c ⊢ (Φ m c : sProp 𝕄) := by
  unfold Pipeline.ΦD Φ
  rw [scopedRest0_eq, bigSep_Hs]
  rw [← whole_eq c cc0_scratch2, ← whole_eq c cc0_scratch3, ← whole_eq c cc0_scratch4, ← whole_eq c cc0_scratch5]
  iintro ⟨⟨HG, HD, Hh, Ha, Hc, Hl⟩, Hρ, HS, H3, H5⟩
  ihave HG := (gbuf_split c) $$ HG
  ihave HD := (dbuf_split c) $$ HD
  ihave H3 := (gtoks c (V m c main_arg3)).1 $$ H3
  ihave H5 := (dtoks c (V m c main_arg5)).1 $$ H5
  icases H3 with ⟨H3, HGR⟩
  icases H5 with ⟨H5, HDR⟩
  isplitl [HG HD HS H3 H5]
  · iapply (idle_intro c (V m c main_arg3) (V m c main_arg5))
    isplitl [HG]; · iexact HG
    isplitl [HD]; · iexact HD
    isplitl [HS]; · iexact HS
    isplitl [H3]; · iexact H3
    iexact H5
  isplitl [HGR]; · iexact HGR
  isplitl [HDR]; · iexact HDR
  isplitl [Hh]; · iexact Hh
  isplitl [Ha]; · iexact Ha
  isplitl [Hc]; · iexact Hc
  isplitl [Hl]; · iexact Hl
  iexact Hρ
/-- What the body gives back is what the launch takes back. -/
theorem phi_out (c : Dev nD) : (Φ m c : sProp 𝕄) ⊢ Pipeline.ΦD osem spec0 Hs (fun c b => V m c b) c := by
  unfold Pipeline.ΦD Φ
  rw [scopedRest0_eq, bigSep_Hs]
  rw [← whole_eq c cc0_scratch2, ← whole_eq c cc0_scratch3, ← whole_eq c cc0_scratch4, ← whole_eq c cc0_scratch5]
  iintro ⟨HI, HGR, HDR, Hh, Ha, Hc, Hl, Hρ⟩
  ihave HI := (idle_elim c (V m c main_arg3) (V m c main_arg5)) $$ HI
  icases HI with ⟨HG, HD, HS, H3, H5⟩
  isplitl [HG HD Hh Ha Hc Hl]
  · isplitl [HG]; · iapply (gbuf_join c); iexact HG
    isplitl [HD]; · iapply (dbuf_join c); iexact HD
    isplitl [Hh]; · iexact Hh
    isplitl [Ha]; · iexact Ha
    isplitl [Hc]; · iexact Hc
    iexact Hl
  isplitl [Hρ]; · iexact Hρ
  isplitl [HS]; · iexact HS
  isplitl [H3 HGR]
  · iapply (gtoks c (V m c main_arg3)).2
    isplitl [H3]; · iexact H3
    iexact HGR
  iapply (dtoks c (V m c main_arg5)).2
  isplitl [H5]; · iexact H5
  iexact HDR

/-- A buffer that is neither the result nor an array of the pipeline ends as the kernel found it. -/
theorem tail_keeps (c : Dev nD) (b : Ref sig .tc) (hb : b ≠ main_v4) (hw : ∀ w, Pipeline.arrRef spec0 w ≠ b) :
    Pipeline.afterTail₀ cfgs (dats (F := F) m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b hw]

/-- The kernel's run at any float values: from any memory with every semaphore at zero whose ids name some expert,
    every fair run ends with the pipeline's arrays at what the proof data say, every other buffer as the host leaves it,
    and every semaphore at zero again. -/
theorem run_all (h : PreOK m) : θ_run defs (onTc (τ := τ) (main (F := F))) ⟨m, fun _ => 0, ρ⟩ (fun r =>
    Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem defs₀ 𝒱₀ ownSemFacts Hs
    (by decide) m ρ main (body_obligation m h) (fun c => (dats m 0 c).share_full fun _ => rfl) (fun _ _ => rfl)
    (V0 m) [hostOps1] tail_sub sfx_fresh sfx_keeps (around m) (fun _ _ => rfl) (phi_in m) (phi_out m) (Q' := _)

/-- The kernel's frame at any float values: from any memory with every semaphore at zero whose ids name some expert,
    every fair run ends, the arguments unchanged and every semaphore at zero again. -/
theorem run_frame (h : PreOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r hr => by
      refine ⟨fun c => ?_, hr.2⟩
      have hw := fun w => (hr.1 c).1 w
      have hb := (hr.1 c).2
      refine ⟨?_, ?_, ?_, ?_, ?_, ?_, ?_⟩
      · exact (hb main_arg0 (Pipeline.mem_restRefs_of main_arg0 (by decide) (by decide))).trans ((tail_keeps m c main_arg0 (by decide) (by decide)).trans (V_main_arg0 m c))
      · exact (hb main_arg1 (Pipeline.mem_restRefs_of main_arg1 (by decide) (by decide))).trans ((tail_keeps m c main_arg1 (by decide) (by decide)).trans (V_main_arg1 m c))
      · exact (hb main_arg2 (Pipeline.mem_restRefs_of main_arg2 (by decide) (by decide))).trans ((tail_keeps m c main_arg2 (by decide) (by decide)).trans (V_main_arg2 m c))
      · exact (hb main_arg3 (Pipeline.mem_restRefs_of main_arg3 (by decide) (by decide))).trans ((tail_keeps m c main_arg3 (by decide) (by decide)).trans (V_main_arg3 m c))
      · exact (hw 3).trans (((dats m 0 c).arrAt_in 3 rfl _).trans (V_main_arg4 m c))
      · exact (hb main_arg5 (Pipeline.mem_restRefs_of main_arg5 (by decide) (by decide))).trans ((tail_keeps m c main_arg5 (by decide) (by decide)).trans (V_main_arg5 m c))
      · exact (hw 4).trans (((dats m 0 c).arrAt_in 4 rfl _).trans (V_main_arg6 m c))) (run_all m ρ h)

end Cert.Proof.IdealRun
end
-- ==== Proof.IdealStart.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Transfers
public import Idealize.ShloMosaic.Lib.Pipeline.KitQuiescent
public import Idealize.ShloMosaic.Lib.Tactic
public import proofs.«01_k».proof.Proof.IdealMembers
public import proofs.«01_k».proof.Proof.IdealLaunch
public import Idealize.ShloMosaic.Lib.ReduceAll
public import Idealize.ShloMosaic.Lib.Claim

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The array the region finds: the argument, reshaped. -/
theorem V_v0 (c : Dev nD) : V m c main_v0 = shapeCast S128x2 (m ((c : Thread nD τ).loc main_arg1)) shapeCasts_S128x1x2_S128x2 := by
  entry_read
  rfl

/-- The ids the region finds in the reshaped argument. -/
theorem iblk0_at (c : Dev nD) (t : Fin cfg0.N) (x : Fin 128) (k : Fin 2) :
    iblk m c 0 t (ix2 x k) = m ((c : Thread nD τ).loc main_arg1) (ix3 x 0 k) := by
  show V m c main_v0 _ = _
  rw [V_v0]
  refine shapeCast_apply _ _ _ (ix3 x 0 k) ?_
  rw [Shape.rowMajor_val_three, Shape.rowMajor_val_two]
  have e0 : ((((cfg0.win 0).rect t).emb (ix2 x k) : S128x2.Idx) 0).val = x.val := by
    show 0 + 1 * x.val = x.val
    omega
  have e1 : ((((cfg0.win 0).rect t).emb (ix2 x k) : S128x2.Idx) 1).val = k.val := by
    show 0 + 1 * k.val = k.val
    omega
  show (x.val * 1 + 0) * 2 + k.val = ((((cfg0.win 0).rect t).emb (ix2 x k) : S128x2.Idx) 0).val * 2 + ((((cfg0.win 0).rect t).emb (ix2 x k) : S128x2.Idx) 1).val
  rw [e0, e1]
  omega

/-- The ids the body reads are the ids of the argument. -/
theorem ids0_at (c : Dev nD) (t : Fin cfg0.N) (x : Fin 128) :
    ids0 c (st0 t) ((st0 t).view.rep (iblk m c 0 t)) (ix2 x 0) = m ((c : Thread nD τ).loc main_arg1) (ix3 x 0 0) := by
  show (st0 t).view.readAt (Elt F) _ _ _ = _
  rw [View.readAt_apply, View.read_rep, ← iblk0_at m c t x 0]
  refine congrArg (iblk m c 0 t) (funext fun a => ?_)
  fin_cases a
  · exact Fin.ext (by show 0 + 1 * x.val = x.val; omega)
  · rfl

/-- The second id of a token, read from the argument. -/
theorem ids1_at (c : Dev nD) (t : Fin cfg0.N) (x : Fin 128) :
    ids1 c (st0 t) ((st0 t).view.rep (iblk m c 0 t)) (ix2 x 0) = m ((c : Thread nD τ).loc main_arg1) (ix3 x 0 1) := by
  show (st0 t).view.readAt (Elt F) _ _ _ = _
  rw [View.readAt_apply, View.read_rep, ← iblk0_at m c t x 1]
  refine congrArg (iblk m c 0 t) (funext fun a => ?_)
  fin_cases a
  · exact Fin.ext (by show 0 + 1 * x.val = x.val; omega)
  · rfl

/-- Some id of the argument is the number of an expert. -/
def SomeExpert : Prop := ∀ c : Dev nD, ∃ (x : Fin 128) (k : Fin 2) (e : ℕ), e < 8 ∧ m ((c : Thread nD τ).loc main_arg1) (ix3 x 0 k) = BitVec.ofNat 32 e

/-- Then the word of members has a member. -/
theorem preOK_of (h : SomeExpert m) : PreOK m := by
  intro c t
  obtain ⟨x, k, e, he, h⟩ := h c
  refine nOf_memberWord_pos _ _ e he ⟨x, ?_⟩
  rw [ids0_at, ids1_at]
  fin_cases k
  · exact Or.inl h
  · exact Or.inr h

/-- A left fold by `or` over one-bit words that came out 1, started at 0, met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h | ⟨n, hn, h⟩
    · have hd : ∀ p q : BitVec 1, IntOp.ori p q = 1#1 → p = 1#1 ∨ q = 1#1 := by decide
      rcases hd _ _ h with h | h
      · exact Or.inl h
      · exact Or.inr ⟨a, List.mem_cons_self .., h⟩
    · exact Or.inr ⟨n, List.mem_cons_of_mem _ hn, h⟩

/-- A signed word that is at least 0 and below 8 is a number below 8. -/
theorem word_below (w : BitVec 32) (h : IntOp.andi (IntOp.cmpi .sge w 0#32) (IntOp.cmpi .slt w 8#32) = 1#1) : ∃ e, e < 8 ∧ w = BitVec.ofNat 32 e := by
  obtain ⟨h1, h2⟩ := IntOp.andi_eq_one.1 h
  have h1 : (BitVec.ofBool (BitVec.sle 0#32 w)) = 1#1 := h1
  have h2 : (BitVec.ofBool (BitVec.slt w 8#32)) = 1#1 := h2
  have hb : ∀ b : Bool, BitVec.ofBool b = 1#1 → b = true := by decide
  have h1 := hb _ h1
  have h2 := hb _ h2
  rw [BitVec.sle_eq_decide, decide_eq_true_eq] at h1
  rw [BitVec.slt_eq_decide, decide_eq_true_eq] at h2
  have e0 : (0#32 : BitVec 32).toInt = 0 := rfl
  have e8 : (8#32 : BitVec 32).toInt = 8 := rfl
  rw [e0] at h1
  rw [e8] at h2
  refine ⟨w.toNat, ?_, (BitVec.ofNat_toNat .. ▸ by simp)⟩
  have := BitVec.toInt_eq_toNat_cond w
  split at this <;> omega

/-- The precondition, read back. -/
theorem someExpert_of [Cert.Pre_some_expert.Facts]
    (h : ∀ c : Dev nD, Cert.Pre_some_expert.fn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = fun _ => 1#1) :
    SomeExpert m := by
  intro c
  have h := congrFun (h c) (fun a => a.elim0)
  unfold Cert.Pre_some_expert.fn at h
  dsimp only at h
  rw [Host.reduce_eq_foldl] at h
  rcases foldl_ori_eq_one _ _ _ h with h | ⟨i, -, h⟩
  · exact absurd (show (0#1 : BitVec 1) = 1#1 from h) (by decide)
  · obtain ⟨e, he, hw⟩ := word_below _ h
    refine ⟨i 0, i 2, e, he, ?_⟩
    rw [← hw]
    refine congrArg (m ((c : Thread nD τ).loc main_arg1)) (funext fun a => ?_)
    fin_cases a
    · rfl
    · exact Subsingleton.elim (α := Fin 1) _ _
    · rfl

end Cert.Proof.IdealRun
-- ==== Proof.Spec.lean ====
module

public import Idealize.ShloMosaic.Lib.Pointwise

@[expose] public section

/-! The layer's value in coordinates, over the extended reals. Both programs' results are compared with it. -/

noncomputable section

namespace Cert.Proof.Spec

open Idealize.ShloMosaic

/-- The tokens, the ids, the weights, and the experts' matrices with their scales, as functions of an index. -/
structure Data where
  X : (⟨2, ![128, 2816]⟩ : Shape).Idx → EReal
  I : (⟨2, ![128, 2]⟩ : Shape).Idx → BitVec 32
  W : (⟨2, ![128, 2]⟩ : Shape).Idx → EReal
  G : (⟨3, ![8, 7168, 2816]⟩ : Shape).Idx → EReal
  SG : (⟨2, ![8, 7168]⟩ : Shape).Idx → EReal
  D : (⟨3, ![8, 2816, 3584]⟩ : Shape).Idx → EReal
  SD : (⟨2, ![8, 2816]⟩ : Shape).Idx → EReal

variable (A : Data)

/-- Row `f` of expert `e`'s gate and up product at token `t`, scaled. -/
def gu (e : Fin 8) (t : Fin 128) (f : Fin 7168) : EReal :=
  (∑ k : Fin 2816, A.X (ix2 t k) * A.G (ix3 e f k)) * A.SG (ix2 e f)

/-- The hidden value of expert `e` at token `t`: the gate through silu, times the up half. -/
def hid (e : Fin 8) (t : Fin 128) (f : Fin 3584) : EReal :=
  gu A e t ⟨f, by omega⟩ * Ideal.logistic (gu A e t ⟨f, by omega⟩) * gu A e t ⟨3584 + f, by omega⟩

/-- What expert `e` makes of token `t`, before its scale and the token's weight. -/
def ffn (e : Fin 8) (t : Fin 128) (d : Fin 2816) : EReal := ∑ f : Fin 3584, hid A e t f * A.D (ix3 e d f)

/-- What choice `k` of token `t` adds if it names expert `e`. -/
def share (k : Fin 2) (e : Fin 8) (t : Fin 128) (d : Fin 2816) : EReal :=
  Scalar.select (IntOp.cmpi .eq (A.I (ix2 t k)) (BitVec.ofNat 32 e)) (ffn A e t d * (A.SD (ix2 e d) * A.W (ix2 t k))) 0

/-- What expert `e` adds to token `t`. -/
def both (e : Fin 8) (t : Fin 128) (d : Fin 2816) : EReal := share A 0 e t d + share A 1 e t d

/-- The layer's value: the sum over the experts. -/
def total (t : Fin 128) (d : Fin 2816) : EReal := ∑ e : Fin 8, both A e t d

end Cert.Proof.Spec
end
-- ==== Proof.RefValue.lean ====
module

public import proofs.«01_k».proof.Defs
public import proofs.«01_k».proof.Proof.Gen.ReferenceIdeal.Frame
public import proofs.«01_k».proof.Proof.Spec
public import Idealize.ShloMosaic.Lib.Pointwise
public import Idealize.ShloMosaic.Lib.Pipeline.ValueKit
public import Idealize.ShloMosaic.Lib.Claim

@[expose] public section

set_option maxRecDepth 16384

noncomputable section

namespace Cert.Proof.Ref

open Idealize.ShloMosaic Idealize.ShloMosaic.TcCoe Idealize.SL.Sem
open Idealize.ShloMosaic.Pipeline (Dat)
open Cert.ReferenceIdeal Cert.ReferenceIdeal.Gen

/-- The reference body's result at an index is the layer's value there. -/
theorem out_at (x0 : Vec Ideal S128x2816 .bf16) (x1 : Vec Ideal S128x2 .i32) (x2 : Vec Ideal S128x2 .f32) (x3 : Vec Ideal S8x7168x2816 .fp8e4m3) (x4 : Vec Ideal S8x7168 .f32) (x5 : Vec Ideal S8x2816x3584 .fp8e4m3) (x6 : Vec Ideal S8x2816 .f32) (t : Fin 128) (d : Fin 2816) :
    out0_7 x0 x1 x2 x3 x4 x5 x6 (ix2 t d) = Spec.total ⟨x0, x1, x2, x3, x4, x5, x6⟩ t d := by
  unfold_out out0_7
  rw [View.canon_cons_unit_lit _ _ _ (by decide)]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  unfold Spec.total Spec.both Spec.share Spec.ffn Spec.hid Spec.gu
  simp only [Fin.sum_univ_eight, add_assoc]
  rfl

variable (m : (ℓ : Loc nD τ sig) → Buf (Elt Ideal) ℓ)

/-- The layer's data, read from the reference's argument arrays. -/
def data (c : Dev nD) : Spec.Data where
  X i := m ((c : Thread nD τ).loc main_arg0) (ix3 (i 0) 0 (i 1))
  I i := m ((c : Thread nD τ).loc main_arg1) (ix3 (i 0) 0 (i 1))
  W i := m ((c : Thread nD τ).loc main_arg2) (ix3 (i 0) 0 (i 1))
  G := m ((c : Thread nD τ).loc main_arg3)
  SG := m ((c : Thread nD τ).loc main_arg4)
  D := m ((c : Thread nD τ).loc main_arg5)
  SD := m ((c : Thread nD τ).loc main_arg6)

/-- The array the region finds: the argument, reshaped. -/
theorem V_v0 (c : Dev nD) : V m c main_v0 = shapeCast S128x2816 (m ((c : Thread nD τ).loc main_arg0)) shapeCasts_S128x1x2816_S128x2816 := by
  entry_read
  rfl
/-- The array the region finds: the argument, reshaped. -/
theorem V_v1 (c : Dev nD) : V m c main_v1 = shapeCast S128x2 (m ((c : Thread nD τ).loc main_arg1)) shapeCasts_S128x1x2_S128x2 := by
  entry_read
  rfl
/-- The array the region finds: the argument, reshaped. -/
theorem V_v2 (c : Dev nD) : V m c main_v2 = shapeCast S128x2 (m ((c : Thread nD τ).loc main_arg2)) shapeCasts_S128x1x2_S128x2 := by
  entry_read
  rfl
/-- The window is its whole array: an index of the block is the same index of the array. -/
theorem emb0 (t : Fin cfg0.N) (y : S128x2816.Idx) : (((cfg0.win 0).rect t).emb y : S128x2816.Idx) = y := by
  funext a
  fin_cases a
  · exact Fin.ext (by show 0 + 1 * (y 0).val = (y 0).val; omega)
  · exact Fin.ext (by show 0 + 1 * (y 1).val = (y 1).val; omega)
/-- The block of window 0 is the array the region finds. -/
theorem blk0 (c : Dev nD) (t : Fin cfg0.N) : iblk m c 0 t = (data m c).X := by
  funext y
  show V m c main_v0 (((cfg0.win 0).rect t).emb y : S128x2816.Idx) = _
  rw [emb0, V_v0]
  refine shapeCast_apply _ _ _ (ix3 (y 0) 0 (y 1)) ?_
  rw [Shape.rowMajor_val_three, Shape.rowMajor_val_two]
  show ((y 0).val * 1 + 0) * 2816 + (y 1).val = (y 0).val * 2816 + (y 1).val
  omega
/-- The window is its whole array: an index of the block is the same index of the array. -/
theorem emb1 (t : Fin cfg0.N) (y : S128x2.Idx) : (((cfg0.win 1).rect t).emb y : S128x2.Idx) = y := by
  funext a
  fin_cases a
  · exact Fin.ext (by show 0 + 1 * (y 0).val = (y 0).val; omega)
  · exact Fin.ext (by show 0 + 1 * (y 1).val = (y 1).val; omega)
/-- The block of window 1 is the array the region finds. -/
theorem blk1 (c : Dev nD) (t : Fin cfg0.N) : iblk m c 1 t = (data m c).I := by
  funext y
  show V m c main_v1 (((cfg0.win 1).rect t).emb y : S128x2.Idx) = _
  rw [emb1, V_v1]
  refine shapeCast_apply _ _ _ (ix3 (y 0) 0 (y 1)) ?_
  rw [Shape.rowMajor_val_three, Shape.rowMajor_val_two]
  show ((y 0).val * 1 + 0) * 2 + (y 1).val = (y 0).val * 2 + (y 1).val
  omega
/-- The window is its whole array: an index of the block is the same index of the array. -/
theorem emb2 (t : Fin cfg0.N) (y : S128x2.Idx) : (((cfg0.win 2).rect t).emb y : S128x2.Idx) = y := by
  funext a
  fin_cases a
  · exact Fin.ext (by show 0 + 1 * (y 0).val = (y 0).val; omega)
  · exact Fin.ext (by show 0 + 1 * (y 1).val = (y 1).val; omega)
/-- The block of window 2 is the array the region finds. -/
theorem blk2 (c : Dev nD) (t : Fin cfg0.N) : iblk m c 2 t = (data m c).W := by
  funext y
  show V m c main_v2 (((cfg0.win 2).rect t).emb y : S128x2.Idx) = _
  rw [emb2, V_v2]
  refine shapeCast_apply _ _ _ (ix3 (y 0) 0 (y 1)) ?_
  rw [Shape.rowMajor_val_three, Shape.rowMajor_val_two]
  show ((y 0).val * 1 + 0) * 2 + (y 1).val = (y 0).val * 2 + (y 1).val
  omega
/-- The window is its whole array: an index of the block is the same index of the array. -/
theorem emb3 (t : Fin cfg0.N) (y : S8x7168x2816.Idx) : (((cfg0.win 3).rect t).emb y : S8x7168x2816.Idx) = y := by
  funext a
  fin_cases a
  · exact Fin.ext (by show 0 + 1 * (y 0).val = (y 0).val; omega)
  · exact Fin.ext (by show 0 + 1 * (y 1).val = (y 1).val; omega)
  · exact Fin.ext (by show 0 + 1 * (y 2).val = (y 2).val; omega)
/-- The block of window 3 is the array the region finds. -/
theorem blk3 (c : Dev nD) (t : Fin cfg0.N) : iblk m c 3 t = (data m c).G := by
  funext y
  show V m c main_arg3 (((cfg0.win 3).rect t).emb y : S8x7168x2816.Idx) = _
  rw [emb3, V_main_arg3]
  rfl
/-- The window is its whole array: an index of the block is the same index of the array. -/
theorem emb4 (t : Fin cfg0.N) (y : S8x7168.Idx) : (((cfg0.win 4).rect t).emb y : S8x7168.Idx) = y := by
  funext a
  fin_cases a
  · exact Fin.ext (by show 0 + 1 * (y 0).val = (y 0).val; omega)
  · exact Fin.ext (by show 0 + 1 * (y 1).val = (y 1).val; omega)
/-- The block of window 4 is the array the region finds. -/
theorem blk4 (c : Dev nD) (t : Fin cfg0.N) : iblk m c 4 t = (data m c).SG := by
  funext y
  show V m c main_arg4 (((cfg0.win 4).rect t).emb y : S8x7168.Idx) = _
  rw [emb4, V_main_arg4]
  rfl
/-- The window is its whole array: an index of the block is the same index of the array. -/
theorem emb5 (t : Fin cfg0.N) (y : S8x2816x3584.Idx) : (((cfg0.win 5).rect t).emb y : S8x2816x3584.Idx) = y := by
  funext a
  fin_cases a
  · exact Fin.ext (by show 0 + 1 * (y 0).val = (y 0).val; omega)
  · exact Fin.ext (by show 0 + 1 * (y 1).val = (y 1).val; omega)
  · exact Fin.ext (by show 0 + 1 * (y 2).val = (y 2).val; omega)
/-- The block of window 5 is the array the region finds. -/
theorem blk5 (c : Dev nD) (t : Fin cfg0.N) : iblk m c 5 t = (data m c).D := by
  funext y
  show V m c main_arg5 (((cfg0.win 5).rect t).emb y : S8x2816x3584.Idx) = _
  rw [emb5, V_main_arg5]
  rfl
/-- The window is its whole array: an index of the block is the same index of the array. -/
theorem emb6 (t : Fin cfg0.N) (y : S8x2816.Idx) : (((cfg0.win 6).rect t).emb y : S8x2816.Idx) = y := by
  funext a
  fin_cases a
  · exact Fin.ext (by show 0 + 1 * (y 0).val = (y 0).val; omega)
  · exact Fin.ext (by show 0 + 1 * (y 1).val = (y 1).val; omega)
/-- The block of window 6 is the array the region finds. -/
theorem blk6 (c : Dev nD) (t : Fin cfg0.N) : iblk m c 6 t = (data m c).SD := by
  funext y
  show V m c main_arg6 (((cfg0.win 6).rect t).emb y : S8x2816.Idx) = _
  rw [emb6, V_main_arg6]
  rfl

/-- The reference's output array after the run. -/
theorem final (c : Dev nD) : (dats m 0 c).arrAt 7 (cfgs 0).N = fun j : S128x2816.Idx => Spec.total (data m c) (j 0) (j 1) := by
  refine (dats m 0 c).arrAt_eq_of_after_last 7 t0_0 (by decide +kernel) _ fun j => ?_
  blk_simp [(by decide +kernel : win0_7.index t0_0 = ![0, 0])]
  rw [after0_7, blk0, blk1, blk2, blk3, blk4, blk5, blk6]
  rw [eq_ix2 j]
  exact out_at _ _ _ _ _ _ _ _ _

/-- What the host hands back: the output window's array, reshaped. -/
theorem W_main_v4 (c : Dev nD) : Pipeline.afterTail₀ cfgs (dats m) 0 (V0 m) [hostOps1] c main_v4
    = shapeCast S128x1x2816 ((dats m 0 c).arrAt 7 cfg0.N) shapeCasts_S128x2816_S128x1x2816 := by
  unfold Pipeline.afterTail₀
  have hw := Pipeline.withArrays_arr spec0 (by decide) c (V0 m c) (fun w => (dats m 0 c).arrAt w cfg0.N) 7
  simp only [hostOps1, List.flatten_cons, List.flatten_nil, List.append_nil]
  rw [StableHlo.after_cons, StableHlo.after_nil, StableHlo.reshape_result]
  exact congrArg (fun a => shapeCast S128x1x2816 a shapeCasts_S128x2816_S128x1x2816) hw

/-- The reference's result: the layer's value. -/
def result (c : Dev nD) : Buf (Elt Ideal) ((c : Thread nD τ).loc main_v4) := fun i : S128x1x2816.Idx => Spec.total (data m c) (i 0) (i 2)

/-- The result array ends at the layer's value. -/
theorem W_eq (c : Dev nD) : Pipeline.afterTail₀ cfgs (dats m) 0 (V0 m) [hostOps1] c main_v4 = result m c := by
  rw [W_main_v4, final]
  funext i
  refine shapeCast_apply _ _ _ (ix2 (i 0) (i 2)) ?_
  rw [Shape.rowMajor_val_three, Shape.rowMajor_val_two]
  have h1 : (i 1).val < 1 := (i 1).isLt
  show (i 0).val * 2816 + (i 2).val = ((i 0).val * 1 + (i 1).val) * 2816 + (i 2).val
  omega

/-- The reference's run with its value: from any memory the result array ends at the layer's value and the arguments end
    unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.2 c).2 main_v4 (Pipeline.mem_restRefs_of main_v4 (by decide) (by decide))).trans (W_eq m c), h.1 c⟩)
    (θ_run_and (unchanged m ρ) (run_main m ρ))

end Cert.Proof.Ref
end
-- ==== Proof.IdealValue.lean ====
module

public import proofs.«01_k».proof.Defs
public import proofs.«01_k».proof.Proof.IdealBody
public import proofs.«01_k».proof.Proof.IdealMembers
public import proofs.«01_k».proof.Proof.Spec
public import Idealize.ShloMosaic.Lib.Pointwise

@[expose] public section

set_option maxRecDepth 16384

noncomputable section

namespace Cert.Proof.IdealRun

open Idealize.ShloMosaic Idealize.ShloMosaic.TcCoe Idealize.SL.Sem
open Cert.KernelIdeal Cert.KernelIdeal.Gen

/-! ## The kernel's payloads at an index, over the extended reals -/

/-- The lane numbers. -/
abbrev laneNo : IVec S128x128 32 := iota .tc S128x128 32 [1] iota_S128x128_d1_w32

/-- The exponential is not negative. -/
theorem exp_ge (x : EReal) : 0 ≤ Ideal.exp x := by
  induction x with
  | bot => exact le_refl _
  | top => exact le_top
  | coe r => exact EReal.coe_nonneg.mpr (Real.exp_nonneg r)

/-- Dividing by `1 + exp (-g)` is multiplying by the logistic of `g`. -/
theorem div_logistic (g : EReal) : Ideal.div g (1 + Ideal.exp (0 - g)) = g * Ideal.logistic g := by
  have h : (1 : EReal) + Ideal.exp (-g) ≠ 0 := by
    have h1 : (0 : EReal) < 1 := zero_lt_one
    exact (lt_of_lt_of_le h1 (le_add_of_nonneg_right (exp_ge _))).ne'
  rw [zero_sub]
  unfold Ideal.logistic Ideal.div
  rw [if_neg h, if_neg h, one_mul]

/-- Small numbers are told apart by their words. -/
theorem ofNat_inj (a b : ℕ) (ha : a < 128) (hb : b < 128) : BitVec.ofNat 32 a = BitVec.ofNat 32 b ↔ a = b := by
  constructor
  · intro h
    have := congrArg BitVec.toNat h
    simp only [BitVec.toNat_ofNat] at this
    omega
  · rintro rfl; rfl

/-- Selecting on equality of words is an `if`. -/
theorem sel_eq (a b : BitVec 32) (x y : EReal) : Scalar.select (IntOp.cmpi .eq a b) x y = if a = b then x else y := by
  unfold Scalar.select IntOp.cmpi
  by_cases h : a = b
  · simp [h]
  · rw [if_neg h, if_neg]
    show ¬ BitVec.ofBool (a == b) = 1
    rw [beq_eq_false_iff_ne.mpr h]
    decide

/-- A sum over the lanes of the lane whose number is `e`. -/
theorem pick (g : Fin 128 → EReal) (e : Fin 8) :
    ∑ x : Fin 128, Scalar.select (IntOp.cmpi .eq (BitVec.ofNat 32 x.val) (BitVec.ofNat 32 e.val)) (g x) 0 = g ⟨e.val, by omega⟩ := by
  rw [Finset.sum_eq_single (⟨e.val, by omega⟩ : Fin 128)]
  · rw [sel_eq, if_pos rfl]
  · intro x _ hx
    rw [sel_eq, if_neg]
    rw [ofNat_inj _ _ x.isLt (by omega)]
    exact fun h => hx (Fin.ext h)
  · exact fun h => absurd (Finset.mem_univ _) h

/-- The weight column of an expert: its lane of the first plane. -/
theorem wgt_at (C0 : Vec Ideal S1x128x128 .f32) (e : Fin 8) (t : Fin 128) :
    wgt laneNo C0 (BitVec.ofNat 32 e.val) (ix2 t 0) = C0 (ix3 0 t ⟨e.val, by omega⟩) := by
  pointwise [wgt, k0_pay2, k0_pay1]
  exact pick (fun x => C0 (ix3 0 t x)) e

/-- The hit column of an expert says whether its lane of the second plane is positive. -/
theorem hits_at (C1 : Vec Ideal S1x128x128 .f32) (e : Fin 8) (t : Fin 128) :
    hits laneNo C1 (BitVec.ofNat 32 e.val) (ix2 t 0) = BitVec.ofBool (decide (0 < (C1 (ix3 0 t ⟨e.val, by omega⟩) : EReal))) := by
  pointwise [hits, k0_pay3, k0_pay1]
  rw [pick (fun x => C1 (ix3 0 t x)) e]

/-- The first plane at a lane: the sum of the weights whose id is the lane's number. -/
theorem C0_at (I0 I1 : Vec Ideal S128x1 .i32) (W0 W1 : Vec Ideal S128x1 .f32) (t l : Fin 128) :
    k0_pay74 I0 W0 I1 W1 (ix3 0 t l) = (if I0 (ix2 t 0) = BitVec.ofNat 32 l.val then W0 (ix2 t 0) else (0 : EReal))
      + (if I1 (ix2 t 0) = BitVec.ofNat 32 l.val then W1 (ix2 t 0) else (0 : EReal)) := by
  pointwise [k0_pay74, k0_pay71, k0_pay72]
  rw [sel_eq, sel_eq]

/-- The second plane is positive at a lane just when one of the ids is the lane's number. -/
theorem C1_at (I0 I1 : Vec Ideal S128x1 .i32) (t l : Fin 128) :
    (0 < (k0_pay75 (F := Ideal) I0 I1 (ix3 0 t l) : EReal)) ↔ (I0 (ix2 t 0) = BitVec.ofNat 32 l.val ∨ I1 (ix2 t 0) = BitVec.ofNat 32 l.val) := by
  have h : (k0_pay75 (F := Ideal) I0 I1 (ix3 0 t l) : EReal) = (((k0_pay73 I0 I1 (ix2 t l)).toInt : ℝ) : EReal) := by
    pointwise [k0_pay75]
    rfl
  rw [h, ← pay73_pos, EReal.coe_pos, Int.cast_pos]

/-- A block of hidden values, in coordinates. -/
theorem pay9_at (v379 : Vec Ideal S1x512 .f32) (v380 : Vec Ideal S128x2816 .bf16) (v382 : Vec Ideal S1x1x512x2816 .fp8e4m3) (v388 : Vec Ideal S1x512 .f32) (v391 : Vec Ideal S1x1x512x2816 .fp8e4m3) (t : Fin 128) (f : Fin 512) (g u : EReal)
    (hg : g = (∑ x : Fin 2816, v380 (ix2 t x) * v382 (ix4 0 0 f x)) * v379 (ix2 0 f)) (hu : u = (∑ x : Fin 2816, v380 (ix2 t x) * v391 (ix4 0 0 f x)) * v388 (ix2 0 f)) :
    k0_pay9 v379 v380 v382 v388 v380 v391 (ix2 t f) = g * Ideal.logistic g * u := by
  rw [← div_logistic, hg, hu]
  pointwise [k0_pay9]

/-- A block of the accumulator after a trip, in coordinates. -/
theorem pay25_at (v271 : FVec Ideal S128x1 .f32) (v279 : IVec S128x1 1) (v641 : Vec Ideal S128x3584 .bf16) (v642 : Vec Ideal S1x256x3584 .fp8e4m3) (v646 : Vec Ideal S1x256 .f32) (v651 : Vec Ideal S128x256 .f32) (t : Fin 128) (d : Fin 256) (y s w o : EReal)
    (hy : y = ∑ x : Fin 3584, v641 (ix2 t x) * v642 (ix3 0 d x)) (hs : s = v646 (ix2 0 d)) (hw : w = v271 (ix2 t 0)) (ho : o = v651 (ix2 t d)) :
    k0_pay25 v271 v279 v641 v642 v646 v651 (ix2 t d) = o + Scalar.select (v279 (ix2 t 0)) (y * (s * w)) 0 := by
  rw [hy, hs, hw, ho]
  pointwise [k0_pay25]

/-! ## One trip, and all of them -/

section Acc
variable (c : Dev nD)
  (XG : Buf (Elt Ideal) (wguM.view.loc (c : Thread nD τ))) (XD : Buf (Elt Ideal) (wdnM.view.loc (c : Thread nD τ)))
  (arg2 : Memref sig .tc .vmem S128x2816 .bf16) (arg3 : Memref sig .tc .vmem S8x7168 .f32) (arg4 : Memref sig .tc .vmem S8x2816 .f32)
  (fx : Buf (Elt Ideal) (arg2.view.loc (c : Thread nD τ))) (fsg : Buf (Elt Ideal) (arg3.view.loc (c : Thread nD τ))) (fsd : Buf (Elt Ideal) (arg4.view.loc (c : Thread nD τ)))
  (A : Spec.Data)

/-- What the kernel's buffers hold is the layer's data. -/
structure Holds : Prop where
  X : ∀ t k, xV c arg2 fx (ix2 t k) = A.X (ix2 t k)
  G : ∀ e f k, XG (ix3 e f k) = A.G (ix3 e f k)
  SG : ∀ e f, arg3.view.read (Elt Ideal) fsg (ix2 e f) = A.SG (ix2 e f)
  D : ∀ e d f, XD (ix3 e d f) = A.D (ix3 e d f)
  SD : ∀ e d, arg4.view.read (Elt Ideal) fsd (ix2 e d) = A.SD (ix2 e d)

variable {c XG XD arg2 arg3 arg4 fx fsg fsd A}

/-- The hidden values of a trip are the layer's. -/
theorem hAll_at (h : Holds c XG XD arg2 arg3 arg4 fx fsg fsd A) (e : Fin 8) (t : Fin 128) (f : Fin 3584) :
    hAll c XG arg2 arg3 fx fsg e (ix2 t f) = Spec.hid A e t f := by
  have hf : f.val / 512 * 512 + f.val % 512 = f.val := by omega
  refine pay9_at _ _ _ _ _ t (⟨f.val % 512, by omega⟩ : Fin 512) (Spec.gu A e t ⟨f, by omega⟩) (Spec.gu A e t ⟨3584 + f, by omega⟩) ?_ ?_
  · unfold Spec.gu
    refine congrArg₂ (· * ·) (Finset.sum_congr rfl fun k _ => congrArg₂ (· * ·) (h.X t k).symm ?_) ?_
    · rw [← h.G]
      exact congrArg (fun a => XG (ix3 e a k)) (Fin.ext (by show f.val = 0 * 3584 + f.val / 512 * 512 + f.val % 512; omega))
    · rw [← h.SG]
      exact congrArg (fun a => arg3.view.read (Elt Ideal) fsg (ix2 e a)) (Fin.ext (by show f.val = 0 * 3584 + f.val / 512 * 512 + f.val % 512; omega))
  · unfold Spec.gu
    refine congrArg₂ (· * ·) (Finset.sum_congr rfl fun k _ => congrArg₂ (· * ·) (h.X t k).symm ?_) ?_
    · rw [← h.G]
      exact congrArg (fun a => XG (ix3 e a k)) (Fin.ext (by show 3584 + f.val = 1 * 3584 + f.val / 512 * 512 + f.val % 512; omega))
    · rw [← h.SG]
      exact congrArg (fun a => arg3.view.read (Elt Ideal) fsg (ix2 e a)) (Fin.ext (by show 3584 + f.val = 1 * 3584 + f.val / 512 * 512 + f.val % 512; omega))

variable (I0 I1 : Vec Ideal S128x1 .i32) (W0 W1 : Vec Ideal S128x1 .f32)

/-- A trip adds to each token what its expert makes of it. -/
theorem next_at (h : Holds c XG XD arg2 arg3 arg4 fx fsg fsd A)
    (hI0 : ∀ t, I0 (ix2 t 0) = A.I (ix2 t 0)) (hI1 : ∀ t, I1 (ix2 t 0) = A.I (ix2 t 1))
    (hW0 : ∀ t, W0 (ix2 t 0) = A.W (ix2 t 0)) (hW1 : ∀ t, W1 (ix2 t 0) = A.W (ix2 t 1))
    (hne : ∀ t, A.I (ix2 t 0) ≠ A.I (ix2 t 1)) (e : Fin 8) (old : Vec Ideal S128x2816 .f32) (t : Fin 128) (d : Fin 2816) :
    accNext c XG XD arg2 arg3 arg4 fx fsg fsd (k0_pay74 I0 W0 I1 W1) (k0_pay75 (F := Ideal) I0 I1) laneNo e old (ix2 t d)
      = (old (ix2 t d) + Spec.both A e t d : EReal) := by
  have hd : d.val / 256 * 256 + d.val % 256 = d.val := by omega
  refine (pay25_at _ _ _ _ _ _ t (⟨d.val % 256, by omega⟩ : Fin 256) (Spec.ffn A e t d) (A.SD (ix2 e d))
    (wgt laneNo (k0_pay74 I0 W0 I1 W1) (BitVec.ofNat 32 e.val) (ix2 t 0)) (old (ix2 t d)) ?_ ?_ rfl ?_).trans ?_
  · unfold Spec.ffn
    refine Finset.sum_congr rfl fun f _ => congrArg₂ (· * ·) (hAll_at h e t f).symm ?_
    rw [← h.D]
    exact congrArg (fun a => XD (ix3 e a f)) (Fin.ext hd.symm)
  · rw [← h.SD]
    exact congrArg (fun a => arg4.view.read (Elt Ideal) fsd (ix2 e a)) (Fin.ext hd.symm)
  · exact congrArg (fun a => old (ix2 t a)) (Fin.ext hd.symm)
  refine congrArg₂ (· + ·) rfl ?_
  rw [wgt_at, hits_at, C0_at]
  unfold Spec.both Spec.share
  rw [sel_eq, sel_eq, ← hI0, ← hI1, ← hW0, ← hW1]
  have hn : I0 (ix2 t 0) ≠ I1 (ix2 t 0) := by rw [hI0, hI1]; exact hne t
  have hc := C1_at I0 I1 t (⟨e.val, by omega⟩ : Fin 128)
  dsimp only at hc ⊢
  by_cases h0 : I0 (ix2 t 0) = BitVec.ofNat 32 e.val
  · have h1 : I1 (ix2 t 0) ≠ BitVec.ofNat 32 e.val := fun q => hn (h0.trans q.symm)
    rw [if_pos h0, if_neg h1, if_pos h0, if_neg h1, add_zero, add_zero, decide_eq_true (hc.mpr (Or.inl h0))]
    rfl
  · by_cases h1 : I1 (ix2 t 0) = BitVec.ofNat 32 e.val
    · rw [if_neg h0, if_pos h1, if_neg h0, if_pos h1, zero_add, zero_add, decide_eq_true (hc.mpr (Or.inr h1))]
      rfl
    · rw [if_neg h0, if_neg h1, if_neg h0, if_neg h1, add_zero, decide_eq_false (fun q => (hc.mp q).elim h0 h1)]
      rfl

/-- After `k` trips the accumulator holds the sum over the first `k` members. -/
theorem accN_at (h : Holds c XG XD arg2 arg3 arg4 fx fsg fsd A)
    (hI0 : ∀ t, I0 (ix2 t 0) = A.I (ix2 t 0)) (hI1 : ∀ t, I1 (ix2 t 0) = A.I (ix2 t 1))
    (hW0 : ∀ t, W0 (ix2 t 0) = A.W (ix2 t 0)) (hW1 : ∀ t, W1 (ix2 t 0) = A.W (ix2 t 1))
    (hne : ∀ t, A.I (ix2 t 0) ≠ A.I (ix2 t 1)) (v : BitVec 32) (t : Fin 128) (d : Fin 2816) :
    ∀ k : ℕ, accN c XG XD arg2 arg3 arg4 fx fsg fsd (k0_pay74 I0 W0 I1 W1) (k0_pay75 (F := Ideal) I0 I1) v k (ix2 t d)
      = (∑ i ∈ Finset.range k, Spec.both A ⟨sel v 8 i, sel8_lt v i⟩ t d : EReal)
  | 0 => by
    rw [Finset.sum_range_zero]
    show k0_pay78 (F := Ideal) (ix2 t d) = 0
    pointwise [k0_pay78]
  | k + 1 => by
    rw [Finset.sum_range_succ, ← accN_at h hI0 hI1 hW0 hW1 hne v t d k]
    exact next_at I0 I1 W0 W1 h hI0 hI1 hW0 hW1 hne _ _ t d
end Acc

/-- A set bit is a member, at the place its count says. -/
theorem sel_cnt (v : BitVec 32) (e : ℕ) (hb : (bit v e).toNat = 1) : ∀ m : ℕ, m ≤ 8 → e < m → cnt v e < cnt v m ∧ sel v m (cnt v e) = e
  | 0, _, h => by omega
  | m + 1, hm, h => by
    rw [cnt_succ v m (by omega)]
    unfold sel
    by_cases q : e = m
    · subst q
      exact ⟨by omega, if_pos rfl⟩
    · have ⟨i1, i2⟩ := sel_cnt v e hb m (by omega) (by omega)
      exact ⟨by omega, (if_neg (by omega)).trans i2⟩

/-- The members' sum is the sum over the experts: an expert no token names adds nothing. -/
theorem sum_members (A : Spec.Data) (I0 I1 : Vec Ideal S128x1 .i32)
    (hI0 : ∀ t, I0 (ix2 t 0) = A.I (ix2 t 0)) (hI1 : ∀ t, I1 (ix2 t 0) = A.I (ix2 t 1)) (t : Fin 128) (d : Fin 2816) :
    ∑ i ∈ Finset.range (nOf (memberWord I0 I1)), Spec.both A ⟨sel (memberWord I0 I1) 8 i, sel8_lt _ i⟩ t d = Spec.total A t d := by
  classical
  generalize hv : memberWord I0 I1 = v
  unfold Spec.total
  have hinj : Set.InjOn (fun i => (⟨sel v 8 i, sel8_lt v i⟩ : Fin 8)) (Finset.range (nOf v)) := by
    intro i hi j hj hij
    have a := (sel_spec v 8 i (le_refl _) (Finset.mem_range.mp hi)).2.2
    have b := (sel_spec v 8 j (le_refl _) (Finset.mem_range.mp hj)).2.2
    have q : sel v 8 i = sel v 8 j := congrArg Fin.val hij
    rw [← a, ← b, q]
  rw [← Finset.sum_image (f := fun e => Spec.both A e t d) hinj]
  refine Finset.sum_subset (Finset.subset_univ _) fun e _ he => ?_
  have hbit : ¬ (bit v e.val).toNat = 1 := by
    intro q
    have ⟨i1, i2⟩ := sel_cnt v e.val q 8 (le_refl _) e.isLt
    exact he (Finset.mem_image.mpr ⟨cnt v e.val, Finset.mem_range.mpr i1, Fin.ext i2⟩)
  rw [← hv, bit_memberWord I0 I1 e.val e.isLt] at hbit
  have h0 : A.I (ix2 t 0) ≠ BitVec.ofNat 32 e.val := fun q => hbit ⟨t, Or.inl ((hI0 t).trans q)⟩
  have h1 : A.I (ix2 t 1) ≠ BitVec.ofNat 32 e.val := fun q => hbit ⟨t, Or.inr ((hI1 t).trans q)⟩
  unfold Spec.both Spec.share
  rw [sel_eq, sel_eq, if_neg h0, if_neg h1, add_zero]

end Cert.Proof.IdealRun
end
-- ==== Proof.IdealResult.lean ====
module

public import proofs.«01_k».proof.Defs
public import proofs.«01_k».proof.Proof.IdealBody
public import proofs.«01_k».proof.Proof.IdealMembers
public import proofs.«01_k».proof.Proof.Spec
public import proofs.«01_k».proof.Proof.IdealValue
public import proofs.«01_k».proof.Proof.IdealStart
public import proofs.«01_k».proof.Proof.IdealLaunch
public import Idealize.ShloMosaic.Lib.Pipeline.ValueKit
public import Idealize.ShloMosaic.Lib.Claim
public import Idealize.ShloMosaic.Lib.Pointwise

@[expose] public section

set_option maxRecDepth 16384

noncomputable section

namespace Cert.Proof.IdealRun

open Idealize.ShloMosaic Idealize.ShloMosaic.TcCoe Idealize.SL.Sem
open Cert.KernelIdeal Cert.KernelIdeal.Gen

open Idealize.ShloMosaic.Pipeline (Dat)
variable (m : (ℓ : Loc nD τ sig) → Buf (Elt Ideal) ℓ)

/-- The layer's data, read from the kernel's argument arrays. -/
def data (c : Dev nD) : Spec.Data where
  X i := m ((c : Thread nD τ).loc main_arg0) (ix3 (i 0) 0 (i 1))
  I i := m ((c : Thread nD τ).loc main_arg1) (ix3 (i 0) 0 (i 1))
  W i := m ((c : Thread nD τ).loc main_arg2) (ix3 (i 0) 0 (i 1))
  G := m ((c : Thread nD τ).loc main_arg3)
  SG := m ((c : Thread nD τ).loc main_arg4)
  D := m ((c : Thread nD τ).loc main_arg5)
  SD := m ((c : Thread nD τ).loc main_arg6)

/-- The window is its whole array: an index of the block is the same index of the array. -/
theorem emb0 (t : Fin cfg0.N) (y : S128x2.Idx) : (((cfg0.win 0).rect t).emb y : S128x2.Idx) = y := by
  funext a
  fin_cases a
  · exact Fin.ext (by show 0 + 1 * (y 0).val = (y 0).val; omega)
  · exact Fin.ext (by show 0 + 1 * (y 1).val = (y 1).val; omega)
/-- The block of window 0 is the array the region finds. -/
theorem blk0 (c : Dev nD) (t : Fin cfg0.N) : iblk m c 0 t = (data m c).I := by
  funext y
  show V m c main_v0 (((cfg0.win 0).rect t).emb y : S128x2.Idx) = _
  rw [emb0, V_v0]
  refine shapeCast_apply _ _ _ (ix3 (y 0) 0 (y 1)) ?_
  rw [Shape.rowMajor_val_three, Shape.rowMajor_val_two]
  show ((y 0).val * 1 + 0) * 2 + (y 1).val = (y 0).val * 2 + (y 1).val
  omega
/-- The window is its whole array: an index of the block is the same index of the array. -/
theorem emb1 (t : Fin cfg0.N) (y : S128x2.Idx) : (((cfg0.win 1).rect t).emb y : S128x2.Idx) = y := by
  funext a
  fin_cases a
  · exact Fin.ext (by show 0 + 1 * (y 0).val = (y 0).val; omega)
  · exact Fin.ext (by show 0 + 1 * (y 1).val = (y 1).val; omega)
/-- The array the region finds: the argument, reshaped. -/
theorem V_v1 (c : Dev nD) : V m c main_v1 = shapeCast S128x2 (m ((c : Thread nD τ).loc main_arg2)) shapeCasts_S128x1x2_S128x2 := by
  entry_read
  rfl
/-- The block of window 1 is the array the region finds. -/
theorem blk1 (c : Dev nD) (t : Fin cfg0.N) : iblk m c 1 t = (data m c).W := by
  funext y
  show V m c main_v1 (((cfg0.win 1).rect t).emb y : S128x2.Idx) = _
  rw [emb1, V_v1]
  refine shapeCast_apply _ _ _ (ix3 (y 0) 0 (y 1)) ?_
  rw [Shape.rowMajor_val_three, Shape.rowMajor_val_two]
  show ((y 0).val * 1 + 0) * 2 + (y 1).val = (y 0).val * 2 + (y 1).val
  omega
/-- The window is its whole array: an index of the block is the same index of the array. -/
theorem emb2 (t : Fin cfg0.N) (y : S128x2816.Idx) : (((cfg0.win 2).rect t).emb y : S128x2816.Idx) = y := by
  funext a
  fin_cases a
  · exact Fin.ext (by show 0 + 1 * (y 0).val = (y 0).val; omega)
  · exact Fin.ext (by show 0 + 1 * (y 1).val = (y 1).val; omega)
/-- The array the region finds: the argument, reshaped. -/
theorem V_v2 (c : Dev nD) : V m c main_v2 = shapeCast S128x2816 (m ((c : Thread nD τ).loc main_arg0)) shapeCasts_S128x1x2816_S128x2816 := by
  entry_read
  rfl
/-- The block of window 2 is the array the region finds. -/
theorem blk2 (c : Dev nD) (t : Fin cfg0.N) : iblk m c 2 t = (data m c).X := by
  funext y
  show V m c main_v2 (((cfg0.win 2).rect t).emb y : S128x2816.Idx) = _
  rw [emb2, V_v2]
  refine shapeCast_apply _ _ _ (ix3 (y 0) 0 (y 1)) ?_
  rw [Shape.rowMajor_val_three, Shape.rowMajor_val_two]
  show ((y 0).val * 1 + 0) * 2816 + (y 1).val = (y 0).val * 2816 + (y 1).val
  omega
/-- The window is its whole array: an index of the block is the same index of the array. -/
theorem emb3 (t : Fin cfg0.N) (y : S8x7168.Idx) : (((cfg0.win 3).rect t).emb y : S8x7168.Idx) = y := by
  funext a
  fin_cases a
  · exact Fin.ext (by show 0 + 1 * (y 0).val = (y 0).val; omega)
  · exact Fin.ext (by show 0 + 1 * (y 1).val = (y 1).val; omega)
/-- The block of window 3 is the array the region finds. -/
theorem blk3 (c : Dev nD) (t : Fin cfg0.N) : iblk m c 3 t = (data m c).SG := by
  funext y
  show V m c main_arg4 (((cfg0.win 3).rect t).emb y : S8x7168.Idx) = _
  rw [emb3, V_main_arg4]
  rfl
/-- The window is its whole array: an index of the block is the same index of the array. -/
theorem emb4 (t : Fin cfg0.N) (y : S8x2816.Idx) : (((cfg0.win 4).rect t).emb y : S8x2816.Idx) = y := by
  funext a
  fin_cases a
  · exact Fin.ext (by show 0 + 1 * (y 0).val = (y 0).val; omega)
  · exact Fin.ext (by show 0 + 1 * (y 1).val = (y 1).val; omega)
/-- The block of window 4 is the array the region finds. -/
theorem blk4 (c : Dev nD) (t : Fin cfg0.N) : iblk m c 4 t = (data m c).SD := by
  funext y
  show V m c main_arg6 (((cfg0.win 4).rect t).emb y : S8x2816.Idx) = _
  rw [emb4, V_main_arg6]
  rfl

/-- The first weight of a token, read from the argument. -/
theorem wts0_at (c : Dev nD) (t : Fin cfg0.N) (x : Fin 128) :
    wts0 c (st1 t) ((st1 t).view.rep (iblk m c 1 t)) (ix2 x 0) = (data m c).W (ix2 x 0) := by
  show (st1 t).view.readAt (Elt Ideal) _ _ _ = _
  rw [View.readAt_apply, View.read_rep, ← blk1 m c t]
  refine congrArg (iblk m c 1 t) (funext fun a => ?_)
  fin_cases a
  · exact Fin.ext (by show 0 + 1 * x.val = x.val; omega)
  · rfl
/-- The second weight of a token, read from the argument. -/
theorem wts1_at (c : Dev nD) (t : Fin cfg0.N) (x : Fin 128) :
    wts1 c (st1 t) ((st1 t).view.rep (iblk m c 1 t)) (ix2 x 0) = (data m c).W (ix2 x 1) := by
  show (st1 t).view.readAt (Elt Ideal) _ _ _ = _
  rw [View.readAt_apply, View.read_rep, ← blk1 m c t]
  refine congrArg (iblk m c 1 t) (funext fun a => ?_)
  fin_cases a
  · exact Fin.ext (by show 0 + 1 * x.val = x.val; omega)
  · rfl

/-- What the staged blocks and the two matrices hold is the layer's data. -/
theorem holds (c : Dev nD) (t : Fin cfg0.N) : Holds c (V m c main_arg3) (V m c main_arg5) (st2 t) (st3 t) (st4 t)
    ((st2 t).view.rep (iblk m c 2 t)) ((st3 t).view.rep (iblk m c 3 t)) ((st4 t).view.rep (iblk m c 4 t)) (data m c) where
  X x k := by
    show (st2 t).view.readAt (Elt Ideal) _ _ _ = _
    rw [View.readAt_apply, View.read_rep, ← blk2 m c t]
    refine congrArg (iblk m c 2 t) (funext fun a => ?_)
    fin_cases a
    · exact Fin.ext (by show 0 + 1 * x.val = x.val; omega)
    · exact Fin.ext (by show 0 + 1 * k.val = k.val; omega)
  G e f k := by rw [V_main_arg3]; rfl
  SG e f := by rw [View.read_rep, ← blk3 m c t]
  D e d f := by rw [V_main_arg5]; rfl
  SD e d := by rw [View.read_rep, ← blk4 m c t]

/-- No token names one expert twice. -/
def Distinct : Prop := ∀ (c : Dev nD) (x : Fin 128), m ((c : Thread nD τ).loc main_arg1) (ix3 x 0 0) ≠ m ((c : Thread nD τ).loc main_arg1) (ix3 x 0 1)

/-- The last cast keeps the value. -/
theorem pay81_at (v : Vec Ideal S128x2816 .f32) (i : S128x2816.Idx) : k0_pay81 v i = (v i : EReal) := by
  pointwise [k0_pay81]

/-- What the body stores is the layer's value. -/
theorem outV_at (c : Dev nD) (XG : Buf (Elt Ideal) (wguM.view.loc (c : Thread nD τ))) (XD : Buf (Elt Ideal) (wdnM.view.loc (c : Thread nD τ)))
    (arg0 : Memref sig .tc .vmem S128x2 .i32) (arg1 : Memref sig .tc .vmem S128x2 .f32)
    (arg2 : Memref sig .tc .vmem S128x2816 .bf16) (arg3 : Memref sig .tc .vmem S8x7168 .f32) (arg4 : Memref sig .tc .vmem S8x2816 .f32)
    (fi : Buf (Elt Ideal) (arg0.view.loc (c : Thread nD τ))) (fw : Buf (Elt Ideal) (arg1.view.loc (c : Thread nD τ)))
    (fx : Buf (Elt Ideal) (arg2.view.loc (c : Thread nD τ))) (fsg : Buf (Elt Ideal) (arg3.view.loc (c : Thread nD τ))) (fsd : Buf (Elt Ideal) (arg4.view.loc (c : Thread nD τ)))
    (A : Spec.Data) (h : Holds c XG XD arg2 arg3 arg4 fx fsg fsd A)
    (hI0 : ∀ t, ids0 c arg0 fi (ix2 t 0) = A.I (ix2 t 0)) (hI1 : ∀ t, ids1 c arg0 fi (ix2 t 0) = A.I (ix2 t 1))
    (hW0 : ∀ t, wts0 c arg1 fw (ix2 t 0) = A.W (ix2 t 0)) (hW1 : ∀ t, wts1 c arg1 fw (ix2 t 0) = A.W (ix2 t 1))
    (hne : ∀ t, A.I (ix2 t 0) ≠ A.I (ix2 t 1)) (x : Fin 128) (d : Fin 2816) :
    outV c XG XD arg0 arg1 arg2 arg3 arg4 fi fw fx fsg fsd (ix2 x d) = Spec.total A x d := by
  unfold outV mword
  rw [pay81_at, ← sum_members A (ids0 c arg0 fi) (ids1 c arg0 fi) hI0 hI1 x d]
  exact accN_at _ _ _ _ h hI0 hI1 hW0 hW1 hne _ x d _

/-- What the body stores is the layer's value. -/
theorem outAt_at (h : Distinct m) (c : Dev nD) (t : Fin cfg0.N) (x : Fin 128) (d : Fin 2816) :
    outAt m c t (ix2 x d) = Spec.total (data m c) x d := by
  unfold outAt
  exact outV_at c _ _ _ _ _ _ _ _ _ _ _ _ (data m c) (holds m c t) (ids0_at m c t) (ids1_at m c t) (wts0_at m c t) (wts1_at m c t) (h c) x d

attribute [local irreducible] outAt in
/-- What the body stores, as one array. -/
theorem outAt_eq (h : Distinct m) (c : Dev nD) (t : Fin cfg0.N) :
    outAt m c t = fun i : S128x2816.Idx => Spec.total (data m c) (i 0) (i 1) := by
  refine funext fun i : S128x2816.Idx => ?_
  have q := outAt_at m h c t (i 0) (i 1)
  rw [← eq_ix2 i] at q
  exact q

/-- The kernel's output array after the run. -/
theorem final (h : Distinct m) (c : Dev nD) : (dats m 0 c).arrAt 5 (cfgs 0).N = fun j : S128x2816.Idx => Spec.total (data m c) (j 0) (j 1) := by
  refine (dats m 0 c).arrAt_eq_of_after_last 5 t0_0 (by decide +kernel) _ fun j => ?_
  rw [after_w5, outAt_eq m h]
  rfl

/-- What the host hands back: the output window's array, reshaped. -/
theorem W_main_v4 (c : Dev nD) : Pipeline.afterTail₀ cfgs (dats m) 0 (V0 m) [hostOps1] c main_v4
    = shapeCast S128x1x2816 ((dats m 0 c).arrAt 5 cfg0.N) shapeCasts_S128x2816_S128x1x2816 := by
  unfold Pipeline.afterTail₀
  have hw := Pipeline.withArrays_arr spec0 (by decide) c (V0 m c) (fun w => (dats m 0 c).arrAt w cfg0.N) 5
  simp only [hostOps1, List.flatten_cons, List.flatten_nil, List.append_nil]
  rw [StableHlo.after_cons, StableHlo.after_nil, StableHlo.reshape_result]
  exact congrArg (fun a => shapeCast S128x1x2816 a shapeCasts_S128x2816_S128x1x2816) hw

/-- The kernel's result: the layer's value. -/
def result (c : Dev nD) : Buf (Elt Ideal) ((c : Thread nD τ).loc main_v4) := fun i : S128x1x2816.Idx => Spec.total (data m c) (i 0) (i 2)

/-- The result array ends at the layer's value. -/
theorem W_eq (h : Distinct m) (c : Dev nD) : Pipeline.afterTail₀ cfgs (dats m) 0 (V0 m) [hostOps1] c main_v4 = result m c := by
  rw [W_main_v4, final m h]
  funext i
  refine shapeCast_apply _ _ _ (ix2 (i 0) (i 2)) ?_
  rw [Shape.rowMajor_val_three, Shape.rowMajor_val_two]
  have h1 : (i 1).val < 1 := (i 1).isLt
  show (i 0).val * 2816 + (i 2).val = ((i 0).val * 1 + (i 1).val) * 2816 + (i 2).val
  omega

/-- The second precondition, read back: some id names an expert, and no token names one expert twice. -/
theorem topK_of [Cert.Pre_top_k_of_experts.Facts]
    (h : ∀ c : Dev nD, Cert.Pre_top_k_of_experts.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = fun _ => 1#1) :
    SomeExpert m ∧ Distinct m := by
  constructor
  · intro c
    have h := congrFun (h c) (ix2 0 0)
    unfold Cert.Pre_top_k_of_experts.fn at h
    have h := (IntOp.andi_eq_one.1 h).1
    unfold broadcastInDim at h
    dsimp only at h
    rw [Host.reduce_eq_foldl] at h
    rcases foldl_ori_eq_one _ _ _ h with h | ⟨i, -, h⟩
    · exact absurd (show (0#1 : BitVec 1) = 1#1 from h) (by decide)
    · obtain ⟨e, he, hw⟩ := word_below _ h
      refine ⟨i 0, i 2, e, he, ?_⟩
      rw [← hw]
      refine congrArg (m ((c : Thread nD τ).loc main_arg1)) (funext fun a => ?_)
      fin_cases a
      · rfl
      · exact Subsingleton.elim (α := Fin 1) _ _
      · rfl
  · intro c x
    have h := congrFun (h c) (ix2 x 0)
    unfold Cert.Pre_top_k_of_experts.fn at h
    have h := (IntOp.andi_eq_one.1 h).2
    pointwise at h
    intro e
    rw [e] at h
    revert h
    simp [IntOp.cmpi]

/-- The kernel's run with its value: from any memory in which some id is the number of an expert and no token names one expert
    twice, the result array ends at the layer's value and the arguments end unchanged. -/
theorem run_value (ρ : Dev nD → PrngReg) (hs : SomeExpert m) (hd : Distinct m) :
    θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => by
      have hw := fun w => (hr.1 c).1 w
      have hb := (hr.1 c).2
      refine ⟨?_, ?_, ?_, ?_, ?_, ?_, ?_, ?_⟩
      · exact (hb main_v4 (Pipeline.mem_restRefs_of main_v4 (by decide) (by decide))).trans (W_eq m hd c)
      · exact (hb main_arg0 (Pipeline.mem_restRefs_of main_arg0 (by decide) (by decide))).trans ((tail_keeps m c main_arg0 (by decide) (by decide)).trans (V_main_arg0 m c))
      · exact (hb main_arg1 (Pipeline.mem_restRefs_of main_arg1 (by decide) (by decide))).trans ((tail_keeps m c main_arg1 (by decide) (by decide)).trans (V_main_arg1 m c))
      · exact (hb main_arg2 (Pipeline.mem_restRefs_of main_arg2 (by decide) (by decide))).trans ((tail_keeps m c main_arg2 (by decide) (by decide)).trans (V_main_arg2 m c))
      · exact (hb main_arg3 (Pipeline.mem_restRefs_of main_arg3 (by decide) (by decide))).trans ((tail_keeps m c main_arg3 (by decide) (by decide)).trans (V_main_arg3 m c))
      · exact (hw 3).trans (((dats m 0 c).arrAt_in 3 rfl _).trans (V_main_arg4 m c))
      · exact (hb main_arg5 (Pipeline.mem_restRefs_of main_arg5 (by decide) (by decide))).trans ((tail_keeps m c main_arg5 (by decide) (by decide)).trans (V_main_arg5 m c))
      · exact (hw 4).trans (((dats m 0 c).arrAt_in 4 rfl _).trans (V_main_arg6 m c))) (run_all m ρ (preOK_of m hs))

end Cert.Proof.IdealRun
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Start
public import proofs.«01_k».proof.Proof.IdealStart
public import proofs.«01_k».proof.Proof.RefValue
public import proofs.«01_k».proof.Proof.IdealResult
public import Idealize.ShloMosaic.Adequacy
public import Idealize.ShloMosaic.Init

@[expose] public section

noncomputable section

namespace Cert.Proof

open Idealize.ShloMosaic Idealize.SL.Sem

/-- The shape facts the first precondition's program states. -/
theorem pre_facts : Cert.Pre_some_expert.Facts := by constructor <;> decide

/-- The shape facts the second precondition's program states. -/
theorem top_facts : Cert.Pre_top_k_of_experts.Facts := by constructor <;> decide

/-- The idealized kernel runs, keeps its arguments and ends with every semaphore at zero, from the second precondition as
    from the first. -/
theorem ideal_frame : @Cert.quiescent_KernelIdeal_pre_top_k_of_experts Cert.KernelIdeal.Gen.facts top_facts :=
  fun m g h => @IdealRun.run_frame Ideal _ m g (IdealRun.preOK_of m (@IdealRun.topK_of m top_facts h).1)

/-- On memories that agree on the arguments, the two programs' layers have the same data. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Ref.data m' c = IdealRun.data m c := by
  obtain ⟨h0, h1, h2, h3, h4, h5, h6⟩ := h
  unfold Ref.data IdealRun.data
  congr 1
  · funext i
    exact congrFun h0 _
  · funext i
    exact congrFun h1 _
  · funext i
    exact congrFun h2 _

/-- Over the extended reals the kernel's result is the reference's, from memories that agree on the arguments, when some id
    is the number of an expert and no token names one expert twice. -/
theorem algebraic : @Cert.algebraic_KernelIdeal_ReferenceIdeal_pre_top_k_of_experts Cert.KernelIdeal.Gen.facts
    Cert.ReferenceIdeal.Gen.facts top_facts := by
  intro m g m' g' hpre hagree
  have hk := @IdealRun.topK_of m top_facts hpre
  refine ⟨fun c => IdealRun.result m c, IdealRun.run_value m g hk.1 hk.2, ?_⟩
  refine (θ_run _ _ _).mono (fun r hr c => ⟨(hr c).1.trans ?_, (hr c).2⟩) (Ref.run_value m' g')
  show Ref.result m' c = IdealRun.result m c
  unfold Ref.result IdealRun.result
  rw [data_eq m m' c (hagree c)]

/-- Every claim of the certificate. -/
theorem claim : Cert.Claim :=
  ⟨Cert.Kernel.Gen.facts, Cert.KernelIdeal.Gen.facts, Cert.ReferenceIdeal.Gen.facts, pre_facts, top_facts,
    fun m g h => @Cert.Proof.Run.run_frame Bits _ m g (Cert.Proof.Run.preOK_of m (@Cert.Proof.Run.someExpert_of Bits _ m pre_facts h)),
    fun m g h => @Cert.Proof.IdealRun.run_frame Ideal _ m g (Cert.Proof.IdealRun.preOK_of m (@Cert.Proof.IdealRun.someExpert_of Ideal _ m pre_facts h)),
    ideal_frame, fun m g _ => Cert.ReferenceIdeal.Gen.frame m g, fun m g _ => Cert.ReferenceIdeal.Gen.frame m g, trivial, algebraic⟩

end Cert.Proof

end
